-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "threshold" .f32 0xC2C80000#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v13_0)) (v2 : (c : Dev Cert.Kernel2Ideal.nD) → Buf (Elt Ideal) ((c.tc : Thread Cert.Kernel2Ideal.nD Cert.Kernel2Ideal.τ).loc Cert.Kernel2Ideal.main_v13_1)) (v3 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v13_0) = v1 c
          ∧ r.2.mem ((c.tc : Thread Cert.Kernel2Ideal.nD Cert.Kernel2Ideal.τ).loc Cert.Kernel2Ideal.main_v13_1) = v2 c
          ∧ r.2.mem ((c.tc : Thread Cert.Kernel2Ideal.nD Cert.Kernel2Ideal.τ).loc Cert.Kernel2Ideal.main_v13_2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v148) = v0 c
          ∧ r.2.mem ((c.tc : Thread Cert.Reference4Ideal.nD Cert.Reference4Ideal.τ).loc Cert.Reference4Ideal.main_v125) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v158) = v3 c
          ∧ r.2.mem ((c.tc : Thread Cert.Reference4Ideal.nD Cert.Reference4Ideal.τ).loc Cert.Reference4Ideal.main_v159) = v4 c
          ∧ r.2.mem ((c.tc : Thread Cert.Reference4Ideal.nD Cert.Reference4Ideal.τ).loc Cert.Reference4Ideal.main_v160) = v5 c
          ∧ r.2.mem ((c.tc : Thread Cert.Reference4Ideal.nD Cert.Reference4Ideal.τ).loc Cert.Reference4Ideal.main_v161) = v6 c
          ∧ r.2.mem ((c.tc : Thread Cert.Reference4Ideal.nD Cert.Reference4Ideal.τ).loc Cert.Reference4Ideal.main_v162) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v140) = v0 c
          ∧ r.2.mem ((c.tc : Thread Cert.Reference5Ideal.nD Cert.Reference5Ideal.τ).loc Cert.Reference5Ideal.main_v141) = v1 c
          ∧ r.2.mem ((c.tc : Thread Cert.Reference5Ideal.nD Cert.Reference5Ideal.τ).loc Cert.Reference5Ideal.main_v142) = v2 c
          ∧ r.2.mem ((c.tc : Thread Cert.Reference5Ideal.nD Cert.Reference5Ideal.τ).loc Cert.Reference5Ideal.main_v143) = v3 c
          ∧ r.2.mem ((c.tc : Thread Cert.Reference5Ideal.nD Cert.Reference5Ideal.τ).loc Cert.Reference5Ideal.main_v144) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v153) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v154) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_v48) = v2 c
          ∧ r.2.mem ((c.tc : Thread Cert.Reference10Ideal.nD Cert.Reference10Ideal.τ).loc Cert.Reference10Ideal.main_v49) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v65) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v71) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite10 : Cert.Pre_finite10.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Pre_finite10.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_

variable [Facts]

def fn_part1 {F : FTy → Type} [FloatOps F] (main_arg3 : FVec F S64x64x16 .f32) (main_arg4 : FVec F S64x64x16 .f32) (main_v5 : IVec S_ 1) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64x64x16 .f32 := Host.absf main_arg3
  let main_cst_7 : FVec F S_ .f32 := constant S_ .f32 0x7F800000#32
  let main_v21 : FVec F S64x64x16 .f32 := broadcastInDim S64x64x16 ![] bcast_S_S64x64x16 main_cst_7
  let main_v22 : IVec S64x64x16 1 := cmpf .olt main_v20 main_v21
  let main_c_8 : IVec S_ 1 := constantI S_ 1 1#1
  let main_v23 : IVec S_ 1 := (fun x v => Host.reduce IntOp.andi x v reducesTo_S64x64x16_S_d0_1_2 h_S_) main_v22 main_c_8
  let main_v24 : IVec S_ 1 := andi main_v19 main_v23
  let main_v25 : FVec F S64x64x16 .f32 := Host.absf main_arg4
  let main_cst_9 : FVec F S_ .f32 := constant S_ .f32 0x7F800000#32
  let main_v26 : FVec F S64x64x16 .f32 := broadcastInDim S64x64x16 ![] bcast_S_S64x64x16 main_cst_9
  let main_v27 : IVec S64x64x16 1 := cmpf .olt main_v25 main_v26
  let main_c_10 : IVec S_ 1 := constantI S_ 1 1#1
  let main_v28 : IVec S_ 1 := (fun x v => Host.reduce IntOp.andi x v reducesTo_S64x64x16_S_d0_1_2 h_S_) main_v27 main_c_10
  let main_v29 : IVec S_ 1 := andi main_v24 main_v28
  let main_v30 : IVec S_ 1 := andi main_v29 main_v5
  main_v30

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) : IVec S_ 1 :=
  let main_cst : FVec F S_ .f32 := constant S_ .f32 0x00000000#32
  let main_v0 : FVec F S64x64 .f32 := broadcastInDim S64x64 ![] bcast_S_S64x64 main_cst
  let main_v1 : IVec S64x64 1 := cmpf .une main_arg0 main_v0
  let main_cst_0 : FVec F S_ .f32 := constant S_ .f32 0x00000000#32
  let main_v2 : FVec F S64x64 .f32 := broadcastInDim S64x64 ![] bcast_S_S64x64 main_cst_0
  let main_v3 : IVec S64x64 1 := cmpf .une main_arg1 main_v2
  let main_v4 : IVec S64x64 1 := ori main_v1 main_v3
  let main_c : IVec S_ 1 := constantI S_ 1 1#1
  let main_v5 : IVec S_ 1 := (fun x v => Host.reduce IntOp.andi x v reducesTo_S64x64_S_d0_1 h_S_) main_v4 main_c
  let main_v6 : FVec F S64x64 .f32 := Host.absf main_arg0
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_c_2 : IVec S_ 1 := constantI S_ 1 1#1
  let main_v9 : IVec S_ 1 := (fun x v => Host.reduce IntOp.andi x v reducesTo_S64x64_S_d0_1 h_S_) main_v8 main_c_2
  let main_v10 : FVec F S64x64 .f32 := Host.absf main_arg1
  let main_cst_3 : FVec F S_ .f32 := constant S_ .f32 0x7F800000#32
  let main_v11 : FVec F S64x64 .f32 := broadcastInDim S64x64 ![] bcast_S_S64x64 main_cst_3
  let main_v12 : IVec S64x64 1 := cmpf .olt main_v10 main_v11
  let main_c_4 : IVec S_ 1 := constantI S_ 1 1#1
  let main_v13 : IVec S_ 1 := (fun x v => Host.reduce IntOp.andi x v reducesTo_S64x64_S_d0_1 h_S_) main_v12 main_c_4
  let main_v14 : IVec S_ 1 := andi main_v9 main_v13
  let main_v15 : FVec F S64 .f32 := Host.absf main_arg2
  let main_cst_5 : FVec F S_ .f32 := constant S_ .f32 0x7F800000#32
  fn_part1 (F := F) main_arg3 main_arg4 main_v5 main_v14 main_v15 main_cst_5
-- ==== Pre_finite11.lean ====
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048 .f32) (main_arg5 : FVec F S4096 .f32) (main_v13 : IVec S_ 1) (main_v15 : FVec F S4096x12288 .f32) (main_v16 : FVec F S4096x12288 .f32) : IVec S_ 1 :=
  let main_v17 : IVec S4096x12288 1 := cmpf .olt main_v15 main_v16
  let main_c_5 : IVec S_ 1 := constantI S_ 1 1#1
  let main_v18 : IVec S_ 1 := (fun x v => Host.reduce IntOp.andi x v reducesTo_S4096x12288_S_d0_1 h_S_) main_v17 main_c_5
  let main_v19 : IVec S_ 1 := andi main_v13 main_v18
  let main_v20 : FVec F S2048 .f32 := Host.absf main_arg4
  let main_cst_6 : FVec F S_ .f32 := constant S_ .f32 0x7F800000#32
  let main_v21 : FVec F S2048 .f32 := broadcastInDim S2048 ![] bcast_S_S2048 main_cst_6
  let main_v22 : IVec S2048 1 := cmpf .olt main_v20 main_v21
  let main_c_7 : IVec S_ 1 := constantI S_ 1 1#1
  let main_v23 : IVec S_ 1 := (fun x v => Host.reduce IntOp.andi x v reducesTo_S2048_S_d0 h_S_) main_v22 main_c_7
  let main_v24 : IVec S_ 1 := andi main_v19 main_v23
  let main_v25 : FVec F S4096 .f32 := Host.absf main_arg5
  let main_cst_8 : FVec F S_ .f32 := constant S_ .f32 0x7F800000#32
  let main_v26 : FVec F S4096 .f32 := broadcastInDim S4096 ![] bcast_S_S4096 main_cst_8
  let main_v27 : IVec S4096 1 := cmpf .olt main_v25 main_v26
  let main_c_9 : IVec S_ 1 := constantI S_ 1 1#1
  let main_v28 : IVec S_ 1 := (fun x v => Host.reduce IntOp.andi x v reducesTo_S4096_S_d0 h_S_) main_v27 main_c_9
  let main_v29 : IVec S_ 1 := andi main_v24 main_v28
  main_v29

def fn {F : FTy → Type} [FloatOps F] (main_arg0 : FVec F S4096x1024 .f32) (main_arg1 : FVec F S4096x2048 .f32) (main_arg2 : FVec F S4096x2048 .f32) (main_arg3 : FVec F S4096x12288 .bf16) (main_arg4 : FVec F S2048 .f32) (main_arg5 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x12288 .f32 := (extf .f32 · bitsLt_bf16_f32) main_arg3
  let main_v15 : FVec F S4096x12288 .f32 := Host.absf main_v14
  let main_cst_4 : FVec F S_ .f32 := constant S_ .f32 0x7F800000#32
  let main_v16 : FVec F S4096x12288 .f32 := broadcastInDim S4096x12288 ![] bcast_S_S4096x12288 main_cst_4
  fn_part1 (F := F) main_arg4 main_arg5 main_v13 main_v15 main_v16
-- ==== Pre_finite12.lean ====
abbrev S4096x12288 : Shape := ⟨2, ![4096, 12288]⟩
abbrev S4x256x256 : Shape := ⟨3, ![4, 256, 256]⟩
abbrev S1024 : Shape := ⟨1, ![1024]⟩
abbrev S_ : Shape := ⟨0, ![]⟩

class Facts : Prop where
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x12288 .bf16) (main_arg1 : FVec F S4x256x256 .bf16) (main_arg2 : FVec F S1024 .f32) : IVec S_ 1 :=
  let main_v0 : FVec F S4096x12288 .f32 := (extf .f32 · bitsLt_bf16_f32) main_arg0
  let main_v1 : FVec F S4096x12288 .f32 := Host.absf main_v0
  let main_cst : FVec F S_ .f32 := constant S_ .f32 0x7F800000#32
  let main_v2 : FVec F S4096x12288 .f32 := broadcastInDim S4096x12288 ![] bcast_S_S4096x12288 main_cst
  let main_v3 : IVec S4096x12288 1 := cmpf .olt main_v1 main_v2
  let main_c : IVec S_ 1 := constantI S_ 1 1#1
  let main_v4 : IVec S_ 1 := (fun x v => Host.reduce IntOp.andi x v reducesTo_S4096x12288_S_d0_1 h_S_) main_v3 main_c
  let main_v5 : FVec F S4x256x256 .f32 := (extf .f32 · bitsLt_bf16_f32) main_arg1
  let main_v6 : FVec F S4x256x256 .f32 := Host.absf main_v5
  let main_cst_0 : FVec F S_ .f32 := constant S_ .f32 0x7F800000#32
  let main_v7 : FVec F S4x256x256 .f32 := broadcastInDim S4x256x256 ![] bcast_S_S4x256x256 main_cst_0
  let main_v8 : IVec S4x256x256 1 := cmpf .olt main_v6 main_v7
  let main_c_1 : IVec S_ 1 := constantI S_ 1 1#1
  let main_v9 : IVec S_ 1 := (fun x v => Host.reduce IntOp.andi x v reducesTo_S4x256x256_S_d0_1_2 h_S_) main_v8 main_c_1
  let main_v10 : IVec S_ 1 := andi main_v4 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  main_v15
-- ==== Pre_finite2.lean ====
abbrev S4096x12288 : Shape := ⟨2, ![4096, 12288]⟩
abbrev S4096x2048 : Shape := ⟨2, ![4096, 2048]⟩
abbrev S_ : Shape := ⟨0, ![]⟩

class Facts : Prop where
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x12288 .bf16) (main_arg1 : FVec F S4096x2048 .f32) : IVec S_ 1 :=
  let main_v0 : FVec F S4096x12288 .f32 := (extf .f32 · bitsLt_bf16_f32) main_arg0
  let main_v1 : FVec F S4096x12288 .f32 := Host.absf main_v0
  let main_cst : FVec F S_ .f32 := constant S_ .f32 0x7F800000#32
  let main_v2 : FVec F S4096x12288 .f32 := broadcastInDim S4096x12288 ![] bcast_S_S4096x12288 main_cst
  let main_v3 : IVec S4096x12288 1 := cmpf .olt main_v1 main_v2
  let main_c : IVec S_ 1 := constantI S_ 1 1#1
  let main_v4 : IVec S_ 1 := (fun x v => Host.reduce IntOp.andi x v reducesTo_S4096x12288_S_d0_1 h_S_) main_v3 main_c
  let main_v5 : FVec F S4096x2048 .f32 := Host.absf main_arg1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v4 main_v8
  main_v9
-- ==== Pre_finite3.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Pre_finite4.lean ====
abbrev S4096x4096 : Shape := ⟨2, ![4096, 4096]⟩
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S4096x12288 .bf16) (main_arg5 : FVec F S2048 .f32) (main_arg6 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x12288 .f32 := (extf .f32 · bitsLt_bf16_f32) main_arg4
  let main_v20 : FVec F S4096x12288 .f32 := Host.absf main_v19
  let main_cst_6 : FVec F S_ .f32 := constant S_ .f32 0x7F800000#32
  let main_v21 : FVec F S4096x12288 .f32 := broadcastInDim S4096x12288 ![] bcast_S_S4096x12288 main_cst_6
  let main_v22 : IVec S4096x12288 1 := cmpf .olt main_v20 main_v21
  let main_c_7 : IVec S_ 1 := constantI S_ 1 1#1
  let main_v23 : IVec S_ 1 := (fun x v => Host.reduce IntOp.andi x v reducesTo_S4096x12288_S_d0_1 h_S_) main_v22 main_c_7
  let main_v24 : IVec S_ 1 := andi main_v18 main_v23
  let main_v25 : FVec F S2048 .f32 := Host.absf main_arg5
  let main_cst_8 : FVec F S_ .f32 := constant S_ .f32 0x7F800000#32
  let main_v26 : FVec F S2048 .f32 := broadcastInDim S2048 ![] bcast_S_S2048 main_cst_8
  let main_v27 : IVec S2048 1 := cmpf .olt main_v25 main_v26
  let main_c_9 : IVec S_ 1 := constantI S_ 1 1#1
  let main_v28 : IVec S_ 1 := (fun x v => Host.reduce IntOp.andi x v reducesTo_S2048_S_d0 h_S_) main_v27 main_c_9
  let main_v29 : IVec S_ 1 := andi main_v24 main_v28
  let main_v30 : FVec F S4096 .f32 := Host.absf main_arg6
  let main_cst_10 : FVec F S_ .f32 := constant S_ .f32 0x7F800000#32
  let main_v31 : FVec F S4096 .f32 := broadcastInDim S4096 ![] bcast_S_S4096 main_cst_10
  let main_v32 : IVec S4096 1 := cmpf .olt main_v30 main_v31
  let main_c_11 : IVec S_ 1 := constantI S_ 1 1#1
  let main_v33 : IVec S_ 1 := (fun x v => Host.reduce IntOp.andi x v reducesTo_S4096_S_d0 h_S_) main_v32 main_c_11
  fn_part2 (F := F) main_v29 main_v33

def fn {F : FTy → Type} [FloatOps F] (main_arg0 : FVec F S4096x4096 .f32) (main_arg1 : FVec F S4096x1024 .f32) (main_arg2 : FVec F S4096x2048 .f32) (main_arg3 : FVec F S4096x2048 .f32) (main_arg4 : FVec F S4096x12288 .bf16) (main_arg5 : FVec F S2048 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Pre_finite5.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_

variable [Facts]

def fn_part2 {F : FTy → Type} [FloatOps F] (main_arg6 : FVec F S64x64 .f32) (main_arg7 : FVec F S64x16x64 .f32) (main_arg8 : FVec F S64x16x64 .f32) (main_v5 : IVec S_ 1) (main_v29 : IVec S_ 1) (main_v32 : IVec S64x64 1) (main_c_12 : IVec S_ 1) : IVec S_ 1 :=
  let main_v33 : IVec S_ 1 := (fun x v => Host.reduce IntOp.andi x v reducesTo_S64x64_S_d0_1 h_S_) main_v32 main_c_12
  let main_v34 : IVec S_ 1 := andi main_v29 main_v33
  let main_v35 : FVec F S64x64 .f32 := Host.absf main_arg6
  let main_cst_13 : FVec F S_ .f32 := constant S_ .f32 0x7F800000#32
  let main_v36 : FVec F S64x64 .f32 := broadcastInDim S64x64 ![] bcast_S_S64x64 main_cst_13
  let main_v37 : IVec S64x64 1 := cmpf .olt main_v35 main_v36
  let main_c_14 : IVec S_ 1 := constantI S_ 1 1#1
  let main_v38 : IVec S_ 1 := (fun x v => Host.reduce IntOp.andi x v reducesTo_S64x64_S_d0_1 h_S_) main_v37 main_c_14
  let main_v39 : IVec S_ 1 := andi main_v34 main_v38
  let main_v40 : FVec F S64x16x64 .f32 := Host.absf main_arg7
  let main_cst_15 : FVec F S_ .f32 := constant S_ .f32 0x7F800000#32
  let main_v41 : FVec F S64x16x64 .f32 := broadcastInDim S64x16x64 ![] bcast_S_S64x16x64 main_cst_15
  let main_v42 : IVec S64x16x64 1 := cmpf .olt main_v40 main_v41
  let main_c_16 : IVec S_ 1 := constantI S_ 1 1#1
  let main_v43 : IVec S_ 1 := (fun x v => Host.reduce IntOp.andi x v reducesTo_S64x16x64_S_d0_1_2 h_S_) main_v42 main_c_16
  let main_v44 : IVec S_ 1 := andi main_v39 main_v43
  let main_v45 : FVec F S64x16x64 .f32 := Host.absf main_arg8
  let main_cst_17 : FVec F S_ .f32 := constant S_ .f32 0x7F800000#32
  let main_v46 : FVec F S64x16x64 .f32 := broadcastInDim S64x16x64 ![] bcast_S_S64x16x64 main_cst_17
  let main_v47 : IVec S64x16x64 1 := cmpf .olt main_v45 main_v46
  let main_c_18 : IVec S_ 1 := constantI S_ 1 1#1
  let main_v48 : IVec S_ 1 := (fun x v => Host.reduce IntOp.andi x v reducesTo_S64x16x64_S_d0_1_2 h_S_) main_v47 main_c_18
  let main_v49 : IVec S_ 1 := andi main_v44 main_v48
  let main_v50 : IVec S_ 1 := andi main_v49 main_v5
  main_v50

def fn_part1 {F : FTy → Type} [FloatOps F] (main_arg3 : FVec F S64x64x16 .f32) (main_arg4 : FVec F S64x64x16 .f32) (main_arg5 : FVec F S64x64 .f32) (main_arg6 : FVec F S64x64 .f32) (main_arg7 : FVec F S64x16x64 .f32) (main_arg8 : FVec F S64x16x64 .f32) (main_v5 : IVec S_ 1) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64x64x16 .f32 := Host.absf main_arg3
  let main_cst_7 : FVec F S_ .f32 := constant S_ .f32 0x7F800000#32
  let main_v21 : FVec F S64x64x16 .f32 := broadcastInDim S64x64x16 ![] bcast_S_S64x64x16 main_cst_7
  let main_v22 : IVec S64x64x16 1 := cmpf .olt main_v20 main_v21
  let main_c_8 : IVec S_ 1 := constantI S_ 1 1#1
  let main_v23 : IVec S_ 1 := (fun x v => Host.reduce IntOp.andi x v reducesTo_S64x64x16_S_d0_1_2 h_S_) main_v22 main_c_8
  let main_v24 : IVec S_ 1 := andi main_v19 main_v23
  let main_v25 : FVec F S64x64x16 .f32 := Host.absf main_arg4
  let main_cst_9 : FVec F S_ .f32 := constant S_ .f32 0x7F800000#32
  let main_v26 : FVec F S64x64x16 .f32 := broadcastInDim S64x64x16 ![] bcast_S_S64x64x16 main_cst_9
  let main_v27 : IVec S64x64x16 1 := cmpf .olt main_v25 main_v26
  let main_c_10 : IVec S_ 1 := constantI S_ 1 1#1
  let main_v28 : IVec S_ 1 := (fun x v => Host.reduce IntOp.andi x v reducesTo_S64x64x16_S_d0_1_2 h_S_) main_v27 main_c_10
  let main_v29 : IVec S_ 1 := andi main_v24 main_v28
  let main_v30 : FVec F S64x64 .f32 := Host.absf main_arg5
  let main_cst_11 : FVec F S_ .f32 := constant S_ .f32 0x7F800000#32
  let main_v31 : FVec F S64x64 .f32 := broadcastInDim S64x64 ![] bcast_S_S64x64 main_cst_11
  let main_v32 : IVec S64x64 1 := cmpf .olt main_v30 main_v31
  let main_c_12 : IVec S_ 1 := constantI S_ 1 1#1
  fn_part2 (F := F) main_arg6 main_arg7 main_arg8 main_v5 main_v29 main_v32 main_c_12

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64 .f32) (main_arg6 : FVec F S64x64 .f32) (main_arg7 : FVec F S64x16x64 .f32) (main_arg8 : FVec F S64x16x64 .f32) : IVec S_ 1 :=
  let main_cst : FVec F S_ .f32 := constant S_ .f32 0x00000000#32
  let main_v0 : FVec F S64x64 .f32 := broadcastInDim S64x64 ![] bcast_S_S64x64 main_cst
  let main_v1 : IVec S64x64 1 := cmpf .une main_arg0 main_v0
  let main_cst_0 : FVec F S_ .f32 := constant S_ .f32 0x00000000#32
  let main_v2 : FVec F S64x64 .f32 := broadcastInDim S64x64 ![] bcast_S_S64x64 main_cst_0
  let main_v3 : IVec S64x64 1 := cmpf .une main_arg1 main_v2
  let main_v4 : IVec S64x64 1 := ori main_v1 main_v3
  let main_c : IVec S_ 1 := constantI S_ 1 1#1
  let main_v5 : IVec S_ 1 := (fun x v => Host.reduce IntOp.andi x v reducesTo_S64x64_S_d0_1 h_S_) main_v4 main_c
  let main_v6 : FVec F S64x64 .f32 := Host.absf main_arg0
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_c_2 : IVec S_ 1 := constantI S_ 1 1#1
  let main_v9 : IVec S_ 1 := (fun x v => Host.reduce IntOp.andi x v reducesTo_S64x64_S_d0_1 h_S_) main_v8 main_c_2
  let main_v10 : FVec F S64x64 .f32 := Host.absf main_arg1
  let main_cst_3 : FVec F S_ .f32 := constant S_ .f32 0x7F800000#32
  let main_v11 : FVec F S64x64 .f32 := broadcastInDim S64x64 ![] bcast_S_S64x64 main_cst_3
  let main_v12 : IVec S64x64 1 := cmpf .olt main_v10 main_v11
  let main_c_4 : IVec S_ 1 := constantI S_ 1 1#1
  let main_v13 : IVec S_ 1 := (fun x v => Host.reduce IntOp.andi x v reducesTo_S64x64_S_d0_1 h_S_) main_v12 main_c_4
  let main_v14 : IVec S_ 1 := andi main_v9 main_v13
  let main_v15 : FVec F S64 .f32 := Host.absf main_arg2
  let main_cst_5 : FVec F S_ .f32 := constant S_ .f32 0x7F800000#32
  fn_part1 (F := F) main_arg3 main_arg4 main_arg5 main_arg6 main_arg7 main_arg8 main_v5 main_v14 main_v15 main_cst_5
-- ==== Pre_finite6.lean ====
abbrev S4096x1024 : Shape := ⟨2, ![4096, 1024]⟩
abbrev S4096x12288 : Shape := ⟨2, ![4096, 12288]⟩
abbrev S4x256x256 : Shape := ⟨3, ![4, 256, 256]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x1024 .f32) (main_arg1 : FVec F S4096x12288 .bf16) (main_arg2 : FVec F S4x256x256 .bf16) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x12288 .f32 := (extf .f32 · bitsLt_bf16_f32) main_arg1
  let main_v5 : FVec F S4096x12288 .f32 := Host.absf main_v4
  let main_cst_0 : FVec F S_ .f32 := constant S_ .f32 0x7F800000#32
  let main_v6 : FVec F S4096x12288 .f32 := broadcastInDim S4096x12288 ![] bcast_S_S4096x12288 main_cst_0
  let main_v7 : IVec S4096x12288 1 := cmpf .olt main_v5 main_v6
  let main_c_1 : IVec S_ 1 := constantI S_ 1 1#1
  let main_v8 : IVec S_ 1 := (fun x v => Host.reduce IntOp.andi x v reducesTo_S4096x12288_S_d0_1 h_S_) main_v7 main_c_1
  let main_v9 : IVec S_ 1 := andi main_v3 main_v8
  let main_v10 : FVec F S4x256x256 .f32 := (extf .f32 · bitsLt_bf16_f32) main_arg2
  let main_v11 : FVec F S4x256x256 .f32 := Host.absf main_v10
  let main_cst_2 : FVec F S_ .f32 := constant S_ .f32 0x7F800000#32
  let main_v12 : FVec F S4x256x256 .f32 := broadcastInDim S4x256x256 ![] bcast_S_S4x256x256 main_cst_2
  let main_v13 : IVec S4x256x256 1 := cmpf .olt main_v11 main_v12
  let main_c_3 : IVec S_ 1 := constantI S_ 1 1#1
  let main_v14 : IVec S_ 1 := (fun x v => Host.reduce IntOp.andi x v reducesTo_S4x256x256_S_d0_1_2 h_S_) main_v13 main_c_3
  let main_v15 : IVec S_ 1 := andi main_v9 main_v14
  let main_v16 : FVec F S1024 .f32 := Host.absf main_arg3
  let main_cst_4 : FVec F S_ .f32 := constant S_ .f32 0x7F800000#32
  fn_part1 (F := F) main_v15 main_v16 main_cst_4
-- ==== Kernel.lean ====
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .bf16⟩
  | .hbm, ⟨51, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S4096x12288 : Shape := ⟨2, ![4096, 12288]⟩
abbrev S4096x2048 : Shape := ⟨2, ![4096, 2048]⟩
abbrev S256x256 : Shape := ⟨2, ![256, 256]⟩
abbrev S256x128 : Shape := ⟨2, ![256, 128]⟩
abbrev S4096x128 : Shape := ⟨2, ![4096, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 38
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .f32⟩
  | .hbm, ⟨2, _⟩ => ⟨S256x256, .i32⟩
  | .hbm, ⟨3, _⟩ => ⟨S256x256, .i32⟩
  | .hbm, ⟨4, _⟩ => ⟨S256x256, .i1⟩
  | .hbm, ⟨5, _⟩ => ⟨S256x256, .bf16⟩
  | .hbm, ⟨6, _⟩ => ⟨S4096x2048, .f32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S4096x128, .bf16⟩
  | .local _ .vmem, ⟨10, _⟩ => ⟨S4096x128, .bf16⟩
  | .local _ .vmem, ⟨11, _⟩ => ⟨S256x128, .f32⟩
  | .local _ .vmem, ⟨12, _⟩ => ⟨S256x1, .f32⟩
  | .local _ .vmem, ⟨13, _⟩ => ⟨S256x128, .bf16⟩
  | .local _ .vmem, ⟨14, _⟩ => ⟨S256x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x256, .bf16⟩
  | .local _ .vmem, ⟨24, _⟩ => ⟨S256x256, .bf16⟩
  | .local _ .vmem, ⟨25, _⟩ => ⟨S256x128, .bf16⟩
  | .local _ .vmem, ⟨26, _⟩ => ⟨S256x128, .bf16⟩
  | .local _ .vmem, ⟨27, _⟩ => ⟨S4096x128, .bf16⟩
  | .local _ .vmem, ⟨28, _⟩ => ⟨S4096x128, .bf16⟩
  | .local _ .vmem, ⟨29, _⟩ => ⟨S4096x128, .bf16⟩
  | .local _ .vmem, ⟨30, _⟩ => ⟨S4096x128, .bf16⟩
  | .local _ .vmem, ⟨31, _⟩ => ⟨S4096x128, .bf16⟩
  | .local _ .vmem, ⟨32, _⟩ => ⟨S4096x128, .bf16⟩
  | .local _ .vmem, ⟨33, _⟩ => ⟨S4096x128, .f32⟩
  | .local _ .vmem, ⟨34, _⟩ => ⟨S4096x128, .f32⟩
  | .local _ .vmem, ⟨35, _⟩ => ⟨S256x128, .f32⟩
  | .local _ .vmem, ⟨36, _⟩ => ⟨S256x1, .f32⟩
  | .local _ .vmem, ⟨37, _⟩ => ⟨S256x1, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13_0 : Ref sig .tc := ⟨.hbm, 15, rfl⟩
abbrev main_v13_1 : Ref sig .tc := ⟨.hbm, 16, rfl⟩
abbrev main_v13_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc1_scratch4 : Ref sig .tc := ⟨.vmem, 35, rfl⟩
abbrev cc1_scratch5 : Ref sig .tc := ⟨.vmem, 36, rfl⟩
abbrev cc1_scratch6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v16 : BitVec 32 := Scalar.muli arg1 c256_i32
  v16
def k0_off1 (i : grid0.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_8 : Index := 0#32
  ![v18.toNat, 0]
def k0_mult2 (arg11 : BitVec 32) : BitVec 32 :=
  let c256_i32_41 : BitVec 32 := 256#32
  let v83 : BitVec 32 := Scalar.muli arg11 c256_i32_41
  v83

def k0_off2 (arg11 : BitVec 32) : Fin 2 → Nat :=
  let c256_i32_41 : BitVec 32 := 256#32
  let v83 : BitVec 32 := Scalar.muli arg11 c256_i32_41
  let v84 : BitVec 32 := v83
  let v85 : Index := Scalar.indexCast v84
  let c0_42 : Index := 0#32
  ![v85.toNat, 0]

def k0_chk1 (arg11 : BitVec 32) : Prop :=
  (256 ∣ (k0_mult2 arg11).toNat) ∧
  (∀ a, (k0_off2 arg11) a + S256x128.size a ≤ S4096x128.size a)
theorem k0_mult2_dvd : ∀ (arg11 : BitVec 32) (k0_hw1 : k0_chk1 arg11), 256 ∣ (k0_mult2 arg11).toNat := fun arg11 k0_hw1 => k0_hw1.1
theorem k0_off2_inb : ∀ (arg11 : BitVec 32) (k0_hw1 : k0_chk1 arg11), ∀ a, (k0_off2 arg11) a + S256x128.size a ≤ S4096x128.size a := fun arg11 k0_hw1 => k0_hw1.2

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 16], ![false, false]⟩

def k1_mult1 (i : grid1.Coords) : BitVec 32 :=
  let arg1 : BitVec 32 := BitVec.ofNat 32 (i 1).val
  let c256_i32 : BitVec 32 := 256#32
  let v28 : BitVec 32 := Scalar.muli arg1 c256_i32
  v28
def k1_off1 (i : grid1.Coords) : Fin 2 → Nat :=
  let arg1 : BitVec 32 := BitVec.ofNat 32 (i 1).val
  let c256_i32 : BitVec 32 := 256#32
  let v28 : BitVec 32 := Scalar.muli arg1 c256_i32
  let v29 : BitVec 32 := v28
  let v30 : Index := Scalar.indexCast v29
  let c0_16 : Index := 0#32
  ![v30.toNat, 0]
def k1_mult2 (arg19 : BitVec 32) : BitVec 32 :=
  let c256_i32_74 : BitVec 32 := 256#32
  let v159 : BitVec 32 := Scalar.muli arg19 c256_i32_74
  v159

def k1_off2 (arg19 : BitVec 32) : Fin 2 → Nat :=
  let c256_i32_74 : BitVec 32 := 256#32
  let v159 : BitVec 32 := Scalar.muli arg19 c256_i32_74
  let v160 : BitVec 32 := v159
  let v161 : Index := Scalar.indexCast v160
  let c0_75 : Index := 0#32
  ![v161.toNat, 0]

def k1_chk1 (arg19 : BitVec 32) : Prop :=
  (256 ∣ (k1_mult2 arg19).toNat) ∧
  (∀ a, (k1_off2 arg19) a + S256x128.size a ≤ S4096x128.size a)
theorem k1_mult2_dvd : ∀ (arg19 : BitVec 32) (k1_hw1 : k1_chk1 arg19), 256 ∣ (k1_mult2 arg19).toNat := fun arg19 k1_hw1 => k1_hw1.1
theorem k1_off2_inb : ∀ (arg19 : BitVec 32) (k1_hw1 : k1_chk1 arg19), ∀ a, (k1_off2 arg19) a + S256x128.size a ≤ S4096x128.size a := fun arg19 k1_hw1 => k1_hw1.2

def k1_cond2 (i : grid1.Coords) : BitVec 1 :=
  let arg1 : BitVec 32 := BitVec.ofNat 32 (i 1).val
  let c15_i32 : BitVec 32 := 15#32
  let v155 : BitVec 1 := Scalar.cmpi .eq arg1 c15_i32
  let v156 : BitVec 32 := Scalar.extui v155
  let c0_i32_72 : BitVec 32 := 0#32
  let v157 : BitVec 1 := Scalar.cmpi .ne v156 c0_i32_72
  v157

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4096x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S4096x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== Kernel2Ideal.lean ====
variable {F : FTy → Type} [FloatOps F] [Named F]
def κ : String → Option EReal := fun
  | "threshold" => some ⊥
  | _ => none
-- ==== Reference2Ideal.lean ====
abbrev S4096x12288 : Shape := ⟨2, ![4096, 12288]⟩
abbrev S4096x2048 : Shape := ⟨2, ![4096, 2048]⟩
abbrev S4096x16x128 : Shape := ⟨3, ![4096, 16, 128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x4096 : Shape := ⟨3, ![16, 4096, 4096]⟩
abbrev S16x128x4096 : Shape := ⟨3, ![16, 128, 4096]⟩
abbrev S16x4096x128 : Shape := ⟨3, ![16, 4096, 128]⟩

abbrev nBuf : Space → Nat
  | .hbm => 177
  | .vmem => 0
  | .smem => 0
  | _ => 0

abbrev hbmTy0_0 (i : Nat) : BufTy := match i % 128 with
  | 0 => ⟨S4096x12288, .bf16⟩
  | 1 => ⟨S4096x2048, .f32⟩
  | 2 => ⟨S4096x12288, .f32⟩
  | 3 => ⟨S4096x2048, .f32⟩
  | 4 => ⟨S4096x16x128, .f32⟩
  | 5 => ⟨S4096x2048, .f32⟩
  | 6 => ⟨S4096x16x128, .f32⟩
  | 7 => ⟨S4096x2048, .f32⟩
  | 8 => ⟨S4096x16x128, .f32⟩
  | 9 => ⟨S_, .f32⟩
  | 10 => ⟨S4096x16x128, .f32⟩
  | 11 => ⟨S4096x16x128, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S16x4096x4096, .f32⟩
  | 19 => ⟨S16x4096x4096, .f32⟩
  | 20 => ⟨S16x4096x4096, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .i1⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .i1⟩
  | 38 => ⟨S_, .f32⟩
  | 39 => ⟨S16x4096x4096, .f32⟩
  | 40 => ⟨S16x4096x4096, .f32⟩
  | 41 => ⟨S_, .f32⟩
  | 42 => ⟨S16x4096x4096, .f32⟩
  | 43 => ⟨S16x4096x4096, .i1⟩
  | 44 => ⟨S_, .f32⟩
  | 45 => ⟨S16x4096x4096, .f32⟩
  | 46 => ⟨S16x4096x4096, .f32⟩
  | 47 => ⟨S16x4096x4096, .f32⟩
  | 48 => ⟨S16x4096x4096, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S16x4096x4096, .f32⟩
  | 57 => ⟨S16x4096x4096, .i1⟩
  | 58 => ⟨S_, .f32⟩
  | 59 => ⟨S16x4096x4096, .f32⟩
  | 60 => ⟨S16x4096x4096, .f32⟩
  | 61 => ⟨S16x4096x4096, .f32⟩
  | 62 => ⟨S16x4096x4096, .f32⟩
  | 63 => ⟨S16x4096x4096, .f32⟩
  | 64 => ⟨S_, .f32⟩
  | 65 => ⟨S16x4096x4096, .f32⟩
  | 66 => ⟨S16x4096x4096, .f32⟩
  | 67 => ⟨S16x4096x4096, .f32⟩
  | 68 => ⟨S_, .f32⟩
  | 69 => ⟨S_, .f32⟩
  | 70 => ⟨S16x4096x4096, .i1⟩
  | 71 => ⟨S16x4096x4096, .f32⟩
  | 72 => ⟨S16x4096x4096, .f32⟩
  | 73 => ⟨S_, .f32⟩
  | 74 => ⟨S16x4096x4096, .f32⟩
  | 75 => ⟨S_, .f32⟩
  | 76 => ⟨S_, .f32⟩
  | 77 => ⟨S16x4096x4096, .f32⟩
  | 78 => ⟨S16x4096x4096, .f32⟩
  | 79 => ⟨S16x4096x4096, .f32⟩
  | 80 => ⟨S_, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .i1⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .i1⟩
  | 97 => ⟨S_, .f32⟩
  | 98 => ⟨S16x4096x4096, .f32⟩
  | 99 => ⟨S16x4096x4096, .f32⟩
  | 100 => ⟨S_, .f32⟩
  | 101 => ⟨S16x4096x4096, .f32⟩
  | 102 => ⟨S16x4096x4096, .i1⟩
  | 103 => ⟨S_, .f32⟩
  | 104 => ⟨S16x4096x4096, .f32⟩
  | 105 => ⟨S16x4096x4096, .f32⟩
  | 106 => ⟨S16x4096x4096, .f32⟩
  | 107 => ⟨S16x4096x4096, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S16x4096x4096, .f32⟩
  | 116 => ⟨S16x4096x4096, .i1⟩
  | 117 => ⟨S_, .f32⟩
  | 118 => ⟨S16x4096x4096, .f32⟩
  | 119 => ⟨S16x4096x4096, .f32⟩
  | 120 => ⟨S16x4096x4096, .f32⟩
  | 121 => ⟨S16x4096x4096, .f32⟩
  | 122 => ⟨S16x4096x4096, .f32⟩
  | 123 => ⟨S_, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x12288, .bf16⟩

abbrev hbmTy0_1 (i : Nat) : BufTy := match i % 128 with
  | 0 => ⟨S16x4096x4096, .f32⟩
  | 1 => ⟨S_, .f32⟩
  | 2 => ⟨S_, .f32⟩
  | 3 => ⟨S16x4096x4096, .i1⟩
  | 4 => ⟨S16x4096x4096, .f32⟩
  | 5 => ⟨S16x4096x4096, .f32⟩
  | 6 => ⟨S_, .f32⟩
  | 7 => ⟨S16x4096x4096, .f32⟩
  | 8 => ⟨S16x128x4096, .f32⟩
  | 9 => ⟨S4096x16x128, .f32⟩
  | 10 => ⟨S4096x2048, .f32⟩
  | 11 => ⟨S4096x16x128, .f32⟩
  | 12 => ⟨S16x128x4096, .f32⟩
  | 13 => ⟨S16x4096x4096, .f32⟩
  | 14 => ⟨S16x128x4096, .f32⟩
  | 15 => ⟨S4096x16x128, .f32⟩
  | 16 => ⟨S_, .f32⟩
  | 17 => ⟨S16x4096x4096, .f32⟩
  | 18 => ⟨S16x4096x4096, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S_, .f32⟩
  | 25 => ⟨S_, .f32⟩
  | 26 => ⟨S16x4096x4096, .f32⟩
  | 27 => ⟨S16x4096x4096, .f32⟩
  | 28 => ⟨S_, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x128, .f32⟩
  | 37 => ⟨S4096x16x128, .f32⟩
  | 38 => ⟨S16x4096x128, .f32⟩
  | 39 => ⟨S4096x16x128, .f32⟩
  | 40 => ⟨S_, .f32⟩
  | 41 => ⟨S4096x16x128, .f32⟩
  | 42 => ⟨S4096x16x128, .f32⟩
  | 43 => ⟨S4096x2048, .f32⟩
  | 44 => ⟨S4096x2048, .bf16⟩
  | 45 => ⟨S4096x2048, .f32⟩
  | 46 => ⟨S4096x2048, .bf16⟩
  | 47 => ⟨S4096x2048, .f32⟩
  | 48 => ⟨S4096x2048, .bf16⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== Kernel3.lean ====
abbrev S4096x4096 : Shape := ⟨2, ![4096, 4096]⟩
abbrev S4096 : Shape := ⟨1, ![4096]⟩
abbrev S1x4096 : Shape := ⟨2, ![1, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S1x4096, .f32⟩
  | .hbm, ⟨4, _⟩ => ⟨S1x1, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S1x1, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S1x1, .f32⟩
  | .hbm, ⟨72, _⟩ => ⟨S4096x4096, .bf16⟩
  | .hbm, ⟨73, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S1x2048 : Shape := ⟨2, ![1, 2048]⟩
abbrev S1x4096 : Shape := ⟨2, ![1, 4096]⟩
abbrev S64x4096 : Shape := ⟨2, ![64, 4096]⟩
abbrev S64x1024 : Shape := ⟨2, ![64, 1024]⟩
abbrev S64x2048 : Shape := ⟨2, ![64, 2048]⟩
abbrev S1x1024 : Shape := ⟨2, ![1, 1024]⟩
abbrev S64 : Shape := ⟨1, ![64]⟩
abbrev S64x1 : Shape := ⟨2, ![64, 1]⟩
abbrev S1024 : Shape := ⟨1, ![1024]⟩

abbrev nBuf : Space → Nat
  | .hbm => 17
  | .vmem => 30
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x12288, .bf16⟩
  | .hbm, ⟨5, _⟩ => ⟨S2048, .f32⟩
  | .hbm, ⟨6, _⟩ => ⟨S4096, .f32⟩
  | .hbm, ⟨7, _⟩ => ⟨S1x2048, .f32⟩
  | .hbm, ⟨8, _⟩ => ⟨S1x4096, .f32⟩
  | .hbm, ⟨9, _⟩ => ⟨S4096x1024, .f32⟩
  | .hbm, ⟨10, _⟩ => ⟨S4096x2048, .f32⟩
  | .hbm, ⟨11, _⟩ => ⟨S4096x2048, .bf16⟩
  | .hbm, ⟨12, _⟩ => ⟨S4096x1024, .bf16⟩
  | .hbm, ⟨13, _⟩ => ⟨S4096x2048, .bf16⟩
  | .hbm, ⟨14, _⟩ => ⟨S4096x1024, .bf16⟩
  | .hbm, ⟨15, _⟩ => ⟨S1x4096, .f32⟩
  | .hbm, ⟨16, _⟩ => ⟨S1x2048, .f32⟩
  | .local _ .vmem, ⟨0, _⟩ => ⟨S64x4096, .f32⟩
  | .local _ .vmem, ⟨1, _⟩ => ⟨S64x4096, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x1024, .bf16⟩
  | .local _ .vmem, ⟨9, _⟩ => ⟨S64x1024, .bf16⟩
  | .local _ .vmem, ⟨10, _⟩ => ⟨S64x2048, .bf16⟩
  | .local _ .vmem, ⟨11, _⟩ => ⟨S64x2048, .bf16⟩
  | .local _ .vmem, ⟨12, _⟩ => ⟨S64x1024, .bf16⟩
  | .local _ .vmem, ⟨13, _⟩ => ⟨S64x1024, .bf16⟩
  | .local _ .vmem, ⟨14, _⟩ => ⟨S1x2048, .f32⟩
  | .local _ .vmem, ⟨15, _⟩ => ⟨S1x4096, .f32⟩
  | .local _ .vmem, ⟨16, _⟩ => ⟨S64x1024, .f32⟩
  | .local _ .vmem, ⟨17, _⟩ => ⟨S64x1024, .f32⟩
  | .local _ .vmem, ⟨18, _⟩ => ⟨S64x2048, .f32⟩
  | .local _ .vmem, ⟨19, _⟩ => ⟨S64x2048, .f32⟩
  | .local _ .vmem, ⟨20, _⟩ => ⟨S64x2048, .bf16⟩
  | .local _ .vmem, ⟨21, _⟩ => ⟨S64x2048, .bf16⟩
  | .local _ .vmem, ⟨22, _⟩ => ⟨S64x1024, .bf16⟩
  | .local _ .vmem, ⟨23, _⟩ => ⟨S64x1024, .bf16⟩
  | .local _ .vmem, ⟨24, _⟩ => ⟨S64x2048, .bf16⟩
  | .local _ .vmem, ⟨25, _⟩ => ⟨S64x2048, .bf16⟩
  | .local _ .vmem, ⟨26, _⟩ => ⟨S64x1024, .bf16⟩
  | .local _ .vmem, ⟨27, _⟩ => ⟨S64x1024, .bf16⟩
  | .local _ .vmem, ⟨28, _⟩ => ⟨S1x4096, .f32⟩
  | .local _ .vmem, ⟨29, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S4096x4096 : Shape := ⟨2, ![4096, 4096]⟩
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S1x2048 : Shape := ⟨2, ![1, 2048]⟩
abbrev S_ : Shape := ⟨0, ![]⟩
abbrev S1024 : Shape := ⟨1, ![1024]⟩
abbrev S4096x1 : Shape := ⟨2, ![4096, 1]⟩
abbrev S1x1024 : Shape := ⟨2, ![1, 1024]⟩
abbrev S1x4096 : Shape := ⟨2, ![1, 4096]⟩

abbrev nBuf : Space → Nat
  | .hbm => 247
  | .vmem => 0
  | .smem => 0
  | _ => 0

abbrev hbmTy0_0 (i : Nat) : BufTy := match i % 128 with
  | 0 => ⟨S4096x4096, .f32⟩
  | 1 => ⟨S4096x1024, .f32⟩
  | 2 => ⟨S4096x2048, .f32⟩
  | 3 => ⟨S4096x2048, .f32⟩
  | 4 => ⟨S4096x12288, .bf16⟩
  | 5 => ⟨S2048, .f32⟩
  | 6 => ⟨S4096, .f32⟩
  | 7 => ⟨S4096x12288, .f32⟩
  | 8 => ⟨S4096x1024, .f32⟩
  | 9 => ⟨S4096x2048, .f32⟩
  | 10 => ⟨S4096x1024, .f32⟩
  | 11 => ⟨S1x2048, .f32⟩
  | 12 => ⟨S4096x2048, .f32⟩
  | 13 => ⟨S4096x2048, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S1024, .f32⟩
  | 30 => ⟨S2048, .f32⟩
  | 31 => ⟨S1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x2048, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x2048, .f32⟩
  | 82 => ⟨S4096x2048, .f32⟩
  | 83 => ⟨S1x2048, .f32⟩
  | 84 => ⟨S4096x2048, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S_, .f32⟩
  | 92 => ⟨S4096x2048, .f32⟩
  | 93 => ⟨S4096x2048, .f32⟩
  | 94 => ⟨S_, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S4096x1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x4096, .f32⟩

abbrev hbmTy0_1 (i : Nat) : BufTy := match i % 128 with
  | 0 => ⟨S_, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x4096, .f32⟩
  | 7 => ⟨S4096x1024, .f32⟩
  | 8 => ⟨S4096x2048, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S_, .f32⟩
  | 23 => ⟨S1024, .f32⟩
  | 24 => ⟨S4096x1024, .f32⟩
  | 25 => ⟨S_, .f32⟩
  | 26 => ⟨S4096, .f32⟩
  | 27 => ⟨S4096x1, .f32⟩
  | 28 => ⟨S4096x1024, .f32⟩
  | 29 => ⟨S4096x1024, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S_, .f32⟩
  | 49 => ⟨S2048, .f32⟩
  | 50 => ⟨S1x2048, .f32⟩
  | 51 => ⟨S4096x2048, .f32⟩
  | 52 => ⟨S4096x2048, .f32⟩
  | 53 => ⟨S_, .f32⟩
  | 54 => ⟨S2048, .f32⟩
  | 55 => ⟨S4096x2048, .f32⟩
  | 56 => ⟨S_, .f32⟩
  | 57 => ⟨S4096, .f32⟩
  | 58 => ⟨S4096x1, .f32⟩
  | 59 => ⟨S4096x2048, .f32⟩
  | 60 => ⟨S4096x2048, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096, .f32⟩
  | 67 => ⟨S4096x2048, .f32⟩
  | 68 => ⟨S4096x2048, .f32⟩
  | 69 => ⟨S4096x2048, .f32⟩
  | 70 => ⟨S4096x2048, .f32⟩
  | 71 => ⟨S4096x2048, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S4096x1024, .f32⟩
  | 84 => ⟨S_, .f32⟩
  | 85 => ⟨S1024, .f32⟩
  | 86 => ⟨S4096x1024, .f32⟩
  | 87 => ⟨S_, .f32⟩
  | 88 => ⟨S4096, .f32⟩
  | 89 => ⟨S4096x1, .f32⟩
  | 90 => ⟨S4096x1024, .f32⟩
  | 91 => ⟨S4096x1024, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096, .f32⟩
  | 104 => ⟨S4096x1024, .f32⟩
  | 105 => ⟨S4096x1024, .f32⟩
  | 106 => ⟨S4096x1024, .f32⟩
  | 107 => ⟨S4096x2048, .f32⟩
  | 108 => ⟨S_, .f32⟩
  | 109 => ⟨S2048, .f32⟩
  | 110 => ⟨S1x2048, .f32⟩
  | 111 => ⟨S_, .f32⟩
  | 112 => ⟨S2048, .f32⟩
  | 113 => ⟨S4096x2048, .bf16⟩
  | 114 => ⟨S4096x1024, .bf16⟩
  | 115 => ⟨S4096x2048, .bf16⟩
  | 116 => ⟨S4096x1024, .bf16⟩
  | 117 => ⟨S1x4096, .f32⟩
  | 118 => ⟨S1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v38_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v38_1 : Ref sig .tc := ⟨.hbm, 63, rfl⟩
abbrev main_v38_0 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_v56_2 : Ref sig .tc := ⟨.hbm, 93, rfl⟩
abbrev main_call1_cst_1 : Ref sig .tc := ⟨.hbm, 94, rfl⟩
abbrev main_call1_v6 : Ref sig .tc := ⟨.hbm, 95, rfl⟩
abbrev main_call1_v7 : Ref sig .tc := ⟨.hbm, 96, rfl⟩
abbrev main_v56_1 : Ref sig .tc := ⟨.hbm, 97, rfl⟩
abbrev main_v56_0 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_cst_11 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_13 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_v74_2 : Ref sig .tc := ⟨.hbm, 127, rfl⟩
abbrev main_call2_cst_1 : Ref sig .tc := ⟨.hbm, 128, rfl⟩
abbrev main_call2_v6 : Ref sig .tc := ⟨.hbm, 129, rfl⟩
abbrev main_call2_v7 : Ref sig .tc := ⟨.hbm, 130, rfl⟩
abbrev main_v74_1 : Ref sig .tc := ⟨.hbm, 131, rfl⟩
abbrev main_v74_0 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v82 : Ref sig .tc := ⟨.hbm, 143, rfl⟩
abbrev main_v83 : Ref sig .tc := ⟨.hbm, 144, rfl⟩
abbrev main_cst_14 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_15 : Ref sig .tc := ⟨.hbm, 150, rfl⟩
abbrev main_v88 : Ref sig .tc := ⟨.hbm, 151, rfl⟩
abbrev main_v89 : Ref sig .tc := ⟨.hbm, 152, rfl⟩
abbrev main_cst_16 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_17 : Ref sig .tc := ⟨.hbm, 159, rfl⟩
abbrev main_v95 : Ref sig .tc := ⟨.hbm, 160, rfl⟩
abbrev main_v96 : Ref sig .tc := ⟨.hbm, 161, rfl⟩
abbrev main_cst_18 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_v105 : Ref sig .tc := ⟨.hbm, 174, rfl⟩
abbrev main_v106 : Ref sig .tc := ⟨.hbm, 175, rfl⟩
abbrev main_cst_19 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_cst_20 : Ref sig .tc := ⟨.hbm, 181, rfl⟩
abbrev main_v111 : Ref sig .tc := ⟨.hbm, 182, rfl⟩
abbrev main_v112 : Ref sig .tc := ⟨.hbm, 183, rfl⟩
abbrev main_cst_21 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_22 : Ref sig .tc := ⟨.hbm, 190, rfl⟩
abbrev main_v118 : Ref sig .tc := ⟨.hbm, 191, rfl⟩
abbrev main_v119 : Ref sig .tc := ⟨.hbm, 192, rfl⟩
abbrev main_cst_23 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_v128 : Ref sig .tc := ⟨.hbm, 205, rfl⟩
abbrev main_v129 : Ref sig .tc := ⟨.hbm, 206, rfl⟩
abbrev main_cst_24 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_25 : Ref sig .tc := ⟨.hbm, 212, rfl⟩
abbrev main_v134 : Ref sig .tc := ⟨.hbm, 213, rfl⟩
abbrev main_v135 : Ref sig .tc := ⟨.hbm, 214, rfl⟩
abbrev main_cst_26 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_27 : Ref sig .tc := ⟨.hbm, 221, rfl⟩
abbrev main_v141 : Ref sig .tc := ⟨.hbm, 222, rfl⟩
abbrev main_v142 : Ref sig .tc := ⟨.hbm, 223, rfl⟩
abbrev main_cst_28 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_cst_29 : Ref sig .tc := ⟨.hbm, 236, rfl⟩
abbrev main_v154 : Ref sig .tc := ⟨.hbm, 237, rfl⟩
abbrev main_v155 : Ref sig .tc := ⟨.hbm, 238, rfl⟩
abbrev main_cst_30 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩

abbrev nD : Nat := 1
abbrev τ : Topo := Topo.v7x

variable {F : FTy → Type} [FloatOps F]
-- ==== Kernel5.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S64x1 : Shape := ⟨2, ![64, 1]⟩

abbrev nBuf : Space → Nat
  | .hbm => 21
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x16x64, .f32⟩
  | .hbm, ⟨8, _⟩ => ⟨S64x16x64, .f32⟩
  | .hbm, ⟨9, _⟩ => ⟨S64x1x64, .f32⟩
  | .hbm, ⟨10, _⟩ => ⟨S64x1x64, .f32⟩
  | .hbm, ⟨11, _⟩ => ⟨S64x1x1, .f32⟩
  | .hbm, ⟨12, _⟩ => ⟨S64x16x64, .f32⟩
  | .hbm, ⟨13, _⟩ => ⟨S64x16x64, .f32⟩
  | .hbm, ⟨14, _⟩ => ⟨S64x1x64, .f32⟩
  | .hbm, ⟨15, _⟩ => ⟨S64x1x64, .f32⟩
  | .hbm, ⟨16, _⟩ => ⟨S64x1x64, .f32⟩
  | .hbm, ⟨17, _⟩ => ⟨S64x1x64, .f32⟩
  | .hbm, ⟨18, _⟩ => ⟨S64x1x1, .f32⟩
  | .hbm, ⟨19, _⟩ => ⟨S64x16x64, .f32⟩
  | .hbm, ⟨20, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x1x64, .f32⟩
  | .local _ .vmem, ⟨10, _⟩ => ⟨S64x1x64, .f32⟩
  | .local _ .vmem, ⟨11, _⟩ => ⟨S64x1x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S64x1x64 : Shape := ⟨3, ![64, 1, 64]⟩
abbrev S64x1x1 : Shape := ⟨3, ![64, 1, 1]⟩

abbrev nBuf : Space → Nat
  | .hbm => 168
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x16x64, .f32⟩
  | 8 => ⟨S64x16x64, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64x1, .f32⟩
  | 50 => ⟨S64x64x1, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S64x64x16, .f32⟩
  | 66 => ⟨S_, .f32⟩
  | 67 => ⟨S64x64, .f32⟩
  | 68 => ⟨S64x64x1, .f32⟩
  | 69 => ⟨S64x64x16, .f32⟩
  | 70 => ⟨S64x64x16, .f32⟩
  | 71 => ⟨S64x64x16, .f32⟩
  | 72 => ⟨S_, .f32⟩
  | 73 => ⟨S64x64, .f32⟩
  | 74 => ⟨S64x64x1, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S_, .f32⟩
  | 81 => ⟨S64x64, .f32⟩
  | 82 => ⟨S64x64x1, .f32⟩
  | 83 => ⟨S64x64x1, .f32⟩
  | 84 => ⟨S64x64x16, .f32⟩
  | 85 => ⟨S64x64x16, .f32⟩
  | 86 => ⟨S64x64x16, .f32⟩
  | 87 => ⟨S64x64x16, .f32⟩
  | 88 => ⟨S_, .f32⟩
  | 89 => ⟨S64x64, .f32⟩
  | 90 => ⟨S64x64x1, .f32⟩
  | 91 => ⟨S64x64x1, .f32⟩
  | 92 => ⟨S_, .f32⟩
  | 93 => ⟨S64x64, .f32⟩
  | 94 => ⟨S_, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S_, .f32⟩
  | 5 => ⟨S64, .f32⟩
  | 6 => ⟨S64x1, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S_, .f32⟩
  | 17 => ⟨S64, .f32⟩
  | 18 => ⟨S64x1, .f32⟩
  | 19 => ⟨S64x1, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64, .f32⟩
  | 27 => ⟨S64x1, .f32⟩
  | 28 => ⟨S64x1, .f32⟩
  | 29 => ⟨S64x64, .f32⟩
  | 30 => ⟨S64x64, .f32⟩
  | 31 => ⟨S64x64, .f32⟩
  | 32 => ⟨S_, .f32⟩
  | 33 => ⟨S64, .f32⟩
  | 34 => ⟨S64, .f32⟩
  | 35 => ⟨S64x1x64, .f32⟩
  | 36 => ⟨S64x1x64, .f32⟩
  | 37 => ⟨S64x1x1, .f32⟩
  | 38 => ⟨S64x16x64, .f32⟩
  | 39 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_9 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_10 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_11 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_12 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩

abbrev nD : Nat := 1
abbrev τ : Topo := Topo.v7x

variable {F : FTy → Type} [FloatOps F]
-- ==== Kernel6.lean ====
abbrev S4096x1024 : Shape := ⟨2, ![4096, 1024]⟩
abbrev S4096x12288 : Shape := ⟨2, ![4096, 12288]⟩
abbrev S4x256x256 : Shape := ⟨3, ![4, 256, 256]⟩
abbrev S1024 : Shape := ⟨1, ![1024]⟩
abbrev S1x1024 : Shape := ⟨2, ![1, 1024]⟩
abbrev S4096x256 : Shape := ⟨2, ![4096, 256]⟩
abbrev S1x256x256 : Shape := ⟨3, ![1, 256, 256]⟩
abbrev S1x256 : Shape := ⟨2, ![1, 256]⟩
abbrev S4112x256 : Shape := ⟨2, ![4112, 256]⟩
abbrev S16x256 : Shape := ⟨2, ![16, 256]⟩
abbrev S256x256 : Shape := ⟨2, ![256, 256]⟩
abbrev S272x256 : Shape := ⟨2, ![272, 256]⟩
abbrev S256x1 : Shape := ⟨2, ![256, 1]⟩
abbrev S256 : Shape := ⟨1, ![256]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S4x256x256, .bf16⟩
  | .hbm, ⟨3, _⟩ => ⟨S1024, .f32⟩
  | .hbm, ⟨4, _⟩ => ⟨S1x1024, .f32⟩
  | .hbm, ⟨5, _⟩ => ⟨S4096x1024, .bf16⟩
  | .hbm, ⟨6, _⟩ => ⟨S4x256x256, .f32⟩
  | .hbm, ⟨7, _⟩ => ⟨S1x1024, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S4096x256, .bf16⟩
  | .local _ .vmem, ⟨9, _⟩ => ⟨S4096x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | .local _ .vmem, ⟨14, _⟩ => ⟨S4112x256, .f32⟩
  | .local _ .vmem, ⟨15, _⟩ => ⟨S4112x256, .f32⟩
  | .local _ .vmem, ⟨16, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_20 : BitVec 32 := 0#32
  let c16_i32 : BitVec 32 := 16#32
  let v27 : BitVec 32 := Scalar.addi c0_i32_20 c16_i32
  let c1_i32_21 : BitVec 32 := 1#32
  ⟨c0_i32_20, v27, c1_i32_21⟩
def k0_mult1 (k0_t1 : Fin k0_t1_loop.trips) : BitVec 32 :=
  let c0_i32_20 : BitVec 32 := 0#32
  let c1_i32_21 : BitVec 32 := 1#32
  let arg11 : BitVec 32 := Scf.iv c0_i32_20 c1_i32_21 k0_t1
  let c256_i32 : BitVec 32 := 256#32
  let v29 : BitVec 32 := Scalar.muli arg11 c256_i32
  v29
def k0_off1 (k0_t1 : Fin k0_t1_loop.trips) : Fin 2 → Nat :=
  let c0_i32_20 : BitVec 32 := 0#32
  let c1_i32_21 : BitVec 32 := 1#32
  let arg11 : BitVec 32 := Scf.iv c0_i32_20 c1_i32_21 k0_t1
  let c256_i32 : BitVec 32 := 256#32
  let v29 : BitVec 32 := Scalar.muli arg11 c256_i32
  let v30 : BitVec 32 := v29
  let v31 : Index := Scalar.indexCast v30
  let c0_27 : Index := 0#32
  ![v31.toNat, 0]
def k0_off2 (k0_t1 : Fin k0_t1_loop.trips) : Fin 2 → Nat :=
  let c0_i32_20 : BitVec 32 := 0#32
  let c1_i32_21 : BitVec 32 := 1#32
  let arg11 : BitVec 32 := Scf.iv c0_i32_20 c1_i32_21 k0_t1
  let c256_i32 : BitVec 32 := 256#32
  let v29 : BitVec 32 := Scalar.muli arg11 c256_i32
  let v30 : BitVec 32 := v29
  let v66 : Index := Scalar.indexCast v30
  let c0_41 : Index := 0#32
  ![v66.toNat, 0]
def k0_off3 (k0_t1 : Fin k0_t1_loop.trips) : Fin 2 → Nat :=
  let c0_i32_20 : BitVec 32 := 0#32
  let c1_i32_21 : BitVec 32 := 1#32
  let arg11 : BitVec 32 := Scf.iv c0_i32_20 c1_i32_21 k0_t1
  let c256_i32 : BitVec 32 := 256#32
  let v29 : BitVec 32 := Scalar.muli arg11 c256_i32
  let v30 : BitVec 32 := v29
  let v98 : Index := Scalar.indexCast v30
  let c0_59 : Index := 0#32
  ![v98.toNat, 0]
@[reducible] def k0_t2_loop : Scf.Loop 32 :=
  let c0_i32_23 : BitVec 32 := 0#32
  let c16_i32_24 : BitVec 32 := 16#32
  let v28 : BitVec 32 := Scalar.addi c0_i32_23 c16_i32_24
  let c1_i32_25 : BitVec 32 := 1#32
  ⟨c0_i32_23, v28, c1_i32_25⟩
def k0_mult2 (k0_t2 : Fin k0_t2_loop.trips) : BitVec 32 :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  v29
def k0_off4 (k0_t2 : Fin k0_t2_loop.trips) : Fin 2 → Nat :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  let v30 : BitVec 32 := v29
  let v31 : Index := Scalar.indexCast v30
  let c0_27 : Index := 0#32
  ![v31.toNat, 0]
def k0_off5 (k0_t2 : Fin k0_t2_loop.trips) : Fin 2 → Nat :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  let v30 : BitVec 32 := v29
  let v48 : Index := Scalar.indexCast v30
  let c0_31 : Index := 0#32
  ![v48.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x1024 : Shape := ⟨2, ![4096, 1024]⟩
abbrev S4096x12288 : Shape := ⟨2, ![4096, 12288]⟩
abbrev S4x256x256 : Shape := ⟨3, ![4, 256, 256]⟩
abbrev S1024 : Shape := ⟨1, ![1024]⟩
abbrev S4096x4x256 : Shape := ⟨3, ![4096, 4, 256]⟩
abbrev S_ : Shape := ⟨0, ![]⟩
abbrev S4096 : Shape := ⟨1, ![4096]⟩
abbrev S4096x1 : Shape := ⟨2, ![4096, 1]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x1024 : Shape := ⟨2, ![1, 1024]⟩
abbrev S4x4096x256 : Shape := ⟨3, ![4, 4096, 256]⟩

abbrev nBuf : Space → Nat
  | .hbm => 190
  | .vmem => 0
  | .smem => 0
  | _ => 0

abbrev hbmTy0_0 (i : Nat) : BufTy := match i % 128 with
  | 0 => ⟨S4096x1024, .f32⟩
  | 1 => ⟨S4096x12288, .bf16⟩
  | 2 => ⟨S4x256x256, .bf16⟩
  | 3 => ⟨S1024, .f32⟩
  | 4 => ⟨S4096x12288, .f32⟩
  | 5 => ⟨S4096x1024, .f32⟩
  | 6 => ⟨S4x256x256, .f32⟩
  | 7 => ⟨S4096x4x256, .f32⟩
  | 8 => ⟨S_, .f32⟩
  | 9 => ⟨S_, .f32⟩
  | 10 => ⟨S4096x4x256, .f32⟩
  | 11 => ⟨S4096, .f32⟩
  | 12 => ⟨S_, .f32⟩
  | 13 => ⟨S4096, .f32⟩
  | 14 => ⟨S4096, .f32⟩
  | 15 => ⟨S4096x1, .f32⟩
  | 16 => ⟨S4096x1x256, .f32⟩
  | 17 => ⟨S4096x256, .f32⟩
  | 18 => ⟨S_, .f32⟩
  | 19 => ⟨S2x256, .f32⟩
  | 20 => ⟨S4094x256, .f32⟩
  | 21 => ⟨S4096x256, .f32⟩
  | 22 => ⟨S_, .f32⟩
  | 23 => ⟨S2x256, .f32⟩
  | 24 => ⟨S4096x256, .f32⟩
  | 25 => ⟨S_, .f32⟩
  | 26 => ⟨S4096x1, .f32⟩
  | 27 => ⟨S4096x1, .f32⟩
  | 28 => ⟨S4096x256, .f32⟩
  | 29 => ⟨S4096x256, .f32⟩
  | 30 => ⟨S4096x1x256, .f32⟩
  | 31 => ⟨S4096x256, .f32⟩
  | 32 => ⟨S4096x256, .f32⟩
  | 33 => ⟨S4096x1x256, .f32⟩
  | 34 => ⟨S4096x256, .f32⟩
  | 35 => ⟨S_, .f32⟩
  | 36 => ⟨S4x256, .f32⟩
  | 37 => ⟨S4092x256, .f32⟩
  | 38 => ⟨S4096x256, .f32⟩
  | 39 => ⟨S_, .f32⟩
  | 40 => ⟨S4x256, .f32⟩
  | 41 => ⟨S4096x256, .f32⟩
  | 42 => ⟨S_, .f32⟩
  | 43 => ⟨S4096x1, .f32⟩
  | 44 => ⟨S4096x1, .f32⟩
  | 45 => ⟨S4096x256, .f32⟩
  | 46 => ⟨S4096x256, .f32⟩
  | 47 => ⟨S4096x1x256, .f32⟩
  | 48 => ⟨S4096x256, .f32⟩
  | 49 => ⟨S4096x256, .f32⟩
  | 50 => ⟨S4096x1x256, .f32⟩
  | 51 => ⟨S4096x256, .f32⟩
  | 52 => ⟨S_, .f32⟩
  | 53 => ⟨S8x256, .f32⟩
  | 54 => ⟨S4088x256, .f32⟩
  | 55 => ⟨S4096x256, .f32⟩
  | 56 => ⟨S_, .f32⟩
  | 57 => ⟨S8x256, .f32⟩
  | 58 => ⟨S4096x256, .f32⟩
  | 59 => ⟨S_, .f32⟩
  | 60 => ⟨S4096x1, .f32⟩
  | 61 => ⟨S4096x1, .f32⟩
  | 62 => ⟨S4096x256, .f32⟩
  | 63 => ⟨S4096x256, .f32⟩
  | 64 => ⟨S4096x1x256, .f32⟩
  | 65 => ⟨S4096x256, .f32⟩
  | 66 => ⟨S4096x256, .f32⟩
  | 67 => ⟨S4096x1x256, .f32⟩
  | 68 => ⟨S4096x256, .f32⟩
  | 69 => ⟨S_, .f32⟩
  | 70 => ⟨S16x256, .f32⟩
  | 71 => ⟨S4080x256, .f32⟩
  | 72 => ⟨S4096x256, .f32⟩
  | 73 => ⟨S_, .f32⟩
  | 74 => ⟨S16x256, .f32⟩
  | 75 => ⟨S4096x256, .f32⟩
  | 76 => ⟨S_, .f32⟩
  | 77 => ⟨S4096x1, .f32⟩
  | 78 => ⟨S4096x1, .f32⟩
  | 79 => ⟨S4096x256, .f32⟩
  | 80 => ⟨S4096x256, .f32⟩
  | 81 => ⟨S4096x1x256, .f32⟩
  | 82 => ⟨S4096x256, .f32⟩
  | 83 => ⟨S4096x256, .f32⟩
  | 84 => ⟨S4096x1x256, .f32⟩
  | 85 => ⟨S4096x1x256, .f32⟩
  | 86 => ⟨S4096x1x256, .f32⟩
  | 87 => ⟨S4096x1x256, .f32⟩
  | 88 => ⟨S4096x4x256, .f32⟩
  | 89 => ⟨S4x256x4096, .f32⟩
  | 90 => ⟨S4096x4x256, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x4x256, .f32⟩
  | 104 => ⟨S4x256x4096, .f32⟩
  | 105 => ⟨S4x4096x256, .f32⟩
  | 106 => ⟨S4096x4x256, .f32⟩
  | 107 => ⟨S4x256x256, .f32⟩
  | 108 => ⟨S4x256x256, .f32⟩
  | 109 => ⟨S4096x1x256, .f32⟩
  | 110 => ⟨S4096x256, .f32⟩
  | 111 => ⟨S4096x1x256, .f32⟩
  | 112 => ⟨S4096x256, .f32⟩
  | 113 => ⟨S4096x1x256, .f32⟩
  | 114 => ⟨S4096x256, .f32⟩
  | 115 => ⟨S4096x1x256, .f32⟩
  | 116 => ⟨S4096x256, .f32⟩
  | 117 => ⟨S4096x256, .f32⟩
  | 118 => ⟨S4096x1x256, .f32⟩
  | 119 => ⟨S_, .f32⟩
  | 120 => ⟨S4096x4x256, .f32⟩
  | 121 => ⟨S4096x256, .f32⟩
  | 122 => ⟨S4096x256, .f32⟩
  | 123 => ⟨S4096x256, .f32⟩
  | 124 => ⟨S16x256, .f32⟩
  | 125 => ⟨S4080x256, .f32⟩
  | 126 => ⟨S_, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x1x256, .f32⟩
  | 2 => ⟨S_, .f32⟩
  | 3 => ⟨S4096x4x256, .f32⟩
  | 4 => ⟨S4096x256, .f32⟩
  | 5 => ⟨S4096x1x256, .f32⟩
  | 6 => ⟨S_, .f32⟩
  | 7 => ⟨S4096x4x256, .f32⟩
  | 8 => ⟨S4096x4x256, .f32⟩
  | 9 => ⟨S4096x256, .f32⟩
  | 10 => ⟨S4096x256, .f32⟩
  | 11 => ⟨S4096x256, .f32⟩
  | 12 => ⟨S8x256, .f32⟩
  | 13 => ⟨S4088x256, .f32⟩
  | 14 => ⟨S_, .f32⟩
  | 15 => ⟨S4096x256, .f32⟩
  | 16 => ⟨S4096x256, .f32⟩
  | 17 => ⟨S4096x1x256, .f32⟩
  | 18 => ⟨S_, .f32⟩
  | 19 => ⟨S4096x4x256, .f32⟩
  | 20 => ⟨S4096x4x256, .f32⟩
  | 21 => ⟨S4096x256, .f32⟩
  | 22 => ⟨S4096x1x256, .f32⟩
  | 23 => ⟨S_, .f32⟩
  | 24 => ⟨S4096x4x256, .f32⟩
  | 25 => ⟨S4096x4x256, .f32⟩
  | 26 => ⟨S4096x256, .f32⟩
  | 27 => ⟨S4096x256, .f32⟩
  | 28 => ⟨S4096x256, .f32⟩
  | 29 => ⟨S4x256, .f32⟩
  | 30 => ⟨S4092x256, .f32⟩
  | 31 => ⟨S_, .f32⟩
  | 32 => ⟨S4096x256, .f32⟩
  | 33 => ⟨S4096x256, .f32⟩
  | 34 => ⟨S4096x1x256, .f32⟩
  | 35 => ⟨S_, .f32⟩
  | 36 => ⟨S4096x4x256, .f32⟩
  | 37 => ⟨S4096x4x256, .f32⟩
  | 38 => ⟨S4096x256, .f32⟩
  | 39 => ⟨S4096x1x256, .f32⟩
  | 40 => ⟨S_, .f32⟩
  | 41 => ⟨S4096x4x256, .f32⟩
  | 42 => ⟨S4096x4x256, .f32⟩
  | 43 => ⟨S4096x256, .f32⟩
  | 44 => ⟨S4096x256, .f32⟩
  | 45 => ⟨S4096x256, .f32⟩
  | 46 => ⟨S2x256, .f32⟩
  | 47 => ⟨S4094x256, .f32⟩
  | 48 => ⟨S_, .f32⟩
  | 49 => ⟨S4096x256, .f32⟩
  | 50 => ⟨S4096x256, .f32⟩
  | 51 => ⟨S4096x1x256, .f32⟩
  | 52 => ⟨S_, .f32⟩
  | 53 => ⟨S4096x4x256, .f32⟩
  | 54 => ⟨S4096x4x256, .f32⟩
  | 55 => ⟨S_, .f32⟩
  | 56 => ⟨S_, .f32⟩
  | 57 => ⟨S4096x4x256, .f32⟩
  | 58 => ⟨S4096x4x256, .f32⟩
  | 59 => ⟨S4096x1024, .f32⟩
  | 60 => ⟨S4096x1024, .bf16⟩
  | 61 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_14 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_17 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_18 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_19 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_20 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_21 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_22 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_23 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_25 : Ref sig .tc := ⟨.hbm, 180, rfl⟩
abbrev main_v148 : Ref sig .tc := ⟨.hbm, 181, rfl⟩
abbrev main_v149 : Ref sig .tc := ⟨.hbm, 182, rfl⟩
abbrev main_call1_call0_cst : Ref sig .tc := ⟨.hbm, 183, rfl⟩
abbrev main_call1_call0_v0 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩

abbrev nD : Nat := 1
abbrev τ : Topo := Topo.v7x

variable {F : FTy → Type} [FloatOps F]
-- ==== Kernel7.lean ====
abbrev S4096x1024 : Shape := ⟨2, ![4096, 1024]⟩
abbrev S4096x12288 : Shape := ⟨2, ![4096, 12288]⟩
abbrev S4096x4096 : Shape := ⟨2, ![4096, 4096]⟩
abbrev S8x128x512 : Shape := ⟨3, ![8, 128, 512]⟩
abbrev S1x4096 : Shape := ⟨2, ![1, 4096]⟩
abbrev S8x512x128 : Shape := ⟨3, ![8, 512, 128]⟩
abbrev S1x1024 : Shape := ⟨2, ![1, 1024]⟩
abbrev S4096x128 : Shape := ⟨2, ![4096, 128]⟩
abbrev S4096x512 : Shape := ⟨2, ![4096, 512]⟩
abbrev S1x128x512 : Shape := ⟨3, ![1, 128, 512]⟩
abbrev S1x512 : Shape := ⟨2, ![1, 512]⟩
abbrev S1x512x128 : Shape := ⟨3, ![1, 512, 128]⟩
abbrev S1x128 : Shape := ⟨2, ![1, 128]⟩
abbrev S32x512 : Shape := ⟨2, ![32, 512]⟩
abbrev S512x128 : Shape := ⟨2, ![512, 128]⟩
abbrev S128x512 : Shape := ⟨2, ![128, 512]⟩
abbrev S256x128 : Shape := ⟨2, ![256, 128]⟩
abbrev S128 : Shape := ⟨1, ![128]⟩
abbrev S256x512 : Shape := ⟨2, ![256, 512]⟩
abbrev S32x1 : Shape := ⟨2, ![32, 1]⟩
abbrev S32x128 : Shape := ⟨2, ![32, 128]⟩
abbrev S8x128 : Shape := ⟨2, ![8, 128]⟩
abbrev S24x128 : Shape := ⟨2, ![24, 128]⟩
abbrev S16x128 : Shape := ⟨2, ![16, 128]⟩
abbrev S512 : Shape := ⟨1, ![512]⟩
abbrev S272x512 : Shape := ⟨2, ![272, 512]⟩

abbrev nBuf : Space → Nat
  | .hbm => 20
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12288, .bf16⟩
  | .hbm, ⟨3, _⟩ => ⟨S4096x4096, .bf16⟩
  | .hbm, ⟨4, _⟩ => ⟨S4096x4096, .bf16⟩
  | .hbm, ⟨5, _⟩ => ⟨S8x128x512, .bf16⟩
  | .hbm, ⟨6, _⟩ => ⟨S8x128x512, .bf16⟩
  | .hbm, ⟨7, _⟩ => ⟨S1x4096, .f32⟩
  | .hbm, ⟨8, _⟩ => ⟨S1x4096, .f32⟩
  | .hbm, ⟨9, _⟩ => ⟨S8x512x128, .bf16⟩
  | .hbm, ⟨10, _⟩ => ⟨S8x512x128, .bf16⟩
  | .hbm, ⟨11, _⟩ => ⟨S1x1024, .f32⟩
  | .hbm, ⟨12, _⟩ => ⟨S4096x1024, .bf16⟩
  | .hbm, ⟨13, _⟩ => ⟨S8x512x128, .f32⟩
  | .hbm, ⟨14, _⟩ => ⟨S8x512x128, .f32⟩
  | .hbm, ⟨15, _⟩ => ⟨S8x128x512, .f32⟩
  | .hbm, ⟨16, _⟩ => ⟨S8x128x512, .f32⟩
  | .hbm, ⟨17, _⟩ => ⟨S1x4096, .f32⟩
  | .hbm, ⟨18, _⟩ => ⟨S1x4096, .f32⟩
  | .hbm, ⟨19, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x128, .f32⟩
  | .local _ .vmem, ⟨23, _⟩ => ⟨S1x128, .f32⟩
  | .local _ .vmem, ⟨24, _⟩ => ⟨S4096x128, .bf16⟩
  | .local _ .vmem, ⟨25, _⟩ => ⟨S4096x128, .bf16⟩
  | .local _ .vmem, ⟨26, _⟩ => ⟨S1x512x128, .f32⟩
  | .local _ .vmem, ⟨27, _⟩ => ⟨S1x512x128, .f32⟩
  | .local _ .vmem, ⟨28, _⟩ => ⟨S1x512x128, .f32⟩
  | .local _ .vmem, ⟨29, _⟩ => ⟨S1x512x128, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x128, .f32⟩
  | .local _ .vmem, ⟨39, _⟩ => ⟨S1x128, .f32⟩
  | .local _ .vmem, ⟨40, _⟩ => ⟨S4096x512, .f32⟩
  | .local _ .vmem, ⟨41, _⟩ => ⟨S4096x512, .f32⟩
  | .local _ .vmem, ⟨42, _⟩ => ⟨S4096x128, .f32⟩
  | .local _ .vmem, ⟨43, _⟩ => ⟨S32x512, .f32⟩
  | .local _ .vmem, ⟨44, _⟩ => ⟨S32x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v22 : BitVec 32 := Scalar.addi c0_i32 c16_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg26 : BitVec 32 := Scf.iv c0_i32 c1_i32 k0_t1
  let c256_i32 : BitVec 32 := 256#32
  let v99 : BitVec 32 := Scalar.muli arg26 c256_i32
  v99
def k0_off1 (k0_t1 : Fin k0_t1_loop.trips) : Fin 2 → Nat :=
  let c0_i32 : BitVec 32 := 0#32
  let c1_i32 : BitVec 32 := 1#32
  let arg26 : BitVec 32 := Scf.iv c0_i32 c1_i32 k0_t1
  let c256_i32 : BitVec 32 := 256#32
  let v99 : BitVec 32 := Scalar.muli arg26 c256_i32
  let v100 : BitVec 32 := v99
  let v101 : Index := Scalar.indexCast v100
  let c0_76 : Index := 0#32
  ![v101.toNat, 0]
def k0_off2 (k0_t1 : Fin k0_t1_loop.trips) : Fin 2 → Nat :=
  let c0_i32 : BitVec 32 := 0#32
  let c1_i32 : BitVec 32 := 1#32
  let arg26 : BitVec 32 := Scf.iv c0_i32 c1_i32 k0_t1
  let c256_i32 : BitVec 32 := 256#32
  let v99 : BitVec 32 := Scalar.muli arg26 c256_i32
  let v100 : BitVec 32 := v99
  let v154 : Index := Scalar.indexCast v100
  let c0_100 : Index := 0#32
  ![v154.toNat, 0]
@[reducible] def k0_t2_loop : Scf.Loop 32 :=
  let c0_i32_42 : BitVec 32 := 0#32
  let c128_i32 : BitVec 32 := 128#32
  let v60 : BitVec 32 := Scalar.addi c0_i32_42 c128_i32
  let c1_i32_43 : BitVec 32 := 1#32
  ⟨c0_i32_42, v60, c1_i32_43⟩
def k0_mult2 (k0_t2 : Fin k0_t2_loop.trips) : BitVec 32 :=
  let c127_i32 : BitVec 32 := 127#32
  let c0_i32_42 : BitVec 32 := 0#32
  let c1_i32_43 : BitVec 32 := 1#32
  let arg26 : BitVec 32 := Scf.iv c0_i32_42 c1_i32_43 k0_t2
  let v99 : BitVec 32 := Scalar.subi c127_i32 arg26
  let c32_i32 : BitVec 32 := 32#32
  let v100 : BitVec 32 := Scalar.muli v99 c32_i32
  v100
def k0_off3 (k0_t2 : Fin k0_t2_loop.trips) : Fin 2 → Nat :=
  let c127_i32 : BitVec 32 := 127#32
  let c0_i32_42 : BitVec 32 := 0#32
  let c1_i32_43 : BitVec 32 := 1#32
  let arg26 : BitVec 32 := Scf.iv c0_i32_42 c1_i32_43 k0_t2
  let v99 : BitVec 32 := Scalar.subi c127_i32 arg26
  let c32_i32 : BitVec 32 := 32#32
  let v100 : BitVec 32 := Scalar.muli v99 c32_i32
  let v101 : BitVec 32 := v100
  let v102 : Index := Scalar.indexCast v101
  let c0_76 : Index := 0#32
  ![v102.toNat, 0]
def k0_off4 (k0_t2 : Fin k0_t2_loop.trips) : Fin 2 → Nat :=
  let c127_i32 : BitVec 32 := 127#32
  let c0_i32_42 : BitVec 32 := 0#32
  let c1_i32_43 : BitVec 32 := 1#32
  let arg26 : BitVec 32 := Scf.iv c0_i32_42 c1_i32_43 k0_t2
  let v99 : BitVec 32 := Scalar.subi c127_i32 arg26
  let c32_i32 : BitVec 32 := 32#32
  let v100 : BitVec 32 := Scalar.muli v99 c32_i32
  let v101 : BitVec 32 := v100
  let v242 : Index := Scalar.indexCast v101
  let c128 : Index := 128#32
  ![v242.toNat, 128]
def k0_off5 (k0_t2 : Fin k0_t2_loop.trips) : Fin 2 → Nat :=
  let c127_i32 : BitVec 32 := 127#32
  let c0_i32_42 : BitVec 32 := 0#32
  let c1_i32_43 : BitVec 32 := 1#32
  let arg26 : BitVec 32 := Scf.iv c0_i32_42 c1_i32_43 k0_t2
  let v99 : BitVec 32 := Scalar.subi c127_i32 arg26
  let c32_i32 : BitVec 32 := 32#32
  let v100 : BitVec 32 := Scalar.muli v99 c32_i32
  let v101 : BitVec 32 := v100
  let v382 : Index := Scalar.indexCast v101
  let c256 : Index := 256#32
  ![v382.toNat, 256]
def k0_off6 (k0_t2 : Fin k0_t2_loop.trips) : Fin 2 → Nat :=
  let c127_i32 : BitVec 32 := 127#32
  let c0_i32_42 : BitVec 32 := 0#32
  let c1_i32_43 : BitVec 32 := 1#32
  let arg26 : BitVec 32 := Scf.iv c0_i32_42 c1_i32_43 k0_t2
  let v99 : BitVec 32 := Scalar.subi c127_i32 arg26
  let c32_i32 : BitVec 32 := 32#32
  let v100 : BitVec 32 := Scalar.muli v99 c32_i32
  let v101 : BitVec 32 := v100
  let v522 : Index := Scalar.indexCast v101
  let c384 : Index := 384#32
  ![v522.toNat, 384]
@[reducible] def k0_t3_loop : Scf.Loop 32 :=
  let c0_i32_45 : BitVec 32 := 0#32
  let c16_i32_46 : BitVec 32 := 16#32
  let v62 : BitVec 32 := Scalar.addi c0_i32_45 c16_i32_46
  let c1_i32_47 : BitVec 32 := 1#32
  ⟨c0_i32_45, v62, c1_i32_47⟩
def k0_mult3 (k0_t3 : Fin k0_t3_loop.trips) : BitVec 32 :=
  let c0_i32_45 : BitVec 32 := 0#32
  let c1_i32_47 : BitVec 32 := 1#32
  let arg26 : BitVec 32 := Scf.iv c0_i32_45 c1_i32_47 k0_t3
  let c256_i32 : BitVec 32 := 256#32
  let v99 : BitVec 32 := Scalar.muli arg26 c256_i32
  v99
def k0_off7 (k0_t3 : Fin k0_t3_loop.trips) : Fin 2 → Nat :=
  let c0_i32_45 : BitVec 32 := 0#32
  let c1_i32_47 : BitVec 32 := 1#32
  let arg26 : BitVec 32 := Scf.iv c0_i32_45 c1_i32_47 k0_t3
  let c256_i32 : BitVec 32 := 256#32
  let v99 : BitVec 32 := Scalar.muli arg26 c256_i32
  let v100 : BitVec 32 := v99
  let v101 : Index := Scalar.indexCast v100
  let c0_76 : Index := 0#32
  ![v101.toNat, 0]
def k0_off8 (k0_t3 : Fin k0_t3_loop.trips) : Fin 2 → Nat :=
  let c0_i32_45 : BitVec 32 := 0#32
  let c1_i32_47 : BitVec 32 := 1#32
  let arg26 : BitVec 32 := Scf.iv c0_i32_45 c1_i32_47 k0_t3
  let c256_i32 : BitVec 32 := 256#32
  let v99 : BitVec 32 := Scalar.muli arg26 c256_i32
  let v100 : BitVec 32 := v99
  let v107 : Index := Scalar.indexCast v100
  let c0_78 : Index := 0#32
  ![v107.toNat, 0]
@[reducible] def k0_t4_loop : Scf.Loop 32 :=
  let c1_i32_73 : BitVec 32 := 1#32
  let c15_i32 : BitVec 32 := 15#32
  let v98 : BitVec 32 := Scalar.addi c1_i32_73 c15_i32
  let c1_i32_74 : BitVec 32 := 1#32
  ⟨c1_i32_73, v98, c1_i32_74⟩
def k0_mult4 (k0_t4 : Fin k0_t4_loop.trips) : BitVec 32 :=
  let c1_i32_73 : BitVec 32 := 1#32
  let c1_i32_74 : BitVec 32 := 1#32
  let arg26 : BitVec 32 := Scf.iv c1_i32_73 c1_i32_74 k0_t4
  let c256_i32 : BitVec 32 := 256#32
  let v99 : BitVec 32 := Scalar.muli arg26 c256_i32
  v99
def k0_mult5 (k0_t4 : Fin k0_t4_loop.trips) : BitVec 32 :=
  let c1_i32_73 : BitVec 32 := 1#32
  let c1_i32_74 : BitVec 32 := 1#32
  let arg26 : BitVec 32 := Scf.iv c1_i32_73 c1_i32_74 k0_t4
  let c256_i32 : BitVec 32 := 256#32
  let v99 : BitVec 32 := Scalar.muli arg26 c256_i32
  let v100 : BitVec 32 := v99
  let c16_i32_76 : BitVec 32 := 16#32
  let v101 : BitVec 32 := Scalar.subi v100 c16_i32_76
  v101
def k0_off9 (k0_t4 : Fin k0_t4_loop.trips) : Fin 2 → Nat :=
  let c1_i32_73 : BitVec 32 := 1#32
  let c1_i32_74 : BitVec 32 := 1#32
  let arg26 : BitVec 32 := Scf.iv c1_i32_73 c1_i32_74 k0_t4
  let c256_i32 : BitVec 32 := 256#32
  let v99 : BitVec 32 := Scalar.muli arg26 c256_i32
  let v100 : BitVec 32 := v99
  let c16_i32_76 : BitVec 32 := 16#32
  let v101 : BitVec 32 := Scalar.subi v100 c16_i32_76
  let v102 : BitVec 32 := v101
  let v103 : Index := Scalar.indexCast v102
  let c0_77 : Index := 0#32
  ![v103.toNat, 0]
def k0_off10 (k0_t4 : Fin k0_t4_loop.trips) : Fin 2 → Nat :=
  let c1_i32_73 : BitVec 32 := 1#32
  let c1_i32_74 : BitVec 32 := 1#32
  let arg26 : BitVec 32 := Scf.iv c1_i32_73 c1_i32_74 k0_t4
  let c256_i32 : BitVec 32 := 256#32
  let v99 : BitVec 32 := Scalar.muli arg26 c256_i32
  let v100 : BitVec 32 := v99
  let v113 : Index := Scalar.indexCast v100
  let c0_81 : Index := 0#32
  ![v113.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel8.lean ====
abbrev S4096x12288 : Shape := ⟨2, ![4096, 12288]⟩
abbrev S8x128x512 : Shape := ⟨3, ![8, 128, 512]⟩
abbrev S1x4096 : Shape := ⟨2, ![1, 4096]⟩
abbrev S8x512x128 : Shape := ⟨3, ![8, 512, 128]⟩
abbrev S1x1024 : Shape := ⟨2, ![1, 1024]⟩
abbrev S4096x1024 : Shape := ⟨2, ![4096, 1024]⟩
abbrev S4096x4096 : Shape := ⟨2, ![4096, 4096]⟩
abbrev S4096x128 : Shape := ⟨2, ![4096, 128]⟩
abbrev S1x128x512 : Shape := ⟨3, ![1, 128, 512]⟩
abbrev S1x512 : Shape := ⟨2, ![1, 512]⟩
abbrev S1x512x128 : Shape := ⟨3, ![1, 512, 128]⟩
abbrev S1x128 : Shape := ⟨2, ![1, 128]⟩
abbrev S4096x512 : Shape := ⟨2, ![4096, 512]⟩
abbrev S32x512 : Shape := ⟨2, ![32, 512]⟩
abbrev S256x128 : Shape := ⟨2, ![256, 128]⟩
abbrev S128x512 : Shape := ⟨2, ![128, 512]⟩
abbrev S256x512 : Shape := ⟨2, ![256, 512]⟩
abbrev S32x1 : Shape := ⟨2, ![32, 1]⟩
abbrev S32x128 : Shape := ⟨2, ![32, 128]⟩
abbrev S8x128 : Shape := ⟨2, ![8, 128]⟩
abbrev S24x128 : Shape := ⟨2, ![24, 128]⟩
abbrev S16x128 : Shape := ⟨2, ![16, 128]⟩
abbrev S512x128 : Shape := ⟨2, ![512, 128]⟩

abbrev nBuf : Space → Nat
  | .hbm => 12
  | .vmem => 28
  | .smem => 0
  | _ => 0

abbrev bufTy : (tb : Table) → Fin (tcTables nBuf tb) → BufTy
  | .hbm, ⟨0, _⟩ => ⟨S4096x12288, .bf16⟩
  | .hbm, ⟨1, _⟩ => ⟨S8x128x512, .bf16⟩
  | .hbm, ⟨2, _⟩ => ⟨S8x128x512, .bf16⟩
  | .hbm, ⟨3, _⟩ => ⟨S1x4096, .f32⟩
  | .hbm, ⟨4, _⟩ => ⟨S1x4096, .f32⟩
  | .hbm, ⟨5, _⟩ => ⟨S8x512x128, .bf16⟩
  | .hbm, ⟨6, _⟩ => ⟨S8x512x128, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x4096, .bf16⟩
  | .hbm, ⟨11, _⟩ => ⟨S4096x4096, .bf16⟩
  | .local _ .vmem, ⟨0, _⟩ => ⟨S4096x128, .bf16⟩
  | .local _ .vmem, ⟨1, _⟩ => ⟨S4096x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x512, .bf16⟩
  | .local _ .vmem, ⟨21, _⟩ => ⟨S4096x512, .bf16⟩
  | .local _ .vmem, ⟨22, _⟩ => ⟨S4096x512, .bf16⟩
  | .local _ .vmem, ⟨23, _⟩ => ⟨S4096x512, .bf16⟩
  | .local _ .vmem, ⟨24, _⟩ => ⟨S4096x512, .f32⟩
  | .local _ .vmem, ⟨25, _⟩ => ⟨S4096x512, .f32⟩
  | .local _ .vmem, ⟨26, _⟩ => ⟨S32x512, .f32⟩
  | .local _ .vmem, ⟨27, _⟩ => ⟨S32x512, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v39 : BitVec 32 := Scalar.muli arg17 c256_i32
  v39
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v39 : BitVec 32 := Scalar.muli arg17 c256_i32
  let v40 : BitVec 32 := v39
  let v41 : Index := Scalar.indexCast v40
  let c0_23 : Index := 0#32
  ![v41.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v39 : BitVec 32 := Scalar.muli arg17 c256_i32
  let v40 : BitVec 32 := v39
  let v46 : Index := Scalar.indexCast v40
  let c0_28 : Index := 0#32
  ![v46.toNat, 0]
@[reducible] def k0_t2_loop : Scf.Loop 32 :=
  let c0_i32_16 : BitVec 32 := 0#32
  let c128_i32 : BitVec 32 := 128#32
  let v36 : BitVec 32 := Scalar.addi c0_i32_16 c128_i32
  let c1_i32_17 : BitVec 32 := 1#32
  ⟨c0_i32_16, v36, c1_i32_17⟩
def k0_mult2 (k0_t2 : Fin k0_t2_loop.trips) : BitVec 32 :=
  let c0_i32_16 : BitVec 32 := 0#32
  let c1_i32_17 : BitVec 32 := 1#32
  let arg17 : BitVec 32 := Scf.iv c0_i32_16 c1_i32_17 k0_t2
  let c32_i32 : BitVec 32 := 32#32
  let v39 : BitVec 32 := Scalar.muli arg17 c32_i32
  v39
def k0_off3 (k0_t2 : Fin k0_t2_loop.trips) : Fin 2 → Nat :=
  let c0_i32_16 : BitVec 32 := 0#32
  let c1_i32_17 : BitVec 32 := 1#32
  let arg17 : BitVec 32 := Scf.iv c0_i32_16 c1_i32_17 k0_t2
  let c32_i32 : BitVec 32 := 32#32
  let v39 : BitVec 32 := Scalar.muli arg17 c32_i32
  let v40 : BitVec 32 := v39
  let v41 : Index := Scalar.indexCast v40
  let c0_23 : Index := 0#32
  ![v41.toNat, 0]
def k0_off4 (k0_t2 : Fin k0_t2_loop.trips) : Fin 2 → Nat :=
  let c0_i32_16 : BitVec 32 := 0#32
  let c1_i32_17 : BitVec 32 := 1#32
  let arg17 : BitVec 32 := Scf.iv c0_i32_16 c1_i32_17 k0_t2
  let c32_i32 : BitVec 32 := 32#32
  let v39 : BitVec 32 := Scalar.muli arg17 c32_i32
  let v40 : BitVec 32 := v39
  let v181 : Index := Scalar.indexCast v40
  let c128 : Index := 128#32
  ![v181.toNat, 128]
def k0_off5 (k0_t2 : Fin k0_t2_loop.trips) : Fin 2 → Nat :=
  let c0_i32_16 : BitVec 32 := 0#32
  let c1_i32_17 : BitVec 32 := 1#32
  let arg17 : BitVec 32 := Scf.iv c0_i32_16 c1_i32_17 k0_t2
  let c32_i32 : BitVec 32 := 32#32
  let v39 : BitVec 32 := Scalar.muli arg17 c32_i32
  let v40 : BitVec 32 := v39
  let v321 : Index := Scalar.indexCast v40
  let c256 : Index := 256#32
  ![v321.toNat, 256]
def k0_off6 (k0_t2 : Fin k0_t2_loop.trips) : Fin 2 → Nat :=
  let c0_i32_16 : BitVec 32 := 0#32
  let c1_i32_17 : BitVec 32 := 1#32
  let arg17 : BitVec 32 := Scf.iv c0_i32_16 c1_i32_17 k0_t2
  let c32_i32 : BitVec 32 := 32#32
  let v39 : BitVec 32 := Scalar.muli arg17 c32_i32
  let v40 : BitVec 32 := v39
  let v461 : Index := Scalar.indexCast v40
  let c384 : Index := 384#32
  ![v461.toNat, 384]
@[reducible] def k0_t3_loop : Scf.Loop 32 :=
  let c0_i32_19 : BitVec 32 := 0#32
  let c16_i32_20 : BitVec 32 := 16#32
  let v38 : BitVec 32 := Scalar.addi c0_i32_19 c16_i32_20
  let c1_i32_21 : BitVec 32 := 1#32
  ⟨c0_i32_19, v38, c1_i32_21⟩
def k0_mult3 (k0_t3 : Fin k0_t3_loop.trips) : BitVec 32 :=
  let c0_i32_19 : BitVec 32 := 0#32
  let c1_i32_21 : BitVec 32 := 1#32
  let arg17 : BitVec 32 := Scf.iv c0_i32_19 c1_i32_21 k0_t3
  let c256_i32 : BitVec 32 := 256#32
  let v39 : BitVec 32 := Scalar.muli arg17 c256_i32
  v39
def k0_off7 (k0_t3 : Fin k0_t3_loop.trips) : Fin 2 → Nat :=
  let c0_i32_19 : BitVec 32 := 0#32
  let c1_i32_21 : BitVec 32 := 1#32
  let arg17 : BitVec 32 := Scf.iv c0_i32_19 c1_i32_21 k0_t3
  let c256_i32 : BitVec 32 := 256#32
  let v39 : BitVec 32 := Scalar.muli arg17 c256_i32
  let v40 : BitVec 32 := v39
  let v41 : Index := Scalar.indexCast v40
  let c0_23 : Index := 0#32
  ![v41.toNat, 0]
def k0_off8 (k0_t3 : Fin k0_t3_loop.trips) : Fin 2 → Nat :=
  let c0_i32_19 : BitVec 32 := 0#32
  let c1_i32_21 : BitVec 32 := 1#32
  let arg17 : BitVec 32 := Scf.iv c0_i32_19 c1_i32_21 k0_t3
  let c256_i32 : BitVec 32 := 256#32
  let v39 : BitVec 32 := Scalar.muli arg17 c256_i32
  let v40 : BitVec 32 := v39
  let v59 : Index := Scalar.indexCast v40
  let c0_37 : Index := 0#32
  ![v59.toNat, 0]
def cc0_transform_0 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel9.lean ====
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S64x64 : Shape := ⟨2, ![64, 64]⟩
abbrev S64 : Shape := ⟨1, ![64]⟩
abbrev S64x64x16 : Shape := ⟨3, ![64, 64, 16]⟩
abbrev S64x1x64 : Shape := ⟨3, ![64, 1, 64]⟩
abbrev S64x1x1 : Shape := ⟨3, ![64, 1, 1]⟩
abbrev S64x16x64 : Shape := ⟨3, ![64, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1x64, .f32⟩
  | .hbm, ⟨6, _⟩ => ⟨S64x1x64, .f32⟩
  | .hbm, ⟨7, _⟩ => ⟨S64x1x1, .f32⟩
  | .hbm, ⟨8, _⟩ => ⟨S64x16x64, .f32⟩
  | .hbm, ⟨9, _⟩ => ⟨S64x16x64, .f32⟩
  | .hbm, ⟨10, _⟩ => ⟨S64x1x64, .f32⟩
  | .hbm, ⟨11, _⟩ => ⟨S64x1x64, .f32⟩
  | .hbm, ⟨12, _⟩ => ⟨S64x16x64, .f32⟩
  | .hbm, ⟨13, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference10Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1x64 : Shape := ⟨3, ![64, 1, 64]⟩
abbrev S64x16x64 : Shape := ⟨3, ![64, 16, 64]⟩

abbrev nBuf : Space → Nat
  | .hbm => 57
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64x1, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64, .f32⟩
  | .hbm, ⟨50, _⟩ => ⟨S64x64, .f32⟩
  | .hbm, ⟨51, _⟩ => ⟨S64x1x64, .f32⟩
  | .hbm, ⟨52, _⟩ => ⟨S64x64, .f32⟩
  | .hbm, ⟨53, _⟩ => ⟨S64x64, .f32⟩
  | .hbm, ⟨54, _⟩ => ⟨S64x1x64, .f32⟩
  | .hbm, ⟨55, _⟩ => ⟨S64x16x64, .f32⟩
  | .hbm, ⟨56, _⟩ => ⟨S64x16x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S1x2048 : Shape := ⟨2, ![1, 2048]⟩
abbrev S1x4096 : Shape := ⟨2, ![1, 4096]⟩
abbrev S4096x4096 : Shape := ⟨2, ![4096, 4096]⟩
abbrev S128x1024 : Shape := ⟨2, ![128, 1024]⟩
abbrev S128x2048 : Shape := ⟨2, ![128, 2048]⟩
abbrev S128x4096 : Shape := ⟨2, ![128, 4096]⟩
abbrev S1x1024 : Shape := ⟨2, ![1, 1024]⟩
abbrev S128 : Shape := ⟨1, ![128]⟩
abbrev S128x1 : Shape := ⟨2, ![128, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x12288, .bf16⟩
  | .hbm, ⟨4, _⟩ => ⟨S2048, .f32⟩
  | .hbm, ⟨5, _⟩ => ⟨S4096, .f32⟩
  | .hbm, ⟨6, _⟩ => ⟨S1x2048, .f32⟩
  | .hbm, ⟨7, _⟩ => ⟨S1x4096, .f32⟩
  | .hbm, ⟨8, _⟩ => ⟨S4096x4096, .bf16⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x1024, .bf16⟩
  | .local _ .vmem, ⟨7, _⟩ => ⟨S128x1024, .bf16⟩
  | .local _ .vmem, ⟨8, _⟩ => ⟨S128x2048, .bf16⟩
  | .local _ .vmem, ⟨9, _⟩ => ⟨S128x2048, .bf16⟩
  | .local _ .vmem, ⟨10, _⟩ => ⟨S128x1024, .bf16⟩
  | .local _ .vmem, ⟨11, _⟩ => ⟨S128x1024, .bf16⟩
  | .local _ .vmem, ⟨12, _⟩ => ⟨S1x2048, .f32⟩
  | .local _ .vmem, ⟨13, _⟩ => ⟨S1x4096, .f32⟩
  | .local _ .vmem, ⟨14, _⟩ => ⟨S128x4096, .bf16⟩
  | .local _ .vmem, ⟨15, _⟩ => ⟨S128x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x1024 : Shape := ⟨2, ![4096, 1024]⟩
abbrev S4096x2048 : Shape := ⟨2, ![4096, 2048]⟩
abbrev S4096x12288 : Shape := ⟨2, ![4096, 12288]⟩
abbrev S2048 : Shape := ⟨1, ![2048]⟩
abbrev S4096 : Shape := ⟨1, ![4096]⟩
abbrev S1x2048 : Shape := ⟨2, ![1, 2048]⟩
abbrev S_ : Shape := ⟨0, ![]⟩
abbrev S1024 : Shape := ⟨1, ![1024]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x12288, .bf16⟩
  | .hbm, ⟨4, _⟩ => ⟨S2048, .f32⟩
  | .hbm, ⟨5, _⟩ => ⟨S4096, .f32⟩
  | .hbm, ⟨6, _⟩ => ⟨S4096x12288, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024, .f32⟩
  | .hbm, ⟨25, _⟩ => ⟨S2048, .f32⟩
  | .hbm, ⟨26, _⟩ => ⟨S1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S1x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x4096, .f32⟩
  | .hbm, ⟨106, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]
-- ==== Kernel12.lean ====
abbrev S4096x12288 : Shape := ⟨2, ![4096, 12288]⟩
abbrev S4x256x256 : Shape := ⟨3, ![4, 256, 256]⟩
abbrev S1024 : Shape := ⟨1, ![1024]⟩
abbrev S1x1024 : Shape := ⟨2, ![1, 1024]⟩
abbrev S4096x1024 : Shape := ⟨2, ![4096, 1024]⟩
abbrev S4096x256 : Shape := ⟨2, ![4096, 256]⟩
abbrev S1x256x256 : Shape := ⟨3, ![1, 256, 256]⟩
abbrev S1x256 : Shape := ⟨2, ![1, 256]⟩
abbrev S4112x256 : Shape := ⟨2, ![4112, 256]⟩
abbrev S16x256 : Shape := ⟨2, ![16, 256]⟩
abbrev S272x256 : Shape := ⟨2, ![272, 256]⟩
abbrev S256x256 : Shape := ⟨2, ![256, 256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x12288, .bf16⟩
  | .hbm, ⟨1, _⟩ => ⟨S4x256x256, .bf16⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S4112x256, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v10 : BitVec 32 := Scalar.muli arg6 c256_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v10 : BitVec 32 := Scalar.muli arg6 c256_i32
  let v11 : BitVec 32 := v10
  let v12 : Index := Scalar.indexCast v11
  let c0_5 : Index := 0#32
  ![v12.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v10 : BitVec 32 := Scalar.muli arg6 c256_i32
  let v11 : BitVec 32 := v10
  let v54 : Index := Scalar.indexCast v11
  let c0_24 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x12288 : Shape := ⟨2, ![4096, 12288]⟩
abbrev S4x256x256 : Shape := ⟨3, ![4, 256, 256]⟩
abbrev S1024 : Shape := ⟨1, ![1024]⟩
abbrev S4096x1024 : Shape := ⟨2, ![4096, 1024]⟩
abbrev S4096x4x256 : Shape := ⟨3, ![4096, 4, 256]⟩
abbrev S_ : Shape := ⟨0, ![]⟩
abbrev S4096 : Shape := ⟨1, ![4096]⟩
abbrev S4096x1 : Shape := ⟨2, ![4096, 1]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4x256x256, .bf16⟩
  | .hbm, ⟨2, _⟩ => ⟨S1024, .f32⟩
  | .hbm, ⟨3, _⟩ => ⟨S4096x12288, .f32⟩
  | .hbm, ⟨4, _⟩ => ⟨S4096x1024, .f32⟩
  | .hbm, ⟨5, _⟩ => ⟨S4096x4x256, .f32⟩
  | .hbm, ⟨6, _⟩ => ⟨S_, .f32⟩
  | .hbm, ⟨7, _⟩ => ⟨S_, .f32⟩
  | .hbm, ⟨8, _⟩ => ⟨S4096x4x256, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x1x256, .f32⟩
  | .hbm, ⟨15, _⟩ => ⟨S4096x256, .f32⟩
  | .hbm, ⟨16, _⟩ => ⟨S_, .f32⟩
  | .hbm, ⟨17, _⟩ => ⟨S2x256, .f32⟩
  | .hbm, ⟨18, _⟩ => ⟨S4094x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S4096x1x256, .f32⟩
  | .hbm, ⟨27, _⟩ => ⟨S4096x256, .f32⟩
  | .hbm, ⟨28, _⟩ => ⟨S4096x256, .f32⟩
  | .hbm, ⟨29, _⟩ => ⟨S4096x1x256, .f32⟩
  | .hbm, ⟨30, _⟩ => ⟨S4096x256, .f32⟩
  | .hbm, ⟨31, _⟩ => ⟨S_, .f32⟩
  | .hbm, ⟨32, _⟩ => ⟨S4x256, .f32⟩
  | .hbm, ⟨33, _⟩ => ⟨S4092x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S4096x1x256, .f32⟩
  | .hbm, ⟨42, _⟩ => ⟨S4096x256, .f32⟩
  | .hbm, ⟨43, _⟩ => ⟨S4096x256, .f32⟩
  | .hbm, ⟨44, _⟩ => ⟨S4096x1x256, .f32⟩
  | .hbm, ⟨45, _⟩ => ⟨S4096x256, .f32⟩
  | .hbm, ⟨46, _⟩ => ⟨S_, .f32⟩
  | .hbm, ⟨47, _⟩ => ⟨S8x256, .f32⟩
  | .hbm, ⟨48, _⟩ => ⟨S4088x256, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x256, .f32⟩
  | .hbm, ⟨55, _⟩ => ⟨S4096x256, .f32⟩
  | .hbm, ⟨56, _⟩ => ⟨S4096x1x256, .f32⟩
  | .hbm, ⟨57, _⟩ => ⟨S4096x256, .f32⟩
  | .hbm, ⟨58, _⟩ => ⟨S4096x256, .f32⟩
  | .hbm, ⟨59, _⟩ => ⟨S4096x1x256, .f32⟩
  | .hbm, ⟨60, _⟩ => ⟨S4096x256, .f32⟩
  | .hbm, ⟨61, _⟩ => ⟨S_, .f32⟩
  | .hbm, ⟨62, _⟩ => ⟨S16x256, .f32⟩
  | .hbm, ⟨63, _⟩ => ⟨S4080x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x256, .f32⟩
  | .hbm, ⟨70, _⟩ => ⟨S4096x256, .f32⟩
  | .hbm, ⟨71, _⟩ => ⟨S4096x1x256, .f32⟩
  | .hbm, ⟨72, _⟩ => ⟨S4096x256, .f32⟩
  | .hbm, ⟨73, _⟩ => ⟨S4096x256, .f32⟩
  | .hbm, ⟨74, _⟩ => ⟨S4096x1x256, .f32⟩
  | .hbm, ⟨75, _⟩ => ⟨S4096x1x256, .f32⟩
  | .hbm, ⟨76, _⟩ => ⟨S4096x1x256, .f32⟩
  | .hbm, ⟨77, _⟩ => ⟨S4096x1x256, .f32⟩
  | .hbm, ⟨78, _⟩ => ⟨S4096x4x256, .f32⟩
  | .hbm, ⟨79, _⟩ => ⟨S4x256x256, .f32⟩
  | .hbm, ⟨80, _⟩ => ⟨S4x256x4096, .f32⟩
  | .hbm, ⟨81, _⟩ => ⟨S4096x4x256, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel13.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8x4608x128 : Shape := ⟨3, ![8, 4608, 128]⟩
abbrev S8x32x128 : Shape := ⟨3, ![8, 32, 128]⟩
abbrev S4608x128 : Shape := ⟨2, ![4608, 128]⟩
abbrev S8x512x128 : Shape := ⟨3, ![8, 512, 128]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S480x128 : Shape := ⟨2, ![480, 128]⟩

abbrev nBuf : Space → Nat
  | .hbm => 9
  | .vmem => 17
  | .smem => 0
  | _ => 0

abbrev bufTy : (tb : Table) → Fin (tcTables nBuf tb) → BufTy
  | .hbm, ⟨0, _⟩ => ⟨S8x4608x128, .f32⟩
  | .hbm, ⟨1, _⟩ => ⟨S8x32x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S4608x128, .f32⟩
  | .hbm, ⟨8, _⟩ => ⟨S4608x128, .f32⟩
  | .local _ .vmem, ⟨0, _⟩ => ⟨S8x512x128, .f32⟩
  | .local _ .vmem, ⟨1, _⟩ => ⟨S8x512x128, .f32⟩
  | .local _ .vmem, ⟨2, _⟩ => ⟨S8x32x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S8x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8x4608x128 : Shape := ⟨3, ![8, 4608, 128]⟩
abbrev S8x32x128 : Shape := ⟨3, ![8, 32, 128]⟩
abbrev S4608x128 : Shape := ⟨2, ![4608, 128]⟩
abbrev S_ : Shape := ⟨0, ![]⟩
abbrev S32x128 : Shape := ⟨2, ![32, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x4608x128, .f32⟩
  | .hbm, ⟨1, _⟩ => ⟨S8x32x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S_, .f32⟩
  | .hbm, ⟨6, _⟩ => ⟨S4608x128, .f32⟩
  | .hbm, ⟨7, _⟩ => ⟨S_, .f32⟩
  | .hbm, ⟨8, _⟩ => ⟨S32x128, .f32⟩
  | .hbm, ⟨9, _⟩ => ⟨S_, .i32⟩
  | .hbm, ⟨10, _⟩ => ⟨S_, .f32⟩
  | .hbm, ⟨11, _⟩ => ⟨S4608x128, .f32⟩
  | .hbm, ⟨12, _⟩ => ⟨S4608x128, .f32⟩
  | .hbm, ⟨13, _⟩ => ⟨S_, .f32⟩
  | .hbm, ⟨14, _⟩ => ⟨S4608x128, .f32⟩
  | .hbm, ⟨15, _⟩ => ⟨S4608x128, .f32⟩
  | .hbm, ⟨16, _⟩ => ⟨S_, .f32⟩
  | .hbm, ⟨17, _⟩ => ⟨S4608x128, .f32⟩
  | .hbm, ⟨18, _⟩ => ⟨S4608x128, .f32⟩
  | .hbm, ⟨19, _⟩ => ⟨S4608x128, .f32⟩
  | .hbm, ⟨20, _⟩ => ⟨S_, .f32⟩
  | .hbm, ⟨21, _⟩ => ⟨S4608x128, .f32⟩
  | .hbm, ⟨22, _⟩ => ⟨S4608x128, .f32⟩
  | .hbm, ⟨23, _⟩ => ⟨S4608x128, .f32⟩
  | .hbm, ⟨24, _⟩ => ⟨S_, .f32⟩
  | .hbm, ⟨25, _⟩ => ⟨S4608x128, .f32⟩
  | .hbm, ⟨26, _⟩ => ⟨S4608x128, .f32⟩
  | .hbm, ⟨27, _⟩ => ⟨S4608x128, .f32⟩
  | .hbm, ⟨28, _⟩ => ⟨S_, .f32⟩
  | .hbm, ⟨29, _⟩ => ⟨S4608x128, .f32⟩
  | .hbm, ⟨30, _⟩ => ⟨S4608x128, .f32⟩
  | .hbm, ⟨31, _⟩ => ⟨S_, .f32⟩
  | .hbm, ⟨32, _⟩ => ⟨S4608x128, .f32⟩
  | .hbm, ⟨33, _⟩ => ⟨S4608x128, .f32⟩
  | .hbm, ⟨34, _⟩ => ⟨S4608x128, .f32⟩
  | .hbm, ⟨35, _⟩ => ⟨S_, .f32⟩
  | .hbm, ⟨36, _⟩ => ⟨S4608x128, .f32⟩
  | .hbm, ⟨37, _⟩ => ⟨S4608x128, .f32⟩
  | .hbm, ⟨38, _⟩ => ⟨S4608x128, .f32⟩
  | .hbm, ⟨39, _⟩ => ⟨S_, .f32⟩
  | .hbm, ⟨40, _⟩ => ⟨S4608x128, .f32⟩
  | .hbm, ⟨41, _⟩ => ⟨S4608x128, .f32⟩
  | .hbm, ⟨42, _⟩ => ⟨S4608x128, .f32⟩
  | .hbm, ⟨43, _⟩ => ⟨S_, .f32⟩
  | .hbm, ⟨44, _⟩ => ⟨S4608x128, .f32⟩
  | .hbm, ⟨45, _⟩ => ⟨S4608x128, .f32⟩
  | _, _ => ⟨S8x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel17.lean ====
abbrev S4096x1024 : Shape := ⟨2, ![4096, 1024]⟩
abbrev S8x1024x256 : Shape := ⟨3, ![8, 1024, 256]⟩
abbrev S4096x2048 : Shape := ⟨2, ![4096, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg2.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.divsi v9 c1_i32_3
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c0_i32_6 : BitVec 32 := 0#32
  let v16 : BitVec 1 := Scalar.cmpi .sgt c1_i32_3 c0_i32_6
  let v17 : BitVec 32 := Scalar.extui v16
  let c0_i32_7 : BitVec 32 := 0#32
  let v18 : BitVec 1 := Scalar.cmpi .slt c1_i32_3 c0_i32_7
  let v19 : BitVec 32 := Scalar.extui v18
  let v20 : BitVec 32 := Scalar.subi v17 v19
  let v21 : BitVec 1 := Scalar.cmpi .ne v15 v20
  let v22 : BitVec 32 := Scalar.remsi v9 c1_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli v26 c1_i32_10
  let c8_i32_11 : BitVec 32 := 8#32
  let v28 : BitVec 32 := Scalar.divsi arg1 c8_i32_11
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .slt arg1 c0_i32_13
  let v32 : BitVec 32 := Scalar.extui v31
  let v33 : BitVec 32 := Scalar.subi v30 v32
  let c0_i32_14 : BitVec 32 := 0#32
  let v34 : BitVec 1 := Scalar.cmpi .sgt c8_i32_11 c0_i32_14
  let v35 : BitVec 32 := Scalar.extui v34
  let c0_i32_15 : BitVec 32 := 0#32
  let v36 : BitVec 1 := Scalar.cmpi .slt c8_i32_11 c0_i32_15
  let v37 : BitVec 32 := Scalar.extui v36
  let v38 : BitVec 32 := Scalar.subi v35 v37
  let v39 : BitVec 1 := Scalar.cmpi .ne v33 v38
  let v40 : BitVec 32 := Scalar.remsi arg1 c8_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let c1_i32_18 : BitVec 32 := 1#32
  let v45 : BitVec 32 := Scalar.muli v44 c1_i32_18
  let v46 : BitVec 32 := Scalar.addi v27 v45
  let c1_i32_19 : BitVec 32 := 1#32
  let c0_i32_20 : BitVec 32 := 0#32
  let v47 : BitVec 1 := Scalar.cmpi .eq c1_i32_19 c0_i32_20
  let c1_i32_21 : BitVec 32 := 1#32
  let v48 : BitVec 32 := Scalar.select v47 c1_i32_21 c1_i32_19
  let v49 : BitVec 32 := Scalar.remsi v9 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_25 : BitVec 32 := 0#32
  ![arg0.toNat, v57.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .f32⟩
  | .local _ .vmem, ⟨4, _⟩ => ⟨S1x1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S1024x4096, .f32⟩
  | .hbm, ⟨4, _⟩ => ⟨S4096x2048, .f32⟩
  | .hbm, ⟨5, _⟩ => ⟨S1024x2048, .f32⟩
  | .hbm, ⟨6, _⟩ => ⟨S1024x8x256, .f32⟩
  | .hbm, ⟨7, _⟩ => ⟨S8x1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel19.lean ====
abbrev S4096x4096 : Shape := ⟨2, ![4096, 4096]⟩
abbrev S4096x12288 : Shape := ⟨2, ![4096, 12288]⟩
abbrev S8x4096x1536 : Shape := ⟨3, ![8, 4096, 1536]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S8x4096x1536, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .f32⟩
  | .local _ .vmem, ⟨5, _⟩ => ⟨S1x1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x4096 : Shape := ⟨2, ![4096, 4096]⟩
abbrev S4096x12288 : Shape := ⟨2, ![4096, 12288]⟩
abbrev S4096x8x1536 : Shape := ⟨3, ![4096, 8, 1536]⟩
abbrev S8x4096x1536 : Shape := ⟨3, ![8, 4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .f32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x8x1536, .f32⟩
  | .hbm, ⟨7, _⟩ => ⟨S8x4096x1536, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel20.lean ====
abbrev S4096x4096 : Shape := ⟨2, ![4096, 4096]⟩
abbrev S8x4096x768 : Shape := ⟨3, ![8, 4096, 768]⟩
abbrev S4096x12288 : Shape := ⟨2, ![4096, 12288]⟩
abbrev S1024x4096 : Shape := ⟨2, ![1024, 4096]⟩
abbrev S1x4096x768 : Shape := ⟨3, ![1, 4096, 768]⟩
abbrev S1024x768 : Shape := ⟨2, ![1024, 768]⟩
abbrev S4096x768 : Shape := ⟨2, ![4096, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S8x4096x768, .bf16⟩
  | .hbm, ⟨2, _⟩ => ⟨S8x4096x768, .bf16⟩
  | .hbm, ⟨3, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S1x4096x768, .bf16⟩
  | .local _ .vmem, ⟨5, _⟩ => ⟨S1x4096x768, .bf16⟩
  | .local _ .vmem, ⟨6, _⟩ => ⟨S1024x768, .bf16⟩
  | .local _ .vmem, ⟨7, _⟩ => ⟨S1024x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg2.toNat, v29.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg1 c8_i32
  let c0_i32 : BitVec 32 := 0#32
  let c7_i32 : BitVec 32 := 7#32
  let v1 : BitVec 32 := Scalar.maxsi c0_i32 v0
  let v2 : BitVec 32 := Scalar.minsi c7_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let c0_i32_7 : BitVec 32 := 0#32
  let v20 : BitVec 1 := Scalar.cmpi .eq c1_i32_6 c0_i32_7
  let c1_i32_8 : BitVec 32 := 1#32
  let v21 : BitVec 32 := Scalar.select v20 c1_i32_8 c1_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, arg2.toNat, v29.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.divsi v9 c1_i32_3
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c0_i32_6 : BitVec 32 := 0#32
  let v16 : BitVec 1 := Scalar.cmpi .sgt c1_i32_3 c0_i32_6
  let v17 : BitVec 32 := Scalar.extui v16
  let c0_i32_7 : BitVec 32 := 0#32
  let v18 : BitVec 1 := Scalar.cmpi .slt c1_i32_3 c0_i32_7
  let v19 : BitVec 32 := Scalar.extui v18
  let v20 : BitVec 32 := Scalar.subi v17 v19
  let v21 : BitVec 1 := Scalar.cmpi .ne v15 v20
  let v22 : BitVec 32 := Scalar.remsi v9 c1_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let c8_i32_10 : BitVec 32 := 8#32
  let v28 : BitVec 32 := Scalar.divsi arg1 c8_i32_10
  let c0_i32_11 : BitVec 32 := 0#32
  let v29 : BitVec 1 := Scalar.cmpi .sgt arg1 c0_i32_11
  let v30 : BitVec 32 := Scalar.extui v29
  let c0_i32_12 : BitVec 32 := 0#32
  let v31 : BitVec 1 := Scalar.cmpi .slt arg1 c0_i32_12
  let v32 : BitVec 32 := Scalar.extui v31
  let v33 : BitVec 32 := Scalar.subi v30 v32
  let c0_i32_13 : BitVec 32 := 0#32
  let v34 : BitVec 1 := Scalar.cmpi .sgt c8_i32_10 c0_i32_13
  let v35 : BitVec 32 := Scalar.extui v34
  let c0_i32_14 : BitVec 32 := 0#32
  let v36 : BitVec 1 := Scalar.cmpi .slt c8_i32_10 c0_i32_14
  let v37 : BitVec 32 := Scalar.extui v36
  let v38 : BitVec 32 := Scalar.subi v35 v37
  let v39 : BitVec 1 := Scalar.cmpi .ne v33 v38
  let v40 : BitVec 32 := Scalar.remsi arg1 c8_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c1_i32_17 : BitVec 32 := 1#32
  let v45 : BitVec 32 := Scalar.muli v44 c1_i32_17
  let v46 : BitVec 32 := Scalar.addi v27 v45
  let c1_i32_18 : BitVec 32 := 1#32
  let c0_i32_19 : BitVec 32 := 0#32
  let v47 : BitVec 1 := Scalar.cmpi .eq c1_i32_18 c0_i32_19
  let c1_i32_20 : BitVec 32 := 1#32
  let v48 : BitVec 32 := Scalar.select v47 c1_i32_20 c1_i32_18
  let v49 : BitVec 32 := Scalar.remsi v9 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  ![arg0.toNat, v57.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x4096 : Shape := ⟨2, ![4096, 4096]⟩
abbrev S8x4096x768 : Shape := ⟨3, ![8, 4096, 768]⟩
abbrev S8x4096x1536 : Shape := ⟨3, ![8, 4096, 1536]⟩
abbrev S4096x8x1536 : Shape := ⟨3, ![4096, 8, 1536]⟩
abbrev S4096x12288 : Shape := ⟨2, ![4096, 12288]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x768, .bf16⟩
  | .hbm, ⟨2, _⟩ => ⟨S8x4096x768, .bf16⟩
  | .hbm, ⟨3, _⟩ => ⟨S8x4096x1536, .bf16⟩
  | .hbm, ⟨4, _⟩ => ⟨S8x4096x1536, .f32⟩
  | .hbm, ⟨5, _⟩ => ⟨S4096x8x1536, .f32⟩
  | .hbm, ⟨6, _⟩ => ⟨S4096x12288, .f32⟩
  | .hbm, ⟨7, _⟩ => ⟨S4096x4096, .f32⟩
  | .hbm, ⟨8, _⟩ => ⟨S4096x12288, .f32⟩
  | .hbm, ⟨9, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x2048 : Shape := ⟨2, ![4096, 2048]⟩
abbrev S8x1024x256 : Shape := ⟨3, ![8, 1024, 256]⟩
abbrev S4096x1024 : Shape := ⟨2, ![4096, 1024]⟩
abbrev S1024x512 : Shape := ⟨2, ![1024, 512]⟩
abbrev S2x1024x256 : Shape := ⟨3, ![2, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S2x1024x256, .bf16⟩
  | .local _ .vmem, ⟨3, _⟩ => ⟨S2x1024x256, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_8 : BitVec 32 := 0#32
  let v11 : BitVec 1 := Scalar.cmpi .ne v10 c0_i32_8
  v11

def k0_cond2 (i : grid0.Coords) : BitVec 1 :=
  let arg2 : BitVec 32 := BitVec.ofNat 32 (i 2).val
  let c0_i32_9 : BitVec 32 := 0#32
  let v12 : BitVec 1 := Scalar.cmpi .sgt arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x2048, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S2048x1024, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel22.lean ====
abbrev S4096x12288 : Shape := ⟨2, ![4096, 12288]⟩
abbrev S8x4096x768 : Shape := ⟨3, ![8, 4096, 768]⟩
abbrev S4096x4096 : Shape := ⟨2, ![4096, 4096]⟩
abbrev S1024x3072 : Shape := ⟨2, ![1024, 3072]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x12288, .bf16⟩
  | .hbm, ⟨1, _⟩ => ⟨S8x4096x768, .bf16⟩
  | .hbm, ⟨2, _⟩ => ⟨S8x4096x768, .bf16⟩
  | .hbm, ⟨3, _⟩ => ⟨S4096x4096, .f32⟩
  | .local _ .vmem, ⟨0, _⟩ => ⟨S1024x3072, .bf16⟩
  | .local _ .vmem, ⟨1, _⟩ => ⟨S1024x3072, .bf16⟩
  | .local _ .vmem, ⟨2, _⟩ => ⟨S2x1024x768, .bf16⟩
  | .local _ .vmem, ⟨3, _⟩ => ⟨S2x1024x768, .bf16⟩
  | .local _ .vmem, ⟨4, _⟩ => ⟨S2x1024x768, .bf16⟩
  | .local _ .vmem, ⟨5, _⟩ => ⟨S2x1024x768, .bf16⟩
  | .local _ .vmem, ⟨6, _⟩ => ⟨S1024x1024, .f32⟩
  | .local _ .vmem, ⟨7, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v19 : BitVec 1 := Scalar.cmpi .eq arg2 c0_i32
  let v20 : BitVec 32 := Scalar.extui v19
  let c0_i32_18 : BitVec 32 := 0#32
  let v21 : BitVec 1 := Scalar.cmpi .ne v20 c0_i32_18
  v21

def k0_cond2 (i : grid0.Coords) : BitVec 1 :=
  let arg2 : BitVec 32 := BitVec.ofNat 32 (i 2).val
  let c0_i32_19 : BitVec 32 := 0#32
  let v22 : BitVec 1 := Scalar.cmpi .sgt arg2 c0_i32_19
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x12288 : Shape := ⟨2, ![4096, 12288]⟩
abbrev S8x4096x768 : Shape := ⟨3, ![8, 4096, 768]⟩
abbrev S8x4096x1536 : Shape := ⟨3, ![8, 4096, 1536]⟩
abbrev S4096x8x1536 : Shape := ⟨3, ![4096, 8, 1536]⟩
abbrev S12288x4096 : Shape := ⟨2, ![12288, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S8x4096x768, .bf16⟩
  | .hbm, ⟨2, _⟩ => ⟨S8x4096x768, .bf16⟩
  | .hbm, ⟨3, _⟩ => ⟨S8x4096x1536, .bf16⟩
  | .hbm, ⟨4, _⟩ => ⟨S8x4096x1536, .f32⟩
  | .hbm, ⟨5, _⟩ => ⟨S4096x8x1536, .f32⟩
  | .hbm, ⟨6, _⟩ => ⟨S4096x12288, .f32⟩
  | .hbm, ⟨7, _⟩ => ⟨S4096x12288, .f32⟩
  | .hbm, ⟨8, _⟩ => ⟨S12288x4096, .f32⟩
  | .hbm, ⟨9, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Reals.lean ====
/- Finite extended reals: the ideal operations on the values of reals, and what a precondition "every element is finite"
   says of an array. -/
module

public import Idealize.ShloMosaic.Lib.ReduceAll
public import Idealize.ShloMosaic.PureOps.Ideal.Laws
public import Idealize.ShloMosaic.Lib.Pointwise

@[expose] public section

noncomputable section

namespace Cert.Reals

open Idealize.ShloMosaic

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem add_coe (a b : ℝ) : (a : EReal) + (b : EReal) = ((a + b : ℝ) : EReal) := rfl
theorem sub_coe (a b : ℝ) : (a : EReal) - (b : EReal) = ((a - b : ℝ) : EReal) := rfl
theorem mul_coe (a b : ℝ) : (a : EReal) * (b : EReal) = ((a * b : ℝ) : EReal) := (EReal.coe_mul a b).symm
theorem neg_coe (a : ℝ) : -(a : EReal) = ((-a : ℝ) : EReal) := rfl
theorem zero_coe : (0 : EReal) = ((0 : ℝ) : EReal) := rfl
theorem one_coe : (1 : EReal) = ((1 : ℝ) : EReal) := rfl

theorem div_coe (a b : ℝ) (h : b ≠ 0) : Ideal.div (a : EReal) (b : EReal) = ((a / b : ℝ) : EReal) := by
  rw [Ideal.div_coe h, mul_coe, mul_one_div]

theorem rsqrt_coe (a : ℝ) (h : 0 < a) : Ideal.rsqrt (a : EReal) = (((Real.sqrt a)⁻¹ : ℝ) : EReal) := by
  rw [Ideal.rsqrt_coe, if_neg (not_lt.2 h.le), if_neg h.ne']

/-- The value of a value between the infinities is a real's. -/
theorem exists_coe {x : EReal} (h : max x (-x) < ⊤) : ∃ r : ℝ, x = (r : EReal) := by
  refine ⟨x.toReal, (EReal.coe_toReal ?_ ?_).symm⟩
  · rintro rfl; simp at h
  · rintro rfl; simp at h

theorem ofBits_inf : Ideal.ofBits .f32 0x7F800000#32 = ⊤ := by simp [Ideal.ofBits, Ideal.ieee]

/-- An array every element of which passes the test `|x| < +∞` holds reals. -/
theorem exists_reals {s t u : Shape} {axes : List (Fin s.rank)} [Subsingleton t.Idx] (x : FVec Ideal s .f32)
    (inf : FVec Ideal s .f32) (hinf : ∀ i, inf i = ⊤) (init : u.Idx → BitVec 1) (h : s.ReducesTo axes t)
    (hu : 0 < u.numel) (j : t.Idx)
    (e : Host.reduce IntOp.andi (cmpf .olt (Host.absf x) inf) init h hu j = 1#1) :
    ∃ a : s.Idx → ℝ, x = fun i => (a i : EReal) := by
  have key : ∀ i, ∃ r : ℝ, x i = (r : EReal) := fun i => by
    have hi := Host.reduce_andi_all _ init h hu j e i
    refine exists_coe ?_
    have hc : Ideal.cmp .olt (max (x i : EReal) (-(x i : EReal))) (inf i) = 1#1 := hi
    rw [hinf i] at hc
    unfold Ideal.cmp at hc
    by_contra hn
    simp [hn] at hc
  exact ⟨fun i => (key i).choose, funext fun i => (key i).choose_spec⟩

/-- An index of a matrix is its two coordinates. -/
theorem ix2_self {a b : ℕ} (i : (⟨2, ![a, b]⟩ : Shape).Idx) : ix2 (i 0) (i 1) = i :=
  funext fun k => by match k with | ⟨0, _⟩ => rfl | ⟨1, _⟩ => rfl

end Cert.Reals

end
-- ==== Proof.RmsPre.lean ====
/- What the precondition `finite` says of the arrays it reads. -/
module

public import proofs.«01_k».proof.Proof.Reals
public import proofs.«01_k».proof.Proof.Gen.Pre_finite
public import Idealize.ShloMosaic.Lib.Pointwise

@[expose] public section

noncomputable section

namespace Cert.Pre_finite

open Idealize.ShloMosaic

instance : Subsingleton S_.Idx := ⟨fun a b => funext fun i => i.elim0⟩

theorem reals_of_fn (x dh dres : FVec Ideal S4096x4096 .f32) (g : FVec Ideal S4096 .f32)
    (h : fn (F := Ideal) x dh dres g = fun _ => 1#1) :
    (∃ a : S4096x4096.Idx → ℝ, x = fun i => (a i : EReal)) ∧ (∃ a : S4096x4096.Idx → ℝ, dh = fun i => (a i : EReal))
      ∧ ∃ a : S4096.Idx → ℝ, g = fun i => (a i : EReal) := by
  have h0 := congrFun h (Shape.Idx.first Facts.h_S_)
  obtain ⟨h1, h2⟩ := IntOp.andi_eq_one.1 h0
  obtain ⟨h3, h4⟩ := IntOp.andi_eq_one.1 h1
  exact ⟨Reals.exists_reals x _ (fun i => Reals.ofBits_inf) _ _ _ _ h3, Reals.exists_reals dh _ (fun i => Reals.ofBits_inf) _ _ _ _ h4,
    Reals.exists_reals g _ (fun i => Reals.ofBits_inf) _ _ _ _ h2⟩

end Cert.Pre_finite

end
-- ==== Proof.RmsMath.lean ====
/- The gradient of `x ↦ g · x / √(mean x² + ε)` over a row, in reals: the form a kernel computes it in and the form the
   derivative of the forward lines has. -/
module

public import proofs.«01_k».proof.Proof.Reals

@[expose] public section

noncomputable section

namespace Cert.Rms

open Idealize.ShloMosaic Cert.Reals

/-- The literal of the added constant, as the real it denotes. -/
def eps : ℝ := 8796093 * (2 : ℝ) ^ (-43 : ℤ)

theorem eps_pos : 0 < eps := by unfold eps; positivity

theorem ofBits_eps : Ideal.ofBits .f32 0x358637BD#32 = (eps : EReal) := by
  simp [Ideal.ofBits, Ideal.ieee, eps]

theorem ofBits_4096 : Ideal.ofBits .f32 0x45800000#32 = ((4096 : ℝ) : EReal) := by
  simp [Ideal.ofBits, Ideal.ieee]
  exact_mod_cast (by norm_num [zpow_neg] : (8388608 : ℝ) * (2 ^ 11)⁻¹ = 4096)

theorem ofBits_neg_half : Ideal.ofBits .f32 0xBF000000#32 = ((-(1 / 2) : ℝ) : EReal) := by
  simp [Ideal.ofBits, Ideal.ieee]
  exact_mod_cast (by norm_num [zpow_neg] : (8388608 : ℝ) * (2 ^ 24)⁻¹ = (2 : ℝ)⁻¹)

variable (x dh g : Fin 4096 → ℝ)

/-- The mean square of a row, plus the constant. -/
def ms : ℝ := (∑ k, x k * x k) / 4096 + eps

theorem ms_pos : 0 < ms x :=
  add_pos_of_nonneg_of_pos (div_nonneg (Finset.sum_nonneg fun k _ => mul_self_nonneg _) (by norm_num)) eps_pos

/-- One over the root of it. -/
def rr : ℝ := (Real.sqrt (ms x))⁻¹

theorem rr_sq : rr x * rr x * ms x = 1 := by
  unfold rr
  have h := ms_pos x
  have hs : Real.sqrt (ms x) ≠ 0 := (Real.sqrt_pos.2 h).ne'
  have := Real.mul_self_sqrt h.le
  field_simp
  nlinarith

/-- The row's gradient at lane `j`. -/
def gradx (j : Fin 4096) : ℝ := rr x * (dh j * g j - x j * rr x * ((∑ k, dh k * g k * (x k * rr x)) / 4096))

/-- The derivative's form of it. -/
theorem gradx_eq (j : Fin 4096) :
    dh j * g j * rr x + x j * ((∑ k, x k * (dh k * g k)) * (-(1 / 2) * (rr x / ms x)) / 4096)
      + (∑ k, x k * (dh k * g k)) * (-(1 / 2) * (rr x / ms x)) / 4096 * x j = gradx x dh g j := by
  unfold gradx
  have e : ∑ k, dh k * g k * (x k * rr x) = rr x * ∑ k, x k * (dh k * g k) := by
    rw [Finset.mul_sum]; exact Finset.sum_congr rfl fun k _ => by ring
  rw [e]
  have h := ms_pos x
  have hq : rr x / ms x = rr x * (rr x * rr x) := by
    rw [div_eq_iff h.ne', mul_assoc, rr_sq, mul_one]
  rw [hq]; ring

end Cert.Rms

end
-- ==== Proof.RmsRef.lean ====
/- The reference's results at finite arguments. -/
module

public import proofs.«01_k».proof.Proof.RmsMath
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Rms

open Idealize.ShloMosaic Cert.ReferenceIdeal Cert.ReferenceIdeal.Gen Cert.ReferenceIdeal.Read Cert.Reals Cert.Rms

variable (x dh : S4096x4096.Idx → ℝ) (g : S4096.Idx → ℝ) (r : FVec Ideal S4096x4096 .f32)

/-- Row `a` of a matrix. -/
abbrev row (x : S4096x4096.Idx → ℝ) (a : Fin 4096) : Fin 4096 → ℝ := fun k => x (ix2 a k)
/-- A vector's entries. -/
abbrev vec (g : S4096.Idx → ℝ) : Fin 4096 → ℝ := fun k => g (ix1 k)

theorem v6 (i : S4096x1.Idx) : val_main_v6 (F := Ideal) (fun i => (x i : EReal)) i = (ms (row x (i 0)) : EReal) := by
  pointwise [val_main_v6, val_main_v5, val_main_v4, val_main_v3, val_main_v2, val_main_v1, val_main_v0, val_main_cst, val_main_cst_0, val_main_cst_1]
  simp only [mul_coe, sum_coe, ofBits_4096, ofBits_eps, div_coe _ _ (show (4096 : ℝ) ≠ 0 by norm_num), add_coe]
  rfl

theorem v7 (i : S4096x1.Idx) : val_main_v7 (F := Ideal) (fun i => (x i : EReal)) i = (rr (row x (i 0)) : EReal) := by
  rw [val_main_v7_apply, v6, Ideal.hostUnary_rsqrt_def, Reals.rsqrt_coe _ (ms_pos _)]; rfl

theorem v10 (i : S4096x1.Idx) : val_main_v10 (F := Ideal) (fun i => (x i : EReal)) i
    = ((-(1 / 2) * (rr (row x (i 0)) / ms (row x (i 0))) : ℝ) : EReal) := by
  rw [val_main_v10_apply, val_main_v9_apply, val_main_v8_apply, v6, v7, val_main_cst_2_apply, Ideal.ofBits_def, ofBits_neg_half,
    Ideal.hostDivf_def, Ideal.mulf_def, Reals.div_coe _ _ (ms_pos _).ne', mul_coe]

theorem v31 (i : S4096x4096.Idx) : val_main_v31 (F := Ideal) (fun i => (x i : EReal)) (fun i => (dh i : EReal)) (fun i => (g i : EReal)) i
    = (((∑ k, row x (i 0) k * (row dh (i 0) k * vec g k)) * (-(1 / 2) * (rr (row x (i 0)) / ms (row x (i 0)))) / 4096 : ℝ) : EReal) := by
  pointwise [val_main_v31, val_main_v30, val_main_v29, val_main_v28, val_main_v27, val_main_v24, val_main_v23, val_main_v22, val_main_v20,
    val_main_v19, val_main_v13, val_main_cst_5, val_main_cst_6, val_main_cst_7, v10]
  simp only [mul_coe, sum_coe, ofBits_4096, v10, Fin.sum_univ_one, div_coe _ _ (show (4096 : ℝ) ≠ 0 by norm_num)]

theorem v36 (a b : Fin 4096) :
    val_main_v36 (F := Ideal) (fun i => (x i : EReal)) (fun i => (dh i : EReal)) r (fun i => (g i : EReal)) (ix2 a b)
      = r (ix2 a b) + (gradx (row x a) (row dh a) (vec g) b : EReal) := by
  rw [← gradx_eq]
  pointwise [val_main_v36, val_main_v35, val_main_v34, val_main_v33, val_main_v32, val_main_v26, val_main_v25, val_main_v20,
    val_main_v19, val_main_v13, v31, v7]
  simp only [v31, v7, mul_coe, add_coe]

theorem v38 (i : S1x4096.Idx) :
    val_main_v38 (F := Ideal) (fun i => (x i : EReal)) (fun i => (dh i : EReal)) i
      = ((∑ a : Fin 4096, dh (ix2 a (i 1)) * (x (ix2 a (i 1)) * rr (row x a)) : ℝ) : EReal) := by
  pointwise [val_main_v38, val_main_v21, val_main_v18, val_main_v17, val_main_v16, val_main_v12, val_main_v11, val_main_cst_3, val_main_cst_4]
  simp only [v7, mul_coe, sum_coe, Fin.sum_univ_one]
  refine congrArg _ (Finset.sum_congr rfl fun a _ => ?_)
  rw [mul_comm]
  rfl

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v37) = val_main_v36 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v38) = val_main_v38 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Rms

end
-- ==== Proof.RmsKernel.lean ====
/- The gradient of a norm over rows, as the kernel leaves it: its result arrays at finite arguments. -/
module

public import proofs.«01_k».proof.Proof.RmsMath
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Rms

open Cert.KernelIdeal Cert.KernelIdeal.Gen Cert.Reals Cert.Rms

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem pay3 (x : S128x4096.Idx → ℝ) (p : Fin 128) (j : Fin 4096) :
    k0_pay3 (F := Ideal) (fun i => (x i : EReal)) (ix2 p j) = ((x (ix2 p j) * rr (fun k => x (ix2 p k)) : ℝ) : EReal) := by
  pointwise [k0_pay3, k0_pay2]
  simp only [mul_coe, sum_coe, ofBits_4096, ofBits_eps, div_coe _ _ (show (4096 : ℝ) ≠ 0 by norm_num), add_coe]
  have e := Reals.rsqrt_coe _ (ms_pos fun k => x (ix2 p k))
  simp only [ms] at e
  rw [e, mul_coe]
  rfl

theorem pay4 (x dh : S128x4096.Idx → ℝ) (g : S1x4096.Idx → ℝ) (r : FVec Ideal S128x4096 .f32) (p : Fin 128) (j : Fin 4096) :
    k0_pay4 (F := Ideal) (fun i => (x i : EReal)) (fun i => (dh i : EReal)) (fun i => (g i : EReal)) r (ix2 p j)
      = r (ix2 p j) + (gradx (fun k => x (ix2 p k)) (fun k => dh (ix2 p k)) (fun k => g (ix2 0 k)) j : EReal) := by
  pointwise [k0_pay4, k0_pay2]
  simp only [pay3, mul_coe, sum_coe, ofBits_4096, ofBits_eps, div_coe _ _ (show (4096 : ℝ) ≠ 0 by norm_num), add_coe]
  have e := Reals.rsqrt_coe _ (ms_pos fun k => x (ix2 p k))
  simp only [ms] at e
  rw [e]
  simp only [mul_coe, sub_coe]
  rfl

theorem pay1 (x dh : S128x4096.Idx → ℝ) (g : FVec Ideal S1x4096 .f32) (q : Fin 1) (j : Fin 4096) :
    k0_pay1 (F := Ideal) (k0_pay3 (fun i => (x i : EReal))) (fun i => (dh i : EReal)) g (ix2 q j)
      = g (ix2 q j) + ((∑ p : Fin 128, dh (ix2 p j) * (x (ix2 p j) * rr (fun k => x (ix2 p k))) : ℝ) : EReal) := by
  pointwise [k0_pay1]
  simp only [pay3, mul_coe, sum_coe]

theorem pay6 (y : S1x4096.Idx) : k0_pay6 (F := Ideal) y = 0 := by pointwise [k0_pay6]

/-- Row `p` of block `t`. -/
def rowAt (t : Fin cfg0.N) (p : Fin 128) : Fin 4096 :=
  ⟨t.val * 128 + p.val, by have := lt_of_lt_of_eq t.isLt N_0; omega⟩

variable (m : (ℓ : Loc nD τ sig) → Buf (Elt Ideal) ℓ) (c : Dev nD)
variable (x dh : S4096x4096.Idx → ℝ) (g : S4096.Idx → ℝ)

theorem blk0 (hx : m ((c : Thread nD τ).loc main_arg0) = fun i => (x i : EReal)) (t : Fin cfg0.N) :
    iblk m c 0 t = fun y : S128x4096.Idx => (x (ix2 (rowAt t (y 0)) (y 1)) : EReal) := by
  funext y
  blk_simp [iblk]
  rw [show V m c main_arg0 = _ from (V_main_arg0 m c).trans hx]
  congr 2
  blk_ext [rowAt, idx t]

theorem blk1 (hx : m ((c : Thread nD τ).loc main_arg1) = fun i => (dh i : EReal)) (t : Fin cfg0.N) :
    iblk m c 1 t = fun y : S128x4096.Idx => (dh (ix2 (rowAt t (y 0)) (y 1)) : EReal) := by
  funext y
  blk_simp [iblk]
  rw [show V m c main_arg1 = _ from (V_main_arg1 m c).trans hx]
  congr 2
  blk_ext [rowAt, idx t]

theorem blk2 (t : Fin cfg0.N) (y : S128x4096.Idx) :
    (show FVec Ideal S128x4096 .f32 from iblk m c 2 t) y
      = (show FVec Ideal S4096x4096 .f32 from m ((c : Thread nD τ).loc main_arg2)) (ix2 (rowAt t (y 0)) (y 1)) := by
  blk_ext [iblk, V, rowAt, idx t]

theorem blk3 (hx : m ((c : Thread nD τ).loc main_arg3) = fun i => (g i : EReal)) (t : Fin cfg0.N) :
    iblk m c 3 t = fun y : S1x4096.Idx => (g (ix1 (y 1)) : EReal) := by
  funext y
  blk_simp [iblk]
  entry_read
  rw [hx]
  pointwise
  have e : (win0_3.blk t).view.emb y = ix2 (0 : Fin 1) (y 1) := by blk_ext [idx t]
  exact congrArg (fun j : Fin 4096 => ((g (ix1 j) : ℝ) : EReal)) (congrFun e 1)

/-- What point `t` writes of `dx`. -/
theorem dx_blk (hx : m ((c : Thread nD τ).loc main_arg0) = fun i => (x i : EReal))
    (hd : m ((c : Thread nD τ).loc main_arg1) = fun i => (dh i : EReal))
    (hg : m ((c : Thread nD τ).loc main_arg3) = fun i => (g i : EReal)) (t : Fin cfg0.N) (y : S128x4096.Idx) :
    k0_pay4 (F := Ideal) (iblk m c 0 t) (iblk m c 1 t) (iblk m c 3 t) (iblk m c 2 t) y
      = (show FVec Ideal S4096x4096 .f32 from m ((c : Thread nD τ).loc main_arg2)) (ix2 (rowAt t (y 0)) (y 1))
        + (gradx (fun k => x (ix2 (rowAt t (y 0)) k)) (fun k => dh (ix2 (rowAt t (y 0)) k)) (fun k => g (ix1 k)) (y 1) : EReal) := by
  obtain ⟨p, j, rfl⟩ : ∃ p j, y = ix2 p j := ⟨y 0, y 1, (ix2_self y).symm⟩
  rw [blk0 m c x hx, blk1 m c dh hd, blk3 m c g hg, pay4]
  exact congrArg (· + _) (blk2 m c t (ix2 p j))

theorem final4 (hx : m ((c : Thread nD τ).loc main_arg0) = fun i => (x i : EReal))
    (hd : m ((c : Thread nD τ).loc main_arg1) = fun i => (dh i : EReal))
    (hg : m ((c : Thread nD τ).loc main_arg3) = fun i => (g i : EReal)) :
    (dats m 0 c).arrAt 4 (cfgs 0).N = fun i : S4096x4096.Idx =>
      (show FVec Ideal S4096x4096 .f32 from m ((c : Thread nD τ).loc main_arg2)) i
        + (gradx (fun k => x (ix2 (i 0) k)) (fun k => dh (ix2 (i 0) k)) (fun k => g (ix1 k)) (i 1) : EReal) := by
  refine (dats m 0 c).arrAt_eq_of_covers 4 _ (by decide +kernel) fun t _ y => ?_
  have e : ((cfg0.win 4).blk t).view.emb y = ix2 (rowAt t (y 0)) (y 1) := by blk_ext [rowAt, idx t]
  rw [e]
  blk_simp
  rw [after0_4]
  by_cases h : t.val % 32 = 0
  · rw [outsAt0_A m c t h]
    frame_out
    exact dx_blk m c x dh g hx hd hg t y
  · rw [outsAt0_B m c t h]
    frame_out
    exact dx_blk m c x dh g hx hd hg t y

theorem final5 (hx : m ((c : Thread nD τ).loc main_arg0) = fun i => (x i : EReal))
    (hd : m ((c : Thread nD τ).loc main_arg1) = fun i => (dh i : EReal))
    (hg : m ((c : Thread nD τ).loc main_arg3) = fun i => (g i : EReal)) :
    (dats m 0 c).arrAt 5 (cfgs 0).N = fun i : S4096x4096.Idx =>
      (show FVec Ideal S4096x4096 .f32 from m ((c : Thread nD τ).loc main_arg2)) i
        + (gradx (fun k => x (ix2 (i 0) k)) (fun k => dh (ix2 (i 0) k)) (fun k => g (ix1 k)) (i 1) : EReal) := by
  refine (dats m 0 c).arrAt_eq_of_covers 5 _ (by decide +kernel) fun t _ y => ?_
  have e : ((cfg0.win 5).blk t).view.emb y = ix2 (rowAt t (y 0)) (y 1) := by blk_ext [rowAt, idx t]
  rw [e]
  blk_simp
  rw [after0_5]
  by_cases h : t.val % 32 = 0
  · rw [outsAt0_A m c t h]
    frame_out
    exact dx_blk m c x dh g hx hd hg t y
  · rw [outsAt0_B m c t h]
    frame_out
    exact dx_blk m c x dh g hx hd hg t y

theorem final6 (hx : m ((c : Thread nD τ).loc main_arg0) = fun i => (x i : EReal))
    (hd : m ((c : Thread nD τ).loc main_arg1) = fun i => (dh i : EReal)) :
    (dats m 0 c).arrAt 6 (cfgs 0).N = fun i : S1x4096.Idx =>
      ((∑ a : Fin 4096, dh (ix2 a (i 1)) * (x (ix2 a (i 1)) * rr (fun k => x (ix2 a k))) : ℝ) : EReal) := by
  refine (dats m 0 c).arrAt_eq_of_covers 6 _ (by decide +kernel) fun t hf y => ?_
  have e : ((cfg0.win 6).blk t).view.emb y = ix2 (0 : Fin 1) (y 1) := by blk_ext [idx t]
  rw [e]
  blk_simp
  rw [after0_6, Pipeline.eq_sum_fin_of_reset_step_apply_of_flush (fun n h => (outsAt0 m c n h).2.2) 32 (fun _ => 0)
    (fun p (j : S1x4096.Idx) => ((∑ q : Fin 128, dh (ix2 (rowAt p q) (j 1)) * (x (ix2 (rowAt p q) (j 1)) * rr (fun k => x (ix2 (rowAt p q) k))) : ℝ) : EReal))
    (fun t h j => by
      obtain ⟨q, j, rfl⟩ : ∃ a b, j = ix2 a b := ⟨j 0, j 1, (ix2_self j).symm⟩
      rw [outsAt0_A m c t h]; frame_out; rw [blk0 m c x hx, blk1 m c dh hd, pay1, pay6]; rfl)
    (fun t h j => by
      obtain ⟨q, j, rfl⟩ : ∃ a b, j = ix2 a b := ⟨j 0, j 1, (ix2_self j).symm⟩
      rw [outsAt0_B m c t h]; frame_out; rw [blk0 m c x hx, blk1 m c dh hd, pay1]; rfl)
    t ((flush0_6 t).mp hf) _, zero_add, sum_coe]
  refine congrArg _ ?_
  have ht : t.val / 32 = 0 := by have := lt_of_lt_of_eq t.isLt N_0; omega
  refine Fin.sum_mul_add_congr fun s k hl => ?_
  have : rowAt ⟨32 * (t.val / 32) + s.val, Pipeline.run_point_lt_of_flush t ((flush0_6 t).mp hf) s⟩ k = ⟨s.val * 128 + k.val, hl⟩ :=
    Fin.ext (by simp [rowAt, ht])
  rw [this]
  rfl

end Cert.KernelIdeal.Rms

end
-- ==== Proof.RmsClaim.lean ====
/- The gradient of the norm: the claims about `rms_bwd`. -/
module

public import proofs.«01_k».proof.Defs
public import proofs.«01_k».proof.Proof.Gen.KernelIdeal.Value
public import proofs.«01_k».proof.Proof.Gen.ReferenceIdeal.Run
public import proofs.«01_k».proof.Proof.RmsPre
public import proofs.«01_k».proof.Proof.RmsRef
public import proofs.«01_k».proof.Proof.RmsKernel

@[expose] public section

noncomputable section

namespace Cert.Rms

open Idealize.ShloMosaic Idealize.SL.Sem Cert.Reals

theorem frame_reference : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Rms.run m ρ)

theorem pair : Cert.algebraic_KernelIdeal_ReferenceIdeal_pre_finite := by
  intro m g m' g' hpre hag
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g,
    (θ_run Cert.ReferenceIdeal.defs _ _).mono (fun r h c => ?_) (Cert.ReferenceIdeal.Rms.run m' g')⟩
  obtain ⟨⟨x, hx⟩, ⟨dh, hd⟩, ⟨w, hw⟩⟩ := Cert.Pre_finite.reals_of_fn _ _ _ _ (hpre c)
  obtain ⟨a0, a1, a2, a3⟩ := hag c
  obtain ⟨h0, h1, h2, hk⟩ := h c
  refine ⟨h0.trans ?_,
    h1.trans ?_,
    h2.trans ?_, hk⟩
  · rw [a0, a1, a2, a3, hx, hd, hw]
    refine Eq.trans (funext fun i => ?_) (Cert.KernelIdeal.Rms.final4 m c x dh w hx hd hw).symm
    obtain ⟨p, j, rfl⟩ : ∃ p j, i = ix2 p j := ⟨i 0, i 1, (ix2_self i).symm⟩
    exact Cert.ReferenceIdeal.Rms.v36 x dh w _ p j
  · rw [a0, a1, a2, a3, hx, hd, hw]
    refine Eq.trans (funext fun i => ?_) (Cert.KernelIdeal.Rms.final5 m c x dh w hx hd hw).symm
    obtain ⟨p, j, rfl⟩ : ∃ p j, i = ix2 p j := ⟨i 0, i 1, (ix2_self i).symm⟩
    exact Cert.ReferenceIdeal.Rms.v36 x dh w _ p j
  · rw [a0, a1, hx, hd]
    refine Eq.trans (funext fun i => ?_) (Cert.KernelIdeal.Rms.final6 m c x dh hx hd).symm
    exact Cert.ReferenceIdeal.Rms.v38 x dh i

end Cert.Rms

end
-- ==== Proof.AttnRules.lean ====
/-
  Loads and stores at the head of a program, stated over what a memory reference reads: a load hands on the entries of
  the contents under the load's rectangle, a store leaves the written entries inside its rectangle and the old ones
  outside.
-/
module

public import proofs.«01_k».proof.Proof.Gen.Kernel2Ideal
public import Idealize.ShloMosaic.Lib.Tactic
public import Idealize.ShloMosaic.Lib.VecWindow
public import Idealize.ShloMosaic.Lib.WholeRead

@[expose] public section

noncomputable section

namespace Cert.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : ℕ} {τ : Topo} {sig : RefSig} {Val : EltTy → Type} {U : Type} [URA U] {Λ : Labels}

local notation "𝕄" => MT nD τ sig Unit Val ℕ U ℕ

variable {defs : Defs nD τ sig Val Λ} (𝒱 : Variants) (c : Dev nD) (bd : Option 𝒱.V) (E : Set ℕ)
variable {s : Shape} {e : EltTy} {α : Type}

/-- A load from a memory reference whose contents read `X` hands on `X` under the load's rectangle. -/
theorem wp_load_owns {m : Memref sig .tc .vmem s e} {r : LoadRect s} {hl : m.view.LoadsAt r}
    {k : (r.shape.Idx → Val e) → Prog (TpuEff nD τ sig Val Λ .tc) α} {q : PosShare TreeShare} {X : s.Idx → Val e}
    {Y : r.shape.Idx → Val e} {K : α → sProp 𝕄} (hY : ∀ y, X (r.idx y) = Y y) :
    (owns (c : Thread nD τ) m q X : sProp 𝕄)
      ⊢ iprop((owns (c : Thread nD τ) m q X -∗ wp frame (wpE defs 𝒱 (c : Thread nD τ) bd) E (k Y) K)
        -∗ wp frame (wpE defs 𝒱 (c : Thread nD τ) bd) E (.op (.load m r hl) k) K) := by
  iintro H Hk
  unfold owns
  icases H with ⟨%f, %hf, H⟩
  have hr : m.view.readAt Val r f = Y := by
    funext y; rw [View.readAt_apply, hf]; exact hY y
  iapply (wp_load 𝒱 (c : Thread nD τ) bd E (m := m) (View.setOn_subset_set _ _)) $$ H
  iintro H
  rw [hr]
  iapply Hk
  iexists f
  isplitr
  · ipureintro; exact hf
  · iexact H

/-- A store into a memory reference whose contents read `X`: afterwards they read any `Y` that has the stored entries
    inside the rectangle and agrees with `X` outside it. -/
theorem wp_store_owns {m : Memref sig .tc .vmem s e} {r : Rect s} {w : r.shape.Idx → Val e}
    {hx : (m.access r).Stores Finset.univ} {hm : Finset.univ = Finset.univ ∨ ∀ a, r.stride a = 1}
    {k : PUnit → Prog (TpuEff nD τ sig Val Λ .tc) α} {X Y : s.Idx → Val e} {K : α → sProp 𝕄}
    (hin : ∀ y, Y (r.emb y) = w y) (hout : ∀ y, (∀ x, r.emb x ≠ y) → Y y = X y) :
    (owns (c : Thread nD τ) m fullShare X : sProp 𝕄)
      ⊢ iprop((owns (c : Thread nD τ) m fullShare Y -∗ wp frame (wpE defs 𝒱 (c : Thread nD τ) bd) E (k ⟨⟩) K)
        -∗ wp frame (wpE defs 𝒱 (c : Thread nD τ) bd) E (.op (.store m r w Finset.univ hx hm) k) K) := by
  iintro H Hk
  unfold owns
  icases H with ⟨%f, %hf, H⟩
  iapply (wp_store 𝒱 (c : Thread nD τ) bd E (m := m) (r := r) (Mk := Finset.univ)
    (Finset.Subset.trans (View.setOn_subset_set _ _) (View.set_slice_subset _ r))) $$ H
  iintro H
  iapply Hk
  iexists ((m.access r).write Val f w Finset.univ)
  isplitr
  · ipureintro
    funext y
    by_cases hy : ∃ x, r.emb x = y
    · obtain ⟨x, rfl⟩ := hy
      exact (View.read_slice_write_emb r f w (Finset.mem_univ x)).trans (hin x).symm
    · refine (View.read_slice_write_of_not_mem r f w Finset.univ fun h => hy ?_).trans ?_
      · obtain ⟨x, -, hx⟩ := Finset.mem_map.mp h; exact ⟨x, hx⟩
      · rw [hf]; exact (hout y fun x hx => hy ⟨x, hx⟩).symm
  · iexact H

/-- A load over the whole shape hands on the contents. -/
theorem load_full {off : Fin s.rank → ℕ} (inb : ∀ a, off a + s.size a ≤ s.size a) (X : s.Idx → Val e) :
    ∀ y, X ((Rect.unit off s.size inb).toLoadRect.idx y) = X y :=
  fun y => congrArg X (Rect.emb_unit_full inb y)

/-- A store over the whole shape leaves what it stores. -/
theorem wp_store_full {m : Memref sig .tc .vmem s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ .tc) α} {X : s.Idx → Val e} {K : α → sProp 𝕄} :
    (owns (c : Thread nD τ) m fullShare X : sProp 𝕄)
      ⊢ iprop((owns (c : Thread nD τ) m fullShare w -∗ wp frame (wpE defs 𝒱 (c : Thread nD τ) bd) E (k ⟨⟩) K)
        -∗ wp frame (wpE defs 𝒱 (c : Thread nD τ) bd) E (.op (.store m (Rect.unit off s.size inb) w Finset.univ hx hm) k) K) :=
  wp_store_owns 𝒱 c bd E (fun y => congrArg w (Rect.emb_unit_full inb y))
    (fun y h => absurd (Rect.emb_unit_full inb y) (h y))

end

end Cert.Attn

end
-- ==== Proof.AttnFwdBody.lean ====
/-
  The forward attention call's body.  A point of the grid takes a head's 256 queries: the diagonal block of 256 keys
  first, then a loop over the blocks to its left, from the diagonal outwards, which carries the output so far and each
  query's sum of logarithms.  `sweep0` is that loop as a function; the label's specification says that it leaves the
  two carried buffers at `sweep0`.
-/
module

public import proofs.«01_k».proof.Proof.Gen.Kernel2Ideal.Skeleton
public import proofs.«01_k».proof.Proof.AttnRules
public import Idealize.ShloMosaic.Lib.Pointwise

@[expose] public section

noncomputable section

namespace Cert.Attn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Variants of the calls of a label: the number of blocks left. -/
abbrev 𝒱₀ : Variants := Variants.nat

/-- Row `256 n + y` of an array of 4096 rows. -/
def rowIx (n : ℕ) (y : S256x128.Idx) : S4096x128.Idx :=
  ix2 (⟨(256 * n + (y 0).val) % 4096, Nat.mod_lt _ (by decide)⟩ : Fin 4096) (⟨(y 1).val, (y 1).isLt⟩ : Fin 128)

/-- The `n`-th block of 256 rows. -/
def rows {e : EltTy} (K : Vec F S4096x128 e) (n : ℕ) : Vec F S256x128 e := fun y => K (rowIx n y)

theorem unit_idx_rows {off : Fin 2 → ℕ} (inb : ∀ a, off a + S256x128.size a ≤ S4096x128.size a) (n : ℕ)
    (ho : off = ![256 * n, 0]) (y : S256x128.Idx) : (Rect.unit (s := S4096x128) off S256x128.size inb).toLoadRect.idx y = rowIx n y := by
  subst ho
  have h0 : 256 * n + 256 ≤ 4096 := inb 0
  have hy : (y 0).val < 256 := (y 0).isLt
  funext a
  fin_cases a
  · refine Fin.ext ?_
    show 256 * n + 1 * (y 0).val = (256 * n + (y 0).val) % 4096
    rw [Nat.mod_eq_of_lt (by omega)]; omega
  · refine Fin.ext ?_
    show 0 + 1 * (y 1).val = (y 1).val
    omega

theorem load_rows {e : EltTy} {off : Fin 2 → ℕ} (inb : ∀ a, off a + S256x128.size a ≤ S4096x128.size a) (n : ℕ)
    (ho : off = ![256 * n, 0]) (K : Vec F S4096x128 e) :
    ∀ y, K ((Rect.unit (s := S4096x128) off S256x128.size inb).toLoadRect.idx y) = rows K n y :=
  fun y => congrArg K (unit_idx_rows inb n ho y)

/-! ### The words of the loop -/

theorem toNat_mul_256 (n : ℕ) (h : n < 16) : (BitVec.ofNat 32 n * 256#32).toNat = 256 * n := by
  simp [BitVec.toNat_mul, BitVec.toNat_ofNat]
  omega

theorem off1_eq (i : grid0.Coords) : k0_off1 i = ![256 * (i 1).val, 0] := by
  have h : (i 1).val < 16 := (i 1).isLt
  show ![(BitVec.ofNat 32 (i 1).val * 256#32).toNat, 0] = _
  rw [toNat_mul_256 _ h]

/-- The block's number as the loop counts it: one below the number of blocks left. -/
abbrev ctr (n : ℕ) : BitVec 32 := Scalar.subi (BitVec.ofNat 32 n) 1#32

theorem ctr_succ (n : ℕ) : ctr (n + 1) = BitVec.ofNat 32 n := by
  show BitVec.ofNat 32 (n + 1) - 1#32 = _
  apply BitVec.eq_of_toNat_eq
  simp [BitVec.toNat_sub, BitVec.toNat_ofNat]
  omega

theorem off2_eq (n : ℕ) (h : n < 16) : k0_off2 (BitVec.ofNat 32 n) = ![256 * n, 0] := by
  show ![(BitVec.ofNat 32 n * 256#32).toNat, 0] = _
  rw [toNat_mul_256 _ h]

theorem chk1 (n : ℕ) (h : n < 16) : k0_chk1 (BitVec.ofNat 32 n) := by
  refine ⟨?_, ?_⟩
  · show 256 ∣ (BitVec.ofNat 32 n * 256#32).toNat
    rw [toNat_mul_256 _ h]; exact ⟨n, rfl⟩
  · rw [off2_eq n h]; intro a; fin_cases a
    · show 256 * n + 256 ≤ 4096; omega
    · show 0 + 128 ≤ 128; omega

theorem andi_true {x y : BitVec 1} : Scalar.andi x y = 1#1 ↔ x = 1#1 ∧ y = 1#1 := by
  unfold Scalar.andi; revert x y; decide

theorem sge_ctr (n : ℕ) (h : n < 16) : Scalar.cmpi .sge (BitVec.ofNat 32 n) 0#32 = 1#1 := by
  interval_cases n <;> decide

theorem not_sge : ¬ Scalar.cmpi .sge (ctr 0) 0#32 = 1#1 := by decide

/-! ### The loop -/

/-- The loop's exit threshold. -/
abbrev thr : F .f32 := Named.named κ "threshold" 0xC2C80000#32

section Label

variable (c : Dev nD) (i : grid0.Coords)
  (a7 : Memref sig .tc .vmem S4096x128 .bf16) (ha7 : a7.IsWhole) (a8 : Memref sig .tc .vmem S4096x128 .bf16) (ha8 : a8.IsWhole)
  (a10 : Memref sig .tc .vmem S256x1 .f32) (ha10 : a10.IsWhole) (a5 : Memref sig .tc .vmem S256x256 .bf16) (ha5 : a5.IsWhole)
  (a9 : Memref sig .tc .vmem S256x128 .f32) (ha9 : a9.IsWhole)
  (kb vb : Vec F S4096x128 .bf16) (tri : Vec F S256x256 .bf16) (v7 : FVec F S256x128 .bf16)

/-- The output and the sums after the block `n`. -/
def step0 (n : ℕ) (p : Vec F S256x128 .f32 × Vec F S256x1 .f32) : Vec F S256x128 .f32 × Vec F S256x1 .f32 :=
  (k0_pay2 p.1 (k0_pay23 v7 (rows kb n) (rows vb n) p.2 tri), k0_pay4 (k0_pay22 v7 (rows kb n)) p.2)

/-- Whether the loop goes on after the block `n`. -/
def more0 (n : ℕ) (p : Vec F S256x128 .f32 × Vec F S256x1 .f32) : BitVec 1 :=
  Scalar.cmpf .ogt (k0_pay5 (k0_pay22 v7 (rows kb n)) p.2) thr

/-- The loop with `n` blocks left, entered with the flag `f`. -/
def sweep0 : ℕ → BitVec 1 → Vec F S256x128 .f32 × Vec F S256x1 .f32 → Vec F S256x128 .f32 × Vec F S256x1 .f32
  | 0, _, p => p
  | n + 1, f, p => if f = 1#1 then sweep0 n (more0 kb v7 n p) (step0 kb vb tri v7 n p) else p

/-- What the label's function reads and writes. -/
def held0 (p : Vec F S256x128 .f32 × Vec F S256x1 .f32) : sProp 𝕄 :=
  iprop(owns (c : Thread nD τ) a7 fullShare kb ∗ owns (c : Thread nD τ) a8 fullShare vb
    ∗ owns (c : Thread nD τ) a5 fullShare tri
    ∗ owns (c : Thread nD τ) a9 fullShare p.1 ∗ owns (c : Thread nD τ) a10 fullShare p.2)

/-- The label's specification with `n` blocks left. -/
def label0 (n : ℕ) (f : BitVec 1) (p : Vec F S256x128 .f32 × Vec F S256x1 .f32) : sWPT 𝕄 (BitVec 32 × BitVec 1) := do
  sWPT.consume (held0 c a7 a8 a10 a5 a9 kb vb tri p)
  let r ← sWPT.arbitrary
  sWPT.produce (held0 c a7 a8 a10 a5 a9 kb vb tri (sweep0 kb vb tri v7 n f p))
  pure r

theorem label0_apply (n : ℕ) (f : BitVec 1) (p : Vec F S256x128 .f32 × Vec F S256x1 .f32) (K : BitVec 32 × BitVec 1 → sProp 𝕄) :
    label0 c a7 a8 a10 a5 a9 kb vb tri v7 n f p K
      = iprop(held0 c a7 a8 a10 a5 a9 kb vb tri p ∗ ∀ r : BitVec 32 × BitVec 1,
          held0 c a7 a8 a10 a5 a9 kb vb tri (sweep0 kb vb tri v7 n f p) -∗ K r) := rfl

theorem label0_le (E : Set ℕ) : ∀ n, n ≤ 15 → ∀ f p K, label0 c a7 a8 a10 a5 a9 kb vb tri v7 n f p K
    ⊢ wp frame (wpE (defs₀ (F := F)) 𝒱₀ (c : Thread nD τ) (some n)) E
        (defs₀ (F := F) .tc 2 ⟨i, a7, ha7, a8, ha8, a10, ha10, a5, ha5, v7, a9, ha9, ctr n, f⟩) K := by
  intro n
  induction n with
  | zero =>
    intro _ f p K
    rw [label0_apply]
    show _ ⊢ wp frame (wpE (defs₀ (F := F)) 𝒱₀ (c : Thread nD τ) (some 0)) E
      (cc0_while1 i a7 ha7 a8 ha8 a10 ha10 a5 ha5 v7 a9 ha9 (ctr 0) f) K
    simp only [cc0_while1_eq_skeleton]; unfold cc0_while1_skel
    have ht : ¬ Scalar.andi (Scalar.cmpi .sge (ctr 0) 0#32) f = 1#1 := fun h => not_sge (andi_true.1 h).1
    simp only [ht, ↓reduceIte, Prog.pure_eq_ret]
    iintro ⟨H, Hk⟩
    rw [wp_ret]; imodintro
    iapply Hk
    rw [sweep0]
    iexact H
  | succ n ih =>
    intro hn f p K
    have hn' : n < 16 := by omega
    rw [label0_apply]
    show _ ⊢ wp frame (wpE (defs₀ (F := F)) 𝒱₀ (c : Thread nD τ) (some (n + 1))) E
      (cc0_while1 i a7 ha7 a8 ha8 a10 ha10 a5 ha5 v7 a9 ha9 (ctr (n + 1)) f) K
    simp only [cc0_while1_eq_skeleton]; unfold cc0_while1_skel
    rw [ctr_succ]
    by_cases hf : f = 1#1
    · have ht : Scalar.andi (Scalar.cmpi .sge (BitVec.ofNat 32 n) 0#32) f = 1#1 := andi_true.2 ⟨sge_ctr n hn', hf⟩
      simp only [ht, ↓reduceIte, k0_part3_eq_skeleton, k0_part3_skel, Prog.lift, Prog.bind_op, Prog.bind_ret, Prog.pure_eq_ret]
      unfold held0
      iintro ⟨⟨H7, H8, H5, H9, H10⟩, Hk⟩
      iapply (wp_assume 𝒱₀ (c : Thread nD τ) (some (n + 1)) E (chk1 n hn'))
      iapply (wp_load_owns 𝒱₀ c (some (n + 1)) E (load_rows _ n (off2_eq n hn') kb)) $$ H7; iintro H7
      iapply (wp_load_owns 𝒱₀ c (some (n + 1)) E (load_rows _ n (off2_eq n hn') vb)) $$ H8; iintro H8
      iapply (wp_load_owns 𝒱₀ c (some (n + 1)) E (load_full _ p.2)) $$ H10; iintro H10
      iapply (wp_load_owns 𝒱₀ c (some (n + 1)) E (load_full _ tri)) $$ H5; iintro H5
      iapply (wp_load_owns 𝒱₀ c (some (n + 1)) E (load_full _ p.1)) $$ H9; iintro H9
      iapply (wp_load_owns 𝒱₀ c (some (n + 1)) E (load_full _ p.1)) $$ H9; iintro H9
      iapply (wp_store_full 𝒱₀ c (some (n + 1)) E) $$ H9; iintro H9
      iapply (wp_load_owns 𝒱₀ c (some (n + 1)) E (load_full _ p.2)) $$ H10; iintro H10
      iapply (wp_load_owns 𝒱₀ c (some (n + 1)) E (load_full _ p.2)) $$ H10; iintro H10
      iapply (wp_store_full 𝒱₀ c (some (n + 1)) E) $$ H10; iintro H10
      iapply (wp_call_spec 𝒱₀ (c : Thread nD τ) (some (n + 1)) E
        (label0 c a7 a8 a10 a5 a9 kb vb tri v7 n (more0 kb v7 n p) (step0 kb vb tri v7 n p)) n
        (fun u hu => by cases hu; exact Nat.lt_succ_self n) (ih (by omega) _ _))
      rw [label0_apply]; unfold held0
      isplitl [H7 H8 H5 H9 H10]
      · isplitl [H7]; · iexact H7
        isplitl [H8]; · iexact H8
        isplitl [H5]; · iexact H5
        isplitl [H9]; · iexact H9
        iexact H10
      iintro %r H
      rw [wp_ret]; imodintro
      iapply Hk
      rw [sweep0, if_pos hf]
      iexact H
    · have ht : ¬ Scalar.andi (Scalar.cmpi .sge (BitVec.ofNat 32 n) 0#32) f = 1#1 := fun h => hf (andi_true.1 h).2
      simp only [ht, ↓reduceIte, Prog.pure_eq_ret]
      iintro ⟨H, Hk⟩
      rw [wp_ret]; imodintro
      iapply Hk
      rw [sweep0, if_neg hf]
      iexact H

end Label

/-! ### The body -/

/-- The first block's state: the diagonal block, masked to the keys before each query. -/
def first0 (q : Vec F S256x128 .bf16) (kb vb : Vec F S4096x128 .bf16) (tri : Vec F S256x256 .bf16) (n : ℕ) :
    Vec F S256x128 .f32 × Vec F S256x1 .f32 :=
  (k0_pay16 (rows vb n) k0_pay10 (k0_pay11 tri) (k0_pay12 q (rows kb n)) (k0_pay13 q (rows kb n)) (Scalar.ofBits .f32 0x00000000#32) k0_pay9,
    k0_pay18 (k0_pay12 q (rows kb n)) (k0_pay13 q (rows kb n)) k0_pay10)

/-- Whether the loop is entered after it. -/
def enter0 (q : Vec F S256x128 .bf16) (kb : Vec F S4096x128 .bf16) (n : ℕ) : BitVec 1 :=
  Scalar.cmpf .ogt (k0_pay1 (k0_pay19 (k0_pay12 q (rows kb n)) (k0_pay13 q (rows kb n)) k0_pay10)) thr

/-- What a point leaves of its 256 queries `q`, the `n`-th block of a head with keys `kb` and values `vb`. -/
def fwd0 (q : Vec F S256x128 .bf16) (kb vb : Vec F S4096x128 .bf16) (tri : Vec F S256x256 .bf16) (n : ℕ) :
    Vec F S256x128 .f32 × Vec F S256x1 .f32 :=
  sweep0 kb vb tri (k0_pay8 q) n (enter0 q kb n) (first0 q kb vb tri n)

section Body

variable (c : Dev nD) (i : grid0.Coords)
  (a2 : Memref sig .tc .vmem S256x128 .bf16) (ha2 : a2.IsWhole)
  (a3 : Memref sig .tc .vmem S4096x128 .bf16) (ha3 : a3.IsWhole) (a4 : Memref sig .tc .vmem S4096x128 .bf16) (ha4 : a4.IsWhole)
  (a5 : Memref sig .tc .vmem S256x256 .bf16) (ha5 : a5.IsWhole) (a6 : Memref sig .tc .vmem S256x128 .f32) (ha6 : a6.IsWhole)
  (a7 : Memref sig .tc .vmem S4096x128 .bf16) (ha7 : a7.IsWhole) (a8 : Memref sig .tc .vmem S4096x128 .bf16) (ha8 : a8.IsWhole)
  (a9 : Memref sig .tc .vmem S256x128 .f32) (ha9 : a9.IsWhole) (a10 : Memref sig .tc .vmem S256x1 .f32) (ha10 : a10.IsWhole)
  (q : Vec F S256x128 .bf16) (k v : Vec F S4096x128 .bf16) (tri : Vec F S256x256 .bf16)

/-- The condition under which the body copies the head's keys and values. -/
abbrev head0 (i : grid0.Coords) : Prop :=
  Scalar.cmpi .ne (Scalar.extui (Scalar.cmpi .eq (BitVec.ofNat 32 (i 1).val) 0#32)) 0#32 = (1#1 : BitVec 1)

/-- The five staging buffers and the four scratch buffers, the output, the accumulator and the sums at `o`, `A`, `R`. -/
def body0 (kb vb : Vec F S4096x128 .bf16) (o A : Vec F S256x128 .f32) (R : Vec F S256x1 .f32) : sProp 𝕄 :=
  iprop(owns (c : Thread nD τ) a2 fullShare q ∗ owns (c : Thread nD τ) a3 fullShare k ∗ owns (c : Thread nD τ) a4 fullShare v
    ∗ owns (c : Thread nD τ) a5 fullShare tri ∗ owns (c : Thread nD τ) a6 fullShare o
    ∗ owns (c : Thread nD τ) a7 fullShare kb ∗ owns (c : Thread nD τ) a8 fullShare vb
    ∗ owns (c : Thread nD τ) a9 fullShare A ∗ owns (c : Thread nD τ) a10 fullShare R)

/-- After the copies, whether taken or not, the body runs to `fwd0`. -/
theorem body0_run (kb vb kb' vb' : Vec F S4096x128 .bf16) (o A : Vec F S256x128 .f32) (R : Vec F S256x1 .f32)
    (hpos : head0 i → kb' = k0_pay6 k ∧ vb' = k0_pay7 v) (hneg : ¬ head0 i → kb' = kb ∧ vb' = vb)
    (E : Set ℕ) (K : PUnit → sProp 𝕄) :
    iprop(body0 c a2 a3 a4 a5 a6 a7 a8 a9 a10 q k v tri kb vb o A R
        ∗ (body0 c a2 a3 a4 a5 a6 a7 a8 a9 a10 q k v tri kb' vb' (fwd0 q kb' vb' tri (i 1).val).1
            (fwd0 q kb' vb' tri (i 1).val).1 (fwd0 q kb' vb' tri (i 1).val).2 -∗ K ⟨⟩))
      ⊢ wp frame (wpE (defs₀ (F := F)) 𝒱₀ (c : Thread nD τ) none) E
          (cc0_l0_attn_fwd i a2 ha2 a3 ha3 a4 ha4 a5 ha5 a6 ha6 a7 ha7 a8 ha8 a9 ha9 a10 ha10) K := by
  have hi : (i 1).val < 16 := (i 1).isLt
  simp only [cc0_l0_attn_fwd_eq_skeleton]; unfold cc0_l0_attn_fwd_skel
  simp only [k0_part1_eq_skeleton, k0_part2_eq_skeleton, k0_part1_skel, k0_part2_skel]
  by_cases h : head0 i
  case' pos =>
    obtain ⟨rfl, rfl⟩ := hpos h
    rw [dif_pos h]
    simp only [Prog.lift, Prog.bind_op, Prog.bind_ret, Prog.pure_eq_ret]
    unfold body0
    iintro ⟨⟨H2, H3, H4, H5, H6, H7, H8, H9, H10⟩, Hk⟩
    iapply (wp_load_owns 𝒱₀ c none E (load_full _ _)) $$ H3; iintro H3
    iapply (wp_load_owns 𝒱₀ c none E (load_full _ _)) $$ H7; iintro H7
    iapply (wp_store_full 𝒱₀ c none E) $$ H7; iintro H7
    iapply (wp_load_owns 𝒱₀ c none E (load_full _ _)) $$ H4; iintro H4
    iapply (wp_load_owns 𝒱₀ c none E (load_full _ _)) $$ H8; iintro H8
    iapply (wp_store_full 𝒱₀ c none E) $$ H8; iintro H8
  case' neg =>
    obtain ⟨rfl, rfl⟩ := hneg h
    rw [dif_neg h]
    simp only [Prog.lift, Prog.bind_op, Prog.bind_ret, Prog.pure_eq_ret]
    unfold body0
    iintro ⟨⟨H2, H3, H4, H5, H6, H7, H8, H9, H10⟩, Hk⟩
  all_goals
    iapply (wp_load_owns 𝒱₀ c none E (load_full _ _)) $$ H2; iintro H2
    iapply (wp_load_owns 𝒱₀ c none E (load_full _ _)) $$ H9; iintro H9
    iapply (wp_store_full 𝒱₀ c none E) $$ H9; iintro H9
    iapply (wp_load_owns 𝒱₀ c none E (load_full _ _)) $$ H10; iintro H10
    iapply (wp_store_full 𝒱₀ c none E) $$ H10; iintro H10
    iapply (wp_load_owns 𝒱₀ c none E (load_rows _ (i 1).val (off1_eq i) _)) $$ H7; iintro H7
    iapply (wp_load_owns 𝒱₀ c none E (load_rows _ (i 1).val (off1_eq i) _)) $$ H8; iintro H8
    iapply (wp_load_owns 𝒱₀ c none E (load_full _ _)) $$ H10; iintro H10
    iapply (wp_load_owns 𝒱₀ c none E (load_full _ _)) $$ H5; iintro H5
    iapply (wp_load_owns 𝒱₀ c none E (load_full _ _)) $$ H9; iintro H9
    iapply (wp_load_owns 𝒱₀ c none E (load_full _ _)) $$ H9; iintro H9
    iapply (wp_store_full 𝒱₀ c none E) $$ H9; iintro H9
    iapply (wp_load_owns 𝒱₀ c none E (load_full _ _)) $$ H10; iintro H10
    iapply (wp_load_owns 𝒱₀ c none E (load_full _ _)) $$ H10; iintro H10
    iapply (wp_store_full 𝒱₀ c none E) $$ H10; iintro H10
    iapply (wp_call_spec 𝒱₀ (c : Thread nD τ) none E
      (label0 c a7 a8 a10 a5 a9 _ _ tri (k0_pay8 q) (i 1).val (enter0 q _ (i 1).val) (first0 q _ _ tri (i 1).val)) (i 1).val
      (fun u hu => nomatch hu) (label0_le c i a7 ha7 a8 ha8 a10 ha10 a5 ha5 a9 ha9 _ _ tri _ E (i 1).val (by omega) _ _))
    rw [label0_apply]; unfold held0
    isplitl [H7 H8 H5 H9 H10]
    · isplitl [H7]; · iexact H7
      isplitl [H8]; · iexact H8
      isplitl [H5]; · iexact H5
      isplitl [H9]; · iexact H9
      iexact H10
    iintro %r ⟨H7, H8, H5, H9, H10⟩
    iapply (wp_load_owns 𝒱₀ c none E (load_full _ _)) $$ H9; iintro H9
    iapply (wp_load_owns 𝒱₀ c none E (load_full _ _)) $$ H6; iintro H6
    iapply (wp_store_full 𝒱₀ c none E) $$ H6; iintro H6
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.Attn

end
-- ==== Proof.AttnBwdBody.lean ====
/-
  The backward attention call's body.  A point of the grid takes a head's 256 queries with their output and its
  cotangent: the diagonal block of 256 keys first, then a loop over the blocks to its left, from the diagonal outwards.
  The loop carries the queries' gradient, the keys' and values' gradients of the whole head, each query's sum of
  logarithms and its sum of weighted cotangents.  `sweep1` is that loop as a function; the label's specification says
  that it leaves the five carried buffers at `sweep1`.
-/
module

public import proofs.«01_k».proof.Proof.AttnFwdBody

@[expose] public section

noncomputable section

namespace Cert.Attn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The array `D` with its `n`-th block of 256 rows replaced by `w`. -/
def setRows (D : Vec F S4096x128 .f32) (n : ℕ) (w : Vec F S256x128 .f32) : Vec F S4096x128 .f32 := fun y =>
  if (y 0).val / 256 = n then
    w (ix2 (⟨(y 0).val % 256, Nat.mod_lt _ (by decide)⟩ : Fin 256) (⟨(y 1).val, (y 1).isLt⟩ : Fin 128)) else D y

theorem setRows_in {off : Fin 2 → ℕ} (inb : ∀ a, off a + S256x128.size a ≤ S4096x128.size a) (n : ℕ)
    (ho : off = ![256 * n, 0]) (D : Vec F S4096x128 .f32) (w : Vec F S256x128 .f32) (y : S256x128.Idx) :
    setRows D n w ((Rect.unit (s := S4096x128) off S256x128.size inb).emb y) = w y := by
  have e : (Rect.unit (s := S4096x128) off S256x128.size inb).emb y = rowIx n y := unit_idx_rows inb n ho y
  subst ho
  have h0 : 256 * n + 256 ≤ 4096 := inb 0
  have hy : (y 0).val < 256 := (y 0).isLt
  have e0 : (rowIx n y 0).val = 256 * n + (y 0).val := Nat.mod_eq_of_lt (by omega)
  rw [e]
  unfold setRows
  rw [if_pos (by rw [e0]; omega)]
  congr 1
  funext a
  fin_cases a
  · refine Fin.ext ?_
    show (rowIx n y 0).val % 256 = (y 0).val
    rw [e0]; omega
  · rfl

theorem setRows_out {off : Fin 2 → ℕ} (inb : ∀ a, off a + S256x128.size a ≤ S4096x128.size a) (n : ℕ)
    (ho : off = ![256 * n, 0]) (D : Vec F S4096x128 .f32) (w : Vec F S256x128 .f32) (y : S4096x128.Idx)
    (h : ∀ x, (Rect.unit (s := S4096x128) off S256x128.size inb).emb x ≠ y) : setRows D n w y = D y := by
  unfold setRows
  refine if_neg fun hd => ?_
  have hlt : (y 0).val < 4096 := (y 0).isLt
  refine h (ix2 (⟨(y 0).val % 256, Nat.mod_lt _ (by decide)⟩ : Fin 256) (⟨(y 1).val, (y 1).isLt⟩ : Fin 128)) ?_
  refine (unit_idx_rows inb n ho _).trans ?_
  funext a
  fin_cases a
  · refine Fin.ext ?_
    show (256 * n + (y 0).val % 256) % 4096 = (y 0).val
    omega
  · rfl

/-! ### The words of the loop -/

theorem off1_eq' (i : grid1.Coords) : k1_off1 i = ![256 * (i 1).val, 0] := by
  have h : (i 1).val < 16 := (i 1).isLt
  show ![(BitVec.ofNat 32 (i 1).val * 256#32).toNat, 0] = _
  rw [toNat_mul_256 _ h]

theorem off2_eq' (n : ℕ) (h : n < 16) : k1_off2 (BitVec.ofNat 32 n) = ![256 * n, 0] := off2_eq n h

theorem chk1' (n : ℕ) (h : n < 16) : k1_chk1 (BitVec.ofNat 32 n) := chk1 n h

/-! ### The loop -/

/-- What the loop carries: the queries' gradient, the head's keys' and values' gradients, the sums of logarithms and
    the sums of weighted cotangents. -/
structure St (F : FTy → Type) where
  dq : Vec F S256x128 .f32
  dk : Vec F S4096x128 .f32
  dv : Vec F S4096x128 .f32
  rb : Vec F S256x1 .f32
  rg : Vec F S256x1 .f32

section Label

variable (c : Dev nD) (i : grid1.Coords)
  (a12 : Memref sig .tc .vmem S4096x128 .bf16) (ha12 : a12.IsWhole) (a13 : Memref sig .tc .vmem S4096x128 .bf16) (ha13 : a13.IsWhole)
  (a17 : Memref sig .tc .vmem S256x1 .f32) (ha17 : a17.IsWhole) (a7 : Memref sig .tc .vmem S256x256 .bf16) (ha7 : a7.IsWhole)
  (a8 : Memref sig .tc .vmem S256x256 .bf16) (ha8 : a8.IsWhole) (a18 : Memref sig .tc .vmem S256x1 .f32) (ha18 : a18.IsWhole)
  (a16 : Memref sig .tc .vmem S256x128 .f32) (ha16 : a16.IsWhole)
  (a14 : Memref sig .tc .vmem S4096x128 .f32) (ha14 : a14.IsWhole) (a15 : Memref sig .tc .vmem S4096x128 .f32) (ha15 : a15.IsWhole)
  (kb vb : Vec F S4096x128 .bf16) (aft frm : Vec F S256x256 .bf16) (v7 v9 : FVec F S256x128 .bf16) (v15 : FVec F S256x1 .f32)

/-- The weights' cotangents of the block `n`. -/
def gblk (n : ℕ) (p : St F) : FVec F S256x256 .f32 := k1_pay43 v7 v9 (rows kb n) (rows vb n) p.rb aft

def gblk' (n : ℕ) (p : St F) : FVec F S256x256 .bf16 := k1_pay44 v7 v9 (rows kb n) (rows vb n) p.rb aft

/-- What the loop carries after the block `n`. -/
def step1 (n : ℕ) (p : St F) : St F where
  dq := k1_pay46 v15 (rows kb n) (k1_pay38 v7 (rows kb n)) (k1_pay39 v7 (rows kb n)) (gblk kb vb aft v7 v9 n p) (gblk' kb vb aft v7 v9 n p)
    frm p.rg p.dq
  dk := setRows p.dk n (k1_pay3 (k1_pay47 v7 v15 (k1_pay38 v7 (rows kb n)) (k1_pay39 v7 (rows kb n)) (gblk kb vb aft v7 v9 n p)
    (gblk' kb vb aft v7 v9 n p) frm p.rg (rows p.dk n)))
  dv := setRows p.dv n (k1_pay4 v9 (k1_pay42 v7 (rows kb n) p.rb aft) (rows p.dv n))
  rb := k1_pay6 (k1_pay41 v7 (rows kb n)) p.rb
  rg := k1_pay7 (gblk kb vb aft v7 v9 n p) p.rg

/-- Whether the loop goes on after the block `n`. -/
def more1 (n : ℕ) (p : St F) : BitVec 1 := Scalar.cmpf .ogt (k1_pay8 (k1_pay41 v7 (rows kb n)) p.rb) thr

/-- The loop with `n` blocks left, entered with the flag `f`. -/
def sweep1 : ℕ → BitVec 1 → St F → St F
  | 0, _, p => p
  | n + 1, f, p => if f = 1#1 then sweep1 n (more1 kb v7 n p) (step1 kb vb aft frm v7 v9 v15 n p) else p

/-- What the label's function reads and writes. -/
def held1 (p : St F) : sProp 𝕄 :=
  iprop(owns (c : Thread nD τ) a12 fullShare kb ∗ owns (c : Thread nD τ) a13 fullShare vb
    ∗ owns (c : Thread nD τ) a7 fullShare aft ∗ owns (c : Thread nD τ) a8 fullShare frm
    ∗ owns (c : Thread nD τ) a16 fullShare p.dq ∗ owns (c : Thread nD τ) a14 fullShare p.dk ∗ owns (c : Thread nD τ) a15 fullShare p.dv
    ∗ owns (c : Thread nD τ) a17 fullShare p.rb ∗ owns (c : Thread nD τ) a18 fullShare p.rg)

/-- The label's specification with `n` blocks left. -/
def label1 (n : ℕ) (f : BitVec 1) (p : St F) : sWPT 𝕄 (BitVec 32 × BitVec 1) := do
  sWPT.consume (held1 c a12 a13 a17 a7 a8 a18 a16 a14 a15 kb vb aft frm p)
  let r ← sWPT.arbitrary
  sWPT.produce (held1 c a12 a13 a17 a7 a8 a18 a16 a14 a15 kb vb aft frm (sweep1 kb vb aft frm v7 v9 v15 n f p))
  pure r

theorem label1_apply (n : ℕ) (f : BitVec 1) (p : St F) (K : BitVec 32 × BitVec 1 → sProp 𝕄) :
    label1 c a12 a13 a17 a7 a8 a18 a16 a14 a15 kb vb aft frm v7 v9 v15 n f p K
      = iprop(held1 c a12 a13 a17 a7 a8 a18 a16 a14 a15 kb vb aft frm p ∗ ∀ r : BitVec 32 × BitVec 1,
          held1 c a12 a13 a17 a7 a8 a18 a16 a14 a15 kb vb aft frm (sweep1 kb vb aft frm v7 v9 v15 n f p) -∗ K r) := rfl

theorem label1_le (E : Set ℕ) : ∀ n, n ≤ 15 → ∀ f p K, label1 c a12 a13 a17 a7 a8 a18 a16 a14 a15 kb vb aft frm v7 v9 v15 n f p K
    ⊢ wp frame (wpE (defs₀ (F := F)) 𝒱₀ (c : Thread nD τ) (some n)) E
        (defs₀ (F := F) .tc 3 ⟨i, a12, ha12, a13, ha13, a17, ha17, a7, ha7, v7, v9, a8, ha8, a18, ha18, v15, a16, ha16, a14, ha14,
          a15, ha15, ctr n, f⟩) K := by
  intro n
  induction n with
  | zero =>
    intro _ f p K
    rw [label1_apply]
    show _ ⊢ wp frame (wpE (defs₀ (F := F)) 𝒱₀ (c : Thread nD τ) (some 0)) E
      (cc1_while1 i a12 ha12 a13 ha13 a17 ha17 a7 ha7 v7 v9 a8 ha8 a18 ha18 v15 a16 ha16 a14 ha14 a15 ha15 (ctr 0) f) K
    simp only [cc1_while1_eq_skeleton]; unfold cc1_while1_skel
    have ht : ¬ Scalar.andi (Scalar.cmpi .sge (ctr 0) 0#32) f = 1#1 := fun h => not_sge (andi_true.1 h).1
    simp only [ht, ↓reduceIte, Prog.pure_eq_ret]
    iintro ⟨H, Hk⟩
    rw [wp_ret]; imodintro
    iapply Hk
    rw [sweep1]
    iexact H
  | succ n ih =>
    intro hn f p K
    have hn' : n < 16 := by omega
    rw [label1_apply]
    show _ ⊢ wp frame (wpE (defs₀ (F := F)) 𝒱₀ (c : Thread nD τ) (some (n + 1))) E
      (cc1_while1 i a12 ha12 a13 ha13 a17 ha17 a7 ha7 v7 v9 a8 ha8 a18 ha18 v15 a16 ha16 a14 ha14 a15 ha15 (ctr (n + 1)) f) K
    simp only [cc1_while1_eq_skeleton]; unfold cc1_while1_skel
    rw [ctr_succ]
    by_cases hf : f = 1#1
    · have ht : Scalar.andi (Scalar.cmpi .sge (BitVec.ofNat 32 n) 0#32) f = 1#1 := andi_true.2 ⟨sge_ctr n hn', hf⟩
      simp only [ht, ↓reduceIte, k1_part5_eq_skeleton, k1_part5_skel, k1_part6_eq_skeleton, k1_part6_skel, Prog.lift, Prog.bind_op,
        Prog.bind_ret, Prog.pure_eq_ret]
      unfold held1
      iintro ⟨⟨H12, H13, H7, H8, H16, H14, H15, H17, H18⟩, Hk⟩
      iapply (wp_assume 𝒱₀ (c : Thread nD τ) (some (n + 1)) E (chk1' n hn'))
      iapply (wp_load_owns 𝒱₀ c (some (n + 1)) E (load_rows _ n (off2_eq' n hn') _)) $$ H12; iintro H12
      iapply (wp_load_owns 𝒱₀ c (some (n + 1)) E (load_rows _ n (off2_eq' n hn') _)) $$ H13; iintro H13
      iapply (wp_load_owns 𝒱₀ c (some (n + 1)) E (load_full _ _)) $$ H17; iintro H17
      iapply (wp_load_owns 𝒱₀ c (some (n + 1)) E (load_full _ _)) $$ H7; iintro H7
      iapply (wp_load_owns 𝒱₀ c (some (n + 1)) E (load_full _ _)) $$ H8; iintro H8
      iapply (wp_load_owns 𝒱₀ c (some (n + 1)) E (load_full _ _)) $$ H18; iintro H18
      iapply (wp_load_owns 𝒱₀ c (some (n + 1)) E (load_full _ _)) $$ H16; iintro H16
      iapply (wp_load_owns 𝒱₀ c (some (n + 1)) E (load_full _ _)) $$ H16; iintro H16
      iapply (wp_store_full 𝒱₀ c (some (n + 1)) E) $$ H16; iintro H16
      iapply (wp_load_owns 𝒱₀ c (some (n + 1)) E (load_rows _ n (off2_eq' n hn') _)) $$ H14; iintro H14
      iapply (wp_load_owns 𝒱₀ c (some (n + 1)) E (load_rows _ n (off2_eq' n hn') _)) $$ H14; iintro H14
      iapply (wp_store_owns 𝒱₀ c (some (n + 1)) E (setRows_in _ n (off2_eq' n hn') _ _) (setRows_out _ n (off2_eq' n hn') _ _)) $$ H14; iintro H14
      iapply (wp_load_owns 𝒱₀ c (some (n + 1)) E (load_rows _ n (off2_eq' n hn') _)) $$ H15; iintro H15
      iapply (wp_load_owns 𝒱₀ c (some (n + 1)) E (load_rows _ n (off2_eq' n hn') _)) $$ H15; iintro H15
      iapply (wp_store_owns 𝒱₀ c (some (n + 1)) E (setRows_in _ n (off2_eq' n hn') _ _) (setRows_out _ n (off2_eq' n hn') _ _)) $$ H15; iintro H15
      iapply (wp_load_owns 𝒱₀ c (some (n + 1)) E (load_full _ _)) $$ H17; iintro H17
      iapply (wp_load_owns 𝒱₀ c (some (n + 1)) E (load_full _ _)) $$ H17; iintro H17
      iapply (wp_store_full 𝒱₀ c (some (n + 1)) E) $$ H17; iintro H17
      iapply (wp_load_owns 𝒱₀ c (some (n + 1)) E (load_full _ _)) $$ H18; iintro H18
      iapply (wp_load_owns 𝒱₀ c (some (n + 1)) E (load_full _ _)) $$ H18; iintro H18
      iapply (wp_store_full 𝒱₀ c (some (n + 1)) E) $$ H18; iintro H18
      iapply (wp_call_spec 𝒱₀ (c : Thread nD τ) (some (n + 1)) E
        (label1 c a12 a13 a17 a7 a8 a18 a16 a14 a15 kb vb aft frm v7 v9 v15 n (more1 kb v7 n p) (step1 kb vb aft frm v7 v9 v15 n p)) n
        (fun u hu => by cases hu; exact Nat.lt_succ_self n) (ih (by omega) _ _))
      rw [label1_apply]; unfold held1
      isplitl [H12 H13 H7 H8 H16 H14 H15 H17 H18]
      · skip
        isplitl [H12]; · iexact H12
        isplitl [H13]; · iexact H13
        isplitl [H7]; · iexact H7
        isplitl [H8]; · iexact H8
        isplitl [H16]; · iexact H16
        isplitl [H14]; · iexact H14
        isplitl [H15]; · iexact H15
        isplitl [H17]; · iexact H17
        iexact H18
      iintro %r H
      rw [wp_ret]; imodintro
      iapply Hk
      rw [sweep1, if_pos hf]
      iexact H
    · have ht : ¬ Scalar.andi (Scalar.cmpi .sge (BitVec.ofNat 32 n) 0#32) f = 1#1 := fun h => hf (andi_true.1 h).2
      simp only [ht, ↓reduceIte, Prog.pure_eq_ret]
      iintro ⟨H, Hk⟩
      rw [wp_ret]; imodintro
      iapply Hk
      rw [sweep1, if_neg hf]
      iexact H

end Label

/-! ### The body -/

section Pure

variable (q : Vec F S256x128 .bf16) (o do' : Vec F S256x128 .f32) (kb vb : Vec F S4096x128 .bf16) (aft frm : Vec F S256x256 .bf16)
  (dk dv : Vec F S4096x128 .f32) (n : ℕ)

/-- What the loop is entered with: the diagonal block, masked to the keys before each query. -/
def first1 : St F where
  dq := k1_pay29 (k1_pay15 do' o) (rows kb n) (k1_pay19 (k1_pay13 q) (rows kb n)) (k1_pay20 (k1_pay13 q) (rows kb n)) k1_pay22
    (k1_pay25 (k1_pay13 q) (k1_pay14 do') (rows kb n) (rows vb n) k1_pay17 aft)
    (k1_pay26 (k1_pay13 q) (k1_pay14 do') (rows kb n) (rows vb n) k1_pay17 aft)
    (k1_pay27 (k1_pay13 q) (k1_pay14 do') (rows kb n) (rows vb n) k1_pay17 aft) frm k1_pay18 k1_pay16
  dk := setRows dk n (k1_pay31 (k1_pay30 (k1_pay13 q) (k1_pay15 do' o) (k1_pay19 (k1_pay13 q) (rows kb n)) (k1_pay20 (k1_pay13 q) (rows kb n))
    k1_pay22 (k1_pay25 (k1_pay13 q) (k1_pay14 do') (rows kb n) (rows vb n) k1_pay17 aft)
    (k1_pay26 (k1_pay13 q) (k1_pay14 do') (rows kb n) (rows vb n) k1_pay17 aft)
    (k1_pay27 (k1_pay13 q) (k1_pay14 do') (rows kb n) (rows vb n) k1_pay17 aft) frm k1_pay18 (rows dk n)))
  dv := setRows dv n (k1_pay32 (k1_pay14 do') (k1_pay24 (k1_pay13 q) (rows kb n) k1_pay17 aft) (rows dv n))
  rb := k1_pay34 (k1_pay23 (k1_pay13 q) (rows kb n)) k1_pay17
  rg := k1_pay35 (k1_pay25 (k1_pay13 q) (k1_pay14 do') (rows kb n) (rows vb n) k1_pay17 aft) k1_pay18

/-- Whether the loop is entered after it. -/
def enter1 : BitVec 1 := Scalar.cmpf .ogt (k1_pay36 (k1_pay23 (k1_pay13 q) (rows kb n)) k1_pay17) thr

/-- What a point leaves, with the head's gradients so far `dk` and `dv`. -/
def bwd1 : St F :=
  sweep1 kb vb aft frm (k1_pay13 q) (k1_pay14 do') (k1_pay15 do' o) n (enter1 q kb n) (first1 q o do' kb vb aft frm dk dv n)

end Pure

section Body

variable (c : Dev nD) (i : grid1.Coords)
  (a2 : Memref sig .tc .vmem S256x128 .bf16) (ha2 : a2.IsWhole)
  (a3 : Memref sig .tc .vmem S4096x128 .bf16) (ha3 : a3.IsWhole) (a4 : Memref sig .tc .vmem S4096x128 .bf16) (ha4 : a4.IsWhole)
  (a5 : Memref sig .tc .vmem S256x128 .f32) (ha5 : a5.IsWhole) (a6 : Memref sig .tc .vmem S256x128 .f32) (ha6 : a6.IsWhole)
  (a7 : Memref sig .tc .vmem S256x256 .bf16) (ha7 : a7.IsWhole) (a8 : Memref sig .tc .vmem S256x256 .bf16) (ha8 : a8.IsWhole)
  (a9 : Memref sig .tc .vmem S256x128 .bf16) (ha9 : a9.IsWhole)
  (a10 : Memref sig .tc .vmem S4096x128 .bf16) (ha10 : a10.IsWhole) (a11 : Memref sig .tc .vmem S4096x128 .bf16) (ha11 : a11.IsWhole)
  (a12 : Memref sig .tc .vmem S4096x128 .bf16) (ha12 : a12.IsWhole) (a13 : Memref sig .tc .vmem S4096x128 .bf16) (ha13 : a13.IsWhole)
  (a14 : Memref sig .tc .vmem S4096x128 .f32) (ha14 : a14.IsWhole) (a15 : Memref sig .tc .vmem S4096x128 .f32) (ha15 : a15.IsWhole)
  (a16 : Memref sig .tc .vmem S256x128 .f32) (ha16 : a16.IsWhole)
  (a17 : Memref sig .tc .vmem S256x1 .f32) (ha17 : a17.IsWhole) (a18 : Memref sig .tc .vmem S256x1 .f32) (ha18 : a18.IsWhole)
  (q : Vec F S256x128 .bf16) (k v : Vec F S4096x128 .bf16) (o do' : Vec F S256x128 .f32) (aft frm : Vec F S256x256 .bf16)

/-- The condition under which the body copies the head's keys and values and clears their gradients. -/
abbrev head1 (i : grid1.Coords) : Prop :=
  Scalar.cmpi .ne (Scalar.extui (Scalar.cmpi .eq (BitVec.ofNat 32 (i 1).val) 0#32)) 0#32 = (1#1 : BitVec 1)

/-- The staging buffers of the operands. -/
def ins1 : sProp 𝕄 :=
  iprop(owns (c : Thread nD τ) a2 fullShare q ∗ owns (c : Thread nD τ) a3 fullShare k ∗ owns (c : Thread nD τ) a4 fullShare v
    ∗ owns (c : Thread nD τ) a5 fullShare o ∗ owns (c : Thread nD τ) a6 fullShare do'
    ∗ owns (c : Thread nD τ) a7 fullShare aft ∗ owns (c : Thread nD τ) a8 fullShare frm)

/-- The staging buffers of the results and the scratch buffers. -/
def outs1 (rq : Vec F S256x128 .bf16) (rk rv kb vb : Vec F S4096x128 .bf16) (p : St F) : sProp 𝕄 :=
  iprop(owns (c : Thread nD τ) a9 fullShare rq ∗ owns (c : Thread nD τ) a10 fullShare rk ∗ owns (c : Thread nD τ) a11 fullShare rv
    ∗ owns (c : Thread nD τ) a12 fullShare kb ∗ owns (c : Thread nD τ) a13 fullShare vb
    ∗ owns (c : Thread nD τ) a14 fullShare p.dk ∗ owns (c : Thread nD τ) a15 fullShare p.dv
    ∗ owns (c : Thread nD τ) a16 fullShare p.dq ∗ owns (c : Thread nD τ) a17 fullShare p.rb ∗ owns (c : Thread nD τ) a18 fullShare p.rg)

/-- After the copies, whether taken or not, the body runs to `bwd1`, and writes the head's gradients out at its last
    point. -/
theorem body1_run (kb vb kb' vb' : Vec F S4096x128 .bf16) (rq : Vec F S256x128 .bf16) (rk rv rk' rv' : Vec F S4096x128 .bf16)
    (p : St F) (dk dv : Vec F S4096x128 .f32)
    (hpos : head1 i → (kb' = k1_pay9 k ∧ vb' = k1_pay10 v) ∧ dk = k1_pay11 ∧ dv = k1_pay12)
    (hneg : ¬ head1 i → (kb' = kb ∧ vb' = vb) ∧ dk = p.dk ∧ dv = p.dv)
    (lpos : k1_cond2 i = 1#1 → rk' = k1_pay1 (bwd1 q o do' kb' vb' aft frm dk dv (i 1).val).dk
      ∧ rv' = k1_pay2 (bwd1 q o do' kb' vb' aft frm dk dv (i 1).val).dv)
    (lneg : ¬ k1_cond2 i = 1#1 → rk' = rk ∧ rv' = rv)
    (E : Set ℕ) (K : PUnit → sProp 𝕄) :
    iprop(ins1 c a2 a3 a4 a5 a6 a7 a8 q k v o do' aft frm ∗ outs1 c a9 a10 a11 a12 a13 a14 a15 a16 a17 a18 rq rk rv kb vb p
        ∗ (iprop(ins1 c a2 a3 a4 a5 a6 a7 a8 q k v o do' aft frm
            ∗ outs1 c a9 a10 a11 a12 a13 a14 a15 a16 a17 a18 (k1_pay37 (bwd1 q o do' kb' vb' aft frm dk dv (i 1).val).dq) rk' rv' kb' vb'
              (bwd1 q o do' kb' vb' aft frm dk dv (i 1).val)) -∗ K ⟨⟩))
      ⊢ wp frame (wpE (defs₀ (F := F)) 𝒱₀ (c : Thread nD τ) none) E
          (cc1_l0_attn_bwd i a2 ha2 a3 ha3 a4 ha4 a5 ha5 a6 ha6 a7 ha7 a8 ha8 a9 ha9 a10 ha10 a11 ha11 a12 ha12 a13 ha13 a14 ha14
            a15 ha15 a16 ha16 a17 ha17 a18 ha18) K := by
  have hi : (i 1).val < 16 := (i 1).isLt
  simp only [cc1_l0_attn_bwd_eq_skeleton]; unfold cc1_l0_attn_bwd_skel
  simp only [k1_part1_eq_skeleton, k1_part2_eq_skeleton, k1_part3_eq_skeleton, k1_part4_eq_skeleton, k1_part1_skel, k1_part2_skel,
    k1_part3_skel, k1_part4_skel]
  obtain ⟨pdq, pdk, pdv, prb, prg⟩ := p
  by_cases h : head1 i
  case' pos =>
    obtain ⟨⟨rfl, rfl⟩, rfl, rfl⟩ := hpos h
    rw [dif_pos h]
    simp only [Prog.lift, Prog.bind_op, Prog.bind_ret, Prog.pure_eq_ret]
    unfold ins1 outs1
    iintro ⟨⟨H2, H3, H4, H5, H6, H7, H8⟩, ⟨H9, H10, H11, H12, H13, H14, H15, H16, H17, H18⟩, Hk⟩
    iapply (wp_load_owns 𝒱₀ c none E (load_full _ _)) $$ H3; iintro H3
    iapply (wp_load_owns 𝒱₀ c none E (load_full _ _)) $$ H12; iintro H12
    iapply (wp_store_full 𝒱₀ c none E) $$ H12; iintro H12
    iapply (wp_load_owns 𝒱₀ c none E (load_full _ _)) $$ H4; iintro H4
    iapply (wp_load_owns 𝒱₀ c none E (load_full _ _)) $$ H13; iintro H13
    iapply (wp_store_full 𝒱₀ c none E) $$ H13; iintro H13
    iapply (wp_load_owns 𝒱₀ c none E (load_full _ _)) $$ H14; iintro H14
    iapply (wp_store_full 𝒱₀ c none E) $$ H14; iintro H14
    iapply (wp_load_owns 𝒱₀ c none E (load_full _ _)) $$ H15; iintro H15
    iapply (wp_store_full 𝒱₀ c none E) $$ H15; iintro H15
  case' neg =>
    obtain ⟨⟨rfl, rfl⟩, rfl, rfl⟩ := hneg h
    rw [dif_neg h]
    simp only [Prog.lift, Prog.bind_op, Prog.bind_ret, Prog.pure_eq_ret]
    unfold ins1 outs1
    iintro ⟨⟨H2, H3, H4, H5, H6, H7, H8⟩, ⟨H9, H10, H11, H12, H13, H14, H15, H16, H17, H18⟩, Hk⟩
  all_goals
    iapply (wp_load_owns 𝒱₀ c none E (load_full _ _)) $$ H2; iintro H2
    iapply (wp_load_owns 𝒱₀ c none E (load_full _ _)) $$ H6; iintro H6
    iapply (wp_load_owns 𝒱₀ c none E (load_full _ _)) $$ H5; iintro H5
    iapply (wp_load_owns 𝒱₀ c none E (load_full _ _)) $$ H16; iintro H16
    iapply (wp_store_full 𝒱₀ c none E) $$ H16; iintro H16
    iapply (wp_load_owns 𝒱₀ c none E (load_full _ _)) $$ H17; iintro H17
    iapply (wp_store_full 𝒱₀ c none E) $$ H17; iintro H17
    iapply (wp_load_owns 𝒱₀ c none E (load_full _ _)) $$ H18; iintro H18
    iapply (wp_store_full 𝒱₀ c none E) $$ H18; iintro H18
    iapply (wp_load_owns 𝒱₀ c none E (load_rows _ (i 1).val (off1_eq' i) _)) $$ H12; iintro H12
    iapply (wp_load_owns 𝒱₀ c none E (load_rows _ (i 1).val (off1_eq' i) _)) $$ H13; iintro H13
    iapply (wp_load_owns 𝒱₀ c none E (load_full _ _)) $$ H17; iintro H17
    iapply (wp_load_owns 𝒱₀ c none E (load_full _ _)) $$ H7; iintro H7
    iapply (wp_load_owns 𝒱₀ c none E (load_full _ _)) $$ H8; iintro H8
    iapply (wp_load_owns 𝒱₀ c none E (load_full _ _)) $$ H18; iintro H18
    iapply (wp_load_owns 𝒱₀ c none E (load_full _ _)) $$ H16; iintro H16
    iapply (wp_load_owns 𝒱₀ c none E (load_full _ _)) $$ H16; iintro H16
    iapply (wp_store_full 𝒱₀ c none E) $$ H16; iintro H16
    iapply (wp_load_owns 𝒱₀ c none E (load_rows _ (i 1).val (off1_eq' i) _)) $$ H14; iintro H14
    iapply (wp_load_owns 𝒱₀ c none E (load_rows _ (i 1).val (off1_eq' i) _)) $$ H14; iintro H14
    iapply (wp_store_owns 𝒱₀ c none E (setRows_in _ (i 1).val (off1_eq' i) _ _) (setRows_out _ (i 1).val (off1_eq' i) _ _)) $$ H14; iintro H14
    iapply (wp_load_owns 𝒱₀ c none E (load_rows _ (i 1).val (off1_eq' i) _)) $$ H15; iintro H15
    iapply (wp_load_owns 𝒱₀ c none E (load_rows _ (i 1).val (off1_eq' i) _)) $$ H15; iintro H15
    iapply (wp_store_owns 𝒱₀ c none E (setRows_in _ (i 1).val (off1_eq' i) _ _) (setRows_out _ (i 1).val (off1_eq' i) _ _)) $$ H15; iintro H15
    iapply (wp_load_owns 𝒱₀ c none E (load_full _ _)) $$ H17; iintro H17
    iapply (wp_load_owns 𝒱₀ c none E (load_full _ _)) $$ H17; iintro H17
    iapply (wp_store_full 𝒱₀ c none E) $$ H17; iintro H17
    iapply (wp_load_owns 𝒱₀ c none E (load_full _ _)) $$ H18; iintro H18
    iapply (wp_load_owns 𝒱₀ c none E (load_full _ _)) $$ H18; iintro H18
    iapply (wp_store_full 𝒱₀ c none E) $$ H18; iintro H18
    iapply (wp_call_spec 𝒱₀ (c : Thread nD τ) none E
      (label1 c a12 a13 a17 a7 a8 a18 a16 a14 a15 _ _ aft frm (k1_pay13 q) (k1_pay14 do') (k1_pay15 do' o) (i 1).val
        (enter1 q _ (i 1).val) (first1 q o do' _ _ aft frm _ _ (i 1).val)) (i 1).val
      (fun u hu => nomatch hu) (label1_le c i a12 ha12 a13 ha13 a17 ha17 a7 ha7 a8 ha8 a18 ha18 a16 ha16 a14 ha14 a15 ha15 _ _ aft frm _ _ _ E
        (i 1).val (by omega) _ _))
    rw [label1_apply]; unfold held1
    isplitl [H12 H13 H7 H8 H16 H14 H15 H17 H18]
    · skip
      isplitl [H12]; · iexact H12
      isplitl [H13]; · iexact H13
      isplitl [H7]; · iexact H7
      isplitl [H8]; · iexact H8
      isplitl [H16]; · iexact H16
      isplitl [H14]; · iexact H14
      isplitl [H15]; · iexact H15
      isplitl [H17]; · iexact H17
      iexact H18
    iintro %r ⟨H12, H13, H7, H8, H16, H14, H15, H17, H18⟩
    iapply (wp_load_owns 𝒱₀ c none E (load_full _ _)) $$ H16; iintro H16
    iapply (wp_load_owns 𝒱₀ c none E (load_full _ _)) $$ H9; iintro H9
    iapply (wp_store_full 𝒱₀ c none E) $$ H9; iintro H9
    by_cases l : k1_cond2 i = 1#1
    · obtain ⟨rfl, rfl⟩ := lpos l
      rw [dif_pos l]
      simp only [Prog.lift, Prog.bind_op, Prog.bind_ret, Prog.pure_eq_ret]
      iapply (wp_load_owns 𝒱₀ c none E (load_full _ _)) $$ H14; iintro H14
      iapply (wp_load_owns 𝒱₀ c none E (load_full _ _)) $$ H10; iintro H10
      iapply (wp_store_full 𝒱₀ c none E) $$ H10; iintro H10
      iapply (wp_load_owns 𝒱₀ c none E (load_full _ _)) $$ H15; iintro H15
      iapply (wp_load_owns 𝒱₀ c none E (load_full _ _)) $$ H11; iintro H11
      iapply (wp_store_full 𝒱₀ c none E) $$ H11; iintro H11
      rw [wp_ret]; imodintro
      iapply Hk
      isplitl [H2 H3 H4 H5 H6 H7 H8]
      · skip
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · obtain ⟨rfl, rfl⟩ := lneg l
      rw [dif_neg l]
      simp only [Prog.lift, Prog.bind_op, Prog.bind_ret, Prog.pure_eq_ret]
      rw [wp_ret]; imodintro
      iapply Hk
      isplitl [H2 H3 H4 H5 H6 H7 H8]
      · skip
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

end Body

end Cert.Attn

end
-- ==== Proof.AttnFwdData.lean ====
/-
  The forward attention call as a pipeline over 16 heads of 16 blocks of queries: what every staging buffer holds after
  each point, the scratch buffers between the points (the head's keys and values once the head's first point has copied
  them), and the body's obligation at every point.
-/
module

public import proofs.«01_k».proof.Proof.AttnFwdBody
public import proofs.«01_k».proof.Proof.Gen.Kernel2Ideal.Launch
public import proofs.«01_k».proof.Proof.Gen.Kernel2Ideal.Points
public import Idealize.ShloMosaic.Lib.Pipeline.Frame
public import Idealize.ShloMosaic.Lib.Pipeline.FrameBody

@[expose] public section

noncomputable section

namespace Cert.Attn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section

variable (c : Dev nD) (V : (b : Ref sig .tc) → Buf (Elt F) ((c : Thread nD τ).loc b))

/-- The array's block a window is on at a point. -/
def iblk0 (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V (Pipeline.arrRef spec0 w))

theorem point_lt (t : Fin grid0.N) : t.val < 256 := lt_of_lt_of_eq t.isLt N_0

/-- The first point of a point's head. -/
def hd0 (t : Fin grid0.N) : Fin grid0.N := ⟨16 * (t.val / 16), lt_of_le_of_lt (Nat.mul_div_le _ _) t.isLt⟩

theorem hd0_of_head (t : Fin grid0.N) (h : t.val % 16 = 0) : hd0 t = t := Fin.ext (by show 16 * (t.val / 16) = t.val; omega)

theorem hd0_pred (t t' : Fin grid0.N) (h : t.val % 16 ≠ 0) (e : t'.val + 1 = t.val) : hd0 t' = hd0 t :=
  Fin.ext (by show 16 * (t'.val / 16) = 16 * (t.val / 16); omega)

/-- The copies of the head's keys and values at a point. -/
def kb0 (t : Fin grid0.N) : Vec F S4096x128 .bf16 := k0_pay6 (iblk0 c V 1 (hd0 t))
def vb0 (t : Fin grid0.N) : Vec F S4096x128 .bf16 := k0_pay7 (iblk0 c V 2 (hd0 t))

theorem coord0_1 (t : Fin grid0.N) : (grid0.coords t 1).val = t.val % 16 :=
  (Pipeline.Grid.coords_val (S := 1) (B := 16) t 1 (by decide) rfl).trans (by rw [Nat.div_one])

theorem head0_iff (t : Fin grid0.N) : head0 (grid0.coords t) ↔ t.val % 16 = 0 := by
  have h : t.val % 16 < 16 := Nat.mod_lt _ (by decide)
  unfold head0
  rw [coord0_1]
  generalize t.val % 16 = n at h ⊢
  interval_cases n <;> decide

/-- What a point leaves in its accumulator and sums. -/
def pt0 (t : Fin grid0.N) : Vec F S256x128 .f32 × Vec F S256x1 .f32 :=
  fwd0 (iblk0 c V 0 t) (kb0 c V t) (vb0 c V t) (iblk0 c V 3 t) (t.val % 16)

/-- The scratch buffers before point `n`: after a point, the copies are that point's head's. -/
def Phi0 (n : ℕ) : sProp 𝕄 :=
  iprop(∃ (K W : Vec F S4096x128 .bf16) (A : Vec F S256x128 .f32) (R : Vec F S256x1 .f32),
    ⌜∀ t : Fin grid0.N, t.val + 1 = n → K = kb0 c V t ∧ W = vb0 c V t⌝
    ∗ owns (c : Thread nD τ) (Memref.whole cc0_scratch0) fullShare K ∗ owns (c : Thread nD τ) (Memref.whole cc0_scratch1) fullShare W
    ∗ owns (c : Thread nD τ) (Memref.whole cc0_scratch2) fullShare A ∗ owns (c : Thread nD τ) (Memref.whole cc0_scratch3) fullShare R
    ∗ Pipeline.scopedRestBut (Ix := Unit) (Name := ℕ) (U := UR sig nD τ) (Lvl := ℕ) (Val := Elt F) spec0 c
        [cc0_scratch0, cc0_scratch1, cc0_scratch2, cc0_scratch3])

/-- The pipeline's proof data. -/
def dat0 : Dat τ (Elt F) Unit ℕ (UR sig nD τ) ℕ (cfg0 (F := F)) c where
  A w := V (Pipeline.arrRef spec0 w)
  after w t := match w with
    | ⟨0, _⟩ => iblk0 c V 0 t
    | ⟨1, _⟩ => iblk0 c V 1 t
    | ⟨2, _⟩ => iblk0 c V 2 t
    | ⟨3, _⟩ => iblk0 c V 3 t
    | ⟨4, _⟩ => (pt0 c V t).1
    | ⟨_ + 5, h⟩ => absurd h (Nat.not_lt.2 (Nat.le_add_left _ _))
  Φ t := Phi0 c V t.val
  q w := Pipeline.shareOf spec0 w
  owed _ := 0

theorem dat0_A (w : Fin (cfg0 (F := F)).W) : (dat0 c V).A w = V (Pipeline.arrRef spec0 w) := rfl

theorem after0_0 (t : Fin grid0.N) : (dat0 c V).after 0 t = iblk0 c V 0 t := rfl
theorem after0_1 (t : Fin grid0.N) : (dat0 c V).after 1 t = iblk0 c V 1 t := rfl
theorem after0_2 (t : Fin grid0.N) : (dat0 c V).after 2 t = iblk0 c V 2 t := rfl
theorem after0_3 (t : Fin grid0.N) : (dat0 c V).after 3 t = iblk0 c V 3 t := rfl
theorem after0_4 (t : Fin grid0.N) : (dat0 c V).after 4 t = (pt0 c V t).1 := rfl

theorem before0_0 (t : Fin grid0.N) (d) : (dat0 c V).before 0 t d = iblk0 c V 0 t :=
  ((dat0 c V).before_in_eq_fetched 0 rfl (fun _ => rfl) (fun _ _ _ => rfl)
    (fun t => by rw [after0_0]; unfold Dat.blockOf iblk0; rw [dat0_A]; rfl) t d).trans (by unfold Dat.fetched Dat.blockOf iblk0; rw [dat0_A]; rfl)
theorem before0_1 (t : Fin grid0.N) (d) : (dat0 c V).before 1 t d = iblk0 c V 1 t :=
  ((dat0 c V).before_in_eq_fetched 1 rfl (fun _ => rfl) (fun _ _ _ => rfl)
    (fun t => by rw [after0_1]; unfold Dat.blockOf iblk0; rw [dat0_A]; rfl) t d).trans (by unfold Dat.fetched Dat.blockOf iblk0; rw [dat0_A]; rfl)
theorem before0_2 (t : Fin grid0.N) (d) : (dat0 c V).before 2 t d = iblk0 c V 2 t :=
  ((dat0 c V).before_in_eq_fetched 2 rfl (fun _ => rfl) (fun _ _ _ => rfl)
    (fun t => by rw [after0_2]; unfold Dat.blockOf iblk0; rw [dat0_A]; rfl) t d).trans (by unfold Dat.fetched Dat.blockOf iblk0; rw [dat0_A]; rfl)
theorem before0_3 (t : Fin grid0.N) (d) : (dat0 c V).before 3 t d = iblk0 c V 3 t :=
  ((dat0 c V).before_in_eq_fetched 3 rfl (fun _ => rfl) (fun _ _ _ => rfl)
    (fun t => by rw [after0_3]; unfold Dat.blockOf iblk0; rw [dat0_A]; rfl) t d).trans (by unfold Dat.fetched Dat.blockOf iblk0; rw [dat0_A]; rfl)

theorem dat0_castSucc (t : Fin grid0.N) : (dat0 c V).Φ t.castSucc = Phi0 c V t.val := by
  dsimp only [dat0]; exact Dat.Φ_castSucc (fun n _ => Phi0 c V n) t

theorem dat0_succ (t : Fin grid0.N) : (dat0 c V).Φ t.succ = Phi0 c V (t.val + 1) := by
  dsimp only [dat0]; exact congrArg (Phi0 c V) (Fin.val_succ t)

/-- What the body runs from at a point. -/
def pre0 (t : Fin grid0.N) : sProp 𝕄 :=
  iprop((dat0 c V).Φ t.castSucc ∗ (dat0 c V).owesAt () t.castSucc
    ∗ (∃ d, owns (c : Thread nD τ) (st0_0 (F := F) t) fullShare ((dat0 c V).before 0 t d))
    ∗ (∃ d, owns (c : Thread nD τ) (st0_1 (F := F) t) fullShare ((dat0 c V).before 1 t d))
    ∗ (∃ d, owns (c : Thread nD τ) (st0_2 (F := F) t) fullShare ((dat0 c V).before 2 t d))
    ∗ (∃ d, owns (c : Thread nD τ) (st0_3 (F := F) t) fullShare ((dat0 c V).before 3 t d))
    ∗ (∃ d, owns (c : Thread nD τ) (st0_4 (F := F) t) fullShare ((dat0 c V).before 4 t d)))

/-- What it leaves. -/
def post0 (t : Fin grid0.N) : sProp 𝕄 :=
  iprop((dat0 c V).Φ t.succ ∗ (dat0 c V).owesAt () t.succ
    ∗ owns (c : Thread nD τ) (st0_0 (F := F) t) fullShare ((dat0 c V).after 0 t)
    ∗ owns (c : Thread nD τ) (st0_1 (F := F) t) fullShare ((dat0 c V).after 1 t)
    ∗ owns (c : Thread nD τ) (st0_2 (F := F) t) fullShare ((dat0 c V).after 2 t)
    ∗ owns (c : Thread nD τ) (st0_3 (F := F) t) fullShare ((dat0 c V).after 3 t)
    ∗ owns (c : Thread nD τ) (st0_4 (F := F) t) fullShare ((dat0 c V).after 4 t))

theorem owes0 (t : Fin grid0.N) : (dat0 c V).owesAt () t.castSucc ⊢ ((dat0 c V).owesAt () t.succ : sProp 𝕄) := by
  unfold Dat.owesAt Pipeline.owesWithin
  iintro ⟨%W, -, H⟩
  iexists W
  isplitr
  · ipureintro; exact fun _ _ => Or.inl trivial
  · iexact H

theorem sound0 (t : Fin grid0.N) :
    pre0 c V t ⊢ wp frame (wpE (defs₀ (F := F)) 𝒱₀ (c : Thread nD τ) none) Set.univ (bodyAt0 t) (fun _ => post0 c V t) := by
  unfold pre0 post0
  rw [dat0_castSucc, dat0_succ]
  unfold Phi0
  rw [after0_0, after0_1, after0_2, after0_3, after0_4]
  simp only [before0_0, before0_1, before0_2, before0_3]
  iintro ⟨⟨%K, %W, %A, %R, %hK, S0, S1, S2, S3, Hr⟩, HO, ⟨%d0, H0⟩, ⟨%d1, H1⟩, ⟨%d2, H2⟩, ⟨%d3, H3⟩, ⟨%d4, H4⟩⟩
  have hneg : ¬ head0 (grid0.coords t) → kb0 c V t = K ∧ vb0 c V t = W := by
    rw [head0_iff]
    intro h
    have ht := t.isLt
    obtain ⟨h1, h2⟩ := hK ⟨t.val - 1, by omega⟩ (by show t.val - 1 + 1 = t.val; omega)
    have e := hd0_pred t ⟨t.val - 1, by omega⟩ h (by show t.val - 1 + 1 = t.val; omega)
    rw [h1, h2]; unfold kb0 vb0; rw [e]; exact ⟨rfl, rfl⟩
  have hpos : head0 (grid0.coords t) → kb0 c V t = k0_pay6 (iblk0 c V 1 t) ∧ vb0 c V t = k0_pay7 (iblk0 c V 2 t) := by
    rw [head0_iff]
    intro h
    unfold kb0 vb0; rw [hd0_of_head t h]; exact ⟨rfl, rfl⟩
  have hr := body0_run c (grid0.coords t) (st0_0 (F := F) t) (hstage0_0 (((cfg0 (F := F)).slots t 0).cast nbuf0_0)) (st0_1 (F := F) t) (hstage0_1 (((cfg0 (F := F)).slots t 1).cast nbuf0_1))
    (st0_2 (F := F) t) (hstage0_2 (((cfg0 (F := F)).slots t 2).cast nbuf0_2)) (st0_3 (F := F) t) (hstage0_3 (((cfg0 (F := F)).slots t 3).cast nbuf0_3))
    (st0_4 (F := F) t) (hstage0_4 (((cfg0 (F := F)).slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk0 c V 0 t) (iblk0 c V 1 t) (iblk0 c V 2 t) (iblk0 c V 3 t) K W (kb0 c V t) (vb0 c V t) ((dat0 c V).before 4 t d4) A R hpos hneg Set.univ
    (fun _ => post0 c V t)
  unfold post0 at hr
  rw [dat0_succ] at hr
  unfold Phi0 at hr
  rw [after0_0, after0_1, after0_2, after0_3, after0_4] at hr
  rw [coord0_1] at hr
  iapply hr
  unfold body0
  isplitl [H0 H1 H2 H3 H4 S0 S1 S2 S3]
  · isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iexact S3
  iintro ⟨H0, H1, H2, H3, H4, S0, S1, S2, S3⟩
  isplitl [Hr S0 S1 S2 S3]
  · iexists _, _, _, _
    isplitr
    · ipureintro
      intro t' e
      have : t' = t := Fin.ext (by omega)
      subst this; exact ⟨rfl, rfl⟩
    isplitl [S0]; · iexact S0
    isplitl [S1]; · iexact S1
    isplitl [S2]; · iexact S2
    isplitl [S3]; · iexact S3
    iexact Hr
  isplitl [HO]; · iapply (owes0 c V t); iexact HO
  isplitl [H0]; · iexact H0
  isplitl [H1]; · iexact H1
  isplitl [H2]; · iexact H2
  isplitl [H3]; · iexact H3
  iexact H4

theorem row0 (t : Fin grid0.N) : defs₀ (F := F) .tc cfg0.body (cfg0.bodyArgs t (cfg0.slots t)) = bodyAt0 t := by
  unfold defs₀; rw [Defs.onTc_tc]

theorem obligation0 : BodyObligation (dat0 c V) (defs₀ (F := F)) 𝒱₀ () Set.univ := fun t => by
  rw [bigSep_W0, bigSep_W0, row0]
  exact triple_restated (sound0 c V t) rfl .rfl fun _ => .rfl

end

end Cert.Attn

end
-- ==== Proof.AttnBwdData.lean ====
/-
  The backward attention call as a pipeline over 16 heads of 16 blocks of queries: what every staging buffer holds after
  each point, the scratch buffers between the points (the head's keys and values once the head's first point has copied
  them, and the head's keys' and values' gradients so far), and the body's obligation at every point.
-/
module

public import proofs.«01_k».proof.Proof.AttnBwdBody
public import proofs.«01_k».proof.Proof.AttnFwdData

@[expose] public section

noncomputable section

namespace Cert.Attn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section

variable (c : Dev nD) (V : (b : Ref sig .tc) → Buf (Elt F) ((c : Thread nD τ).loc b))

/-- The array's block a window is on at a point. -/
def iblk1 (w : Fin (cfg1 (F := F)).W) (t : Fin (cfg1 (F := F)).N) :
    (((cfg1 (F := F)).win w).xblock ((cfg1 (F := F)).grid.coords t)).Idx → Elt F ((cfg1 (F := F)).win w).elt :=
  (((cfg1 (F := F)).win w).blk t).view.read (Elt F) (V (Pipeline.arrRef spec1 w))

theorem point1_lt (t : Fin grid1.N) : t.val < 256 := lt_of_lt_of_eq t.isLt N_1

/-- The first point of a point's head. -/
def hd1 (t : Fin grid1.N) : Fin grid1.N := ⟨16 * (t.val / 16), lt_of_le_of_lt (Nat.mul_div_le _ _) t.isLt⟩

theorem hd1_of_head (t : Fin grid1.N) (h : t.val % 16 = 0) : hd1 t = t := Fin.ext (by show 16 * (t.val / 16) = t.val; omega)

theorem hd1_pred (t t' : Fin grid1.N) (h : t.val % 16 ≠ 0) (e : t'.val + 1 = t.val) : hd1 t' = hd1 t :=
  Fin.ext (by show 16 * (t'.val / 16) = 16 * (t.val / 16); omega)

/-- The copies of the head's keys and values at a point. -/
def kb1 (t : Fin grid1.N) : Vec F S4096x128 .bf16 := k1_pay9 (iblk1 c V 1 (hd1 t))
def vb1 (t : Fin grid1.N) : Vec F S4096x128 .bf16 := k1_pay10 (iblk1 c V 2 (hd1 t))

theorem coord1_1 (t : Fin grid1.N) : (grid1.coords t 1).val = t.val % 16 :=
  (Pipeline.Grid.coords_val (S := 1) (B := 16) t 1 (by decide) rfl).trans (by rw [Nat.div_one])

theorem head1_iff (t : Fin grid1.N) : head1 (grid1.coords t) ↔ t.val % 16 = 0 := by
  have h : t.val % 16 < 16 := Nat.mod_lt _ (by decide)
  unfold head1
  rw [coord1_1]
  generalize t.val % 16 = n at h ⊢
  interval_cases n <;> decide

theorem last1_iff (t : Fin grid1.N) : k1_cond2 (grid1.coords t) = 1#1 ↔ t.val % 16 = 15 := by
  have h : t.val % 16 < 16 := Nat.mod_lt _ (by decide)
  unfold k1_cond2
  rw [coord1_1]
  generalize t.val % 16 = n at h ⊢
  interval_cases n <;> decide

/-- What a point leaves, entered with the head's gradients so far `dk` and `dv`. -/
def on1 (t : Fin grid1.N) (dk dv : Vec F S4096x128 .f32) : St F :=
  bwd1 (iblk1 c V 0 t) (iblk1 c V 3 t) (iblk1 c V 4 t) (kb1 c V t) (vb1 c V t) (iblk1 c V 5 t) (iblk1 c V 6 t) dk dv (t.val % 16)

/-- What the point `n` leaves. -/
def st1 : (n : ℕ) → n < grid1.N → St F
  | 0, h => on1 c V ⟨0, h⟩ k1_pay11 k1_pay12
  | n + 1, h => on1 c V ⟨n + 1, h⟩ (if (n + 1) % 16 = 0 then k1_pay11 else (st1 n (Nat.lt_of_succ_lt h)).dk)
      (if (n + 1) % 16 = 0 then k1_pay12 else (st1 n (Nat.lt_of_succ_lt h)).dv)

/-- What a point leaves. -/
def pt1 (t : Fin grid1.N) : St F := st1 c V t.val t.isLt

theorem pt1_head (t : Fin grid1.N) (h : t.val % 16 = 0) : pt1 c V t = on1 c V t k1_pay11 k1_pay12 := by
  obtain ⟨n, hn⟩ := t
  unfold pt1
  cases n with
  | zero => rw [st1]
  | succ n => rw [st1, if_pos h, if_pos h]

theorem pt1_next (t t' : Fin grid1.N) (h : t.val % 16 ≠ 0) (e : t'.val + 1 = t.val) :
    pt1 c V t = on1 c V t (pt1 c V t').dk (pt1 c V t').dv := by
  obtain ⟨n, hn⟩ := t
  obtain ⟨n', hn'⟩ := t'
  dsimp only at e h
  subst e
  unfold pt1
  rw [st1, if_neg h, if_neg h]

/-- The gradients a point is entered with, given what the scratch held. -/
def in1 (t : Fin grid1.N) (p : St F) : Vec F S4096x128 .f32 × Vec F S4096x128 .f32 :=
  if t.val % 16 = 0 then (k1_pay11, k1_pay12) else (p.dk, p.dv)

/-- The scoped buffers the call has no use for. -/
def rest1 : sProp 𝕄 :=
  Pipeline.scopedRestBut (Ix := Unit) (Name := ℕ) (U := UR sig nD τ) (Lvl := ℕ) (Val := Elt F) spec1 c
    [cc1_scratch0, cc1_scratch1, cc1_scratch2, cc1_scratch3, cc1_scratch4, cc1_scratch5, cc1_scratch6]

/-- The scratch buffers before point `n`: after a point, the copies are that point's head's and the gradients what it
    left. -/
def Phi1 (n : ℕ) : sProp 𝕄 :=
  iprop(∃ (K W : Vec F S4096x128 .bf16) (p : St F),
    ⌜∀ t : Fin grid1.N, t.val + 1 = n → K = kb1 c V t ∧ W = vb1 c V t ∧ p = pt1 c V t⌝
    ∗ owns (c : Thread nD τ) (Memref.whole cc1_scratch0) fullShare K
    ∗ owns (c : Thread nD τ) (Memref.whole cc1_scratch1) fullShare W
    ∗ owns (c : Thread nD τ) (Memref.whole cc1_scratch2) fullShare p.dk
    ∗ owns (c : Thread nD τ) (Memref.whole cc1_scratch3) fullShare p.dv
    ∗ owns (c : Thread nD τ) (Memref.whole cc1_scratch4) fullShare p.dq
    ∗ owns (c : Thread nD τ) (Memref.whole cc1_scratch5) fullShare p.rb
    ∗ owns (c : Thread nD τ) (Memref.whole cc1_scratch6) fullShare p.rg
    ∗ rest1 c)

/-- The pipeline's proof data. -/
def dat1 : Dat τ (Elt F) Unit ℕ (UR sig nD τ) ℕ (cfg1 (F := F)) c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => iblk1 c V 4 t
    | ⟨5, _⟩ => iblk1 c V 5 t
    | ⟨6, _⟩ => iblk1 c V 6 t
    | ⟨7, _⟩ => k1_pay37 (pt1 c V t).dq
    | ⟨8, _⟩ => k1_pay1 (pt1 c V t).dk
    | ⟨9, _⟩ => k1_pay2 (pt1 c V t).dv
    | ⟨_ + 10, h⟩ => absurd h (Nat.not_lt.2 (Nat.le_add_left _ _))
  Φ t := Phi1 c V t.val
  q w := Pipeline.shareOf spec1 w
  owed _ := 0

theorem dat1_A (w : Fin (cfg1 (F := F)).W) : (dat1 c V).A w = V (Pipeline.arrRef spec1 w) := rfl

theorem after1_0 (t : Fin grid1.N) : (dat1 c V).after 0 t = iblk1 c V 0 t := rfl
theorem after1_1 (t : Fin grid1.N) : (dat1 c V).after 1 t = iblk1 c V 1 t := rfl
theorem after1_2 (t : Fin grid1.N) : (dat1 c V).after 2 t = iblk1 c V 2 t := rfl
theorem after1_3 (t : Fin grid1.N) : (dat1 c V).after 3 t = iblk1 c V 3 t := rfl
theorem after1_4 (t : Fin grid1.N) : (dat1 c V).after 4 t = iblk1 c V 4 t := rfl
theorem after1_5 (t : Fin grid1.N) : (dat1 c V).after 5 t = iblk1 c V 5 t := rfl
theorem after1_6 (t : Fin grid1.N) : (dat1 c V).after 6 t = iblk1 c V 6 t := rfl
theorem after1_7 (t : Fin grid1.N) : (dat1 c V).after 7 t = k1_pay37 (pt1 c V t).dq := rfl
theorem after1_8 (t : Fin grid1.N) : (dat1 c V).after 8 t = k1_pay1 (pt1 c V t).dk := rfl
theorem after1_9 (t : Fin grid1.N) : (dat1 c V).after 9 t = k1_pay2 (pt1 c V t).dv := rfl
theorem before1_0 (t : Fin grid1.N) (d) : (dat1 c V).before 0 t d = iblk1 c V 0 t :=
  ((dat1 c V).before_in_eq_fetched 0 rfl (fun _ => rfl) (fun _ _ _ => rfl)
    (fun t => by rw [after1_0]; unfold Dat.blockOf iblk1; rw [dat1_A]; rfl) t d).trans (by unfold Dat.fetched Dat.blockOf iblk1; rw [dat1_A]; rfl)
theorem before1_1 (t : Fin grid1.N) (d) : (dat1 c V).before 1 t d = iblk1 c V 1 t :=
  ((dat1 c V).before_in_eq_fetched 1 rfl (fun _ => rfl) (fun _ _ _ => rfl)
    (fun t => by rw [after1_1]; unfold Dat.blockOf iblk1; rw [dat1_A]; rfl) t d).trans (by unfold Dat.fetched Dat.blockOf iblk1; rw [dat1_A]; rfl)
theorem before1_2 (t : Fin grid1.N) (d) : (dat1 c V).before 2 t d = iblk1 c V 2 t :=
  ((dat1 c V).before_in_eq_fetched 2 rfl (fun _ => rfl) (fun _ _ _ => rfl)
    (fun t => by rw [after1_2]; unfold Dat.blockOf iblk1; rw [dat1_A]; rfl) t d).trans (by unfold Dat.fetched Dat.blockOf iblk1; rw [dat1_A]; rfl)
theorem before1_3 (t : Fin grid1.N) (d) : (dat1 c V).before 3 t d = iblk1 c V 3 t :=
  ((dat1 c V).before_in_eq_fetched 3 rfl (fun _ => rfl) (fun _ _ _ => rfl)
    (fun t => by rw [after1_3]; unfold Dat.blockOf iblk1; rw [dat1_A]; rfl) t d).trans (by unfold Dat.fetched Dat.blockOf iblk1; rw [dat1_A]; rfl)
theorem before1_4 (t : Fin grid1.N) (d) : (dat1 c V).before 4 t d = iblk1 c V 4 t :=
  ((dat1 c V).before_in_eq_fetched 4 rfl (fun _ => rfl) (fun _ _ _ => rfl)
    (fun t => by rw [after1_4]; unfold Dat.blockOf iblk1; rw [dat1_A]; rfl) t d).trans (by unfold Dat.fetched Dat.blockOf iblk1; rw [dat1_A]; rfl)
theorem before1_5 (t : Fin grid1.N) (d) : (dat1 c V).before 5 t d = iblk1 c V 5 t :=
  ((dat1 c V).before_in_eq_fetched 5 rfl (fun _ => rfl) (fun _ _ _ => rfl)
    (fun t => by rw [after1_5]; unfold Dat.blockOf iblk1; rw [dat1_A]; rfl) t d).trans (by unfold Dat.fetched Dat.blockOf iblk1; rw [dat1_A]; rfl)
theorem before1_6 (t : Fin grid1.N) (d) : (dat1 c V).before 6 t d = iblk1 c V 6 t :=
  ((dat1 c V).before_in_eq_fetched 6 rfl (fun _ => rfl) (fun _ _ _ => rfl)
    (fun t => by rw [after1_6]; unfold Dat.blockOf iblk1; rw [dat1_A]; rfl) t d).trans (by unfold Dat.fetched Dat.blockOf iblk1; rw [dat1_A]; rfl)
theorem dat1_castSucc (t : Fin grid1.N) : (dat1 c V).Φ t.castSucc = Phi1 c V t.val := by
  dsimp only [dat1]; exact Dat.Φ_castSucc (fun n _ => Phi1 c V n) t

theorem dat1_succ (t : Fin grid1.N) : (dat1 c V).Φ t.succ = Phi1 c V (t.val + 1) := by
  dsimp only [dat1]; exact congrArg (Phi1 c V) (Fin.val_succ t)

/-- What the body runs from at a point. -/
def pre1 (t : Fin grid1.N) : sProp 𝕄 :=
  iprop((dat1 c V).Φ t.castSucc ∗ (dat1 c V).owesAt () t.castSucc
    ∗ (∃ d, owns (c : Thread nD τ) (st1_0 (F := F) t) fullShare ((dat1 c V).before 0 t d))
    ∗ (∃ d, owns (c : Thread nD τ) (st1_1 (F := F) t) fullShare ((dat1 c V).before 1 t d))
    ∗ (∃ d, owns (c : Thread nD τ) (st1_2 (F := F) t) fullShare ((dat1 c V).before 2 t d))
    ∗ (∃ d, owns (c : Thread nD τ) (st1_3 (F := F) t) fullShare ((dat1 c V).before 3 t d))
    ∗ (∃ d, owns (c : Thread nD τ) (st1_4 (F := F) t) fullShare ((dat1 c V).before 4 t d))
    ∗ (∃ d, owns (c : Thread nD τ) (st1_5 (F := F) t) fullShare ((dat1 c V).before 5 t d))
    ∗ (∃ d, owns (c : Thread nD τ) (st1_6 (F := F) t) fullShare ((dat1 c V).before 6 t d))
    ∗ (∃ d, owns (c : Thread nD τ) (st1_7 (F := F) t) fullShare ((dat1 c V).before 7 t d))
    ∗ (∃ d, owns (c : Thread nD τ) (st1_8 (F := F) t) fullShare ((dat1 c V).before 8 t d))
    ∗ (∃ d, owns (c : Thread nD τ) (st1_9 (F := F) t) fullShare ((dat1 c V).before 9 t d)))

/-- What it leaves. -/
def post1 (t : Fin grid1.N) : sProp 𝕄 :=
  iprop((dat1 c V).Φ t.succ ∗ (dat1 c V).owesAt () t.succ
    ∗ owns (c : Thread nD τ) (st1_0 (F := F) t) fullShare ((dat1 c V).after 0 t)
    ∗ owns (c : Thread nD τ) (st1_1 (F := F) t) fullShare ((dat1 c V).after 1 t)
    ∗ owns (c : Thread nD τ) (st1_2 (F := F) t) fullShare ((dat1 c V).after 2 t)
    ∗ owns (c : Thread nD τ) (st1_3 (F := F) t) fullShare ((dat1 c V).after 3 t)
    ∗ owns (c : Thread nD τ) (st1_4 (F := F) t) fullShare ((dat1 c V).after 4 t)
    ∗ owns (c : Thread nD τ) (st1_5 (F := F) t) fullShare ((dat1 c V).after 5 t)
    ∗ owns (c : Thread nD τ) (st1_6 (F := F) t) fullShare ((dat1 c V).after 6 t)
    ∗ owns (c : Thread nD τ) (st1_7 (F := F) t) fullShare ((dat1 c V).after 7 t)
    ∗ (dat1 c V).leavesExact 8 t ∗ (dat1 c V).leavesExact 9 t)

theorem owes1 (t : Fin grid1.N) : (dat1 c V).owesAt () t.castSucc ⊢ ((dat1 c V).owesAt () t.succ : sProp 𝕄) := by
  unfold Dat.owesAt Pipeline.owesWithin
  iintro ⟨%W, -, H⟩
  iexists W
  isplitr
  · ipureintro; exact fun _ _ => Or.inl trivial
  · iexact H

/-- What a point leaves in a buffer written at the head's last point only. -/
def atLast (t : Fin grid1.N) (x d : Vec F S4096x128 .bf16) : Vec F S4096x128 .bf16 := if k1_cond2 (grid1.coords t) = 1#1 then x else d

theorem atLast_pos (t : Fin grid1.N) (x d : Vec F S4096x128 .bf16) (h : k1_cond2 (grid1.coords t) = 1#1) : atLast t x d = x := if_pos h
theorem atLast_neg (t : Fin grid1.N) (x d : Vec F S4096x128 .bf16) (h : ¬ k1_cond2 (grid1.coords t) = 1#1) : atLast t x d = d := if_neg h

theorem leaves8 (t : Fin grid1.N) (d : S4096x128.Idx → Elt F .bf16) :
    (owns (c : Thread nD τ) (st1_8 (F := F) t) fullShare (atLast t (k1_pay1 (pt1 c V t).dk) ((dat1 c V).before 8 t d)) : sProp 𝕄)
      ⊢ (dat1 c V).leavesExact 8 t := by
  by_cases h : k1_cond2 (grid1.coords t) = 1#1
  · refine (Entails.of_eq (congrArg (owns (c : Thread nD τ) (st1_8 (F := F) t) fullShare) (atLast_pos t _ _ h))).trans ?_
    have hi : (cfg1 (F := F)).idle 8 ((cfg1 (F := F)).grid.coords t) = false := by
      show (!(k1_cond2 (grid1.coords t) == 1#1)) = false; rw [h]; rfl
    unfold Dat.leavesExact; rw [hi]
    exact .rfl
  · refine (Entails.of_eq (congrArg (owns (c : Thread nD τ) (st1_8 (F := F) t) fullShare) (atLast_neg t _ _ h))).trans ?_
    rw [(dat1 c V).leavesExact_idle 8 t (by show (!(k1_cond2 (grid1.coords t) == 1#1)) = true; simp [h])
      (Bool.eq_false_iff.2 fun hf => h ((last1_iff t).2 ((flush1_8 t).1 hf)))]
    iintro H; iexists d; iexact H

theorem leaves9 (t : Fin grid1.N) (d : S4096x128.Idx → Elt F .bf16) :
    (owns (c : Thread nD τ) (st1_9 (F := F) t) fullShare (atLast t (k1_pay2 (pt1 c V t).dv) ((dat1 c V).before 9 t d)) : sProp 𝕄)
      ⊢ (dat1 c V).leavesExact 9 t := by
  by_cases h : k1_cond2 (grid1.coords t) = 1#1
  · refine (Entails.of_eq (congrArg (owns (c : Thread nD τ) (st1_9 (F := F) t) fullShare) (atLast_pos t _ _ h))).trans ?_
    have hi : (cfg1 (F := F)).idle 9 ((cfg1 (F := F)).grid.coords t) = false := by
      show (!(k1_cond2 (grid1.coords t) == 1#1)) = false; rw [h]; rfl
    unfold Dat.leavesExact; rw [hi]
    exact .rfl
  · refine (Entails.of_eq (congrArg (owns (c : Thread nD τ) (st1_9 (F := F) t) fullShare) (atLast_neg t _ _ h))).trans ?_
    rw [(dat1 c V).leavesExact_idle 9 t (by show (!(k1_cond2 (grid1.coords t) == 1#1)) = true; simp [h])
      (Bool.eq_false_iff.2 fun hf => h ((last1_iff t).2 ((flush1_9 t).1 hf)))]
    iintro H; iexists d; iexact H

theorem sound1 (t : Fin grid1.N) :
    pre1 c V t ⊢ wp frame (wpE (defs₀ (F := F)) 𝒱₀ (c : Thread nD τ) none) Set.univ (bodyAt1 t) (fun _ => post1 c V t) := by
  unfold pre1 post1
  rw [dat1_castSucc, dat1_succ]
  unfold Phi1
  rw [after1_0, after1_1, after1_2, after1_3, after1_4, after1_5, after1_6, after1_7]
  simp only [before1_0, before1_1, before1_2, before1_3, before1_4, before1_5, before1_6]
  iintro ⟨⟨%K, %W, %p, %hK, S0, S1, S2, S3, S4, S5, S6, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have ht := t.isLt
  have hprev : t.val % 16 ≠ 0 → K = kb1 c V t ∧ W = vb1 c V t ∧ pt1 c V t = on1 c V t p.dk p.dv := by
    intro h
    obtain ⟨h1, h2, h3⟩ := hK ⟨t.val - 1, by omega⟩ (by show t.val - 1 + 1 = t.val; omega)
    have e := hd1_pred t ⟨t.val - 1, by omega⟩ h (by show t.val - 1 + 1 = t.val; omega)
    rw [h1, h2, h3]
    refine ⟨by unfold kb1; rw [e], by unfold vb1; rw [e], pt1_next c V t _ h (by show t.val - 1 + 1 = t.val; omega)⟩
  obtain ⟨dk, hdk⟩ : ∃ dk, dk = if t.val % 16 = 0 then k1_pay11 (F := F) else p.dk := ⟨_, rfl⟩
  obtain ⟨dv, hdv⟩ : ∃ dv, dv = if t.val % 16 = 0 then k1_pay12 (F := F) else p.dv := ⟨_, rfl⟩
  have hpt : bwd1 (iblk1 c V 0 t) (iblk1 c V 3 t) (iblk1 c V 4 t) (kb1 c V t) (vb1 c V t) (iblk1 c V 5 t) (iblk1 c V 6 t) dk dv (t.val % 16)
      = pt1 c V t := by
    rw [hdk, hdv]
    by_cases h : t.val % 16 = 0
    · rw [if_pos h, if_pos h]; exact (pt1_head c V t h).symm
    · rw [if_neg h, if_neg h]; exact (hprev h).2.2.symm
  have hneg : ¬ head1 (grid1.coords t) → (kb1 c V t = K ∧ vb1 c V t = W) ∧ dk = p.dk ∧ dv = p.dv := by
    rw [head1_iff]
    intro h
    rw [hdk, hdv, if_neg h, if_neg h]
    exact ⟨⟨(hprev h).1.symm, (hprev h).2.1.symm⟩, rfl, rfl⟩
  have hpos : head1 (grid1.coords t) → (kb1 c V t = k1_pay9 (iblk1 c V 1 t) ∧ vb1 c V t = k1_pay10 (iblk1 c V 2 t)) ∧ dk = k1_pay11 ∧ dv = k1_pay12 := by
    rw [head1_iff]
    intro h
    rw [hdk, hdv, if_pos h, if_pos h]; unfold kb1 vb1; rw [hd1_of_head t h]; exact ⟨⟨rfl, rfl⟩, rfl, rfl⟩
  have hr := body1_run c (grid1.coords t) (st1_0 (F := F) t) (hstage1_0 (((cfg1 (F := F)).slots t 0).cast nbuf1_0))
    (st1_1 (F := F) t) (hstage1_1 (((cfg1 (F := F)).slots t 1).cast nbuf1_1))
    (st1_2 (F := F) t) (hstage1_2 (((cfg1 (F := F)).slots t 2).cast nbuf1_2))
    (st1_3 (F := F) t) (hstage1_3 (((cfg1 (F := F)).slots t 3).cast nbuf1_3))
    (st1_4 (F := F) t) (hstage1_4 (((cfg1 (F := F)).slots t 4).cast nbuf1_4))
    (st1_5 (F := F) t) (hstage1_5 (((cfg1 (F := F)).slots t 5).cast nbuf1_5))
    (st1_6 (F := F) t) (hstage1_6 (((cfg1 (F := F)).slots t 6).cast nbuf1_6))
    (st1_7 (F := F) t) (hstage1_7 (((cfg1 (F := F)).slots t 7).cast nbuf1_7))
    (st1_8 (F := F) t) (hstage1_8 (((cfg1 (F := F)).slots t 8).cast nbuf1_8))
    (st1_9 (F := F) t) (hstage1_9 (((cfg1 (F := F)).slots t 9).cast nbuf1_9))
    (Memref.whole cc1_scratch0) (Memref.isWhole_whole _)
    (Memref.whole cc1_scratch1) (Memref.isWhole_whole _)
    (Memref.whole cc1_scratch2) (Memref.isWhole_whole _)
    (Memref.whole cc1_scratch3) (Memref.isWhole_whole _)
    (Memref.whole cc1_scratch4) (Memref.isWhole_whole _)
    (Memref.whole cc1_scratch5) (Memref.isWhole_whole _)
    (Memref.whole cc1_scratch6) (Memref.isWhole_whole _)
    (iblk1 c V 0 t) (iblk1 c V 1 t) (iblk1 c V 2 t) (iblk1 c V 3 t) (iblk1 c V 4 t) (iblk1 c V 5 t) (iblk1 c V 6 t)
    K W (kb1 c V t) (vb1 c V t) ((dat1 c V).before 7 t d7) ((dat1 c V).before 8 t d8) ((dat1 c V).before 9 t d9)
    (atLast t (k1_pay1 (pt1 c V t).dk) ((dat1 c V).before 8 t d8))
    (atLast t (k1_pay2 (pt1 c V t).dv) ((dat1 c V).before 9 t d9))
    p dk dv hpos hneg
    (fun l => by rw [coord1_1, hpt]; exact ⟨atLast_pos t _ _ l, atLast_pos t _ _ l⟩) (fun l => ⟨atLast_neg t _ _ l, atLast_neg t _ _ l⟩)
    Set.univ (fun _ => post1 c V t)
  unfold post1 at hr
  rw [dat1_succ] at hr
  unfold Phi1 at hr
  rw [after1_0, after1_1, after1_2, after1_3, after1_4, after1_5, after1_6, after1_7] at hr
  rw [coord1_1, hpt] at hr
  iapply hr
  unfold ins1 outs1
  isplitl [H0 H1 H2 H3 H4 H5 H6]
  · skip
    isplitl [H0]; · iexact H0
    isplitl [H1]; · iexact H1
    isplitl [H2]; · iexact H2
    isplitl [H3]; · iexact H3
    isplitl [H4]; · iexact H4
    isplitl [H5]; · iexact H5
    iexact H6
  isplitl [H7 H8 H9 S0 S1 S2 S3 S4 S5 S6]
  · skip
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro ⟨⟨H0, H1, H2, H3, H4, H5, H6⟩, ⟨H7, H8, H9, S0, S1, S2, S3, S4, S5, S6⟩⟩
  isplitl [Hr S0 S1 S2 S3 S4 S5 S6]
  · iexists _, _, _
    isplitr
    · ipureintro
      intro t' e
      have : t' = t := Fin.ext (by omega)
      subst this; exact ⟨rfl, rfl, rfl⟩
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hr
  isplitl [HO]; · iapply (owes1 c V t); iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 c V t d8); iexact H8
  iapply (leaves9 c V t d9); iexact H9

theorem row1 (t : Fin grid1.N) : defs₀ (F := F) .tc cfg1.body (cfg1.bodyArgs t (cfg1.slots t)) = bodyAt1 t := by
  unfold defs₀; rw [Defs.onTc_tc]

theorem obligation1 : BodyObligation (dat1 c V) (defs₀ (F := F)) 𝒱₀ () Set.univ := fun t => by
  rw [bigSep_W1, bigSep_W1, row1]
  exact triple_restated (sound1 c V t) rfl .rfl fun _ => .rfl

end

end Cert.Attn

end
-- ==== Proof.AttnRun.lean ====
/-
  Both attention calls run one after the other: each call's region entered from the buffers the host lines left and left
  with its results in place, and every fair run ending with the results the two pipelines' data name, the arguments as
  launched and every counter at zero.
-/
module

public import proofs.«01_k».proof.Proof.AttnBwdData
public import proofs.«01_k».proof.Proof.Gen.Kernel2Ideal.Regions
public import Idealize.ShloMosaic.Lib.Pipeline.RegionsLoop

@[expose] public section

noncomputable section

namespace Cert.Attn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-! ## What the calls leave -/

/-- The buffers as core `c`'s forward call finds them. -/
def U1 (c : Dev nD) (b : Ref sig .tc) : Buf (Elt F) ((c : Thread nD τ).loc b) := V1 m c b

/-- The attention's output, as the forward call leaves it. -/
def outO (c : Dev nD) : Buf (Elt F) ((c : Thread nD τ).loc main_v4) := (dat0 c (U1 m c)).arrAt 4 (cfg0 (F := F)).N

/-- The buffers between the calls, the host lines of the backward call included. -/
def W3 (c : Dev nD) : Valuation τ sig (Elt F) := StableHlo.after hostOps1 (Function.update (V1 m c) main_v4 (outO m c))

/-- The buffers as core `c`'s backward call finds them. -/
def U3 (c : Dev nD) (b : Ref sig .tc) : Buf (Elt F) ((c : Thread nD τ).loc b) := W3 m c b

def outQ (c : Dev nD) : Buf (Elt F) ((c : Thread nD τ).loc main_v13_0) := (dat1 c (U3 m c)).arrAt 7 (cfg1 (F := F)).N
def outK (c : Dev nD) : Buf (Elt F) ((c : Thread nD τ).loc main_v13_1) := (dat1 c (U3 m c)).arrAt 8 (cfg1 (F := F)).N
def outV (c : Dev nD) : Buf (Elt F) ((c : Thread nD τ).loc main_v13_2) := (dat1 c (U3 m c)).arrAt 9 (cfg1 (F := F)).N

/-- The four results, where they lie. -/
def results : Outs (F := F) := fun J r c =>
  if J = 2 then Function.update (V1 m c) main_v4 (outO m c) r
  else Function.update (Function.update (Function.update (W3 m c) main_v13_0 (outQ m c)) main_v13_1 (outK m c)) main_v13_2 (outV m c) r

theorem outs_o (c : Dev nD) : results m 2 main_v4 c = outO m c := by
  unfold results; rw [if_pos rfl]; exact Function.update_self ..

theorem outs_q (c : Dev nD) : results m 4 main_v13_0 c = outQ m c := by
  unfold results; rw [if_neg (by decide), Function.update_of_ne (StableHlo.devRef_ne_of_ne (by decide)),
    Function.update_of_ne (StableHlo.devRef_ne_of_ne (by decide))]
  exact Function.update_self ..

theorem outs_k (c : Dev nD) : results m 4 main_v13_1 c = outK m c := by
  unfold results; rw [if_neg (by decide), Function.update_of_ne (StableHlo.devRef_ne_of_ne (by decide))]
  exact Function.update_self ..

theorem outs_v (c : Dev nD) : results m 4 main_v13_2 c = outV m c := by
  unfold results; rw [if_neg (by decide)]
  exact Function.update_self ..

theorem V2_o (c : Dev nD) : V2 m (results m) c main_v4 = outO m c := by
  show Function.update (V1 m c) (Proc.devRef .tc main_v4) (results m 2 main_v4 c) (Proc.devRef .tc main_v4) = _
  rw [Function.update_self]; exact outs_o m c

theorem V4_q (c : Dev nD) : V4 m (results m) c main_v13_0 = outQ m c := by
  unfold V4
  rw [Function.update_of_ne (StableHlo.devRef_ne_of_ne (by decide)), Function.update_of_ne (StableHlo.devRef_ne_of_ne (by decide)),
    Function.update_self]
  exact outs_q m c

theorem V4_k (c : Dev nD) : V4 m (results m) c main_v13_1 = outK m c := by
  unfold V4
  rw [Function.update_of_ne (StableHlo.devRef_ne_of_ne (by decide)), Function.update_self]
  exact outs_k m c

theorem V4_v (c : Dev nD) : V4 m (results m) c main_v13_2 = outV m c := by
  unfold V4
  rw [Function.update_self]
  exact outs_v m c

theorem V3_eq (c : Dev nD) : V3 m (results m) c = W3 m c := by
  unfold W3; show StableHlo.after hostOps1 (Function.update (V1 m c) main_v4 (results m 2 main_v4 c)) = _; rw [outs_o]

/-- Each call's pipeline data. -/
def pdats : (p : Fin 2) → (c : Dev nD) → Dat τ (Elt F) Unit ℕ (UR sig nD τ) ℕ ((cfgs (F := F)) p) c
  | ⟨0, _⟩ => fun c => dat0 c (U1 m c)
  | ⟨1, _⟩ => fun c => dat1 c (U3 m c)
  | ⟨_ + 2, h⟩ => absurd h (Nat.not_lt.2 (Nat.le_add_left _ _))

/-! ## The regions -/

/-- No core owes another anything. -/
abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

theorem owesAt_of_R0 (c : Dev nD) (V) (t) : (R c : sProp 𝕄) ⊢ (dat0 c V).owesAt () t := by
  unfold Dat.owesAt Pipeline.owesWithin
  iintro ⟨%W, HO⟩; iexists W; isplitr; · ipureintro; exact fun _ _ => Or.inl trivial
  iexact HO

theorem R_of_owesAt0 (c : Dev nD) (V) (t) : (dat0 c V).owesAt () t ⊢ (R c : sProp 𝕄) := by
  unfold Dat.owesAt Pipeline.owesWithin
  iintro ⟨%W, -, HO⟩; iexists W; iexact HO

theorem owesAt_of_R1 (c : Dev nD) (V) (t) : (R c : sProp 𝕄) ⊢ (dat1 c V).owesAt () t := by
  unfold Dat.owesAt Pipeline.owesWithin
  iintro ⟨%W, HO⟩; iexists W; isplitr; · ipureintro; exact fun _ _ => Or.inl trivial
  iexact HO

theorem R_of_owesAt1 (c : Dev nD) (V) (t) : (dat1 c V).owesAt () t ⊢ (R c : sProp 𝕄) := by
  unfold Dat.owesAt Pipeline.owesWithin
  iintro ⟨%W, -, HO⟩; iexists W; iexact HO

theorem held_U1 (c : Dev nD) : (StableHlo.held (c : Thread nD τ) (Pipeline.ucRefs τ sig) (V1 m c) : sProp 𝕄) = unscopedBufs c (U1 m c) :=
  (Pipeline.unscopedBufs_held c (V1 m c)).symm

theorem held_U3 (c : Dev nD) : (StableHlo.held (c : Thread nD τ) (Pipeline.ucRefs τ sig) (W3 m c) : sProp 𝕄) = unscopedBufs c (U3 m c) :=
  (Pipeline.unscopedBufs_held c (W3 m c)).symm

/-- Before the first point the scratch buffers hold anything. -/
theorem enters0 (c : Dev nD) (V) :
    (Pipeline.scopedRest (Ix := Unit) (Name := ℕ) (U := UR sig nD τ) (Lvl := ℕ) (Val := Elt F) spec0 c : sProp 𝕄) ⊢ Phi0 c V 0 := by
  rw [scopedRest0_split]; unfold Phi0
  simp only [owns_whole_eq]
  iintro ⟨⟨⟨%f0, H0⟩, ⟨%f1, H1⟩, ⟨%f2, H2⟩, ⟨%f3, H3⟩⟩, Hr⟩
  iexists f0, f1, f2, f3
  isplitr; · ipureintro; exact fun t h => absurd h (Nat.succ_ne_zero _)
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  iexact Hr

theorem leaves0 (c : Dev nD) (V) (n : ℕ) :
    (Phi0 c V n : sProp 𝕄) ⊢ Pipeline.scopedRest (Ix := Unit) (Name := ℕ) (U := UR sig nD τ) (Lvl := ℕ) (Val := Elt F) spec0 c := by
  rw [scopedRest0_split]; unfold Phi0
  simp only [owns_whole_eq]
  iintro ⟨%K, %W, %A, %R, -, ⟨%f0, -, H0⟩, ⟨%f1, -, H1⟩, ⟨%f2, -, H2⟩, ⟨%f3, -, H3⟩, Hr⟩
  isplitr [Hr]
  · isplitl [H0]; · iexists f0; iexact H0
    isplitl [H1]; · iexists f1; iexact H1
    isplitl [H2]; · iexists f2; iexact H2
    iexists f3; iexact H3
  iexact Hr

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)
        ∗ (∃ f : Buf (Elt F) ((c : Thread nD τ).loc cc1_scratch3), ((c : Thread nD τ).loc cc1_scratch3) ↦{fullShare} f)
        ∗ (∃ f : Buf (Elt F) ((c : Thread nD τ).loc cc1_scratch4), ((c : Thread nD τ).loc cc1_scratch4) ↦{fullShare} f)
        ∗ (∃ f : Buf (Elt F) ((c : Thread nD τ).loc cc1_scratch5), ((c : Thread nD τ).loc cc1_scratch5) ↦{fullShare} f)
        ∗ (∃ f : Buf (Elt F) ((c : Thread nD τ).loc cc1_scratch6), ((c : Thread nD τ).loc cc1_scratch6) ↦{fullShare} f)) ∗ rest1 c) :=
  Pipeline.scopedRest_split_of_list spec1 c [cc1_scratch0, cc1_scratch1, cc1_scratch2, cc1_scratch3, cc1_scratch4, cc1_scratch5, cc1_scratch6]
    (by decide) (by decide)

theorem enters1 (c : Dev nD) (V) :
    (Pipeline.scopedRest (Ix := Unit) (Name := ℕ) (U := UR sig nD τ) (Lvl := ℕ) (Val := Elt F) spec1 c : sProp 𝕄) ⊢ Phi1 c V 0 := by
  rw [scopedRest1_split]; unfold Phi1
  simp only [owns_whole_eq]
  iintro ⟨⟨⟨%f0, H0⟩, ⟨%f1, H1⟩, ⟨%f2, H2⟩, ⟨%f3, H3⟩, ⟨%f4, H4⟩, ⟨%f5, H5⟩, ⟨%f6, H6⟩⟩, Hr⟩
  iexists f0, f1, St.mk f4 f2 f3 f5 f6
  isplitr; · ipureintro; exact fun t h => absurd h (Nat.succ_ne_zero _)
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexact Hr

theorem leaves1 (c : Dev nD) (V) (n : ℕ) :
    (Phi1 c V n : sProp 𝕄) ⊢ Pipeline.scopedRest (Ix := Unit) (Name := ℕ) (U := UR sig nD τ) (Lvl := ℕ) (Val := Elt F) spec1 c := by
  rw [scopedRest1_split]; unfold Phi1
  simp only [owns_whole_eq]
  iintro ⟨%K, %W, %p, -, ⟨%f0, -, H0⟩, ⟨%f1, -, H1⟩, ⟨%f2, -, H2⟩, ⟨%f3, -, H3⟩, ⟨%f4, -, H4⟩, ⟨%f5, -, H5⟩, ⟨%f6, -, H6⟩, Hr⟩
  isplitr [Hr]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f6; iexact H6
  iexact Hr

theorem isIn0 (w : Fin 5) (h : Pipeline.arrRef spec0 w ≠ main_v4) : (spec0 w).isOut = false := by revert w; decide
theorem isIn1 (w : Fin 10) (h : Pipeline.arrRef spec1 w ∉ [main_v13_0, main_v13_1, main_v13_2]) : (spec1 w).isOut = false := by revert w; decide

/-- The forward call's arrays after its last point are the buffers after it. -/
theorem arr0 (c : Dev nD) (w : Fin 5) :
    (dat0 c (U1 m c)).arrAt w (cfg0 (F := F)).N = V2 m (results m) c (Pipeline.arrRef spec0 w) := by
  by_cases h : Pipeline.arrRef spec0 w = main_v4
  · have hw : w = 4 := by revert w; decide
    subst hw
    exact (V2_o m c).symm
  · exact ((dat0 c (U1 m c)).arrAt_in w (isIn0 w h) _).trans (V2_of m (results m) c _ (by simpa using h)).symm

theorem arr1 (c : Dev nD) (w : Fin 10) :
    (dat1 c (U3 m c)).arrAt w (cfg1 (F := F)).N = V4 m (results m) c (Pipeline.arrRef spec1 w) := by
  by_cases h : Pipeline.arrRef spec1 w ∈ [main_v13_0, main_v13_1, main_v13_2]
  · have hw : w = 7 ∨ w = 8 ∨ w = 9 := by revert w; decide
    rcases hw with rfl | rfl | rfl
    · exact (V4_q m c).symm
    · exact (V4_k m c).symm
    · exact (V4_v m c).symm
  · refine ((dat1 c (U3 m c)).arrAt_in w (isIn1 w h) _).trans ?_
    rw [V4_of m (results m) c _ h]
    exact (congrFun (V3_eq m c) _).symm

set_option backward.isDefEq.respectTransparency.types false in
/-- The forward call's region. -/
def reg0 : Pipeline.RegionSeg (pcfgs (F := F)) adm (pdats m) () defs₀ 𝒱₀ L lv 0 where
  win := winFacts₀0
  block_pos := block_pos0
  stage_whole := stage_whole0
  K := PEmpty
  osem := fun k => k.elim
  ho := Pipeline.OwnSemFacts.none _
  hbody c := (obligation0 c (U1 m c)).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (results m) c) ∗ R c)
  X _ := iprop(emp)
  Y _ := iprop(emp)
  Z c := Pipeline.unscopedRest spec0 c (U1 m c)
  hentry c := by
    rw [Pipeline.ownSems0_none, held_U1]
    have hsplit := Pipeline.arrays_of_unscopedBufs_shared (pcfgs (F := F)) adm (pdats m) (p := 0) winFacts₀0 sharedIn0 arr_whole0 c
      (fun _ _ => rfl) (U1 m c) (fun _ => rfl)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]; · iapply (owesAt_of_R0 c (U1 m c) 0); iexact HO
    isplitr; · iempintro
    iexact Hz
  hin c := by
    rw [show (pdats m 0 c).Φ 0 = Phi0 c (U1 m c) 0 from rfl]
    iintro ⟨-, -, Hr⟩
    iapply (enters0 c (U1 m c)); iexact Hr
  hout c := by
    rw [Pipeline.ownSems0_none, show (pdats m 0 c).Φ (Fin.last _) = Phi0 c (U1 m c) _ from rfl]
    iintro H
    isplitr; · iempintro
    isplitr; · iempintro
    iapply (leaves0 c (U1 m c) _); iexact H
  hexit c := by
    have hjoin := Pipeline.unscopedBufs_of_arrays_shared (pcfgs (F := F)) adm (p := 0) winFacts₀0 sharedIn0 arr_whole0 c (pdats m)
      (fun _ _ => rfl) (U1 m c) (fun b => V2 m (results m) c b) _ (arr0 m c) (fun b hb => V2_of m (results m) c b (fun e => hb
        (Finset.mem_image.mpr ⟨4, Finset.mem_univ _, (List.mem_singleton.mp e).symm⟩)))
    rw [← Pipeline.unscopedBufs_held]
    iintro ⟨Ha, HO, -, HZ⟩
    imodintro
    isplitr [HO]
    · iapply hjoin
      isplitl [Ha]; · iexact Ha
      iexact HZ
    · iapply (R_of_owesAt0 c (U1 m c) _); iexact HO

set_option backward.isDefEq.respectTransparency.types false in
/-- The backward call's region. -/
def reg1 : Pipeline.RegionSeg (pcfgs (F := F)) adm (pdats m) () defs₀ 𝒱₀ L lv 1 where
  win := winFacts₀1
  block_pos := block_pos1
  stage_whole := stage_whole1
  K := PEmpty
  osem := fun k => k.elim
  ho := Pipeline.OwnSemFacts.none _
  hbody c := (obligation1 c (U3 m c)).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (V4 m (results m) c) ∗ R c)
  X _ := iprop(emp)
  Y _ := iprop(emp)
  Z c := Pipeline.unscopedRest spec1 c (U3 m c)
  hentry c := by
    rw [Pipeline.ownSems0_none, held_U3]
    have hsplit := Pipeline.arrays_of_unscopedBufs_shared (pcfgs (F := F)) adm (pdats m) (p := 1) winFacts₀1 sharedIn1 arr_whole1 c
      (fun _ _ => rfl) (U3 m c) (fun _ => rfl)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]; · iapply (owesAt_of_R1 c (U3 m c) 0); iexact HO
    isplitr; · iempintro
    iexact Hz
  hin c := by
    rw [show (pdats m 1 c).Φ 0 = Phi1 c (U3 m c) 0 from rfl]
    iintro ⟨-, -, Hr⟩
    iapply (enters1 c (U3 m c)); iexact Hr
  hout c := by
    rw [Pipeline.ownSems0_none, show (pdats m 1 c).Φ (Fin.last _) = Phi1 c (U3 m c) _ from rfl]
    iintro H
    isplitr; · iempintro
    isplitr; · iempintro
    iapply (leaves1 c (U3 m c) _); iexact H
  hexit c := by
    have hjoin := Pipeline.unscopedBufs_of_arrays_shared (pcfgs (F := F)) adm (p := 1) winFacts₀1 sharedIn1 arr_whole1 c (pdats m)
      (fun _ _ => rfl) (U3 m c) (fun b => V4 m (results m) c b) _ (arr1 m c) (fun b hb => (V4_of m (results m) c b (fun e => by
        simp only [List.mem_cons, List.mem_nil_iff, or_false] at e
        refine hb (Finset.mem_image.mpr ?_)
        rcases e with rfl | rfl | rfl
        · exact ⟨7, Finset.mem_univ _, rfl⟩
        · exact ⟨8, Finset.mem_univ _, rfl⟩
        · exact ⟨9, Finset.mem_univ _, rfl⟩)).trans (congrFun (V3_eq m c) _))
    rw [← Pipeline.unscopedBufs_held]
    iintro ⟨Ha, HO, -, HZ⟩
    imodintro
    isplitr [HO]
    · iapply hjoin
      isplitl [Ha]; · iexact Ha
      iexact HZ
    · iapply (R_of_owesAt1 c (U3 m c) _); iexact HO

/-! ## The run -/

/-- A run's end: the results as the pipelines' data name them, the arguments as launched. -/
def Ends (r : PUnit × MemSt nD τ sig (Elt F)) : Prop := ∀ c : Dev nD,
  (r.2.mem ((c.tc : Thread nD τ).loc main_v4) = outO m c
    ∧ r.2.mem ((c.tc : Thread nD τ).loc main_v13_0) = outQ m c
    ∧ r.2.mem ((c.tc : Thread nD τ).loc main_v13_1) = outK m c
    ∧ r.2.mem ((c.tc : Thread nD τ).loc main_v13_2) = outV m c)
  ∧ r.2.mem ((c.tc : Thread nD τ).loc main_arg0) = m ((c.tc : Thread nD τ).loc main_arg0)
  ∧ r.2.mem ((c.tc : Thread nD τ).loc main_arg1) = m ((c.tc : Thread nD τ).loc main_arg1)

theorem V4_o (c : Dev nD) : V4 m (results m) c main_v4 = outO m c :=
  (V4_of m (results m) c main_v4 (by decide)).trans ((V3_of m (results m) c main_v4 (by decide)).trans (V2_o m c))

set_option backward.isDefEq.respectTransparency.types false in
/-- Every fair run ends, at `Ends`, with every counter at zero. -/
theorem run_main (ρ : Dev nD → PrngReg) :
    θ_run defs (onTc (τ := τ) (main (F := F))) ⟨m, fun _ => 0, ρ⟩ (fun r => Ends m r ∧ r.2.sem = fun _ => 0) := by
  refine Pipeline.θ_run_regions_kit_dev_sems (pcfgs (F := F)) adm (pdats m) () cellOf_inj emb₁ defs₀ 𝒱₀ L lv m ρ main
    (segs m (results m) 𝒱₀ L lv (fun _ => R) () (pdats m) (reg0 m) (reg1 m))
    (fun c Q => by
      rewrite [main_chain c, Pipeline.Seg.run_eq_chain,
        show (segs m (results m) 𝒱₀ L lv (fun _ => R) () (pdats m) (reg0 m) (reg1 m) c).map Pipeline.Seg.prog = [
          StableHlo.seq hostOps0, Prog.lift (.customCall (Pipeline.entry 0) ()),
          StableHlo.seq hostOps1, Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
          ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (results m) c))
    (hch := fun c => ⟨.rfl, .rfl, .rfl, Entails.of_eq (by
      show iprop(StableHlo.held _ _ (V3 m (results m) c) ∗ R c) = iprop(StableHlo.held _ _ (W3 m c) ∗ R c)
      rw [V3_eq]), .rfl⟩)
    (hinit := by
      refine Pipeline.initEach L lv fun c => ?_
      rw [show unscopedBufs c (fun b => m ((c : Thread nD τ).loc b)) = (StableHlo.held (c : Thread nD τ) (Pipeline.ucRefs τ sig) (V0 m c) : sProp 𝕄)
        from Pipeline.unscopedBufs_held c (V0 m c)]
      iintro ⟨⟨Hh, -, HO, -, -, -⟩, -⟩
      imodintro
      isplitl [Hh]; · iexact Hh
      iexists ∅; iexact HO)
    (QY := fun c s => (s.mem ((c.tc : Thread nD τ).loc main_v4) = outO m c
        ∧ s.mem ((c.tc : Thread nD τ).loc main_v13_0) = outQ m c
        ∧ s.mem ((c.tc : Thread nD τ).loc main_v13_1) = outK m c
        ∧ s.mem ((c.tc : Thread nD τ).loc main_v13_2) = outV m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (results m) c) s') $$ [Hh HSI]
  · isplitl [Hh] <;> iassumption
  icases Hr with ⟨%h, HSI⟩
  imodintro
  isplitr
  · ipureintro
    have at' : ∀ r : Ref sig .tc, ¬ (Proc.devRef (τ := τ) .tc r).isScoped → s'.mem.mem ((c.tc : Thread nD τ).loc r) = V4 m (results m) c r := fun r hr =>
      h (Proc.devRef .tc r) (Finset.mem_filter.mpr ⟨StableHlo.devRef_mem_tcRefs r, hr⟩)
    exact ⟨⟨(at' main_v4 (by decide)).trans (V4_o m c), (at' main_v13_0 (by decide)).trans (V4_q m c),
      (at' main_v13_1 (by decide)).trans (V4_k m c), (at' main_v13_2 (by decide)).trans (V4_v m c)⟩,
      (at' main_arg0 (by decide)).trans (V4_main_arg0 m (results m) c), (at' main_arg1 (by decide)).trans (V4_main_arg1 m (results m) c)⟩
  · iexact HSI

/-- The frame, for any float values. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_main m ρ)

end Cert.Attn

end
-- ==== Proof.AttnFrames.lean ====
/-
  The frames of the two attention programs, and the one rounding the rewriting names.  The programs differ in the sweep's
  threshold alone, a literal in one and a named constant in the other.
-/
module

public import proofs.«01_k».proof.Proof.AttnRun
public import proofs.«01_k».proof.Proof.AttnLitRun
public import proofs.«01_k».proof.Defs
public import proofs.«01_k».proof.Proof.Gen.Kernel2
public import proofs.«01_k».proof.Proof.Gen.Kernel2Ideal

@[expose] public section

noncomputable section

namespace Cert.Attn

open Idealize.ShloMosaic Idealize.SL.Sem

theorem frame_kernel2ideal : Cert.quiescent_Kernel2Ideal := fun m ρ _ => frame_run m ρ

theorem frame_kernel2 : Cert.quiescent_Kernel2 := fun m ρ _ => Cert.AttnLit.frame_run m ρ

theorem preserves : Cert.preserves_Kernel2_Kernel2Ideal :=
  IdealRules.named_const.statement Cert.Kernel2Ideal.κ "threshold" .f32 0xC2C80000#32 ⊥ rfl

end Cert.Attn

end
-- ==== Proof.AttnPre.lean ====
/- What the precondition `finite2` says of the arrays it reads. -/
module

public import proofs.«01_k».proof.Proof.Reals
public import proofs.«01_k».proof.Proof.Gen.Pre_finite2
public import Idealize.ShloMosaic.Lib.Pointwise

@[expose] public section

noncomputable section

namespace Cert.Pre_finite2

open Idealize.ShloMosaic

instance : Subsingleton S_.Idx := ⟨fun a b => funext fun i => i.elim0⟩

theorem reals_of_fn (x : FVec Ideal S4096x12288 .bf16) (d : FVec Ideal S4096x2048 .f32)
    (h : fn (F := Ideal) x d = fun _ => 1#1) :
    (∃ a : S4096x12288.Idx → ℝ, x = fun i => (a i : EReal)) ∧ ∃ a : S4096x2048.Idx → ℝ, d = fun i => (a i : EReal) := by
  have h0 := congrFun h (Shape.Idx.first Facts.h_S_)
  obtain ⟨h1, h2⟩ := IntOp.andi_eq_one.1 h0
  exact ⟨Reals.exists_reals x _ (fun i => Reals.ofBits_inf) _ _ _ _ h1, Reals.exists_reals d _ (fun i => Reals.ofBits_inf) _ _ _ _ h2⟩

end Cert.Pre_finite2

end
-- ==== Proof.AttnPay.lean ====
/- The attention's blocks at finite arguments: what each of the bodies' formulas is over the reals. -/
module

public import proofs.«01_k».proof.Proof.Reals
public import proofs.«01_k».proof.Proof.Gen.Kernel2Ideal.Skeleton
public import Idealize.ShloMosaic.Lib.Pointwise

@[expose] public section

set_option maxRecDepth 16384

noncomputable section

open Idealize.ShloMosaic

namespace Cert.Attn

open Cert.Kernel2Ideal Cert.Kernel2Ideal.Gen Cert.Reals

/-- `log (1 + e^(-|x|))`. -/
def l1 (x : ℝ) : ℝ := Real.log (1 + Real.exp (-|x|))
/-- The logarithm of the logistic function, and of its complement. -/
def lsg (x : ℝ) : ℝ := min x 0 - l1 x
def lsn (x : ℝ) : ℝ := -max x 0 - l1 x
/-- The logistic function. -/
def sg (x : ℝ) : ℝ := (1 + Real.exp (-x))⁻¹

theorem ofBits_zero : Ideal.ofBits .f32 0x00000000#32 = ((0 : ℝ) : EReal) := by simp [Ideal.ofBits, Ideal.ieee]
theorem ofBits_one : Ideal.ofBits .f32 0x3F800000#32 = ((1 : ℝ) : EReal) := by simp [Ideal.ofBits, Ideal.ieee]; rw [mul_coe, one_coe]; norm_num

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

theorem log_coe (a : ℝ) (h : 0 < a) : Ideal.log (a : EReal) = ((Real.log a : ℝ) : EReal) := by
  rw [Ideal.log_coe, if_neg (not_le.2 h)]

theorem one_add_exp_pos (x : ℝ) : 0 < 1 + Real.exp x := by positivity

theorem absf_coe (x : ℝ) : FloatOps.absf (F := Ideal) (φ := .f32) (x : EReal) = ((|x| : ℝ) : EReal) := by
  show max (x : EReal) (-(x : EReal)) = _
  rw [neg_coe, max_coe]; rfl

theorem exp_coe (x : ℝ) : Ideal.exp (x : EReal) = ((Real.exp x : ℝ) : EReal) := rfl

theorem e_coe (x : ℝ) : Ideal.exp (0 - FloatOps.absf (F := Ideal) (φ := .f32) (x : EReal)) = ((Real.exp (-|x|) : ℝ) : EReal) := by
  rw [absf_coe, zero_coe, sub_coe, exp_coe, zero_sub]

theorem l1_coe (x : ℝ) : Ideal.log (1 + ((Real.exp (-|x|) : ℝ) : EReal)) = ((l1 x : ℝ) : EReal) := by
  rw [one_coe, add_coe, log_coe _ (one_add_exp_pos _)]; rfl

theorem lsn_coe (x : ℝ) : 0 - max (x : EReal) 0 - ((l1 x : ℝ) : EReal) = ((lsn x : ℝ) : EReal) := by
  rw [zero_coe, max_coe, sub_coe, sub_coe, zero_sub]; rfl

theorem lsg_coe (x : ℝ) : min (x : EReal) 0 - ((l1 x : ℝ) : EReal) = ((lsg x : ℝ) : EReal) := by
  rw [zero_coe, min_coe, sub_coe]; rfl

theorem select_lt (p c : Fin 256) (a b : ℝ) :
    Scalar.select (IntOp.cmpi CmpIPredicate.slt (BitVec.ofNat 32 ↑c) (BitVec.ofNat 32 ↑p)) (a : EReal) (b : EReal)
      = ((if c < p then a else b : ℝ) : EReal) := by
  have h : IntOp.cmpi CmpIPredicate.slt (BitVec.ofNat 32 ↑c) (BitVec.ofNat 32 ↑p) = if c < p then 1#1 else 0#1 := by
    have e : (BitVec.ofNat 32 c.val).slt (BitVec.ofNat 32 p.val) = decide (c < p) := by
      have hc := c.isLt; have hp := p.isLt
      rw [BitVec.slt_eq_decide, BitVec.toInt_eq_toNat_of_lt (by simp; omega), BitVec.toInt_eq_toNat_of_lt (by simp; omega)]
      simp only [BitVec.toNat_ofNat, Nat.mod_eq_of_lt (show c.val < 2 ^ 32 by omega), Nat.mod_eq_of_lt (show p.val < 2 ^ 32 by omega), Nat.cast_lt, Fin.lt_def]
    show BitVec.ofBool ((BitVec.ofNat 32 c.val).slt (BitVec.ofNat 32 p.val)) = _
    rw [e]
    by_cases hc : c < p <;> simp [hc]
  rw [h]
  by_cases hc : c < p
  · rw [if_pos hc, if_pos hc]; rfl
  · rw [if_neg hc, if_neg hc]; rfl

/-- The products of a block of queries with a block of keys. -/
def zf (Q K : S256x128.Idx → ℝ) : S256x256.Idx → ℝ := fun i => ∑ d : Fin 128, Q (ix2 (i 0) d) * K (ix2 (i 1) d)
/-- The logarithms of the complements: of a block before the diagonal, and of the diagonal block, with its mask. -/
def bo (z : S256x256.Idx → ℝ) : S256x256.Idx → ℝ := fun i => lsn (z i)
def bd (z : S256x256.Idx → ℝ) : S256x256.Idx → ℝ := fun i => if i 1 < i 0 then lsn (z i) else 0
/-- The sums of `b` over a block's later keys, and `r` after them. -/
def suf (b T : S256x256.Idx → ℝ) (r : S256x1.Idx → ℝ) (p c : Fin 256) : ℝ :=
  ∑ j : Fin 256, b (ix2 p j) * T (ix2 j c) + r (ix2 p 0)
/-- The weights of a block. -/
def wo (z T : S256x256.Idx → ℝ) (r : S256x1.Idx → ℝ) : S256x256.Idx → ℝ := fun i =>
  Real.exp (lsg (z i) + suf (bo z) T r (i 0) (i 1))
def wd (z T : S256x256.Idx → ℝ) (r : S256x1.Idx → ℝ) : S256x256.Idx → ℝ := fun i =>
  if i 1 < i 0 then Real.exp (lsg (z i) + suf (bd z) T r (i 0) (i 1)) else 0
/-- The cotangents of a block's products. -/
def dzo (de : S256x1.Idx → ℝ) (z g T : S256x256.Idx → ℝ) (r : S256x1.Idx → ℝ) : S256x256.Idx → ℝ := fun i =>
  g i * sg (-z i) - (de (ix2 (i 0) 0) - suf g T r (i 0) (i 1)) * sg (z i)
def dzd (de : S256x1.Idx → ℝ) (z g T : S256x256.Idx → ℝ) (r : S256x1.Idx → ℝ) : S256x256.Idx → ℝ := fun i =>
  if i 1 < i 0 then dzo de z g T r i else 0

theorem sg_coe (z : ℝ) : (if (0 : EReal) ≤ (z : EReal) then Ideal.div 1 (1 + ((Real.exp (-|z|) : ℝ) : EReal))
    else ((Real.exp (-|z|) : ℝ) : EReal) * Ideal.div 1 (1 + ((Real.exp (-|z|) : ℝ) : EReal))) = ((sg z : ℝ) : EReal) := by
  rw [one_coe, add_coe, div_coe _ _ (one_add_exp_pos _).ne', mul_coe]
  by_cases h : 0 ≤ z
  · rw [if_pos (EReal.coe_nonneg.2 h), abs_of_nonneg h, one_div]; rfl
  · rw [if_neg (fun h' => h (EReal.coe_nonneg.1 h')), abs_of_neg (not_le.1 h), neg_neg]
    refine congrArg _ ?_
    rw [sg, Real.exp_neg]
    have := Real.exp_pos z
    field_simp
    ring

theorem sgn_coe (z : ℝ) : (if (0 : EReal) ≤ (z : EReal) then ((Real.exp (-|z|) : ℝ) : EReal) * Ideal.div 1 (1 + ((Real.exp (-|z|) : ℝ) : EReal))
    else Ideal.div 1 (1 + ((Real.exp (-|z|) : ℝ) : EReal))) = ((sg (-z) : ℝ) : EReal) := by
  rw [one_coe, add_coe, div_coe _ _ (one_add_exp_pos _).ne', mul_coe]
  by_cases h : 0 ≤ z
  · rw [if_pos (EReal.coe_nonneg.2 h), abs_of_nonneg h]
    refine congrArg _ ?_
    rw [sg, neg_neg, Real.exp_neg]
    have := Real.exp_pos z
    field_simp
    try ring
  · rw [if_neg (fun h' => h (EReal.coe_nonneg.1 h')), abs_of_neg (not_le.1 h), neg_neg, one_div, sg, neg_neg]

/-- The high part of `b` is `b` and its low part is nothing. -/
theorem split_coe (b T : Fin 256 → ℝ) (r : ℝ) :
    (∑ x, (b x : EReal) * (T x : EReal) + ∑ x, ((b x : EReal) - (b x : EReal)) * (T x : EReal) + (r : EReal))
      = ((∑ x, b x * T x + r : ℝ) : EReal) := by
  simp only [sub_coe, mul_coe, sum_coe, add_coe, sub_self, zero_mul, Finset.sum_const_zero, add_zero]

section

variable (Q K V : S256x128.Idx → ℝ) (T b z g : S256x256.Idx → ℝ) (r de : S256x1.Idx → ℝ)

theorem ix {a b : ℕ} (i : (⟨2, ![a, b]⟩ : Shape).Idx) : ∃ p j, i = ix2 p j := ⟨i 0, i 1, (ix2_self i).symm⟩

theorem pay20 : k0_pay20 (F := Ideal) (fun i => (Q i : EReal)) (fun i => (K i : EReal)) = fun i => (zf Q K i : EReal) := by
  funext i
  obtain ⟨p, c, rfl⟩ := ix i
  pointwise [k0_pay20]
  simp only [mul_coe, sum_coe]
  rfl

theorem pay21 : k0_pay21 (F := Ideal) (fun i => (Q i : EReal)) (fun i => (K i : EReal)) = fun i => (l1 (zf Q K i) : EReal) := by
  funext i
  obtain ⟨p, c, rfl⟩ := ix i
  pointwise [k0_pay21]
  simp only [pay20, e_coe, l1_coe]

theorem pay22 : k0_pay22 (F := Ideal) (fun i => (Q i : EReal)) (fun i => (K i : EReal)) = fun i => (bo (zf Q K) i : EReal) := by
  funext i
  obtain ⟨p, c, rfl⟩ := ix i
  pointwise [k0_pay22]
  simp only [pay20, pay21, lsn_coe]
  rfl

theorem pay15 : k0_pay15 (F := Ideal) (fun i => (z i : EReal)) (fun i => (l1 (z i) : EReal)) = fun i => (bd z i : EReal) := by
  funext i
  obtain ⟨p, c, rfl⟩ := ix i
  pointwise [k0_pay15, k0_pay14]
  simp only [lsn_coe]
  exact select_lt p c _ 0

theorem wo_ix (p c : Fin 256) : wo z T r (ix2 p c) = Real.exp (lsg (z (ix2 p c)) + (∑ j : Fin 256, bo z (ix2 p j) * T (ix2 j c) + r (ix2 p 0))) := rfl

theorem pay23 (p : Fin 256) (d : Fin 128) :
    k0_pay23 (F := Ideal) (fun i => (Q i : EReal)) (fun i => (K i : EReal)) (fun i => (V i : EReal)) (fun i => (r i : EReal))
      (fun i => (T i : EReal)) (ix2 p d)
    = ((∑ c : Fin 256, wo (zf Q K) T r (ix2 p c) * V (ix2 c d) : ℝ) : EReal) := by
  pointwise [k0_pay23]
  simp only [pay20, pay21, pay22, lsg_coe]
  simp only [split_coe]
  simp only [add_coe, exp_coe, mul_coe, sum_coe, wo_ix]

theorem pay16 (a : S256x128.Idx → ℝ) (p : Fin 256) (d : Fin 128) :
    k0_pay16 (F := Ideal) (fun i => (V i : EReal)) (fun i => (r i : EReal)) (fun i => (T i : EReal)) (fun i => (z i : EReal))
      (fun i => (l1 (z i) : EReal)) (Scalar.ofBits .f32 0x00000000#32) (fun i => (a i : EReal)) (ix2 p d)
    = ((a (ix2 p d) + ∑ c : Fin 256, wd z T r (ix2 p c) * V (ix2 c d) : ℝ) : EReal) := by
  pointwise [k0_pay16]
  simp only [pay15, lsg_coe]
  simp only [split_coe]
  simp only [add_coe, exp_coe, mul_coe]
  have e : ∀ x, Scalar.select (k0_pay14 (ix2 p x)) ((Real.exp (lsg (z (ix2 p x)) + (∑ j, bd z (ix2 p j) * T (ix2 j x) + r (ix2 p 0))) * V (ix2 x d) : ℝ) : EReal) 0
      = ((wd z T r (ix2 p x) * V (ix2 x d) : ℝ) : EReal) := fun x => by
    have e1 := select_lt p x (Real.exp (lsg (z (ix2 p x)) + (∑ j, bd z (ix2 p j) * T (ix2 j x) + r (ix2 p 0))) * V (ix2 x d)) 0
    pointwise [k0_pay14]
    refine e1.trans (congrArg _ ?_)
    by_cases h : x < p
    · rw [if_pos h]
      exact congrArg (· * V (ix2 x d)) (if_pos h).symm
    · rw [if_neg h]
      exact ((congrArg (· * V (ix2 x d)) (if_neg h)).trans (zero_mul _)).symm
  simp only [e, sum_coe, add_coe]

theorem bpay19 : k1_pay19 (F := Ideal) (fun i => (Q i : EReal)) (fun i => (K i : EReal)) = fun i => (zf Q K i : EReal) := pay20 Q K
theorem bpay38 : k1_pay38 (F := Ideal) (fun i => (Q i : EReal)) (fun i => (K i : EReal)) = fun i => (zf Q K i : EReal) := pay20 Q K
theorem bpay21 : k1_pay21 (F := Ideal) (fun i => (Q i : EReal)) (fun i => (K i : EReal)) = fun i => (l1 (zf Q K i) : EReal) := pay21 Q K
theorem bpay40 : k1_pay40 (F := Ideal) (fun i => (Q i : EReal)) (fun i => (K i : EReal)) = fun i => (l1 (zf Q K i) : EReal) := pay21 Q K
theorem bpay41 : k1_pay41 (F := Ideal) (fun i => (Q i : EReal)) (fun i => (K i : EReal)) = fun i => (bo (zf Q K) i : EReal) := pay22 Q K

theorem bpay39 : k1_pay39 (F := Ideal) (fun i => (Q i : EReal)) (fun i => (K i : EReal)) = fun i => (Real.exp (-|zf Q K i|) : EReal) := by
  funext i
  obtain ⟨p, c, rfl⟩ := ix i
  pointwise [k1_pay39]
  simp only [bpay38, e_coe]

theorem bpay20 : k1_pay20 (F := Ideal) (fun i => (Q i : EReal)) (fun i => (K i : EReal)) = fun i => (Real.exp (-|zf Q K i|) : EReal) :=
  bpay39 Q K

theorem bpay23 : k1_pay23 (F := Ideal) (fun i => (Q i : EReal)) (fun i => (K i : EReal)) = fun i => (bd (zf Q K) i : EReal) := by
  rw [← pay15, ← pay20, ← pay21]; rfl

theorem bpay42 : k1_pay42 (F := Ideal) (fun i => (Q i : EReal)) (fun i => (K i : EReal)) (fun i => (r i : EReal)) (fun i => (T i : EReal))
    = fun i => (wo (zf Q K) T r i : EReal) := by
  funext i
  obtain ⟨p, c, rfl⟩ := ix i
  pointwise [k1_pay42]
  simp only [bpay38, bpay40, bpay41, lsg_coe]
  simp only [split_coe]
  simp only [add_coe, exp_coe]
  rfl

theorem bpay24 : k1_pay24 (F := Ideal) (fun i => (Q i : EReal)) (fun i => (K i : EReal)) (fun i => (r i : EReal)) (fun i => (T i : EReal))
    = fun i => (wd (zf Q K) T r i : EReal) := by
  funext i
  obtain ⟨p, c, rfl⟩ := ix i
  pointwise [k1_pay24, k1_pay22]
  simp only [bpay19, bpay21, bpay23, lsg_coe]
  simp only [split_coe]
  simp only [add_coe, exp_coe]
  exact select_lt p c _ 0

theorem bpay43 (D : S256x128.Idx → ℝ) : k1_pay43 (F := Ideal) (fun i => (Q i : EReal)) (fun i => (D i : EReal)) (fun i => (K i : EReal)) (fun i => (V i : EReal))
    (fun i => (r i : EReal)) (fun i => (T i : EReal)) = fun i => ((wo (zf Q K) T r i * zf D V i : ℝ) : EReal) := by
  funext i
  obtain ⟨p, c, rfl⟩ := ix i
  pointwise [k1_pay43]
  simp only [bpay42, mul_coe, sum_coe]
  rfl

theorem bpay25 (D : S256x128.Idx → ℝ) : k1_pay25 (F := Ideal) (fun i => (Q i : EReal)) (fun i => (D i : EReal)) (fun i => (K i : EReal)) (fun i => (V i : EReal))
    (fun i => (r i : EReal)) (fun i => (T i : EReal)) = fun i => ((wd (zf Q K) T r i * zf D V i : ℝ) : EReal) := by
  funext i
  obtain ⟨p, c, rfl⟩ := ix i
  pointwise [k1_pay25]
  simp only [bpay24, mul_coe, sum_coe]
  rfl

theorem bpay45 : k1_pay45 (F := Ideal) (fun i => (de i : EReal)) (fun i => (z i : EReal)) (fun i => (Real.exp (-|z i|) : EReal))
    (fun i => (g i : EReal)) (fun i => (g i : EReal)) (fun i => (T i : EReal)) (fun i => (r i : EReal)) = fun i => (dzo de z g T r i : EReal) := by
  funext i
  obtain ⟨p, c, rfl⟩ := ix i
  pointwise [k1_pay45]
  simp only [sg_coe, sgn_coe]
  simp only [split_coe]
  simp only [sub_coe, mul_coe]
  rfl

theorem bpay28 : k1_pay28 (F := Ideal) (fun i => (de i : EReal)) (fun i => (z i : EReal)) (fun i => (Real.exp (-|z i|) : EReal)) k1_pay22
    (fun i => (g i : EReal)) (fun i => (g i : EReal)) (fun i => (g i : EReal)) (fun i => (T i : EReal)) (fun i => (r i : EReal))
      = fun i => (dzd de z g T r i : EReal) := by
  funext i
  obtain ⟨p, c, rfl⟩ := ix i
  pointwise [k1_pay28, k1_pay22]
  simp only [sg_coe, sgn_coe]
  simp only [split_coe]
  simp only [sub_coe, mul_coe]
  exact select_lt p c _ 0

end

end Cert.Attn

end
-- ==== Proof.AttnMath.lean ====
/- Stick-breaking attention over the reals: a query's weights and their cotangents as sums over the keys before it, and the
   sums a block of 256 keys adds to them. -/
module

public import proofs.«01_k».proof.Proof.AttnPay

@[expose] public section

noncomputable section

open Idealize.ShloMosaic

namespace Cert.Attn

open Cert.Kernel2Ideal Finset

/-- Row `s` of an array of 4096 rows. -/
def row (K : S4096x128.Idx → ℝ) (s : ℕ) (d : Fin 128) : ℝ := K (ix2 (⟨s % 4096, Nat.mod_lt _ (by decide)⟩ : Fin 4096) d)

def dot (a b : Fin 128 → ℝ) : ℝ := ∑ d, a d * b d

/-- The logarithm of what the keys after `s` leave of the stick of the query `t`, whose products with the keys are `z`. -/
def left (z : ℕ → ℝ) (t s : ℕ) : ℝ := ∑ j ∈ Ico (s + 1) t, lsn (z j)
/-- The weight of the key `s`. -/
def wgt (z : ℕ → ℝ) (t s : ℕ) : ℝ := Real.exp (lsg (z s) + left z t s)
/-- The weight times its cotangent `u s`. -/
def gw (z u : ℕ → ℝ) (t s : ℕ) : ℝ := wgt z t s * u s
/-- The cotangent of `z s`. -/
def cot (z u : ℕ → ℝ) (t s : ℕ) : ℝ := gw z u t s * sg (-z s) - (∑ j ∈ range s, gw z u t j) * sg (z s)

/-! ### Sums over a block -/

theorem sum_block (f : ℕ → ℝ) (n : ℕ) : ∑ c : Fin 256, f (256 * n + c.val) = ∑ s ∈ Ico (256 * n) (256 * (n + 1)), f s := by
  rw [sum_Ico_eq_sum_range, Finset.sum_range, show 256 * (n + 1) - 256 * n = 256 by omega]

/-- The keys of a block that pass a test, and the keys from the next block to `t`, where together they are those from `a` to `t`. -/
theorem sum_block_if (f : ℕ → ℝ) (n a t : ℕ) (P : Fin 256 → Prop) [DecidablePred P] (ha : 256 * n ≤ a) (hb : a ≤ 256 * (n + 1))
    (ht : 256 * (n + 1) ≤ t) (hP : ∀ c, P c ↔ a ≤ 256 * n + c.val) :
    ∑ c : Fin 256, (if P c then f (256 * n + c.val) else 0) + ∑ s ∈ Ico (256 * (n + 1)) t, f s = ∑ s ∈ Ico a t, f s := by
  rw [← sum_Ico_consecutive f hb ht]
  congr 1
  have e : ∀ c : Fin 256, (if P c then f (256 * n + c.val) else 0) = (fun s => if a ≤ s then f s else 0) (256 * n + c.val) := fun c => by
    simp only [hP]
  refine (sum_congr rfl fun c _ => e c).trans ((sum_block (fun s => if a ≤ s then f s else 0) n).trans ?_)
  rw [← sum_filter]
  refine sum_congr (Finset.ext fun s => ?_) fun _ _ => rfl
  simp only [mem_filter, mem_Ico]
  omega

/-- The keys of the block the query `256 n + p` is in, from `a` up to it. -/
theorem sum_diag_if (f : ℕ → ℝ) (n a : ℕ) (p : Fin 256) (P : Fin 256 → Prop) [DecidablePred P] (ha : 256 * n ≤ a)
    (hP : ∀ c, P c ↔ a ≤ 256 * n + c.val ∧ c < p) :
    ∑ c : Fin 256, (if P c then f (256 * n + c.val) else 0) = ∑ s ∈ Ico a (256 * n + p.val), f s := by
  have e : ∀ c : Fin 256, (if P c then f (256 * n + c.val) else 0)
      = (fun s => if a ≤ s ∧ s < 256 * n + p.val then f s else 0) (256 * n + c.val) := fun c => by
    simp only [hP, Fin.lt_def]
    congr 1
    simp
  refine (sum_congr rfl fun c _ => e c).trans ((sum_block (fun s => if a ≤ s ∧ s < 256 * n + p.val then f s else 0) n).trans ?_)
  rw [← sum_filter]
  refine sum_congr (Finset.ext fun s => ?_) fun _ _ => rfl
  simp only [mem_filter, mem_Ico]
  omega

/-! ### A block of keys against a block of queries -/

/-- The `n`-th block of 256 rows. -/
def blk (K : S4096x128.Idx → ℝ) (n : ℕ) : S256x128.Idx → ℝ := fun y =>
  K (ix2 (⟨(256 * n + (y 0).val) % 4096, Nat.mod_lt _ (by decide)⟩ : Fin 4096) (⟨(y 1).val, (y 1).isLt⟩ : Fin 128))

/-- The strict and the weak triangle: entry `j, c` says whether the key `j` is after `c`, or from `c` on. -/
def triA : S256x256.Idx → ℝ := fun i => if i 1 < i 0 then 1 else 0
def triF : S256x256.Idx → ℝ := fun i => if i 1 ≤ i 0 then 1 else 0

section

variable (Q D : S256x128.Idx → ℝ) (K V : S4096x128.Idx → ℝ)

/-- The products of a block's query with the keys. -/
def zq (p : Fin 256) (s : ℕ) : ℝ := dot (fun d => Q (ix2 p d)) (row K s)

theorem zf_blk (n : ℕ) (p c : Fin 256) : zf Q (blk K n) (ix2 p c) = zq Q K p (256 * n + c.val) := rfl

/-- The sums of `f` over the keys from the block `n` to the query, for each query of the block `i`. -/
def sums (f : Fin 256 → ℕ → ℝ) (i n : ℕ) : S256x1.Idx → ℝ := fun y =>
  ∑ s ∈ Ico (256 * n) (256 * i + (y 0).val), f ⟨(y 0).val, (y 0).isLt⟩ s

/-- The sums of `f` times the rows of `V` likewise. -/
def outs (f : Fin 256 → ℕ → ℝ) (i n : ℕ) : S256x128.Idx → ℝ := fun y =>
  ∑ s ∈ Ico (256 * n) (256 * i + (y 0).val), f ⟨(y 0).val, (y 0).isLt⟩ s * row V s ⟨(y 1).val, (y 1).isLt⟩

theorem sums_step (f : Fin 256 → ℕ → ℝ) (b : S256x256.Idx → ℝ) (i n : ℕ) (hn : n < i)
    (hb : ∀ p c, b (ix2 p c) = f p (256 * n + c.val)) (p : Fin 256) :
    sums f i (n + 1) (ix2 p 0) + ∑ c : Fin 256, b (ix2 p c) = sums f i n (ix2 p 0) := by
  simp only [hb]
  rw [sum_block, add_comm]
  exact sum_Ico_consecutive _ (by omega) (by omega)

theorem sums_first (f : Fin 256 → ℕ → ℝ) (b : S256x256.Idx → ℝ) (i : ℕ)
    (hb : ∀ p c, b (ix2 p c) = if c < p then f p (256 * i + c.val) else 0) (p : Fin 256) :
    ∑ c : Fin 256, b (ix2 p c) = sums f i i (ix2 p 0) := by
  simp only [hb]
  exact sum_diag_if _ i (256 * i) p _ le_rfl fun c => by omega

theorem outs_step (f : Fin 256 → ℕ → ℝ) (b : S256x256.Idx → ℝ) (i n : ℕ) (hn : n < i)
    (hb : ∀ p c, b (ix2 p c) = f p (256 * n + c.val)) (p : Fin 256) (d : Fin 128) :
    outs V f i (n + 1) (ix2 p d) + ∑ c : Fin 256, b (ix2 p c) * blk V n (ix2 c d) = outs V f i n (ix2 p d) := by
  simp only [hb]
  refine (add_comm _ _).trans ((congrArg (· + outs V f i (n + 1) (ix2 p d)) (sum_block (fun s => f p s * row V s d) n)).trans ?_)
  exact sum_Ico_consecutive _ (by omega) (by omega)

theorem outs_first (f : Fin 256 → ℕ → ℝ) (b : S256x256.Idx → ℝ) (i : ℕ)
    (hb : ∀ p c, b (ix2 p c) = if c < p then f p (256 * i + c.val) else 0) (p : Fin 256) (d : Fin 128) :
    ∑ c : Fin 256, b (ix2 p c) * blk V i (ix2 c d) = outs V f i i (ix2 p d) := by
  simp only [hb, ite_mul, zero_mul]
  exact sum_diag_if (fun s => f p s * row V s d) i (256 * i) p _ le_rfl fun c => by omega

theorem sufA_step (f : Fin 256 → ℕ → ℝ) (b : S256x256.Idx → ℝ) (i n : ℕ) (hn : n < i)
    (hb : ∀ p c, b (ix2 p c) = f p (256 * n + c.val)) (p c : Fin 256) :
    suf b triA (sums f i (n + 1)) p c = ∑ s ∈ Ico (256 * n + c.val + 1) (256 * i + p.val), f p s := by
  have e : ∀ j : Fin 256, b (ix2 p j) * triA (ix2 j c) = if c < j then f p (256 * n + j.val) else 0 := fun j => by
    rw [hb]; exact (mul_ite _ _ _ _).trans (by rw [mul_one, mul_zero]; rfl)
  unfold suf
  rw [sum_congr rfl fun j _ => e j]
  exact sum_block_if (f p) n _ _ _ (by omega) (by omega) (by omega) fun j => by rw [Fin.lt_def]; omega

theorem sufA_first (f : Fin 256 → ℕ → ℝ) (b : S256x256.Idx → ℝ) (i : ℕ)
    (hb : ∀ p c, b (ix2 p c) = if c < p then f p (256 * i + c.val) else 0) (p c : Fin 256) :
    suf b triA (fun _ => 0) p c = ∑ s ∈ Ico (256 * i + c.val + 1) (256 * i + p.val), f p s := by
  have e : ∀ j : Fin 256, b (ix2 p j) * triA (ix2 j c) = if c < j ∧ j < p then f p (256 * i + j.val) else 0 := fun j => by
    rw [hb]
    refine (mul_ite _ _ _ _).trans ?_
    rw [mul_one, mul_zero, ite_and]; rfl
  unfold suf
  rw [sum_congr rfl fun j _ => e j, add_zero]
  exact sum_diag_if (f p) i _ p _ (by omega) fun j => by simp only [Fin.lt_def]; omega

theorem sufF_step (f : Fin 256 → ℕ → ℝ) (b : S256x256.Idx → ℝ) (i n : ℕ) (hn : n < i)
    (hb : ∀ p c, b (ix2 p c) = f p (256 * n + c.val)) (p c : Fin 256) :
    suf b triF (sums f i (n + 1)) p c = ∑ s ∈ Ico (256 * n + c.val) (256 * i + p.val), f p s := by
  have e : ∀ j : Fin 256, b (ix2 p j) * triF (ix2 j c) = if c ≤ j then f p (256 * n + j.val) else 0 := fun j => by
    rw [hb]; exact (mul_ite _ _ _ _).trans (by rw [mul_one, mul_zero]; rfl)
  unfold suf
  rw [sum_congr rfl fun j _ => e j]
  exact sum_block_if (f p) n _ _ _ (by omega) (by omega) (by omega) fun j => by rw [Fin.le_def]; omega

theorem sufF_first (f : Fin 256 → ℕ → ℝ) (b : S256x256.Idx → ℝ) (i : ℕ)
    (hb : ∀ p c, b (ix2 p c) = if c < p then f p (256 * i + c.val) else 0) (p c : Fin 256) :
    suf b triF (fun _ => 0) p c = ∑ s ∈ Ico (256 * i + c.val) (256 * i + p.val), f p s := by
  have e : ∀ j : Fin 256, b (ix2 p j) * triF (ix2 j c) = if c ≤ j ∧ j < p then f p (256 * i + j.val) else 0 := fun j => by
    rw [hb]
    refine (mul_ite _ _ _ _).trans ?_
    rw [mul_one, mul_zero, ite_and]; rfl
  unfold suf
  rw [sum_congr rfl fun j _ => e j, add_zero]
  exact sum_diag_if (f p) i _ p _ (by omega) fun j => by simp only [Fin.lt_def, Fin.le_def]; omega

/-- The logarithms, the weights, the weighted cotangents and the products' cotangents of a block's query. -/
def fb (p : Fin 256) (s : ℕ) : ℝ := lsn (zq Q K p s)
def fw (i : ℕ) (p : Fin 256) (s : ℕ) : ℝ := wgt (zq Q K p) (256 * i + p.val) s
def fg (i : ℕ) (p : Fin 256) (s : ℕ) : ℝ := gw (zq Q K p) (zq D V p) (256 * i + p.val) s
def fz (i : ℕ) (p : Fin 256) (s : ℕ) : ℝ := cot (zq Q K p) (zq D V p) (256 * i + p.val) s

theorem bo_blk (n : ℕ) (p c : Fin 256) : bo (zf Q (blk K n)) (ix2 p c) = fb Q K p (256 * n + c.val) := rfl
theorem bd_blk (n : ℕ) (p c : Fin 256) : bd (zf Q (blk K n)) (ix2 p c) = if c < p then fb Q K p (256 * n + c.val) else 0 := rfl

theorem wo_blk (i n : ℕ) (hn : n < i) (p c : Fin 256) :
    wo (zf Q (blk K n)) triA (sums (fb Q K) i (n + 1)) (ix2 p c) = fw Q K i p (256 * n + c.val) := by
  refine (congrArg (fun x => Real.exp (lsg (zf Q (blk K n) (ix2 p c)) + x)) (sufA_step (fb Q K) _ i n hn (bo_blk Q K n) p c)).trans ?_
  rfl

theorem wd_blk (i : ℕ) (p c : Fin 256) :
    wd (zf Q (blk K i)) triA (fun _ => 0) (ix2 p c) = if c < p then fw Q K i p (256 * i + c.val) else 0 := by
  refine (congrArg (fun x => if c < p then Real.exp (lsg (zf Q (blk K i) (ix2 p c)) + x) else 0)
    (sufA_first (fb Q K) _ i (bd_blk Q K i) p c)).trans ?_
  rfl

end

end Cert.Attn

end
-- ==== Proof.AttnFwdReal.lean ====
/- What a point of the forward attention leaves, at finite arguments: the weighted sums of the values. -/
module

public import proofs.«01_k».proof.Proof.AttnMath
public import proofs.«01_k».proof.Proof.AttnFwdBody

@[expose] public section

set_option maxRecDepth 16384

noncomputable section

open Idealize.ShloMosaic

namespace Cert.Attn

open Cert.Kernel2Ideal Cert.Kernel2Ideal.Gen Cert.Reals Finset

/-- The loop never stops early over the reals: its threshold is below every one. -/
theorem above (x : EReal) (r : ℝ) (h : (r : EReal) ≤ x) : Scalar.cmpf (F := Ideal) (φ := .f32) .ogt x thr = 1#1 := by
  show BitVec.ofBool (decide ((⊥ : EReal) < x)) = 1#1
  rw [decide_eq_true (lt_of_lt_of_le (EReal.bot_lt_coe r) h)]; rfl

theorem pay5_ge (b : FVec Ideal S256x256 .f32) (r : FVec Ideal S256x1 .f32) : k0_pay3 b r (ix2 0 0) ≤ k0_pay5 b r := by
  pointwise [k0_pay5]
  exact (Finset.le_fold_max _).2 (Or.inr ⟨(0, 0), mem_univ _, le_rfl⟩)

theorem pay1_ge (z l : FVec Ideal S256x256 .f32) (r : FVec Ideal S256x1 .f32) : k0_pay17 z l r (ix2 0 0) ≤ k0_pay1 (k0_pay19 z l r) := by
  pointwise [k0_pay1, k0_pay19]
  exact (Finset.le_fold_max _).2 (Or.inr ⟨(0, 0), mem_univ _, le_rfl⟩)

theorem pay3 (b : S256x256.Idx → ℝ) (r : S256x1.Idx → ℝ) (p : Fin 256) :
    k0_pay3 (F := Ideal) (fun i => (b i : EReal)) (fun i => (r i : EReal)) (ix2 p 0) = ((r (ix2 p 0) + ∑ c : Fin 256, b (ix2 p c) : ℝ) : EReal) := by
  pointwise [k0_pay3]
  simp only [sum_coe, add_coe]

theorem pay4 (b : S256x256.Idx → ℝ) (r : S256x1.Idx → ℝ) (p : Fin 256) :
    k0_pay4 (F := Ideal) (fun i => (b i : EReal)) (fun i => (r i : EReal)) (ix2 p 0) = ((r (ix2 p 0) + ∑ c : Fin 256, b (ix2 p c) : ℝ) : EReal) := by
  pointwise [k0_pay4]
  exact pay3 b r p

theorem pay17 (z : S256x256.Idx → ℝ) (r : S256x1.Idx → ℝ) (p : Fin 256) :
    k0_pay17 (F := Ideal) (fun i => (z i : EReal)) (fun i => (l1 (z i) : EReal)) (fun i => (r i : EReal)) (ix2 p 0)
      = ((r (ix2 p 0) + ∑ c : Fin 256, bd z (ix2 p c) : ℝ) : EReal) := by
  pointwise [k0_pay17]
  simp only [pay15, sum_coe, add_coe]

theorem pay18 (z : S256x256.Idx → ℝ) (r : S256x1.Idx → ℝ) (p : Fin 256) :
    k0_pay18 (F := Ideal) (fun i => (z i : EReal)) (fun i => (l1 (z i) : EReal)) (fun i => (r i : EReal)) (ix2 p 0)
      = ((r (ix2 p 0) + ∑ c : Fin 256, bd z (ix2 p c) : ℝ) : EReal) := by
  pointwise [k0_pay18]
  exact pay17 z r p

theorem pay9 : k0_pay9 (F := Ideal) = fun _ => ((0 : ℝ) : EReal) := by
  funext i; pointwise [k0_pay9]; rfl
theorem pay10 : k0_pay10 (F := Ideal) = fun _ => ((0 : ℝ) : EReal) := by
  funext i; pointwise [k0_pay10]; rfl
theorem pay11 (T : FVec Ideal S256x256 .bf16) : k0_pay11 (F := Ideal) T = T := by
  funext i
  obtain ⟨p, c, rfl⟩ := ix i
  pointwise [k0_pay11]

/-- The scale of the queries: the float nearest the inverse of the root of 128. -/
def sc : ℝ := (Ideal.ofBits .f32 0x3DB504F3#32).toReal

theorem ofBits_sc : Ideal.ofBits .f32 0x3DB504F3#32 = ((sc : ℝ) : EReal) := by
  have e : ∃ r : ℝ, Ideal.ofBits .f32 0x3DB504F3#32 = (r : EReal) := by
    simp only [Ideal.ofBits, Ideal.ieee]
    simp
    exact ⟨_, mul_coe _ _⟩
  obtain ⟨r, hr⟩ := e
  rw [sc, hr, EReal.toReal_coe]

theorem pay8 (q : S256x128.Idx → ℝ) : k0_pay8 (F := Ideal) (fun i => (q i : EReal)) = fun i => ((q i * sc : ℝ) : EReal) := by
  funext i
  obtain ⟨p, c, rfl⟩ := ix i
  pointwise [k0_pay8]
  rw [ofBits_sc, mul_coe]

theorem col {f g : FVec Ideal S256x1 .f32} (h : ∀ p : Fin 256, f (ix2 p 0) = g (ix2 p 0)) : f = g := by
  funext i
  obtain ⟨p, c, rfl⟩ := ix i
  obtain rfl : c = 0 := Subsingleton.elim _ _
  exact h p

section

variable (q : S256x128.Idx → ℝ) (K V : S4096x128.Idx → ℝ)

/-- The scaled queries. -/
def scaled : S256x128.Idx → ℝ := fun i => q i * sc

/-- The output and the sums with `n` blocks left. -/
def st0 (i n : ℕ) : Vec Ideal S256x128 .f32 × Vec Ideal S256x1 .f32 :=
  (fun y => (outs V (fw (scaled q) K i) i n y : EReal), fun y => (sums (fb (scaled q) K) i n y : EReal))

theorem step0_real (i n : ℕ) (hn : n < i) :
    step0 (F := Ideal) (fun y => (K y : EReal)) (fun y => (V y : EReal)) (fun y => (triA y : EReal)) (fun y => (scaled q y : EReal)) n (st0 q K V i (n + 1))
      = st0 q K V i n := by
  have eK : rows (F := Ideal) (e := .bf16) (fun y => (K y : EReal)) n = fun y => (blk K n y : EReal) := rfl
  have eV : rows (F := Ideal) (e := .bf16) (fun y => (V y : EReal)) n = fun y => (blk V n y : EReal) := rfl
  unfold step0
  rw [eK, eV, pay22]
  refine Prod.ext ?_ ?_
  · funext y
    obtain ⟨p, d, rfl⟩ := ix y
    pointwise [k0_pay2]
    dsimp only [st0]
    rw [pay23, add_coe, outs_step V _ _ i n hn (wo_blk (scaled q) K i n hn)]
  · refine col fun p => ?_
    dsimp only [st0]
    rw [pay4, sums_step _ _ i n hn (bo_blk (scaled q) K n)]

theorem more0_real (i n : ℕ) :
    more0 (F := Ideal) (fun y => (K y : EReal)) (fun y => (scaled q y : EReal)) n (st0 q K V i (n + 1)) = 1#1 := by
  have eK : rows (F := Ideal) (e := .bf16) (fun y => (K y : EReal)) n = fun y => (blk K n y : EReal) := rfl
  unfold more0
  rw [eK, pay22]
  exact above _ _ (le_trans (le_of_eq (pay3 _ _ 0).symm) (pay5_ge _ _))

theorem sweep0_real (i : ℕ) : ∀ n, n ≤ i →
    sweep0 (F := Ideal) (fun y => (K y : EReal)) (fun y => (V y : EReal)) (fun y => (triA y : EReal)) (fun y => (scaled q y : EReal)) n 1#1
      (st0 q K V i n) = st0 q K V i 0
  | 0, _ => rfl
  | n + 1, h => by
    rw [sweep0, if_pos rfl, more0_real, step0_real q K V i n h]
    exact sweep0_real i n (by omega)

/-- What a point leaves: the values of the keys before each query, weighted. -/
theorem fwd0_real (i : ℕ) :
    fwd0 (F := Ideal) (fun y => (q y : EReal)) (fun y => (K y : EReal)) (fun y => (V y : EReal)) (fun y => (triA y : EReal)) i
      = st0 q K V i 0 := by
  have eK : rows (F := Ideal) (e := .bf16) (fun y => (K y : EReal)) i = fun y => (blk K i y : EReal) := rfl
  have eV : rows (F := Ideal) (e := .bf16) (fun y => (V y : EReal)) i = fun y => (blk V i y : EReal) := rfl
  have e12 : k0_pay12 (F := Ideal) (fun y => (q y : EReal)) (fun y => (blk K i y : EReal)) = fun y => (zf (scaled q) (blk K i) y : EReal) := by
    refine Eq.trans ?_ (pay20 (scaled q) (blk K i))
    exact congrArg (fun x => k0_pay20 x _) (pay8 q)
  have e13 : k0_pay13 (F := Ideal) (fun y => (q y : EReal)) (fun y => (blk K i y : EReal)) = fun y => (l1 (zf (scaled q) (blk K i) y) : EReal) := by
    refine Eq.trans ?_ (pay21 (scaled q) (blk K i))
    exact congrArg (fun x => k0_pay21 x _) (pay8 q)
  unfold fwd0
  have ef : first0 (F := Ideal) (fun y => (q y : EReal)) (fun y => (K y : EReal)) (fun y => (V y : EReal)) (fun y => (triA y : EReal)) i
      = st0 q K V i i := by
    unfold first0
    rw [eK, eV, e12, e13, pay9, pay10, pay11]
    refine Prod.ext ?_ ?_
    · funext y
      obtain ⟨p, d, rfl⟩ := ix y
      dsimp only [st0]
      refine (pay16 _ _ _ _ _ _ _).trans (congrArg _ ?_)
      rw [zero_add, outs_first V _ _ i (wd_blk (scaled q) K i)]
    · refine col fun p => ?_
      dsimp only [st0]
      refine (pay18 _ _ _).trans (congrArg _ ?_)
      rw [zero_add, sums_first _ _ i (bd_blk (scaled q) K i)]
  have ee : enter0 (F := Ideal) (fun y => (q y : EReal)) (fun y => (K y : EReal)) i = 1#1 := by
    unfold enter0
    rw [eK, e12, e13, pay10]
    exact above _ _ (le_trans (le_of_eq (pay17 _ _ 0).symm) (pay1_ge _ _ _))
  rw [ef, ee, pay8]
  exact sweep0_real q K V i i le_rfl

end

end Cert.Attn

end
-- ==== Proof.AttnBwdReal.lean ====
/- What a point of the backward attention leaves, at finite arguments: the gradients of its queries, and what they add to the
   gradients of the head's keys and values. -/
module

public import proofs.«01_k».proof.Proof.AttnFwdReal
public import proofs.«01_k».proof.Proof.AttnBwdBody

@[expose] public section

set_option maxRecDepth 16384

noncomputable section

open Idealize.ShloMosaic

namespace Cert.Attn

open Cert.Kernel2Ideal Cert.Kernel2Ideal.Gen Cert.Reals Finset

/-! ### The body's formulas -/

section

variable (Q K V D X a : S256x128.Idx → ℝ) (T z g w : S256x256.Idx → ℝ) (r de : S256x1.Idx → ℝ)

theorem bpay46 (p : Fin 256) (d : Fin 128) : k1_pay46 (F := Ideal) (fun i => (de i : EReal)) (fun i => (K i : EReal)) (fun i => (z i : EReal))
    (fun i => (Real.exp (-|z i|) : EReal)) (fun i => (g i : EReal)) (fun i => (g i : EReal)) (fun i => (T i : EReal)) (fun i => (r i : EReal))
    (fun i => (a i : EReal)) (ix2 p d) = ((a (ix2 p d) + ∑ c : Fin 256, dzo de z g T r (ix2 p c) * K (ix2 c d) : ℝ) : EReal) := by
  pointwise [k1_pay46]
  simp only [bpay45, mul_coe, sum_coe, add_coe]

theorem bpay47 (c : Fin 256) (d : Fin 128) : k1_pay47 (F := Ideal) (fun i => (Q i : EReal)) (fun i => (de i : EReal)) (fun i => (z i : EReal))
    (fun i => (Real.exp (-|z i|) : EReal)) (fun i => (g i : EReal)) (fun i => (g i : EReal)) (fun i => (T i : EReal)) (fun i => (r i : EReal))
    (fun i => (a i : EReal)) (ix2 c d) = ((a (ix2 c d) + ∑ p : Fin 256, dzo de z g T r (ix2 p c) * Q (ix2 p d) : ℝ) : EReal) := by
  pointwise [k1_pay47]
  simp only [bpay45, mul_coe, sum_coe, add_coe]

theorem bpay29 (p : Fin 256) (d : Fin 128) : k1_pay29 (F := Ideal) (fun i => (de i : EReal)) (fun i => (K i : EReal)) (fun i => (z i : EReal))
    (fun i => (Real.exp (-|z i|) : EReal)) k1_pay22 (fun i => (g i : EReal)) (fun i => (g i : EReal)) (fun i => (g i : EReal)) (fun i => (T i : EReal)) (fun i => (r i : EReal))
    (fun i => (a i : EReal)) (ix2 p d) = ((a (ix2 p d) + ∑ c : Fin 256, dzd de z g T r (ix2 p c) * K (ix2 c d) : ℝ) : EReal) := by
  pointwise [k1_pay29]
  simp only [bpay28, mul_coe, sum_coe, add_coe]

theorem bpay30 (c : Fin 256) (d : Fin 128) : k1_pay30 (F := Ideal) (fun i => (Q i : EReal)) (fun i => (de i : EReal)) (fun i => (z i : EReal))
    (fun i => (Real.exp (-|z i|) : EReal)) k1_pay22 (fun i => (g i : EReal)) (fun i => (g i : EReal)) (fun i => (g i : EReal)) (fun i => (T i : EReal)) (fun i => (r i : EReal))
    (fun i => (a i : EReal)) (ix2 c d) = ((a (ix2 c d) + ∑ p : Fin 256, dzd de z g T r (ix2 p c) * Q (ix2 p d) : ℝ) : EReal) := by
  pointwise [k1_pay30]
  simp only [bpay28, mul_coe, sum_coe, add_coe]

theorem bpay31 (x : FVec Ideal S256x128 .f32) : k1_pay31 (F := Ideal) x = x := by
  funext i
  obtain ⟨p, c, rfl⟩ := ix i
  pointwise [k1_pay31]

theorem bpay4 (c : Fin 256) (d : Fin 128) : k1_pay4 (F := Ideal) (fun i => (D i : EReal)) (fun i => (w i : EReal)) (fun i => (a i : EReal)) (ix2 c d)
    = ((a (ix2 c d) + ∑ p : Fin 256, w (ix2 p c) * D (ix2 p d) : ℝ) : EReal) := by
  pointwise [k1_pay4]
  simp only [mul_coe, sum_coe, add_coe]

theorem bpay5 (p : Fin 256) : k1_pay5 (F := Ideal) (fun i => (g i : EReal)) (fun i => (r i : EReal)) (ix2 p 0)
    = ((r (ix2 p 0) + ∑ c : Fin 256, g (ix2 p c) : ℝ) : EReal) := pay3 g r p
theorem bpay6 (p : Fin 256) : k1_pay6 (F := Ideal) (fun i => (g i : EReal)) (fun i => (r i : EReal)) (ix2 p 0)
    = ((r (ix2 p 0) + ∑ c : Fin 256, g (ix2 p c) : ℝ) : EReal) := pay4 g r p
theorem bpay7 (p : Fin 256) : k1_pay7 (F := Ideal) (fun i => (g i : EReal)) (fun i => (r i : EReal)) (ix2 p 0)
    = ((r (ix2 p 0) + ∑ c : Fin 256, g (ix2 p c) : ℝ) : EReal) := pay4 g r p
theorem bpay34 (p : Fin 256) : k1_pay34 (F := Ideal) (fun i => (g i : EReal)) (fun i => (r i : EReal)) (ix2 p 0)
    = ((r (ix2 p 0) + ∑ c : Fin 256, g (ix2 p c) : ℝ) : EReal) := pay4 g r p
theorem bpay35 (p : Fin 256) : k1_pay35 (F := Ideal) (fun i => (g i : EReal)) (fun i => (r i : EReal)) (ix2 p 0)
    = ((r (ix2 p 0) + ∑ c : Fin 256, g (ix2 p c) : ℝ) : EReal) := pay4 g r p
theorem bpay8_ge (b : FVec Ideal S256x256 .f32) (r : FVec Ideal S256x1 .f32) : k1_pay5 b r (ix2 0 0) ≤ k1_pay8 b r := pay5_ge b r
theorem bpay36_ge (b : FVec Ideal S256x256 .f32) (r : FVec Ideal S256x1 .f32) : k1_pay5 b r (ix2 0 0) ≤ k1_pay36 b r := pay5_ge b r

theorem bpay13 : k1_pay13 (F := Ideal) (fun i => (Q i : EReal)) = fun i => (scaled Q i : EReal) := pay8 Q

theorem bpay14 (x : FVec Ideal S256x128 .f32) : k1_pay14 (F := Ideal) x = x := by
  funext i
  obtain ⟨p, c, rfl⟩ := ix i
  pointwise [k1_pay14]

theorem bpay15 : k1_pay15 (F := Ideal) (fun i => (D i : EReal)) (fun i => (X i : EReal))
    = fun i => ((∑ d : Fin 128, D (ix2 (i 0) d) * X (ix2 (i 0) d) : ℝ) : EReal) := by
  refine col fun p => ?_
  pointwise [k1_pay15]
  simp only [bpay14, mul_coe, sum_coe]

theorem bpay16 : k1_pay16 (F := Ideal) = fun _ => ((0 : ℝ) : EReal) := pay9
theorem bpay17 : k1_pay17 (F := Ideal) = fun _ => ((0 : ℝ) : EReal) := pay10
theorem bpay18 : k1_pay18 (F := Ideal) = fun _ => ((0 : ℝ) : EReal) := pay10

theorem bpay3 (x : FVec Ideal S256x128 .f32) : k1_pay3 (F := Ideal) x = x := bpay31 x

theorem bpay37 (p : Fin 256) (d : Fin 128) : k1_pay37 (F := Ideal) (fun i => (Q i : EReal)) (ix2 p d) = ((Q (ix2 p d) * sc : ℝ) : EReal) := by
  pointwise [k1_pay37]
  rw [ofBits_sc, mul_coe]

end

/-! ### A point -/

/-- What the block `i` of queries adds, with `n` blocks left, to each key's row: the rows of `X` weighted. -/
def cols (f : Fin 256 → ℕ → ℝ) (X : S256x128.Idx → ℝ) (i n : ℕ) : S4096x128.Idx → ℝ := fun y =>
  if 256 * n ≤ (y 0).val then ∑ p : Fin 256, (if (y 0).val < 256 * i + p.val then f p (y 0).val else 0) * X (ix2 p (⟨(y 1).val, (y 1).isLt⟩ : Fin 128))
  else 0

/-- The block `n` brought in: its rows get what the block's entries weigh, the others have it. -/
theorem setRows_cols (f : Fin 256 → ℕ → ℝ) (X : S256x128.Idx → ℝ) (A : S4096x128.Idx → ℝ) (b : S256x256.Idx → ℝ) (i n : ℕ) (old : S4096x128.Idx → ℝ)
    (hn : n < 16)
    (hin : ∀ y : S4096x128.Idx, (y 0).val / 256 = n → old y = 0)
    (hout : ∀ y : S4096x128.Idx, (y 0).val / 256 ≠ n → old y = cols f X i n y)
    (hb : ∀ p c : Fin 256, b (ix2 p c) = if 256 * n + c.val < 256 * i + p.val then f p (256 * n + c.val) else 0)
    (W : Vec Ideal S256x128 .f32)
    (hW : ∀ (c : Fin 256) (d : Fin 128), W (ix2 c d) = ((blk (fun y => A y + old y) n (ix2 c d) + ∑ p : Fin 256, b (ix2 p c) * X (ix2 p d) : ℝ) : EReal)) :
    setRows (F := Ideal) (fun y => ((A y + old y : ℝ) : EReal)) n W = fun y => ((A y + cols f X i n y : ℝ) : EReal) := by
  funext y
  obtain ⟨s, d, rfl⟩ := ix y
  have hs := s.isLt
  by_cases h : s.val / 256 = n
  · refine Eq.trans (if_pos h) ?_
    refine (hW ⟨s.val % 256, Nat.mod_lt _ (by decide)⟩ d).trans (congrArg _ ?_)
    have e : 256 * n + s.val % 256 = s.val := by omega
    have e2 : (ix2 (⟨(256 * n + s.val % 256) % 4096, Nat.mod_lt _ (by decide)⟩ : Fin 4096) d : S4096x128.Idx) = ix2 s d := by
      congr 1; exact Fin.ext (by show (256 * n + s.val % 256) % 4096 = s.val; omega)
    have e1 : blk (fun y => A y + old y) n (ix2 (⟨s.val % 256, Nat.mod_lt _ (by decide)⟩ : Fin 256) d) = A (ix2 s d) + old (ix2 s d) :=
      congrArg (fun y => A y + old y) e2
    rw [e1, hin _ h, add_zero]
    refine congrArg (A (ix2 s d) + ·) ?_
    refine Eq.trans ?_ (if_pos (show 256 * n ≤ s.val by omega)).symm
    refine sum_congr rfl fun p _ => ?_
    rw [hb]
    show (if 256 * n + s.val % 256 < _ then f p (256 * n + s.val % 256) else 0) * _ = _
    rw [e]; rfl
  · refine Eq.trans (if_neg h) ?_
    dsimp only
    rw [hout _ h]

theorem cols_next (f : Fin 256 → ℕ → ℝ) (X : S256x128.Idx → ℝ) (i n : ℕ) :
    (∀ y : S4096x128.Idx, (y 0).val / 256 = n → cols f X i (n + 1) y = 0)
      ∧ ∀ y : S4096x128.Idx, (y 0).val / 256 ≠ n → cols f X i (n + 1) y = cols f X i n y := by
  refine ⟨fun y h => if_neg (by omega), fun y h => ?_⟩
  unfold cols
  by_cases h1 : 256 * (n + 1) ≤ (y 0).val
  · rw [if_pos h1, if_pos (by omega)]
  · rw [if_neg h1, if_neg (by omega)]

theorem cols_first (f : Fin 256 → ℕ → ℝ) (X : S256x128.Idx → ℝ) (i : ℕ) (y : S4096x128.Idx) (h : (y 0).val / 256 ≠ i) : 0 = cols f X i i y := by
  unfold cols
  split
  · refine (sum_eq_zero fun p _ => ?_).symm
    have := p.isLt
    rw [if_neg (by omega), zero_mul]
  · rfl

section

variable (q D : S256x128.Idx → ℝ) (K V A B : S4096x128.Idx → ℝ) (de : S256x1.Idx → ℝ)

/-- The output's products with its cotangent: the sum of the weighted cotangents. -/
def Whole (i : ℕ) : Prop := ∀ p : Fin 256, de (ix2 p 0) = ∑ s ∈ range (256 * i + p.val), fg (scaled q) D K V i p s

/-- What the loop carries with `n` blocks left. -/
def rst (i n : ℕ) : St Ideal where
  dq := fun y => (outs K (fz (scaled q) D K V i) i n y : EReal)
  dk := fun y => ((A y + cols (fz (scaled q) D K V i) (scaled q) i n y : ℝ) : EReal)
  dv := fun y => ((B y + cols (fw (scaled q) K i) D i n y : ℝ) : EReal)
  rb := fun y => (sums (fb (scaled q) K) i n y : EReal)
  rg := fun y => (sums (fg (scaled q) D K V i) i n y : EReal)

/-- The weighted cotangents of a block before the diagonal, and of the diagonal block. -/
def go (i n : ℕ) : S256x256.Idx → ℝ := fun y => wo (zf (scaled q) (blk K n)) triA (sums (fb (scaled q) K) i (n + 1)) y * zf D (blk V n) y
def gd (i : ℕ) : S256x256.Idx → ℝ := fun y => wd (zf (scaled q) (blk K i)) triA (fun _ => 0) y * zf D (blk V i) y

theorem go_blk (i n : ℕ) (hn : n < i) (p c : Fin 256) : go q D K V i n (ix2 p c) = fg (scaled q) D K V i p (256 * n + c.val) := by
  unfold go
  rw [wo_blk _ _ _ _ hn]; rfl

theorem gd_blk (i : ℕ) (p c : Fin 256) : gd q D K V i (ix2 p c) = if c < p then fg (scaled q) D K V i p (256 * i + c.val) else 0 := by
  unfold gd
  rw [wd_blk, ite_mul, zero_mul]; rfl

theorem dzo_blk (i n : ℕ) (hn : n < i) (hde : Whole q D K V de i) (p c : Fin 256) :
    dzo de (zf (scaled q) (blk K n)) (go q D K V i n) triF (sums (fg (scaled q) D K V i) i (n + 1)) (ix2 p c)
      = fz (scaled q) D K V i p (256 * n + c.val) := by
  unfold dzo
  have e := sufF_step (fg (scaled q) D K V i) _ i n hn (go_blk q D K V i n hn) p c
  refine Eq.trans (congrArg₂ (fun x y => x * sg (-zf (scaled q) (blk K n) (ix2 p c)) - (de (ix2 p 0) - y) * sg (zf (scaled q) (blk K n) (ix2 p c))) (go_blk q D K V i n hn p c) e) ?_
  rw [hde p, ← sum_range_add_sum_Ico (fun s => fg (scaled q) D K V i p s) (show 256 * n + c.val ≤ 256 * i + p.val by omega), add_sub_cancel_right]
  rfl

theorem dzd_blk (i : ℕ) (hde : Whole q D K V de i) (p c : Fin 256) :
    dzd de (zf (scaled q) (blk K i)) (gd q D K V i) triF (fun _ => 0) (ix2 p c)
      = if c < p then fz (scaled q) D K V i p (256 * i + c.val) else 0 := by
  show (if c < p then _ else _) = _
  by_cases h : c < p
  · rw [if_pos h, if_pos h]
    unfold dzo
    have e := sufF_first (fg (scaled q) D K V i) _ i (gd_blk q D K V i) p c
    refine Eq.trans (congrArg₂ (fun x y => x * sg (-zf (scaled q) (blk K i) (ix2 p c)) - (de (ix2 p 0) - y) * sg (zf (scaled q) (blk K i) (ix2 p c)))
      ((gd_blk q D K V i p c).trans (if_pos h)) e) ?_
    have h' : c.val < p.val := h
    rw [hde p, ← sum_range_add_sum_Ico (fun s => fg (scaled q) D K V i p s) (show 256 * i + c.val ≤ 256 * i + p.val by omega), add_sub_cancel_right]
    rfl
  · rw [if_neg h, if_neg h]

theorem St_ext {s t : St Ideal} (h1 : s.dq = t.dq) (h2 : s.dk = t.dk) (h3 : s.dv = t.dv) (h4 : s.rb = t.rb) (h5 : s.rg = t.rg) : s = t := by
  cases s; cases t; cases h1; cases h2; cases h3; cases h4; cases h5; rfl

theorem plus_zero (A : S4096x128.Idx → ℝ) :
    (fun y => (A y : EReal)) = fun y => ((A y + (fun _ => 0 : S4096x128.Idx → ℝ) y : ℝ) : EReal) := funext fun y => by rw [add_zero]

/-- Entries before the diagonal pass the test of the diagonal. -/
theorem before_if (f : Fin 256 → ℕ → ℝ) (b : S256x256.Idx → ℝ) (i n : ℕ) (hn : n < i)
    (hb : ∀ p c, b (ix2 p c) = f p (256 * n + c.val)) (p c : Fin 256) :
    b (ix2 p c) = if 256 * n + c.val < 256 * i + p.val then f p (256 * n + c.val) else 0 := by
  rw [if_pos (by omega), hb]

theorem diag_if (f : Fin 256 → ℕ → ℝ) (b : S256x256.Idx → ℝ) (i : ℕ)
    (hb : ∀ p c, b (ix2 p c) = if c < p then f p (256 * i + c.val) else 0) (p c : Fin 256) :
    b (ix2 p c) = if 256 * i + c.val < 256 * i + p.val then f p (256 * i + c.val) else 0 := by
  rw [hb]
  exact if_congr (by rw [Fin.lt_def]; omega) rfl rfl

theorem step1_real (i n : ℕ) (hi : i < 16) (hn : n < i) (hde : Whole q D K V de i) :
    step1 (F := Ideal) (fun y => (K y : EReal)) (fun y => (V y : EReal)) (fun y => (triA y : EReal)) (fun y => (triF y : EReal))
      (fun y => (scaled q y : EReal)) (fun y => (D y : EReal)) (fun y => (de y : EReal)) n (rst q D K V A B i (n + 1))
      = rst q D K V A B i n := by
  have eK : rows (F := Ideal) (e := .bf16) (fun y => (K y : EReal)) n = fun y => (blk K n y : EReal) := rfl
  have eV : rows (F := Ideal) (e := .bf16) (fun y => (V y : EReal)) n = fun y => (blk V n y : EReal) := rfl
  have eg : gblk (F := Ideal) (fun y => (K y : EReal)) (fun y => (V y : EReal)) (fun y => (triA y : EReal)) (fun y => (scaled q y : EReal))
      (fun y => (D y : EReal)) n (rst q D K V A B i (n + 1)) = fun y => (go q D K V i n y : EReal) := by
    unfold gblk
    rw [eK, eV]
    exact bpay43 _ _ _ _ _ _
  have eg' : gblk' (F := Ideal) (fun y => (K y : EReal)) (fun y => (V y : EReal)) (fun y => (triA y : EReal)) (fun y => (scaled q y : EReal))
      (fun y => (D y : EReal)) n (rst q D K V A B i (n + 1)) = fun y => (go q D K V i n y : EReal) := eg
  have ez := dzo_blk q D K V de i n hn hde
  unfold step1
  rw [eg, eg', eK, bpay38, bpay39, bpay41]
  unfold rst
  dsimp only
  rw [bpay42]
  congr 1
  · funext y
    obtain ⟨p, d, rfl⟩ := ix y
    rw [bpay46, outs_step K _ _ i n hn ez]
  · refine setRows_cols (fz (scaled q) D K V i) (scaled q) A _ i n _ (by omega) (cols_next _ _ i n).1 (cols_next _ _ i n).2
      (before_if _ _ i n hn ez) _ fun c d => ?_
    rw [bpay3]
    exact bpay47 _ _ _ _ _ _ _ _ _
  · refine setRows_cols (fw (scaled q) K i) D B _ i n _ (by omega) (cols_next _ _ i n).1 (cols_next _ _ i n).2
      (before_if _ _ i n hn (wo_blk (scaled q) K i n hn)) _ fun c d => ?_
    exact bpay4 _ _ _ _ _
  · refine col fun p => ?_
    rw [bpay6, sums_step _ _ i n hn (bo_blk (scaled q) K n)]
  · refine col fun p => ?_
    rw [bpay7, sums_step _ _ i n hn (go_blk q D K V i n hn)]

theorem more1_real (i n : ℕ) :
    more1 (F := Ideal) (fun y => (K y : EReal)) (fun y => (scaled q y : EReal)) n (rst q D K V A B i (n + 1)) = 1#1 := by
  have eK : rows (F := Ideal) (e := .bf16) (fun y => (K y : EReal)) n = fun y => (blk K n y : EReal) := rfl
  unfold more1
  rw [eK, bpay41]
  exact above _ _ (le_trans (le_of_eq (bpay5 _ _ 0).symm) (bpay8_ge _ _))

theorem sweep1_real (i : ℕ) (hi : i < 16) (hde : Whole q D K V de i) : ∀ n, n ≤ i →
    sweep1 (F := Ideal) (fun y => (K y : EReal)) (fun y => (V y : EReal)) (fun y => (triA y : EReal)) (fun y => (triF y : EReal))
      (fun y => (scaled q y : EReal)) (fun y => (D y : EReal)) (fun y => (de y : EReal)) n 1#1 (rst q D K V A B i n)
      = rst q D K V A B i 0
  | 0, _ => rfl
  | n + 1, h => by
    rw [sweep1, if_pos rfl, more1_real, step1_real q D K V A B de i n hi h hde]
    exact sweep1_real i hi hde n (by omega)

/-- What a point leaves, entered with the head's gradients `A` and `B` and with the output `o` of its queries. -/
theorem bwd1_real (i : ℕ) (hi : i < 16) (o : S256x128.Idx → ℝ)
    (hde : Whole q D K V (fun y => ∑ d : Fin 128, D (ix2 (y 0) d) * o (ix2 (y 0) d)) i) :
    bwd1 (F := Ideal) (fun y => (q y : EReal)) (fun y => (o y : EReal)) (fun y => (D y : EReal)) (fun y => (K y : EReal)) (fun y => (V y : EReal))
      (fun y => (triA y : EReal)) (fun y => (triF y : EReal)) (fun y => (A y : EReal)) (fun y => (B y : EReal)) i
      = rst q D K V A B i 0 := by
  have eK : rows (F := Ideal) (e := .bf16) (fun y => (K y : EReal)) i = fun y => (blk K i y : EReal) := rfl
  have eV : rows (F := Ideal) (e := .bf16) (fun y => (V y : EReal)) i = fun y => (blk V i y : EReal) := rfl
  have ez := dzd_blk q D K V _ i hde
  have ee : enter1 (F := Ideal) (fun y => (q y : EReal)) (fun y => (K y : EReal)) i = 1#1 := by
    unfold enter1
    rw [eK, bpay13, bpay23, bpay17]
    exact above _ _ (le_trans (le_of_eq (bpay5 _ _ 0).symm) (bpay36_ge _ _))
  have ef : first1 (F := Ideal) (fun y => (q y : EReal)) (fun y => (o y : EReal)) (fun y => (D y : EReal)) (fun y => (K y : EReal)) (fun y => (V y : EReal))
      (fun y => (triA y : EReal)) (fun y => (triF y : EReal)) (fun y => (A y : EReal)) (fun y => (B y : EReal)) i
      = rst q D K V A B i i := by
    have eg : k1_pay25 (F := Ideal) (fun y => (scaled q y : EReal)) (fun y => (D y : EReal)) (fun y => (blk K i y : EReal)) (fun y => (blk V i y : EReal))
        (fun _ => ((0 : ℝ) : EReal)) (fun y => (triA y : EReal)) = fun y => (gd q D K V i y : EReal) := bpay25 _ _ _ _ (fun _ => 0) _
    have eg26 : k1_pay26 (F := Ideal) (fun y => (scaled q y : EReal)) (fun y => (D y : EReal)) (fun y => (blk K i y : EReal)) (fun y => (blk V i y : EReal))
        (fun _ => ((0 : ℝ) : EReal)) (fun y => (triA y : EReal)) = fun y => (gd q D K V i y : EReal) := eg
    have eg27 : k1_pay27 (F := Ideal) (fun y => (scaled q y : EReal)) (fun y => (D y : EReal)) (fun y => (blk K i y : EReal)) (fun y => (blk V i y : EReal))
        (fun _ => ((0 : ℝ) : EReal)) (fun y => (triA y : EReal)) = fun y => (gd q D K V i y : EReal) := eg
    have ew : k1_pay24 (F := Ideal) (fun y => (scaled q y : EReal)) (fun y => (blk K i y : EReal)) (fun _ => ((0 : ℝ) : EReal)) (fun y => (triA y : EReal))
        = fun y => (wd (zf (scaled q) (blk K i)) triA (fun _ => 0) y : EReal) := bpay24 _ _ _ (fun _ => 0)
    unfold first1
    rw [bpay13, bpay14, bpay15, bpay16, bpay17, bpay18, eK, eV, eg, eg26, eg27, ew, bpay19, bpay20, bpay23]
    refine St_ext ?_ ?_ ?_ ?_ ?_
    · funext y
      obtain ⟨p, d, rfl⟩ := ix y
      refine (bpay29 (blk K i) (fun _ => 0) triF (zf (scaled q) (blk K i)) (gd q D K V i) (fun _ => 0) _ p d).trans (congrArg _ ?_)
      rw [zero_add]
      exact outs_first K _ _ i ez p d
    · refine Eq.trans (congrArg₂ (fun x w => setRows (F := Ideal) x i w) (plus_zero A) (congrArg _ (congrArg _ (congrArg (fun x => rows (F := Ideal) x i) (plus_zero A))))) ?_
      refine setRows_cols (fz (scaled q) D K V i) (scaled q) A _ i i (fun _ => 0) hi (fun _ _ => rfl) (cols_first _ _ i)
        (diag_if _ _ i ez) _ fun c d => ?_
      rw [bpay31]
      exact bpay30 _ _ _ _ _ (fun _ => 0) _ c d
    · refine Eq.trans (congrArg₂ (fun x w => setRows (F := Ideal) x i w) (plus_zero B) (congrArg _ (congrArg (fun x => rows (F := Ideal) x i) (plus_zero B)))) ?_
      refine setRows_cols (fw (scaled q) K i) D B _ i i (fun _ => 0) hi (fun _ _ => rfl) (cols_first _ _ i)
        (diag_if _ _ i (wd_blk (scaled q) K i)) _ fun c d => ?_
      exact bpay4 _ _ _ c d
    · refine col fun p => ?_
      refine (bpay34 _ (fun _ => 0) p).trans (congrArg _ ?_)
      rw [zero_add, sums_first _ _ i (bd_blk (scaled q) K i)]
    · refine col fun p => ?_
      refine (bpay35 _ (fun _ => 0) p).trans (congrArg _ ?_)
      rw [zero_add, sums_first _ _ i (gd_blk q D K V i)]
  unfold bwd1
  rw [ef, ee, bpay13, bpay14, bpay15]
  exact sweep1_real q D K V A B _ i hi hde i le_rfl

end

end Cert.Attn

end
-- ==== Proof.AttnHead.lean ====
/- The gradients of a head of the attention over the reals, and the share of a block of queries in them. -/
module

public import proofs.«01_k».proof.Proof.AttnBwdReal

@[expose] public section

noncomputable section

open Idealize.ShloMosaic

namespace Cert.Attn

open Cert.Kernel2Ideal Cert.Kernel2Ideal.Gen Finset

section

variable (Q K V D : S4096x128.Idx → ℝ)

/-- The products of the scaled query `t` with the keys, and of its output's cotangent with the values. -/
def zt (t s : ℕ) : ℝ := dot (fun d => row Q t d * sc) (row K s)
def ut (t s : ℕ) : ℝ := dot (row D t) (row V s)
/-- The weights, and the cotangents of the products. -/
def wt (t s : ℕ) : ℝ := wgt (zt Q K t) t s
def ct (t s : ℕ) : ℝ := cot (zt Q K t) (ut V D t) t s

/-- A head's output and the gradients of its queries, keys and values. -/
def outH : S4096x128.Idx → ℝ := fun y => ∑ s ∈ range (y 0).val, wt Q K (y 0).val s * row V s ⟨(y 1).val, (y 1).isLt⟩
def dqH : S4096x128.Idx → ℝ := fun y => (∑ s ∈ range (y 0).val, ct Q K V D (y 0).val s * row K s ⟨(y 1).val, (y 1).isLt⟩) * sc
def dkH (n : ℕ) : S4096x128.Idx → ℝ := fun y =>
  ∑ t ∈ range n, (if (y 0).val < t then ct Q K V D t (y 0).val else 0) * (row Q t ⟨(y 1).val, (y 1).isLt⟩ * sc)
def dvH (n : ℕ) : S4096x128.Idx → ℝ := fun y =>
  ∑ t ∈ range n, (if (y 0).val < t then wt Q K t (y 0).val else 0) * row D t ⟨(y 1).val, (y 1).isLt⟩

theorem zq_blk (i : ℕ) (p : Fin 256) (s : ℕ) : zq (scaled (blk Q i)) K p s = zt Q K (256 * i + p.val) s := rfl
theorem fw_blk (i : ℕ) (p : Fin 256) (s : ℕ) : fw (scaled (blk Q i)) K i p s = wt Q K (256 * i + p.val) s := rfl
theorem fz_blk (i : ℕ) (p : Fin 256) (s : ℕ) : fz (scaled (blk Q i)) (blk D i) K V i p s = ct Q K V D (256 * i + p.val) s := rfl
theorem fg_blk (i : ℕ) (p : Fin 256) (s : ℕ) :
    fg (scaled (blk Q i)) (blk D i) K V i p s = wt Q K (256 * i + p.val) s * ut V D (256 * i + p.val) s := rfl

theorem row_at (i : ℕ) (hi : i < 16) (p : Fin 256) : (256 * i + p.val) % 4096 = 256 * i + p.val :=
  Nat.mod_eq_of_lt (by have := p.isLt; omega)

theorem out_blk (i : ℕ) (hi : i < 16) : outs V (fw (scaled (blk Q i)) K i) i 0 = blk (outH Q K V) i := by
  funext y
  obtain ⟨p, d, rfl⟩ := ix y
  have e := row_at i hi p
  show ∑ s ∈ Ico (256 * 0) (256 * i + p.val), wt Q K (256 * i + p.val) s * row V s d
    = ∑ s ∈ range ((256 * i + p.val) % 4096), wt Q K ((256 * i + p.val) % 4096) s * row V s d
  rw [e, range_eq_Ico]

theorem dq_blk (i : ℕ) (hi : i < 16) (y : S256x128.Idx) :
    outs K (fz (scaled (blk Q i)) (blk D i) K V i) i 0 y * sc = blk (dqH Q K V D) i y := by
  obtain ⟨p, d, rfl⟩ := ix y
  have e := row_at i hi p
  show (∑ s ∈ Ico (256 * 0) (256 * i + p.val), ct Q K V D (256 * i + p.val) s * row K s d) * sc
    = (∑ s ∈ range ((256 * i + p.val) % 4096), ct Q K V D ((256 * i + p.val) % 4096) s * row K s d) * sc
  rw [e, range_eq_Ico]

/-- The product of a query's output with its cotangent is the sum of its weights times their cotangents. -/
theorem whole (i : ℕ) (hi : i < 16) :
    Whole (blk Q i) (blk D i) K V (fun y => ∑ d : Fin 128, blk D i (ix2 (y 0) d) * blk (outH Q K V) i (ix2 (y 0) d)) i := by
  intro p
  have e := row_at i hi p
  simp only [fg_blk]
  show ∑ d : Fin 128, row D (256 * i + p.val) d * ∑ s ∈ range ((256 * i + p.val) % 4096), wt Q K ((256 * i + p.val) % 4096) s * row V s d = _
  rw [e]
  simp only [mul_sum]
  rw [sum_comm]
  refine sum_congr rfl fun s _ => ?_
  unfold ut dot
  rw [mul_sum]
  exact sum_congr rfl fun d _ => by ring

theorem range_block (f : ℕ → ℝ) (i : ℕ) :
    ∑ t ∈ range (256 * i), f t + ∑ p : Fin 256, f (256 * i + p.val) = ∑ t ∈ range (256 * (i + 1)), f t := by
  rw [sum_block f i]
  exact sum_range_add_sum_Ico f (by omega)

theorem dk_step (i : ℕ) (y : S4096x128.Idx) :
    dkH Q K V D (256 * i) y + cols (fz (scaled (blk Q i)) (blk D i) K V i) (scaled (blk Q i)) i 0 y = dkH Q K V D (256 * (i + 1)) y := by
  refine Eq.trans (congrArg _ (if_pos (by omega))) ?_
  exact range_block (fun t => (if (y 0).val < t then ct Q K V D t (y 0).val else 0) * (row Q t ⟨(y 1).val, (y 1).isLt⟩ * sc)) i

theorem dv_step (i : ℕ) (y : S4096x128.Idx) :
    dvH Q K D (256 * i) y + cols (fw (scaled (blk Q i)) K i) (blk D i) i 0 y = dvH Q K D (256 * (i + 1)) y := by
  refine Eq.trans (congrArg _ (if_pos (by omega))) ?_
  exact range_block (fun t => (if (y 0).val < t then wt Q K t (y 0).val else 0) * row D t ⟨(y 1).val, (y 1).isLt⟩) i

/-- What a point of the backward call leaves, after the head's points before it. -/
theorem point_real (i : ℕ) (hi : i < 16) :
    bwd1 (F := Ideal) (fun y => (blk Q i y : EReal)) (fun y => (blk (outH Q K V) i y : EReal)) (fun y => (blk D i y : EReal))
      (fun y => (K y : EReal)) (fun y => (V y : EReal)) (fun y => (triA y : EReal)) (fun y => (triF y : EReal))
      (fun y => (dkH Q K V D (256 * i) y : EReal)) (fun y => (dvH Q K D (256 * i) y : EReal)) i
      = rst (blk Q i) (blk D i) K V (dkH Q K V D (256 * i)) (dvH Q K D (256 * i)) i 0 :=
  bwd1_real (blk Q i) (blk D i) K V _ _ i hi _ (whole Q K V D i hi)

theorem point_dk (i : ℕ) : (rst (blk Q i) (blk D i) K V (dkH Q K V D (256 * i)) (dvH Q K D (256 * i)) i 0).dk
    = fun y => (dkH Q K V D (256 * (i + 1)) y : EReal) := funext fun y => congrArg Real.toEReal (dk_step Q K V D i y)
theorem point_dv (i : ℕ) : (rst (blk Q i) (blk D i) K V (dkH Q K V D (256 * i)) (dvH Q K D (256 * i)) i 0).dv
    = fun y => (dvH Q K D (256 * (i + 1)) y : EReal) := funext fun y => congrArg Real.toEReal (dv_step Q K D i y)

end

theorem bpay11 : k1_pay11 (F := Ideal) = fun _ => ((0 : ℝ) : EReal) := by
  funext y; obtain ⟨p, d, rfl⟩ := ix y; pointwise [k1_pay11]; simp
theorem bpay12 : k1_pay12 (F := Ideal) = fun _ => ((0 : ℝ) : EReal) := by
  funext y; obtain ⟨p, d, rfl⟩ := ix y; pointwise [k1_pay12]; simp
theorem bpay1 (x : FVec Ideal S4096x128 .f32) : k1_pay1 (F := Ideal) x = x := by
  funext y; obtain ⟨p, d, rfl⟩ := ix y; pointwise [k1_pay1]
theorem bpay2 (x : FVec Ideal S4096x128 .f32) : k1_pay2 (F := Ideal) x = x := by
  funext y; obtain ⟨p, d, rfl⟩ := ix y; pointwise [k1_pay2]
theorem bpay9 (x : FVec Ideal S4096x128 .bf16) : k1_pay9 (F := Ideal) x = x := by
  funext y; obtain ⟨p, d, rfl⟩ := ix y; pointwise [k1_pay9]
theorem bpay10 (x : FVec Ideal S4096x128 .bf16) : k1_pay10 (F := Ideal) x = x := by
  funext y; obtain ⟨p, d, rfl⟩ := ix y; pointwise [k1_pay10]
theorem pay6 (x : FVec Ideal S4096x128 .bf16) : k0_pay6 (F := Ideal) x = x := by
  funext y; obtain ⟨p, d, rfl⟩ := ix y; pointwise [k0_pay6]
theorem pay7 (x : FVec Ideal S4096x128 .bf16) : k0_pay7 (F := Ideal) x = x := by
  funext y; obtain ⟨p, d, rfl⟩ := ix y; pointwise [k0_pay7]

end Cert.Attn

end
-- ==== Proof.AttnBlocks.lean ====
/- What the attention calls read: the blocks of the projections, the cotangent and the triangles, at finite arguments. -/
module

public import proofs.«01_k».proof.Proof.AttnBwdReal
public import proofs.«01_k».proof.Proof.AttnRun
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.Kernel2Ideal Cert.Kernel2Ideal.Gen Cert.Reals Finset

theorem idx0 : ∀ t : Fin grid0.N, win0_0.index t = ![t.val % 16, 16 + t.val / 16] ∧ win0_1.index t = ![0, 32 + t.val / 16]
    ∧ win0_2.index t = ![0, 48 + t.val / 16] ∧ win0_3.index t = ![0, 0] ∧ win0_4.index t = ![t.val % 16, t.val / 16] := by decide +kernel

theorem idx1 : ∀ t : Fin grid1.N, win1_0.index t = ![t.val % 16, 16 + t.val / 16] ∧ win1_1.index t = ![0, 32 + t.val / 16]
    ∧ win1_2.index t = ![0, 48 + t.val / 16] ∧ win1_3.index t = ![t.val % 16, t.val / 16] ∧ win1_4.index t = ![t.val % 16, t.val / 16]
    ∧ win1_5.index t = ![0, 0] ∧ win1_6.index t = ![0, 0]
    ∧ win1_7.index t = ![t.val % 16, t.val / 16] ∧ win1_8.index t = ![0, t.val / 16] ∧ win1_9.index t = ![0, t.val / 16] := by decide +kernel

/-- The columns from `a` to `a + 128` of the projections, and the columns of a head of an array of heads. -/
def part (a : ℕ) (X : S4096x12288.Idx → ℝ) : S4096x128.Idx → ℝ := fun y =>
  X (ix2 (⟨(y 0).val, (y 0).isLt⟩ : Fin 4096) (⟨(a + (y 1).val) % 12288, Nat.mod_lt _ (by decide)⟩ : Fin 12288))
def qh (X : S4096x12288.Idx → ℝ) (h : ℕ) : S4096x128.Idx → ℝ := part (128 * (16 + h)) X
def kh (X : S4096x12288.Idx → ℝ) (h : ℕ) : S4096x128.Idx → ℝ := part (128 * (32 + h)) X
def vh (X : S4096x12288.Idx → ℝ) (h : ℕ) : S4096x128.Idx → ℝ := part (128 * (48 + h)) X
def headOf (D : S4096x2048.Idx → ℝ) (h : ℕ) : S4096x128.Idx → ℝ := fun y =>
  D (ix2 (⟨(y 0).val, (y 0).isLt⟩ : Fin 4096) (⟨(128 * h + (y 1).val) % 2048, Nat.mod_lt _ (by decide)⟩ : Fin 2048))

section

variable (c : Dev nD) (V : (b : Ref sig .tc) → Buf (Elt Ideal) ((c : Thread nD τ).loc b)) (X : S4096x12288.Idx → ℝ) (D : S4096x2048.Idx → ℝ)

theorem read0_0 (hX : V main_arg0 = fun i => (X i : EReal)) (t : Fin grid0.N) :
    iblk0 c V 0 t = fun y => (blk (qh X (t.val / 16)) (t.val % 16) y : EReal) := by
  funext y
  have := point_lt t
  blk_simp [iblk0]
  rw [hX]
  congr 2
  blk_ext [idx0 t]

theorem read0_1 (hX : V main_arg0 = fun i => (X i : EReal)) (t : Fin grid0.N) :
    iblk0 c V 1 t = fun y => (kh X (t.val / 16) y : EReal) := by
  funext y
  have := point_lt t
  blk_simp [iblk0]
  rw [hX]
  congr 2
  blk_ext [idx0 t]

theorem read0_2 (hX : V main_arg0 = fun i => (X i : EReal)) (t : Fin grid0.N) :
    iblk0 c V 2 t = fun y => (vh X (t.val / 16) y : EReal) := by
  funext y
  have := point_lt t
  blk_simp [iblk0]
  rw [hX]
  congr 2
  blk_ext [idx0 t]

theorem read0_3 (hT : V main_v3 = fun i => (triA i : EReal)) (t : Fin grid0.N) :
    iblk0 c V 3 t = fun y => (triA y : EReal) := by
  funext y
  blk_simp [iblk0]
  rw [hT]
  congr 2
  blk_ext [idx0 t]

theorem read1_0 (hX : V main_arg0 = fun i => (X i : EReal)) (t : Fin grid1.N) :
    iblk1 c V 0 t = fun y => (blk (qh X (t.val / 16)) (t.val % 16) y : EReal) := by
  funext y
  have := point1_lt t
  blk_simp [iblk1]
  rw [hX]
  congr 2
  blk_ext [idx1 t]

theorem read1_1 (hX : V main_arg0 = fun i => (X i : EReal)) (t : Fin grid1.N) :
    iblk1 c V 1 t = fun y => (kh X (t.val / 16) y : EReal) := by
  funext y
  have := point1_lt t
  blk_simp [iblk1]
  rw [hX]
  congr 2
  blk_ext [idx1 t]

theorem read1_2 (hX : V main_arg0 = fun i => (X i : EReal)) (t : Fin grid1.N) :
    iblk1 c V 2 t = fun y => (vh X (t.val / 16) y : EReal) := by
  funext y
  have := point1_lt t
  blk_simp [iblk1]
  rw [hX]
  congr 2
  blk_ext [idx1 t]

theorem read1_3 (hO : V main_v4 = fun i => (D i : EReal)) (t : Fin grid1.N) :
    iblk1 c V 3 t = fun y => (blk (headOf D (t.val / 16)) (t.val % 16) y : EReal) := by
  funext y
  have := point1_lt t
  blk_simp [iblk1]
  rw [hO]
  congr 2
  blk_ext [idx1 t]

theorem read1_4 (hD : V main_arg1 = fun i => (D i : EReal)) (t : Fin grid1.N) :
    iblk1 c V 4 t = fun y => (blk (headOf D (t.val / 16)) (t.val % 16) y : EReal) := by
  funext y
  have := point1_lt t
  blk_simp [iblk1]
  rw [hD]
  congr 2
  blk_ext [idx1 t]

theorem read1_5 (hT : V main_v8 = fun i => (triA i : EReal)) (t : Fin grid1.N) :
    iblk1 c V 5 t = fun y => (triA y : EReal) := by
  funext y
  blk_simp [iblk1]
  rw [hT]
  congr 2
  blk_ext [idx1 t]

theorem read1_6 (hT : V main_v12 = fun i => (triF i : EReal)) (t : Fin grid1.N) :
    iblk1 c V 6 t = fun y => (triF y : EReal) := by
  funext y
  blk_simp [iblk1]
  rw [hT]
  congr 2
  blk_ext [idx1 t]

end

/-! ### The triangles -/

theorem one_if (P : Prop) [Decidable P] :
    FloatOps.uitofp (F := Ideal) .bf16 (BitVec.ofBool (decide P)) = ((if P then 1 else 0 : ℝ) : EReal) := by
  by_cases h : P
  · rw [if_pos h, decide_eq_true h]
    show (((1#1 : BitVec 1).toNat : ℝ) : EReal) = _
    simp
  · rw [if_neg h, decide_eq_false h]
    show (((0#1 : BitVec 1).toNat : ℝ) : EReal) = _
    simp

theorem small (p : Fin 256) : (BitVec.ofNat 32 p.val).toInt = p.val := by
  have := p.isLt
  rw [BitVec.toInt_ofNat', Int.bmod_eq_of_le] <;> omega

theorem sgt_entry (p q : Fin 256) :
    IntOp.cmpi .sgt (BitVec.ofNat 32 p.val) (BitVec.ofNat 32 q.val) = BitVec.ofBool (decide (q < p)) := by
  show BitVec.ofBool (decide ((BitVec.ofNat 32 q.val).toInt < (BitVec.ofNat 32 p.val).toInt)) = _
  rw [small, small]
  congr 2
  exact propext (Int.ofNat_lt.trans Fin.lt_def.symm)

theorem sge_entry (p q : Fin 256) :
    IntOp.cmpi .sge (BitVec.ofNat 32 p.val) (BitVec.ofNat 32 q.val) = BitVec.ofBool (decide (q ≤ p)) := by
  show BitVec.ofBool (decide ((BitVec.ofNat 32 q.val).toInt ≤ (BitVec.ofNat 32 p.val).toInt)) = _
  rw [small, small]
  congr 2
  exact propext (Int.ofNat_le.trans Fin.le_def.symm)

variable (m : (ℓ : Loc nD τ sig) → Buf (Elt Ideal) ℓ) (c : Dev nD)

theorem tri_v3 : U1 m c main_v3 = fun y => (triA y : EReal) := by
  funext y
  obtain ⟨p, q, rfl⟩ := ix y
  show StableHlo.after (hostOps0 (F := Ideal)) (V0 m c) main_v3 (ix2 p q) = _
  entry_read
  pointwise
  rw [sgt_entry, one_if]
  rfl

theorem tri_v8 : U3 m c main_v8 = fun y => (triA y : EReal) := by
  funext y
  obtain ⟨p, q, rfl⟩ := ix y
  show StableHlo.after (hostOps1 (F := Ideal)) (Function.update (V1 m c) main_v4 (outO m c)) main_v8 (ix2 p q) = _
  entry_read
  pointwise
  rw [sgt_entry, one_if]
  rfl

theorem tri_v12 : U3 m c main_v12 = fun y => (triF y : EReal) := by
  funext y
  obtain ⟨p, q, rfl⟩ := ix y
  show StableHlo.after (hostOps1 (F := Ideal)) (Function.update (V1 m c) main_v4 (outO m c)) main_v12 (ix2 p q) = _
  entry_read
  pointwise
  rw [sge_entry, one_if]
  rfl

/-! ### The other operands -/

theorem U1_arg0 : U1 m c main_arg0 = m ((c : Thread nD τ).loc main_arg0) := (V1_of m c main_arg0 (by decide)).trans rfl

theorem U3_of (r : Ref sig .tc) (h : r ∉ hostOps1_W) (h' : r ∉ ([main_v4] : List (Ref sig .tc))) : U3 m c r = V1 m c r :=
  (congrFun (V3_eq m c).symm (Proc.devRef .tc r)).trans ((V3_of m (results m) c r h).trans (V2_of m (results m) c r h'))

theorem U3_arg0 : U3 m c main_arg0 = m ((c : Thread nD τ).loc main_arg0) :=
  (U3_of m c main_arg0 (by decide) (by decide)).trans ((V1_of m c main_arg0 (by decide)).trans rfl)

theorem U3_arg1 : U3 m c main_arg1 = m ((c : Thread nD τ).loc main_arg1) :=
  (U3_of m c main_arg1 (by decide) (by decide)).trans ((V1_of m c main_arg1 (by decide)).trans rfl)

theorem U3_o : U3 m c main_v4 = outO m c :=
  (congrFun (V3_eq m c).symm (Proc.devRef .tc main_v4)).trans ((V3_of m (results m) c main_v4 (by decide)).trans (V2_o m c))

end Cert.Attn

end
-- ==== Proof.AttnKernel.lean ====
/- The attention's output and the gradients of its queries, keys and values, as the two calls leave them at finite arguments. -/
module

public import proofs.«01_k».proof.Proof.AttnHead
public import proofs.«01_k».proof.Proof.AttnBlocks

@[expose] public section

set_option maxRecDepth 16384

noncomputable section

open Idealize.ShloMosaic Idealize.ShloMosaic.TcCoe Idealize.SL.Sem
open Idealize.ShloMosaic.Pipeline (Dat)

namespace Cert.Attn

open Cert.Kernel2Ideal Cert.Kernel2Ideal.Gen Cert.Reals Finset

/-- An array of heads, of its heads. -/
def heads (f : ℕ → S4096x128.Idx → ℝ) : S4096x2048.Idx → ℝ := fun y =>
  f ((y 1).val / 128) (ix2 (⟨(y 0).val, (y 0).isLt⟩ : Fin 4096) (⟨(y 1).val % 128, Nat.mod_lt _ (by decide)⟩ : Fin 128))

theorem headOf_heads (f : ℕ → S4096x128.Idx → ℝ) (h : ℕ) (hh : h < 16) : headOf (heads f) h = f h := by
  funext y
  obtain ⟨t, d, rfl⟩ := ix y
  have hd := d.isLt
  have e : (128 * h + d.val) % 2048 = 128 * h + d.val := Nat.mod_eq_of_lt (by omega)
  show f ((128 * h + d.val) % 2048 / 128) (ix2 t (⟨(128 * h + d.val) % 2048 % 128, _⟩ : Fin 128)) = _
  have e1 : (128 * h + d.val) % 2048 / 128 = h := by omega
  have e2 : (⟨(128 * h + d.val) % 2048 % 128, Nat.mod_lt _ (by decide)⟩ : Fin 128) = d := Fin.ext (by show (128 * h + d.val) % 2048 % 128 = d.val; omega)
  rw [e1, e2]

variable (X : S4096x12288.Idx → ℝ) (D : S4096x2048.Idx → ℝ)

/-- The four results. -/
def oR : S4096x2048.Idx → ℝ := heads fun h => outH (qh X h) (kh X h) (vh X h)
def dqR : S4096x2048.Idx → ℝ := heads fun h => dqH (qh X h) (kh X h) (vh X h) (headOf D h)
def dkR : S4096x2048.Idx → ℝ := heads fun h => dkH (qh X h) (kh X h) (vh X h) (headOf D h) 4096
def dvR : S4096x2048.Idx → ℝ := heads fun h => dvH (qh X h) (kh X h) (headOf D h) 4096

section

variable (c : Dev nD) (V : (b : Ref sig .tc) → Buf (Elt Ideal) ((c : Thread nD τ).loc b))

theorem pt0_real (hX : V main_arg0 = fun i => (X i : EReal)) (hT : V main_v3 = fun i => (triA i : EReal)) (t : Fin grid0.N) :
    (pt0 c V t).1 = fun y => (blk (outH (qh X (t.val / 16)) (kh X (t.val / 16)) (vh X (t.val / 16))) (t.val % 16) y : EReal) := by
  have eh : (hd0 t).val / 16 = t.val / 16 := by show 16 * (t.val / 16) / 16 = _; omega
  have eK : kb0 c V t = fun y => (kh X (t.val / 16) y : EReal) := by
    unfold kb0; rw [pay6, read0_1 c V X hX, eh]
  have eV : vb0 c V t = fun y => (vh X (t.val / 16) y : EReal) := by
    unfold vb0; rw [pay7, read0_2 c V X hX, eh]
  unfold pt0
  rw [eK, eV, read0_0 c V X hX, read0_3 c V hT, fwd0_real]
  unfold st0
  dsimp only
  rw [out_blk _ _ _ _ (Nat.mod_lt _ (by decide))]

/-- What a point of the backward call leaves. -/
theorem pt1_real (hX : V main_arg0 = fun i => (X i : EReal)) (hO : V main_v4 = fun i => (oR X i : EReal))
    (hD : V main_arg1 = fun i => (D i : EReal)) (hA : V main_v8 = fun i => (triA i : EReal)) (hF : V main_v12 = fun i => (triF i : EReal))
    (h : ℕ) (hh : h < 16) : ∀ (i : ℕ) (hi : i < 16) (t : Fin grid1.N), t.val = 16 * h + i →
    pt1 c V t = rst (blk (qh X h) i) (blk (headOf D h) i) (kh X h) (vh X h)
      (dkH (qh X h) (kh X h) (vh X h) (headOf D h) (256 * i)) (dvH (qh X h) (kh X h) (headOf D h) (256 * i)) i 0 := by
  have on : ∀ (i : ℕ) (hi : i < 16) (t : Fin grid1.N), t.val = 16 * h + i → ∀ dk dv,
      dk = (fun y => (dkH (qh X h) (kh X h) (vh X h) (headOf D h) (256 * i) y : EReal)) →
      dv = (fun y => (dvH (qh X h) (kh X h) (headOf D h) (256 * i) y : EReal)) →
      on1 c V t dk dv = rst (blk (qh X h) i) (blk (headOf D h) i) (kh X h) (vh X h)
        (dkH (qh X h) (kh X h) (vh X h) (headOf D h) (256 * i)) (dvH (qh X h) (kh X h) (headOf D h) (256 * i)) i 0 := by
    rintro i hi t ht dk dv rfl rfl
    have ed : t.val / 16 = h := by omega
    have em : t.val % 16 = i := by omega
    have eh : (hd1 t).val / 16 = h := by show 16 * (t.val / 16) / 16 = _; omega
    have eK : kb1 c V t = fun y => (kh X h y : EReal) := by
      unfold kb1; rw [bpay9, read1_1 c V X hX, eh]
    have eV : vb1 c V t = fun y => (vh X h y : EReal) := by
      unfold vb1; rw [bpay10, read1_2 c V X hX, eh]
    unfold on1
    rw [eK, eV, read1_0 c V X hX, read1_3 c V (oR X) hO, read1_4 c V D hD, read1_5 c V hA, read1_6 c V hF, ed, em]
    unfold oR
    rw [headOf_heads _ _ hh]
    exact point_real _ _ _ _ i hi
  intro i
  induction i with
  | zero =>
    intro hi t ht
    rw [pt1_head c V t (by omega)]
    exact on 0 hi t ht _ _ bpay11 bpay12
  | succ i ih =>
    intro hi t ht
    have hl := t.isLt
    rw [pt1_next c V t ⟨t.val - 1, by omega⟩ (by omega) (by show t.val - 1 + 1 = t.val; omega),
      ih (by omega) ⟨t.val - 1, by omega⟩ (by show t.val - 1 = 16 * h + i; omega)]
    exact on (i + 1) hi t ht _ _ (point_dk _ _ _ _ i) (point_dv _ _ _ _ i)

end

variable (m : (ℓ : Loc nD τ sig) → Buf (Elt Ideal) ℓ) (c : Dev nD)

theorem heads_at (f : ℕ → S4096x128.Idx → ℝ) (h t : ℕ) (hh : h < 16) (ht : t < 4096) (d : Fin 128) (h1 : t < 4096) (h2 : 128 * h + d.val < 2048) :
    heads f (ix2 (⟨t, h1⟩ : Fin 4096) (⟨128 * h + d.val, h2⟩ : Fin 2048)) = f h (ix2 (⟨t, ht⟩ : Fin 4096) d) := by
  have hd := d.isLt
  have e1 : (128 * h + d.val) / 128 = h := by omega
  have e2 : (⟨(128 * h + d.val) % 128, Nat.mod_lt _ (by decide)⟩ : Fin 128) = d := Fin.ext (by show (128 * h + d.val) % 128 = d.val; omega)
  show f ((128 * h + d.val) / 128) (ix2 _ (⟨(128 * h + d.val) % 128, _⟩ : Fin 128)) = _
  rw [e1, e2]
  rfl

theorem blk_at (A : S4096x128.Idx → ℝ) (n : ℕ) (hn : n < 16) (p : Fin 256) (d : Fin 128) (h : 256 * n + p.val < 4096) :
    blk A n (ix2 p d) = A (ix2 (⟨256 * n + p.val, h⟩ : Fin 4096) d) := by
  have e : (⟨(256 * n + p.val) % 4096, Nat.mod_lt _ (by decide)⟩ : Fin 4096) = ⟨256 * n + p.val, h⟩ := Fin.ext (Nat.mod_eq_of_lt h)
  show A (ix2 (⟨(256 * n + p.val) % 4096, _⟩ : Fin 4096) d) = _
  rw [e]

theorem outO_real (hX : m ((c : Thread nD τ).loc main_arg0) = fun i => (X i : EReal)) : outO m c = fun i => (oR X i : EReal) := by
  refine (dat0 c (U1 m c)).arrAt_eq_of_covers 4 _ (by decide +kernel) fun t _ y => ?_
  obtain ⟨p, d, rfl⟩ := ix y
  have ht := point_lt t
  have h1 : 256 * (t.val % 16) + p.val < 4096 := by omega
  have h2 : 128 * (t.val / 16) + d.val < 2048 := by omega
  have e : ((cfg0.win 4).blk t).view.emb (ix2 p d) = ix2 (⟨256 * (t.val % 16) + p.val, h1⟩ : Fin 4096)
      (⟨128 * (t.val / 16) + d.val, h2⟩ : Fin 2048) := by blk_ext [idx0 t]
  rw [e]
  blk_simp
  rw [after0_4, pt0_real X c (U1 m c) ((U1_arg0 m c).trans hX) (tri_v3 m c) t]
  unfold oR
  exact congrArg Real.toEReal ((heads_at (fun h => outH (qh X h) (kh X h) (vh X h)) _ _ (by omega) h1 d h1 h2).trans
    (blk_at _ _ (by omega) p d h1).symm).symm

variable (hX : m ((c : Thread nD τ).loc main_arg0) = fun i => (X i : EReal)) (hD : m ((c : Thread nD τ).loc main_arg1) = fun i => (D i : EReal))

include hX hD

theorem point1_real (t : Fin grid1.N) (h i : ℕ) (ht : t.val = 16 * h + i) (hi : i < 16) :
    pt1 c (U3 m c) t = rst (blk (qh X h) i) (blk (headOf D h) i) (kh X h) (vh X h)
      (dkH (qh X h) (kh X h) (vh X h) (headOf D h) (256 * i)) (dvH (qh X h) (kh X h) (headOf D h) (256 * i)) i 0 :=
  pt1_real X D c (U3 m c) ((U3_arg0 m c).trans hX) ((U3_o m c).trans (outO_real X m c hX)) ((U3_arg1 m c).trans hD)
    (tri_v8 m c) (tri_v12 m c) h (by have := point1_lt t; omega) i hi t ht

theorem outQ_real : outQ m c = fun i => (dqR X D i : EReal) := by
  refine (dat1 c (U3 m c)).arrAt_eq_of_covers 7 _ (by decide +kernel) fun t _ y => ?_
  obtain ⟨p, d, rfl⟩ := ix y
  have ht := point1_lt t
  have h1 : 256 * (t.val % 16) + p.val < 4096 := by omega
  have h2 : 128 * (t.val / 16) + d.val < 2048 := by omega
  have e : ((cfg1.win 7).blk t).view.emb (ix2 p d) = ix2 (⟨256 * (t.val % 16) + p.val, h1⟩ : Fin 4096)
      (⟨128 * (t.val / 16) + d.val, h2⟩ : Fin 2048) := by blk_ext [idx1 t]
  rw [e]
  blk_simp
  rw [after1_7, point1_real X D m c hX hD t (t.val / 16) (t.val % 16) (by omega) (by omega)]
  unfold dqR
  refine Eq.trans (bpay37 _ p d) (congrArg Real.toEReal ?_)
  refine (dq_blk _ _ _ _ _ (by omega) _).trans ?_
  exact ((heads_at (fun h => dqH (qh X h) (kh X h) (vh X h) (headOf D h)) _ _ (by omega) h1 d h1 h2).trans
    (blk_at _ _ (by omega) p d h1).symm).symm

theorem outK_real : outK m c = fun i => (dkR X D i : EReal) := by
  refine (dat1 c (U3 m c)).arrAt_eq_of_covers 8 _ (by decide +kernel) fun t hf y => ?_
  obtain ⟨p, d, rfl⟩ := ix y
  have ht := point1_lt t
  have hl := (flush1_8 t).mp hf
  have h1 : p.val < 4096 := p.isLt
  have h2 : 128 * (t.val / 16) + d.val < 2048 := by omega
  have e : ((cfg1.win 8).blk t).view.emb (ix2 p d) = ix2 (⟨p.val, h1⟩ : Fin 4096)
      (⟨128 * (t.val / 16) + d.val, h2⟩ : Fin 2048) := by blk_ext [idx1 t]
  rw [e]
  blk_simp
  rw [after1_8, bpay1, point1_real X D m c hX hD t (t.val / 16) 15 (by omega) (by omega), point_dk]
  unfold dkR
  exact congrArg Real.toEReal (heads_at (fun h => dkH (qh X h) (kh X h) (vh X h) (headOf D h) 4096) _ _ (by omega) h1 d h1 h2).symm

theorem outV_real : outV m c = fun i => (dvR X D i : EReal) := by
  refine (dat1 c (U3 m c)).arrAt_eq_of_covers 9 _ (by decide +kernel) fun t hf y => ?_
  obtain ⟨p, d, rfl⟩ := ix y
  have ht := point1_lt t
  have hl := (flush1_9 t).mp hf
  have h1 : p.val < 4096 := p.isLt
  have h2 : 128 * (t.val / 16) + d.val < 2048 := by omega
  have e : ((cfg1.win 9).blk t).view.emb (ix2 p d) = ix2 (⟨p.val, h1⟩ : Fin 4096)
      (⟨128 * (t.val / 16) + d.val, h2⟩ : Fin 2048) := by blk_ext [idx1 t]
  rw [e]
  blk_simp
  rw [after1_9, bpay2, point1_real X D m c hX hD t (t.val / 16) 15 (by omega) (by omega), point_dv]
  unfold dvR
  exact congrArg Real.toEReal (heads_at (fun h => dvH (qh X h) (kh X h) (headOf D h) 4096) _ _ (by omega) h1 d h1 h2).symm

end Cert.Attn

end
-- ==== Proof.AttnSums.lean ====
/- A running sum along the last of three axes, from the front and from the back. -/
module

public import proofs.«01_k».proof.Proof.Reals
public import Idealize.ShloMosaic.Lib.Pointwise

@[expose] public section

noncomputable section

open Idealize.ShloMosaic

namespace Cert.Sums

open Cert.Reals Finset

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

theorem numel3 (N : ℕ) : (⟨3, ![1, 1, N]⟩ : Shape).numel = N := by
  show ∏ a : Fin 3, (![1, 1, N] : Fin 3 → ℕ) a = N
  rw [Fin.prod_univ_three]
  show 1 * 1 * N = N
  omega

theorem symm3 {N : ℕ} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    omega))

/-- The sum over a window of `N` along the last axis, padded below by `lo`. -/
theorem window {A B N : ℕ} (lo hi : ℕ) (f : ℕ → ℝ) (x : (⟨3, ![A, B, N]⟩ : Shape).Idx → EReal) (a : Fin A) (b : Fin B)
    (hx : ∀ s : Fin N, x (ix3 a b s) = (f s.val : EReal))
    (h : (⟨3, ![A, B, N]⟩ : Shape).ReduceWindows (![1, 1, N] : Fin 3 → ℕ) ![1, 1, 1] ![0, 0, lo] ![0, 0, hi] ⟨3, ![A, B, N]⟩) (j : Fin N) :
    Ideal.hostReduceWindowAdd ![1, 1, N] ![1, 1, 1] ![0, 0, lo] ![0, 0, hi] h x 0 (ix3 a b j)
      = ((∑ n ∈ range N, if lo ≤ j.val + n ∧ j.val + n - lo < N then f (j.val + n - lo) else 0 : ℝ) : EReal) := by
  unfold Ideal.hostReduceWindowAdd Host.reduceWindow
  dsimp only
  refine (foldl_add _ _ _).trans ?_
  rw [zero_add, ← Fin.sum_univ_def, ← sum_coe, Finset.sum_range]
  refine Fintype.sum_equiv (finCongr (numel3 N)) _ _ fun n => ?_
  have hs := symm3 n
  set w := (⟨3, ![1, 1, N]⟩ : Shape).rowMajor.symm n with hw
  have w0 : (w 0).val = 0 := congrArg (fun u => (u 0).val) hs
  have w1 : (w 1).val = 0 := congrArg (fun u => (u 1).val) hs
  have w2 : (w 2).val = n.val := congrArg (fun u => (u 2).val) hs
  by_cases hn : lo ≤ j.val + n.val ∧ j.val + n.val - lo < N
  · have hin : ∀ c : Fin 3, ![0, 0, lo] c ≤ (ix3 a b j c).val * ![1, 1, 1] c + (w c).val
        ∧ (ix3 a b j c).val * ![1, 1, 1] c + (w c).val - ![0, 0, lo] c < ![A, B, N] c := by
      intro c
      fin_cases c
      · exact ⟨Nat.zero_le _, by show a.val * 1 + (w 0).val - 0 < A; omega⟩
      · exact ⟨Nat.zero_le _, by show b.val * 1 + (w 1).val - 0 < B; omega⟩
      · exact ⟨by show lo ≤ j.val * 1 + (w 2).val; omega, by show j.val * 1 + (w 2).val - lo < N; omega⟩
    refine (dif_pos hin).trans (Eq.trans (congrArg x (funext fun c => ?_))
      ((hx ⟨j.val + n.val - lo, hn.2⟩).trans (congrArg Real.toEReal (if_pos hn).symm)))
    fin_cases c
    · exact Fin.ext (by show a.val * 1 + (w 0).val - 0 = a.val; omega)
    · exact Fin.ext (by show b.val * 1 + (w 1).val - 0 = b.val; omega)
    · exact Fin.ext (by show j.val * 1 + (w 2).val - lo = j.val + n.val - lo; omega)
  · refine Eq.trans (dif_neg fun hin => hn ?_) (congrArg Real.toEReal (if_neg hn).symm)
    have h2 := hin 2
    have e1 : lo ≤ j.val * 1 + (w 2).val := h2.1
    have e2 : j.val * 1 + (w 2).val - lo < N := h2.2
    exact ⟨by omega, by omega⟩

/-- Padded above, the window of a position holds the positions from it on. -/
theorem window_after {N : ℕ} (f : ℕ → ℝ) {j : ℕ} (hj : j < N) :
    (∑ n ∈ range N, if 0 ≤ j + n ∧ j + n - 0 < N then f (j + n - 0) else 0) = ∑ s ∈ Ico j N, f s := by
  rw [Finset.sum_Ico_eq_sum_range, ← Finset.sum_filter]
  refine Finset.sum_congr (Finset.ext fun n => ?_) fun n _ => rfl
  simp only [mem_filter, mem_range]
  omega

/-- Padded below, the window of a position holds the positions up to it. -/
theorem window_upto {N : ℕ} (f : ℕ → ℝ) {j : ℕ} (hj : j < N) :
    (∑ n ∈ range N, if N - 1 ≤ j + n ∧ j + n - (N - 1) < N then f (j + n - (N - 1)) else 0) = ∑ s ∈ range (j + 1), f s := by
  rw [← Finset.sum_filter]
  refine Finset.sum_nbij' (fun n => j + n - (N - 1)) (fun s => s + (N - 1) - j) ?_ ?_ ?_ ?_ fun n _ => rfl
  all_goals
    intro n hn
    simp only [mem_filter, mem_range] at hn ⊢
    omega

end Cert.Sums

end
-- ==== Proof.AttnRef.lean ====
/- The attention's reference at finite arguments. -/
module

public import proofs.«01_k».proof.Proof.AttnKernel
public import proofs.«01_k».proof.Proof.AttnSums
public import proofs.«01_k».proof.Proof.Gen.Reference2Ideal.Run
public import proofs.«01_k».proof.Proof.Gen.Reference2Ideal.Read

@[expose] public section

set_option maxRecDepth 16384

noncomputable section

namespace Cert.Reference2Ideal.Attn

open Idealize.ShloMosaic Cert.Reference2Ideal Cert.Reference2Ideal.Gen Cert.Reference2Ideal.Read Cert.Reals Cert.Attn Finset

variable (X : S4096x12288.Idx → ℝ) (D : S4096x2048.Idx → ℝ)

local notation "x₀" => (fun i => (Real.toEReal (X i)))
local notation "x₁" => (fun i => (Real.toEReal (D i)))

/-- A number's softplus. -/
theorem softplus (x : ℝ) (y : EReal) (h : y = x) :
    max y 0 + Ideal.log1p (Ideal.exp (-FloatOps.absf (F := Ideal) (φ := .f32) y)) = ((-lsn x : ℝ) : EReal) := by
  subst h
  rw [absf_coe, neg_coe, exp_coe]
  show _ + Ideal.log (1 + _) = _
  rw [l1_coe, zero_coe, max_coe, add_coe]
  exact congrArg Real.toEReal (by unfold lsn; ring)

/-- The logistic function is the exponential of its logarithm. -/
theorem exp_lsg (x : ℝ) : Real.exp (lsg x) = sg x := by
  unfold lsg l1 sg
  rw [Real.exp_sub, Real.exp_log (one_add_exp_pos _)]
  rcases le_total 0 x with h | h
  · rw [min_eq_right h, abs_of_nonneg h, Real.exp_zero, one_div]
  · rw [min_eq_left h, abs_of_nonpos h, neg_neg, Real.exp_neg]
    have := Real.exp_pos x
    field_simp
    try ring

theorem lsn_neg (x : ℝ) : lsn (-x) = lsg x := by
  unfold lsn lsg l1
  rw [abs_neg]
  rcases le_total 0 x with h | h
  · rw [min_eq_right h, max_eq_right (by linarith)]; ring
  · rw [min_eq_left h, max_eq_left (by linarith)]; ring

theorem lsn_add (x : ℝ) : x - -lsn x = lsg x := by
  unfold lsn lsg
  rcases le_total 0 x with h | h
  · rw [min_eq_right h, max_eq_left h]; ring
  · rw [min_eq_left h, max_eq_right h]; ring

theorem not_inf (x : ℝ) : (x : EReal) ≠ Ideal.ofBits .f32 0x7F800000#32 := by
  rw [Reals.ofBits_inf]; exact EReal.coe_ne_top x

/-- The exponential of a number less its softplus. -/
theorem logistic (x : ℝ) (y w : EReal) (hy : y = x) (hw : w = ((-lsn x : ℝ) : EReal)) :
    Ideal.exp ((if y = Ideal.ofBits .f32 0x7F800000#32 then 0 else y) - (if w = Ideal.ofBits .f32 0x7F800000#32 then 0 else w))
      = (sg x : EReal) := by
  subst hy hw
  rw [if_neg (not_inf _), if_neg (not_inf _), sub_coe, exp_coe, lsn_add, exp_lsg]

theorem neg_neg_coe (x : ℝ) : - -(x : EReal) = x := neg_neg _

/-- The products of the queries with the keys. -/
abbrev z (h t s : ℕ) : ℝ := zt (qh X h) (kh X h) t s

theorem col (a b : ℕ) (h : a % 12288 = b) (hb : b < 12288) : (⟨a % 12288, Nat.mod_lt _ (by decide)⟩ : Fin 12288) = ⟨b, hb⟩ := Fin.ext h

theorem row_part (a : ℕ) (t : Fin 4096) (d : Fin 128) (b : ℕ) (hb : b < 12288) (e : (a + d.val) % 12288 = b) :
    row (part a X) t.val d = X (ix2 t (⟨b, hb⟩ : Fin 12288)) := by
  have ht : (⟨t.val % 4096, Nat.mod_lt _ (by decide)⟩ : Fin 4096) = t := Fin.ext (Nat.mod_eq_of_lt t.isLt)
  show X (ix2 (⟨t.val % 4096, _⟩ : Fin 4096) (⟨(a + d.val) % 12288, _⟩ : Fin 12288)) = _
  rw [ht, col _ _ e hb]

theorem v15 (h : Fin 16) (t s : Fin 4096) : val_main_v15 (F := Ideal) x₀ (ix3 h t s) = (z X h t s : EReal) := by
  pointwise [val_main_v15, val_main_v8, val_main_v7, val_main_v4, val_main_v3, val_main_v2, val_main_v1, val_main_v0, val_main_cst]
  simp only [ofBits_sc, mul_coe, sum_coe]
  refine congrArg Real.toEReal ?_
  unfold z zt dot
  refine sum_congr rfl fun d _ => ?_
  have hh := h.isLt
  have hd := d.isLt
  show _ = row (part (128 * (16 + h.val)) X) t.val d * sc * row (part (128 * (32 + h.val)) X) s.val d
  rw [row_part X _ t d (2048 + (h.val * 128 + d.val)) (by omega) (by omega),
    row_part X _ s d (4096 + (h.val * 128 + d.val)) (by omega) (by omega)]

theorem v14 (t s : Fin 4096) : val_main_v14 (F := Ideal) (ix2 t s) = BitVec.ofBool (decide (s < t)) := by
  pointwise [val_main_v14, val_main_v13, val_main_v12, val_main_v11, val_main_v10, val_main_v9]
  show BitVec.ofBool ((BitVec.ofNat 32 s.val).slt (BitVec.ofNat 32 t.val)) = _
  have hs := s.isLt
  have ht := t.isLt
  rw [BitVec.slt_eq_decide, BitVec.toInt_eq_toNat_of_lt (by simp; omega), BitVec.toInt_eq_toNat_of_lt (by simp; omega)]
  simp only [BitVec.toNat_ofNat, Nat.mod_eq_of_lt (show s.val < 2 ^ 32 by omega), Nat.mod_eq_of_lt (show t.val < 2 ^ 32 by omega), Nat.cast_lt, Fin.lt_def]

theorem select_of (P : Prop) [Decidable P] (a b : ℝ) :
    Scalar.select (BitVec.ofBool (decide P)) (a : EReal) (b : EReal) = ((if P then a else b : ℝ) : EReal) := by
  by_cases h : P
  · rw [if_pos h, decide_eq_true h]; rfl
  · rw [if_neg h, decide_eq_false h]; rfl

theorem soft0 (h : Fin 16) (t s : Fin 4096) :
    val_main_call0_v1_0 (F := Ideal) x₀ (ix3 h t s) = ((-lsn (z X h t s) : ℝ) : EReal) := by
  pointwise [val_main_call0_v1_0, val_main_call0_call0_v11, val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1, val_main_call0_call0_v0, val_main_call0_call0_cst, val_main_call0_v0, val_main_v16]
  simp only [v15, ne_eq, not_true_eq_false, if_false]
  exact softplus (z X h t s) _ (neg_neg_coe _)

theorem v17_0 (h : Fin 16) (t s : Fin 4096) : val_main_v17_0 (F := Ideal) x₀ (ix3 h t s) = (lsn (z X h t s) : EReal) := by
  pointwise [val_main_v17_0]
  rw [soft0, neg_coe, neg_neg]

theorem v17_1 (h : Fin 16) (t s : Fin 4096) : val_main_v17_1 (F := Ideal) x₀ (ix3 h t s) = (sg (z X h t s) : EReal) := by
  pointwise [val_main_v17_1, val_main_call0_call0_v21, val_main_call0_call0_v20, val_main_call0_call0_v19, val_main_call0_call0_v18, val_main_call0_call0_v17, val_main_call0_call0_v16, val_main_call0_call0_v15,
    val_main_call0_call0_v14, val_main_call0_call0_v13, val_main_call0_call0_cst_0, val_main_call0_call0_cst_1, val_main_call0_call0_cst_2, val_main_call0_call0_cst_3, val_main_call0_v0, val_main_v16]
  simp only [v15, soft0]
  exact logistic (z X h t s) _ _ (neg_neg_coe _) rfl

theorem soft3 (h : Fin 16) (t s : Fin 4096) :
    val_main_call3_v1_0 (F := Ideal) x₀ (ix3 h t s) = ((-lsn (-z X h t s) : ℝ) : EReal) := by
  pointwise [val_main_call3_v1_0, val_main_call3_call0_v11, val_main_call3_call0_v10, val_main_call3_call0_v9, val_main_call3_call0_v8, val_main_call3_call0_v7, val_main_call3_call0_v6,
    val_main_call3_call0_v5, val_main_call3_call0_v4, val_main_call3_call0_v3, val_main_call3_call0_v2, val_main_call3_call0_v1, val_main_call3_call0_v0, val_main_call3_call0_cst, val_main_call3_v0]
  simp only [v15, ne_eq, not_true_eq_false, if_false]
  exact softplus (-z X h t s) _ (neg_coe _)

theorem v21_0 (h : Fin 16) (t s : Fin 4096) : val_main_v21_0 (F := Ideal) x₀ (ix3 h t s) = (lsg (z X h t s) : EReal) := by
  pointwise [val_main_v21_0]
  rw [soft3, neg_coe, neg_neg, lsn_neg]

theorem v21_1 (h : Fin 16) (t s : Fin 4096) : val_main_v21_1 (F := Ideal) x₀ (ix3 h t s) = (sg (-z X h t s) : EReal) := by
  pointwise [val_main_v21_1, val_main_call3_call0_v21, val_main_call3_call0_v20, val_main_call3_call0_v19, val_main_call3_call0_v18, val_main_call3_call0_v17, val_main_call3_call0_v16, val_main_call3_call0_v15,
    val_main_call3_call0_v14, val_main_call3_call0_v13, val_main_call3_call0_cst_0, val_main_call3_call0_cst_1, val_main_call3_call0_cst_2, val_main_call3_call0_cst_3, val_main_call3_v0]
  simp only [v15, soft3]
  exact logistic (-z X h t s) _ _ (neg_coe _) rfl

theorem v18_0 (h : Fin 16) (t s : Fin 4096) :
    val_main_v18_0 (F := Ideal) x₀ (ix3 h t s) = ((if s.val < t.val then lsn (z X h t s) else 0 : ℝ) : EReal) := by
  pointwise [val_main_v18_0, val_main_v18_1, val_main_call1_v2, val_main_call1_v0, val_main_cst_0]
  show Scalar.select _ _ (Ideal.ofBits .f32 0#32) = _
  rw [v14, v17_0, ofBits_zero, select_of]
  rfl

theorem v19 (h : Fin 16) (t s : Fin 4096) : val_main_v19 (F := Ideal) x₀ (ix3 h t s)
    = ((∑ j ∈ Ico s.val 4096, if j < t.val then lsn (z X h t j) else 0 : ℝ) : EReal) := by
  have e : (val_main_call2_v0 (F := Ideal)) = fun _ => (0 : EReal) := by
    funext i
    pointwise [val_main_call2_v0, val_main_call2_cst]
  rw [← Sums.window_after (fun j => if j < t.val then lsn (z X h t j) else 0) s.isLt]
  unfold val_main_v19
  unfold Host.reduceWindowAdd
  rw [e]
  exact Sums.window 0 4095 (fun j => if j < t.val then lsn (z X h t j) else 0) (val_main_v18_0 (F := Ideal) x₀) h t
    (fun s => v18_0 X h t s) reduceWindows_S16x4096x4096_S16x4096x4096_w1s1p0_0_w1s1p0_0_w4096s1p0_4095 s

theorem v23 (h : Fin 16) (t s : Fin 4096) (hs : s.val < t.val) : val_main_v23 (F := Ideal) x₀ (ix3 h t s) = (wt (qh X h) (kh X h) t s : EReal) := by
  pointwise [val_main_v23, val_main_v22, val_main_v20]
  simp only [v18_0, v19, v21_0, add_coe, sub_coe, exp_coe]
  refine congrArg Real.toEReal (congrArg Real.exp (congrArg (lsg (z X h t s) + ·) ?_))
  unfold left
  have e : ∑ j ∈ Ico s.val 4096, (if j < t.val then lsn (z X h t j) else 0) = ∑ j ∈ Ico s.val t.val, lsn (z X h t j) := by
    rw [← sum_filter]
    refine sum_congr (Finset.ext fun j => ?_) fun _ _ => rfl
    have := t.isLt
    simp only [mem_filter, mem_Ico]
    omega
  rw [e, if_pos hs, sum_eq_sum_Ico_succ_bot hs]
  ring

/-- The weights, masked. -/
theorem v24_0 (h : Fin 16) (t s : Fin 4096) :
    val_main_v24_0 (F := Ideal) x₀ (ix3 h t s) = ((if s.val < t.val then wt (qh X h) (kh X h) t s else 0 : ℝ) : EReal) := by
  pointwise [val_main_v24_0, val_main_v24_1, val_main_call4_v2, val_main_call4_v0, val_main_cst_1]
  show Scalar.select _ _ (Ideal.ofBits .f32 0#32) = _
  rw [v14, ofBits_zero]
  by_cases hs : s.val < t.val
  · rw [v23 X h t s hs, select_of, if_pos hs]; exact congrArg Real.toEReal (if_pos hs)
  · rw [if_neg hs, decide_eq_false (show ¬ s < t from hs)]; rfl

/-- A sum over the keys under the mask of a query. -/
theorem sum_mask (f g : ℕ → ℝ) (t : Fin 4096) :
    ∑ s : Fin 4096, (if s.val < t.val then f s.val else 0) * g s.val = ∑ s ∈ range t.val, f s * g s := by
  refine (Finset.sum_range (n := 4096) (fun s => (if s < t.val then f s else 0) * g s)).symm.trans ?_
  simp only [ite_mul, zero_mul]
  rw [← sum_filter]
  refine sum_congr (Finset.ext fun j => ?_) fun _ _ => rfl
  have := t.isLt
  simp only [mem_filter, mem_range]
  omega

theorem v27 (i : S4096x2048.Idx) : val_main_v27 (F := Ideal) x₀ i = (oR X i : EReal) := by
  obtain ⟨t, q, rfl⟩ := Cert.Attn.ix i
  have hq := q.isLt
  pointwise [val_main_v27, val_main_v26, val_main_v25, val_main_v6, val_main_v5, val_main_v0]
  simp only [v24_0, mul_coe, sum_coe]
  refine congrArg Real.toEReal (Eq.trans (sum_congr rfl fun s _ => ?_) (sum_mask (fun s => wt (qh X (q.val / 128)) (kh X (q.val / 128)) t.val s)
    (fun s => row (vh X (q.val / 128)) s ⟨q.val % 128, Nat.mod_lt _ (by decide)⟩) t))
  show _ = _ * row (part (128 * (48 + q.val / 128)) X) s.val _
  rw [row_part X _ s _ (6144 + q.val) (by omega) (by show (128 * (48 + q.val / 128) + q.val % 128) % 12288 = _; omega), mul_comm]

theorem row_head (h : ℕ) (t : Fin 4096) (d : Fin 128) (b : ℕ) (hb : b < 2048) (e : 128 * h + d.val = b) :
    row (headOf D h) t.val d = D (ix2 t (⟨b, hb⟩ : Fin 2048)) := by
  have ht : (⟨t.val % 4096, Nat.mod_lt _ (by decide)⟩ : Fin 4096) = t := Fin.ext (Nat.mod_eq_of_lt t.isLt)
  have hd : (⟨(128 * h + d.val) % 2048, Nat.mod_lt _ (by decide)⟩ : Fin 2048) = ⟨b, hb⟩ := Fin.ext (by show _ % 2048 = b; omega)
  show D (ix2 (⟨t.val % 4096, _⟩ : Fin 4096) (⟨(128 * h + d.val) % 2048, _⟩ : Fin 2048)) = _
  rw [ht, hd]

/-- The products of the output's cotangent with the values. -/
theorem v30 (h : Fin 16) (t s : Fin 4096) :
    val_main_v30 (F := Ideal) x₀ x₁ (ix3 h t s) = (ut (vh X h) (headOf D h) t s : EReal) := by
  pointwise [val_main_v30, val_main_v29, val_main_v28, val_main_v6, val_main_v5, val_main_v0]
  simp only [mul_coe, sum_coe]
  refine congrArg Real.toEReal ?_
  unfold ut dot
  refine sum_congr rfl fun d _ => ?_
  have hh := h.isLt
  have hd := d.isLt
  show _ = row (headOf D h.val) t.val d * row (part (128 * (48 + h.val)) X) s.val d
  rw [row_head D _ t d (h.val * 128 + d.val) (by omega) (by omega),
    row_part X _ s d (6144 + (h.val * 128 + d.val)) (by omega) (by omega)]

/-- A weight times its cotangent, masked. -/
abbrev g (h t s : ℕ) : ℝ := if s < t then wt (qh X h) (kh X h) t s * ut (vh X h) (headOf D h) t s else 0

theorem v34 (h : Fin 16) (t s : Fin 4096) : val_main_v34 (F := Ideal) x₀ x₁ (ix3 h t s) = (g X D h t s : EReal) := by
  pointwise [val_main_v34, val_main_v33, val_main_v24_1, val_main_call5_v0, val_main_call5_cst]
  rw [v14, v30]
  by_cases hs : s.val < t.val
  · rw [v23 X h t s hs, mul_coe, zero_coe, select_of]
    exact congrArg Real.toEReal ((if_pos (show s < t from hs)).trans ((mul_comm _ _).trans (if_pos hs).symm))
  · rw [decide_eq_false (show ¬ s < t from hs)]
    exact (congrArg Real.toEReal (if_neg hs)).symm

theorem v37 (h : Fin 16) (t s : Fin 4096) : val_main_v37 (F := Ideal) x₀ x₁ (ix3 h t s)
    = ((∑ j ∈ range (s.val + 1), g X D h t j : ℝ) : EReal) := by
  have e : (val_main_call7_v0 (F := Ideal)) = fun _ => (0 : EReal) := by
    funext i
    pointwise [val_main_call7_v0, val_main_call7_cst]
  rw [← Sums.window_upto (fun j => g X D h t j) s.isLt]
  unfold val_main_v37
  unfold Host.reduceWindowAdd
  rw [e]
  exact Sums.window 4095 0 (fun j => g X D h t j) (val_main_v34 (F := Ideal) x₀ x₁) h t
    (fun s => v34 X D h t s) reduceWindows_S16x4096x4096_S16x4096x4096_w1s1p0_0_w1s1p0_0_w4096s1p4095_0 s

/-- The cotangents of the products, masked. -/
theorem v42 (h : Fin 16) (t s : Fin 4096) : val_main_v42 (F := Ideal) x₀ x₁ (ix3 h t s)
    = ((if s.val < t.val then ct (qh X h) (kh X h) (vh X h) (headOf D h) t s else 0 : ℝ) : EReal) := by
  pointwise [val_main_v42, val_main_v41, val_main_v40, val_main_call9_v1, val_main_call9_v0, val_main_v39, val_main_v38, val_main_v36, val_main_v35,
    val_main_call6_v1, val_main_call6_v0, val_main_v18_1, val_main_call8_v0, val_main_call8_cst]
  simp only [v14, v34, v37, v21_1, v17_1, neg_coe, add_coe, mul_coe]
  rw [zero_coe, select_of, neg_coe, mul_coe, neg_coe, neg_coe, add_coe]
  refine congrArg Real.toEReal ?_
  by_cases hs : s.val < t.val
  · have e : ∑ j ∈ range s.val, g X D h t j = ∑ j ∈ range s.val, gw (z X h t) (ut (vh X h) (headOf D h) t) t j :=
      sum_congr rfl fun j hj => if_pos (by have := mem_range.1 hj; omega)
    have e' : g X D h t s = gw (z X h t) (ut (vh X h) (headOf D h) t) t s := if_pos hs
    rw [if_pos (show s < t from hs), if_pos hs, sum_range_succ, e, e']
    unfold ct cot
    ring
  · have e' : g X D h t s = 0 := if_neg hs
    rw [if_neg (show ¬ s < t from hs), if_neg hs, e']
    ring

theorem v50 (i : S4096x2048.Idx) : val_main_v50 (F := Ideal) x₀ x₁ i = (dqR X D i : EReal) := by
  obtain ⟨t, q, rfl⟩ := Cert.Attn.ix i
  have hq := q.isLt
  pointwise [val_main_v50, val_main_v49, val_main_v48, val_main_v47, val_main_cst_2, val_main_v46, val_main_v45, val_main_v4, val_main_v3, val_main_v0]
  simp only [v42, mul_coe, sum_coe, ofBits_sc]
  refine congrArg Real.toEReal (congrArg (· * sc) (Eq.trans (sum_congr rfl fun s _ => ?_)
    (sum_mask (fun s => ct (qh X (q.val / 128)) (kh X (q.val / 128)) (vh X (q.val / 128)) (headOf D (q.val / 128)) t.val s)
    (fun s => row (kh X (q.val / 128)) s ⟨q.val % 128, Nat.mod_lt _ (by decide)⟩) t)))
  show _ = _ * row (part (128 * (32 + q.val / 128)) X) s.val _
  rw [row_part X _ s _ (4096 + q.val) (by omega) (by show (128 * (32 + q.val / 128) + q.val % 128) % 12288 = _; omega)]

theorem v52 (i : S4096x2048.Idx) : val_main_v52 (F := Ideal) x₀ x₁ i = (dkR X D i : EReal) := by
  obtain ⟨s, q, rfl⟩ := Cert.Attn.ix i
  have hq := q.isLt
  pointwise [val_main_v52, val_main_v51, val_main_v44, val_main_v43, val_main_v8, val_main_v7, val_main_cst, val_main_v2, val_main_v1, val_main_v0]
  simp only [v42, ofBits_sc, mul_coe, sum_coe]
  refine congrArg Real.toEReal (Eq.trans (sum_congr rfl fun t _ => ?_) (Finset.sum_range (n := 4096) (fun t =>
    (if s.val < t then ct (qh X (q.val / 128)) (kh X (q.val / 128)) (vh X (q.val / 128)) (headOf D (q.val / 128)) t s.val else 0)
      * (row (qh X (q.val / 128)) t ⟨q.val % 128, Nat.mod_lt _ (by decide)⟩ * sc))).symm)
  show _ = _ * (row (part (128 * (16 + q.val / 128)) X) t.val _ * sc)
  rw [row_part X _ t _ (2048 + q.val) (by omega) (by show (128 * (16 + q.val / 128) + q.val % 128) % 12288 = _; omega)]

theorem v54 (i : S4096x2048.Idx) : val_main_v54 (F := Ideal) x₀ x₁ i = (dvR X D i : EReal) := by
  obtain ⟨s, q, rfl⟩ := Cert.Attn.ix i
  have hq := q.isLt
  pointwise [val_main_v54, val_main_v53, val_main_v32, val_main_v31, val_main_v29, val_main_v28]
  simp only [v24_0, mul_coe, sum_coe]
  refine congrArg Real.toEReal (Eq.trans (sum_congr rfl fun t _ => ?_) (Finset.sum_range (n := 4096) (fun t =>
    (if s.val < t then wt (qh X (q.val / 128)) (kh X (q.val / 128)) t s.val else 0)
      * row (headOf D (q.val / 128)) t ⟨q.val % 128, Nat.mod_lt _ (by decide)⟩)).symm)
  rw [row_head D _ t _ q.val hq (by show 128 * (q.val / 128) + q.val % 128 = _; omega), mul_comm]

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0))
      ∧ r.2.mem ((c.tc : Thread nD τ).loc main_v50) = val_main_v50 (F := Ideal) (m ((c.tc : Thread nD τ).loc main_arg0))
        (m ((c.tc : Thread nD τ).loc main_arg1))
      ∧ r.2.mem ((c.tc : Thread nD τ).loc main_v52) = val_main_v52 (F := Ideal) (m ((c.tc : Thread nD τ).loc main_arg0))
        (m ((c.tc : Thread nD τ).loc main_arg1))
      ∧ r.2.mem ((c.tc : Thread nD τ).loc main_v54) = val_main_v54 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.Reference2Ideal.Attn

end
-- ==== Proof.AttnClaim.lean ====
/- The attention and its gradient: the reference's frame and the values. -/
module

public import proofs.«01_k».proof.Defs
public import proofs.«01_k».proof.Proof.AttnPre
public import proofs.«01_k».proof.Proof.AttnRef
public import proofs.«01_k».proof.Proof.AttnKernel
public import proofs.«01_k».proof.Proof.AttnRun

@[expose] public section

noncomputable section

namespace Cert.Attn

open Idealize.ShloMosaic Idealize.SL.Sem Cert.Reals

theorem frame_reference : Cert.quiescent_Reference2Ideal := by
  intro m ρ _
  exact (θ_run Cert.Reference2Ideal.defs _ _).mono
    (fun r h => ⟨fun c => ⟨(h c).2.2.2.2.1, (h c).2.2.2.2.2⟩, sem_eq_zero_of_no_sems (by decide) r.2⟩) (Cert.Reference2Ideal.Attn.run m ρ)

theorem pair : Cert.algebraic_Kernel2Ideal_Reference2Ideal_pre_finite2 := by
  intro m g m' g' hpre hag
  refine ⟨outO m, outQ m, outK m, outV m, (θ_run Cert.Kernel2Ideal.defs _ _).mono (fun r h c => ?_) (run_main m g),
    (θ_run Cert.Reference2Ideal.defs _ _).mono (fun r h c => ?_) (Cert.Reference2Ideal.Attn.run m' g')⟩
  · obtain ⟨⟨h0, h1, h2, h3⟩, h4, h5⟩ := h.1 c
    exact ⟨h0, h1, h2, h3, h4, h5⟩
  obtain ⟨⟨x, hx⟩, ⟨d, hd⟩⟩ := Cert.Pre_finite2.reals_of_fn _ _ (hpre c)
  obtain ⟨a0, a1⟩ := hag c
  obtain ⟨h0, h1, h2, h3, hk⟩ := h c
  refine ⟨h0.trans ?_, h1.trans ?_, h2.trans ?_, h3.trans ?_, hk⟩
  · rw [a0, hx]
    exact (funext fun i => Cert.Reference2Ideal.Attn.v27 x i).trans (outO_real x m c hx).symm
  · rw [a0, a1, hx, hd]
    exact (funext fun i => Cert.Reference2Ideal.Attn.v50 x d i).trans (outQ_real x d m c hx hd).symm
  · rw [a0, a1, hx, hd]
    exact (funext fun i => Cert.Reference2Ideal.Attn.v52 x d i).trans (outK_real x d m c hx hd).symm
  · rw [a0, a1, hx, hd]
    exact (funext fun i => Cert.Reference2Ideal.Attn.v54 x d i).trans (outV_real x d m c hx hd).symm

end Cert.Attn

end
-- ==== Proof.LossPre.lean ====
/- What the precondition `finite3` says of the arrays it reads. -/
module

public import proofs.«01_k».proof.Proof.Reals
public import proofs.«01_k».proof.Proof.Gen.Pre_finite3
public import Idealize.ShloMosaic.Lib.Pointwise

@[expose] public section

noncomputable section

namespace Cert.Pre_finite3

open Idealize.ShloMosaic

instance : Subsingleton S_.Idx := ⟨fun a b => funext fun i => i.elim0⟩

theorem reals_of_fn (x : FVec Ideal S4096x4096 .f32) (g : FVec Ideal S4096 .f32) (t : FVec Ideal S4096x4096 .f32)
    (h : fn (F := Ideal) x g t = fun _ => 1#1) :
    (∃ a : S4096x4096.Idx → ℝ, x = fun i => (a i : EReal)) ∧ (∃ a : S4096.Idx → ℝ, g = fun i => (a i : EReal))
      ∧ ∃ a : S4096x4096.Idx → ℝ, t = fun i => (a i : EReal) := by
  have h0 := congrFun h (Shape.Idx.first Facts.h_S_)
  obtain ⟨h1, h2⟩ := IntOp.andi_eq_one.1 h0
  obtain ⟨h3, h4⟩ := IntOp.andi_eq_one.1 h1
  exact ⟨Reals.exists_reals x _ (fun i => Reals.ofBits_inf) _ _ _ _ h3, Reals.exists_reals g _ (fun i => Reals.ofBits_inf) _ _ _ _ h4,
    Reals.exists_reals t _ (fun i => Reals.ofBits_inf) _ _ _ _ h2⟩

end Cert.Pre_finite3

end
-- ==== Proof.LossMath.lean ====
/- The loss head in reals: the error of a normed row against its target, and the literals the two programs hold. -/
module

public import proofs.«01_k».proof.Proof.RmsMath

@[expose] public section

noncomputable section

namespace Cert.Loss

open Idealize.ShloMosaic Cert.Reals Cert.Rms

theorem ofBits_half : Ideal.ofBits .f32 0x3F000000#32 = ((1 / 2 : ℝ) : EReal) := by
  simp [Ideal.ofBits, Ideal.ieee]
  exact_mod_cast (by norm_num [zpow_neg] : (8388608 : ℝ) * (2 ^ 24)⁻¹ = (2 : ℝ)⁻¹)

theorem ofBits_one : Ideal.ofBits .f32 0x3F800000#32 = ((1 : ℝ) : EReal) := by
  simp [Ideal.ofBits, Ideal.ieee]; rw [mul_coe, one_coe]; norm_num

theorem ofBits_two : Ideal.ofBits .f32 0x40000000#32 = ((2 : ℝ) : EReal) := by
  simp [Ideal.ofBits, Ideal.ieee]
  exact_mod_cast (by norm_num [zpow_neg] : (8388608 : ℝ) * (2 ^ 22)⁻¹ = 2)

theorem ofBits_4096th : Ideal.ofBits .f32 0x39800000#32 = ((1 / 4096 : ℝ) : EReal) := by
  simp [Ideal.ofBits, Ideal.ieee]
  exact_mod_cast (by norm_num [zpow_neg] : (8388608 : ℝ) * (2 ^ 35)⁻¹ = (4096 : ℝ)⁻¹)

theorem ofBits_8192th : Ideal.ofBits .f32 0x39000000#32 = ((1 / 8192 : ℝ) : EReal) := by
  simp [Ideal.ofBits, Ideal.ieee]
  exact_mod_cast (by norm_num [zpow_neg] : (8388608 : ℝ) * (2 ^ 36)⁻¹ = (8192 : ℝ)⁻¹)

/-- The error of a row's norm against its target, at lane `k`. -/
def err (x g t : Fin 4096 → ℝ) (k : Fin 4096) : ℝ := x k * rr x * g k - t k

end Cert.Loss

end
-- ==== Proof.LossRef.lean ====
/- The loss and its gradient as the reference leaves them, at finite arguments. -/
module

public import proofs.«01_k».proof.Proof.LossMath
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.Loss

open Idealize.ShloMosaic Cert.Reference3Ideal Cert.Reference3Ideal.Gen Cert.Reference3Ideal.Read Cert.Reals Cert.Rms Cert.Loss

variable (x t : S4096x4096.Idx → ℝ) (g : S4096.Idx → ℝ)

/-- Row `a` of a matrix. -/
abbrev row (x : S4096x4096.Idx → ℝ) (a : Fin 4096) : Fin 4096 → ℝ := fun k => x (ix2 a k)
/-- A vector's entries. -/
abbrev vec (g : S4096.Idx → ℝ) : Fin 4096 → ℝ := fun k => g (ix1 k)
/-- The cotangent of row `a`'s norm. -/
abbrev dy (x t : S4096x4096.Idx → ℝ) (g : S4096.Idx → ℝ) (a k : Fin 4096) : ℝ := err (row x a) (vec g) (row t a) k * (1 / 4096)

theorem v6 (i : S4096x1.Idx) : val_main_v6 (F := Ideal) (fun i => (x i : EReal)) i = (ms (row x (i 0)) : EReal) := by
  pointwise [val_main_v6, val_main_v5, val_main_v4, val_main_v3, val_main_v2, val_main_v1, val_main_v0, val_main_cst, val_main_cst_0, val_main_cst_1]
  simp only [mul_coe, sum_coe, ofBits_4096, ofBits_eps, div_coe _ _ (show (4096 : ℝ) ≠ 0 by norm_num), add_coe]
  rfl

theorem v7 (i : S4096x1.Idx) : val_main_v7 (F := Ideal) (fun i => (x i : EReal)) i = (rr (row x (i 0)) : EReal) := by
  rw [val_main_v7_apply, v6, Ideal.hostUnary_rsqrt_def, Reals.rsqrt_coe _ (ms_pos _)]; rfl

theorem v10 (i : S4096x1.Idx) : val_main_v10 (F := Ideal) (fun i => (x i : EReal)) i
    = ((-(1 / 2) * (rr (row x (i 0)) / ms (row x (i 0))) : ℝ) : EReal) := by
  rw [val_main_v10_apply, val_main_v9_apply, val_main_v8_apply, v6, v7, val_main_cst_2_apply, Ideal.ofBits_def, ofBits_neg_half,
    Ideal.hostDivf_def, Ideal.mulf_def, Reals.div_coe _ _ (ms_pos _).ne', mul_coe]

theorem v16 (a b : Fin 4096) :
    val_main_v16 (F := Ideal) (fun i => (x i : EReal)) (fun i => (g i : EReal)) (fun i => (t i : EReal)) (ix2 a b)
      = (err (row x a) (vec g) (row t a) b : EReal) := by
  pointwise [val_main_v16, val_main_v15, val_main_v14, val_main_v13, val_main_v12, val_main_v11]
  simp only [v7, mul_coe, sub_coe]
  rfl

theorem v24 : val_main_v24 (F := Ideal) (fun i => (x i : EReal)) (fun i => (g i : EReal)) (fun i => (t i : EReal)) ix0
      = ((1 / 2 * ∑ a : Fin 4096, (∑ k, err (row x a) (vec g) (row t a) k * err (row x a) (vec g) (row t a) k) / 4096 : ℝ) : EReal) := by
  pointwise [val_main_v24, val_main_v23, val_main_v22, val_main_v21, val_main_v20, val_main_v17, val_main_cst_3, val_main_cst_4, val_main_cst_5,
    val_main_cst_6, val_main_cst_7]
  simp only [v16, mul_coe, sum_coe, ofBits_4096, ofBits_half, div_coe _ _ (show (4096 : ℝ) ≠ 0 by norm_num)]

theorem v30 (a b : Fin 4096) :
    val_main_v30 (F := Ideal) (fun i => (x i : EReal)) (fun i => (g i : EReal)) (fun i => (t i : EReal)) (ix2 a b) = (dy x t g a b : EReal) := by
  pointwise [val_main_v30, val_main_v29, val_main_v28, val_main_v27, val_main_v26, val_main_v25, val_main_v19, val_main_v18, val_main_cst_3,
    val_main_cst_8, val_main_cst_9, val_main_cst_10]
  simp only [v16, mul_coe, ofBits_4096, ofBits_half, ofBits_one, ofBits_two, div_coe _ _ (show (4096 : ℝ) ≠ 0 by norm_num)]
  exact congrArg _ (by ring)

theorem v50 (a b : Fin 4096) :
    val_main_v50 (F := Ideal) (fun i => (x i : EReal)) (fun i => (g i : EReal)) (fun i => (t i : EReal)) (ix2 a b)
      = (gradx (row x a) (dy x t g a) (vec g) b : EReal) := by
  rw [← gradx_eq]
  pointwise [val_main_v50, val_main_v49, val_main_v48, val_main_v47, val_main_v46, val_main_v45, val_main_v44, val_main_v43, val_main_v42,
    val_main_v41, val_main_v40, val_main_v39, val_main_v38, val_main_v37, val_main_v35,
    val_main_v34, val_main_v13, val_main_cst_13, val_main_cst_14, val_main_cst_15]
  simp only [v30, v10, v7, mul_coe, add_coe, sum_coe, ofBits_4096, Fin.sum_univ_one, div_coe _ _ (show (4096 : ℝ) ≠ 0 by norm_num)]
  rfl

theorem v53 (q : Fin 1) (b : Fin 4096) :
    val_main_v53 (F := Ideal) (fun i => (x i : EReal)) (fun i => (g i : EReal)) (fun i => (t i : EReal)) (ix2 q b)
      = ((∑ a : Fin 4096, dy x t g a b * (x (ix2 a b) * rr (row x a)) : ℝ) : EReal) := by
  pointwise [val_main_v53, val_main_v36, val_main_v33, val_main_v32, val_main_v31, val_main_v12, val_main_v11, val_main_cst_11, val_main_cst_12]
  simp only [v30, v7, mul_coe, sum_coe, Fin.sum_univ_one]
  refine congrArg _ (Finset.sum_congr rfl fun a _ => ?_)
  rw [mul_comm]
  rfl

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = val_main_v51 (F := Ideal) (m ((c.tc : Thread nD τ).loc main_arg0))
        (m ((c.tc : Thread nD τ).loc main_arg1)) (m ((c.tc : Thread nD τ).loc main_arg2))
      ∧ r.2.mem ((c.tc : Thread nD τ).loc main_v50) = val_main_v50 (F := Ideal) (m ((c.tc : Thread nD τ).loc main_arg0))
        (m ((c.tc : Thread nD τ).loc main_arg1)) (m ((c.tc : Thread nD τ).loc main_arg2))
      ∧ r.2.mem ((c.tc : Thread nD τ).loc main_v52) = val_main_v50 (F := Ideal) (m ((c.tc : Thread nD τ).loc main_arg0))
        (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference3Ideal.Loss

end
-- ==== Proof.LossKernel.lean ====
/- The loss and its gradient as the kernel leaves them: its result arrays at finite arguments. -/
module

public import proofs.«01_k».proof.Proof.LossMath
public import proofs.«01_k».proof.Proof.Gen.Kernel3Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen Cert.Reals Cert.Rms Cert.Loss

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The error of row `p` of a block. -/
abbrev er (x : S128x4096.Idx → ℝ) (g : S1x4096.Idx → ℝ) (t : S128x4096.Idx → ℝ) (p : Fin 128) : Fin 4096 → ℝ :=
  err (fun k => x (ix2 p k)) (fun k => g (ix2 0 k)) (fun k => t (ix2 p k))

theorem pay5 (x : S128x4096.Idx → ℝ) (p : Fin 128) (j : Fin 4096) :
    k0_pay5 (F := Ideal) (fun i => (x i : EReal)) (ix2 p j) = ((x (ix2 p j) * rr (fun k => x (ix2 p k)) : ℝ) : EReal) := by
  pointwise [k0_pay5, k0_pay4]
  simp only [mul_coe, sum_coe, ofBits_4096, ofBits_eps, div_coe _ _ (show (4096 : ℝ) ≠ 0 by norm_num), add_coe]
  have e := Reals.rsqrt_coe _ (ms_pos fun k => x (ix2 p k))
  simp only [ms] at e
  rw [e, mul_coe]
  rfl

theorem pay6 (x t : S128x4096.Idx → ℝ) (g : S1x4096.Idx → ℝ) (p : Fin 128) (j : Fin 4096) :
    k0_pay6 (F := Ideal) (fun i => (x i : EReal)) (fun i => (g i : EReal)) (fun i => (t i : EReal)) (ix2 p j) = (er x g t p j : EReal) := by
  pointwise [k0_pay6, k0_pay3]
  simp only [pay5, mul_coe, sub_coe]
  rfl

theorem pay7 (x t : S128x4096.Idx → ℝ) (g : S1x4096.Idx → ℝ) (p : Fin 128) (j : Fin 4096) :
    k0_pay7 (F := Ideal) (fun i => (x i : EReal)) (fun i => (g i : EReal)) (fun i => (t i : EReal)) (ix2 p j)
      = ((er x g t p j * (1 / 4096) : ℝ) : EReal) := by
  pointwise [k0_pay7]
  simp only [pay6, mul_coe, ofBits_4096th]

theorem pay8 (x t : S128x4096.Idx → ℝ) (g : S1x4096.Idx → ℝ) (p : Fin 128) (j : Fin 4096) :
    k0_pay8 (F := Ideal) (fun i => (x i : EReal)) (fun i => (g i : EReal)) (fun i => (t i : EReal)) (ix2 p j)
      = (gradx (fun k => x (ix2 p k)) (fun k => er x g t p k * (1 / 4096)) (fun k => g (ix2 0 k)) j : EReal) := by
  pointwise [k0_pay8, k0_pay4, k0_pay3]
  simp only [pay5, pay7, mul_coe, sum_coe, ofBits_4096, ofBits_eps, div_coe _ _ (show (4096 : ℝ) ≠ 0 by norm_num), add_coe]
  have e := Reals.rsqrt_coe _ (ms_pos fun k => x (ix2 p k))
  simp only [ms] at e
  rw [e]
  simp only [mul_coe, sub_coe]
  rfl

theorem pay9 (x t : S128x4096.Idx → ℝ) (g : S1x4096.Idx → ℝ) (p : Fin 128) (j : Fin 4096) :
    k0_pay9 (F := Ideal) (fun i => (x i : EReal)) (fun i => (g i : EReal)) (fun i => (t i : EReal)) (ix2 p j)
      = (gradx (fun k => x (ix2 p k)) (fun k => er x g t p k * (1 / 4096)) (fun k => g (ix2 0 k)) j : EReal) :=
  pay8 x t g p j

theorem pay1 (x t : S128x4096.Idx → ℝ) (g : S1x4096.Idx → ℝ) (a : FVec Ideal S1x4096 .f32) (q : Fin 1) (j : Fin 4096) :
    k0_pay1 (F := Ideal) (k0_pay5 (fun i => (x i : EReal))) (k0_pay7 (fun i => (x i : EReal)) (fun i => (g i : EReal)) (fun i => (t i : EReal))) a
        (ix2 q j)
      = a (ix2 q j) + ((∑ p : Fin 128, er x g t p j * (1 / 4096) * (x (ix2 p j) * rr (fun k => x (ix2 p k))) : ℝ) : EReal) := by
  pointwise [k0_pay1]
  simp only [pay5, pay7, mul_coe, sum_coe]

theorem pay2 (x t : S128x4096.Idx → ℝ) (g : S1x4096.Idx → ℝ) (a : FVec Ideal S1x1 .f32) (q j : Fin 1) :
    k0_pay2 (F := Ideal) (k0_pay6 (fun i => (x i : EReal)) (fun i => (g i : EReal)) (fun i => (t i : EReal))) a (ix2 q j)
      = a (ix2 q j) + ((∑ p : Fin 128, (∑ k, er x g t p k * er x g t p k) * (1 / 8192) : ℝ) : EReal) := by
  pointwise [k0_pay2]
  simp only [pay6, mul_coe, sum_coe, ofBits_8192th]

theorem pay10 (y : S1x4096.Idx) : k0_pay10 (F := Ideal) y = 0 := by pointwise [k0_pay10]
theorem pay11 (y : S1x1.Idx) : k0_pay11 (F := Ideal) y = 0 := by pointwise [k0_pay11]

/-- Row `p` of block `t`. -/
def rowAt (t : Fin cfg0.N) (p : Fin 128) : Fin 4096 :=
  ⟨t.val * 128 + p.val, by have := lt_of_lt_of_eq t.isLt N_0; omega⟩

variable (m : (ℓ : Loc nD τ sig) → Buf (Elt Ideal) ℓ) (c : Dev nD)
variable (x : S4096x4096.Idx → ℝ) (g : S4096.Idx → ℝ) (tt : S4096x4096.Idx → ℝ)

/-- The cotangent of the norm of row `a`. -/
abbrev dy (a k : Fin 4096) : ℝ := err (fun k => x (ix2 a k)) (fun k => g (ix1 k)) (fun k => tt (ix2 a k)) k * (1 / 4096)

theorem blk0 (hx : m ((c : Thread nD τ).loc main_arg0) = fun i => (x i : EReal)) (t : Fin cfg0.N) :
    iblk m c 0 t = fun y : S128x4096.Idx => (x (ix2 (rowAt t (y 0)) (y 1)) : EReal) := by
  funext y
  blk_simp [iblk]
  rw [show V m c main_arg0 = _ from (V_main_arg0 m c).trans hx]
  congr 2
  blk_ext [rowAt, idx t]

theorem blk1 (hg : m ((c : Thread nD τ).loc main_arg1) = fun i => (g i : EReal)) (t : Fin cfg0.N) :
    iblk m c 1 t = fun y : S1x4096.Idx => (g (ix1 (y 1)) : EReal) := by
  funext y
  blk_simp [iblk]
  entry_read
  rw [hg]
  pointwise
  have e : (win0_1.blk t).view.emb y = ix2 (0 : Fin 1) (y 1) := by blk_ext [idx t]
  exact congrArg (fun j : Fin 4096 => ((g (ix1 j) : ℝ) : EReal)) (congrFun e 1)

theorem blk2 (ht : m ((c : Thread nD τ).loc main_arg2) = fun i => (tt i : EReal)) (t : Fin cfg0.N) :
    iblk m c 2 t = fun y : S128x4096.Idx => (tt (ix2 (rowAt t (y 0)) (y 1)) : EReal) := by
  funext y
  blk_simp [iblk]
  rw [show V m c main_arg2 = _ from (V_main_arg2 m c).trans ht]
  congr 2
  blk_ext [rowAt, idx t]

variable (hx : m ((c : Thread nD τ).loc main_arg0) = fun i => (x i : EReal))
  (hg : m ((c : Thread nD τ).loc main_arg1) = fun i => (g i : EReal))
  (ht : m ((c : Thread nD τ).loc main_arg2) = fun i => (tt i : EReal))
include hx hg ht

/-- What point `t` writes of `dx`. -/
theorem dx_blk (t : Fin cfg0.N) (y : S128x4096.Idx) :
    k0_pay8 (F := Ideal) (iblk m c 0 t) (iblk m c 1 t) (iblk m c 2 t) y
      = (gradx (fun k => x (ix2 (rowAt t (y 0)) k)) (dy x g tt (rowAt t (y 0))) (fun k => g (ix1 k)) (y 1) : EReal) := by
  obtain ⟨p, j, rfl⟩ : ∃ p j, y = ix2 p j := ⟨y 0, y 1, (ix2_self y).symm⟩
  rw [blk0 m c x hx, blk1 m c g hg, blk2 m c tt ht, pay8]
  rfl

theorem final4 : (dats m 0 c).arrAt 4 (cfgs 0).N = fun i : S4096x4096.Idx =>
      (gradx (fun k => x (ix2 (i 0) k)) (dy x g tt (i 0)) (fun k => g (ix1 k)) (i 1) : EReal) := by
  refine (dats m 0 c).arrAt_eq_of_covers 4 _ (by decide +kernel) fun t _ y => ?_
  have e : ((cfg0.win 4).blk t).view.emb y = ix2 (rowAt t (y 0)) (y 1) := by blk_ext [rowAt, idx t]
  rw [e]
  blk_simp
  rw [after0_4]
  by_cases h : t.val % 32 = 0
  · rw [outsAt0_A m c t h]
    frame_out
    exact dx_blk m c x g tt hx hg ht t y
  · rw [outsAt0_B m c t h]
    frame_out
    exact dx_blk m c x g tt hx hg ht t y

theorem final5 : (dats m 0 c).arrAt 5 (cfgs 0).N = fun i : S4096x4096.Idx =>
      (gradx (fun k => x (ix2 (i 0) k)) (dy x g tt (i 0)) (fun k => g (ix1 k)) (i 1) : EReal) := by
  refine (dats m 0 c).arrAt_eq_of_covers 5 _ (by decide +kernel) fun t _ y => ?_
  have e : ((cfg0.win 5).blk t).view.emb y = ix2 (rowAt t (y 0)) (y 1) := by blk_ext [rowAt, idx t]
  rw [e]
  blk_simp
  rw [after0_5]
  by_cases h : t.val % 32 = 0
  · rw [outsAt0_A m c t h]
    frame_out
    exact dx_blk m c x g tt hx hg ht t y
  · rw [outsAt0_B m c t h]
    frame_out
    exact dx_blk m c x g tt hx hg ht t y

theorem final6 : (dats m 0 c).arrAt 6 (cfgs 0).N = fun i : S1x4096.Idx =>
      ((∑ a : Fin 4096, dy x g tt a (i 1) * (x (ix2 a (i 1)) * rr (fun k => x (ix2 a k))) : ℝ) : EReal) := by
  refine (dats m 0 c).arrAt_eq_of_covers 6 _ (by decide +kernel) fun t hf y => ?_
  have e : ((cfg0.win 6).blk t).view.emb y = ix2 (0 : Fin 1) (y 1) := by blk_ext [idx t]
  rw [e]
  blk_simp
  rw [after0_6, Pipeline.eq_sum_fin_of_reset_step_apply_of_flush (fun n h => (outsAt0 m c n h).2.2.2) 32 (fun _ => 0)
    (fun p (j : S1x4096.Idx) => ((∑ q : Fin 128, dy x g tt (rowAt p q) (j 1) * (x (ix2 (rowAt p q) (j 1)) * rr (fun k => x (ix2 (rowAt p q) k))) : ℝ) : EReal))
    (fun t h j => by
      obtain ⟨q, j, rfl⟩ : ∃ a b, j = ix2 a b := ⟨j 0, j 1, (ix2_self j).symm⟩
      rw [outsAt0_A m c t h]; frame_out; rw [blk0 m c x hx, blk1 m c g hg, blk2 m c tt ht, pay1, pay10]; rfl)
    (fun t h j => by
      obtain ⟨q, j, rfl⟩ : ∃ a b, j = ix2 a b := ⟨j 0, j 1, (ix2_self j).symm⟩
      rw [outsAt0_B m c t h]; frame_out; rw [blk0 m c x hx, blk1 m c g hg, blk2 m c tt ht, pay1]; rfl)
    t ((flush0_6 t).mp hf) _, zero_add, sum_coe]
  refine congrArg _ ?_
  have ht : t.val / 32 = 0 := by have := lt_of_lt_of_eq t.isLt N_0; omega
  refine Fin.sum_mul_add_congr fun s k hl => ?_
  have : rowAt ⟨32 * (t.val / 32) + s.val, Pipeline.run_point_lt_of_flush t ((flush0_6 t).mp hf) s⟩ k = ⟨s.val * 128 + k.val, hl⟩ :=
    Fin.ext (by simp [rowAt, ht])
  rw [this]
  rfl

/-- Row `a`'s share of the loss. -/
abbrev sq (a : Fin 4096) : ℝ :=
  (∑ k, err (fun k => x (ix2 a k)) (fun k => g (ix1 k)) (fun k => tt (ix2 a k)) k
    * err (fun k => x (ix2 a k)) (fun k => g (ix1 k)) (fun k => tt (ix2 a k)) k) * (1 / 8192)

theorem final3 : (dats m 0 c).arrAt 3 (cfgs 0).N = fun i : S1x1.Idx => ((∑ a : Fin 4096, sq x g tt a : ℝ) : EReal) := by
  refine (dats m 0 c).arrAt_eq_of_covers 3 _ (by decide +kernel) fun t hf y => ?_
  blk_simp
  rw [after0_3, Pipeline.eq_sum_fin_of_reset_step_apply_of_flush (fun n h => (outsAt0 m c n h).1) 32 (fun _ => 0)
    (fun p (j : S1x1.Idx) => ((∑ q : Fin 128, sq x g tt (rowAt p q) : ℝ) : EReal))
    (fun t h j => by
      obtain ⟨q, j, rfl⟩ : ∃ a b, j = ix2 a b := ⟨j 0, j 1, (ix2_self j).symm⟩
      rw [outsAt0_A m c t h]; frame_out; rw [blk0 m c x hx, blk1 m c g hg, blk2 m c tt ht, pay2, pay11]; rfl)
    (fun t h j => by
      obtain ⟨q, j, rfl⟩ : ∃ a b, j = ix2 a b := ⟨j 0, j 1, (ix2_self j).symm⟩
      rw [outsAt0_B m c t h]; frame_out; rw [blk0 m c x hx, blk1 m c g hg, blk2 m c tt ht, pay2]; rfl)
    t ((flush0_3 t).mp hf) _, zero_add, sum_coe]
  refine congrArg _ ?_
  have ht : t.val / 32 = 0 := by have := lt_of_lt_of_eq t.isLt N_0; omega
  refine Fin.sum_mul_add_congr fun s k hl => ?_
  have : rowAt ⟨32 * (t.val / 32) + s.val, Pipeline.run_point_lt_of_flush t ((flush0_3 t).mp hf) s⟩ k = ⟨s.val * 128 + k.val, hl⟩ :=
    Fin.ext (by simp [rowAt, ht])
  rw [this]

end Cert.Kernel3Ideal.Loss

end
-- ==== Proof.LossClaim.lean ====
/- The loss head: the claims about `loss_head`. -/
module

public import proofs.«01_k».proof.Defs
public import proofs.«01_k».proof.Proof.Gen.Kernel3Ideal.Value
public import proofs.«01_k».proof.Proof.Gen.Reference3Ideal.Run
public import proofs.«01_k».proof.Proof.LossPre
public import proofs.«01_k».proof.Proof.LossRef
public import proofs.«01_k».proof.Proof.LossKernel

@[expose] public section

noncomputable section

namespace Cert.Loss

open Idealize.ShloMosaic Idealize.SL.Sem Cert.Reals

theorem frame_reference : Cert.quiescent_Reference3Ideal := by
  intro m ρ _
  exact (θ_run Cert.Reference3Ideal.defs _ _).mono (fun r h => ⟨fun c => (h c).2.2.2.2, sem_eq_zero_of_no_sems (by decide) r.2⟩)
    (Cert.Reference3Ideal.Loss.run m ρ)

theorem pair : Cert.algebraic_Kernel3Ideal_Reference3Ideal_pre_finite3 := by
  intro m g m' g' hpre hag
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    Cert.Kernel3Ideal.Value.run_blocks m g,
    (θ_run Cert.Reference3Ideal.defs _ _).mono (fun r h c => ?_) (Cert.Reference3Ideal.Loss.run m' g')⟩
  obtain ⟨⟨x, hx⟩, ⟨w, hw⟩, ⟨t, ht⟩⟩ := Cert.Pre_finite3.reals_of_fn _ _ _ (hpre c)
  obtain ⟨a0, a1, a2⟩ := hag c
  obtain ⟨h0, h1, h2, h3, hk⟩ := h c
  rw [a0, a1, a2, hx, hw, ht] at h0 h1 h2 h3
  refine ⟨h0.trans ?_, h1.trans ?_, h2.trans ?_, h3.trans ?_, hk⟩
  · refine Eq.trans (funext fun i => ?_) (Cert.Kernel3Ideal.Loss.final3 m c x w t hx hw ht).symm
    refine (Cert.Reference3Ideal.Loss.v24 x t w).trans (congrArg Real.toEReal ?_)
    rw [Finset.mul_sum]
    exact Finset.sum_congr rfl fun a _ => by ring
  · refine Eq.trans (funext fun i => ?_) (Cert.Kernel3Ideal.Loss.final4 m c x w t hx hw ht).symm
    obtain ⟨p, j, rfl⟩ : ∃ p j, i = ix2 p j := ⟨i 0, i 1, (ix2_self i).symm⟩
    exact Cert.Reference3Ideal.Loss.v50 x t w p j
  · refine Eq.trans (funext fun i => ?_) (Cert.Kernel3Ideal.Loss.final5 m c x w t hx hw ht).symm
    obtain ⟨p, j, rfl⟩ : ∃ p j, i = ix2 p j := ⟨i 0, i 1, (ix2_self i).symm⟩
    exact Cert.Reference3Ideal.Loss.v50 x t w p j
  · refine Eq.trans (funext fun i => ?_) (Cert.Kernel3Ideal.Loss.final6 m c x w t hx hw ht).symm
    obtain ⟨p, j, rfl⟩ : ∃ p j, i = ix2 p j := ⟨i 0, i 1, (ix2_self i).symm⟩
    exact Cert.Reference3Ideal.Loss.v53 x t w p j

end Cert.Loss

end
-- ==== Proof.BranchPre.lean ====
/- What the precondition `finite4` says of the arrays it reads. -/
module

public import proofs.«01_k».proof.Proof.Reals
public import proofs.«01_k».proof.Proof.Gen.Pre_finite4
public import Idealize.ShloMosaic.Lib.Pointwise

@[expose] public section

noncomputable section

namespace Cert.Pre_finite4

open Idealize.ShloMosaic

instance : Subsingleton S_.Idx := ⟨fun a b => funext fun i => i.elim0⟩

/-- All entries of an array are reals. -/
abbrev Fin' {s : Shape} (x : s.Idx → EReal) : Prop := ∃ a : s.Idx → ℝ, x = fun i => (a i : EReal)

theorem reals_of_fn (x0 : FVec Ideal S4096x4096 .f32) (x1 : FVec Ideal S4096x1024 .f32) (x2 x3 : FVec Ideal S4096x2048 .f32)
    (x4 : FVec Ideal S4096x12288 .bf16) (x5 : FVec Ideal S2048 .f32) (x6 : FVec Ideal S4096 .f32)
    (h : fn (F := Ideal) x0 x1 x2 x3 x4 x5 x6 = fun _ => 1#1) :
    Fin' x0 ∧ Fin' x1 ∧ Fin' x2 ∧ Fin' x3 ∧ Fin' x4 ∧ Fin' x5 ∧ Fin' x6 := by
  have h0 := congrFun h (Shape.Idx.first Facts.h_S_)
  obtain ⟨h, h6⟩ := IntOp.andi_eq_one.1 h0
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact ⟨Reals.exists_reals x0 _ (fun i => Reals.ofBits_inf) _ _ _ _ h, Reals.exists_reals x1 _ (fun i => Reals.ofBits_inf) _ _ _ _ h1,
    Reals.exists_reals x2 _ (fun i => Reals.ofBits_inf) _ _ _ _ h2, Reals.exists_reals x3 _ (fun i => Reals.ofBits_inf) _ _ _ _ h3,
    Reals.exists_reals (extf .f32 x4 Facts.bitsLt_bf16_f32) _ (fun i => Reals.ofBits_inf) _ _ _ _ h4, Reals.exists_reals x5 _ (fun i => Reals.ofBits_inf) _ _ _ _ h5,
    Reals.exists_reals x6 _ (fun i => Reals.ofBits_inf) _ _ _ _ h6⟩

end Cert.Pre_finite4

end
-- ==== Proof.BranchMath.lean ====
/- A row's norm under a gate, in reals: the gradient as a kernel computes it and as the derivative of the forward lines has it.
   `d` is the number of lanes, as the real that the two programs divide by. -/
module

public import proofs.«01_k».proof.Proof.RmsMath

@[expose] public section

noncomputable section

namespace Cert.Branch

open Idealize.ShloMosaic Cert.Reals Cert.Rms

/-- The logistic function. -/
def sg (x : ℝ) : ℝ := (1 + Real.exp (-x))⁻¹

theorem ofBits_zero : Ideal.ofBits .f32 0x00000000#32 = ((0 : ℝ) : EReal) := by simp [Ideal.ofBits, Ideal.ieee]
theorem ofBits_one : Ideal.ofBits .f32 0x3F800000#32 = ((1 : ℝ) : EReal) := by simp [Ideal.ofBits, Ideal.ieee]; rw [mul_coe, one_coe]; norm_num
theorem ofBits_1024 : Ideal.ofBits .f32 0x44800000#32 = ((1024 : ℝ) : EReal) := by
  simp [Ideal.ofBits, Ideal.ieee]
  exact_mod_cast (by norm_num [zpow_neg] : (8388608 : ℝ) * (2 ^ 13)⁻¹ = 1024)
theorem ofBits_2048 : Ideal.ofBits .f32 0x45000000#32 = ((2048 : ℝ) : EReal) := by
  simp [Ideal.ofBits, Ideal.ieee]
  exact_mod_cast (by norm_num [zpow_neg] : (8388608 : ℝ) * (2 ^ 12)⁻¹ = 2048)

theorem max_coe (a b : ℝ) : max (a : EReal) (b : EReal) = ((max a b : ℝ) : EReal) := (EReal.coe_strictMono.monotone.map_max).symm

theorem absf_coe (x : ℝ) : FloatOps.absf (F := Ideal) (φ := .f32) (x : EReal) = ((|x| : ℝ) : EReal) := by
  show max (x : EReal) (-(x : EReal)) = _
  rw [neg_coe, max_coe]; rfl

theorem exp_coe (x : ℝ) : Ideal.exp (x : EReal) = ((Real.exp x : ℝ) : EReal) := rfl

theorem one_add_exp_pos (x : ℝ) : 0 < 1 + Real.exp x := by positivity

theorem e_coe (x : ℝ) : Ideal.exp (0 - FloatOps.absf (F := Ideal) (φ := .f32) (x : EReal)) = ((Real.exp (-|x|) : ℝ) : EReal) := by
  rw [absf_coe, zero_coe, sub_coe, exp_coe, zero_sub]

/-- The logistic function the way the kernel forms it, from the exponential of `-|z|`. -/
theorem sg_coe (z : ℝ) : (if (0 : EReal) ≤ (z : EReal) then Ideal.div 1 (1 + ((Real.exp (-|z|) : ℝ) : EReal))
    else ((Real.exp (-|z|) : ℝ) : EReal) * Ideal.div 1 (1 + ((Real.exp (-|z|) : ℝ) : EReal))) = ((sg z : ℝ) : EReal) := by
  rw [one_coe, add_coe, div_coe _ _ (one_add_exp_pos _).ne', mul_coe]
  by_cases h : 0 ≤ z
  · rw [if_pos (EReal.coe_nonneg.2 h), abs_of_nonneg h, one_div]; rfl
  · rw [if_neg (fun h' => h (EReal.coe_nonneg.1 h')), abs_of_neg (not_le.1 h), neg_neg]
    refine congrArg _ ?_
    rw [sg, Real.exp_neg]
    have := Real.exp_pos z
    field_simp
    ring

/-- The logistic function the way the forward lines spell it. -/
theorem logistic_coe (z : ℝ) : Ideal.div 1 (1 + Ideal.exp (-(z : EReal))) = ((sg z : ℝ) : EReal) := by
  rw [neg_coe, exp_coe, one_coe, add_coe, div_coe _ _ (one_add_exp_pos _).ne', one_div]; rfl

section
variable {n : ℕ} (d : ℝ) (x g gate dy dn : Fin n → ℝ)

/-- The mean square of a row, plus the constant. -/
def ms : ℝ := (∑ k, x k * x k) / d + eps
/-- One over the root of it. -/
def rr : ℝ := (Real.sqrt (ms d x))⁻¹
/-- The cotangent of the normed row. -/
def dnf (k : Fin n) : ℝ := dy k * g k * (gate k * sg (gate k))
/-- The cotangent of the row, given the normed row's. -/
def draw (j : Fin n) : ℝ := rr d x * (dn j - x j * rr d x * ((∑ k, dn k * (x k * rr d x)) / d))
/-- The gate's cotangent. -/
def dgate (j : Fin n) : ℝ := dy j * (x j * rr d x) * g j * (sg (gate j) * (1 + gate j * (1 - sg (gate j))))
/-- The row's share of the scale's cotangent. -/
def dg (j : Fin n) : ℝ := dy j * (x j * rr d x) * (gate j * sg (gate j))

variable {d}

theorem ms_pos (hd : 0 < d) : 0 < ms d x :=
  add_pos_of_nonneg_of_pos (div_nonneg (Finset.sum_nonneg fun k _ => mul_self_nonneg _) hd.le) eps_pos

theorem rr_sq (hd : 0 < d) : rr d x * rr d x * ms d x = 1 := by
  unfold rr
  have h := ms_pos x hd
  have hs : Real.sqrt (ms d x) ≠ 0 := (Real.sqrt_pos.2 h).ne'
  have := Real.mul_self_sqrt h.le
  field_simp
  nlinarith

/-- The derivative's form of the row's cotangent. -/
theorem draw_eq (hd : 0 < d) (j : Fin n) :
    dn j * rr d x + x j * ((∑ k, x k * dn k) * (-(1 / 2) * (rr d x / ms d x)) / d)
      + (∑ k, x k * dn k) * (-(1 / 2) * (rr d x / ms d x)) / d * x j = draw d x dn j := by
  unfold draw
  have e : ∑ k, dn k * (x k * rr d x) = rr d x * ∑ k, x k * dn k := by
    rw [Finset.mul_sum]; exact Finset.sum_congr rfl fun k _ => by ring
  rw [e]
  have h := ms_pos x hd
  have hq : rr d x / ms d x = rr d x * (rr d x * rr d x) := by
    rw [div_eq_iff h.ne', mul_assoc, rr_sq x hd, mul_one]
  rw [hq]; ring

theorem rsqrt_coe (hd : 0 < d) : Ideal.rsqrt (ms d x : EReal) = (rr d x : EReal) := Reals.rsqrt_coe _ (ms_pos x hd)
end

/-! The three branches of a row: their lanes among the 4096 of the output, and the third's row, a product under its own gate. -/

/-- Lane `k` of the first, the second, the third branch. -/
abbrev lp (k : Fin 1024) : Fin 4096 := ⟨k, by omega⟩
abbrev la (k : Fin 2048) : Fin 4096 := ⟨1024 + k, by omega⟩
abbrev ls (k : Fin 1024) : Fin 4096 := ⟨3072 + k, by omega⟩
/-- Lane `k` of the two halves of the third branch's input. -/
abbrev lv (k : Fin 1024) : Fin 2048 := ⟨k, by omega⟩
abbrev lt (k : Fin 1024) : Fin 2048 := ⟨1024 + k, by omega⟩

variable (dy bg : Fin 4096 → ℝ) (yp pg : Fin 1024 → ℝ) (ya ag : Fin 2048 → ℝ) (gl bgl : Fin 2048 → ℝ) (sgt : Fin 1024 → ℝ)

/-- The third branch's value, its gate's argument and their product. -/
def val (k : Fin 1024) : ℝ := gl (lv k) + bgl (lv k)
def gt (k : Fin 1024) : ℝ := gl (lt k) + bgl (lt k)
def raw (k : Fin 1024) : ℝ := val gl bgl k * sg (gt gl bgl k)
/-- The cotangents of the three branches' rows. -/
def dyp : Fin 1024 → ℝ := draw 1024 yp (dnf (fun k => bg (lp k)) pg fun k => dy (lp k))
def dya : Fin 2048 → ℝ := draw 2048 ya (dnf (fun k => bg (la k)) ag fun k => dy (la k))
def dys : Fin 1024 → ℝ := draw 1024 (raw gl bgl) (dnf (fun k => bg (ls k)) sgt fun k => dy (ls k))
/-- The cotangents of the gates. -/
def dpg : Fin 1024 → ℝ := dgate 1024 yp (fun k => bg (lp k)) pg fun k => dy (lp k)
def dag : Fin 2048 → ℝ := dgate 2048 ya (fun k => bg (la k)) ag fun k => dy (la k)
def dsg : Fin 1024 → ℝ := dgate 1024 (raw gl bgl) (fun k => bg (ls k)) sgt fun k => dy (ls k)
/-- The cotangent of the third branch's input. -/
def dval (k : Fin 1024) : ℝ := dys dy bg gl bgl sgt k * sg (gt gl bgl k)
def dgt (k : Fin 1024) : ℝ := dys dy bg gl bgl sgt k * val gl bgl k * sg (gt gl bgl k) * (1 - sg (gt gl bgl k))
def dgl (j : Fin 2048) : ℝ :=
  if h : j.val < 1024 then dval dy bg gl bgl sgt ⟨j, h⟩ else dgt dy bg gl bgl sgt ⟨j.val - 1024, by omega⟩
/-- The row's share of the cotangent of the scale. -/
def dbg (j : Fin 4096) : ℝ :=
  if h : j.val < 1024 then dg 1024 yp pg (fun k => dy (lp k)) ⟨j, h⟩
  else if h' : j.val < 3072 then dg 2048 ya ag (fun k => dy (la k)) ⟨j.val - 1024, by omega⟩
  else dg 1024 (raw gl bgl) sgt (fun k => dy (ls k)) ⟨j.val - 3072, by omega⟩

theorem dgl_lv (k : Fin 1024) : dgl dy bg gl bgl sgt (lv k) = dval dy bg gl bgl sgt k := dif_pos k.isLt
theorem dgl_lt (k : Fin 1024) : dgl dy bg gl bgl sgt (lt k) = dgt dy bg gl bgl sgt k := by
  unfold dgl
  rw [dif_neg (show ¬(1024 + k.val < 1024) by omega)]
  exact congrArg _ (Fin.ext (show 1024 + k.val - 1024 = k.val by omega))
theorem dbg_lp (k : Fin 1024) : dbg dy yp pg ya ag gl bgl sgt (lp k) = dg 1024 yp pg (fun k => dy (lp k)) k := dif_pos k.isLt
theorem dbg_la (k : Fin 2048) : dbg dy yp pg ya ag gl bgl sgt (la k) = dg 2048 ya ag (fun k => dy (la k)) k := by
  unfold dbg
  rw [dif_neg (show ¬(1024 + k.val < 1024) by omega), dif_pos (show 1024 + k.val < 3072 by omega)]
  exact congrArg _ (Fin.ext (show 1024 + k.val - 1024 = k.val by omega))
theorem dbg_ls (k : Fin 1024) : dbg dy yp pg ya ag gl bgl sgt (ls k) = dg 1024 (raw gl bgl) sgt (fun k => dy (ls k)) k := by
  unfold dbg
  rw [dif_neg (show ¬(3072 + k.val < 1024) by omega), dif_neg (show ¬(3072 + k.val < 3072) by omega)]
  exact congrArg _ (Fin.ext (show 3072 + k.val - 3072 = k.val by omega))

end Cert.Branch

end
-- ==== Proof.BranchRef.lean ====
/- The gradients of the gated branch norms as the reference leaves them, at finite arguments. -/
module

public import proofs.«01_k».proof.Proof.BranchMath
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Reference4Ideal.Branch

open Idealize.ShloMosaic Cert.Reference4Ideal Cert.Reference4Ideal.Gen Cert.Reference4Ideal.Read Cert.Reals Cert.Rms Cert.Branch

variable (D : S4096x4096.Idx → ℝ) (Y : S4096x1024.Idx → ℝ) (T L : S4096x2048.Idx → ℝ) (P : S4096x12288.Idx → ℝ) (B : S2048.Idx → ℝ)
  (G : S4096.Idx → ℝ)

/-- The rows of the arguments, and the three gates in the projection's row. -/
abbrev dR (a k : Fin 4096) : ℝ := D (ix2 a k)
abbrev yR (a : Fin 4096) (k : Fin 1024) : ℝ := Y (ix2 a k)
abbrev tR (a : Fin 4096) (k : Fin 2048) : ℝ := T (ix2 a k)
abbrev lR (a : Fin 4096) (k : Fin 2048) : ℝ := L (ix2 a k)
abbrev pR (a : Fin 4096) (k : Fin 1024) : ℝ := P (ix2 a ⟨1024 + k, by omega⟩)
abbrev aR (a : Fin 4096) (k : Fin 2048) : ℝ := P (ix2 a ⟨8192 + k, by omega⟩)
abbrev sR (a : Fin 4096) (k : Fin 1024) : ℝ := P (ix2 a ⟨11264 + k, by omega⟩)
abbrev bR (k : Fin 2048) : ℝ := B (ix1 k)
abbrev gR (k : Fin 4096) : ℝ := G (ix1 k)

theorem sg_p (a : Fin 4096) (b : Fin 1024) : val_main_v38_2 (F := Ideal) (fun i => (P i : EReal)) (ix2 a b)
    = ((sg (pR P a b) : ℝ) : EReal) := by
  pointwise [val_main_v38_2, val_main_call0_v0, val_main_call0_v1, val_main_call0_v2, val_main_call0_v3, val_main_call0_v4, val_main_call0_cst, val_main_call0_cst_0, val_main_v1, val_main_v0]
  simp only [logistic_coe]

theorem dsg_p (a : Fin 4096) (b : Fin 1024) : val_main_v38_1 (F := Ideal) (fun i => (P i : EReal)) (ix2 a b)
    = ((sg (pR P a b) * (1 - sg (pR P a b)) : ℝ) : EReal) := by
  pointwise [val_main_v38_1, val_main_call0_v6, val_main_call0_v7, val_main_call0_cst_1]
  simp only [sg_p, one_coe, sub_coe, mul_coe]

theorem sl_p (a : Fin 4096) (b : Fin 1024) : val_main_v38_0 (F := Ideal) (fun i => (P i : EReal)) (ix2 a b)
    = ((pR P a b * sg (pR P a b) : ℝ) : EReal) := by
  pointwise [val_main_v38_0, val_main_v1, val_main_v0]
  simp only [sg_p, mul_coe]

theorem sg_a (a : Fin 4096) (b : Fin 2048) : val_main_v56_2 (F := Ideal) (fun i => (P i : EReal)) (ix2 a b)
    = ((sg (aR P a b) : ℝ) : EReal) := by
  pointwise [val_main_v56_2, val_main_call1_v0, val_main_call1_v1, val_main_call1_v2, val_main_call1_v3, val_main_call1_v4, val_main_call1_cst, val_main_call1_cst_0, val_main_v2, val_main_v0]
  simp only [logistic_coe]

theorem dsg_a (a : Fin 4096) (b : Fin 2048) : val_main_v56_1 (F := Ideal) (fun i => (P i : EReal)) (ix2 a b)
    = ((sg (aR P a b) * (1 - sg (aR P a b)) : ℝ) : EReal) := by
  pointwise [val_main_v56_1, val_main_call1_v6, val_main_call1_v7, val_main_call1_cst_1]
  simp only [sg_a, one_coe, sub_coe, mul_coe]

theorem sl_a (a : Fin 4096) (b : Fin 2048) : val_main_v56_0 (F := Ideal) (fun i => (P i : EReal)) (ix2 a b)
    = ((aR P a b * sg (aR P a b) : ℝ) : EReal) := by
  pointwise [val_main_v56_0, val_main_v2, val_main_v0]
  simp only [sg_a, mul_coe]

theorem sg_s (a : Fin 4096) (b : Fin 1024) : val_main_v74_2 (F := Ideal) (fun i => (P i : EReal)) (ix2 a b)
    = ((sg (sR P a b) : ℝ) : EReal) := by
  pointwise [val_main_v74_2, val_main_call2_v0, val_main_call2_v1, val_main_call2_v2, val_main_call2_v3, val_main_call2_v4, val_main_call2_cst, val_main_call2_cst_0, val_main_v3, val_main_v0]
  simp only [logistic_coe]

theorem dsg_s (a : Fin 4096) (b : Fin 1024) : val_main_v74_1 (F := Ideal) (fun i => (P i : EReal)) (ix2 a b)
    = ((sg (sR P a b) * (1 - sg (sR P a b)) : ℝ) : EReal) := by
  pointwise [val_main_v74_1, val_main_call2_v6, val_main_call2_v7, val_main_call2_cst_1]
  simp only [sg_s, one_coe, sub_coe, mul_coe]

theorem sl_s (a : Fin 4096) (b : Fin 1024) : val_main_v74_0 (F := Ideal) (fun i => (P i : EReal)) (ix2 a b)
    = ((sR P a b * sg (sR P a b) : ℝ) : EReal) := by
  pointwise [val_main_v74_0, val_main_v3, val_main_v0]
  simp only [sg_s, mul_coe]

theorem val_l (a : Fin 4096) (b : Fin 1024) : val_main_v7 (F := Ideal) (fun i => (L i : EReal)) (fun i => (B i : EReal)) (ix2 a b)
    = ((val (lR L a) (bR B) b : ℝ) : EReal) := by
  pointwise [val_main_v7, val_main_v6, val_main_v5, val_main_v4]
  simp only [add_coe]
  rfl

theorem sg_l (a : Fin 4096) (b : Fin 1024) : val_main_v14 (F := Ideal) (fun i => (L i : EReal)) (fun i => (B i : EReal)) (ix2 a b)
    = ((sg (gt (lR L a) (bR B) b) : ℝ) : EReal) := by
  pointwise [val_main_v14, val_main_v13, val_main_v12, val_main_v11, val_main_v10, val_main_v9, val_main_v8, val_main_v6, val_main_v5, val_main_v4, val_main_cst, val_main_cst_0]
  simp only [add_coe, logistic_coe]
  rfl

theorem dsg_l (a : Fin 4096) (b : Fin 1024) : val_main_v17 (F := Ideal) (fun i => (L i : EReal)) (fun i => (B i : EReal)) (ix2 a b)
    = ((sg (gt (lR L a) (bR B) b) * (1 - sg (gt (lR L a) (bR B) b)) : ℝ) : EReal) := by
  pointwise [val_main_v17, val_main_v16, val_main_v15, val_main_cst_1]
  simp only [sg_l, one_coe, sub_coe, mul_coe]

theorem raw_l (a : Fin 4096) (b : Fin 1024) : val_main_v18 (F := Ideal) (fun i => (L i : EReal)) (fun i => (B i : EReal)) (ix2 a b)
    = ((raw (lR L a) (bR B) b : ℝ) : EReal) := by
  pointwise [val_main_v18]
  simp only [val_l, sg_l, mul_coe]
  rfl

theorem ms_p (a : Fin 4096) (b : Fin 1) : val_main_v28 (F := Ideal) (fun i => (Y i : EReal)) (ix2 a b)
    = ((ms 1024 (yR Y a) : ℝ) : EReal) := by
  pointwise [val_main_v28, val_main_v22, val_main_v23, val_main_v24, val_main_v25, val_main_v26, val_main_v27, val_main_cst_2, val_main_cst_3, val_main_cst_4]
  simp only [mul_coe, sum_coe, ofBits_1024, ofBits_eps, div_coe _ _ (show (1024 : ℝ) ≠ 0 by norm_num), add_coe]
  rfl

theorem rr_p (a : Fin 4096) (b : Fin 1) : val_main_v29 (F := Ideal) (fun i => (Y i : EReal)) (ix2 a b)
    = ((rr 1024 (yR Y a) : ℝ) : EReal) := by
  pointwise [val_main_v29]
  simp only [ms_p, Branch.rsqrt_coe _ (show (0 : ℝ) < 1024 by norm_num)]

theorem hh_p (a : Fin 4096) (b : Fin 1) : val_main_v32 (F := Ideal) (fun i => (Y i : EReal)) (ix2 a b)
    = ((-(1 / 2) * (rr 1024 (yR Y a) / ms 1024 (yR Y a)) : ℝ) : EReal) := by
  pointwise [val_main_v32, val_main_v31, val_main_v30, val_main_cst_5]
  simp only [ms_p, rr_p, ofBits_neg_half, Reals.div_coe _ _ (ms_pos _ (show (0 : ℝ) < 1024 by norm_num)).ne', mul_coe]

theorem ms_a (a : Fin 4096) (b : Fin 1) : val_main_v46 (F := Ideal) (fun i => (T i : EReal)) (ix2 a b)
    = ((ms 2048 (tR T a) : ℝ) : EReal) := by
  pointwise [val_main_v46, val_main_v40, val_main_v41, val_main_v42, val_main_v43, val_main_v44, val_main_v45, val_main_cst_6, val_main_cst_7, val_main_cst_8]
  simp only [mul_coe, sum_coe, ofBits_2048, ofBits_eps, div_coe _ _ (show (2048 : ℝ) ≠ 0 by norm_num), add_coe]
  rfl

theorem rr_a (a : Fin 4096) (b : Fin 1) : val_main_v47 (F := Ideal) (fun i => (T i : EReal)) (ix2 a b)
    = ((rr 2048 (tR T a) : ℝ) : EReal) := by
  pointwise [val_main_v47]
  simp only [ms_a, Branch.rsqrt_coe _ (show (0 : ℝ) < 2048 by norm_num)]

theorem hh_a (a : Fin 4096) (b : Fin 1) : val_main_v50 (F := Ideal) (fun i => (T i : EReal)) (ix2 a b)
    = ((-(1 / 2) * (rr 2048 (tR T a) / ms 2048 (tR T a)) : ℝ) : EReal) := by
  pointwise [val_main_v50, val_main_v49, val_main_v48, val_main_cst_9]
  simp only [ms_a, rr_a, ofBits_neg_half, Reals.div_coe _ _ (ms_pos _ (show (0 : ℝ) < 2048 by norm_num)).ne', mul_coe]

theorem ms_s (a : Fin 4096) (b : Fin 1) : val_main_v64 (F := Ideal) (fun i => (L i : EReal)) (fun i => (B i : EReal)) (ix2 a b)
    = ((ms 1024 (raw (lR L a) (bR B)) : ℝ) : EReal) := by
  pointwise [val_main_v64, val_main_v58, val_main_v59, val_main_v60, val_main_v61, val_main_v62, val_main_v63, val_main_cst_10, val_main_cst_11, val_main_cst_12]
  simp only [raw_l, mul_coe, sum_coe, ofBits_1024, ofBits_eps, div_coe _ _ (show (1024 : ℝ) ≠ 0 by norm_num), add_coe]
  rfl

theorem rr_s (a : Fin 4096) (b : Fin 1) : val_main_v65 (F := Ideal) (fun i => (L i : EReal)) (fun i => (B i : EReal)) (ix2 a b)
    = ((rr 1024 (raw (lR L a) (bR B)) : ℝ) : EReal) := by
  pointwise [val_main_v65]
  simp only [ms_s, Branch.rsqrt_coe _ (show (0 : ℝ) < 1024 by norm_num)]

theorem hh_s (a : Fin 4096) (b : Fin 1) : val_main_v68 (F := Ideal) (fun i => (L i : EReal)) (fun i => (B i : EReal)) (ix2 a b)
    = ((-(1 / 2) * (rr 1024 (raw (lR L a) (bR B)) / ms 1024 (raw (lR L a) (bR B))) : ℝ) : EReal) := by
  pointwise [val_main_v68, val_main_v67, val_main_v66, val_main_cst_13]
  simp only [ms_s, rr_s, ofBits_neg_half, Reals.div_coe _ _ (ms_pos _ (show (0 : ℝ) < 1024 by norm_num)).ne', mul_coe]

theorem dn_p (a : Fin 4096) (b : Fin 1024) : val_main_v133 (F := Ideal) (fun i => (D i : EReal)) (fun i => (P i : EReal)) (fun i => (G i : EReal)) (ix2 a b)
    = ((dnf (fun k => gR G (lp k)) (pR P a) (fun k => dR D a (lp k)) b : ℝ) : EReal) := by
  pointwise [val_main_v77, val_main_v127, val_main_v132, val_main_v133, val_main_v35, val_main_v19]
  simp only [sl_p, mul_coe]
  exact congrArg _ (by unfold dnf; ring)

theorem dx_p (a : Fin 4096) (b : Fin 1024) : val_main_v148 (F := Ideal) (fun i => (D i : EReal)) (fun i => (Y i : EReal)) (fun i => (P i : EReal)) (fun i => (G i : EReal)) (ix2 a b)
    = ((draw 1024 (yR Y a) (dnf (fun k => gR G (lp k)) (pR P a) (fun k => dR D a (lp k))) b : ℝ) : EReal) := by
  rw [← draw_eq _ _ (show (0 : ℝ) < 1024 by norm_num)]
  pointwise [val_main_v148, val_main_v147, val_main_v146, val_main_v145, val_main_v144, val_main_v143, val_main_v142, val_main_v141, val_main_v140, val_main_v139, val_main_v138, val_main_v137, val_main_v136, val_main_v135, val_main_cst_26, val_main_cst_27, val_main_cst_28]
  simp only [dn_p, rr_p, hh_p, mul_coe, sum_coe, add_coe, Fin.sum_univ_one, ofBits_1024, div_coe _ _ (show (1024 : ℝ) ≠ 0 by norm_num)]

theorem dgate_p (a : Fin 4096) (b : Fin 1024) : val_main_v128 (F := Ideal) (fun i => (D i : EReal)) (fun i => (Y i : EReal)) (fun i => (P i : EReal)) (fun i => (G i : EReal)) (ix2 a b)
    = ((dgate 1024 (yR Y a) (fun k => gR G (lp k)) (pR P a) (fun k => dR D a (lp k)) b : ℝ) : EReal) := by
  pointwise [val_main_v128, val_main_call5_v0, val_main_call5_v1, val_main_call5_v2, val_main_v126, val_main_v37, val_main_v36, val_main_v35, val_main_v34, val_main_v33, val_main_v19, val_main_v77, val_main_v1, val_main_v0]
  simp only [rr_p, sg_p, dsg_p, mul_coe, add_coe]
  exact congrArg _ (by unfold dgate; ring)

theorem dn_a (a : Fin 4096) (b : Fin 2048) : val_main_v110 (F := Ideal) (fun i => (D i : EReal)) (fun i => (P i : EReal)) (fun i => (G i : EReal)) (ix2 a b)
    = ((dnf (fun k => gR G (la k)) (aR P a) (fun k => dR D a (la k)) b : ℝ) : EReal) := by
  pointwise [val_main_v78, val_main_v104, val_main_v109, val_main_v110, val_main_v53, val_main_v20]
  simp only [sl_a, mul_coe]
  exact congrArg _ (by unfold dnf; ring)

theorem dx_a (a : Fin 4096) (b : Fin 2048) : val_main_v125 (F := Ideal) (fun i => (D i : EReal)) (fun i => (T i : EReal)) (fun i => (P i : EReal)) (fun i => (G i : EReal)) (ix2 a b)
    = ((draw 2048 (tR T a) (dnf (fun k => gR G (la k)) (aR P a) (fun k => dR D a (la k))) b : ℝ) : EReal) := by
  rw [← draw_eq _ _ (show (0 : ℝ) < 2048 by norm_num)]
  pointwise [val_main_v125, val_main_v124, val_main_v123, val_main_v122, val_main_v121, val_main_v120, val_main_v119, val_main_v118, val_main_v117, val_main_v116, val_main_v115, val_main_v114, val_main_v113, val_main_v112, val_main_cst_21, val_main_cst_22, val_main_cst_23]
  simp only [dn_a, rr_a, hh_a, mul_coe, sum_coe, add_coe, Fin.sum_univ_one, ofBits_2048, div_coe _ _ (show (2048 : ℝ) ≠ 0 by norm_num)]

theorem dgate_a (a : Fin 4096) (b : Fin 2048) : val_main_v105 (F := Ideal) (fun i => (D i : EReal)) (fun i => (T i : EReal)) (fun i => (P i : EReal)) (fun i => (G i : EReal)) (ix2 a b)
    = ((dgate 2048 (tR T a) (fun k => gR G (la k)) (aR P a) (fun k => dR D a (la k)) b : ℝ) : EReal) := by
  pointwise [val_main_v105, val_main_call4_v0, val_main_call4_v1, val_main_call4_v2, val_main_v103, val_main_v55, val_main_v54, val_main_v53, val_main_v52, val_main_v51, val_main_v20, val_main_v78, val_main_v2, val_main_v0]
  simp only [rr_a, sg_a, dsg_a, mul_coe, add_coe]
  exact congrArg _ (by unfold dgate; ring)

theorem dn_s (a : Fin 4096) (b : Fin 1024) : val_main_v87 (F := Ideal) (fun i => (D i : EReal)) (fun i => (P i : EReal)) (fun i => (G i : EReal)) (ix2 a b)
    = ((dnf (fun k => gR G (ls k)) (sR P a) (fun k => dR D a (ls k)) b : ℝ) : EReal) := by
  pointwise [val_main_v79, val_main_v81, val_main_v86, val_main_v87, val_main_v71, val_main_v21]
  simp only [sl_s, mul_coe]
  exact congrArg _ (by unfold dnf; ring)

theorem dx_s (a : Fin 4096) (b : Fin 1024) : val_main_v102 (F := Ideal) (fun i => (D i : EReal)) (fun i => (L i : EReal)) (fun i => (P i : EReal)) (fun i => (B i : EReal)) (fun i => (G i : EReal)) (ix2 a b)
    = ((draw 1024 (raw (lR L a) (bR B)) (dnf (fun k => gR G (ls k)) (sR P a) (fun k => dR D a (ls k))) b : ℝ) : EReal) := by
  rw [← draw_eq _ _ (show (0 : ℝ) < 1024 by norm_num)]
  pointwise [val_main_v102, val_main_v101, val_main_v100, val_main_v99, val_main_v98, val_main_v97, val_main_v96, val_main_v95, val_main_v94, val_main_v93, val_main_v92, val_main_v91, val_main_v90, val_main_v89, val_main_cst_16, val_main_cst_17, val_main_cst_18]
  simp only [raw_l, dn_s, rr_s, hh_s, mul_coe, sum_coe, add_coe, Fin.sum_univ_one, ofBits_1024, div_coe _ _ (show (1024 : ℝ) ≠ 0 by norm_num)]

theorem dgate_s (a : Fin 4096) (b : Fin 1024) : val_main_v82 (F := Ideal) (fun i => (D i : EReal)) (fun i => (L i : EReal)) (fun i => (P i : EReal)) (fun i => (B i : EReal)) (fun i => (G i : EReal)) (ix2 a b)
    = ((dgate 1024 (raw (lR L a) (bR B)) (fun k => gR G (ls k)) (sR P a) (fun k => dR D a (ls k)) b : ℝ) : EReal) := by
  pointwise [val_main_v82, val_main_call3_v0, val_main_call3_v1, val_main_call3_v2, val_main_v80, val_main_v73, val_main_v72, val_main_v71, val_main_v70, val_main_v69, val_main_v21, val_main_v79, val_main_v3, val_main_v0]
  simp only [raw_l, rr_s, sg_s, dsg_s, mul_coe, add_coe]
  exact congrArg _ (by unfold dgate; ring)

theorem dg_p (b : Fin 1024) : val_main_v134 (F := Ideal) (fun i => (D i : EReal)) (fun i => (Y i : EReal)) (fun i => (P i : EReal)) (ix1 b)
    = ((∑ a : Fin 4096, dg 1024 (yR Y a) (pR P a) (fun k => dR D a (lp k)) b : ℝ) : EReal) := by
  pointwise [val_main_v134, val_main_v131, val_main_v130, val_main_v129, val_main_v127, val_main_v77, val_main_v34, val_main_v33, val_main_cst_24, val_main_cst_25]
  simp only [rr_p, sl_p, mul_coe, sum_coe, Fin.sum_univ_one]
  refine congrArg _ (Finset.sum_congr rfl fun a _ => ?_)
  unfold dg
  ring

theorem dg_a (b : Fin 2048) : val_main_v111 (F := Ideal) (fun i => (D i : EReal)) (fun i => (T i : EReal)) (fun i => (P i : EReal)) (ix1 b)
    = ((∑ a : Fin 4096, dg 2048 (tR T a) (aR P a) (fun k => dR D a (la k)) b : ℝ) : EReal) := by
  pointwise [val_main_v111, val_main_v108, val_main_v107, val_main_v106, val_main_v104, val_main_v78, val_main_v52, val_main_v51, val_main_cst_19, val_main_cst_20]
  simp only [rr_a, sl_a, mul_coe, sum_coe, Fin.sum_univ_one]
  refine congrArg _ (Finset.sum_congr rfl fun a _ => ?_)
  unfold dg
  ring

theorem dg_s (b : Fin 1024) : val_main_v88 (F := Ideal) (fun i => (D i : EReal)) (fun i => (L i : EReal)) (fun i => (P i : EReal)) (fun i => (B i : EReal)) (ix1 b)
    = ((∑ a : Fin 4096, dg 1024 (raw (lR L a) (bR B)) (sR P a) (fun k => dR D a (ls k)) b : ℝ) : EReal) := by
  pointwise [val_main_v88, val_main_v85, val_main_v84, val_main_v83, val_main_v81, val_main_v79, val_main_v70, val_main_v69, val_main_cst_14, val_main_cst_15]
  simp only [raw_l, rr_s, sl_s, mul_coe, sum_coe, Fin.sum_univ_one]
  refine congrArg _ (Finset.sum_congr rfl fun a _ => ?_)
  unfold dg
  ring

theorem dgl_l (a : Fin 4096) (b : Fin 2048) : val_main_v153 (F := Ideal) (fun i => (D i : EReal)) (fun i => (L i : EReal)) (fun i => (P i : EReal)) (fun i => (B i : EReal)) (fun i => (G i : EReal)) (ix2 a b)
    = (dgl (dR D a) (gR G) (lR L a) (bR B) (sR P a) b : EReal) := by
  pointwise [val_main_v153, val_main_v152, val_main_v151, val_main_v150]
  simp only [dx_s, val_l, sg_l, dsg_l, mul_coe]
  unfold dgl
  split
  · rfl
  · exact congrArg _ (by unfold dgt dys; ring)

theorem dbgl_l (q : Fin 1) (b : Fin 2048) : val_main_v162 (F := Ideal) (fun i => (D i : EReal)) (fun i => (L i : EReal)) (fun i => (P i : EReal)) (fun i => (B i : EReal)) (fun i => (G i : EReal)) (ix2 q b)
    = ((∑ a : Fin 4096, dgl (dR D a) (gR G) (lR L a) (bR B) (sR P a) b : ℝ) : EReal) := by
  pointwise [val_main_v162, val_main_v156, val_main_v155, val_main_v154, val_main_cst_29, val_main_cst_30]
  simp only [dgl_l, sum_coe, Fin.sum_univ_one]

theorem dbg_l (q : Fin 1) (b : Fin 4096) : val_main_v161 (F := Ideal) (fun i => (D i : EReal)) (fun i => (Y i : EReal)) (fun i => (T i : EReal)) (fun i => (L i : EReal)) (fun i => (P i : EReal)) (fun i => (B i : EReal)) (ix2 q b)
    = ((∑ a : Fin 4096, dbg (dR D a) (yR Y a) (pR P a) (tR T a) (aR P a) (lR L a) (bR B) (sR P a) b : ℝ) : EReal) := by
  pointwise [val_main_v161, val_main_v149]
  simp only [dg_p, dg_a, dg_s]
  unfold dbg
  by_cases h : b.val < 1024
  · simp only [dif_pos h]
  · by_cases h' : b.val < 3072
    · simp only [dif_neg h, dif_pos h', dif_pos (show b.val - 1024 < 2048 by omega)]
    · simp only [dif_neg h, dif_neg h', dif_neg (show ¬(b.val - 1024 < 2048) by omega)]
      rfl

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v148) = val_main_v148 (F := Ideal) (m ((c.tc : Thread nD τ).loc main_arg0)) (m ((c.tc : Thread nD τ).loc main_arg1)) (m ((c.tc : Thread nD τ).loc main_arg4)) (m ((c.tc : Thread nD τ).loc main_arg6))
      ∧ r.2.mem ((c.tc : Thread nD τ).loc main_v125) = val_main_v125 (F := Ideal) (m ((c.tc : Thread nD τ).loc main_arg0)) (m ((c.tc : Thread nD τ).loc main_arg2)) (m ((c.tc : Thread nD τ).loc main_arg4)) (m ((c.tc : Thread nD τ).loc main_arg6))
      ∧ r.2.mem ((c.tc : Thread nD τ).loc main_v157) = val_main_v153 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v158) = val_main_v128 (F := Ideal) (m ((c.tc : Thread nD τ).loc main_arg0)) (m ((c.tc : Thread nD τ).loc main_arg1)) (m ((c.tc : Thread nD τ).loc main_arg4)) (m ((c.tc : Thread nD τ).loc main_arg6))
      ∧ r.2.mem ((c.tc : Thread nD τ).loc main_v159) = val_main_v105 (F := Ideal) (m ((c.tc : Thread nD τ).loc main_arg0)) (m ((c.tc : Thread nD τ).loc main_arg2)) (m ((c.tc : Thread nD τ).loc main_arg4)) (m ((c.tc : Thread nD τ).loc main_arg6))
      ∧ r.2.mem ((c.tc : Thread nD τ).loc main_v160) = val_main_v82 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v161) = val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v162) = val_main_v162 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Reference4Ideal.Branch

end
-- ==== Proof.BranchPay.lean ====
/- What the kernel of the gated branch norms computes of one block, at finite arguments. -/
module

public import proofs.«01_k».proof.Proof.BranchMath
public import proofs.«01_k».proof.Proof.Gen.Kernel4Ideal.Skeleton
public import Idealize.ShloMosaic.Lib.Pipeline.ValueKit
public import Idealize.ShloMosaic.Lib.Pointwise

@[expose] public section

set_option maxRecDepth 16384

noncomputable section

open Idealize.ShloMosaic

namespace Cert.Kernel4Ideal.Branch

open Cert.Kernel4Ideal Cert.Kernel4Ideal.Gen Cert.Reals Cert.Rms Cert.Branch

variable (dy : S64x4096.Idx → ℝ) (x1 : S64x1024.Idx → ℝ) (x2 x3 : S64x2048.Idx → ℝ) (x4 : S64x1024.Idx → ℝ) (x5 : S64x2048.Idx → ℝ)
  (x6 : S64x1024.Idx → ℝ) (x7 : S1x2048.Idx → ℝ) (x8 : S1x4096.Idx → ℝ)

/-! The cotangent and the scale cut into the lanes of the three branches. -/

theorem ld_p (inb) : View.ld (Val := Elt Ideal) (e' := .f32) (fun y => (dy y : EReal)) (Rect.unit (s := S64x4096) ![0, 0] ![64, 1024] inb)
    = fun i : S64x1024.Idx => (dy (ix2 (i 0) (lp (i 1))) : EReal) := by
  funext i
  obtain ⟨p, j, rfl⟩ : ∃ p j, i = ix2 p j := ⟨i 0, i 1, (ix2_self i).symm⟩
  pointwise

theorem ld_a (inb) : View.ld (Val := Elt Ideal) (e' := .f32) (fun y => (dy y : EReal)) (Rect.unit (s := S64x4096) ![0, 1024] ![64, 2048] inb)
    = fun i : S64x2048.Idx => (dy (ix2 (i 0) (la (i 1))) : EReal) := by
  funext i
  obtain ⟨p, j, rfl⟩ : ∃ p j, i = ix2 p j := ⟨i 0, i 1, (ix2_self i).symm⟩
  pointwise

theorem ld_s (inb) : View.ld (Val := Elt Ideal) (e' := .f32) (fun y => (dy y : EReal)) (Rect.unit (s := S64x4096) ![0, 3072] ![64, 1024] inb)
    = fun i : S64x1024.Idx => (dy (ix2 (i 0) (ls (i 1))) : EReal) := by
  funext i
  obtain ⟨p, j, rfl⟩ : ∃ p j, i = ix2 p j := ⟨i 0, i 1, (ix2_self i).symm⟩
  pointwise

theorem pay11 : k0_pay11 (F := Ideal) (fun i => (x8 i : EReal)) = fun i => (x8 (ix2 0 (lp (i 1))) : EReal) := by
  funext i
  obtain ⟨p, j, rfl⟩ : ∃ p j, i = ix2 p j := ⟨i 0, i 1, (ix2_self i).symm⟩
  pointwise [k0_pay11, k0_pay10]

theorem pay22 : k0_pay22 (F := Ideal) (k0_pay10 fun i => (x8 i : EReal)) = fun i => (x8 (ix2 0 (la (i 1))) : EReal) := by
  funext i
  obtain ⟨p, j, rfl⟩ : ∃ p j, i = ix2 p j := ⟨i 0, i 1, (ix2_self i).symm⟩
  pointwise [k0_pay22, k0_pay10]

theorem pay37 : k0_pay37 (F := Ideal) (k0_pay10 fun i => (x8 i : EReal)) = fun i => (x8 (ix2 0 (ls (i 1))) : EReal) := by
  funext i
  obtain ⟨p, j, rfl⟩ : ∃ p j, i = ix2 p j := ⟨i 0, i 1, (ix2_self i).symm⟩
  pointwise [k0_pay37, k0_pay10]

/-! The first branch. -/

theorem pay13 : k0_pay13 (F := Ideal) (fun i => (x1 i : EReal)) = fun i => (rr 1024 (fun k => x1 (ix2 (i 0) k)) : EReal) := by
  funext i
  obtain ⟨p, j, rfl⟩ : ∃ p j, i = ix2 p j := ⟨i 0, i 1, (ix2_self i).symm⟩
  pointwise [k0_pay13]
  simp only [mul_coe, sum_coe, ofBits_1024, ofBits_eps, div_coe _ _ (show (1024 : ℝ) ≠ 0 by norm_num), add_coe]
  exact Branch.rsqrt_coe (fun k => x1 (ix2 p k)) (by norm_num)

theorem pay14 : k0_pay14 (F := Ideal) (fun i => (x1 i : EReal)) = fun i => ((x1 i * rr 1024 (fun k => x1 (ix2 (i 0) k)) : ℝ) : EReal) := by
  funext i
  obtain ⟨p, j, rfl⟩ : ∃ p j, i = ix2 p j := ⟨i 0, i 1, (ix2_self i).symm⟩
  pointwise [k0_pay14]
  simp only [pay13, mul_coe]
  rfl

theorem pay12 : k0_pay12 (F := Ideal) (fun i => (x4 i : EReal)) = fun i => (x4 i : EReal) := by
  funext i
  obtain ⟨p, j, rfl⟩ : ∃ p j, i = ix2 p j := ⟨i 0, i 1, (ix2_self i).symm⟩
  pointwise [k0_pay12]

theorem pay15 : k0_pay15 (F := Ideal) (fun i => (x4 i : EReal)) = fun i => (sg (x4 i) : EReal) := by
  funext i
  obtain ⟨p, j, rfl⟩ : ∃ p j, i = ix2 p j := ⟨i 0, i 1, (ix2_self i).symm⟩
  pointwise [k0_pay15]
  simp only [pay12, e_coe, sg_coe]

theorem pay16 : k0_pay16 (F := Ideal) (fun i => (x4 i : EReal)) = fun i => ((x4 i * sg (x4 i) : ℝ) : EReal) := by
  funext i
  obtain ⟨p, j, rfl⟩ : ∃ p j, i = ix2 p j := ⟨i 0, i 1, (ix2_self i).symm⟩
  pointwise [k0_pay16]
  simp only [pay12, pay15, mul_coe]

/-- The three outputs of the first branch. -/
theorem pay19 (n v7 v8 v17 v32 : _) : k0_pay19 (F := Ideal) (fun i => ((v7 : S1x1024.Idx → ℝ) i : EReal)) (fun i => ((v8 : S64x1024.Idx → ℝ) i : EReal))
      (fun i => ((v17 : S64x1.Idx → ℝ) i : EReal)) (fun i => ((n : S64x1024.Idx → ℝ) i : EReal)) (fun i => ((v32 : S64x1024.Idx → ℝ) i : EReal))
    = fun i => ((v17 (ix2 (i 0) 0) * (v8 i * v7 (ix2 0 (i 1)) * v32 i
        - n i * ((∑ k, v8 (ix2 (i 0) k) * v7 (ix2 0 k) * v32 (ix2 (i 0) k) * n (ix2 (i 0) k)) / 1024)) : ℝ) : EReal) := by
  funext i
  obtain ⟨p, j, rfl⟩ : ∃ p j, i = ix2 p j := ⟨i 0, i 1, (ix2_self i).symm⟩
  pointwise [k0_pay19]
  simp only [mul_coe, sum_coe, ofBits_1024, div_coe _ _ (show (1024 : ℝ) ≠ 0 by norm_num), sub_coe]

theorem dyp_pay : k0_pay19 (F := Ideal) (k0_pay11 fun i => (x8 i : EReal)) (fun i => (dy (ix2 (i 0) (lp (i 1))) : EReal)) (k0_pay13 fun i => (x1 i : EReal))
      (k0_pay14 fun i => (x1 i : EReal)) (k0_pay16 fun i => (x4 i : EReal))
    = fun i => (dyp (fun k => dy (ix2 (i 0) k)) (fun k => x8 (ix2 0 k)) (fun k => x1 (ix2 (i 0) k)) (fun k => x4 (ix2 (i 0) k)) (i 1) : EReal) := by
  rw [pay11, pay13, pay14, pay16, pay19]
  funext i
  obtain ⟨p, j, rfl⟩ : ∃ p j, i = ix2 p j := ⟨i 0, i 1, (ix2_self i).symm⟩
  rfl

theorem dpg_pay : k0_pay20 (F := Ideal) (k0_pay15 fun i => (x4 i : EReal))
      (k0_pay17 (fun i => (x8 i : EReal)) (fun i => (x1 i : EReal)) (fun i => (dy (ix2 (i 0) (lp (i 1))) : EReal))) (k0_pay18 fun i => (x4 i : EReal))
      (Scalar.ofBits .f32 0x3F800000#32)
    = fun i => (dpg (fun k => dy (ix2 (i 0) k)) (fun k => x8 (ix2 0 k)) (fun k => x1 (ix2 (i 0) k)) (fun k => x4 (ix2 (i 0) k)) (i 1) : EReal) := by
  funext i
  obtain ⟨p, j, rfl⟩ : ∃ p j, i = ix2 p j := ⟨i 0, i 1, (ix2_self i).symm⟩
  pointwise [k0_pay20, k0_pay17, k0_pay18]
  simp only [pay11, pay12, pay14, pay15, one_coe, sub_coe, add_coe, mul_coe]
  rfl

theorem dg_p (a : FVec Ideal S1x1024 .f32) (j : Fin 1024) :
    k0_pay21 (F := Ideal) (fun i => (dy (ix2 (i 0) (lp (i 1))) : EReal)) (k0_pay14 fun i => (x1 i : EReal)) (k0_pay16 fun i => (x4 i : EReal)) a (ix2 0 j)
      = a (ix2 0 j) + ((∑ p : Fin 64, dg 1024 (fun k => x1 (ix2 p k)) (fun k => x4 (ix2 p k)) (fun k => dy (ix2 p (lp k))) j : ℝ) : EReal) := by
  rw [pay14, pay16]
  pointwise [k0_pay21]
  simp only [mul_coe, sum_coe]
  rfl

/-! The second branch. -/

theorem pay23 : k0_pay23 (F := Ideal) (fun i => (x5 i : EReal)) = fun i => (x5 i : EReal) := by
  funext i
  obtain ⟨p, j, rfl⟩ : ∃ p j, i = ix2 p j := ⟨i 0, i 1, (ix2_self i).symm⟩
  pointwise [k0_pay23]

theorem pay25 : k0_pay25 (F := Ideal) (k0_pay24 fun i => (x2 i : EReal)) = fun i => (rr 2048 (fun k => x2 (ix2 (i 0) k)) : EReal) := by
  funext i
  obtain ⟨p, j, rfl⟩ : ∃ p j, i = ix2 p j := ⟨i 0, i 1, (ix2_self i).symm⟩
  pointwise [k0_pay25, k0_pay24]
  simp only [mul_coe, sum_coe, ofBits_2048, ofBits_eps, div_coe _ _ (show (2048 : ℝ) ≠ 0 by norm_num), add_coe]
  exact Branch.rsqrt_coe (fun k => x2 (ix2 p k)) (by norm_num)

theorem pay26 : k0_pay26 (F := Ideal) (fun i => (x2 i : EReal)) (k0_pay24 fun i => (x2 i : EReal))
    = fun i => ((x2 i * rr 2048 (fun k => x2 (ix2 (i 0) k)) : ℝ) : EReal) := by
  funext i
  obtain ⟨p, j, rfl⟩ : ∃ p j, i = ix2 p j := ⟨i 0, i 1, (ix2_self i).symm⟩
  pointwise [k0_pay26]
  simp only [pay25, mul_coe]
  rfl

theorem pay27 : k0_pay27 (F := Ideal) (fun i => (x5 i : EReal)) = fun i => (sg (x5 i) : EReal) := by
  funext i
  obtain ⟨p, j, rfl⟩ : ∃ p j, i = ix2 p j := ⟨i 0, i 1, (ix2_self i).symm⟩
  pointwise [k0_pay27]
  simp only [e_coe, sg_coe]

theorem pay28 : k0_pay28 (F := Ideal) (fun i => (x5 i : EReal)) = fun i => ((x5 i * sg (x5 i) : ℝ) : EReal) := by
  funext i
  obtain ⟨p, j, rfl⟩ : ∃ p j, i = ix2 p j := ⟨i 0, i 1, (ix2_self i).symm⟩
  pointwise [k0_pay28]
  simp only [pay27, mul_coe]

/-- The three outputs of the second branch. -/
theorem dya_pay : k0_pay30 (F := Ideal) (fun i => (x2 i : EReal)) (k0_pay22 (k0_pay10 fun i => (x8 i : EReal)))
      (fun i => (dy (ix2 (i 0) (la (i 1))) : EReal)) (k0_pay23 fun i => (x5 i : EReal)) (k0_pay24 fun i => (x2 i : EReal))
    = fun i => (dya (fun k => dy (ix2 (i 0) k)) (fun k => x8 (ix2 0 k)) (fun k => x2 (ix2 (i 0) k)) (fun k => x5 (ix2 (i 0) k)) (i 1) : EReal) := by
  rw [pay22, pay23]
  funext i
  obtain ⟨p, j, rfl⟩ : ∃ p j, i = ix2 p j := ⟨i 0, i 1, (ix2_self i).symm⟩
  pointwise [k0_pay30]
  simp only [pay25, pay26, pay28, mul_coe, sum_coe, ofBits_2048, div_coe _ _ (show (2048 : ℝ) ≠ 0 by norm_num), sub_coe]
  rfl

theorem dag_pay : k0_pay31 (F := Ideal) (fun i => (x2 i : EReal)) (k0_pay22 (k0_pay10 fun i => (x8 i : EReal)))
      (fun i => (dy (ix2 (i 0) (la (i 1))) : EReal)) (k0_pay23 fun i => (x5 i : EReal)) (k0_pay24 fun i => (x2 i : EReal))
    = fun i => (dag (fun k => dy (ix2 (i 0) k)) (fun k => x8 (ix2 0 k)) (fun k => x2 (ix2 (i 0) k)) (fun k => x5 (ix2 (i 0) k)) (i 1) : EReal) := by
  rw [pay22, pay23]
  funext i
  obtain ⟨p, j, rfl⟩ : ∃ p j, i = ix2 p j := ⟨i 0, i 1, (ix2_self i).symm⟩
  pointwise [k0_pay31]
  simp only [pay26, pay27, one_coe, sub_coe, add_coe, mul_coe]
  rfl

theorem dg_a (a : FVec Ideal S1x2048 .f32) (j : Fin 2048) :
    k0_pay32 (F := Ideal) (k0_pay29 (fun i => (x2 i : EReal)) (fun i => (dy (ix2 (i 0) (la (i 1))) : EReal)) (k0_pay23 fun i => (x5 i : EReal))
        (k0_pay24 fun i => (x2 i : EReal))) a (ix2 0 j)
      = a (ix2 0 j) + ((∑ p : Fin 64, dg 2048 (fun k => x2 (ix2 p k)) (fun k => x5 (ix2 p k)) (fun k => dy (ix2 p (la k))) j : ℝ) : EReal) := by
  rw [pay23]
  pointwise [k0_pay32, k0_pay29]
  simp only [pay26, pay28, mul_coe, sum_coe]
  rfl

/-! The third branch. -/

theorem pay34 : k0_pay34 (F := Ideal) (fun i => (x3 i : EReal)) (fun i => (x7 i : EReal))
    = fun i => (val (fun k => x3 (ix2 (i 0) k)) (fun k => x7 (ix2 0 k)) (i 1) : EReal) := by
  funext i
  obtain ⟨p, j, rfl⟩ : ∃ p j, i = ix2 p j := ⟨i 0, i 1, (ix2_self i).symm⟩
  pointwise [k0_pay34, k0_pay33]
  simp only [add_coe]
  rfl

theorem pay35 : k0_pay35 (F := Ideal) (fun i => (x3 i : EReal)) (fun i => (x7 i : EReal))
    = fun i => (sg (gt (fun k => x3 (ix2 (i 0) k)) (fun k => x7 (ix2 0 k)) (i 1)) : EReal) := by
  funext i
  obtain ⟨p, j, rfl⟩ : ∃ p j, i = ix2 p j := ⟨i 0, i 1, (ix2_self i).symm⟩
  pointwise [k0_pay35, k0_pay33]
  simp only [add_coe, e_coe, sg_coe]
  rfl

theorem pay36 : k0_pay36 (F := Ideal) (fun i => (x3 i : EReal)) (fun i => (x7 i : EReal))
    = fun i => (raw (fun k => x3 (ix2 (i 0) k)) (fun k => x7 (ix2 0 k)) (i 1) : EReal) := by
  funext i
  obtain ⟨p, j, rfl⟩ : ∃ p j, i = ix2 p j := ⟨i 0, i 1, (ix2_self i).symm⟩
  pointwise [k0_pay36]
  simp only [pay34, pay35, mul_coe]
  rfl

theorem pay38 : k0_pay38 (F := Ideal) (fun i => (x6 i : EReal)) = fun i => (x6 i : EReal) := by
  funext i
  obtain ⟨p, j, rfl⟩ : ∃ p j, i = ix2 p j := ⟨i 0, i 1, (ix2_self i).symm⟩
  pointwise [k0_pay38]

theorem pay39 : k0_pay39 (F := Ideal) (fun i => (x3 i : EReal)) (fun i => (x7 i : EReal))
    = fun i => (rr 1024 (raw (fun k => x3 (ix2 (i 0) k)) (fun k => x7 (ix2 0 k))) : EReal) := by
  funext i
  obtain ⟨p, j, rfl⟩ : ∃ p j, i = ix2 p j := ⟨i 0, i 1, (ix2_self i).symm⟩
  pointwise [k0_pay39]
  simp only [pay36, mul_coe, sum_coe, ofBits_1024, ofBits_eps, div_coe _ _ (show (1024 : ℝ) ≠ 0 by norm_num), add_coe]
  exact Branch.rsqrt_coe (raw (fun k => x3 (ix2 p k)) (fun k => x7 (ix2 0 k))) (by norm_num)

theorem pay41 : k0_pay41 (F := Ideal) (fun i => (x6 i : EReal)) = fun i => (sg (x6 i) : EReal) := by
  funext i
  obtain ⟨p, j, rfl⟩ : ∃ p j, i = ix2 p j := ⟨i 0, i 1, (ix2_self i).symm⟩
  pointwise [k0_pay41]
  simp only [e_coe, sg_coe]

theorem pay42 : k0_pay42 (F := Ideal) (fun i => (x6 i : EReal)) = fun i => ((x6 i * sg (x6 i) : ℝ) : EReal) := by
  funext i
  obtain ⟨p, j, rfl⟩ : ∃ p j, i = ix2 p j := ⟨i 0, i 1, (ix2_self i).symm⟩
  pointwise [k0_pay42]
  simp only [pay41, mul_coe]

theorem dys_pay : k0_pay44 (F := Ideal) (k0_pay36 (fun i => (x3 i : EReal)) fun i => (x7 i : EReal)) (k0_pay37 (k0_pay10 fun i => (x8 i : EReal)))
      (fun i => (dy (ix2 (i 0) (ls (i 1))) : EReal)) (k0_pay38 fun i => (x6 i : EReal)) (k0_pay39 (fun i => (x3 i : EReal)) fun i => (x7 i : EReal))
    = fun i => (dys (fun k => dy (ix2 (i 0) k)) (fun k => x8 (ix2 0 k)) (fun k => x3 (ix2 (i 0) k)) (fun k => x7 (ix2 0 k)) (fun k => x6 (ix2 (i 0) k)) (i 1) : EReal) := by
  rw [pay36, pay37, pay38, pay39]
  funext i
  obtain ⟨p, j, rfl⟩ : ∃ p j, i = ix2 p j := ⟨i 0, i 1, (ix2_self i).symm⟩
  pointwise [k0_pay44, k0_pay40]
  simp only [pay42, mul_coe, sum_coe, ofBits_1024, div_coe _ _ (show (1024 : ℝ) ≠ 0 by norm_num), sub_coe]
  rfl

theorem dsg_pay : k0_pay45 (F := Ideal) (k0_pay36 (fun i => (x3 i : EReal)) fun i => (x7 i : EReal)) (k0_pay37 (k0_pay10 fun i => (x8 i : EReal)))
      (fun i => (dy (ix2 (i 0) (ls (i 1))) : EReal)) (k0_pay38 fun i => (x6 i : EReal)) (k0_pay39 (fun i => (x3 i : EReal)) fun i => (x7 i : EReal))
    = fun i => (dsg (fun k => dy (ix2 (i 0) k)) (fun k => x8 (ix2 0 k)) (fun k => x3 (ix2 (i 0) k)) (fun k => x7 (ix2 0 k)) (fun k => x6 (ix2 (i 0) k)) (i 1) : EReal) := by
  rw [pay36, pay37, pay38, pay39]
  funext i
  obtain ⟨p, j, rfl⟩ : ∃ p j, i = ix2 p j := ⟨i 0, i 1, (ix2_self i).symm⟩
  pointwise [k0_pay45, k0_pay40]
  simp only [pay41, one_coe, sub_coe, add_coe, mul_coe]
  rfl

theorem dg_s (a : FVec Ideal S1x1024 .f32) (j : Fin 1024) :
    k0_pay1 (F := Ideal) (k0_pay43 (k0_pay36 (fun i => (x3 i : EReal)) fun i => (x7 i : EReal)) (fun i => (dy (ix2 (i 0) (ls (i 1))) : EReal))
        (k0_pay38 fun i => (x6 i : EReal)) (k0_pay39 (fun i => (x3 i : EReal)) fun i => (x7 i : EReal))) (k0_pay46 a) (ix2 0 j)
      = a (ix2 0 j) + ((∑ p : Fin 64, dg 1024 (raw (fun k => x3 (ix2 p k)) (fun k => x7 (ix2 0 k))) (fun k => x6 (ix2 p k)) (fun k => dy (ix2 p (ls k))) j
          : ℝ) : EReal) := by
  rw [pay36, pay38, pay39]
  pointwise [k0_pay1, k0_pay43, k0_pay46, k0_pay40]
  simp only [pay42, mul_coe, sum_coe]
  rfl

/-! The two halves of the third branch's input. -/

section
variable (D : S64x1024.Idx → ℝ)

theorem pay2 : k0_pay2 (F := Ideal) (k0_pay35 (fun i => (x3 i : EReal)) fun i => (x7 i : EReal)) (fun i => (D i : EReal))
    = fun i => ((D i * sg (gt (fun k => x3 (ix2 (i 0) k)) (fun k => x7 (ix2 0 k)) (i 1)) : ℝ) : EReal) := by
  rw [pay35]
  funext i
  obtain ⟨p, j, rfl⟩ : ∃ p j, i = ix2 p j := ⟨i 0, i 1, (ix2_self i).symm⟩
  pointwise [k0_pay2]
  simp only [mul_coe]

theorem pay3 : k0_pay3 (F := Ideal) (k0_pay34 (fun i => (x3 i : EReal)) fun i => (x7 i : EReal))
      (k0_pay35 (fun i => (x3 i : EReal)) fun i => (x7 i : EReal)) (fun i => (D i : EReal))
    = fun i => ((D i * val (fun k => x3 (ix2 (i 0) k)) (fun k => x7 (ix2 0 k)) (i 1) * sg (gt (fun k => x3 (ix2 (i 0) k)) (fun k => x7 (ix2 0 k)) (i 1))
        * (1 - sg (gt (fun k => x3 (ix2 (i 0) k)) (fun k => x7 (ix2 0 k)) (i 1))) : ℝ) : EReal) := by
  rw [pay34, pay35]
  funext i
  obtain ⟨p, j, rfl⟩ : ∃ p j, i = ix2 p j := ⟨i 0, i 1, (ix2_self i).symm⟩
  pointwise [k0_pay3]
  simp only [one_coe, sub_coe, mul_coe]

theorem pay4 (y : S64x1024.Idx) : k0_pay4 (F := Ideal) (k0_pay35 (fun i => (x3 i : EReal)) fun i => (x7 i : EReal)) (fun i => (D i : EReal)) y
    = ((D y * sg (gt (fun k => x3 (ix2 (y 0) k)) (fun k => x7 (ix2 0 k)) (y 1)) : ℝ) : EReal) := by
  obtain ⟨p, j, rfl⟩ : ∃ p j, y = ix2 p j := ⟨y 0, y 1, (ix2_self y).symm⟩
  pointwise [k0_pay4]
  rw [pay2]
  rfl

theorem pay5 (y : S64x1024.Idx) : k0_pay5 (F := Ideal) (k0_pay34 (fun i => (x3 i : EReal)) fun i => (x7 i : EReal))
      (k0_pay35 (fun i => (x3 i : EReal)) fun i => (x7 i : EReal)) (fun i => (D i : EReal)) y
    = ((D y * val (fun k => x3 (ix2 (y 0) k)) (fun k => x7 (ix2 0 k)) (y 1) * sg (gt (fun k => x3 (ix2 (y 0) k)) (fun k => x7 (ix2 0 k)) (y 1))
        * (1 - sg (gt (fun k => x3 (ix2 (y 0) k)) (fun k => x7 (ix2 0 k)) (y 1))) : ℝ) : EReal) := by
  obtain ⟨p, j, rfl⟩ : ∃ p j, y = ix2 p j := ⟨y 0, y 1, (ix2_self y).symm⟩
  pointwise [k0_pay5]
  rw [pay3]
  rfl

theorem pay6 (a : FVec Ideal S1x1024 .f32) (j : Fin 1024) :
    k0_pay6 (F := Ideal) (k0_pay35 (fun i => (x3 i : EReal)) fun i => (x7 i : EReal)) (fun i => (D i : EReal)) a (ix2 0 j)
      = a (ix2 0 j) + ((∑ p : Fin 64, D (ix2 p j) * sg (gt (fun k => x3 (ix2 p k)) (fun k => x7 (ix2 0 k)) j) : ℝ) : EReal) := by
  pointwise [k0_pay6]
  simp only [pay2, sum_coe]
  rfl

theorem pay7 (a : FVec Ideal S1x1024 .f32) (j : Fin 1024) :
    k0_pay7 (F := Ideal) (k0_pay34 (fun i => (x3 i : EReal)) fun i => (x7 i : EReal))
        (k0_pay35 (fun i => (x3 i : EReal)) fun i => (x7 i : EReal)) (fun i => (D i : EReal)) a (ix2 0 j)
      = a (ix2 0 j) + ((∑ p : Fin 64, D (ix2 p j) * val (fun k => x3 (ix2 p k)) (fun k => x7 (ix2 0 k)) j * sg (gt (fun k => x3 (ix2 p k)) (fun k => x7 (ix2 0 k)) j)
          * (1 - sg (gt (fun k => x3 (ix2 p k)) (fun k => x7 (ix2 0 k)) j)) : ℝ) : EReal) := by
  pointwise [k0_pay7]
  simp only [pay3, sum_coe]
  rfl

end

theorem pay8 (y : S1x4096.Idx) : k0_pay8 (F := Ideal) y = 0 := by pointwise [k0_pay8]
theorem pay9 (y : S1x2048.Idx) : k0_pay9 (F := Ideal) y = 0 := by pointwise [k0_pay9]

end Cert.Kernel4Ideal.Branch

end
-- ==== Proof.BranchAcc.lean ====
/- The two sums that the kernel of the gated branch norms keeps over its grid: what one point adds. -/
module

public import proofs.«01_k».proof.Proof.BranchPay
public import Idealize.ShloMosaic.Lib.Pipeline.ReadBack

@[expose] public section

set_option maxRecDepth 16384

noncomputable section

open Idealize.ShloMosaic

namespace Cert.Kernel4Ideal.Branch

open Cert.Kernel4Ideal Cert.Kernel4Ideal.Gen Cert.Reals Cert.Rms Cert.Branch

variable (dy : S64x4096.Idx → ℝ) (x1 : S64x1024.Idx → ℝ) (x2 x3 : S64x2048.Idx → ℝ) (x4 : S64x1024.Idx → ℝ) (x5 : S64x2048.Idx → ℝ)
  (x6 : S64x1024.Idx → ℝ) (x7 : S1x2048.Idx → ℝ) (x8 : S1x4096.Idx → ℝ)

theorem emb_p (inb) (q : Fin 1) (j : Fin 1024) : (Rect.unit (s := S1x4096) ![0, 0] ![1, 1024] inb).emb (ix2 q j : S1x1024.Idx) = ix2 q (lp j) := by
  blk_ext
theorem emb_a (inb) (q : Fin 1) (j : Fin 2048) : (Rect.unit (s := S1x4096) ![0, 1024] ![1, 2048] inb).emb (ix2 q j : S1x2048.Idx) = ix2 q (la j) := by
  blk_ext
theorem emb_s (inb) (q : Fin 1) (j : Fin 1024) : (Rect.unit (s := S1x4096) ![0, 3072] ![1, 1024] inb).emb (ix2 q j : S1x1024.Idx) = ix2 q (ls j) := by
  blk_ext
theorem emb_v (inb) (q : Fin 1) (j : Fin 1024) : (Rect.unit (s := S1x2048) ![0, 0] ![1, 1024] inb).emb (ix2 q j : S1x1024.Idx) = ix2 q (lv j) := by
  blk_ext
theorem emb_t (inb) (q : Fin 1) (j : Fin 1024) : (Rect.unit (s := S1x2048) ![0, 1024] ![1, 1024] inb).emb (ix2 q j : S1x1024.Idx) = ix2 q (lt j) := by
  blk_ext
theorem emb_V (inb) (q : Fin 64) (j : Fin 1024) : (Rect.unit (s := S64x2048) ![0, 0] ![64, 1024] inb).emb (ix2 q j : S64x1024.Idx) = ix2 q (lv j) := by
  blk_ext
theorem emb_T (inb) (q : Fin 64) (j : Fin 1024) : (Rect.unit (s := S64x2048) ![0, 1024] ![64, 1024] inb).emb (ix2 q j : S64x1024.Idx) = ix2 q (lt j) := by
  blk_ext

theorem mem_of_emb {s : Shape} {r : Rect s} {x : r.shape.Idx} {y : s.Idx} (h : r.emb x = y) : y ∈ r.set := h ▸ r.idx_mem x

/-- Every lane of the scale is one of the three branches'. -/
theorem lanes (j : Fin 4096) : (∃ k, j = lp k) ∨ (∃ k, j = la k) ∨ ∃ k, j = ls k := by
  by_cases h : j.val < 1024
  · exact .inl ⟨⟨j, h⟩, rfl⟩
  · by_cases h' : j.val < 3072
    · exact .inr (.inl ⟨⟨j.val - 1024, by omega⟩, Fin.ext (by show j.val = 1024 + (j.val - 1024); omega)⟩)
    · exact .inr (.inr ⟨⟨j.val - 3072, by omega⟩, Fin.ext (by show j.val = 3072 + (j.val - 3072); omega)⟩)

theorem halves (j : Fin 2048) : (∃ k, j = lv k) ∨ ∃ k, j = lt k := by
  by_cases h : j.val < 1024
  · exact .inl ⟨⟨j, h⟩, rfl⟩
  · exact .inr ⟨⟨j.val - 1024, by omega⟩, Fin.ext (by show j.val = 1024 + (j.val - 1024); omega)⟩

/-- The three stores into the scale's sum add the block's rows, whatever the sum was. -/
theorem acc15 (a : Vec Ideal S1x4096 .f32) (L' : List (View.Piece (Elt Ideal) S1x4096 .f32)) (y : S1x4096.Idx) :
    View.canon (⟨Rect.unit ![0, 3072] ![1, 1024] inb_S1x4096_S1x1024_0_3072,
        k0_pay1 (F := Ideal) (k0_pay43 (k0_pay36 (fun i => (x3 i : EReal)) (fun i => (x7 i : EReal)))
          (View.ld (e' := .f32) (fun i => (dy i : EReal)) (Rect.unit ![0, 3072] ![64, 1024] inb_S64x4096_S64x1024_0_3072)) (k0_pay38 (fun i => (x6 i : EReal)))
          (k0_pay39 (fun i => (x3 i : EReal)) (fun i => (x7 i : EReal)))) (k0_pay46 (View.ld a (Rect.unit ![0, 3072] ![1, 1024] inb_S1x4096_S1x1024_0_3072)))⟩
      :: ⟨Rect.unit ![0, 1024] ![1, 2048] inb_S1x4096_S1x2048_0_1024,
        k0_pay32 (F := Ideal) (k0_pay29 (fun i => (x2 i : EReal))
          (View.ld (e' := .f32) (fun i => (dy i : EReal)) (Rect.unit ![0, 1024] ![64, 2048] inb_S64x4096_S64x2048_0_1024)) (k0_pay23 (fun i => (x5 i : EReal)))
          (k0_pay24 (fun i => (x2 i : EReal)))) (View.ld a (Rect.unit ![0, 1024] ![1, 2048] inb_S1x4096_S1x2048_0_1024))⟩
      :: ⟨Rect.unit ![0, 0] ![1, 1024] inb_S1x4096_S1x1024_0_0,
        k0_pay21 (F := Ideal) (View.ld (e' := .f32) (fun i => (dy i : EReal)) (Rect.unit ![0, 0] ![64, 1024] inb_S64x4096_S64x1024_0_0))
          (k0_pay14 (fun i => (x1 i : EReal))) (k0_pay16 (fun i => (x4 i : EReal))) (View.ld a (Rect.unit ![0, 0] ![1, 1024] inb_S1x4096_S1x1024_0_0))⟩
      :: L') y
    = a y + ((∑ p : Fin 64, dbg (fun k => dy (ix2 p k)) (fun k => x1 (ix2 p k)) (fun k => x4 (ix2 p k)) (fun k => x2 (ix2 p k)) (fun k => x5 (ix2 p k))
        (fun k => x3 (ix2 p k)) (fun k => x7 (ix2 0 k)) (fun k => x6 (ix2 p k)) (y 1) : ℝ) : EReal) := by
  rw [ld_p, ld_a, ld_s]
  refine View.canon_append_of_piecesOf (fun y => a y + ((∑ p : Fin 64, dbg (fun k => dy (ix2 p k)) (fun k => x1 (ix2 p k)) (fun k => x4 (ix2 p k))
    (fun k => x2 (ix2 p k)) (fun k => x5 (ix2 p k)) (fun k => x3 (ix2 p k)) (fun k => x7 (ix2 0 k)) (fun k => x6 (ix2 p k)) (y 1) : ℝ) : EReal)) L' [_, _, _]
    ⟨fun x => ?_, fun x => ?_, fun x => ?_, trivial⟩ y ?_
  · obtain ⟨q, j, rfl⟩ : ∃ (q : Fin 1) (j : Fin 1024), x = ix2 q j := ⟨x 0, x 1, (ix2_self x).symm⟩
    obtain rfl := Subsingleton.elim q 0
    refine (dg_s dy x3 x6 x7 _ j).trans ?_
    show _ = a (Rect.emb _ _) + _
    rw [show (Rect.unit (s := S1x4096) ![0, 3072] ![1, 1024] inb_S1x4096_S1x1024_0_3072).emb (ix2 0 j : S1x1024.Idx) = ix2 0 (ls j) from emb_s _ 0 j]
    refine congrArg₂ (· + ·) (congrArg a (emb_s _ 0 j)) (congrArg Real.toEReal (Finset.sum_congr rfl fun p _ => ?_))
    show _ = dbg _ _ _ _ _ _ _ _ (ls j)
    rw [dbg_ls]
  · obtain ⟨q, j, rfl⟩ : ∃ (q : Fin 1) (j : Fin 2048), x = ix2 q j := ⟨x 0, x 1, (ix2_self x).symm⟩
    obtain rfl := Subsingleton.elim q 0
    refine (dg_a dy x2 x5 _ j).trans ?_
    show _ = a (Rect.emb _ _) + _
    rw [show (Rect.unit (s := S1x4096) ![0, 1024] ![1, 2048] inb_S1x4096_S1x2048_0_1024).emb (ix2 0 j : S1x2048.Idx) = ix2 0 (la j) from emb_a _ 0 j]
    refine congrArg₂ (· + ·) (congrArg a (emb_a _ 0 j)) (congrArg Real.toEReal (Finset.sum_congr rfl fun p _ => ?_))
    show _ = dbg _ _ _ _ _ _ _ _ (la j)
    rw [dbg_la]
  · obtain ⟨q, j, rfl⟩ : ∃ (q : Fin 1) (j : Fin 1024), x = ix2 q j := ⟨x 0, x 1, (ix2_self x).symm⟩
    obtain rfl := Subsingleton.elim q 0
    refine (dg_p dy x1 x4 _ j).trans ?_
    show _ = a (Rect.emb _ _) + _
    rw [show (Rect.unit (s := S1x4096) ![0, 0] ![1, 1024] inb_S1x4096_S1x1024_0_0).emb (ix2 0 j : S1x1024.Idx) = ix2 0 (lp j) from emb_p _ 0 j]
    refine congrArg₂ (· + ·) (congrArg a (emb_p _ 0 j)) (congrArg Real.toEReal (Finset.sum_congr rfl fun p _ => ?_))
    show _ = dbg _ _ _ _ _ _ _ _ (lp j)
    rw [dbg_lp]
  · obtain ⟨q, j, rfl⟩ : ∃ (q : Fin 1) (j : Fin 4096), y = ix2 q j := ⟨y 0, y 1, (ix2_self y).symm⟩
    rcases lanes j with ⟨k, rfl⟩ | ⟨k, rfl⟩ | ⟨k, rfl⟩
    · exact ⟨_, List.mem_cons_of_mem _ (List.mem_cons_of_mem _ (List.mem_cons_self)), mem_of_emb (emb_p inb_S1x4096_S1x1024_0_0 q k)⟩
    · exact ⟨_, List.mem_cons_of_mem _ (List.mem_cons_self), mem_of_emb (emb_a inb_S1x4096_S1x2048_0_1024 q k)⟩
    · exact ⟨_, List.mem_cons_self, mem_of_emb (emb_s inb_S1x4096_S1x1024_0_3072 q k)⟩

/-- The two stores into the bias's sum add the block's rows, whatever the sum was. -/
theorem acc16 (a : Vec Ideal S1x2048 .f32) (L' : List (View.Piece (Elt Ideal) S1x2048 .f32)) (y : S1x2048.Idx) :
    View.canon (⟨Rect.unit ![0, 1024] ![1, 1024] inb_S1x2048_S1x1024_0_1024,
        k0_pay7 (F := Ideal) (k0_pay34 (fun i => (x3 i : EReal)) (fun i => (x7 i : EReal))) (k0_pay35 (fun i => (x3 i : EReal)) (fun i => (x7 i : EReal)))
          (k0_pay44 (k0_pay36 (fun i => (x3 i : EReal)) (fun i => (x7 i : EReal))) (k0_pay37 (k0_pay10 (fun i => (x8 i : EReal))))
          (View.ld (e' := .f32) (fun i => (dy i : EReal)) (Rect.unit ![0, 3072] ![64, 1024] inb_S64x4096_S64x1024_0_3072)) (k0_pay38 (fun i => (x6 i : EReal)))
          (k0_pay39 (fun i => (x3 i : EReal)) (fun i => (x7 i : EReal)))) (View.ld a (Rect.unit ![0, 1024] ![1, 1024] inb_S1x2048_S1x1024_0_1024))⟩
      :: ⟨Rect.unit ![0, 0] ![1, 1024] inb_S1x2048_S1x1024_0_0,
        k0_pay6 (F := Ideal) (k0_pay35 (fun i => (x3 i : EReal)) (fun i => (x7 i : EReal)))
          (k0_pay44 (k0_pay36 (fun i => (x3 i : EReal)) (fun i => (x7 i : EReal))) (k0_pay37 (k0_pay10 (fun i => (x8 i : EReal))))
          (View.ld (e' := .f32) (fun i => (dy i : EReal)) (Rect.unit ![0, 3072] ![64, 1024] inb_S64x4096_S64x1024_0_3072)) (k0_pay38 (fun i => (x6 i : EReal)))
          (k0_pay39 (fun i => (x3 i : EReal)) (fun i => (x7 i : EReal)))) (View.ld a (Rect.unit ![0, 0] ![1, 1024] inb_S1x2048_S1x1024_0_0))⟩
      :: L') y
    = a y + ((∑ p : Fin 64, dgl (fun k => dy (ix2 p k)) (fun k => x8 (ix2 0 k)) (fun k => x3 (ix2 p k)) (fun k => x7 (ix2 0 k)) (fun k => x6 (ix2 p k)) (y 1) : ℝ) : EReal) := by
  rw [ld_s, dys_pay]
  refine View.canon_append_of_piecesOf (fun y => a y + ((∑ p : Fin 64, dgl (fun k => dy (ix2 p k)) (fun k => x8 (ix2 0 k)) (fun k => x3 (ix2 p k)) (fun k => x7 (ix2 0 k)) (fun k => x6 (ix2 p k)) (y 1) : ℝ) : EReal)) L' [_, _]
    ⟨fun x => ?_, fun x => ?_, trivial⟩ y ?_
  · obtain ⟨q, j, rfl⟩ : ∃ (q : Fin 1) (j : Fin 1024), x = ix2 q j := ⟨x 0, x 1, (ix2_self x).symm⟩
    obtain rfl := Subsingleton.elim q 0
    refine (pay7 x3 x7 _ _ j).trans ?_
    show _ = a (Rect.emb _ _) + _
    rw [show (Rect.unit ![0, 1024] ![1, 1024] inb_S1x2048_S1x1024_0_1024).emb (ix2 0 j : S1x1024.Idx) = ix2 0 (lt j) from emb_t _ 0 j]
    refine congrArg₂ (· + ·) (congrArg a (emb_t _ 0 j)) (congrArg Real.toEReal (Finset.sum_congr rfl fun p _ => ?_))
    show _ = dgl _ _ _ _ _ (lt j)
    rw [dgl_lt]
    rfl
  · obtain ⟨q, j, rfl⟩ : ∃ (q : Fin 1) (j : Fin 1024), x = ix2 q j := ⟨x 0, x 1, (ix2_self x).symm⟩
    obtain rfl := Subsingleton.elim q 0
    refine (pay6 x3 x7 _ _ j).trans ?_
    show _ = a (Rect.emb _ _) + _
    rw [show (Rect.unit ![0, 0] ![1, 1024] inb_S1x2048_S1x1024_0_0).emb (ix2 0 j : S1x1024.Idx) = ix2 0 (lv j) from emb_v _ 0 j]
    refine congrArg₂ (· + ·) (congrArg a (emb_v _ 0 j)) (congrArg Real.toEReal (Finset.sum_congr rfl fun p _ => ?_))
    show _ = dgl _ _ _ _ _ (lv j)
    rw [dgl_lv]
    rfl
  · obtain ⟨q, j, rfl⟩ : ∃ (q : Fin 1) (j : Fin 2048), y = ix2 q j := ⟨y 0, y 1, (ix2_self y).symm⟩
    rcases halves j with ⟨k, rfl⟩ | ⟨k, rfl⟩
    · exact ⟨_, List.mem_cons_of_mem _ (List.mem_cons_self), mem_of_emb (emb_v inb_S1x2048_S1x1024_0_0 q k)⟩
    · exact ⟨_, List.mem_cons_self, mem_of_emb (emb_t inb_S1x2048_S1x1024_0_1024 q k)⟩

/-- The two stores of the third branch's input's cotangent. -/
theorem out11 (y : S64x2048.Idx) :
    View.canon (Val := Elt Ideal) (e := .bf16) [⟨Rect.unit ![0, 1024] ![64, 1024] inb_S64x2048_S64x1024_0_1024,
        k0_pay5 (F := Ideal) (k0_pay34 (fun i => (x3 i : EReal)) (fun i => (x7 i : EReal))) (k0_pay35 (fun i => (x3 i : EReal)) (fun i => (x7 i : EReal)))
          (k0_pay44 (k0_pay36 (fun i => (x3 i : EReal)) (fun i => (x7 i : EReal))) (k0_pay37 (k0_pay10 (fun i => (x8 i : EReal))))
          (View.ld (e' := .f32) (fun i => (dy i : EReal)) (Rect.unit ![0, 3072] ![64, 1024] inb_S64x4096_S64x1024_0_3072)) (k0_pay38 (fun i => (x6 i : EReal)))
          (k0_pay39 (fun i => (x3 i : EReal)) (fun i => (x7 i : EReal))))⟩,
      ⟨Rect.unit ![0, 0] ![64, 1024] inb_S64x2048_S64x1024_0_0,
        k0_pay4 (F := Ideal) (k0_pay35 (fun i => (x3 i : EReal)) (fun i => (x7 i : EReal)))
          (k0_pay44 (k0_pay36 (fun i => (x3 i : EReal)) (fun i => (x7 i : EReal))) (k0_pay37 (k0_pay10 (fun i => (x8 i : EReal))))
          (View.ld (e' := .f32) (fun i => (dy i : EReal)) (Rect.unit ![0, 3072] ![64, 1024] inb_S64x4096_S64x1024_0_3072)) (k0_pay38 (fun i => (x6 i : EReal)))
          (k0_pay39 (fun i => (x3 i : EReal)) (fun i => (x7 i : EReal))))⟩] y
    = (dgl (fun k => dy (ix2 (y 0) k)) (fun k => x8 (ix2 0 k)) (fun k => x3 (ix2 (y 0) k)) (fun k => x7 (ix2 0 k)) (fun k => x6 (ix2 (y 0) k)) (y 1) : EReal) := by
  rw [ld_s, dys_pay]
  refine View.canon_append_of_piecesOf (Val := Elt Ideal) (e := .bf16) (fun y => (dgl (fun k => dy (ix2 (y 0) k)) (fun k => x8 (ix2 0 k)) (fun k => x3 (ix2 (y 0) k)) (fun k => x7 (ix2 0 k)) (fun k => x6 (ix2 (y 0) k)) (y 1) : EReal)) [] [_, _]
    ⟨fun x => ?_, fun x => ?_, trivial⟩ y ?_
  · obtain ⟨q, j, rfl⟩ : ∃ (q : Fin 64) (j : Fin 1024), x = ix2 q j := ⟨x 0, x 1, (ix2_self x).symm⟩
    refine (pay5 x3 x7 _ _).trans ?_
    rw [show (Rect.unit ![0, 1024] ![64, 1024] inb_S64x2048_S64x1024_0_1024).emb (ix2 q j : S64x1024.Idx) = ix2 q (lt j) from emb_T _ q j]
    show _ = ((dgl _ _ _ _ _ (lt j) : ℝ) : EReal)
    rw [dgl_lt]
    rfl
  · obtain ⟨q, j, rfl⟩ : ∃ (q : Fin 64) (j : Fin 1024), x = ix2 q j := ⟨x 0, x 1, (ix2_self x).symm⟩
    refine (pay4 x3 x7 _ _).trans ?_
    rw [show (Rect.unit ![0, 0] ![64, 1024] inb_S64x2048_S64x1024_0_0).emb (ix2 q j : S64x1024.Idx) = ix2 q (lv j) from emb_V _ q j]
    show _ = ((dgl _ _ _ _ _ (lv j) : ℝ) : EReal)
    rw [dgl_lv]
    rfl
  · obtain ⟨q, j, rfl⟩ : ∃ (q : Fin 64) (j : Fin 2048), y = ix2 q j := ⟨y 0, y 1, (ix2_self y).symm⟩
    rcases halves j with ⟨k, rfl⟩ | ⟨k, rfl⟩
    · exact ⟨_, List.mem_cons_of_mem _ (List.mem_cons_self), mem_of_emb (emb_V inb_S64x2048_S64x1024_0_0 q k)⟩
    · exact ⟨_, List.mem_cons_self, mem_of_emb (emb_T inb_S64x2048_S64x1024_0_1024 q k)⟩

end Cert.Kernel4Ideal.Branch

end
-- ==== Proof.BranchKernel.lean ====
/- The gradients of the gated branch norms as the kernel leaves them: its result arrays at finite arguments. -/
module

public import proofs.«01_k».proof.Proof.BranchAcc
public import proofs.«01_k».proof.Proof.Gen.Kernel4Ideal.Frame

@[expose] public section

set_option maxRecDepth 16384

noncomputable section

open Idealize.ShloMosaic Idealize.ShloMosaic.TcCoe Idealize.SL.Sem
open Idealize.ShloMosaic.Pipeline (Dat)

namespace Cert.Kernel4Ideal.Branch

open Cert.Kernel4Ideal Cert.Kernel4Ideal.Gen Cert.Reals Cert.Rms Cert.Branch

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 1]
    ∧ win0_5.index t = ![t.val, 4]
    ∧ win0_6.index t = ![t.val, 11]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0] :=
  (by decide +kernel : ∀ t : Fin grid0.N, _)

/-- Row `p` of block `t`. -/
def rowAt (t : Fin cfg0.N) (p : Fin 64) : Fin 4096 :=
  ⟨t.val * 64 + p.val, by have := lt_of_lt_of_eq t.isLt N_0; omega⟩

variable (m : (ℓ : Loc nD τ sig) → Buf (Elt Ideal) ℓ) (c : Dev nD)
variable (D : S4096x4096.Idx → ℝ) (Y : S4096x1024.Idx → ℝ) (T L : S4096x2048.Idx → ℝ) (P : S4096x12288.Idx → ℝ) (B : S2048.Idx → ℝ)
  (G : S4096.Idx → ℝ)

/-- The rows of the arguments, and the three gates in the projection's row. -/
abbrev dR (a k : Fin 4096) : ℝ := D (ix2 a k)
abbrev yR (a : Fin 4096) (k : Fin 1024) : ℝ := Y (ix2 a k)
abbrev tR (a : Fin 4096) (k : Fin 2048) : ℝ := T (ix2 a k)
abbrev lR (a : Fin 4096) (k : Fin 2048) : ℝ := L (ix2 a k)
abbrev pR (a : Fin 4096) (k : Fin 1024) : ℝ := P (ix2 a ⟨1024 + k, by omega⟩)
abbrev aR (a : Fin 4096) (k : Fin 2048) : ℝ := P (ix2 a ⟨8192 + k, by omega⟩)
abbrev sR (a : Fin 4096) (k : Fin 1024) : ℝ := P (ix2 a ⟨11264 + k, by omega⟩)
abbrev bR (k : Fin 2048) : ℝ := B (ix1 k)
abbrev gR (k : Fin 4096) : ℝ := G (ix1 k)

theorem blk0 (hD : m ((c : Thread nD τ).loc main_arg0) = fun i => (D i : EReal)) (t : Fin cfg0.N) :
    iblk m c 0 t = fun y : S64x4096.Idx => (dR D (rowAt t (y 0)) (y 1) : EReal) := by
  funext y
  blk_simp [iblk]
  rw [show V m c main_arg0 = _ from (V_main_arg0 m c).trans hD]
  congr 2
  blk_ext [rowAt, idx t]

theorem blk1 (hY : m ((c : Thread nD τ).loc main_arg1) = fun i => (Y i : EReal)) (t : Fin cfg0.N) :
    iblk m c 1 t = fun y : S64x1024.Idx => (yR Y (rowAt t (y 0)) (y 1) : EReal) := by
  funext y
  blk_simp [iblk]
  rw [show V m c main_arg1 = _ from (V_main_arg1 m c).trans hY]
  congr 2
  blk_ext [rowAt, idx t]

theorem blk2 (hT : m ((c : Thread nD τ).loc main_arg2) = fun i => (T i : EReal)) (t : Fin cfg0.N) :
    iblk m c 2 t = fun y : S64x2048.Idx => (tR T (rowAt t (y 0)) (y 1) : EReal) := by
  funext y
  blk_simp [iblk]
  rw [show V m c main_arg2 = _ from (V_main_arg2 m c).trans hT]
  congr 2
  blk_ext [rowAt, idx t]

theorem blk3 (hL : m ((c : Thread nD τ).loc main_arg3) = fun i => (L i : EReal)) (t : Fin cfg0.N) :
    iblk m c 3 t = fun y : S64x2048.Idx => (lR L (rowAt t (y 0)) (y 1) : EReal) := by
  funext y
  blk_simp [iblk]
  rw [show V m c main_arg3 = _ from (V_main_arg3 m c).trans hL]
  congr 2
  blk_ext [rowAt, idx t]

theorem blk4 (hP : m ((c : Thread nD τ).loc main_arg4) = fun i => (P i : EReal)) (t : Fin cfg0.N) :
    iblk m c 4 t = fun y : S64x1024.Idx => (pR P (rowAt t (y 0)) (y 1) : EReal) := by
  funext y
  blk_simp [iblk]
  rw [show V m c main_arg4 = _ from (V_main_arg4 m c).trans hP]
  congr 2
  blk_ext [rowAt, idx t]

theorem blk5 (hP : m ((c : Thread nD τ).loc main_arg4) = fun i => (P i : EReal)) (t : Fin cfg0.N) :
    iblk m c 5 t = fun y : S64x2048.Idx => (aR P (rowAt t (y 0)) (y 1) : EReal) := by
  funext y
  blk_simp [iblk]
  rw [show V m c main_arg4 = _ from (V_main_arg4 m c).trans hP]
  congr 2
  blk_ext [rowAt, idx t]

theorem blk6 (hP : m ((c : Thread nD τ).loc main_arg4) = fun i => (P i : EReal)) (t : Fin cfg0.N) :
    iblk m c 6 t = fun y : S64x1024.Idx => (sR P (rowAt t (y 0)) (y 1) : EReal) := by
  funext y
  blk_simp [iblk]
  rw [show V m c main_arg4 = _ from (V_main_arg4 m c).trans hP]
  congr 2
  blk_ext [rowAt, idx t]

theorem blk7 (hB : m ((c : Thread nD τ).loc main_arg5) = fun i => (B i : EReal)) (t : Fin cfg0.N) :
    iblk m c 7 t = fun y : S1x2048.Idx => (bR B (y 1) : EReal) := by
  funext y
  blk_simp [iblk]
  entry_read
  rw [hB]
  pointwise
  have e : (win0_7.blk t).view.emb y = ix2 (0 : Fin 1) (y 1) := by blk_ext [idx t]
  exact congrArg (fun j : Fin 2048 => ((B (ix1 j) : ℝ) : EReal)) (congrFun e 1)

theorem blk8 (hG : m ((c : Thread nD τ).loc main_arg6) = fun i => (G i : EReal)) (t : Fin cfg0.N) :
    iblk m c 8 t = fun y : S1x4096.Idx => (gR G (y 1) : EReal) := by
  funext y
  blk_simp [iblk]
  entry_read
  rw [hG]
  pointwise
  have e : (win0_8.blk t).view.emb y = ix2 (0 : Fin 1) (y 1) := by blk_ext [idx t]
  exact congrArg (fun j : Fin 4096 => ((G (ix1 j) : ℝ) : EReal)) (congrFun e 1)

variable (hD : m ((c : Thread nD τ).loc main_arg0) = fun i => (D i : EReal))
  (hY : m ((c : Thread nD τ).loc main_arg1) = fun i => (Y i : EReal))
  (hT : m ((c : Thread nD τ).loc main_arg2) = fun i => (T i : EReal))
  (hL : m ((c : Thread nD τ).loc main_arg3) = fun i => (L i : EReal))
  (hP : m ((c : Thread nD τ).loc main_arg4) = fun i => (P i : EReal))
  (hB : m ((c : Thread nD τ).loc main_arg5) = fun i => (B i : EReal))
  (hG : m ((c : Thread nD τ).loc main_arg6) = fun i => (G i : EReal))
include hD hY hT hL hP hB hG

theorem final9 : (dats m 0 c).arrAt 9 (cfgs 0).N = fun i : S4096x1024.Idx => (dyp (dR D (i 0)) (gR G) (yR Y (i 0)) (pR P (i 0)) (i 1) : EReal) := by
  refine (dats m 0 c).arrAt_eq_of_covers 9 _ (by decide +kernel) fun t _ y => ?_
  have e : ((cfg0.win 9).blk t).view.emb y = ix2 (rowAt t (y 0)) (y 1) := by blk_ext [rowAt, idx t]
  rw [e]
  blk_simp
  rw [after0_9]
  by_cases h : t.val % 64 = 0
  · rw [outsAt0_A m c t h]
    frame_out
    rw [blk0 m c D hD, blk1 m c Y hY, blk4 m c P hP, blk8 m c G hG]
    rw [ld_p]
    exact congrFun (dyp_pay (fun y => dR D (rowAt t (y 0)) (y 1)) ..) y
  · rw [outsAt0_B m c t h]
    frame_out
    rw [blk0 m c D hD, blk1 m c Y hY, blk4 m c P hP, blk8 m c G hG]
    rw [ld_p]
    exact congrFun (dyp_pay (fun y => dR D (rowAt t (y 0)) (y 1)) ..) y

theorem final10 : (dats m 0 c).arrAt 10 (cfgs 0).N = fun i : S4096x2048.Idx => (dya (dR D (i 0)) (gR G) (tR T (i 0)) (aR P (i 0)) (i 1) : EReal) := by
  refine (dats m 0 c).arrAt_eq_of_covers 10 _ (by decide +kernel) fun t _ y => ?_
  have e : ((cfg0.win 10).blk t).view.emb y = ix2 (rowAt t (y 0)) (y 1) := by blk_ext [rowAt, idx t]
  rw [e]
  blk_simp
  rw [after0_10]
  by_cases h : t.val % 64 = 0
  · rw [outsAt0_A m c t h]
    frame_out
    rw [blk0 m c D hD, blk2 m c T hT, blk5 m c P hP, blk8 m c G hG]
    rw [ld_a]
    exact congrFun (dya_pay (fun y => dR D (rowAt t (y 0)) (y 1)) ..) y
  · rw [outsAt0_B m c t h]
    frame_out
    rw [blk0 m c D hD, blk2 m c T hT, blk5 m c P hP, blk8 m c G hG]
    rw [ld_a]
    exact congrFun (dya_pay (fun y => dR D (rowAt t (y 0)) (y 1)) ..) y

theorem final11 : (dats m 0 c).arrAt 11 (cfgs 0).N = fun i : S4096x2048.Idx => (dgl (dR D (i 0)) (gR G) (lR L (i 0)) (bR B) (sR P (i 0)) (i 1) : EReal) := by
  refine (dats m 0 c).arrAt_eq_of_covers 11 _ (by decide +kernel) fun t _ y => ?_
  have e : ((cfg0.win 11).blk t).view.emb y = ix2 (rowAt t (y 0)) (y 1) := by blk_ext [rowAt, idx t]
  rw [e]
  blk_simp
  rw [after0_11]
  by_cases h : t.val % 64 = 0
  · rw [outsAt0_A m c t h]
    frame_out
    rw [blk0 m c D hD, blk3 m c L hL, blk6 m c P hP, blk7 m c B hB, blk8 m c G hG]
    exact out11 (fun y => dR D (rowAt t (y 0)) (y 1)) ..
  · rw [outsAt0_B m c t h]
    frame_out
    rw [blk0 m c D hD, blk3 m c L hL, blk6 m c P hP, blk7 m c B hB, blk8 m c G hG]
    exact out11 (fun y => dR D (rowAt t (y 0)) (y 1)) ..

theorem final12 : (dats m 0 c).arrAt 12 (cfgs 0).N = fun i : S4096x1024.Idx => (dpg (dR D (i 0)) (gR G) (yR Y (i 0)) (pR P (i 0)) (i 1) : EReal) := by
  refine (dats m 0 c).arrAt_eq_of_covers 12 _ (by decide +kernel) fun t _ y => ?_
  have e : ((cfg0.win 12).blk t).view.emb y = ix2 (rowAt t (y 0)) (y 1) := by blk_ext [rowAt, idx t]
  rw [e]
  blk_simp
  rw [after0_12]
  by_cases h : t.val % 64 = 0
  · rw [outsAt0_A m c t h]
    frame_out
    rw [blk0 m c D hD, blk1 m c Y hY, blk4 m c P hP, blk8 m c G hG]
    rw [ld_p]
    exact congrFun (dpg_pay (fun y => dR D (rowAt t (y 0)) (y 1)) ..) y
  · rw [outsAt0_B m c t h]
    frame_out
    rw [blk0 m c D hD, blk1 m c Y hY, blk4 m c P hP, blk8 m c G hG]
    rw [ld_p]
    exact congrFun (dpg_pay (fun y => dR D (rowAt t (y 0)) (y 1)) ..) y

theorem final13 : (dats m 0 c).arrAt 13 (cfgs 0).N = fun i : S4096x2048.Idx => (dag (dR D (i 0)) (gR G) (tR T (i 0)) (aR P (i 0)) (i 1) : EReal) := by
  refine (dats m 0 c).arrAt_eq_of_covers 13 _ (by decide +kernel) fun t _ y => ?_
  have e : ((cfg0.win 13).blk t).view.emb y = ix2 (rowAt t (y 0)) (y 1) := by blk_ext [rowAt, idx t]
  rw [e]
  blk_simp
  rw [after0_13]
  by_cases h : t.val % 64 = 0
  · rw [outsAt0_A m c t h]
    frame_out
    rw [blk0 m c D hD, blk2 m c T hT, blk5 m c P hP, blk8 m c G hG]
    rw [ld_a]
    exact congrFun (dag_pay (fun y => dR D (rowAt t (y 0)) (y 1)) ..) y
  · rw [outsAt0_B m c t h]
    frame_out
    rw [blk0 m c D hD, blk2 m c T hT, blk5 m c P hP, blk8 m c G hG]
    rw [ld_a]
    exact congrFun (dag_pay (fun y => dR D (rowAt t (y 0)) (y 1)) ..) y

theorem final14 : (dats m 0 c).arrAt 14 (cfgs 0).N = fun i : S4096x1024.Idx => (dsg (dR D (i 0)) (gR G) (lR L (i 0)) (bR B) (sR P (i 0)) (i 1) : EReal) := by
  refine (dats m 0 c).arrAt_eq_of_covers 14 _ (by decide +kernel) fun t _ y => ?_
  have e : ((cfg0.win 14).blk t).view.emb y = ix2 (rowAt t (y 0)) (y 1) := by blk_ext [rowAt, idx t]
  rw [e]
  blk_simp
  rw [after0_14]
  by_cases h : t.val % 64 = 0
  · rw [outsAt0_A m c t h]
    frame_out
    rw [blk0 m c D hD, blk3 m c L hL, blk6 m c P hP, blk7 m c B hB, blk8 m c G hG]
    rw [ld_s]
    exact congrFun (dsg_pay (fun y => dR D (rowAt t (y 0)) (y 1)) ..) y
  · rw [outsAt0_B m c t h]
    frame_out
    rw [blk0 m c D hD, blk3 m c L hL, blk6 m c P hP, blk7 m c B hB, blk8 m c G hG]
    rw [ld_s]
    exact congrFun (dsg_pay (fun y => dR D (rowAt t (y 0)) (y 1)) ..) y

theorem final15 : (dats m 0 c).arrAt 15 (cfgs 0).N = fun i : S1x4096.Idx =>
      ((∑ a : Fin 4096, dbg (dR D a) (yR Y a) (pR P a) (tR T a) (aR P a) (lR L a) (bR B) (sR P a) (i 1) : ℝ) : EReal) := by
  refine (dats m 0 c).arrAt_eq_of_covers 15 _ (by decide +kernel) fun t hf y => ?_
  have e : ((cfg0.win 15).blk t).view.emb y = ix2 (0 : Fin 1) (y 1) := by blk_ext [idx t]
  rw [e]
  blk_simp
  rw [after0_15, Pipeline.eq_sum_fin_of_reset_step_apply_of_flush (fun n h => (outsAt0 m c n h).2.2.2.2.2.2.1) 64 (fun _ => 0)
    (fun p (j : S1x4096.Idx) => ((∑ q : Fin 64, dbg (dR D (rowAt p q)) (yR Y (rowAt p q)) (pR P (rowAt p q)) (tR T (rowAt p q)) (aR P (rowAt p q)) (lR L (rowAt p q)) (bR B) (sR P (rowAt p q)) (j 1) : ℝ) : EReal))
    (fun t h j => by
      rw [outsAt0_A m c t h]; frame_out
      simp (disch := decide +kernel) only [View.readCov_skip, View.readCov_fill]
      rw [blk0 m c D hD, blk1 m c Y hY, blk2 m c T hT, blk3 m c L hL, blk4 m c P hP, blk5 m c P hP, blk6 m c P hP, blk7 m c B hB]
      refine (acc15 (fun y => dR D (rowAt t (y 0)) (y 1)) ..).trans ?_
      rw [pay8]; rfl)
    (fun t h j => by
      rw [outsAt0_B m c t h]; frame_out
      rw [blk0 m c D hD, blk1 m c Y hY, blk2 m c T hT, blk3 m c L hL, blk4 m c P hP, blk5 m c P hP, blk6 m c P hP, blk7 m c B hB]
      exact acc15 (fun y => dR D (rowAt t (y 0)) (y 1)) ..)
    t ((flush0_15 t).mp hf) _, zero_add, sum_coe]
  refine congrArg _ ?_
  have ht : t.val / 64 = 0 := by have := lt_of_lt_of_eq t.isLt N_0; omega
  refine Fin.sum_mul_add_congr fun s k hl => ?_
  have : rowAt ⟨64 * (t.val / 64) + s.val, Pipeline.run_point_lt_of_flush t ((flush0_15 t).mp hf) s⟩ k = ⟨s.val * 64 + k.val, hl⟩ :=
    Fin.ext (by simp [rowAt, ht])
  rw [this]
  rfl

theorem final16 : (dats m 0 c).arrAt 16 (cfgs 0).N = fun i : S1x2048.Idx =>
      ((∑ a : Fin 4096, dgl (dR D a) (gR G) (lR L a) (bR B) (sR P a) (i 1) : ℝ) : EReal) := by
  refine (dats m 0 c).arrAt_eq_of_covers 16 _ (by decide +kernel) fun t hf y => ?_
  have e : ((cfg0.win 16).blk t).view.emb y = ix2 (0 : Fin 1) (y 1) := by blk_ext [idx t]
  rw [e]
  blk_simp
  rw [after0_16, Pipeline.eq_sum_fin_of_reset_step_apply_of_flush (fun n h => (outsAt0 m c n h).2.2.2.2.2.2.2) 64 (fun _ => 0)
    (fun p (j : S1x2048.Idx) => ((∑ q : Fin 64, dgl (dR D (rowAt p q)) (gR G) (lR L (rowAt p q)) (bR B) (sR P (rowAt p q)) (j 1) : ℝ) : EReal))
    (fun t h j => by
      rw [outsAt0_A m c t h]; frame_out
      simp (disch := decide +kernel) only [View.readCov_skip, View.readCov_fill]
      rw [blk0 m c D hD, blk3 m c L hL, blk6 m c P hP, blk7 m c B hB, blk8 m c G hG]
      refine (acc16 (fun y => dR D (rowAt t (y 0)) (y 1)) ..).trans ?_
      rw [pay9]; rfl)
    (fun t h j => by
      rw [outsAt0_B m c t h]; frame_out
      rw [blk0 m c D hD, blk3 m c L hL, blk6 m c P hP, blk7 m c B hB, blk8 m c G hG]
      exact acc16 (fun y => dR D (rowAt t (y 0)) (y 1)) ..)
    t ((flush0_16 t).mp hf) _, zero_add, sum_coe]
  refine congrArg _ ?_
  have ht : t.val / 64 = 0 := by have := lt_of_lt_of_eq t.isLt N_0; omega
  refine Fin.sum_mul_add_congr fun s k hl => ?_
  have : rowAt ⟨64 * (t.val / 64) + s.val, Pipeline.run_point_lt_of_flush t ((flush0_16 t).mp hf) s⟩ k = ⟨s.val * 64 + k.val, hl⟩ :=
    Fin.ext (by simp [rowAt, ht])
  rw [this]
  rfl

end Cert.Kernel4Ideal.Branch

end
-- ==== Proof.BranchClaim.lean ====
/- The gradients of the gated branch norms: the claims about `branch_bwd`. -/
module

public import proofs.«01_k».proof.Defs
public import proofs.«01_k».proof.Proof.Gen.Kernel4Ideal.Value
public import proofs.«01_k».proof.Proof.Gen.Reference4Ideal.Run
public import proofs.«01_k».proof.Proof.BranchPre
public import proofs.«01_k».proof.Proof.BranchRef
public import proofs.«01_k».proof.Proof.BranchKernel

@[expose] public section

set_option maxRecDepth 16384

noncomputable section

namespace Cert.Branch

open Idealize.ShloMosaic Idealize.SL.Sem Cert.Reals

theorem frame_reference : Cert.quiescent_Reference4Ideal := by
  intro m ρ _
  exact (θ_run Cert.Reference4Ideal.defs _ _).mono
    (fun r h => ⟨fun c => (h c).2.2.2.2.2.2.2.2, sem_eq_zero_of_no_sems (by decide) r.2⟩) (Cert.Reference4Ideal.Branch.run m ρ)

theorem pair : Cert.algebraic_Kernel4Ideal_Reference4Ideal_pre_finite4 := by
  intro m g m' g' hpre hag
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    Cert.Kernel4Ideal.Value.run_blocks m g,
    (θ_run Cert.Reference4Ideal.defs _ _).mono (fun r h c => ?_) (Cert.Reference4Ideal.Branch.run m' g')⟩
  obtain ⟨⟨D, hD⟩, ⟨Y, hY⟩, ⟨T, hT⟩, ⟨L, hL⟩, ⟨P, hP⟩, ⟨B, hB⟩, ⟨G, hG⟩⟩ := Cert.Pre_finite4.reals_of_fn _ _ _ _ _ _ _ (hpre c)
  obtain ⟨a0, a1, a2, a3, a4, a5, a6⟩ := hag c
  obtain ⟨h0, h1, h2, h3, h4, h5, h6, h7, hk⟩ := h c
  rw [a0, a1, a4, a6, hD, hY, hP, hG] at h0
  rw [a0, a2, a4, a6, hD, hT, hP, hG] at h1
  rw [a0, a3, a4, a5, a6, hD, hL, hP, hB, hG] at h2
  rw [a0, a1, a4, a6, hD, hY, hP, hG] at h3
  rw [a0, a2, a4, a6, hD, hT, hP, hG] at h4
  rw [a0, a3, a4, a5, a6, hD, hL, hP, hB, hG] at h5
  rw [a0, a1, a2, a3, a4, a5, hD, hY, hT, hL, hP, hB] at h6
  rw [a0, a3, a4, a5, a6, hD, hL, hP, hB, hG] at h7
  refine ⟨h0.trans ?_, h1.trans ?_, h2.trans ?_, h3.trans ?_, h4.trans ?_, h5.trans ?_, h6.trans ?_, h7.trans ?_, hk⟩
  · refine Eq.trans (funext fun i => ?_) (Cert.Kernel4Ideal.Branch.final9 m c D Y T L P B G hD hY hT hL hP hB hG).symm
    obtain ⟨p, j, rfl⟩ : ∃ p j, i = ix2 p j := ⟨i 0, i 1, (ix2_self i).symm⟩
    exact Cert.Reference4Ideal.Branch.dx_p D Y P G p j
  · refine Eq.trans (funext fun i => ?_) (Cert.Kernel4Ideal.Branch.final10 m c D Y T L P B G hD hY hT hL hP hB hG).symm
    obtain ⟨p, j, rfl⟩ : ∃ p j, i = ix2 p j := ⟨i 0, i 1, (ix2_self i).symm⟩
    exact Cert.Reference4Ideal.Branch.dx_a D T P G p j
  · refine Eq.trans (funext fun i => ?_) (Cert.Kernel4Ideal.Branch.final11 m c D Y T L P B G hD hY hT hL hP hB hG).symm
    obtain ⟨p, j, rfl⟩ : ∃ p j, i = ix2 p j := ⟨i 0, i 1, (ix2_self i).symm⟩
    exact Cert.Reference4Ideal.Branch.dgl_l D L P B G p j
  · refine Eq.trans (funext fun i => ?_) (Cert.Kernel4Ideal.Branch.final12 m c D Y T L P B G hD hY hT hL hP hB hG).symm
    obtain ⟨p, j, rfl⟩ : ∃ p j, i = ix2 p j := ⟨i 0, i 1, (ix2_self i).symm⟩
    exact Cert.Reference4Ideal.Branch.dgate_p D Y P G p j
  · refine Eq.trans (funext fun i => ?_) (Cert.Kernel4Ideal.Branch.final13 m c D Y T L P B G hD hY hT hL hP hB hG).symm
    obtain ⟨p, j, rfl⟩ : ∃ p j, i = ix2 p j := ⟨i 0, i 1, (ix2_self i).symm⟩
    exact Cert.Reference4Ideal.Branch.dgate_a D T P G p j
  · refine Eq.trans (funext fun i => ?_) (Cert.Kernel4Ideal.Branch.final14 m c D Y T L P B G hD hY hT hL hP hB hG).symm
    obtain ⟨p, j, rfl⟩ : ∃ p j, i = ix2 p j := ⟨i 0, i 1, (ix2_self i).symm⟩
    exact Cert.Reference4Ideal.Branch.dgate_s D L P B G p j
  · refine Eq.trans (funext fun i => ?_) (Cert.Kernel4Ideal.Branch.final15 m c D Y T L P B G hD hY hT hL hP hB hG).symm
    obtain ⟨p, j, rfl⟩ : ∃ p j, i = ix2 p j := ⟨i 0, i 1, (ix2_self i).symm⟩
    exact Cert.Reference4Ideal.Branch.dbg_l D Y T L P B p j
  · refine Eq.trans (funext fun i => ?_) (Cert.Kernel4Ideal.Branch.final16 m c D Y T L P B G hD hY hT hL hP hB hG).symm
    obtain ⟨p, j, rfl⟩ : ∃ p j, i = ix2 p j := ⟨i 0, i 1, (ix2_self i).symm⟩
    exact Cert.Reference4Ideal.Branch.dbgl_l D L P B G p j

end Cert.Branch

end
-- ==== Proof.PrepMath.lean ====
/- The discretised parameters of the recurrence, in reals: one complex entry's gradients.
   `lr`, `li` are the parts of an eigenvalue, `ld` the logarithm of the step, `ga`, `gi` the parts of the cotangent of its
   discretised value, `p`, `q` the parts of the cotangent of the factor in front of the input map. -/
module

public import proofs.«01_k».proof.Proof.BranchMath

@[expose] public section

noncomputable section

namespace Cert.Prep

open Idealize.ShloMosaic Cert.Reals

theorem cos_coe (x : ℝ) : Ideal.cos (x : EReal) = ((Real.cos x : ℝ) : EReal) := rfl
theorem sin_coe (x : ℝ) : Ideal.sin (x : EReal) = ((Real.sin x : ℝ) : EReal) := rfl

variable (lr li ld ga gi p q : ℝ)

/-- The squared modulus of the eigenvalue. -/
def nm : ℝ := lr * lr + li * li
/-- The modulus and the angle of the discretised eigenvalue, and its parts. -/
def mg : ℝ := Real.exp (lr * Real.exp ld)
def ph : ℝ := li * Real.exp ld
def ar : ℝ := mg lr ld * Real.cos (ph li ld)
def ai : ℝ := mg lr ld * Real.sin (ph li ld)
/-- The factor in front of the input map. -/
def fr : ℝ := ((ar lr li ld - 1) * lr + ai lr li ld * li) / nm lr li
def fi : ℝ := (ai lr li ld * lr - (ar lr li ld - 1) * li) / nm lr li
/-- The whole cotangent of the discretised eigenvalue. -/
def gr : ℝ := ga + (lr * p - li * q) / nm lr li
def gm : ℝ := gi + (lr * q + li * p) / nm lr li
/-- The gradients by the eigenvalue's parts, and the entry's share of the gradient by the step. -/
def dlr : ℝ := (ar lr li ld * Real.exp ld * gr lr li ga p q + ai lr li ld * Real.exp ld * gm lr li gi p q)
  - ((fr lr li ld * lr + fi lr li ld * li) / nm lr li * p + (fi lr li ld * lr - fr lr li ld * li) / nm lr li * q)
def dli : ℝ := (ar lr li ld * Real.exp ld * gm lr li gi p q - ai lr li ld * Real.exp ld * gr lr li ga p q)
  - ((fr lr li ld * lr + fi lr li ld * li) / nm lr li * q - (fi lr li ld * lr - fr lr li ld * li) / nm lr li * p)
def gdt : ℝ := (lr * ar lr li ld - li * ai lr li ld) * gr lr li ga p q + (lr * ai lr li ld + li * ar lr li ld) * gm lr li gi p q

/-- The cotangent of the factor's parts, from the input map `br + i bi` and the cotangent `gbr + i gbi` of the scaled one. -/
def gfp {k : ℕ} (br bi gbr gbi : Fin k → ℝ) : ℝ := ∑ j, (br j * gbr j + bi j * gbi j)
def gfq {k : ℕ} (br bi gbr gbi : Fin k → ℝ) : ℝ := ∑ j, (br j * gbi j - bi j * gbr j)

/-- The two gradients as products with the parts of the inverse eigenvalue. -/
theorem dlr_eq (h : nm lr li ≠ 0) : (ar lr li ld * Real.exp ld * gr lr li ga p q + ai lr li ld * Real.exp ld * gm lr li gi p q)
    - ((fr lr li ld * (lr * (1 / nm lr li)) - fi lr li ld * ((0 - li) * (1 / nm lr li))) * p
      + (fr lr li ld * ((0 - li) * (1 / nm lr li)) + fi lr li ld * (lr * (1 / nm lr li))) * q) = dlr lr li ld ga gi p q := by
  unfold dlr
  field_simp
  ring

theorem dli_eq (h : nm lr li ≠ 0) : (ar lr li ld * Real.exp ld * gm lr li gi p q - ai lr li ld * Real.exp ld * gr lr li ga p q)
    - ((fr lr li ld * (lr * (1 / nm lr li)) - fi lr li ld * ((0 - li) * (1 / nm lr li))) * q
      - (fr lr li ld * ((0 - li) * (1 / nm lr li)) + fi lr li ld * (lr * (1 / nm lr li))) * p) = dli lr li ld ga gi p q := by
  unfold dli
  field_simp
  ring

end Cert.Prep

end
-- ==== Proof.PrepPre.lean ====
/- What the precondition `finite5` says of the arrays it reads. -/
module

public import proofs.«01_k».proof.Proof.BranchPre
public import proofs.«01_k».proof.Proof.PrepMath
public import proofs.«01_k».proof.Proof.Gen.Pre_finite5

@[expose] public section

noncomputable section

namespace Cert.Pre_finite5

open Idealize.ShloMosaic Cert.Prep
open Cert.Pre_finite4 (Fin')

instance : Subsingleton S_.Idx := ⟨fun a b => funext fun i => i.elim0⟩

theorem reals_of_fn (x0 x1 : FVec Ideal S64x64 .f32) (x2 : FVec Ideal S64 .f32) (x3 x4 : FVec Ideal S64x64x16 .f32)
    (x5 x6 : FVec Ideal S64x64 .f32) (x7 x8 : FVec Ideal S64x16x64 .f32)
    (h : fn (F := Ideal) x0 x1 x2 x3 x4 x5 x6 x7 x8 = fun _ => 1#1) :
    Fin' x0 ∧ Fin' x1 ∧ Fin' x2 ∧ Fin' x3 ∧ Fin' x4 ∧ Fin' x5 ∧ Fin' x6 ∧ Fin' x7 ∧ Fin' x8 ∧ ∀ i, x0 i ≠ 0 ∨ x1 i ≠ 0 := by
  have h0 := congrFun h (Shape.Idx.first Facts.h_S_)
  obtain ⟨h, h9⟩ := IntOp.andi_eq_one.1 h0
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  refine ⟨Reals.exists_reals x0 _ (fun i => Reals.ofBits_inf) _ _ _ _ h,
    Reals.exists_reals x1 _ (fun i => Reals.ofBits_inf) _ _ _ _ h1,
    Reals.exists_reals x2 _ (fun i => Reals.ofBits_inf) _ _ _ _ h2,
    Reals.exists_reals x3 _ (fun i => Reals.ofBits_inf) _ _ _ _ h3,
    Reals.exists_reals x4 _ (fun i => Reals.ofBits_inf) _ _ _ _ h4,
    Reals.exists_reals x5 _ (fun i => Reals.ofBits_inf) _ _ _ _ h5,
    Reals.exists_reals x6 _ (fun i => Reals.ofBits_inf) _ _ _ _ h6,
    Reals.exists_reals x7 _ (fun i => Reals.ofBits_inf) _ _ _ _ h7,
    Reals.exists_reals x8 _ (fun i => Reals.ofBits_inf) _ _ _ _ h8, fun i => ?_⟩
  have hc : IntOp.ori (Ideal.cmp .une (x0 i : EReal) (Ideal.ofBits .f32 0x00000000#32)) (Ideal.cmp .une (x1 i : EReal) (Ideal.ofBits .f32 0x00000000#32)) = 1#1 :=
    Host.reduce_andi_all _ _ _ _ _ h9 i
  by_contra hn
  obtain ⟨e0, e1⟩ := not_or.1 hn
  rw [not_not.1 e0, not_not.1 e1, Cert.Branch.ofBits_zero] at hc
  simp [Ideal.cmp, IntOp.ori] at hc

end Cert.Pre_finite5

end
-- ==== Proof.PrepRef.lean ====
/- The gradients of the discretised parameters as the reference leaves them, at finite arguments. -/
module

public import proofs.«01_k».proof.Proof.PrepMath
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Reference5Ideal.Prep

open Idealize.ShloMosaic Idealize.ShloMosaic.TcCoe Idealize.SL.Sem Cert.Reference5Ideal Cert.Reference5Ideal.Gen Cert.Reference5Ideal.Read Cert.Reals Cert.Branch Cert.Prep

variable (L I : S64x64.Idx → ℝ) (T : S64.Idx → ℝ) (Br Bi : S64x64x16.Idx → ℝ) (Ar Ai : S64x64.Idx → ℝ) (Gr Gi : S64x16x64.Idx → ℝ)

/-- The cotangent of the factor at an entry. -/
abbrev pR (a b : Fin 64) : ℝ := gfp (fun k => Br (ix3 a b k)) (fun k => Bi (ix3 a b k)) (fun k => Gr (ix3 a k b)) (fun k => Gi (ix3 a k b))
abbrev qR (a b : Fin 64) : ℝ := gfq (fun k => Br (ix3 a b k)) (fun k => Bi (ix3 a b k)) (fun k => Gr (ix3 a k b)) (fun k => Gi (ix3 a k b))

theorem dt_l (a : Fin 64) : val_main_v0 (F := Ideal) (fun i => (T i : EReal)) (ix1 a)
    = ((Real.exp (T (ix1 a)) : ℝ) : EReal) := by
  pointwise [val_main_v0]
  exact exp_coe _

theorem m_l (a b : Fin 64) : val_main_v4 (F := Ideal) (fun i => (L i : EReal)) (fun i => (T i : EReal)) (ix2 a b)
    = ((mg (L (ix2 a b)) (T (ix1 a)) : ℝ) : EReal) := by
  pointwise [val_main_v4, val_main_v3, val_main_v2, val_main_v1]
  simp only [dt_l, mul_coe, exp_coe]
  rfl

theorem c7 (a b : Fin 64) : val_main_v7 (F := Ideal) (fun i => (I i : EReal)) (fun i => (T i : EReal)) (ix2 a b)
    = ((Real.cos (ph (I (ix2 a b)) (T (ix1 a))) : ℝ) : EReal) := by
  pointwise [val_main_v7, val_main_v6, val_main_v5, val_main_v1]
  simp only [dt_l, mul_coe, cos_coe]
  rfl

theorem s8 (a b : Fin 64) : val_main_v8 (F := Ideal) (fun i => (I i : EReal)) (fun i => (T i : EReal)) (ix2 a b)
    = ((Real.sin (ph (I (ix2 a b)) (T (ix1 a))) : ℝ) : EReal) := by
  pointwise [val_main_v8, val_main_v6, val_main_v5, val_main_v1]
  simp only [dt_l, mul_coe, sin_coe]
  rfl

theorem s12 (a b : Fin 64) : val_main_v12 (F := Ideal) (fun i => (I i : EReal)) (fun i => (T i : EReal)) (ix2 a b)
    = ((Real.sin (ph (I (ix2 a b)) (T (ix1 a))) : ℝ) : EReal) := by
  pointwise [val_main_v12, val_main_v11, val_main_v10, val_main_v1]
  simp only [dt_l, mul_coe, sin_coe]
  rfl

theorem c13 (a b : Fin 64) : val_main_v13 (F := Ideal) (fun i => (I i : EReal)) (fun i => (T i : EReal)) (ix2 a b)
    = ((Real.cos (ph (I (ix2 a b)) (T (ix1 a))) : ℝ) : EReal) := by
  pointwise [val_main_v13, val_main_v11, val_main_v10, val_main_v1]
  simp only [dt_l, mul_coe, cos_coe]
  rfl

theorem n_l (a b : Fin 64) : val_main_v17 (F := Ideal) (fun i => (L i : EReal)) (fun i => (I i : EReal)) (ix2 a b)
    = ((nm (L (ix2 a b)) (I (ix2 a b)) : ℝ) : EReal) := by
  pointwise [val_main_v17, val_main_v16, val_main_v15]
  simp only [mul_coe, add_coe]
  rfl

theorem a19 (a b : Fin 64) : val_main_v19 (F := Ideal) (fun i => (L i : EReal)) (fun i => (I i : EReal)) (fun i => (T i : EReal)) (ix2 a b)
    = ((ar (L (ix2 a b)) (I (ix2 a b)) (T (ix1 a)) - 1 : ℝ) : EReal) := by
  pointwise [val_main_v19, val_main_v18, val_main_v9, val_main_cst]
  simp only [m_l, c7, mul_coe, ofBits_one, one_coe, sub_coe]
  rfl

theorem a29 (a b : Fin 64) : val_main_v29 (F := Ideal) (fun i => (L i : EReal)) (fun i => (I i : EReal)) (fun i => (T i : EReal)) (ix2 a b)
    = ((ar (L (ix2 a b)) (I (ix2 a b)) (T (ix1 a)) - 1 : ℝ) : EReal) := by
  pointwise [val_main_v29, val_main_v28, val_main_v9, val_main_cst_1]
  simp only [m_l, c7, mul_coe, ofBits_one, one_coe, sub_coe]
  rfl

theorem i14 (a b : Fin 64) : val_main_v14 (F := Ideal) (fun i => (L i : EReal)) (fun i => (I i : EReal)) (fun i => (T i : EReal)) (ix2 a b)
    = ((ai (L (ix2 a b)) (I (ix2 a b)) (T (ix1 a)) : ℝ) : EReal) := by
  pointwise [val_main_v14]
  simp only [m_l, s12, mul_coe]
  rfl

theorem nr (a b : Fin 64) : val_main_v22 (F := Ideal) (fun i => (L i : EReal)) (fun i => (I i : EReal)) (fun i => (T i : EReal)) (ix2 a b)
    = (((ar (L (ix2 a b)) (I (ix2 a b)) (T (ix1 a)) - 1) * L (ix2 a b) + ai (L (ix2 a b)) (I (ix2 a b)) (T (ix1 a)) * I (ix2 a b) : ℝ) : EReal) := by
  pointwise [val_main_v22, val_main_v21, val_main_v20]
  simp only [a19, i14, mul_coe, add_coe]

theorem ni (a b : Fin 64) : val_main_v31 (F := Ideal) (fun i => (L i : EReal)) (fun i => (I i : EReal)) (fun i => (T i : EReal)) (ix2 a b)
    = ((ai (L (ix2 a b)) (I (ix2 a b)) (T (ix1 a)) * L (ix2 a b) - (ar (L (ix2 a b)) (I (ix2 a b)) (T (ix1 a)) - 1) * I (ix2 a b) : ℝ) : EReal) := by
  pointwise [val_main_v31, val_main_v30, val_main_v27]
  simp only [a29, i14, mul_coe, sub_coe]

theorem fr_l (hn : ∀ a b : Fin 64, nm (L (ix2 a b)) (I (ix2 a b)) ≠ 0) (a b : Fin 64) : val_main_v23 (F := Ideal) (fun i => (L i : EReal)) (fun i => (I i : EReal)) (fun i => (T i : EReal)) (ix2 a b)
    = ((fr (L (ix2 a b)) (I (ix2 a b)) (T (ix1 a)) : ℝ) : EReal) := by
  pointwise [val_main_v23]
  simp only [nr, n_l, Reals.div_coe _ _ (hn a b)]
  rfl

theorem fi_l (hn : ∀ a b : Fin 64, nm (L (ix2 a b)) (I (ix2 a b)) ≠ 0) (a b : Fin 64) : val_main_v32 (F := Ideal) (fun i => (L i : EReal)) (fun i => (I i : EReal)) (fun i => (T i : EReal)) (ix2 a b)
    = ((fi (L (ix2 a b)) (I (ix2 a b)) (T (ix1 a)) : ℝ) : EReal) := by
  pointwise [val_main_v32]
  simp only [ni, n_l, Reals.div_coe _ _ (hn a b)]
  rfl

theorem r26 (hn : ∀ a b : Fin 64, nm (L (ix2 a b)) (I (ix2 a b)) ≠ 0) (a b : Fin 64) : val_main_v26 (F := Ideal) (fun i => (L i : EReal)) (fun i => (I i : EReal)) (ix2 a b)
    = ((1 / (nm (L (ix2 a b)) (I (ix2 a b)) * nm (L (ix2 a b)) (I (ix2 a b))) : ℝ) : EReal) := by
  pointwise [val_main_v26, val_main_v25, val_main_v24, val_main_cst_0]
  simp only [n_l, mul_coe, ofBits_one, one_coe, Reals.div_coe _ _ (mul_ne_zero (hn a b) (hn a b))]

theorem r35 (hn : ∀ a b : Fin 64, nm (L (ix2 a b)) (I (ix2 a b)) ≠ 0) (a b : Fin 64) : val_main_v35 (F := Ideal) (fun i => (L i : EReal)) (fun i => (I i : EReal)) (ix2 a b)
    = ((1 / (nm (L (ix2 a b)) (I (ix2 a b)) * nm (L (ix2 a b)) (I (ix2 a b))) : ℝ) : EReal) := by
  pointwise [val_main_v35, val_main_v34, val_main_v33, val_main_cst_2]
  simp only [n_l, mul_coe, ofBits_one, one_coe, Reals.div_coe _ _ (mul_ne_zero (hn a b) (hn a b))]

theorem q_l (a b : Fin 64) : val_main_v75 (F := Ideal) (fun i => (Br i : EReal)) (fun i => (Bi i : EReal)) (fun i => (Gr i : EReal)) (fun i => (Gi i : EReal)) (ix2 a b)
    = ((qR Br Bi Gr Gi a b : ℝ) : EReal) := by
  pointwise [val_main_v75, val_main_v67, val_main_v66, val_main_v65, val_main_v64, val_main_v60, val_main_v54, val_main_v53, val_main_v52, val_main_v49, val_main_v48, val_main_cst_3, val_main_cst_5, val_main_cst_7]
  simp only [mul_coe, neg_coe, sum_coe, add_coe, Fin.sum_univ_one]
  refine congrArg Real.toEReal ?_
  rw [qR, gfq, ← Finset.sum_add_distrib]
  exact Finset.sum_congr rfl fun k _ => by ring

theorem p_l (a b : Fin 64) : val_main_v76 (F := Ideal) (fun i => (Br i : EReal)) (fun i => (Bi i : EReal)) (fun i => (Gr i : EReal)) (fun i => (Gi i : EReal)) (ix2 a b)
    = ((pR Br Bi Gr Gi a b : ℝ) : EReal) := by
  pointwise [val_main_v76, val_main_v74, val_main_v73, val_main_v72, val_main_v71, val_main_v59, val_main_v58, val_main_v57, val_main_v49, val_main_v48, val_main_cst_4, val_main_cst_6, val_main_cst_8]
  simp only [mul_coe, neg_coe, sum_coe, add_coe, Fin.sum_univ_one]
  refine congrArg Real.toEReal ?_
  rw [pR, gfp, ← Finset.sum_add_distrib]
  exact Finset.sum_congr rfl fun k _ => by ring

theorem w_l (hn : ∀ a b : Fin 64, nm (L (ix2 a b)) (I (ix2 a b)) ≠ 0) (a b : Fin 64) : val_main_v91 (F := Ideal) (fun i => (L i : EReal)) (fun i => (I i : EReal)) (fun i => (T i : EReal)) (fun i => (Br i : EReal)) (fun i => (Bi i : EReal)) (fun i => (Gr i : EReal)) (fun i => (Gi i : EReal)) (ix2 a b)
    = ((-(qR Br Bi Gr Gi a b * (1 / (nm (L (ix2 a b)) (I (ix2 a b)) * nm (L (ix2 a b)) (I (ix2 a b)))) * (ai (L (ix2 a b)) (I (ix2 a b)) (T (ix1 a)) * L (ix2 a b) - (ar (L (ix2 a b)) (I (ix2 a b)) (T (ix1 a)) - 1) * I (ix2 a b))) + -(pR Br Bi Gr Gi a b * (1 / (nm (L (ix2 a b)) (I (ix2 a b)) * nm (L (ix2 a b)) (I (ix2 a b)))) * ((ar (L (ix2 a b)) (I (ix2 a b)) (T (ix1 a)) - 1) * L (ix2 a b) + ai (L (ix2 a b)) (I (ix2 a b)) (T (ix1 a)) * I (ix2 a b))) : ℝ) : EReal) := by
  pointwise [val_main_v91, val_main_v90, val_main_v89, val_main_v88, val_main_v79, val_main_v78, val_main_v77]
  simp only [q_l, p_l, r26 L I hn, r35 L I hn, nr, ni, mul_coe, neg_coe, add_coe]

theorem gm_l (hn : ∀ a b : Fin 64, nm (L (ix2 a b)) (I (ix2 a b)) ≠ 0) (a b : Fin 64) : val_main_v96 (F := Ideal) (fun i => (L i : EReal)) (fun i => (I i : EReal)) (fun i => (Br i : EReal)) (fun i => (Bi i : EReal)) (fun i => (Ai i : EReal)) (fun i => (Gr i : EReal)) (fun i => (Gi i : EReal)) (ix2 a b)
    = ((gm (L (ix2 a b)) (I (ix2 a b)) (Ai (ix2 a b)) (pR Br Bi Gr Gi a b) (qR Br Bi Gr Gi a b) : ℝ) : EReal) := by
  pointwise [val_main_v96, val_main_v95, val_main_v92, val_main_v87, val_main_v86, val_main_v80]
  simp only [q_l, p_l, n_l, Reals.div_coe _ _ (hn a b), mul_coe, add_coe]
  refine congrArg Real.toEReal ?_
  have h := hn a b
  unfold gm nm
  unfold nm at h
  rw [← pow_two, ← pow_two] at h
  field_simp
  ring

theorem gr_l (hn : ∀ a b : Fin 64, nm (L (ix2 a b)) (I (ix2 a b)) ≠ 0) (a b : Fin 64) : val_main_v100 (F := Ideal) (fun i => (L i : EReal)) (fun i => (I i : EReal)) (fun i => (Br i : EReal)) (fun i => (Bi i : EReal)) (fun i => (Ar i : EReal)) (fun i => (Gr i : EReal)) (fun i => (Gi i : EReal)) (ix2 a b)
    = ((gr (L (ix2 a b)) (I (ix2 a b)) (Ar (ix2 a b)) (pR Br Bi Gr Gi a b) (qR Br Bi Gr Gi a b) : ℝ) : EReal) := by
  pointwise [val_main_v100, val_main_v99, val_main_v92, val_main_v84, val_main_v83, val_main_v81, val_main_v80]
  simp only [q_l, p_l, n_l, Reals.div_coe _ _ (hn a b), mul_coe, neg_coe, add_coe]
  refine congrArg Real.toEReal ?_
  have h := hn a b
  unfold gr nm
  unfold nm at h
  rw [← pow_two, ← pow_two] at h
  field_simp
  ring

theorem e104 (hn : ∀ a b : Fin 64, nm (L (ix2 a b)) (I (ix2 a b)) ≠ 0) (a b : Fin 64) : val_main_v104 (F := Ideal) (fun i => (L i : EReal)) (fun i => (I i : EReal)) (fun i => (T i : EReal)) (fun i => (Br i : EReal)) (fun i => (Bi i : EReal)) (fun i => (Gr i : EReal)) (fun i => (Gi i : EReal)) (ix2 a b)
    = (((ar (L (ix2 a b)) (I (ix2 a b)) (T (ix1 a)) - 1) * -(qR Br Bi Gr Gi a b / nm (L (ix2 a b)) (I (ix2 a b))) + ai (L (ix2 a b)) (I (ix2 a b)) (T (ix1 a)) * (pR Br Bi Gr Gi a b / nm (L (ix2 a b)) (I (ix2 a b))) + I (ix2 a b) * (-(qR Br Bi Gr Gi a b * (1 / (nm (L (ix2 a b)) (I (ix2 a b)) * nm (L (ix2 a b)) (I (ix2 a b)))) * (ai (L (ix2 a b)) (I (ix2 a b)) (T (ix1 a)) * L (ix2 a b) - (ar (L (ix2 a b)) (I (ix2 a b)) (T (ix1 a)) - 1) * I (ix2 a b))) + -(pR Br Bi Gr Gi a b * (1 / (nm (L (ix2 a b)) (I (ix2 a b)) * nm (L (ix2 a b)) (I (ix2 a b)))) * ((ar (L (ix2 a b)) (I (ix2 a b)) (T (ix1 a)) - 1) * L (ix2 a b) + ai (L (ix2 a b)) (I (ix2 a b)) (T (ix1 a)) * I (ix2 a b)))) + (-(qR Br Bi Gr Gi a b * (1 / (nm (L (ix2 a b)) (I (ix2 a b)) * nm (L (ix2 a b)) (I (ix2 a b)))) * (ai (L (ix2 a b)) (I (ix2 a b)) (T (ix1 a)) * L (ix2 a b) - (ar (L (ix2 a b)) (I (ix2 a b)) (T (ix1 a)) - 1) * I (ix2 a b))) + -(pR Br Bi Gr Gi a b * (1 / (nm (L (ix2 a b)) (I (ix2 a b)) * nm (L (ix2 a b)) (I (ix2 a b)))) * ((ar (L (ix2 a b)) (I (ix2 a b)) (T (ix1 a)) - 1) * L (ix2 a b) + ai (L (ix2 a b)) (I (ix2 a b)) (T (ix1 a)) * I (ix2 a b)))) * I (ix2 a b) : ℝ) : EReal) := by
  pointwise [val_main_v104, val_main_v103, val_main_v102, val_main_v101, val_main_v94, val_main_v93, val_main_v92, val_main_v82, val_main_v81, val_main_v80]
  simp only [q_l, p_l, a29, i14, w_l L I T Br Bi Gr Gi hn, n_l, Reals.div_coe _ _ (hn a b), mul_coe, neg_coe, add_coe]

theorem e108 (hn : ∀ a b : Fin 64, nm (L (ix2 a b)) (I (ix2 a b)) ≠ 0) (a b : Fin 64) : val_main_v108 (F := Ideal) (fun i => (L i : EReal)) (fun i => (I i : EReal)) (fun i => (T i : EReal)) (fun i => (Br i : EReal)) (fun i => (Bi i : EReal)) (fun i => (Gr i : EReal)) (fun i => (Gi i : EReal)) (ix2 a b)
    = ((ai (L (ix2 a b)) (I (ix2 a b)) (T (ix1 a)) * (qR Br Bi Gr Gi a b / nm (L (ix2 a b)) (I (ix2 a b))) + (ar (L (ix2 a b)) (I (ix2 a b)) (T (ix1 a)) - 1) * (pR Br Bi Gr Gi a b / nm (L (ix2 a b)) (I (ix2 a b))) + L (ix2 a b) * (-(qR Br Bi Gr Gi a b * (1 / (nm (L (ix2 a b)) (I (ix2 a b)) * nm (L (ix2 a b)) (I (ix2 a b)))) * (ai (L (ix2 a b)) (I (ix2 a b)) (T (ix1 a)) * L (ix2 a b) - (ar (L (ix2 a b)) (I (ix2 a b)) (T (ix1 a)) - 1) * I (ix2 a b))) + -(pR Br Bi Gr Gi a b * (1 / (nm (L (ix2 a b)) (I (ix2 a b)) * nm (L (ix2 a b)) (I (ix2 a b)))) * ((ar (L (ix2 a b)) (I (ix2 a b)) (T (ix1 a)) - 1) * L (ix2 a b) + ai (L (ix2 a b)) (I (ix2 a b)) (T (ix1 a)) * I (ix2 a b)))) + (-(qR Br Bi Gr Gi a b * (1 / (nm (L (ix2 a b)) (I (ix2 a b)) * nm (L (ix2 a b)) (I (ix2 a b)))) * (ai (L (ix2 a b)) (I (ix2 a b)) (T (ix1 a)) * L (ix2 a b) - (ar (L (ix2 a b)) (I (ix2 a b)) (T (ix1 a)) - 1) * I (ix2 a b))) + -(pR Br Bi Gr Gi a b * (1 / (nm (L (ix2 a b)) (I (ix2 a b)) * nm (L (ix2 a b)) (I (ix2 a b)))) * ((ar (L (ix2 a b)) (I (ix2 a b)) (T (ix1 a)) - 1) * L (ix2 a b) + ai (L (ix2 a b)) (I (ix2 a b)) (T (ix1 a)) * I (ix2 a b)))) * L (ix2 a b) : ℝ) : EReal) := by
  pointwise [val_main_v108, val_main_v107, val_main_v106, val_main_v105, val_main_v98, val_main_v97, val_main_v92, val_main_v85, val_main_v80]
  simp only [q_l, p_l, a19, i14, w_l L I T Br Bi Gr Gi hn, n_l, Reals.div_coe _ _ (hn a b), mul_coe, neg_coe, add_coe]

theorem e111 (hn : ∀ a b : Fin 64, nm (L (ix2 a b)) (I (ix2 a b)) ≠ 0) (a b : Fin 64) : val_main_v111 (F := Ideal) (fun i => (L i : EReal)) (fun i => (I i : EReal)) (fun i => (T i : EReal)) (fun i => (Br i : EReal)) (fun i => (Bi i : EReal)) (fun i => (Ai i : EReal)) (fun i => (Gr i : EReal)) (fun i => (Gi i : EReal)) (ix2 a b)
    = ((mg (L (ix2 a b)) (T (ix1 a)) * gm (L (ix2 a b)) (I (ix2 a b)) (Ai (ix2 a b)) (pR Br Bi Gr Gi a b) (qR Br Bi Gr Gi a b) * Real.cos (ph (I (ix2 a b)) (T (ix1 a))) : ℝ) : EReal) := by
  pointwise [val_main_v111, val_main_v109]
  simp only [m_l, c13, gm_l L I Br Bi Ai Gr Gi hn, mul_coe]

theorem e122 (hn : ∀ a b : Fin 64, nm (L (ix2 a b)) (I (ix2 a b)) ≠ 0) (a b : Fin 64) : val_main_v122 (F := Ideal) (fun i => (L i : EReal)) (fun i => (I i : EReal)) (fun i => (T i : EReal)) (fun i => (Br i : EReal)) (fun i => (Bi i : EReal)) (fun i => (Ar i : EReal)) (fun i => (Gr i : EReal)) (fun i => (Gi i : EReal)) (ix2 a b)
    = ((-(mg (L (ix2 a b)) (T (ix1 a)) * gr (L (ix2 a b)) (I (ix2 a b)) (Ar (ix2 a b)) (pR Br Bi Gr Gi a b) (qR Br Bi Gr Gi a b)) * Real.sin (ph (I (ix2 a b)) (T (ix1 a))) : ℝ) : EReal) := by
  pointwise [val_main_v122, val_main_v121, val_main_v118]
  simp only [m_l, s8, gr_l L I Br Bi Ar Gr Gi hn, mul_coe, neg_coe]

theorem e130 (hn : ∀ a b : Fin 64, nm (L (ix2 a b)) (I (ix2 a b)) ≠ 0) (a b : Fin 64) : val_main_v130 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix2 a b)
    = (((gm (L (ix2 a b)) (I (ix2 a b)) (Ai (ix2 a b)) (pR Br Bi Gr Gi a b) (qR Br Bi Gr Gi a b) * Real.sin (ph (I (ix2 a b)) (T (ix1 a))) + gr (L (ix2 a b)) (I (ix2 a b)) (Ar (ix2 a b)) (pR Br Bi Gr Gi a b) (qR Br Bi Gr Gi a b) * Real.cos (ph (I (ix2 a b)) (T (ix1 a)))) * mg (L (ix2 a b)) (T (ix1 a)) : ℝ) : EReal) := by
  pointwise [val_main_v130, val_main_v120, val_main_v119, val_main_v110]
  simp only [m_l, c7, s12, gm_l L I Br Bi Ai Gr Gi hn, gr_l L I Br Bi Ar Gr Gi hn, mul_coe, add_coe]

theorem dlr_l (hn : ∀ a b : Fin 64, nm (L (ix2 a b)) (I (ix2 a b)) ≠ 0) (a b : Fin 64) : val_main_v137 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix2 a b)
    = ((dlr (L (ix2 a b)) (I (ix2 a b)) (T (ix1 a)) (Ar (ix2 a b)) (Ai (ix2 a b)) (pR Br Bi Gr Gi a b) (qR Br Bi Gr Gi a b) : ℝ) : EReal) := by
  pointwise [val_main_v137, val_main_v136, val_main_v135, val_main_v1]
  simp only [dt_l, e108 L I T Br Bi Gr Gi hn, e130 L I T Br Bi Ar Ai Gr Gi hn, mul_coe, add_coe]
  refine congrArg Real.toEReal ?_
  have h := hn a b
  unfold dlr gm gr fr fi ar ai nm
  unfold nm at h
  rw [← pow_two, ← pow_two] at h
  field_simp
  ring

theorem dli_l (hn : ∀ a b : Fin 64, nm (L (ix2 a b)) (I (ix2 a b)) ≠ 0) (a b : Fin 64) : val_main_v129 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix2 a b)
    = ((dli (L (ix2 a b)) (I (ix2 a b)) (T (ix1 a)) (Ar (ix2 a b)) (Ai (ix2 a b)) (pR Br Bi Gr Gi a b) (qR Br Bi Gr Gi a b) : ℝ) : EReal) := by
  pointwise [val_main_v129, val_main_v128, val_main_v127, val_main_v117, val_main_v116, val_main_v115, val_main_v1]
  simp only [dt_l, e104 L I T Br Bi Gr Gi hn, e111 L I T Br Bi Ai Gr Gi hn, e122 L I T Br Bi Ar Gr Gi hn, mul_coe, add_coe]
  refine congrArg Real.toEReal ?_
  have h := hn a b
  unfold dli gm gr fr fi ar ai nm
  unfold nm at h
  rw [← pow_two, ← pow_two] at h
  field_simp
  ring

theorem dld_l (hn : ∀ a b : Fin 64, nm (L (ix2 a b)) (I (ix2 a b)) ≠ 0) (a : Fin 64) : val_main_v139 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix1 a)
    = (((∑ b, gdt (L (ix2 a b)) (I (ix2 a b)) (T (ix1 a)) (Ar (ix2 a b)) (Ai (ix2 a b)) (pR Br Bi Gr Gi a b) (qR Br Bi Gr Gi a b)) * Real.exp (T (ix1 a)) : ℝ) : EReal) := by
  pointwise [val_main_v139, val_main_v138, val_main_v134, val_main_v133, val_main_v132, val_main_v131, val_main_v126, val_main_v125, val_main_v124, val_main_v123, val_main_v114, val_main_v113, val_main_v112, val_main_cst_9, val_main_cst_10, val_main_cst_11, val_main_cst_12]
  simp only [dt_l, e111 L I T Br Bi Ai Gr Gi hn, e122 L I T Br Bi Ar Gr Gi hn, e130 L I T Br Bi Ar Ai Gr Gi hn, mul_coe, sum_coe, add_coe, Fin.sum_univ_one]
  refine congrArg Real.toEReal (congrArg (· * _) ?_)
  rw [← Finset.sum_add_distrib, ← Finset.sum_add_distrib]
  refine Finset.sum_congr rfl fun b _ => ?_
  unfold gdt ar ai
  ring

theorem dbr_l (hn : ∀ a b : Fin 64, nm (L (ix2 a b)) (I (ix2 a b)) ≠ 0) (a : Fin 64) (k : Fin 16) (b : Fin 64) : val_main_v143 (F := Ideal) (fun i => (L i : EReal)) (fun i => (I i : EReal)) (fun i => (T i : EReal)) (fun i => (Gr i : EReal)) (fun i => (Gi i : EReal)) (ix3 a k b)
    = ((fr (L (ix2 a b)) (I (ix2 a b)) (T (ix1 a)) * Gr (ix3 a k b) + fi (L (ix2 a b)) (I (ix2 a b)) (T (ix1 a)) * Gi (ix3 a k b) : ℝ) : EReal) := by
  pointwise [val_main_v143, val_main_v70, val_main_v69, val_main_v68, val_main_v51, val_main_v50, val_main_v49, val_main_v48, val_main_v37, val_main_v36]
  simp only [fr_l L I T hn, fi_l L I T hn, mul_coe, add_coe]
  exact congrArg Real.toEReal (by ring)

theorem dbi_l (hn : ∀ a b : Fin 64, nm (L (ix2 a b)) (I (ix2 a b)) ≠ 0) (a : Fin 64) (k : Fin 16) (b : Fin 64) : val_main_v144 (F := Ideal) (fun i => (L i : EReal)) (fun i => (I i : EReal)) (fun i => (T i : EReal)) (fun i => (Gr i : EReal)) (fun i => (Gi i : EReal)) (ix3 a k b)
    = ((fr (L (ix2 a b)) (I (ix2 a b)) (T (ix1 a)) * Gi (ix3 a k b) - fi (L (ix2 a b)) (I (ix2 a b)) (T (ix1 a)) * Gr (ix3 a k b) : ℝ) : EReal) := by
  pointwise [val_main_v144, val_main_v63, val_main_v62, val_main_v61, val_main_v60, val_main_v56, val_main_v55, val_main_v49, val_main_v48, val_main_v37, val_main_v36]
  simp only [fr_l L I T hn, fi_l L I T hn, mul_coe, neg_coe, add_coe]
  exact congrArg Real.toEReal (by ring)

theorem dlr_r (hn : ∀ a b : Fin 64, nm (L (ix2 a b)) (I (ix2 a b)) ≠ 0) (a b : Fin 64) : val_main_v140 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix3 a 0 b)
    = ((dlr (L (ix2 a b)) (I (ix2 a b)) (T (ix1 a)) (Ar (ix2 a b)) (Ai (ix2 a b)) (pR Br Bi Gr Gi a b) (qR Br Bi Gr Gi a b) : ℝ) : EReal) := by
  pointwise [val_main_v140]
  exact dlr_l L I T Br Bi Ar Ai Gr Gi hn a b

theorem dli_r (hn : ∀ a b : Fin 64, nm (L (ix2 a b)) (I (ix2 a b)) ≠ 0) (a b : Fin 64) : val_main_v141 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix3 a 0 b)
    = ((dli (L (ix2 a b)) (I (ix2 a b)) (T (ix1 a)) (Ar (ix2 a b)) (Ai (ix2 a b)) (pR Br Bi Gr Gi a b) (qR Br Bi Gr Gi a b) : ℝ) : EReal) := by
  pointwise [val_main_v141]
  exact dli_l L I T Br Bi Ar Ai Gr Gi hn a b

theorem dld_r (hn : ∀ a b : Fin 64, nm (L (ix2 a b)) (I (ix2 a b)) ≠ 0) (a : Fin 64) : val_main_v142 (F := Ideal) (fun i => (L i : EReal)) (fun i => (I i : EReal)) (fun i => (T i : EReal)) (fun i => (Br i : EReal)) (fun i => (Bi i : EReal)) (fun i => (Ar i : EReal)) (fun i => (Ai i : EReal)) (fun i => (Gr i : EReal)) (fun i => (Gi i : EReal)) (ix3 a 0 0)
    = (((∑ b, gdt (L (ix2 a b)) (I (ix2 a b)) (T (ix1 a)) (Ar (ix2 a b)) (Ai (ix2 a b)) (pR Br Bi Gr Gi a b) (qR Br Bi Gr Gi a b)) * Real.exp (T (ix1 a)) : ℝ) : EReal) := by
  pointwise [val_main_v142]
  exact dld_l L I T Br Bi Ar Ai Gr Gi hn a

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v141) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v142) = val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, hk⟩ := h c
    exact ⟨h0.trans (val_main_v140_eq m c), h1.trans (val_main_v141_eq m c), h2.trans (val_main_v142_eq m c),
      h3.trans (val_main_v143_eq ..), h4.trans (val_main_v144_eq ..), hk⟩) (Value.run m ρ)

end Cert.Reference5Ideal.Prep

end
-- ==== Proof.PrepPay.lean ====
/- The values the kernel stores for the gradients of the discretised parameters, at finite blocks. -/
module

public import proofs.«01_k».proof.Proof.PrepMath
public import proofs.«01_k».proof.Proof.Gen.Kernel5Ideal.Frame
public import Idealize.ShloMosaic.Lib.Pointwise

@[expose] public section

set_option maxRecDepth 16384

noncomputable section

open Idealize.ShloMosaic

namespace Cert.Kernel5Ideal.Prep

open Cert.Kernel5Ideal Cert.Kernel5Ideal.Gen Cert.Reals Cert.Branch Cert.Prep

theorem cases_row (i : S64x1x64.Idx) : ∃ a b : Fin 64, i = ix3 a 0 b :=
  ⟨i 0, i 2, funext fun d => by fin_cases d <;> first | rfl | exact Subsingleton.elim (α := Fin 1) _ _⟩
theorem cases_one (i : S64x1x1.Idx) : ∃ a : Fin 64, i = ix3 a 0 0 :=
  ⟨i 0, funext fun d => by fin_cases d <;> first | rfl | exact Subsingleton.elim (α := Fin 1) _ _⟩
theorem cases_map (i : S64x16x64.Idx) : ∃ (a : Fin 64) (k : Fin 16) (b : Fin 64), i = ix3 a k b :=
  ⟨i 0, i 1, i 2, funext fun d => by fin_cases d <;> rfl⟩

variable (l w ga gi : Fin 64 → Fin 64 → ℝ) (t : Fin 64 → ℝ) (br bi gbr gbi : Fin 64 → Fin 16 → Fin 64 → ℝ)

/-- A row, a column of single entries and a map of reals as blocks. -/
abbrev rowB (x : Fin 64 → Fin 64 → ℝ) : S64x1x64.Idx → EReal := fun i => (x (i 0) (i 2) : EReal)
abbrev oneB (x : Fin 64 → ℝ) : S64x1x1.Idx → EReal := fun i => (x (i 0) : EReal)
abbrev mapB (x : Fin 64 → Fin 16 → Fin 64 → ℝ) : S64x16x64.Idx → EReal := fun i => (x (i 0) (i 1) (i 2) : EReal)

abbrev pK (a b : Fin 64) : ℝ := gfp (fun k => br a k b) (fun k => bi a k b) (fun k => gbr a k b) (fun k => gbi a k b)
abbrev qK (a b : Fin 64) : ℝ := gfq (fun k => br a k b) (fun k => bi a k b) (fun k => gbr a k b) (fun k => gbi a k b)
abbrev frK (a b : Fin 64) : ℝ := fr (l a b) (w a b) (t a)
abbrev fiK (a b : Fin 64) : ℝ := fi (l a b) (w a b) (t a)
abbrev grK (a b : Fin 64) : ℝ := gr (l a b) (w a b) (ga a b) (pK br bi gbr gbi a b) (qK br bi gbr gbi a b)
abbrev gmK (a b : Fin 64) : ℝ := gm (l a b) (w a b) (gi a b) (pK br bi gbr gbi a b) (qK br bi gbr gbi a b)

theorem pay8 : k0_pay8 (F := Ideal) (rowB l)
    = rowB (fun a b => l a b) := by
  funext i
  obtain ⟨a, b, rfl⟩ := cases_row i
  pointwise [k0_pay8]

theorem pay9 : k0_pay9 (F := Ideal) (rowB w)
    = rowB (fun a b => w a b) := by
  funext i
  obtain ⟨a, b, rfl⟩ := cases_row i
  pointwise [k0_pay9]

theorem pay10 : k0_pay10 (F := Ideal) (oneB t)
    = oneB (fun a => Real.exp (t a)) := by
  funext i
  obtain ⟨a, rfl⟩ := cases_one i
  pointwise [k0_pay10]
  exact exp_coe _

theorem pay12 : k0_pay12 (F := Ideal) (rowB l) (rowB w) (oneB t)
    = rowB (fun a b => ar (l a b) (w a b) (t a)) := by
  funext i
  obtain ⟨a, b, rfl⟩ := cases_row i
  pointwise [k0_pay12, k0_pay11, k0_pay10, k0_pay9, k0_pay8]
  simp only [mul_coe, exp_coe, cos_coe]
  rfl

theorem pay13 : k0_pay13 (F := Ideal) (rowB l) (rowB w) (oneB t)
    = rowB (fun a b => ai (l a b) (w a b) (t a)) := by
  funext i
  obtain ⟨a, b, rfl⟩ := cases_row i
  pointwise [k0_pay13, k0_pay11, k0_pay10, k0_pay9, k0_pay8]
  simp only [mul_coe, exp_coe, sin_coe]
  rfl

theorem pay14 (hn : ∀ a b : Fin 64, nm (l a b) (w a b) ≠ 0) : k0_pay14 (F := Ideal) (rowB l) (rowB w)
    = rowB (fun a b => 1 / nm (l a b) (w a b)) := by
  funext i
  obtain ⟨a, b, rfl⟩ := cases_row i
  pointwise [k0_pay14, k0_pay9, k0_pay8]
  simp only [mul_coe, add_coe, ofBits_one, one_coe]
  exact Reals.div_coe _ _ (hn a b)

theorem pay18 (hn : ∀ a b : Fin 64, nm (l a b) (w a b) ≠ 0) : k0_pay18 (F := Ideal) (rowB l) (rowB w) (oneB t)
    = rowB (fun a b => frK l w t a b) := by
  funext i
  obtain ⟨a, b, rfl⟩ := cases_row i
  pointwise [k0_pay18, k0_pay15, k0_pay16, k0_pay17, k0_pay8, k0_pay9]
  simp only [pay12, pay13, pay14 l w hn, mul_coe, ofBits_one, ofBits_zero, one_coe, zero_coe, sub_coe]
  refine congrArg Real.toEReal ?_
  have h := hn a b
  unfold frK fr
  field_simp
  ring

theorem pay19 (hn : ∀ a b : Fin 64, nm (l a b) (w a b) ≠ 0) : k0_pay19 (F := Ideal) (rowB l) (rowB w) (oneB t)
    = rowB (fun a b => fiK l w t a b) := by
  funext i
  obtain ⟨a, b, rfl⟩ := cases_row i
  pointwise [k0_pay19, k0_pay15, k0_pay16, k0_pay17, k0_pay8, k0_pay9]
  simp only [pay12, pay13, pay14 l w hn, mul_coe, ofBits_one, ofBits_zero, one_coe, zero_coe, sub_coe, add_coe]
  refine congrArg Real.toEReal ?_
  have h := hn a b
  unfold fiK fi
  field_simp
  ring

theorem pay20 (hn : ∀ a b : Fin 64, nm (l a b) (w a b) ≠ 0) : k0_pay20 (F := Ideal) (rowB l) (rowB w) (oneB t) (mapB gbr) (mapB gbi)
    = mapB (fun a k b => frK l w t a b * gbr a k b + fiK l w t a b * gbi a k b) := by
  funext i
  obtain ⟨a, k, b, rfl⟩ := cases_map i
  pointwise [k0_pay20]
  simp only [pay18 l w t hn, pay19 l w t hn, mul_coe, add_coe]
  rfl

theorem pay21 : k0_pay21 (F := Ideal) (rowB (frK l w t)) (rowB (fiK l w t)) (mapB gbr) (mapB gbi)
    = mapB (fun a k b => frK l w t a b * gbi a k b - fiK l w t a b * gbr a k b) := by
  funext i
  obtain ⟨a, k, b, rfl⟩ := cases_map i
  pointwise [k0_pay21]
  simp only [mul_coe, sub_coe]
  rfl

theorem pay24 : k0_pay24 (F := Ideal) (mapB gbr) (mapB gbi) (mapB br) (mapB bi)
    = rowB (fun a b => pK br bi gbr gbi a b) := by
  funext i
  obtain ⟨a, b, rfl⟩ := cases_row i
  pointwise [k0_pay24, k0_pay22, k0_pay23]
  simp only [mul_coe, add_coe, sum_coe]
  rfl

theorem pay25 : k0_pay25 (F := Ideal) (mapB gbr) (mapB gbi) (mapB br) (mapB bi)
    = rowB (fun a b => qK br bi gbr gbi a b) := by
  funext i
  obtain ⟨a, b, rfl⟩ := cases_row i
  pointwise [k0_pay25, k0_pay22, k0_pay23]
  simp only [mul_coe, sub_coe, sum_coe]
  rfl

theorem pay26 : k0_pay26 (F := Ideal) (rowB l) (rowB fun a b => 1 / nm (l a b) (w a b))
    = rowB (fun a b => l a b * (1 / nm (l a b) (w a b))) := by
  funext i
  obtain ⟨a, b, rfl⟩ := cases_row i
  pointwise [k0_pay26]
  simp only [mul_coe]

theorem pay27 : k0_pay27 (F := Ideal) (rowB w) (rowB fun a b => 1 / nm (l a b) (w a b))
    = rowB (fun a b => (0 - w a b) * (1 / nm (l a b) (w a b))) := by
  funext i
  obtain ⟨a, b, rfl⟩ := cases_row i
  pointwise [k0_pay27]
  simp only [ofBits_zero, zero_coe, sub_coe, mul_coe]

theorem pay28 (hn : ∀ a b : Fin 64, nm (l a b) (w a b) ≠ 0) : k0_pay28 (F := Ideal) (rowB l) (rowB w) (rowB fun a b => 1 / nm (l a b) (w a b)) (mapB gbr) (mapB gbi) (mapB br) (mapB bi) (rowB ga)
    = rowB (fun a b => grK l w ga br bi gbr gbi a b) := by
  funext i
  obtain ⟨a, b, rfl⟩ := cases_row i
  pointwise [k0_pay28]
  simp only [pay24, pay25, pay26, pay27, mul_coe, add_coe, sub_coe]
  refine congrArg Real.toEReal ?_
  have h := hn a b
  unfold grK gr
  field_simp
  ring

theorem pay29 (hn : ∀ a b : Fin 64, nm (l a b) (w a b) ≠ 0) : k0_pay29 (F := Ideal) (rowB l) (rowB w) (rowB fun a b => 1 / nm (l a b) (w a b)) (mapB gbr) (mapB gbi) (mapB br) (mapB bi) (rowB gi)
    = rowB (fun a b => gmK l w gi br bi gbr gbi a b) := by
  funext i
  obtain ⟨a, b, rfl⟩ := cases_row i
  pointwise [k0_pay29]
  simp only [pay24, pay25, pay26, pay27, mul_coe, add_coe, sub_coe]
  refine congrArg Real.toEReal ?_
  have h := hn a b
  unfold gmK gm
  field_simp
  ring

theorem pay5 (hn : ∀ a b : Fin 64, nm (l a b) (w a b) ≠ 0) : k0_pay5 (F := Ideal) (oneB fun a => Real.exp (t a)) (rowB fun a b => ar (l a b) (w a b) (t a)) (rowB fun a b => ai (l a b) (w a b) (t a)) (rowB (frK l w t)) (rowB (fiK l w t)) (rowB (pK br bi gbr gbi)) (rowB (qK br bi gbr gbi)) (rowB fun a b => l a b * (1 / nm (l a b) (w a b))) (rowB fun a b => (0 - w a b) * (1 / nm (l a b) (w a b))) (rowB (grK l w ga br bi gbr gbi)) (rowB (gmK l w gi br bi gbr gbi))
    = rowB (fun a b => dlr (l a b) (w a b) (t a) (ga a b) (gi a b) (pK br bi gbr gbi a b) (qK br bi gbr gbi a b)) := by
  funext i
  obtain ⟨a, b, rfl⟩ := cases_row i
  pointwise [k0_pay5, k0_pay1, k0_pay2, k0_pay3, k0_pay4]
  simp only [mul_coe, add_coe, sub_coe]
  exact congrArg Real.toEReal (dlr_eq _ _ _ _ _ _ _ (hn a b))

theorem pay6 (hn : ∀ a b : Fin 64, nm (l a b) (w a b) ≠ 0) : k0_pay6 (F := Ideal) (oneB fun a => Real.exp (t a)) (rowB fun a b => ar (l a b) (w a b) (t a)) (rowB fun a b => ai (l a b) (w a b) (t a)) (rowB (frK l w t)) (rowB (fiK l w t)) (rowB (pK br bi gbr gbi)) (rowB (qK br bi gbr gbi)) (rowB fun a b => l a b * (1 / nm (l a b) (w a b))) (rowB fun a b => (0 - w a b) * (1 / nm (l a b) (w a b))) (rowB (grK l w ga br bi gbr gbi)) (rowB (gmK l w gi br bi gbr gbi))
    = rowB (fun a b => dli (l a b) (w a b) (t a) (ga a b) (gi a b) (pK br bi gbr gbi a b) (qK br bi gbr gbi a b)) := by
  funext i
  obtain ⟨a, b, rfl⟩ := cases_row i
  pointwise [k0_pay6, k0_pay1, k0_pay2, k0_pay3, k0_pay4]
  simp only [mul_coe, add_coe, sub_coe]
  exact congrArg Real.toEReal (dli_eq _ _ _ _ _ _ _ (hn a b))

theorem pay7 : k0_pay7 (F := Ideal) (rowB l) (rowB w) (oneB fun a => Real.exp (t a)) (rowB fun a b => ar (l a b) (w a b) (t a)) (rowB fun a b => ai (l a b) (w a b) (t a)) (rowB (grK l w ga br bi gbr gbi)) (rowB (gmK l w gi br bi gbr gbi))
    = oneB (fun a => (∑ b, gdt (l a b) (w a b) (t a) (ga a b) (gi a b) (pK br bi gbr gbi a b) (qK br bi gbr gbi a b)) * Real.exp (t a)) := by
  funext i
  obtain ⟨a, rfl⟩ := cases_one i
  pointwise [k0_pay7]
  simp only [mul_coe, add_coe, sub_coe, sum_coe]
  rfl

end Cert.Kernel5Ideal.Prep

end
-- ==== Proof.PrepKernel.lean ====
/- The gradients of the discretised parameters as the kernel leaves them: its result arrays at finite arguments. -/
module

public import proofs.«01_k».proof.Proof.PrepPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Prep

open Cert.Kernel5Ideal Cert.Kernel5Ideal.Gen Cert.Reals Cert.Prep

variable (m : (ℓ : Loc nD τ sig) → Buf (Elt Ideal) ℓ)

/-- The run, each result array named. -/
theorem run_blocks (ρ : Dev nD → PrngReg) :
    θ_run defs (onTc (τ := τ) (main (F := Ideal))) ⟨m, fun _ => 0, ρ⟩ fun r => ∀ c : Dev nD,
      r.2.mem ((c : Thread nD τ).loc main_v7_0) = (dats m 0 c).arrAt 9 cfg0.N
      ∧ r.2.mem ((c : Thread nD τ).loc main_v7_1) = (dats m 0 c).arrAt 10 cfg0.N
      ∧ r.2.mem ((c : Thread nD τ).loc main_v7_2) = (dats m 0 c).arrAt 11 cfg0.N
      ∧ r.2.mem ((c : Thread nD τ).loc main_v7_3) = (dats m 0 c).arrAt 12 cfg0.N
      ∧ r.2.mem ((c : Thread nD τ).loc main_v7_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10, (h c).1 11, (h c).1 12, (h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

variable (c : Dev nD)
variable (L I : S64x64.Idx → ℝ) (T : S64.Idx → ℝ) (Br Bi : S64x64x16.Idx → ℝ) (Ar Ai : S64x64.Idx → ℝ) (Gr Gi : S64x16x64.Idx → ℝ)

/-- The arguments as the kernel's blocks show them. -/
abbrev rw' (X : S64x64.Idx → ℝ) (a b : Fin 64) : ℝ := X (ix2 a b)
abbrev ov' (X : S64.Idx → ℝ) (a : Fin 64) : ℝ := X (ix1 a)
abbrev tp' (X : S64x64x16.Idx → ℝ) (a : Fin 64) (k : Fin 16) (b : Fin 64) : ℝ := X (ix3 a b k)
abbrev mp' (X : S64x16x64.Idx → ℝ) (a : Fin 64) (k : Fin 16) (b : Fin 64) : ℝ := X (ix3 a k b)

theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0]
    ∧ win0_12.index t = ![0, 0, 0]
    ∧ win0_13.index t = ![0, 0, 0] :=
  (by decide +kernel : ∀ t : Fin grid0.N, _)

theorem blk0 (h : m ((c : Thread nD τ).loc main_arg0) = fun i => (L i : EReal)) (t : Fin cfg0.N) :
    iblk m c 0 t = rowB (rw' L) := by
  funext y
  obtain ⟨a, b, rfl⟩ := cases_row y
  have e : (win0_0.blk t).view.emb (ix3 a 0 b) = ix3 a 0 b := by blk_ext [idx t]
  blk_simp [iblk]
  rw [e]
  entry_read
  rw [h]
  pointwise
  rfl

theorem blk1 (h : m ((c : Thread nD τ).loc main_arg1) = fun i => (I i : EReal)) (t : Fin cfg0.N) :
    iblk m c 1 t = rowB (rw' I) := by
  funext y
  obtain ⟨a, b, rfl⟩ := cases_row y
  have e : (win0_1.blk t).view.emb (ix3 a 0 b) = ix3 a 0 b := by blk_ext [idx t]
  blk_simp [iblk]
  rw [e]
  entry_read
  rw [h]
  pointwise
  rfl

theorem blk2 (h : m ((c : Thread nD τ).loc main_arg2) = fun i => (T i : EReal)) (t : Fin cfg0.N) :
    iblk m c 2 t = oneB (ov' T) := by
  funext y
  obtain ⟨a, rfl⟩ := cases_one y
  have e : (win0_2.blk t).view.emb (ix3 a 0 0) = ix3 a 0 0 := by blk_ext [idx t]
  blk_simp [iblk]
  rw [e]
  entry_read
  rw [h]
  pointwise
  rfl

theorem blk3 (h : m ((c : Thread nD τ).loc main_arg3) = fun i => (Br i : EReal)) (t : Fin cfg0.N) :
    iblk m c 3 t = mapB (tp' Br) := by
  funext y
  obtain ⟨a, k, b, rfl⟩ := cases_map y
  have e : (win0_3.blk t).view.emb (ix3 a k b) = ix3 a k b := by blk_ext [idx t]
  blk_simp [iblk]
  rw [e]
  entry_read
  rw [h]
  pointwise
  rfl

theorem blk4 (h : m ((c : Thread nD τ).loc main_arg4) = fun i => (Bi i : EReal)) (t : Fin cfg0.N) :
    iblk m c 4 t = mapB (tp' Bi) := by
  funext y
  obtain ⟨a, k, b, rfl⟩ := cases_map y
  have e : (win0_4.blk t).view.emb (ix3 a k b) = ix3 a k b := by blk_ext [idx t]
  blk_simp [iblk]
  rw [e]
  entry_read
  rw [h]
  pointwise
  rfl

theorem blk5 (h : m ((c : Thread nD τ).loc main_arg5) = fun i => (Ar i : EReal)) (t : Fin cfg0.N) :
    iblk m c 5 t = rowB (rw' Ar) := by
  funext y
  obtain ⟨a, b, rfl⟩ := cases_row y
  have e : (win0_5.blk t).view.emb (ix3 a 0 b) = ix3 a 0 b := by blk_ext [idx t]
  blk_simp [iblk]
  rw [e]
  entry_read
  rw [h]
  pointwise
  rfl

theorem blk6 (h : m ((c : Thread nD τ).loc main_arg6) = fun i => (Ai i : EReal)) (t : Fin cfg0.N) :
    iblk m c 6 t = rowB (rw' Ai) := by
  funext y
  obtain ⟨a, b, rfl⟩ := cases_row y
  have e : (win0_6.blk t).view.emb (ix3 a 0 b) = ix3 a 0 b := by blk_ext [idx t]
  blk_simp [iblk]
  rw [e]
  entry_read
  rw [h]
  pointwise
  rfl

theorem blk7 (h : m ((c : Thread nD τ).loc main_arg7) = fun i => (Gr i : EReal)) (t : Fin cfg0.N) :
    iblk m c 7 t = mapB (mp' Gr) := by
  funext y
  obtain ⟨a, k, b, rfl⟩ := cases_map y
  have e : (win0_7.blk t).view.emb (ix3 a k b) = ix3 a k b := by blk_ext [idx t]
  blk_simp [iblk]
  rw [e]
  rw [show V m c main_arg7 = _ from (V_main_arg7 m c).trans h]
  rfl

theorem blk8 (h : m ((c : Thread nD τ).loc main_arg8) = fun i => (Gi i : EReal)) (t : Fin cfg0.N) :
    iblk m c 8 t = mapB (mp' Gi) := by
  funext y
  obtain ⟨a, k, b, rfl⟩ := cases_map y
  have e : (win0_8.blk t).view.emb (ix3 a k b) = ix3 a k b := by blk_ext [idx t]
  blk_simp [iblk]
  rw [e]
  rw [show V m c main_arg8 = _ from (V_main_arg8 m c).trans h]
  rfl

variable (hL : m ((c : Thread nD τ).loc main_arg0) = fun i => (L i : EReal))
  (hI : m ((c : Thread nD τ).loc main_arg1) = fun i => (I i : EReal))
  (hT : m ((c : Thread nD τ).loc main_arg2) = fun i => (T i : EReal))
  (hBr : m ((c : Thread nD τ).loc main_arg3) = fun i => (Br i : EReal))
  (hBi : m ((c : Thread nD τ).loc main_arg4) = fun i => (Bi i : EReal))
  (hAr : m ((c : Thread nD τ).loc main_arg5) = fun i => (Ar i : EReal))
  (hAi : m ((c : Thread nD τ).loc main_arg6) = fun i => (Ai i : EReal))
  (hGr : m ((c : Thread nD τ).loc main_arg7) = fun i => (Gr i : EReal))
  (hGi : m ((c : Thread nD τ).loc main_arg8) = fun i => (Gi i : EReal))
  (hn : ∀ a b : Fin 64, nm (L (ix2 a b)) (I (ix2 a b)) ≠ 0)
include hL hI hT hBr hBi hAr hAi hGr hGi hn

theorem final9 : (dats m 0 c).arrAt 9 (cfgs 0).N = rowB (fun a b => dlr (L (ix2 a b)) (I (ix2 a b)) (T (ix1 a)) (Ar (ix2 a b)) (Ai (ix2 a b)) (pK (tp' Br) (tp' Bi) (mp' Gr) (mp' Gi) a b) (qK (tp' Br) (tp' Bi) (mp' Gr) (mp' Gi) a b)) := by
  refine (dats m 0 c).arrAt_eq_of_covers 9 _ (by decide +kernel) fun t _ y => ?_
  obtain ⟨a, b, rfl⟩ := cases_row y
  have e : ((cfg0.win 9).blk t).view.emb (ix3 a 0 b) = ix3 a 0 b := by blk_ext [idx t]
  rw [e]
  blk_simp
  rw [after0_9]
  unfold_out out0_9
  frame_out
  rw [blk0 m c L hL, blk1 m c I hI, blk2 m c T hT, blk3 m c Br hBr, blk4 m c Bi hBi, blk5 m c Ar hAr, blk6 m c Ai hAi, blk7 m c Gr hGr, blk8 m c Gi hGi]
  rw [pay8 (rw' L), pay9 (rw' I), pay10 (ov' T), pay12 (rw' L) (rw' I) (ov' T), pay13 (rw' L) (rw' I) (ov' T), pay14 (rw' L) (rw' I) hn, pay18 (rw' L) (rw' I) (ov' T) hn, pay19 (rw' L) (rw' I) (ov' T) hn, pay24 (tp' Br) (tp' Bi) (mp' Gr) (mp' Gi), pay25 (tp' Br) (tp' Bi) (mp' Gr) (mp' Gi), pay26 (rw' L) (rw' I), pay27 (rw' L) (rw' I), pay28 (rw' L) (rw' I) (rw' Ar) (tp' Br) (tp' Bi) (mp' Gr) (mp' Gi) hn, pay29 (rw' L) (rw' I) (rw' Ai) (tp' Br) (tp' Bi) (mp' Gr) (mp' Gi) hn]
  exact congrFun (pay5 (rw' L) (rw' I) (rw' Ar) (rw' Ai) (ov' T) (tp' Br) (tp' Bi) (mp' Gr) (mp' Gi) hn) _

theorem final10 : (dats m 0 c).arrAt 10 (cfgs 0).N = rowB (fun a b => dli (L (ix2 a b)) (I (ix2 a b)) (T (ix1 a)) (Ar (ix2 a b)) (Ai (ix2 a b)) (pK (tp' Br) (tp' Bi) (mp' Gr) (mp' Gi) a b) (qK (tp' Br) (tp' Bi) (mp' Gr) (mp' Gi) a b)) := by
  refine (dats m 0 c).arrAt_eq_of_covers 10 _ (by decide +kernel) fun t _ y => ?_
  obtain ⟨a, b, rfl⟩ := cases_row y
  have e : ((cfg0.win 10).blk t).view.emb (ix3 a 0 b) = ix3 a 0 b := by blk_ext [idx t]
  rw [e]
  blk_simp
  rw [after0_10]
  unfold_out out0_10
  frame_out
  rw [blk0 m c L hL, blk1 m c I hI, blk2 m c T hT, blk3 m c Br hBr, blk4 m c Bi hBi, blk5 m c Ar hAr, blk6 m c Ai hAi, blk7 m c Gr hGr, blk8 m c Gi hGi]
  rw [pay8 (rw' L), pay9 (rw' I), pay10 (ov' T), pay12 (rw' L) (rw' I) (ov' T), pay13 (rw' L) (rw' I) (ov' T), pay14 (rw' L) (rw' I) hn, pay18 (rw' L) (rw' I) (ov' T) hn, pay19 (rw' L) (rw' I) (ov' T) hn, pay24 (tp' Br) (tp' Bi) (mp' Gr) (mp' Gi), pay25 (tp' Br) (tp' Bi) (mp' Gr) (mp' Gi), pay26 (rw' L) (rw' I), pay27 (rw' L) (rw' I), pay28 (rw' L) (rw' I) (rw' Ar) (tp' Br) (tp' Bi) (mp' Gr) (mp' Gi) hn, pay29 (rw' L) (rw' I) (rw' Ai) (tp' Br) (tp' Bi) (mp' Gr) (mp' Gi) hn]
  exact congrFun (pay6 (rw' L) (rw' I) (rw' Ar) (rw' Ai) (ov' T) (tp' Br) (tp' Bi) (mp' Gr) (mp' Gi) hn) _

theorem final11 : (dats m 0 c).arrAt 11 (cfgs 0).N = oneB (fun a => (∑ b, gdt (L (ix2 a b)) (I (ix2 a b)) (T (ix1 a)) (Ar (ix2 a b)) (Ai (ix2 a b)) (pK (tp' Br) (tp' Bi) (mp' Gr) (mp' Gi) a b) (qK (tp' Br) (tp' Bi) (mp' Gr) (mp' Gi) a b)) * Real.exp (T (ix1 a))) := by
  refine (dats m 0 c).arrAt_eq_of_covers 11 _ (by decide +kernel) fun t _ y => ?_
  obtain ⟨a, rfl⟩ := cases_one y
  have e : ((cfg0.win 11).blk t).view.emb (ix3 a 0 0) = ix3 a 0 0 := by blk_ext [idx t]
  rw [e]
  blk_simp
  rw [after0_11]
  unfold_out out0_11
  frame_out
  rw [blk0 m c L hL, blk1 m c I hI, blk2 m c T hT, blk3 m c Br hBr, blk4 m c Bi hBi, blk5 m c Ar hAr, blk6 m c Ai hAi, blk7 m c Gr hGr, blk8 m c Gi hGi]
  rw [pay8 (rw' L), pay9 (rw' I), pay10 (ov' T), pay12 (rw' L) (rw' I) (ov' T), pay13 (rw' L) (rw' I) (ov' T), pay14 (rw' L) (rw' I) hn, pay28 (rw' L) (rw' I) (rw' Ar) (tp' Br) (tp' Bi) (mp' Gr) (mp' Gi) hn, pay29 (rw' L) (rw' I) (rw' Ai) (tp' Br) (tp' Bi) (mp' Gr) (mp' Gi) hn]
  exact congrFun (pay7 (rw' L) (rw' I) (rw' Ar) (rw' Ai) (ov' T) (tp' Br) (tp' Bi) (mp' Gr) (mp' Gi)) _

theorem final12 : (dats m 0 c).arrAt 12 (cfgs 0).N = mapB (fun a k b => frK (rw' L) (rw' I) (ov' T) a b * Gr (ix3 a k b) + fiK (rw' L) (rw' I) (ov' T) a b * Gi (ix3 a k b)) := by
  refine (dats m 0 c).arrAt_eq_of_covers 12 _ (by decide +kernel) fun t _ y => ?_
  obtain ⟨a, k, b, rfl⟩ := cases_map y
  have e : ((cfg0.win 12).blk t).view.emb (ix3 a k b) = ix3 a k b := by blk_ext [idx t]
  rw [e]
  blk_simp
  rw [after0_12]
  unfold_out out0_12
  frame_out
  rw [blk0 m c L hL, blk1 m c I hI, blk2 m c T hT, blk7 m c Gr hGr, blk8 m c Gi hGi]
  exact congrFun (pay20 (rw' L) (rw' I) (ov' T) (mp' Gr) (mp' Gi) hn) _

theorem final13 : (dats m 0 c).arrAt 13 (cfgs 0).N = mapB (fun a k b => frK (rw' L) (rw' I) (ov' T) a b * Gi (ix3 a k b) - fiK (rw' L) (rw' I) (ov' T) a b * Gr (ix3 a k b)) := by
  refine (dats m 0 c).arrAt_eq_of_covers 13 _ (by decide +kernel) fun t _ y => ?_
  obtain ⟨a, k, b, rfl⟩ := cases_map y
  have e : ((cfg0.win 13).blk t).view.emb (ix3 a k b) = ix3 a k b := by blk_ext [idx t]
  rw [e]
  blk_simp
  rw [after0_13]
  unfold_out out0_13
  frame_out
  rw [blk0 m c L hL, blk1 m c I hI, blk2 m c T hT, blk7 m c Gr hGr, blk8 m c Gi hGi]
  rw [pay18 (rw' L) (rw' I) (ov' T) hn, pay19 (rw' L) (rw' I) (ov' T) hn]
  exact congrFun (pay21 (rw' L) (rw' I) (ov' T) (mp' Gr) (mp' Gi)) _

end Cert.Kernel5Ideal.Prep

end
-- ==== Proof.PrepClaim.lean ====
/- The gradients of the discretised parameters: the claims about `ssm_prep_bwd`. -/
module

public import proofs.«01_k».proof.Defs
public import proofs.«01_k».proof.Proof.PrepPre
public import proofs.«01_k».proof.Proof.PrepRef
public import proofs.«01_k».proof.Proof.PrepKernel

@[expose] public section

set_option maxRecDepth 16384

noncomputable section

namespace Cert.Prep

open Idealize.ShloMosaic Idealize.SL.Sem Cert.Reals

theorem frame_reference : Cert.quiescent_Reference5Ideal := by
  intro m ρ _
  exact (θ_run Cert.Reference5Ideal.defs _ _).mono
    (fun r h => ⟨fun c => (h c).2.2.2.2.2, sem_eq_zero_of_no_sems (by decide) r.2⟩) (Cert.Reference5Ideal.Prep.run m ρ)

theorem pair : Cert.algebraic_Kernel5Ideal_Reference5Ideal_pre_finite5 := by
  intro m g m' g' hpre hag
  refine ⟨fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    fun c => (Cert.Kernel5Ideal.Gen.dats m 0 c).arrAt 13 Cert.Kernel5Ideal.cfg0.N,
    Cert.Kernel5Ideal.Prep.run_blocks m g,
    (θ_run Cert.Reference5Ideal.defs _ _).mono (fun r h c => ?_) (Cert.Reference5Ideal.Prep.run m' g')⟩
  obtain ⟨⟨L, hL⟩, ⟨I, hI⟩, ⟨T, hT⟩, ⟨Br, hBr⟩, ⟨Bi, hBi⟩, ⟨Ar, hAr⟩, ⟨Ai, hAi⟩, ⟨Gr, hGr⟩, ⟨Gi, hGi⟩, hne⟩ :=
    Cert.Pre_finite5.reals_of_fn _ _ _ _ _ _ _ _ _ (hpre c)
  obtain ⟨a0, a1, a2, a3, a4, a5, a6, a7, a8⟩ := hag c
  obtain ⟨h0, h1, h2, h3, h4, hk⟩ := h c
  have hn : ∀ a b : Fin 64, nm (L (ix2 a b)) (I (ix2 a b)) ≠ 0 := fun a b e => by
    rw [hL, hI] at hne
    have l0 : L (ix2 a b) = 0 := mul_self_eq_zero.1 (by have := mul_self_nonneg (L (ix2 a b)); have := mul_self_nonneg (I (ix2 a b)); unfold nm at e; linarith)
    have i0 : I (ix2 a b) = 0 := mul_self_eq_zero.1 (by have := mul_self_nonneg (L (ix2 a b)); have := mul_self_nonneg (I (ix2 a b)); unfold nm at e; linarith)
    have := hne (ix2 a b)
    simp [l0, i0] at this
  rw [a0, a1, a2, a3, a4, a5, a6, a7, a8, hL, hI, hT, hBr, hBi, hAr, hAi, hGr, hGi] at h0
  rw [a0, a1, a2, a3, a4, a5, a6, a7, a8, hL, hI, hT, hBr, hBi, hAr, hAi, hGr, hGi] at h1
  rw [a0, a1, a2, a3, a4, a5, a6, a7, a8, hL, hI, hT, hBr, hBi, hAr, hAi, hGr, hGi] at h2
  rw [a0, a1, a2, a7, a8, hL, hI, hT, hGr, hGi] at h3
  rw [a0, a1, a2, a7, a8, hL, hI, hT, hGr, hGi] at h4
  refine ⟨h0.trans ?_, h1.trans ?_, h2.trans ?_, h3.trans ?_, h4.trans ?_, hk⟩
  · refine Eq.trans (funext fun i => ?_) (Cert.Kernel5Ideal.Prep.final9 m c L I T Br Bi Ar Ai Gr Gi hL hI hT hBr hBi hAr hAi hGr hGi hn).symm
    obtain ⟨a, b, rfl⟩ := Cert.Kernel5Ideal.Prep.cases_row i
    exact Cert.Reference5Ideal.Prep.dlr_r L I T Br Bi Ar Ai Gr Gi hn a b
  · refine Eq.trans (funext fun i => ?_) (Cert.Kernel5Ideal.Prep.final10 m c L I T Br Bi Ar Ai Gr Gi hL hI hT hBr hBi hAr hAi hGr hGi hn).symm
    obtain ⟨a, b, rfl⟩ := Cert.Kernel5Ideal.Prep.cases_row i
    exact Cert.Reference5Ideal.Prep.dli_r L I T Br Bi Ar Ai Gr Gi hn a b
  · refine Eq.trans (funext fun i => ?_) (Cert.Kernel5Ideal.Prep.final11 m c L I T Br Bi Ar Ai Gr Gi hL hI hT hBr hBi hAr hAi hGr hGi hn).symm
    obtain ⟨a, rfl⟩ := Cert.Kernel5Ideal.Prep.cases_one i
    exact Cert.Reference5Ideal.Prep.dld_r L I T Br Bi Ar Ai Gr Gi hn a
  · refine Eq.trans (funext fun i => ?_) (Cert.Kernel5Ideal.Prep.final12 m c L I T Br Bi Ar Ai Gr Gi hL hI hT hBr hBi hAr hAi hGr hGi hn).symm
    obtain ⟨a, k, b, rfl⟩ := Cert.Kernel5Ideal.Prep.cases_map i
    exact Cert.Reference5Ideal.Prep.dbr_l L I T Gr Gi hn a k b
  · refine Eq.trans (funext fun i => ?_) (Cert.Kernel5Ideal.Prep.final13 m c L I T Br Bi Ar Ai Gr Gi hL hI hT hBr hBi hAr hAi hGr hGi hn).symm
    obtain ⟨a, k, b, rfl⟩ := Cert.Kernel5Ideal.Prep.cases_map i
    exact Cert.Reference5Ideal.Prep.dbi_l L I T Gr Gi hn a k b

end Cert.Prep

end
-- ==== Proof.PoolPre.lean ====
/- What the precondition `finite6` says of the arrays it reads. -/
module

public import proofs.«01_k».proof.Proof.BranchPre
public import proofs.«01_k».proof.Proof.Gen.Pre_finite6

@[expose] public section

noncomputable section

namespace Cert.Pre_finite6

open Idealize.ShloMosaic
open Cert.Pre_finite4 (Fin')

instance : Subsingleton S_.Idx := ⟨fun a b => funext fun i => i.elim0⟩

theorem reals_of_fn (x0 : FVec Ideal S4096x1024 .f32) (x1 : FVec Ideal S4096x12288 .bf16) (x2 : FVec Ideal S4x256x256 .bf16)
    (x3 : FVec Ideal S1024 .f32) (h : fn (F := Ideal) x0 x1 x2 x3 = fun _ => 1#1) : Fin' x0 ∧ Fin' x1 ∧ Fin' x2 ∧ Fin' x3 := by
  have h0 := congrFun h (Shape.Idx.first Facts.h_S_)
  obtain ⟨h, h3⟩ := IntOp.andi_eq_one.1 h0
  obtain ⟨h, h2⟩ := IntOp.andi_eq_one.1 h
  obtain ⟨h, h1⟩ := IntOp.andi_eq_one.1 h
  exact ⟨Reals.exists_reals x0 _ (fun i => Reals.ofBits_inf) _ _ _ _ h,
    Reals.exists_reals (extf .f32 x1 Facts.bitsLt_bf16_f32) _ (fun i => Reals.ofBits_inf) _ _ _ _ h1,
    Reals.exists_reals (extf .f32 x2 Facts.bitsLt_bf16_f32) _ (fun i => Reals.ofBits_inf) _ _ _ _ h2,
    Reals.exists_reals x3 _ (fun i => Reals.ofBits_inf) _ _ _ _ h3⟩

end Cert.Pre_finite6

end
-- ==== Proof.PoolMath.lean ====
/- The pooling windows over the reals: running sums along the first axis, and sums over 2, 4, 8 or 16 rows by doubling. -/
module

public import proofs.«01_k».proof.Proof.AttnSums
public import proofs.«01_k».proof.Proof.BranchMath
public import Idealize.ShloMosaic.Lib.Pointwise

@[expose] public section

noncomputable section

open Idealize.ShloMosaic

namespace Cert.Pool

open Cert.Reals Cert.Sums Finset

theorem numel3 (N : ℕ) : (⟨3, ![N, 1, 1]⟩ : Shape).numel = N := by
  show ∏ a : Fin 3, (![N, 1, 1] : Fin 3 → ℕ) a = N
  rw [Fin.prod_univ_three]
  show N * 1 * 1 = N
  omega

theorem symm3 {N : ℕ} (n : Fin (⟨3, ![N, 1, 1]⟩ : Shape).numel) :
    (⟨3, ![N, 1, 1]⟩ : Shape).rowMajor.symm n = ix3 (n.cast (numel3 N)) (0 : Fin 1) (0 : Fin 1) :=
  ((⟨3, ![N, 1, 1]⟩ : Shape).rowMajor.symm_apply_eq).2 (Fin.ext (by
    rw [Shape.rowMajor_val_three]
    show n.val = (n.val * 1 + 0) * 1 + 0
    omega))

/-- The sum over a window of `N` along the first axis, padded below by `lo`. -/
theorem window {A B N : ℕ} (lo hi : ℕ) (f : ℕ → ℝ) (x : (⟨3, ![N, A, B]⟩ : Shape).Idx → EReal) (a : Fin A) (b : Fin B)
    (hx : ∀ s : Fin N, x (ix3 s a b) = (f s.val : EReal))
    (h : (⟨3, ![N, A, B]⟩ : Shape).ReduceWindows (![N, 1, 1] : Fin 3 → ℕ) ![1, 1, 1] ![lo, 0, 0] ![hi, 0, 0] ⟨3, ![N, A, B]⟩) (j : Fin N) :
    Ideal.hostReduceWindowAdd ![N, 1, 1] ![1, 1, 1] ![lo, 0, 0] ![hi, 0, 0] h x 0 (ix3 j a b)
      = ((∑ n ∈ range N, if lo ≤ j.val + n ∧ j.val + n - lo < N then f (j.val + n - lo) else 0 : ℝ) : EReal) := by
  unfold Ideal.hostReduceWindowAdd Host.reduceWindow
  dsimp only
  refine (foldl_add _ _ _).trans ?_
  rw [zero_add, ← Fin.sum_univ_def, ← sum_coe, Finset.sum_range]
  refine Fintype.sum_equiv (finCongr (numel3 N)) _ _ fun n => ?_
  have hs := symm3 n
  set w := (⟨3, ![N, 1, 1]⟩ : Shape).rowMajor.symm n with hw
  have w0 : (w 0).val = n.val := congrArg (fun u => (u 0).val) hs
  have w1 : (w 1).val = 0 := congrArg (fun u => (u 1).val) hs
  have w2 : (w 2).val = 0 := congrArg (fun u => (u 2).val) hs
  by_cases hn : lo ≤ j.val + n.val ∧ j.val + n.val - lo < N
  · have hin : ∀ c : Fin 3, ![lo, 0, 0] c ≤ (ix3 j a b c).val * ![1, 1, 1] c + (w c).val
        ∧ (ix3 j a b c).val * ![1, 1, 1] c + (w c).val - ![lo, 0, 0] c < ![N, A, B] c := by
      intro c
      fin_cases c
      · exact ⟨by show lo ≤ j.val * 1 + (w 0).val; omega, by show j.val * 1 + (w 0).val - lo < N; omega⟩
      · exact ⟨Nat.zero_le _, by show a.val * 1 + (w 1).val - 0 < A; omega⟩
      · exact ⟨Nat.zero_le _, by show b.val * 1 + (w 2).val - 0 < B; omega⟩
    refine (dif_pos hin).trans (Eq.trans (congrArg x (funext fun c => ?_))
      ((hx ⟨j.val + n.val - lo, hn.2⟩).trans (congrArg Real.toEReal (if_pos hn).symm)))
    fin_cases c
    · exact Fin.ext (by show j.val * 1 + (w 0).val - lo = j.val + n.val - lo; omega)
    · exact Fin.ext (by show a.val * 1 + (w 1).val - 0 = a.val; omega)
    · exact Fin.ext (by show b.val * 1 + (w 2).val - 0 = b.val; omega)
  · refine Eq.trans (dif_neg fun hin => hn ?_) (congrArg Real.toEReal (if_neg hn).symm)
    have h0 := hin 0
    have e1 : lo ≤ j.val * 1 + (w 0).val := h0.1
    have e2 : j.val * 1 + (w 0).val - lo < N := h0.2
    exact ⟨by omega, by omega⟩

/-- The window of a group: 2, 4, 8 or 16 rows. -/
def wd (g : ℕ) : ℕ := 2 * 2 ^ g

/-- The sum over the last `w` rows, ending at row `t`. -/
def back (w : ℕ) (f : ℕ → ℝ) (t : ℕ) : ℝ := ∑ s ∈ Ico (t + 1 - w) (t + 1), f s

/-- The sum over `w` rows from row `t` on. -/
def ahead (w : ℕ) (f : ℕ → ℝ) (t : ℕ) : ℝ := ∑ s ∈ Ico t (t + w), f s

/-- The rows behind `16` rows of zeros. -/
def padded (f : ℕ → ℝ) (y : ℕ) : ℝ := if 16 ≤ y then f (y - 16) else 0

theorem back_lag (w : ℕ) (f : ℕ → ℝ) (t : ℕ) :
    (∑ s ∈ range (t + 1), f s) - (if t < w then 0 else ∑ s ∈ range (t - w + 1), f s) = back w f t := by
  unfold back
  split_ifs with h
  · rw [show t + 1 - w = 0 by omega, sub_zero, Finset.range_eq_Ico]
  · rw [Finset.sum_Ico_eq_sub f (show t + 1 - w ≤ t + 1 by omega), show t - w + 1 = t + 1 - w by omega]

theorem ahead_lag (w n : ℕ) (f : ℕ → ℝ) (hf : ∀ s, n ≤ s → f s = 0) (t : ℕ) (ht : t < n) :
    ∑ s ∈ Ico t n, (f s - f (s + w)) = ahead w f t := by
  unfold ahead
  have e1 : ∑ s ∈ Ico t n, f s = ∑ s ∈ Ico t (n + w), f s := by
    refine Finset.sum_subset (Finset.Ico_subset_Ico_right (by omega)) fun s h1 h2 => hf s ?_
    simp only [mem_Ico] at h1 h2
    omega
  have e2 : ∑ s ∈ Ico t n, f (s + w) = ∑ s ∈ Ico (t + w) (n + w), f s := Finset.sum_Ico_add' f t n w
  rw [Finset.sum_sub_distrib, e1, e2, ← Finset.sum_Ico_consecutive f (show t ≤ t + w by omega) (show t + w ≤ n + w by omega)]
  ring

/-- Behind the zeros the sum over the last rows needs no case. -/
theorem back_padded (w : ℕ) (hw : w ≤ 16) (f : ℕ → ℝ) (t : ℕ) : ∑ s ∈ Ico (16 + t + 1 - w) (16 + t + 1), padded f s = back w f t := by
  unfold back
  have e : ∑ s ∈ Ico (t + 1 - w + 16) (t + 1 + 16), padded f s = ∑ s ∈ Ico (t + 1 - w) (t + 1), f s := by
    rw [← Finset.sum_Ico_add']
    exact Finset.sum_congr rfl fun s _ => by unfold padded; rw [if_pos (by omega)]; congr 1
  rw [← e]
  symm
  refine Finset.sum_subset (Finset.Ico_subset_Ico (by omega) (by omega)) fun s h1 h2 => ?_
  simp only [mem_Ico] at h1 h2
  unfold padded
  exact if_neg (by omega)

/-- Doubling a window that ends at a row. -/
theorem double_back (w : ℕ) (f : ℕ → ℝ) (z : ℕ) (hz : 2 * w ≤ z + 1) :
    ∑ s ∈ Ico (z + 1 - w) (z + 1), f s + ∑ s ∈ Ico (z - w + 1 - w) (z - w + 1), f s = ∑ s ∈ Ico (z + 1 - 2 * w) (z + 1), f s := by
  rw [show z - w + 1 = z + 1 - w by omega, show z + 1 - w - w = z + 1 - 2 * w by omega, add_comm,
    Finset.sum_Ico_consecutive f (by omega) (by omega)]

/-- Doubling a window that begins at a row. -/
theorem double_ahead (w : ℕ) (f : ℕ → ℝ) (z : ℕ) : ahead w f z + ahead w f (z + w) = ahead (2 * w) f z := by
  unfold ahead
  rw [Finset.sum_Ico_consecutive f (by omega) (by omega), show z + w + w = z + 2 * w by omega]

/-- A column as a function of every row number, zero beyond the last row. -/
def ext (f : Fin 4096 → ℝ) (t : ℕ) : ℝ := if h : t < 4096 then f ⟨t, h⟩ else 0

theorem ext_lt (f : Fin 4096 → ℝ) (t : Fin 4096) : ext f t.val = f t := dif_pos t.isLt

theorem ext_ge (f : Fin 4096 → ℝ) (t : ℕ) (h : 4096 ≤ t) : ext f t = 0 := dif_neg (by omega)

/-- The number of rows a mean is over. -/
def den (g t : ℕ) : ℝ := min ((t : ℝ) + 1) (wd g : ℝ)

theorem den_ne (g t : ℕ) : den g t ≠ 0 := by
  unfold den wd
  have h1 : (0 : ℝ) < (t : ℝ) + 1 := by positivity
  have h2 : (0 : ℝ) < ((2 * 2 ^ g : ℕ) : ℝ) := by positivity
  exact (lt_min h1 h2).ne'

theorem ofBits_z : Ideal.ofBits .f32 0x00000000#32 = ((0 : ℝ) : EReal) := Branch.ofBits_zero
theorem f2 : Ideal.ofBits .f32 0x40000000#32 = ((wd 0 : ℝ) : EReal) := by unfold wd; simp [Ideal.ofBits, Ideal.ieee]; exact (mul_coe _ _).trans (by norm_num)
theorem f4 : Ideal.ofBits .f32 0x40800000#32 = ((wd 1 : ℝ) : EReal) := by unfold wd; simp [Ideal.ofBits, Ideal.ieee]; exact (mul_coe _ _).trans (by norm_num)
theorem f8 : Ideal.ofBits .f32 0x41000000#32 = ((wd 2 : ℝ) : EReal) := by unfold wd; simp [Ideal.ofBits, Ideal.ieee]; exact (mul_coe _ _).trans (by norm_num)
theorem f16 : Ideal.ofBits .f32 0x41800000#32 = ((wd 3 : ℝ) : EReal) := by unfold wd; simp [Ideal.ofBits, Ideal.ieee]; exact (mul_coe _ _).trans (by norm_num)

theorem min_den (g t : ℕ) : min (((t : ℝ) + 1 : ℝ) : EReal) ((wd g : ℝ) : EReal) = ((den g t : ℝ) : EReal) :=
  (EReal.coe_strictMono.monotone.map_min).symm

variable (Y : (⟨2, ![4096, 1024]⟩ : Shape).Idx → ℝ) (X : (⟨2, ![4096, 12288]⟩ : Shape).Idx → ℝ) (W : (⟨3, ![4, 256, 256]⟩ : Shape).Idx → ℝ)
  (S : (⟨1, ![1024]⟩ : Shape).Idx → ℝ)

/-- A group's column of the array of 1024. -/
def at4 (g : Fin 4) (c : Fin 256) : Fin 1024 := ⟨g.val * 256 + c.val, by have := g.isLt; have := c.isLt; omega⟩

theorem at4_div (g : Fin 4) (c : Fin 256) (h : (at4 g c).val / 256 < 4) : (⟨(at4 g c).val / 256, h⟩ : Fin 4) = g :=
  Fin.ext (by show (g.val * 256 + c.val) / 256 = g.val; omega)
theorem at4_mod (g : Fin 4) (c : Fin 256) (h : (at4 g c).val % 256 < 256) : (⟨(at4 g c).val % 256, h⟩ : Fin 256) = c :=
  Fin.ext (by show (g.val * 256 + c.val) % 256 = c.val; omega)

/-- A group's input column. -/
def xcol (g : Fin 4) (c : Fin 256) (t : Fin 4096) : ℝ := X (ix2 t ⟨g.val * 256 + c.val, by have := g.isLt; have := c.isLt; omega⟩)

/-- The pooled rows: the mean over the window less the row itself. -/
def pooled (g : Fin 4) (c : Fin 256) (t : Fin 4096) : ℝ := back (wd g.val) (ext (xcol X g c)) t.val / den g.val t.val - xcol X g c t

/-- The gradient by the mixed rows. -/
def dmix (g : Fin 4) (d : Fin 256) (t : Fin 4096) : ℝ := Y (ix2 t (at4 g d)) * S (ix1 (at4 g d))

/-- The gradient by the pooled rows. -/
def dpool (g : Fin 4) (c : Fin 256) (t : Fin 4096) : ℝ := ∑ d : Fin 256, dmix Y S g d t * W (ix3 g c d)

/-- The gradient by a window's sum. -/
def dsum (g : Fin 4) (c : Fin 256) (t : Fin 4096) : ℝ := dpool Y W S g c t / den g.val t.val

/-- The gradient by the input. -/
def dx (g : Fin 4) (c : Fin 256) (t : Fin 4096) : ℝ := ahead (wd g.val) (ext (dsum Y W S g c)) t.val - dpool Y W S g c t

/-- The gradient by the mixing weights. -/
def dw (g : Fin 4) (c d : Fin 256) : ℝ := ∑ t : Fin 4096, pooled X g c t * dmix Y S g d t

/-- The gradient by the scale. -/
def ds (g : Fin 4) (d : Fin 256) : ℝ := ∑ t : Fin 4096, Y (ix2 t (at4 g d)) * ∑ c : Fin 256, pooled X g c t * W (ix3 g c d)

end Cert.Pool

end
-- ==== Proof.PoolRef.lean ====
/- The gradients of the pooling mixer as the reference leaves them, at finite arguments. -/
module

public import proofs.«01_k».proof.Proof.PoolMath
public import proofs.«01_k».proof.Proof.Gen.Reference6Ideal.Run
public import proofs.«01_k».proof.Proof.Gen.Reference6Ideal.Read
public import Idealize.ShloMosaic.Lib.Pointwise

@[expose] public section

set_option maxRecDepth 16384

noncomputable section

namespace Cert.Reference6Ideal.Pool

open Idealize.ShloMosaic Idealize.ShloMosaic.TcCoe Idealize.SL.Sem Cert.Reference6Ideal Cert.Reference6Ideal.Gen Cert.Reference6Ideal.Read Cert.Reals Cert.Pool Finset

variable (Y : S4096x1024.Idx → ℝ) (X : S4096x12288.Idx → ℝ) (W : S4x256x256.Idx → ℝ) (S : S1024.Idx → ℝ)

local notation "y₀" => (fun i => (Y i : EReal))
local notation "x₀" => (fun i => (X i : EReal))
local notation "w₀" => (fun i => (W i : EReal))
local notation "s₀" => (fun i => (S i : EReal))

theorem v3 (t : Fin 4096) (g : Fin 4) (c : Fin 256) : val_main_v3 (F := Ideal) x₀ (ix3 t g c) = (xcol X g c t : EReal) := by
  pointwise [val_main_v3, val_main_v1, val_main_v0]
  rfl

theorem v4 (t : Fin 4096) (g : Fin 4) (c : Fin 256) : val_main_v4 (F := Ideal) x₀ (ix3 t g c)
    = ((∑ s ∈ range (t.val + 1), ext (xcol X g c) s : ℝ) : EReal) := by
  have e : (val_main_call0_call0_v0 (F := Ideal)) = fun _ => (0 : EReal) := by
    funext i
    pointwise [val_main_call0_call0_v0, val_main_call0_call0_cst]
  rw [← Sums.window_upto (ext (xcol X g c)) t.isLt]
  unfold val_main_v4
  unfold Host.reduceWindowAdd
  rw [e]
  exact window 4095 0 (ext (xcol X g c)) (val_main_v3 (F := Ideal) x₀) g c
    (fun s => (v3 X s g c).trans (congrArg Real.toEReal (ext_lt _ s).symm)) _ t

theorem pos (t : Fin 4096) : val_main_v8 (F := Ideal) (ix2 t 0) = (((t.val : ℝ) + 1 : ℝ) : EReal) := by
  pointwise [val_main_v8, val_main_v7, val_main_v6, val_main_v5, val_main_cst]
  have ht := t.isLt
  show (1 : EReal) + (((BitVec.ofNat 32 t.val).toInt : ℝ) : EReal) = _
  rw [BitVec.toInt_eq_toNat_of_lt (by simp; omega), BitVec.toNat_ofNat, Nat.mod_eq_of_lt (by omega), one_coe, add_coe, add_comm, Int.cast_natCast]

theorem v17 (t : Fin 4096) : val_main_v17 (F := Ideal) (ix2 t 0) = ((den 0 t.val : ℝ) : EReal) := by
  pointwise [val_main_v17, val_main_v16, val_main_cst_2]
  rw [pos, f2, min_den]

theorem v31 (t : Fin 4096) : val_main_v31 (F := Ideal) (ix2 t 0) = ((den 1 t.val : ℝ) : EReal) := by
  pointwise [val_main_v31, val_main_v30, val_main_cst_5]
  rw [pos, f4, min_den]

theorem v45 (t : Fin 4096) : val_main_v45 (F := Ideal) (ix2 t 0) = ((den 2 t.val : ℝ) : EReal) := by
  pointwise [val_main_v45, val_main_v44, val_main_cst_8]
  rw [pos, f8, min_den]

theorem v59 (t : Fin 4096) : val_main_v59 (F := Ideal) (ix2 t 0) = ((den 3 t.val : ℝ) : EReal) := by
  pointwise [val_main_v59, val_main_v58, val_main_cst_11]
  rw [pos, f16, min_den]

/-- A mean over a window, from the running sum less the one a window earlier. -/
theorem mean (g : Fin 4) (c : Fin 256) (t : Fin 4096) (w : ℕ) (hw : w = wd g.val) (h : ¬ t.val < w → t.val - w < 4096) :
    Ideal.div (((∑ s ∈ range (t.val + 1), ext (xcol X g c) s : ℝ) : EReal)
        - (if h' : t.val < w then ((0 : ℝ) : EReal) else ((∑ s ∈ range (t.val - w + 1), ext (xcol X g c) s : ℝ) : EReal))) ((den g.val t.val : ℝ) : EReal)
      - (xcol X g c t : EReal) = (pooled X g c t : EReal) := by
  have hl : (if h' : t.val < w then ((0 : ℝ) : EReal) else ((∑ s ∈ range (t.val - w + 1), ext (xcol X g c) s : ℝ) : EReal))
      = ((if t.val < w then 0 else ∑ s ∈ range (t.val - w + 1), ext (xcol X g c) s : ℝ) : EReal) := by
    by_cases h' : t.val < w
    · rw [dif_pos h', if_pos h']
    · rw [dif_neg h', if_neg h']
  rw [hl, sub_coe, back_lag, div_coe _ _ (den_ne _ _), sub_coe, hw]
  rfl

theorem v22 (t : Fin 4096) (c : Fin 256) : val_main_v22 (F := Ideal) x₀ (ix2 t c) = (pooled X 0 c t : EReal) := by
  pointwise [val_main_v22, val_main_v21, val_main_v20, val_main_v19, val_main_v18, val_main_v15, val_main_v14, val_main_v13, val_main_v12, val_main_v11, val_main_v10, val_main_v9, val_main_cst_0]
  simp only [v3, v4, v17, ofBits_z]
  exact mean X 0 c t 2 rfl (fun _ => by omega)

theorem v36 (t : Fin 4096) (c : Fin 256) : val_main_v36 (F := Ideal) x₀ (ix2 t c) = (pooled X 1 c t : EReal) := by
  pointwise [val_main_v36, val_main_v35, val_main_v34, val_main_v33, val_main_v32, val_main_v29, val_main_v28, val_main_v27, val_main_v26, val_main_v25, val_main_v24, val_main_v23, val_main_cst_3]
  simp only [v3, v4, v31, ofBits_z]
  exact mean X 1 c t 4 rfl (fun _ => by omega)

theorem v50 (t : Fin 4096) (c : Fin 256) : val_main_v50 (F := Ideal) x₀ (ix2 t c) = (pooled X 2 c t : EReal) := by
  pointwise [val_main_v50, val_main_v49, val_main_v48, val_main_v47, val_main_v46, val_main_v43, val_main_v42, val_main_v41, val_main_v40, val_main_v39, val_main_v38, val_main_v37, val_main_cst_6]
  simp only [v3, v4, v45, ofBits_z]
  exact mean X 2 c t 8 rfl (fun _ => by omega)

theorem v64 (t : Fin 4096) (c : Fin 256) : val_main_v64 (F := Ideal) x₀ (ix2 t c) = (pooled X 3 c t : EReal) := by
  pointwise [val_main_v64, val_main_v63, val_main_v62, val_main_v61, val_main_v60, val_main_v57, val_main_v56, val_main_v55, val_main_v54, val_main_v53, val_main_v52, val_main_v51, val_main_cst_9]
  simp only [v3, v4, v59, ofBits_z]
  exact mean X 3 c t 16 rfl (fun _ => by omega)

theorem v69 (t : Fin 4096) (g : Fin 4) (c : Fin 256) : val_main_v69 (F := Ideal) x₀ (ix3 t g c) = (pooled X g c t : EReal) := by
  pointwise [val_main_v69, val_main_v68, val_main_v67, val_main_v66, val_main_v65]
  simp only [v22, v36, v50, v64]
  fin_cases g <;> rfl

theorem dp (t : Fin 4096) (g : Fin 4) (c : Fin 256) : val_main_v85 (F := Ideal) y₀ w₀ s₀ (ix3 t g c) = (dpool Y W S g c t : EReal) := by
  pointwise [val_main_v85, val_main_v84, val_main_v83, val_main_v82, val_main_v80, val_main_v79, val_main_v73, val_main_v2]
  simp only [mul_coe, sum_coe]
  rfl

/-- A column less the same column `w` rows later. -/
theorem lagged (f : Fin 4096 → ℝ) (w n : ℕ) (hn : n + w = 4096) (t : Fin 4096) :
    (f t : EReal) + (if h : t.val < n then ((-f ⟨w + t.val, by omega⟩ : ℝ) : EReal) else ((0 : ℝ) : EReal))
      = ((ext f t.val - ext f (t.val + w) : ℝ) : EReal) := by
  rw [ext_lt]
  by_cases h : t.val < n
  · have e : ext f (t.val + w) = f ⟨w + t.val, by omega⟩ := (dif_pos (by omega)).trans (congrArg f (Fin.ext (Nat.add_comm _ _)))
    rw [dif_pos h, add_coe, e, sub_eq_add_neg]
  · rw [dif_neg h, add_coe, ext_ge _ _ (by omega), sub_zero, add_zero]

theorem v105 (t : Fin 4096) (c : Fin 256) : val_main_v105 (F := Ideal) y₀ w₀ s₀ (ix2 t c)
    = ((ext (dsum Y W S 3 c) t.val - ext (dsum Y W S 3 c) (t.val + 16) : ℝ) : EReal) := by
  pointwise [val_main_v105, val_main_v104, val_main_v103, val_main_v101, val_main_v100, val_main_v99, val_main_v95, val_main_v94, val_main_cst_15]
  simp only [dp, v59, div_coe _ _ (den_ne _ _), neg_coe, ofBits_z]
  exact lagged (dsum Y W S 3 c) 16 4080 rfl t

theorem v118 (t : Fin 4096) (c : Fin 256) : val_main_v118 (F := Ideal) y₀ w₀ s₀ (ix2 t c)
    = ((ext (dsum Y W S 2 c) t.val - ext (dsum Y W S 2 c) (t.val + 8) : ℝ) : EReal) := by
  pointwise [val_main_v118, val_main_v117, val_main_v116, val_main_v114, val_main_v113, val_main_v112, val_main_v93, val_main_v92, val_main_cst_18]
  simp only [dp, v45, div_coe _ _ (den_ne _ _), neg_coe, ofBits_z]
  exact lagged (dsum Y W S 2 c) 8 4088 rfl t

theorem v132 (t : Fin 4096) (c : Fin 256) : val_main_v132 (F := Ideal) y₀ w₀ s₀ (ix2 t c)
    = ((ext (dsum Y W S 1 c) t.val - ext (dsum Y W S 1 c) (t.val + 4) : ℝ) : EReal) := by
  pointwise [val_main_v132, val_main_v131, val_main_v130, val_main_v128, val_main_v127, val_main_v126, val_main_v91, val_main_v90, val_main_cst_21]
  simp only [dp, v31, div_coe _ _ (den_ne _ _), neg_coe, ofBits_z]
  exact lagged (dsum Y W S 1 c) 4 4092 rfl t

theorem v146 (t : Fin 4096) (c : Fin 256) : val_main_v146 (F := Ideal) y₀ w₀ s₀ (ix2 t c)
    = ((ext (dsum Y W S 0 c) t.val - ext (dsum Y W S 0 c) (t.val + 2) : ℝ) : EReal) := by
  pointwise [val_main_v146, val_main_v145, val_main_v144, val_main_v142, val_main_v141, val_main_v140, val_main_v89, val_main_v88, val_main_cst_24]
  simp only [dp, v17, div_coe _ _ (den_ne _ _), neg_coe, ofBits_z]
  exact lagged (dsum Y W S 0 c) 2 4094 rfl t

theorem v149 (t : Fin 4096) (g : Fin 4) (c : Fin 256) : val_main_v149 (F := Ideal) y₀ w₀ s₀ (ix3 t g c)
    = ((ext (dsum Y W S g c) t.val - ext (dsum Y W S g c) (t.val + wd g.val) : ℝ) : EReal) := by
  pointwise [val_main_v149, val_main_v148, val_main_v147, val_main_cst_25, val_main_v135, val_main_v134, val_main_v133, val_main_cst_22, val_main_v121, val_main_v120, val_main_v119, val_main_cst_19, val_main_v107, val_main_v106, val_main_cst_16]
  simp only [v105, v118, v132, v146]
  fin_cases g <;> simp [wd]

theorem v139 (t : Fin 4096) (g : Fin 4) (c : Fin 256) : val_main_v139 (F := Ideal) y₀ w₀ s₀ (ix3 t g c)
    = ((-dpool Y W S g c t : ℝ) : EReal) := by
  pointwise [val_main_v139, val_main_v138, val_main_v137, val_main_v136, val_main_v89, val_main_v88, val_main_cst_23, val_main_v125, val_main_v124, val_main_v123, val_main_v122, val_main_v91, val_main_v90, val_main_cst_20,
    val_main_v111, val_main_v110, val_main_v109, val_main_v108, val_main_v93, val_main_v92, val_main_cst_17, val_main_v98, val_main_v97, val_main_v96, val_main_v95, val_main_v94, val_main_cst_14]
  simp only [dp, neg_coe]
  fin_cases g <;> simp

theorem v150 (t : Fin 4096) (g : Fin 4) (c : Fin 256) : val_main_v150 (F := Ideal) y₀ w₀ s₀ (ix3 t g c)
    = ((ahead (wd g.val) (ext (dsum Y W S g c)) t.val : ℝ) : EReal) := by
  have e : (val_main_call1_call0_v0 (F := Ideal)) = fun _ => (0 : EReal) := by
    funext i
    pointwise [val_main_call1_call0_v0, val_main_call1_call0_cst]
  rw [← ahead_lag (wd g.val) 4096 (ext (dsum Y W S g c)) (fun s hs => ext_ge _ s hs) t.val t.isLt,
    ← Sums.window_after (fun s => ext (dsum Y W S g c) s - ext (dsum Y W S g c) (s + wd g.val)) t.isLt]
  unfold val_main_v150
  unfold Host.reduceWindowAdd
  rw [e]
  exact window 0 4095 (fun s => ext (dsum Y W S g c) s - ext (dsum Y W S g c) (s + wd g.val)) (val_main_v149 (F := Ideal) y₀ w₀ s₀) g c
    (fun s => v149 Y W S s g c) _ t

theorem dx_r (t : Fin 4096) (g : Fin 4) (c : Fin 256) : val_main_v153 (F := Ideal) y₀ w₀ s₀ (ix2 t (at4 g c)) = (dx Y W S g c t : EReal) := by
  pointwise [val_main_v153, val_main_v152, val_main_v151]
  simp only [at4_div, at4_mod, v139, v150, add_coe]
  exact congrArg Real.toEReal (neg_add_eq_sub _ _)

theorem dw_r (g : Fin 4) (c d : Fin 256) : val_main_v87 (F := Ideal) y₀ x₀ s₀ (ix3 g c d) = (dw Y X S g c d : EReal) := by
  pointwise [val_main_v87, val_main_v86, val_main_v83, val_main_v82, val_main_v80, val_main_v79, val_main_v73]
  simp only [v69, mul_coe, sum_coe]
  exact congrArg Real.toEReal (sum_congr rfl fun t _ => mul_comm _ _)

theorem ds_r (g : Fin 4) (d : Fin 256) : val_main_v154 (F := Ideal) y₀ x₀ w₀ (ix2 0 (at4 g d)) = (ds Y X W g d : EReal) := by
  pointwise [val_main_v154, val_main_v81, val_main_v78, val_main_v77, val_main_v76, val_main_v72, val_main_v71, val_main_v70, val_main_v2, val_main_cst_12, val_main_cst_13]
  simp only [at4_div, at4_mod, v69, mul_coe, sum_coe, ofBits_z, add_coe, zero_add]
  refine congrArg Real.toEReal ((Fin.sum_univ_one _).trans (sum_congr rfl fun t _ => ?_))
  rw [mul_comm]
  exact congrArg _ (sum_congr rfl fun c _ => mul_comm _ _)

/-- The run of the reference, its results as the named stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = val_main_v153 (F := Ideal) (m ((c.tc : Thread nD τ).loc main_arg0)) (m ((c.tc : Thread nD τ).loc main_arg2)) (m ((c.tc : Thread nD τ).loc main_arg3))
      ∧ r.2.mem ((c.tc : Thread nD τ).loc main_v87) = val_main_v87 (F := Ideal) (m ((c.tc : Thread nD τ).loc main_arg0)) (m ((c.tc : Thread nD τ).loc main_arg1)) (m ((c.tc : Thread nD τ).loc main_arg3))
      ∧ r.2.mem ((c.tc : Thread nD τ).loc main_v154) = val_main_v154 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, hk⟩ := h c
    exact ⟨h0.trans (val_main_v153_eq ..), h1.trans (val_main_v87_eq ..), h2.trans (val_main_v154_eq ..), hk⟩) (Value.run m ρ)

end Cert.Reference6Ideal.Pool

end
-- ==== Proof.PoolLoops.lean ====
/-
  The pooling gradient's two loops over 16 blocks of 256 rows: what every buffer they store to holds before each trip, as
  functions of the padded input, the cotangent, the map and the scale.  The first loop adds to the map's and the scale's
  gradient and fills two arrays row block by row block; the second sums the first array's windows.
-/
module

public import proofs.«01_k».proof.Proof.Gen.Kernel6Ideal.Loops
public import Idealize.ShloMosaic.Lib.VecWindow
public import Idealize.ShloMosaic.Lib.Pointwise.Index

@[expose] public section

set_option maxRecDepth 16384

noncomputable section

namespace Cert.Pool

open Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- `n` rows of an array of `N` rows of 256, from row `o`. -/
def rows {N : ℕ} (n : ℕ) {α : Type} (P : (⟨2, ![N, 256]⟩ : Shape).Idx → α) (o : ℕ) (h : o + n ≤ N) :
    (⟨2, ![n, 256]⟩ : Shape).Idx → α :=
  fun z => P (ix2 ⟨o + (z 0).val, lt_of_lt_of_le (Nat.add_lt_add_left (z 0).isLt o) h⟩ (z 1))

theorem readAt_rows {σ : RefSig} {κ : Kind} {sp : Space} {N n : ℕ} {e : EltTy} (v : View σ κ sp ⟨2, ![N, 256]⟩ e)
    (f : v.ty.Contents (Elt F)) {off : Fin 2 → ℕ} (inb : ∀ a, off a + (![n, 256] : Fin 2 → ℕ) a ≤ (![N, 256] : Fin 2 → ℕ) a)
    (o : ℕ) (ho : off = ![o, 0]) (h : o + n ≤ N) :
    v.readAt (Elt F) (Rect.unit (s := ⟨2, ![N, 256]⟩) off ![n, 256] inb).toLoadRect f = rows n (v.read (Elt F) f) o h := by
  subst ho
  refine funext fun z => congrArg (v.read (Elt F) f) (funext fun a => Fin.ext ?_)
  fin_cases a
  · show o + 1 * (z 0).val = o + (z 0).val; omega
  · show 0 + 1 * (z 1).val = (z 1).val; omega

theorem readAt_all {σ : RefSig} {κ : Kind} {sp : Space} {s : Shape} {e : EltTy} (v : View σ κ sp s e)
    (f : v.ty.Contents (Elt F)) {off : Fin s.rank → ℕ} (inb : ∀ a, off a + s.size a ≤ s.size a) (ho : ∀ a, off a = 0) :
    v.readAt (Elt F) (Rect.unit off s.size inb).toLoadRect f = v.read (Elt F) f :=
  funext fun z => congrArg (v.read (Elt F) f) (funext fun a => Fin.ext (by
    show off a + 1 * (z a).val = (z a).val; rw [ho]; omega))

theorem trips1 : k0_t1_loop.trips = 16 := by decide +kernel
theorem trips2 : k0_t2_loop.trips = 16 := by decide +kernel

theorem lt1 {k : ℕ} (h : k < k0_t1_loop.trips) : k < 16 := lt_of_lt_of_eq h trips1
theorem lt2 {k : ℕ} (h : k < k0_t2_loop.trips) : k < 16 := lt_of_lt_of_eq h trips2

section

variable (g : BitVec 32) (v20 : FVec F S256x256 .bf16) (v26 : F .f32)
variable (P : Vec F S4112x256 .f32) (D : Vec F S4096x256 .f32) (S : Vec F S1x256 .f32)

/-- The pooled rows of a trip, from the padded input `P`. -/
def poolC (k : Fin k0_t1_loop.trips) : FVec F S256x256 .bf16 :=
  k0_pay2 g 0#32 1#32 k (rows 272 P (256 * k.val) (by have := lt1 k.isLt; omega))

/-- The cotangent's rows of a trip. -/
def dyC (k : Fin k0_t1_loop.trips) : Vec F S256x256 .f32 := rows 256 D (256 * k.val) (by have := lt1 k.isLt; omega)

/-- A trip's first row, as a word. -/
def row0 (k : Fin k0_t1_loop.trips) : BitVec 32 := Scalar.muli (Scf.iv 0#32 1#32 k) 256#32

/-- The scale's gradient after the trips before `n`, from `d` at the loop's entry. -/
def dsAt (d : Vec F S1x256 .f32) : ℕ → Vec F S1x256 .f32
  | 0 => d
  | n + 1 => if h : n < k0_t1_loop.trips then k0_pay3 v20 (poolC g P ⟨n, h⟩) (dyC D ⟨n, h⟩) (dsAt d n) else dsAt d n

/-- The map's gradient after the trips before `n`. -/
def dwAt (d : Vec F S1x256x256 .f32) : ℕ → Vec F S1x256x256 .f32
  | 0 => d
  | n + 1 => if h : n < k0_t1_loop.trips then k0_pay5 (poolC g P ⟨n, h⟩) (dyC D ⟨n, h⟩) S (dwAt d n) else dwAt d n

/-- The gradient by the window's mean, a trip's rows, and by the pooled rows. -/
def dmC (k : Fin k0_t1_loop.trips) : FVec F S256x256 .f32 := k0_pay7 v20 v26 (row0 k) (dyC D k) S
def dpC (k : Fin k0_t1_loop.trips) : FVec F S256x256 .f32 := k0_pay8 v20 (dyC D k) S

/-- The array a loop leaves when its trip `k` stores rows `256 k …`: the trips before `n` done. -/
def tiled {N : ℕ} {α : Type} (C : Fin k0_t1_loop.trips → S256x256.Idx → α) (B : (⟨2, ![N, 256]⟩ : Shape).Idx → α) (n : ℕ) :
    (⟨2, ![N, 256]⟩ : Shape).Idx → α :=
  fun y => if h : (y 0).val < 256 * n ∧ (y 0).val < 4096 then
    C ⟨(y 0).val / 256, by rw [trips1]; omega⟩ (ix2 ⟨(y 0).val % 256, Nat.mod_lt _ (by decide)⟩ (y 1)) else B y

theorem tiled_zero {N : ℕ} {α : Type} (C : Fin k0_t1_loop.trips → S256x256.Idx → α) (B : (⟨2, ![N, 256]⟩ : Shape).Idx → α) :
    tiled C B 0 = B := funext fun y => dif_neg (fun h => absurd h.1 (by omega))

theorem tiled_ext {N : ℕ} {α : Type} (C : Fin k0_t1_loop.trips → S256x256.Idx → α) (B B' : (⟨2, ![N, 256]⟩ : Shape).Idx → α)
    (h : ∀ y, 4096 ≤ (y 0).val → B y = B' y) : tiled C B 16 = tiled C B' 16 := by
  funext y
  unfold tiled
  by_cases hy : (y 0).val < 4096
  · rw [dif_pos (show _ ∧ _ from ⟨by omega, hy⟩), dif_pos (show _ ∧ _ from ⟨by omega, hy⟩)]
  · rw [dif_neg (by omega), dif_neg (by omega)]; exact h y (by omega)

/-- One more trip's store. -/
theorem tiled_store {σ : RefSig} {κ : Kind} {sp : Space} {N : ℕ} {e : EltTy} (v : View σ κ sp ⟨2, ![N, 256]⟩ e) (f : v.ty.Contents (Elt F))
    (L : List (View.Piece (Elt F) ⟨2, ![N, 256]⟩ e)) (C : Fin k0_t1_loop.trips → S256x256.Idx → Elt F e)
    (k : Fin k0_t1_loop.trips) {off : Fin 2 → ℕ}
    (inb : ∀ a, off a + (![256, 256] : Fin 2 → ℕ) a ≤ (![N, 256] : Fin 2 → ℕ) a) (ho : off = ![256 * k.val, 0])
    (h : v.read (Elt F) (v.writes (Elt F) f L) = tiled C (v.read (Elt F) f) k.val) :
    v.read (Elt F) (v.writes (Elt F) f (⟨Rect.unit (s := ⟨2, ![N, 256]⟩) off ![256, 256] inb, C k⟩ :: L))
      = tiled C (v.read (Elt F) f) (k.val + 1) := by
  have hk := lt1 k.isLt
  funext y
  by_cases hy : 256 * k.val ≤ (y 0).val ∧ (y 0).val < 256 * k.val + 256
  · rw [View.read_writes_cons_rows_of_mem v f inb (C k) L y (ix2 ⟨(y 0).val % 256, Nat.mod_lt _ (by decide)⟩ (y 1)) ho
      (by show (y 0).val = 256 * k.val + (y 0).val % 256; omega) rfl]
    unfold tiled
    rw [dif_pos ⟨by omega, by omega⟩]
    exact congrFun (congrArg C (Fin.ext (by show k.val = (y 0).val / 256; omega))) _
  · rw [View.read_writes_cons_rows_of_not_mem v f inb (C k) L y ho (W := 256) rfl (by omega), h]
    unfold tiled
    by_cases h' : (y 0).val < 256 * k.val ∧ (y 0).val < 4096
    · rw [dif_pos h', dif_pos ⟨by omega, h'.2⟩]
    · rw [dif_neg h', dif_neg (by omega)]

end

section

variable (𝒱 : Variants) (c : Dev nD) (bd : Option 𝒱.V) (i : grid0.Coords)
  (arg1 : Memref sig .tc .vmem S4096x256 .f32) (harg1 : arg1.IsWhole) (arg2 : Memref sig .tc .vmem S4096x256 .bf16) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S4096x256 .bf16) (harg5 : arg5.IsWhole) (arg6 : Memref sig .tc .vmem S1x256x256 .f32) (harg6 : arg6.IsWhole) (arg7 : Memref sig .tc .vmem S1x256 .f32) (harg7 : arg7.IsWhole) (arg8 : Memref sig .tc .vmem S4112x256 .f32) (harg8 : arg8.IsWhole) (arg9 : Memref sig .tc .vmem S4112x256 .f32) (harg9 : arg9.IsWhole) (arg10 : Memref sig .tc .vmem S4096x256 .f32) (harg10 : arg10.IsWhole)
  (g : BitVec 32) (v20 : FVec F S256x256 .bf16) (v26 : F .f32)
  (P : Vec F S4112x256 .f32) (D : Vec F S4096x256 .f32) (S : Vec F S1x256 .f32)

/-- What a trip of the first loop stores. -/
theorem trip1 (X1 : BufTy.Contents (Elt F) arg1.view.ty) (X4 : BufTy.Contents (Elt F) arg4.view.ty)
    (X8 : BufTy.Contents (Elt F) arg8.view.ty) (h1 : arg1.view.read (Elt F) X1 = D) (h4 : arg4.view.read (Elt F) X4 = S)
    (h8 : arg8.view.read (Elt F) X8 = P) (k : Fin k0_t1_loop.trips)
    (f6 : BufTy.Contents (Elt F) arg6.view.ty) (f7 : BufTy.Contents (Elt F) arg7.view.ty)
    (f9 : BufTy.Contents (Elt F) arg9.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 g v20 v26 X1 X4 X8 k f6 f7 f9 f10
      = ([⟨Rect.unit ![0, 0, 0] ![1, 256, 256] inb_S1x256x256_S1x256x256_0_0_0, k0_pay5 (poolC g P k) (dyC D k) S (arg6.view.read (Elt F) f6)⟩],
         [⟨Rect.unit ![0, 0] ![1, 256] inb_S1x256_S1x256_0_0, k0_pay3 v20 (poolC g P k) (dyC D k) (arg7.view.read (Elt F) f7)⟩],
         [⟨Rect.unit (k0_off3 k) ![256, 256] (k0_off3_inb k), dmC v20 v26 D S k⟩],
         [⟨Rect.unit (k0_off2 k) ![256, 256] (k0_off2_inb k), dpC v20 D S k⟩]) := by
  subst h1 h4 h8
  have e8 : arg8.view.readAt (Elt F) (Rect.unit (k0_off1 k) ![272, 256] (k0_off1_inb k)).toLoadRect X8 = _ :=
    readAt_rows arg8.view X8 (k0_off1_inb k) _ (k0_off1_eq k) (by have := lt1 k.isLt; omega)
  have e1 : arg1.view.readAt (Elt F) (Rect.unit (k0_off2 k) ![256, 256] (k0_off2_inb k)).toLoadRect X1 = _ :=
    readAt_rows arg1.view X1 (k0_off2_inb k) _ (k0_off2_eq k) (by have := lt1 k.isLt; omega)
  have e4 := readAt_all arg4.view X4 inb_S1x256_S1x256_0_0 (by decide)
  have e6 := readAt_all arg6.view f6 inb_S1x256x256_S1x256x256_0_0_0 (by decide)
  have e7 := readAt_all arg7.view f7 inb_S1x256_S1x256_0_0 (by decide)
  unfold dmC dpC poolC dyC row0
  rw [← e8, ← e1, ← e4, ← e6, ← e7]
  unfold tripL_k0_t1 trip_k0_t1
  rfl

/-- What a trip of the second loop stores. -/
theorem trip2 (X9 : BufTy.Contents (Elt F) arg9.view.ty) (X10 : BufTy.Contents (Elt F) arg10.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 g X9 X10 k
      = [⟨Rect.unit (k0_off5 k) ![256, 256] (k0_off5_inb k),
          k0_pay1 g (rows 272 (arg9.view.read (Elt F) X9) (256 * k.val) (by have := lt2 k.isLt; omega))
            (rows 256 (arg10.view.read (Elt F) X10) (256 * k.val) (by have := lt2 k.isLt; omega))⟩] := by
  have e9 : arg9.view.readAt (Elt F) (Rect.unit (k0_off4 k) ![272, 256] (k0_off4_inb k)).toLoadRect X9 = _ :=
    readAt_rows arg9.view X9 (k0_off4_inb k) _ (k0_off4_eq k) (by have := lt2 k.isLt; omega)
  have e10 : arg10.view.readAt (Elt F) (Rect.unit (k0_off5 k) ![256, 256] (k0_off5_inb k)).toLoadRect X10 = _ :=
    readAt_rows arg10.view X10 (k0_off5_inb k) _ (k0_off5_eq k) (by have := lt2 k.isLt; omega)
  rw [← e9, ← e10]
  unfold tripL_k0_t2 trip_k0_t2
  rfl

/-- What the first loop's buffers hold before trip `n`. -/
theorem loop1 (X1 : BufTy.Contents (Elt F) arg1.view.ty) (X4 : BufTy.Contents (Elt F) arg4.view.ty)
    (X8 : BufTy.Contents (Elt F) arg8.view.ty) (h1 : arg1.view.read (Elt F) X1 = D) (h4 : arg4.view.read (Elt F) X4 = S)
    (h8 : arg8.view.read (Elt F) X8 = P)
    (G6 : BufTy.Contents (Elt F) arg6.view.ty) (G7 : BufTy.Contents (Elt F) arg7.view.ty)
    (G9 : BufTy.Contents (Elt F) arg9.view.ty) (G10 : BufTy.Contents (Elt F) arg10.view.ty) (n : ℕ) (hn : n ≤ 16) :
    arg6.view.read (Elt F) (arg6.view.writes (Elt F) G6 (pb_k0_t1 (F := F) 𝒱 c bd i arg1 harg1 arg2 harg2 arg3 harg3 arg4 harg4 arg5 harg5 arg6 harg6 arg7 harg7 arg8 harg8 arg9 harg9 arg10 harg10 g v20 v26 X1 X4 X8 G6 G7 G9 G10 n).1)
        = dwAt g P D S (arg6.view.read (Elt F) G6) n
      ∧ arg7.view.read (Elt F) (arg7.view.writes (Elt F) G7 (pb_k0_t1 (F := F) 𝒱 c bd i arg1 harg1 arg2 harg2 arg3 harg3 arg4 harg4 arg5 harg5 arg6 harg6 arg7 harg7 arg8 harg8 arg9 harg9 arg10 harg10 g v20 v26 X1 X4 X8 G6 G7 G9 G10 n).2.1)
        = dsAt g v20 P D (arg7.view.read (Elt F) G7) n
      ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 g v20 v26 X1 X4 X8 G6 G7 G9 G10 n).2.2.1)
        = tiled (dmC v20 v26 D S) (arg9.view.read (Elt F) G9) n
      ∧ arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 g v20 v26 X1 X4 X8 G6 G7 G9 G10 n).2.2.2)
        = tiled (dpC v20 D S) (arg10.view.read (Elt F) G10) n := by
  induction n with
  | zero => exact ⟨rfl, rfl, (tiled_zero _ _).symm, (tiled_zero _ _).symm⟩
  | succ n ih =>
    obtain ⟨i6, i7, i9, i10⟩ := ih (by omega)
    have hlt : n < k0_t1_loop.trips := by rw [trips1]; omega
    have e := pb_k0_t1_succ (F := F) 𝒱 c bd i arg1 harg1 arg2 harg2 arg3 harg3 arg4 harg4 arg5 harg5 arg6 harg6 arg7 harg7 arg8 harg8 arg9 harg9 arg10 harg10 g v20 v26 X1 X4 X8 G6 G7 G9 G10 ⟨n, hlt⟩
    rw [trip1 𝒱 c bd i arg1 harg1 arg2 harg2 arg3 harg3 arg4 harg4 arg5 harg5 arg6 harg6 arg7 harg7 arg8 harg8 arg9 harg9 arg10 harg10 g v20 v26 P D S X1 X4 X8 h1 h4 h8, i6, i7] at e
    rw [show n + 1 = (⟨n, hlt⟩ : Fin k0_t1_loop.trips).val + 1 from rfl, e]
    refine ⟨?_, ?_, ?_, ?_⟩
    · refine (View.read_writes_full arg6.view G6 inb_S1x256x256_S1x256x256_0_0_0 _ _).trans ?_
      rw [dwAt, dif_pos hlt]
    · refine (View.read_writes_full arg7.view G7 inb_S1x256_S1x256_0_0 _ _).trans ?_
      rw [dsAt, dif_pos hlt]
    · exact tiled_store arg9.view G9 _ (dmC v20 v26 D S) ⟨n, hlt⟩ (k0_off3_inb _) (k0_off3_eq _) i9
    · exact tiled_store arg10.view G10 _ (dpC v20 D S) ⟨n, hlt⟩ (k0_off2_inb _) (k0_off2_eq _) i10

/-- The rows a trip of the second loop stores, from the two arrays the first loop leaves. -/
def dxC (M : Vec F S4112x256 .f32) (Q : Vec F S4096x256 .f32) (k : Fin k0_t1_loop.trips) : FVec F S256x256 .bf16 :=
  k0_pay1 g (rows 272 M (256 * k.val) (by have := lt1 k.isLt; omega)) (rows 256 Q (256 * k.val) (by have := lt1 k.isLt; omega))

/-- What the second loop's buffer holds before trip `n`. -/
theorem loop2 (X9 : BufTy.Contents (Elt F) arg9.view.ty) (X10 : BufTy.Contents (Elt F) arg10.view.ty)
    (G5 : BufTy.Contents (Elt F) arg5.view.ty) (n : ℕ) (hn : n ≤ 16) :
    arg5.view.read (Elt F) (arg5.view.writes (Elt F) G5 (pb_k0_t2 (F := F) 𝒱 c bd i arg1 harg1 arg2 harg2 arg3 harg3 arg4 harg4 arg5 harg5 arg6 harg6 arg7 harg7 arg8 harg8 arg9 harg9 arg10 harg10 g X9 X10 n))
      = tiled (dxC g (arg9.view.read (Elt F) X9) (arg10.view.read (Elt F) X10)) (arg5.view.read (Elt F) G5) n := by
  induction n with
  | zero => exact (tiled_zero _ _).symm
  | succ n ih =>
    have hlt : n < k0_t2_loop.trips := by rw [trips2]; omega
    have hlt1 : n < k0_t1_loop.trips := by rw [trips1]; omega
    have e := pb_k0_t2_succ (F := F) 𝒱 c bd i arg1 harg1 arg2 harg2 arg3 harg3 arg4 harg4 arg5 harg5 arg6 harg6 arg7 harg7 arg8 harg8 arg9 harg9 arg10 harg10 g X9 X10 ⟨n, hlt⟩
    rw [trip2 𝒱 c bd i arg1 harg1 arg2 harg2 arg3 harg3 arg4 harg4 arg5 harg5 arg6 harg6 arg7 harg7 arg8 harg8 arg9 harg9 arg10 harg10] at e
    rw [show n + 1 = (⟨n, hlt⟩ : Fin k0_t2_loop.trips).val + 1 from rfl, e]
    exact tiled_store arg5.view G5 _ (dxC g (arg9.view.read (Elt F) X9) (arg10.view.read (Elt F) X10)) ⟨n, hlt1⟩
      (k0_off5_inb ⟨n, hlt⟩) (k0_off5_eq ⟨n, hlt⟩) (ih (by omega))

end

end Cert.Pool

end
-- ==== Proof.PoolBody.lean ====
/-
  One point of the pooling gradient: its body's run, and what it leaves in the three outputs.
-/
module

public import proofs.«01_k».proof.Proof.PoolLoops
public import proofs.«01_k».proof.Proof.Gen.Kernel6Ideal.Frame.Runs

@[expose] public section

set_option maxRecDepth 16384

noncomputable section

namespace Cert.Pool

open Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (i : grid0.Coords) (x0 : Vec F S4096x256 .f32) (x1 : Vec F S4096x256 .bf16) (x2 : Vec F S1x256x256 .bf16)
  (x3 : Vec F S1x256 .f32)

/-- The group a point works on, as a word. -/
def grp : BitVec 32 := BitVec.ofNat 32 (i 0).val

/-- The input below 16 rows of zeros. -/
def padV : Vec F S4112x256 .f32 := fun y =>
  if h : (y 0).val < 16 then k0_pay9 (F := F) (ix2 ⟨(y 0).val, h⟩ (y 1))
  else k0_pay10 x1 (ix2 ⟨(y 0).val - 16, by have : (y 0).val < 4112 := (y 0).isLt; omega⟩ (y 1))

/-- The gradient by the window's mean, above 16 rows of zeros. -/
def dmV : Vec F S4112x256 .f32 :=
  tiled (dmC (k0_pay14 x2) (k0_pay15 (F := F) i) x0 x3)
    (fun y => k0_pay11 (F := F) (ix2 ⟨(y 0).val % 16, Nat.mod_lt _ (by decide)⟩ (y 1))) 16

/-- The gradient by the pooled rows. -/
def dpV : Vec F S4096x256 .f32 := tiled (dpC (k0_pay14 x2) x0 x3) x0 16

/-- What a point leaves in its three outputs. -/
def out4 : Vec F S4096x256 .bf16 := tiled (dxC (grp i) (dmV i x0 x2 x3) (dpV x0 x2 x3)) x1 16
def out5 : Vec F S1x256x256 .f32 := dwAt (grp i) (padV x1) x0 x3 (k0_pay12 (F := F)) 16
def out6 : Vec F S1x256 .f32 := dsAt (grp i) (k0_pay14 x2) (padV x1) x0 (k0_pay13 (F := F)) 16

end

theorem read_pad {σ : RefSig} {κ : Kind} {sp : Space} (v : View σ κ sp S4112x256 .f32) (f : v.ty.Contents (Elt F)) (x1 : Vec F S4096x256 .bf16) :
    v.read (Elt F) (v.writes (Elt F) f
      [⟨Rect.unit (s := S4112x256) ![16, 0] ![4096, 256] inb_S4112x256_S4096x256_16_0, k0_pay10 x1⟩,
       ⟨Rect.unit (s := S4112x256) ![0, 0] ![16, 256] inb_S4112x256_S16x256_0_0, k0_pay9 (F := F)⟩]) = padV x1 := by
  funext y
  have hy : (y 0).val < 4112 := (y 0).isLt
  unfold padV
  by_cases h : (y 0).val < 16
  · rw [dif_pos h]
    refine (View.read_writes_cons_rows_of_not_mem v f _ _ _ y rfl (W := 4096) rfl (by omega)).trans ?_
    exact View.read_writes_cons_rows_of_mem v f _ _ _ y (ix2 ⟨(y 0).val, h⟩ (y 1)) rfl (Nat.zero_add _).symm rfl
  · rw [dif_neg h]
    exact View.read_writes_cons_rows_of_mem v f _ _ _ y (ix2 ⟨(y 0).val - 16, by omega⟩ (y 1)) rfl
      (by show (y 0).val = 16 + ((y 0).val - 16); omega) rfl

theorem read_foot {κ : Kind} {sp : Space} (v : View sig κ sp S4112x256 .f32) (f : v.ty.Contents (Elt F)) (y : S4112x256.Idx)
    (h : 4096 ≤ (y 0).val) :
    v.read (Elt F) (v.writes (Elt F) f
      [⟨Rect.unit (s := S4112x256) ![4096, 0] ![16, 256] inb_S4112x256_S16x256_4096_0, k0_pay11 (F := F)⟩]) y
      = k0_pay11 (F := F) (ix2 ⟨(y 0).val % 16, Nat.mod_lt _ (by decide)⟩ (y 1)) := by
  have hy : (y 0).val < 4112 := (y 0).isLt
  exact View.read_writes_cons_rows_of_mem v f _ _ _ y (ix2 ⟨(y 0).val % 16, Nat.mod_lt _ (by decide)⟩ (y 1)) rfl
    (by show (y 0).val = 4096 + (y 0).val % 16; omega) rfl

/-- The two loops' ends, from what the lines above them leave. -/
theorem ends (c : Dev nD) (i : grid0.Coords)
    (arg1 : Memref sig .tc .vmem S4096x256 .f32) (harg1 : arg1.IsWhole) (arg2 : Memref sig .tc .vmem S4096x256 .bf16) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S4096x256 .bf16) (harg5 : arg5.IsWhole) (arg6 : Memref sig .tc .vmem S1x256x256 .f32) (harg6 : arg6.IsWhole) (arg7 : Memref sig .tc .vmem S1x256 .f32) (harg7 : arg7.IsWhole) (arg8 : Memref sig .tc .vmem S4112x256 .f32) (harg8 : arg8.IsWhole) (arg9 : Memref sig .tc .vmem S4112x256 .f32) (harg9 : arg9.IsWhole) (arg10 : Memref sig .tc .vmem S4096x256 .f32) (harg10 : arg10.IsWhole)
    (x0 : Vec F S4096x256 .f32) (x1 : Vec F S4096x256 .bf16) (x2 : Vec F S1x256x256 .bf16) (x3 : Vec F S1x256 .f32)
    (v20 : FVec F S256x256 .bf16) (hv : v20 = k0_pay14 x2)
    (X8 : BufTy.Contents (Elt F) arg8.view.ty) (h8 : arg8.view.read (Elt F) X8 = padV x1)
    (G6 : BufTy.Contents (Elt F) arg6.view.ty) (h6 : arg6.view.read (Elt F) G6 = k0_pay12 (F := F))
    (G7 : BufTy.Contents (Elt F) arg7.view.ty) (h7 : arg7.view.read (Elt F) G7 = k0_pay13 (F := F))
    (G9 : BufTy.Contents (Elt F) arg9.view.ty)
    (h9 : ∀ y : S4112x256.Idx, 4096 ≤ (y 0).val →
      arg9.view.read (Elt F) G9 y = k0_pay11 (F := F) (ix2 ⟨(y 0).val % 16, Nat.mod_lt _ (by decide)⟩ (y 1)))
    (G10 : BufTy.Contents (Elt F) arg10.view.ty) (G5 : BufTy.Contents (Elt F) arg5.view.ty)
    (n : ℕ) (hn : n = 16) (n' : ℕ) (hn' : n' = 16) :
    arg6.view.read (Elt F) (arg6.view.writes (Elt F) G6 (pb_k0_t1 (F := F) Variants.none c none i arg1 harg1 arg2 harg2 arg3 harg3 arg4 harg4 arg5 harg5 arg6 harg6 arg7 harg7 arg8 harg8 arg9 harg9 arg10 harg10 (BitVec.ofNat 32 (i 0).val) v20 (k0_pay15 i) (harg1.unread x0) (harg4.unread x3) X8 G6 G7 G9 G10 n).1)
        = out5 i x0 x1 x3
      ∧ arg7.view.read (Elt F) (arg7.view.writes (Elt F) G7 (pb_k0_t1 (F := F) Variants.none c none i arg1 harg1 arg2 harg2 arg3 harg3 arg4 harg4 arg5 harg5 arg6 harg6 arg7 harg7 arg8 harg8 arg9 harg9 arg10 harg10 (BitVec.ofNat 32 (i 0).val) v20 (k0_pay15 i) (harg1.unread x0) (harg4.unread x3) X8 G6 G7 G9 G10 n).2.1)
        = out6 i x0 x1 x2
      ∧ arg5.view.read (Elt F) (arg5.view.writes (Elt F) G5 (pb_k0_t2 (F := F) Variants.none c none i arg1 harg1 arg2 harg2 arg3 harg3 arg4 harg4 arg5 harg5 arg6 harg6 arg7 harg7 arg8 harg8 arg9 harg9 arg10 harg10 (BitVec.ofNat 32 (i 0).val)
          (arg9.view.writes (Elt F) G9 (pb_k0_t1 (F := F) Variants.none c none i arg1 harg1 arg2 harg2 arg3 harg3 arg4 harg4 arg5 harg5 arg6 harg6 arg7 harg7 arg8 harg8 arg9 harg9 arg10 harg10 (BitVec.ofNat 32 (i 0).val) v20 (k0_pay15 i) (harg1.unread x0) (harg4.unread x3) X8 G6 G7 G9 G10 n).2.2.1)
          (arg10.view.writes (Elt F) G10 (pb_k0_t1 (F := F) Variants.none c none i arg1 harg1 arg2 harg2 arg3 harg3 arg4 harg4 arg5 harg5 arg6 harg6 arg7 harg7 arg8 harg8 arg9 harg9 arg10 harg10 (BitVec.ofNat 32 (i 0).val) v20 (k0_pay15 i) (harg1.unread x0) (harg4.unread x3) X8 G6 G7 G9 G10 n).2.2.2) n'))
        = out4 i x0 x1 x2 x3 := by
  subst hv hn hn'
  obtain ⟨e6, e7, e9, e10⟩ := loop1 (F := F) Variants.none c none i arg1 harg1 arg2 harg2 arg3 harg3 arg4 harg4 arg5 harg5 arg6 harg6 arg7 harg7 arg8 harg8 arg9 harg9 arg10 harg10 (BitVec.ofNat 32 (i 0).val) (k0_pay14 x2) (k0_pay15 i) (padV x1) x0 x3
    (harg1.unread x0) (harg4.unread x3) X8 (harg1.read_unread _) (harg4.read_unread _) h8 G6 G7 G9 G10 16 le_rfl
  refine ⟨e6.trans (by rw [h6]; rfl), e7.trans (by rw [h7]; rfl), ?_⟩
  rw [loop2 (F := F) Variants.none c none i arg1 harg1 arg2 harg2 arg3 harg3 arg4 harg4 arg5 harg5 arg6 harg6 arg7 harg7 arg8 harg8 arg9 harg9 arg10 harg10 _ _ _ G5 16 le_rfl, e9, e10,
    tiled_ext _ (arg9.view.read (Elt F) G9) _ h9,
    tiled_ext _ (arg10.view.read (Elt F) G10) x0 (fun y h => absurd (y 0).isLt (Nat.not_lt.2 h)),
    tiled_ext _ (arg5.view.read (Elt F) G5) x1 (fun y h => absurd (y 0).isLt (Nat.not_lt.2 h))]
  rfl

set_option maxHeartbeats 1000000 in
/-- One point's body: what it leaves in the outputs, whatever it finds in them and in the scratch buffers. -/
theorem body (c : Dev nD) (i : grid0.Coords)
    (arg1 : Memref sig .tc .vmem S4096x256 .f32) (harg1 : arg1.IsWhole) (arg2 : Memref sig .tc .vmem S4096x256 .bf16) (harg2 : arg2.IsWhole) (arg3 : Memref sig .tc .vmem S1x256x256 .bf16) (harg3 : arg3.IsWhole) (arg4 : Memref sig .tc .vmem S1x256 .f32) (harg4 : arg4.IsWhole) (arg5 : Memref sig .tc .vmem S4096x256 .bf16) (harg5 : arg5.IsWhole) (arg6 : Memref sig .tc .vmem S1x256x256 .f32) (harg6 : arg6.IsWhole) (arg7 : Memref sig .tc .vmem S1x256 .f32) (harg7 : arg7.IsWhole) (arg8 : Memref sig .tc .vmem S4112x256 .f32) (harg8 : arg8.IsWhole) (arg9 : Memref sig .tc .vmem S4112x256 .f32) (harg9 : arg9.IsWhole) (arg10 : Memref sig .tc .vmem S4096x256 .f32) (harg10 : arg10.IsWhole)
    (x0 : Vec F S4096x256 .f32) (x1 : Vec F S4096x256 .bf16) (x2 : Vec F S1x256x256 .bf16) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare (out4 i x0 x1 x2 x3)
          ∗ owns (c : Thread nD τ) arg6 fullShare (out5 i x0 x1 x3) ∗ owns (c : Thread nD τ) arg7 fullShare (out6 i x0 x1 x2)
          ∗ (∃ d, owns (c : Thread nD τ) arg8 fullShare d) ∗ (∃ d, owns (c : Thread nD τ) arg9 fullShare d)
          ∗ (∃ d, owns (c : Thread nD τ) arg10 fullShare d)) -∗ K ⟨⟩))
      ⊢ wp frame (wpE (defs₀ (F := F)) Variants.none c none) E (cc0_l0_pool_bwd i arg1 harg1 arg2 harg2 arg3 harg3 arg4 harg4 arg5 harg5 arg6 harg6 arg7 harg7 arg8 harg8 arg9 harg9 arg10 harg10) K := by
  simp only [cc0_l0_pool_bwd_eq_skeleton]; unfold cc0_l0_pool_bwd_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have hv : body.sl.r c arg3 harg3 x2 = k0_pay14 x2 :=
    congrArg k0_pay14 ((readAt_all arg3.view _ inb_S1x256x256_S1x256x256_0_0_0 (by decide)).trans (harg3.read_unread _))
  have h8 : arg8.view.read (Elt F) (arg8.view.writes (Elt F) arg8.view.junk (body.sl.HS0_2 c arg2 harg2 x1)) = padV x1 :=
    (congrArg (fun z : Vec F S4096x256 .bf16 => arg8.view.read (Elt F) (arg8.view.writes (Elt F) arg8.view.junk
      [⟨Rect.unit (s := S4112x256) ![16, 0] ![4096, 256] inb_S4112x256_S4096x256_16_0, k0_pay10 z⟩,
       ⟨Rect.unit (s := S4112x256) ![0, 0] ![16, 256] inb_S4112x256_S16x256_0_0, k0_pay9 (F := F)⟩]))
      ((readAt_all arg2.view _ inb_S4096x256_S4096x256_0_0 (by decide)).trans (harg2.read_unread x1))).trans
      (read_pad arg8.view arg8.view.junk x1)
  have he := ends c i arg1 harg1 arg2 harg2 arg3 harg3 arg4 harg4 arg5 harg5 arg6 harg6 arg7 harg7 arg8 harg8 arg9 harg9 arg10 harg10 x0 x1 x2 x3 _ hv _ h8
    (arg6.view.writes (Elt F) arg6.view.junk body.sl.H5_1) (View.read_writes_full arg6.view _ inb_S1x256x256_S1x256x256_0_0_0 _ [])
    (arg7.view.writes (Elt F) arg7.view.junk body.sl.H6_1) (View.read_writes_full arg7.view _ inb_S1x256_S1x256_0_0 _ [])
    _ (read_foot arg9.view fs1) fs2 f4 _ trips1 _ trips2
  simp only [View.writes_append]
  isplitl [H4]
  · iexists _; isplitr; swap; · iexact H4
    ipureintro; exact he.2.2
  isplitl [H5]
  · iexists _; isplitr; swap; · iexact H5
    ipureintro; exact he.1
  isplitl [H6]
  · iexists _; isplitr; swap; · iexact H6
    ipureintro; exact he.2.1
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Pool

end
-- ==== Proof.PoolPay.lean ====
/- What a group's blocks of the pooling gradient hold over the reals. -/
module

public import proofs.«01_k».proof.Proof.PoolMath
public import proofs.«01_k».proof.Proof.PoolBody
public import Idealize.ShloMosaic.Lib.Pointwise

@[expose] public section

set_option maxRecDepth 16384

noncomputable section

namespace Cert.Pool

open Idealize.ShloMosaic Idealize.ShloMosaic.TcCoe Idealize.SL.Sem Cert.Kernel6Ideal Cert.Kernel6Ideal.Gen Cert.Reals Finset

/-! ## Windows by doubling -/

theorem rotated (n : BitVec 32) (v : S272x256.Idx → EReal) (h : S272x256.Rotates 0 none) (c : Fin 256) (z z' : Fin 272)
    (e : (z.val + 272 - n.toNat % 272) % 272 = z'.val) : dynamicRotate 0 n none v h (ix2 z c) = v (ix2 z' c) := by
  refine congrArg v (funext fun b => ?_)
  fin_cases b
  · exact Fin.ext e
  · rfl

/-- An array plus itself, turned by `n` rows. -/
def twice (n : BitVec 32) (v : S272x256.Idx → EReal) : S272x256.Idx → EReal :=
  addf (F := Ideal) (φ := .f32) v (dynamicRotate 0 n none v rotates_S272x256_d0)

theorem twice_back (w : ℕ) (n : BitVec 32) (hn : n.toNat = w) (hw : w < 272) (v : S272x256.Idx → EReal) (f : ℕ → ℝ) (c : Fin 256)
    (hv : ∀ z : Fin 272, w ≤ z.val + 1 → v (ix2 z c) = ((∑ s ∈ Ico (z.val + 1 - w) (z.val + 1), f s : ℝ) : EReal)) (z : Fin 272) (hz : 2 * w ≤ z.val + 1) :
    twice n v (ix2 z c) = ((∑ s ∈ Ico (z.val + 1 - 2 * w) (z.val + 1), f s : ℝ) : EReal) := by
  have hz' := z.isLt
  show v (ix2 z c) + dynamicRotate 0 n none v _ (ix2 z c) = _
  rcases Nat.eq_zero_or_pos w with h0 | h0
  · subst h0
    rw [rotated n v _ c z z (by rw [hn]; omega), hv z (by omega), add_coe]
    simp
  · rw [rotated n v _ c z ⟨z.val - w, by omega⟩ (by rw [hn]; show _ = z.val - w; omega), hv z (by omega), hv _ (by show w ≤ z.val - w + 1; omega), add_coe,
      double_back w f z.val hz]

theorem twice_ahead (w : ℕ) (n : BitVec 32) (hn : n.toNat = 272 - w) (hw : 0 < w) (v : S272x256.Idx → EReal) (f : ℕ → ℝ) (c : Fin 256)
    (hv : ∀ z : Fin 272, z.val + w ≤ 272 → v (ix2 z c) = ((ahead w f z.val : ℝ) : EReal)) (z : Fin 272) (hz : z.val + 2 * w ≤ 272) :
    twice n v (ix2 z c) = ((ahead (2 * w) f z.val : ℝ) : EReal) := by
  show v (ix2 z c) + dynamicRotate 0 n none v _ (ix2 z c) = _
  rw [rotated n v _ c z ⟨z.val + w, by omega⟩ (by rw [hn]; show _ = z.val + w; omega), hv z (by omega), hv _ (by show z.val + w + w ≤ 272; omega), add_coe,
    double_ahead]

/-- The four windows of an array of rows. -/
def turns (a b c d : BitVec 32) (v : S272x256.Idx → EReal) : Fin 4 → S272x256.Idx → EReal
  | 0 => twice a v
  | 1 => twice b (twice a v)
  | 2 => twice c (twice b (twice a v))
  | 3 => twice d (twice c (twice b (twice a v)))

theorem turns_back (v : S272x256.Idx → EReal) (f : ℕ → ℝ) (c : Fin 256) (hv : ∀ z : Fin 272, v (ix2 z c) = (f z.val : EReal)) (g : Fin 4) (z : Fin 272)
    (hz : 16 ≤ z.val) : turns 1#32 2#32 4#32 8#32 v g (ix2 z c) = ((∑ s ∈ Ico (z.val + 1 - wd g.val) (z.val + 1), f s : ℝ) : EReal) := by
  have h1 := twice_back 1 1#32 rfl (by omega) v f c (fun z _ => by rw [hv, Nat.add_sub_cancel, Nat.Ico_succ_singleton, sum_singleton])
  have h2 := twice_back 2 2#32 rfl (by omega) _ f c h1
  have h4 := twice_back 4 4#32 rfl (by omega) _ f c h2
  have h8 := twice_back 8 8#32 rfl (by omega) _ f c h4
  fin_cases g
  · exact h1 z (by omega)
  · exact h2 z (by omega)
  · exact h4 z (by omega)
  · exact h8 z (by omega)

theorem turns_ahead (v : S272x256.Idx → EReal) (f : ℕ → ℝ) (c : Fin 256) (hv : ∀ z : Fin 272, v (ix2 z c) = (f z.val : EReal)) (g : Fin 4) (z : Fin 272)
    (hz : z.val < 256) : turns 271#32 270#32 268#32 264#32 v g (ix2 z c) = ((ahead (wd g.val) f z.val : ℝ) : EReal) := by
  have h1 := twice_ahead 1 271#32 rfl (by omega) v f c (fun z _ => by unfold ahead; rw [hv, Nat.Ico_succ_singleton, sum_singleton])
  have h2 := twice_ahead 2 270#32 rfl (by omega) _ f c h1
  have h4 := twice_ahead 4 268#32 rfl (by omega) _ f c h2
  have h8 := twice_ahead 8 264#32 rfl (by omega) _ f c h4
  fin_cases g
  · exact h1 z (by show z.val + 2 ≤ 272; omega)
  · exact h2 z (by show z.val + 4 ≤ 272; omega)
  · exact h4 z (by show z.val + 8 ≤ 272; omega)
  · exact h8 z (by show z.val + 16 ≤ 272; omega)

/-- The choice by a group's number. -/
theorem choose {α : Type} (g : Fin 4) (x : Fin 4 → α) :
    Scalar.select (Scalar.cmpi .eq (BitVec.ofNat 32 g.val) 0#32) (x 0) (Scalar.select (Scalar.cmpi .eq (BitVec.ofNat 32 g.val) 1#32) (x 1)
      (Scalar.select (Scalar.cmpi .eq (BitVec.ofNat 32 g.val) 2#32) (x 2) (x 3))) = x g := by
  fin_cases g <;> rfl

/-- A group's window, as the number the kernel divides by. -/
def wins : Fin 4 → EReal
  | 0 => Ideal.ofBits .f32 0x40000000#32
  | 1 => Ideal.ofBits .f32 0x40800000#32
  | 2 => Ideal.ofBits .f32 0x41000000#32
  | 3 => Ideal.ofBits .f32 0x41800000#32

theorem wins_eq (g : Fin 4) : wins g = ((wd g.val : ℝ) : EReal) := by
  fin_cases g
  · exact f2
  · exact f4
  · exact f8
  · exact f16

/-! ## A trip -/

theorem row0_eq : ∀ k : Fin k0_t1_loop.trips, row0 k = BitVec.ofNat 32 (256 * k.val) := by decide +kernel

theorem place (k : Fin k0_t1_loop.trips) (r : Fin 256) :
    (FloatOps.sitofp (F := Ideal) .f32 (IntOp.addi (Scalar.addi (row0 k) 1#32) (BitVec.ofNat 32 r.val)) : EReal) = ((((256 * k.val + r.val : ℕ) : ℝ) + 1 : ℝ) : EReal) := by
  have hk := lt1 k.isLt
  have hr := r.isLt
  have e : IntOp.addi (Scalar.addi (row0 k) 1#32) (BitVec.ofNat 32 r.val) = BitVec.ofNat 32 (256 * k.val + r.val + 1) := by
    rw [row0_eq]
    apply BitVec.eq_of_toNat_eq
    show ((BitVec.ofNat 32 (256 * k.val) + 1#32) + BitVec.ofNat 32 r.val).toNat = _
    simp only [BitVec.toNat_add, BitVec.toNat_ofNat]
    omega
  rw [e]
  show (((BitVec.ofNat 32 (256 * k.val + r.val + 1)).toInt : ℝ) : EReal) = _
  rw [BitVec.toInt_eq_toNat_of_lt (by simp; omega), BitVec.toNat_ofNat, Nat.mod_eq_of_lt (by omega)]
  push_cast
  rfl

/-- A chunk's pooled rows, from its window sums `s`. -/
def after (k : Fin k0_t1_loop.trips) (v s : S272x256.Idx → EReal) (b : EReal) : S256x256.Idx → EReal :=
  truncf (F := Ideal) (φ := .f32) .bf16 (subf (F := Ideal) (φ := .f32) (divf (F := Ideal) (φ := .f32) (extractStridedSlice S256x256 ![16, 0] s slices_S272x256_o16_0_S256x256)
    (broadcastTo S256x256 (minimumf (F := Ideal) (φ := .f32) (sitofp .f32 (addi (broadcast S256x1 (Scalar.addi (row0 k) 1#32)) (iota .tc S256x1 32 [0] iota_S256x1_d0_w32)))
      (broadcast S256x1 b)) broadcasts_S256x1_S256x256)) (extractStridedSlice S256x256 ![16, 0] v slices_S272x256_o16_0_S256x256)) bitsLt_bf16_f32

theorem pay2 (g : Fin 4) (k : Fin k0_t1_loop.trips) (v : S272x256.Idx → EReal) :
    k0_pay2 (F := Ideal) (BitVec.ofNat 32 g.val) 0#32 1#32 k v = after k v (turns 1#32 2#32 4#32 8#32 v g) (wins g) := by
  rw [← choose g (turns 1#32 2#32 4#32 8#32 v), ← choose g wins]
  rfl

theorem after_l (k : Fin k0_t1_loop.trips) (v s : S272x256.Idx → EReal) (b : EReal) (r c : Fin 256) :
    after k v s b (ix2 r c) = Ideal.div (s (ix2 ⟨16 + r.val, by omega⟩ c)) (min ((((256 * k.val + r.val : ℕ) : ℝ) + 1 : ℝ) : EReal) b) - v (ix2 ⟨16 + r.val, by omega⟩ c) := by
  rw [← place k r]
  pointwise [after]

/-- The pooled rows of a trip. -/
theorem pool_l (g : Fin 4) (k : Fin k0_t1_loop.trips) (P : S4112x256.Idx → EReal) (f : ℕ → ℝ) (c : Fin 256)
    (hP : ∀ y : Fin 4112, P (ix2 y c) = (padded f y.val : EReal)) (r : Fin 256) :
    poolC (F := Ideal) (BitVec.ofNat 32 g.val) P k (ix2 r c)
      = ((back (wd g.val) f (256 * k.val + r.val) / den g.val (256 * k.val + r.val) - f (256 * k.val + r.val) : ℝ) : EReal) := by
  have hk := lt1 k.isLt
  have hv : ∀ z : Fin 272, rows 272 P (256 * k.val) (by omega) (ix2 z c) = (padded f (256 * k.val + z.val) : EReal) := fun z => hP ⟨256 * k.val + z.val, by omega⟩
  have hw : wd g.val ≤ 16 := by fin_cases g <;> decide
  unfold poolC
  rw [pay2, after_l, turns_back _ (fun z => padded f (256 * k.val + z)) c hv g ⟨16 + r.val, by omega⟩ (by show 16 ≤ 16 + r.val; omega), hv, wins_eq, min_den,
    div_coe _ _ (den_ne _ _), sub_coe, ← back_padded _ hw]
  refine congrArg Real.toEReal ?_
  have e : ∑ s ∈ Ico (16 + r.val + 1 - wd g.val) (16 + r.val + 1), padded f (256 * k.val + s) = ∑ s ∈ Ico (16 + (256 * k.val + r.val) + 1 - wd g.val) (16 + (256 * k.val + r.val) + 1), padded f s := by
    rw [Finset.sum_Ico_add (padded f)]
    congr 2 <;> omega
  rw [e]
  congr 1
  show padded f (256 * k.val + (16 + r.val)) = _
  unfold padded
  rw [if_pos (by omega)]
  congr 1
  omega

end Cert.Pool

end
-- ==== Proof.PoolOut.lean ====
/- What a point of the pooling gradient leaves in its three outputs, over the reals. -/
module

public import proofs.«01_k».proof.Proof.PoolPay

@[expose] public section

set_option maxRecDepth 16384

noncomputable section

namespace Cert.Pool

open Idealize.ShloMosaic Idealize.ShloMosaic.TcCoe Idealize.SL.Sem Cert.Kernel6Ideal Cert.Kernel6Ideal.Gen Cert.Reals Finset

variable (Y : S4096x1024.Idx → ℝ) (X : S4096x12288.Idx → ℝ) (W : S4x256x256.Idx → ℝ) (S : S1024.Idx → ℝ) (g : Fin 4)

/-- A group's blocks of the arguments. -/
def b0 : S4096x256.Idx → EReal := fun y => (Y (ix2 (y 0) (at4 g (y 1))) : EReal)
def b1 : S4096x256.Idx → EReal := fun y => (xcol X g (y 1) (y 0) : EReal)
def b2 : S1x256x256.Idx → EReal := fun y => (W (ix3 g (y 1) (y 2)) : EReal)
def b3 : S1x256.Idx → EReal := fun y => (S (ix1 (at4 g (y 1))) : EReal)

/-- A trip's row. -/
def tk (k : Fin k0_t1_loop.trips) (r : Fin 256) : Fin 4096 := ⟨256 * k.val + r.val, by have := lt1 k.isLt; omega⟩

theorem pad_l (c : Fin 256) (y : Fin 4112) : padV (F := Ideal) (b1 X g) (ix2 y c) = (padded (ext (xcol X g c)) y.val : EReal) := by
  have hy := y.isLt
  unfold padded padV
  by_cases h : y.val < 16
  · refine (dif_pos h).trans ?_
    rw [if_neg (by omega)]
    pointwise [k0_pay9]
    rfl
  · refine (dif_neg h).trans ?_
    rw [if_pos (by omega)]
    pointwise [k0_pay10]
    exact congrArg Real.toEReal (ext_lt (xcol X g c) ⟨y.val - 16, by omega⟩).symm

theorem w14 (c d : Fin 256) : k0_pay14 (F := Ideal) (b2 W g) (ix2 c d) = (W (ix3 g c d) : EReal) := by
  pointwise [k0_pay14]
  rfl

theorem w15 (i : grid0.Coords) (hi : (i 0).val = g.val) : k0_pay15 (F := Ideal) i = wins g := by
  rw [← choose g wins, ← hi]
  pointwise [k0_pay15]
  rfl

theorem pool_k (k : Fin k0_t1_loop.trips) (r c : Fin 256) :
    poolC (F := Ideal) (BitVec.ofNat 32 g.val) (padV (b1 X g)) k (ix2 r c) = (pooled X g c (tk k r) : EReal) := by
  rw [pool_l g k _ _ c (pad_l X g c)]
  refine congrArg Real.toEReal ?_
  unfold pooled
  rw [← ext_lt (xcol X g c) (tk k r)]
  rfl

theorem dy_k (k : Fin k0_t1_loop.trips) (r d : Fin 256) : dyC (F := Ideal) (b0 Y g) k (ix2 r d) = (Y (ix2 (tk k r) (at4 g d)) : EReal) := rfl

theorem dp_k (k : Fin k0_t1_loop.trips) (r c : Fin 256) :
    dpC (F := Ideal) (k0_pay14 (b2 W g)) (b0 Y g) (b3 S g) k (ix2 r c) = (dpool Y W S g c (tk k r) : EReal) := by
  pointwise [dpC, k0_pay8, k0_pay6, k0_pay4]
  simp only [dy_k, w14, b3, mul_coe, sum_coe]
  rfl

theorem dm_k (i : grid0.Coords) (hi : (i 0).val = g.val) (k : Fin k0_t1_loop.trips) (r c : Fin 256) :
    dmC (F := Ideal) (k0_pay14 (b2 W g)) (k0_pay15 i) (b0 Y g) (b3 S g) k (ix2 r c) = (dsum Y W S g c (tk k r) : EReal) := by
  pointwise [dmC, k0_pay7, k0_pay6, k0_pay4]
  simp only [place, w15 g i hi, wins_eq, min_den, dy_k, w14, b3, mul_coe, sum_coe, div_coe _ _ (den_ne _ _)]
  rfl

theorem tk_of (t : ℕ) (h : t < 4096) (h1 : t / 256 < k0_t1_loop.trips) : tk ⟨t / 256, h1⟩ ⟨t % 256, Nat.mod_lt _ (by decide)⟩ = ⟨t, h⟩ :=
  Fin.ext (Nat.div_add_mod t 256)

/-- An array filled trip by trip, at a row a trip stores. -/
theorem tiled_at {N : ℕ} (C : Fin k0_t1_loop.trips → S256x256.Idx → EReal) (B : (⟨2, ![N, 256]⟩ : Shape).Idx → EReal) (f : Fin 4096 → ℝ) (c : Fin 256)
    (hC : ∀ k r, C k (ix2 r c) = (f (tk k r) : EReal)) (t : Fin N) (ht : t.val < 4096) : tiled C B 16 (ix2 t c) = (f ⟨t.val, ht⟩ : EReal) := by
  have h : t.val < 256 * 16 ∧ t.val < 4096 := ⟨ht, ht⟩
  have h1 : t.val / 256 < k0_t1_loop.trips := by rw [trips1]; omega
  exact (dif_pos h).trans ((hC ⟨t.val / 256, h1⟩ ⟨t.val % 256, Nat.mod_lt _ (by decide)⟩).trans (by rw [tk_of _ ht]))

theorem dp_l (t : Fin 4096) (c : Fin 256) : dpV (F := Ideal) (b0 Y g) (b2 W g) (b3 S g) (ix2 t c) = (dpool Y W S g c t : EReal) := by
  exact tiled_at _ _ (dpool Y W S g c) c (fun k r => dp_k Y W S g k r c) t t.isLt

theorem dm_l (i : grid0.Coords) (hi : (i 0).val = g.val) (y : Fin 4112) (c : Fin 256) :
    dmV (F := Ideal) i (b0 Y g) (b2 W g) (b3 S g) (ix2 y c) = (ext (dsum Y W S g c) y.val : EReal) := by
  by_cases hy : y.val < 4096
  · exact (tiled_at _ _ (dsum Y W S g c) c (fun k r => dm_k Y W S g i hi k r c) y hy).trans (congrArg Real.toEReal (ext_lt (dsum Y W S g c) ⟨y.val, hy⟩).symm)
  · refine (dif_neg fun h => hy h.2).trans ?_
    rw [ext_ge _ _ (by omega)]
    pointwise [k0_pay11]
    rfl

/-- A chunk of the second loop, from its window sums `s`. -/
def less (s : S272x256.Idx → EReal) (q : S256x256.Idx → EReal) : S256x256.Idx → EReal :=
  truncf (F := Ideal) (φ := .f32) .bf16 (subf (F := Ideal) (φ := .f32) (extractStridedSlice S256x256 ![0, 0] s slices_S272x256_o0_0_S256x256) q) bitsLt_bf16_f32

theorem pay1 (v : S272x256.Idx → EReal) (q : S256x256.Idx → EReal) :
    k0_pay1 (F := Ideal) (BitVec.ofNat 32 g.val) v q = less (turns 271#32 270#32 268#32 264#32 v g) q := by
  rw [← choose g (turns 271#32 270#32 268#32 264#32 v)]
  rfl

theorem less_l (s : S272x256.Idx → EReal) (q : S256x256.Idx → EReal) (r c : Fin 256) :
    less s q (ix2 r c) = s (ix2 ⟨r.val, by omega⟩ c) - q (ix2 r c) := by
  pointwise [less]

theorem dx_k (i : grid0.Coords) (hi : (i 0).val = g.val) (k : Fin k0_t1_loop.trips) (r c : Fin 256) :
    dxC (F := Ideal) (BitVec.ofNat 32 g.val) (dmV i (b0 Y g) (b2 W g) (b3 S g)) (dpV (b0 Y g) (b2 W g) (b3 S g)) k (ix2 r c) = (dx Y W S g c (tk k r) : EReal) := by
  have hk := lt1 k.isLt
  have hv : ∀ z : Fin 272, rows 272 (dmV (F := Ideal) i (b0 Y g) (b2 W g) (b3 S g)) (256 * k.val) (by omega) (ix2 z c) = (ext (dsum Y W S g c) (256 * k.val + z.val) : EReal) :=
    fun z => dm_l Y W S g i hi ⟨256 * k.val + z.val, by omega⟩ c
  have hq : rows 256 (dpV (F := Ideal) (b0 Y g) (b2 W g) (b3 S g)) (256 * k.val) (by omega) (ix2 r c) = (dpool Y W S g c (tk k r) : EReal) := dp_l Y W S g (tk k r) c
  unfold dxC
  rw [pay1, less_l, turns_ahead _ (fun z => ext (dsum Y W S g c) (256 * k.val + z)) c hv g ⟨r.val, by omega⟩ r.isLt, hq, sub_coe]
  refine congrArg Real.toEReal ?_
  unfold dx ahead
  rw [Finset.sum_Ico_add (ext (dsum Y W S g c))]
  congr 2
  show Ico (r.val + 256 * k.val) (r.val + wd g.val + 256 * k.val) = Ico (256 * k.val + r.val) (256 * k.val + r.val + wd g.val)
  congr 1 <;> omega

theorem out4_l (i : grid0.Coords) (hi : (i 0).val = g.val) (t : Fin 4096) (c : Fin 256) :
    out4 (F := Ideal) i (b0 Y g) (b1 X g) (b2 W g) (b3 S g) (ix2 t c) = (dx Y W S g c t : EReal) := by
  unfold out4 grp
  rw [hi]
  exact tiled_at _ _ (dx Y W S g c) c (fun k r => dx_k Y W S g i hi k r c) t t.isLt

/-! ## The sums over the trips -/

/-- The rows before a trip and the trip's rows. -/
theorem chunk (f : Fin 4096 → ℝ) (k : Fin k0_t1_loop.trips) :
    (∑ s ∈ range (256 * k.val), ext f s) + ∑ r : Fin 256, f (tk k r) = ∑ s ∈ range (256 * (k.val + 1)), ext f s := by
  rw [Nat.mul_succ, Finset.sum_range_add, ← Fin.sum_univ_eq_sum_range (fun r => ext f (256 * k.val + r))]
  exact congrArg _ (sum_congr rfl fun r _ => (ext_lt f (tk k r)).symm)

theorem all (f : Fin 4096 → ℝ) : ∑ s ∈ range 4096, ext f s = ∑ t : Fin 4096, f t := by
  rw [← Fin.sum_univ_eq_sum_range]
  exact sum_congr rfl fun t _ => ext_lt f t

theorem ds_n (d : Fin 256) (n : ℕ) (hn : n ≤ 16) :
    dsAt (F := Ideal) (BitVec.ofNat 32 g.val) (k0_pay14 (b2 W g)) (padV (b1 X g)) (b0 Y g) (k0_pay13 (F := Ideal)) n (ix2 0 d)
      = ((∑ s ∈ range (256 * n), ext (fun t => Y (ix2 t (at4 g d)) * ∑ c : Fin 256, pooled X g c t * W (ix3 g c d)) s : ℝ) : EReal) := by
  induction n with
  | zero =>
    unfold dsAt
    pointwise [k0_pay13]
    simp
  | succ n ih =>
    have h : n < k0_t1_loop.trips := by rw [trips1]; omega
    refine (congrFun (dif_pos h) _).trans ?_
    pointwise [k0_pay3]
    rw [ih (by omega)]
    simp only [dy_k, pool_k, w14, mul_coe, sum_coe, add_coe]
    exact congrArg Real.toEReal (chunk (fun t => Y (ix2 t (at4 g d)) * ∑ c : Fin 256, pooled X g c t * W (ix3 g c d)) ⟨n, h⟩)

theorem dw_n (c d : Fin 256) (n : ℕ) (hn : n ≤ 16) :
    dwAt (F := Ideal) (BitVec.ofNat 32 g.val) (padV (b1 X g)) (b0 Y g) (b3 S g) (k0_pay12 (F := Ideal)) n (ix3 0 c d)
      = ((∑ s ∈ range (256 * n), ext (fun t => pooled X g c t * dmix Y S g d t) s : ℝ) : EReal) := by
  induction n with
  | zero =>
    unfold dwAt
    pointwise [k0_pay12]
    simp
  | succ n ih =>
    have h : n < k0_t1_loop.trips := by rw [trips1]; omega
    refine (congrFun (dif_pos h) _).trans ?_
    pointwise [k0_pay5, k0_pay4]
    rw [ih (by omega)]
    simp only [dy_k, pool_k, b3, mul_coe, sum_coe, add_coe]
    exact congrArg Real.toEReal (chunk (fun t => pooled X g c t * dmix Y S g d t) ⟨n, h⟩)

theorem out5_l (i : grid0.Coords) (hi : (i 0).val = g.val) (c d : Fin 256) :
    out5 (F := Ideal) i (b0 Y g) (b1 X g) (b3 S g) (ix3 0 c d) = (dw Y X S g c d : EReal) := by
  unfold out5 grp
  rw [hi, dw_n Y X S g c d 16 le_rfl]
  exact congrArg Real.toEReal (all _)

theorem out6_l (i : grid0.Coords) (hi : (i 0).val = g.val) (d : Fin 256) :
    out6 (F := Ideal) i (b0 Y g) (b1 X g) (b2 W g) (ix2 0 d) = (ds Y X W g d : EReal) := by
  unfold out6 grp
  rw [hi, ds_n Y X W g d 16 le_rfl]
  exact congrArg Real.toEReal (all _)

end Cert.Pool

end
-- ==== Proof.PoolRun.lean ====
/-
  The pooling gradient as a pipeline over four groups of 256 columns: the body at every point, and the frame.
-/
module

public import proofs.«01_k».proof.Proof.PoolBody
public import Idealize.ShloMosaic.Lib.Claim

@[expose] public section

set_option maxRecDepth 16384

noncomputable section

namespace Cert.Pool

open Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every window holds after each point: the inputs their blocks, the outputs what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
    | ⟨5, _⟩ => out5 (grid0.coords t) (iblk m c 0 t) (iblk m c 1 t) (iblk m c 3 t)
    | ⟨6, _⟩ => out6 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (grid0.coords t) (iblk m c 0 t) (iblk m c 1 t) (iblk m c 2 t) (iblk m c 3 t) := by dsimp only [dats]
theorem after0_5 (c : Dev nD) (t : Fin cfg0.N) : (dats m 0 c).after 5 t = out5 (grid0.coords t) (iblk m c 0 t) (iblk m c 1 t) (iblk m c 3 t) := by dsimp only [dats]
theorem after0_6 (c : Dev nD) (t : Fin cfg0.N) : (dats m 0 c).after 6 t = out6 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program: every array at what the proof data say, every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Pool

end
-- ==== Proof.PoolKernel.lean ====
/- The arrays the pooling gradient leaves, at finite arguments. -/
module

public import proofs.«01_k».proof.Proof.PoolOut
public import proofs.«01_k».proof.Proof.PoolRun
public import Idealize.ShloMosaic.Lib.Pipeline.ValueKit

@[expose] public section

set_option maxRecDepth 16384

noncomputable section

namespace Cert.Pool

open Idealize.ShloMosaic Idealize.ShloMosaic.TcCoe Idealize.ShloMosaic.Tactic Idealize.SL.Sem Cert.Kernel6Ideal Cert.Kernel6Ideal.Gen Cert.Reals Finset

variable (m : (ℓ : Loc nD τ sig) → Buf (Elt Ideal) ℓ)

/-- The run, each result array named. -/
theorem run_blocks (ρ : Dev nD → PrngReg) :
    θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

variable (c : Dev nD) (Y : S4096x1024.Idx → ℝ) (X : S4096x12288.Idx → ℝ) (W : S4x256x256.Idx → ℝ) (S : S1024.Idx → ℝ)

theorem npoints : cfg0.N = 4 := by decide

/-- A point's group. -/
def gp (t : Fin cfg0.N) : Fin 4 := ⟨t.val, t.isLt.trans_eq npoints⟩

theorem coord : ∀ t : Fin cfg0.N, ((grid0.coords t) 0).val = (gp t).val := (by decide +kernel : ∀ t : Fin grid0.N, _)

theorem idx : ∀ t : Fin cfg0.N, win0_0.index t = ![0, t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val] :=
  (by decide +kernel : ∀ t : Fin grid0.N, _)

theorem blk0 (h : m ((c : Thread nD τ).loc main_arg0) = fun i => (Y i : EReal)) (t : Fin cfg0.N) : iblk m c 0 t = b0 Y (gp t) := by
  funext y
  blk_simp [iblk]
  rw [show V m c main_arg0 = _ from (V_main_arg0 m c).trans h]
  refine congrArg (fun j => (Y j : EReal)) ?_
  blk_ext [gp, at4, idx t]

theorem blk1 (h : m ((c : Thread nD τ).loc main_arg1) = fun i => (X i : EReal)) (t : Fin cfg0.N) : iblk m c 1 t = b1 X (gp t) := by
  funext y
  blk_simp [iblk]
  rw [show V m c main_arg1 = _ from (V_main_arg1 m c).trans h]
  refine congrArg (fun j => (X j : EReal)) ?_
  blk_ext [gp, idx t]

theorem blk2 (h : m ((c : Thread nD τ).loc main_arg2) = fun i => (W i : EReal)) (t : Fin cfg0.N) : iblk m c 2 t = b2 W (gp t) := by
  funext y
  blk_simp [iblk]
  rw [show V m c main_arg2 = _ from (V_main_arg2 m c).trans h]
  refine congrArg (fun j => (W j : EReal)) ?_
  blk_ext [gp, idx t]

theorem blk3 (h : m ((c : Thread nD τ).loc main_arg3) = fun i => (S i : EReal)) (t : Fin cfg0.N) : iblk m c 3 t = b3 S (gp t) := by
  funext y
  have e : (win0_3.blk t).view.emb y = ix2 (0 : Fin 1) (at4 (gp t) (y 1)) := by blk_ext [gp, at4, idx t]
  blk_simp [iblk]
  rw [e]
  entry_read
  rw [h]
  pointwise
  rfl

variable (hY : m ((c : Thread nD τ).loc main_arg0) = fun i => (Y i : EReal)) (hX : m ((c : Thread nD τ).loc main_arg1) = fun i => (X i : EReal))
  (hW : m ((c : Thread nD τ).loc main_arg2) = fun i => (W i : EReal)) (hS : m ((c : Thread nD τ).loc main_arg3) = fun i => (S i : EReal))
include hY hX hW hS

/-- A column's group and place. -/
def gOf (j : Fin 1024) : Fin 4 := ⟨j.val / 256, by omega⟩
def cOf (j : Fin 1024) : Fin 256 := ⟨j.val % 256, by omega⟩

omit m c Y X W S hY hX hW hS in
theorem at4_of (j : Fin 1024) : at4 (gOf j) (cOf j) = j := Fin.ext (by show j.val / 256 * 256 + j.val % 256 = j.val; omega)

theorem final4 : (dats m 0 c).arrAt 4 (cfgs 0).N = fun i : S4096x1024.Idx => (dx Y W S (gOf (i 1)) (cOf (i 1)) (i 0) : EReal) := by
  refine (dats m 0 c).arrAt_eq_of_covers 4 _ (by decide +kernel) fun t _ y => ?_
  obtain ⟨a, b, rfl⟩ : ∃ a b, y = ix2 a b := ⟨y 0, y 1, (ix2_self y).symm⟩
  have e : ((cfg0.win 4).blk t).view.emb (ix2 a b) = ix2 a (at4 (gp t) b) := by blk_ext [gp, at4, idx t]
  rw [e]
  blk_simp
  rw [after0_4, blk0 m c Y hY, blk1 m c X hX, blk2 m c W hW, blk3 m c S hS]
  refine (out4_l Y X W S (gp t) _ (coord t) a b).trans ?_
  show _ = (dx Y W S (gOf (at4 (gp t) b)) (cOf (at4 (gp t) b)) a : EReal)
  rw [show gOf (at4 (gp t) b) = gp t from at4_div _ _ _, show cOf (at4 (gp t) b) = b from at4_mod _ _ _]

theorem final5 : (dats m 0 c).arrAt 5 (cfgs 0).N = fun i : S4x256x256.Idx => (dw Y X S (i 0) (i 1) (i 2) : EReal) := by
  refine (dats m 0 c).arrAt_eq_of_covers 5 _ (by decide +kernel) fun t _ y => ?_
  obtain ⟨z, a, b, rfl⟩ : ∃ z a b, y = ix3 z a b := ⟨y 0, y 1, y 2, eq_ix3 y⟩
  obtain rfl : z = 0 := Subsingleton.elim (α := Fin 1) _ _
  have e : ((cfg0.win 5).blk t).view.emb (ix3 0 a b) = ix3 (gp t) a b := by blk_ext [gp, idx t]
  rw [e]
  blk_simp
  rw [after0_5, blk0 m c Y hY, blk1 m c X hX, blk3 m c S hS]
  exact out5_l Y X S (gp t) _ (coord t) a b

theorem final6 : (dats m 0 c).arrAt 6 (cfgs 0).N = fun i : S1x1024.Idx => (ds Y X W (gOf (i 1)) (cOf (i 1)) : EReal) := by
  refine (dats m 0 c).arrAt_eq_of_covers 6 _ (by decide +kernel) fun t _ y => ?_
  obtain ⟨z, b, rfl⟩ : ∃ a b, y = ix2 a b := ⟨y 0, y 1, (ix2_self y).symm⟩
  obtain rfl : z = 0 := Subsingleton.elim (α := Fin 1) _ _
  have e : ((cfg0.win 6).blk t).view.emb (ix2 0 b) = ix2 (0 : Fin 1) (at4 (gp t) b) := by blk_ext [gp, at4, idx t]
  rw [e]
  blk_simp
  rw [after0_6, blk0 m c Y hY, blk1 m c X hX, blk2 m c W hW]
  refine (out6_l Y X W (gp t) _ (coord t) b).trans ?_
  show _ = (ds Y X W (gOf (at4 (gp t) b)) (cOf (at4 (gp t) b)) : EReal)
  rw [show gOf (at4 (gp t) b) = gp t from at4_div _ _ _, show cOf (at4 (gp t) b) = b from at4_mod _ _ _]

end Cert.Pool

end
-- ==== Proof.PoolClaim.lean ====
/- The gradients of the pooling mixer: the claims about `pool_bwd`. -/
module

public import proofs.«01_k».proof.Defs
public import proofs.«01_k».proof.Proof.PoolPre
public import proofs.«01_k».proof.Proof.PoolRef
public import proofs.«01_k».proof.Proof.PoolKernel
public import proofs.«01_k».proof.Proof.Gen.Kernel6

@[expose] public section

set_option maxRecDepth 16384

noncomputable section

namespace Cert.Pool

open Idealize.ShloMosaic Idealize.SL.Sem Cert.Reals

/-- The program as written and the ideal one have the same text, hence the same body table. -/
theorem defs_lit {F : FTy → Type} [FloatOps F] : Cert.Kernel6.defs (F := F) = Cert.Kernel6Ideal.defs := by
  have h : Cert.Kernel6.defs₀ (F := F) = Cert.Kernel6Ideal.defs₀ := by
    refine congrArg Defs.onTc (funext fun l => funext fun a => ?_)
    match l, a with
    | 0, (t, s) => exact rfl
  exact congrArg (Pipeline.defs Cert.Kernel6Ideal.pcfgs) h

theorem frame_lit : Cert.quiescent_Kernel6 := by
  intro m ρ _
  rw [defs_lit]
  exact frame_kernel (F := Bits) m ρ

theorem frame_reference : Cert.quiescent_Reference6Ideal := by
  intro m ρ _
  exact (θ_run Cert.Reference6Ideal.defs _ _).mono
    (fun r h => ⟨fun c => (h c).2.2.2, sem_eq_zero_of_no_sems (by decide) r.2⟩) (Cert.Reference6Ideal.Pool.run m ρ)

theorem pair : Cert.algebraic_Kernel6Ideal_Reference6Ideal_pre_finite6 := by
  intro m g m' g' hpre hag
  refine ⟨fun c => (dats m 0 c).arrAt 4 Cert.Kernel6Ideal.cfg0.N, fun c => (dats m 0 c).arrAt 5 Cert.Kernel6Ideal.cfg0.N,
    fun c => (dats m 0 c).arrAt 6 Cert.Kernel6Ideal.cfg0.N, run_blocks m g,
    (θ_run Cert.Reference6Ideal.defs _ _).mono (fun r h c => ?_) (Cert.Reference6Ideal.Pool.run m' g')⟩
  obtain ⟨⟨Y, hY⟩, ⟨X, hX⟩, ⟨W, hW⟩, ⟨S, hS⟩⟩ := Cert.Pre_finite6.reals_of_fn _ _ _ _ (hpre c)
  obtain ⟨a0, a1, a2, a3⟩ := hag c
  obtain ⟨h0, h1, h2, hk⟩ := h c
  rw [a0, a2, a3, hY, hW, hS] at h0
  rw [a0, a1, a3, hY, hX, hS] at h1
  rw [a0, a1, a2, hY, hX, hW] at h2
  refine ⟨h0.trans ?_, h1.trans ?_, h2.trans ?_, hk⟩
  · refine Eq.trans (funext fun i => ?_) (final4 m c Y X W S hY hX hW hS).symm
    obtain ⟨t, j, rfl⟩ : ∃ a b, i = ix2 a b := ⟨i 0, i 1, (ix2_self i).symm⟩
    have := Cert.Reference6Ideal.Pool.dx_r Y W S t (gOf j) (cOf j)
    rw [at4_of] at this
    exact this
  · refine Eq.trans (funext fun i => ?_) (final5 m c Y X W S hY hX hW hS).symm
    obtain ⟨u, a, b, rfl⟩ : ∃ z a b, i = ix3 z a b := ⟨i 0, i 1, i 2, eq_ix3 i⟩
    exact Cert.Reference6Ideal.Pool.dw_r Y X S u a b
  · refine Eq.trans (funext fun i => ?_) (final6 m c Y X W S hY hX hW hS).symm
    obtain ⟨z, j, rfl⟩ : ∃ a b, i = ix2 a b := ⟨i 0, i 1, (ix2_self i).symm⟩
    obtain rfl : z = 0 := Subsingleton.elim (α := Fin 1) _ _
    have := Cert.Reference6Ideal.Pool.ds_r Y X W (gOf j) (cOf j)
    rw [at4_of] at this
    exact this

end Cert.Pool

end
-- ==== Proof.SsmBody.lean ====
/-
  The recurrence's gradient: its body runs at every group of channels and writes nothing but its outputs and scratch.
-/
module

public import proofs.«01_k».proof.Proof.Gen.Kernel7Ideal.Frame
public import proofs.«01_k».proof.Proof.Gen.Kernel7Ideal.Loops
public import Idealize.ShloMosaic.Lib.Claim

@[expose] public section

set_option maxRecDepth 16384

noncomputable section

namespace Cert.Ssm

open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first loop at any trip: what it reads at its contents, what it writes at some contents. -/
@[sl_loop] def loopInv_k0_t1 (𝒱 : Variants) (c : Dev nD) (bd : Option 𝒱.V) (E : Set ℕ) (i : grid0.Coords)
    (arg1 : Memref sig .tc .vmem S4096x128 .f32) (harg1 : arg1.IsWhole) (arg2 : Memref sig .tc .vmem S4096x128 .f32) (harg2 : arg2.IsWhole) (arg3 : Memref sig .tc .vmem S4096x128 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x128 .f32) (harg12 : arg12.IsWhole) (arg13 : Memref sig .tc .vmem S4096x128 .bf16) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x128 .f32) (harg20 : arg20.IsWhole) (arg21 : Memref sig .tc .vmem S4096x512 .f32) (harg21 : arg21.IsWhole) (arg22 : Memref sig .tc .vmem S4096x512 .f32) (harg22 : arg22.IsWhole) (arg23 : Memref sig .tc .vmem S4096x128 .f32) (harg23 : arg23.IsWhole) (arg24 : Memref sig .tc .vmem S32x512 .f32) (harg24 : arg24.IsWhole) (arg25 : Memref sig .tc .vmem S32x512 .f32) (harg25 : arg25.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (X11 : BufTy.Contents (Elt F) arg11.view.ty) (X12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv := fun _ _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg14.view.loc (c : Thread nD τ) ↦[arg14.view.set]{fullShare} f)) ∗ (∃ f, (arg15.view.loc (c : Thread nD τ) ↦[arg15.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))
  step k acc := by
    have hk : k.val < 16 := Nat.lt_of_lt_of_le k.isLt k0_t1_abs.2.1
    iintro ⟨HR1, HR2, HR3, HR4, HR5, HR10, HR11, HR12, ⟨%f14, HW14⟩, ⟨%f15, HW15⟩, ⟨%f20, HW20⟩, ⟨%f21, HW21⟩, ⟨%f22, HW22⟩, ⟨%f23, HW23⟩⟩
    unfold k0_t1_body
    simp only [k0_part1_eq_skeleton, k0_part2_eq_skeleton]
    sl_exec
    sl_step
    isplitl [HR1]; · iexact HR1
    isplitl [HR2]; · iexact HR2
    isplitl [HR3]; · iexact HR3
    isplitl [HR4]; · iexact HR4
    isplitl [HR5]; · iexact HR5
    isplitl [HR10]; · iexact HR10
    isplitl [HR11]; · iexact HR11
    isplitl [HR12]; · iexact HR12
    isplitl [HW14]; · iexists _; iexact HW14
    isplitl [HW15]; · iexists _; iexact HW15
    isplitl [HW20]; · iexists _; iexact HW20
    isplitl [HW21]; · iexists _; iexact HW21
    isplitl [HW22]; · iexists _; iexact HW22
    iexists _; iexact HW23

set_option maxHeartbeats 4000000 in
/-- The body at one group: the inputs keep their contents. -/
theorem body (c : Dev nD) (i : grid0.Coords)
    (arg1 : Memref sig .tc .vmem S4096x128 .f32) (harg1 : arg1.IsWhole) (arg2 : Memref sig .tc .vmem S4096x128 .f32) (harg2 : arg2.IsWhole) (arg3 : Memref sig .tc .vmem S4096x128 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x128 .f32) (harg12 : arg12.IsWhole) (arg13 : Memref sig .tc .vmem S4096x128 .bf16) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x128 .f32) (harg20 : arg20.IsWhole) (arg21 : Memref sig .tc .vmem S4096x512 .f32) (harg21 : arg21.IsWhole) (arg22 : Memref sig .tc .vmem S4096x512 .f32) (harg22 : arg22.IsWhole) (arg23 : Memref sig .tc .vmem S4096x128 .f32) (harg23 : arg23.IsWhole) (arg24 : Memref sig .tc .vmem S32x512 .f32) (harg24 : arg24.IsWhole) (arg25 : Memref sig .tc .vmem S32x512 .f32) (harg25 : arg25.IsWhole)
    (x1 : Vec F S4096x128 .f32) (x2 : Vec F S4096x128 .f32) (x3 : Vec F S4096x128 .bf16) (x4 : Vec F S4096x512 .bf16) (x5 : Vec F S4096x512 .bf16) (x6 : Vec F S1x128x512 .bf16) (x7 : Vec F S1x128x512 .bf16) (x8 : Vec F S1x512 .f32) (x9 : Vec F S1x512 .f32) (x10 : Vec F S1x512x128 .bf16) (x11 : Vec F S1x512x128 .bf16) (x12 : Vec F S1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) -∗ K ⟨⟩))
      ⊢ wp frame (wpE (defs₀ (F := F)) Variants.none (c : Thread nD τ) none) E (cc0_l0_ssm_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_l0_ssm_bwd_eq_skeleton]
  unfold cc0_l0_ssm_bwd_skel
  simp only [k0_part17_eq_skeleton, k0_part18_eq_skeleton, k0_part19_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Ssm

end
-- ==== Proof.SsmRun.lean ====
/-
  The recurrence's gradient as a pipeline over eight groups of channels: the frame.
-/
module

public import proofs.«01_k».proof.Defs
public import proofs.«01_k».proof.Proof.Gen.Kernel7
public import proofs.«01_k».proof.Proof.SsmBody

@[expose] public section

set_option maxRecDepth 16384

noncomputable section

namespace Cert.Ssm

open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every window holds after each point: the inputs their blocks; of the outputs nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨k + 12, h⟩ => Pipeline.Dat.unnamed (Val := Elt F) (cfg := cfg0) ⟨k + 12, h⟩ t
  Φ _ := Pipeline.ΦA spec0 c
  q _ := fullShare
  owed _ := 0

/-- The outputs' windows. -/
def fgt (w : Fin cfg0.W) : Bool := decide (12 ≤ w.val)

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d
theorem before0_5 (c : Dev nD) (t : Fin cfg0.N) (d) : (dats m 0 c).before 5 t d = iblk m c 5 t :=
  before0_5_of m (dats m 0 c) (A_eq m c 5) (fun _ => by dsimp only [dats]) t d
theorem before0_6 (c : Dev nD) (t : Fin cfg0.N) (d) : (dats m 0 c).before 6 t d = iblk m c 6 t :=
  before0_6_of m (dats m 0 c) (A_eq m c 6) (fun _ => by dsimp only [dats]) t d
theorem before0_7 (c : Dev nD) (t : Fin cfg0.N) (d) : (dats m 0 c).before 7 t d = iblk m c 7 t :=
  before0_7_of m (dats m 0 c) (A_eq m c 7) (fun _ => by dsimp only [dats]) t d
theorem before0_8 (c : Dev nD) (t : Fin cfg0.N) (d) : (dats m 0 c).before 8 t d = iblk m c 8 t :=
  before0_8_of m (dats m 0 c) (A_eq m c 8) (fun _ => by dsimp only [dats]) t d
theorem before0_9 (c : Dev nD) (t : Fin cfg0.N) (d) : (dats m 0 c).before 9 t d = iblk m c 9 t :=
  before0_9_of m (dats m 0 c) (A_eq m c 9) (fun _ => by dsimp only [dats]) t d
theorem before0_10 (c : Dev nD) (t : Fin cfg0.N) (d) : (dats m 0 c).before 10 t d = iblk m c 10 t :=
  before0_10_of m (dats m 0 c) (A_eq m c 10) (fun _ => by dsimp only [dats]) t d
theorem before0_11 (c : Dev nD) (t : Fin cfg0.N) (d) : (dats m 0 c).before 11 t d = iblk m c 11 t :=
  before0_11_of m (dats m 0 c) (A_eq m c 11) (fun _ => by dsimp only [dats]) t d

/-- The scratch buffers between points, each at some contents. -/
theorem scratch_eq (c : Dev nD) :
    (Pipeline.ΦA spec0 c : sProp 𝕄) = iprop(iprop((∃ d, owns (c : Thread nD τ) (Memref.whole cc0_scratch0 : Memref sig .tc .vmem S4096x512 .f32) fullShare d) ∗ (∃ d, owns (c : Thread nD τ) (Memref.whole cc0_scratch1 : Memref sig .tc .vmem S4096x512 .f32) fullShare d) ∗ (∃ d, owns (c : Thread nD τ) (Memref.whole cc0_scratch2 : Memref sig .tc .vmem S4096x128 .f32) fullShare d) ∗ (∃ d, owns (c : Thread nD τ) (Memref.whole cc0_scratch3 : Memref sig .tc .vmem S32x512 .f32) fullShare d) ∗ (∃ d, owns (c : Thread nD τ) (Memref.whole cc0_scratch4 : Memref sig .tc .vmem S32x512 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_eq]
  dsimp only [dats]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) :
    Pipeline.BodyObligationLoose (dats (F := F) m 0 c) (defs₀ (F := F)) Variants.none () Set.univ fgt := fun t => by
  have hi : ∀ w j, cfg0.idle w j = false := fun _ _ => rfl
  have hl : ∀ w, cfg0.loose w = false := fun _ => rfl
  rw [bigSep_W0, bigSep_W0, defs₀_row]
  simp only [hi, hl, show fgt (0 : Fin 20) = false from rfl, show fgt (1 : Fin 20) = false from rfl, show fgt (2 : Fin 20) = false from rfl, show fgt (3 : Fin 20) = false from rfl, show fgt (4 : Fin 20) = false from rfl, show fgt (5 : Fin 20) = false from rfl, show fgt (6 : Fin 20) = false from rfl, show fgt (7 : Fin 20) = false from rfl, show fgt (8 : Fin 20) = false from rfl, show fgt (9 : Fin 20) = false from rfl, show fgt (10 : Fin 20) = false from rfl, show fgt (11 : Fin 20) = false from rfl, show fgt (12 : Fin 20) = true from rfl, show fgt (13 : Fin 20) = true from rfl, show fgt (14 : Fin 20) = true from rfl, show fgt (15 : Fin 20) = true from rfl, show fgt (16 : Fin 20) = true from rfl, show fgt (17 : Fin 20) = true from rfl, show fgt (18 : Fin 20) = true from rfl, show fgt (19 : Fin 20) = true from rfl]
  exact triple_restated (sound_body m c t) rfl .rfl fun _ => .rfl

set_option maxHeartbeats 1000000 in
set_option backward.isDefEq.respectTransparency.types false in
/-- The whole program: every input as it was, every counter zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)
    (Q' := _) (hQ' := fun r h => ⟨fun c =>
      have k (w : Fin cfg0.W) (hf : fgt w = false) (hi : (cfg0.win w).isOut = false) :=
        ((((dats m 0 c).toRForget_arrAt_iff hf _ _).mp ((h.1 c).1 w)).trans
          ((dats m 0 c).arrAt_in w hi _)).trans (A_eq m c w)
      ⟨k 0 rfl rfl, k 1 rfl rfl, k 2 rfl rfl, k 3 rfl rfl, k 4 rfl rfl, k 5 rfl rfl, k 6 rfl rfl, k 7 rfl rfl, k 8 rfl rfl, k 9 rfl rfl, k 10 rfl rfl, k 11 rfl rfl⟩, h.2⟩)

set_option maxHeartbeats 4000000 in
/-- The program as written is the ideal one, at the machine's numbers. -/
theorem body_lit : Cert.Kernel7.cc0_l0_ssm_bwd (F := F) = Cert.Kernel7Ideal.cc0_l0_ssm_bwd (F := F) := by
  rfl

set_option maxHeartbeats 4000000 in
theorem defs_lit : Cert.Kernel7.defs (F := F) = Cert.Kernel7Ideal.defs := by
  have h : Cert.Kernel7.defs₀ (F := F) = Cert.Kernel7Ideal.defs₀ := by
    unfold Cert.Kernel7.defs₀ Cert.Kernel7Ideal.defs₀
    rw [body_lit]
    refine congrArg Defs.onTc (funext fun l => funext fun a => ?_)
    match l, a with
    | 0, (t, s) => exact rfl
  exact congrArg (Pipeline.defs Cert.Kernel7Ideal.pcfgs) h

theorem frame_lit : Cert.quiescent_Kernel7 := by
  intro m ρ _
  rw [defs_lit]
  exact frame_kernel (F := Bits) m ρ

end Cert.Ssm

end
-- ==== Proof.SsmFwdBody.lean ====
/-
  The recurrence: its body runs at every group of channels and writes nothing but its outputs and scratch.
-/
module

public import proofs.«01_k».proof.Proof.Gen.Kernel8Ideal.Frame.Runs
public import proofs.«01_k».proof.Proof.Gen.Kernel8Ideal.Loops
public import Idealize.ShloMosaic.Lib.Claim

@[expose] public section

set_option maxRecDepth 16384

noncomputable section

namespace Cert.SsmFwd

open Cert.Kernel8Ideal Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one group: the inputs keep their contents. -/
theorem body (c : Dev nD) (i : grid0.Coords)
    (arg1 : Memref sig .tc .vmem S4096x128 .bf16) (harg1 : arg1.IsWhole) (arg2 : Memref sig .tc .vmem S1x128x512 .bf16) (harg2 : arg2.IsWhole) (arg3 : Memref sig .tc .vmem S1x128x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x512 .bf16) (harg11 : arg11.IsWhole) (arg12 : Memref sig .tc .vmem S4096x512 .bf16) (harg12 : arg12.IsWhole) (arg13 : Memref sig .tc .vmem S4096x512 .f32) (harg13 : arg13.IsWhole) (arg14 : Memref sig .tc .vmem S4096x512 .f32) (harg14 : arg14.IsWhole) (arg15 : Memref sig .tc .vmem S32x512 .f32) (harg15 : arg15.IsWhole) (arg16 : Memref sig .tc .vmem S32x512 .f32) (harg16 : arg16.IsWhole)
    (x1 : Vec F S4096x128 .bf16) (x2 : Vec F S1x128x512 .bf16) (x3 : Vec F S1x128x512 .bf16) (x4 : Vec F S1x512 .f32) (x5 : Vec F S1x512 .f32) (x6 : Vec F S1x512x128 .bf16) (x7 : Vec F S1x512x128 .bf16) (x8 : Vec F S1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) -∗ K ⟨⟩))
      ⊢ wp frame (wpE (defs₀ (F := F)) Variants.none (c : Thread nD τ) none) E (cc0_l0_ssm_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_l0_ssm_fwd_eq_skeleton]
  unfold cc0_l0_ssm_fwd_skel
  simp only [k0_part15_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.SsmFwd

end
-- ==== Proof.SsmFwdRun.lean ====
/-
  The recurrence as a pipeline over eight groups of channels: the frame.
-/
module

public import proofs.«01_k».proof.Defs
public import proofs.«01_k».proof.Proof.Gen.Kernel8
public import proofs.«01_k».proof.Proof.SsmFwdBody

@[expose] public section

set_option maxRecDepth 16384

noncomputable section

namespace Cert.SsmFwd

open Cert.Kernel8Ideal Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every window holds after each point: the inputs their blocks; of the outputs nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨k + 8, h⟩ => Pipeline.Dat.unnamed (Val := Elt F) (cfg := cfg0) ⟨k + 8, h⟩ t
  Φ _ := Pipeline.ΦA spec0 c
  q _ := fullShare
  owed _ := 0

/-- The outputs' windows. -/
def fgt (w : Fin cfg0.W) : Bool := decide (8 ≤ w.val)

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d
theorem before0_5 (c : Dev nD) (t : Fin cfg0.N) (d) : (dats m 0 c).before 5 t d = iblk m c 5 t :=
  before0_5_of m (dats m 0 c) (A_eq m c 5) (fun _ => by dsimp only [dats]) t d
theorem before0_6 (c : Dev nD) (t : Fin cfg0.N) (d) : (dats m 0 c).before 6 t d = iblk m c 6 t :=
  before0_6_of m (dats m 0 c) (A_eq m c 6) (fun _ => by dsimp only [dats]) t d
theorem before0_7 (c : Dev nD) (t : Fin cfg0.N) (d) : (dats m 0 c).before 7 t d = iblk m c 7 t :=
  before0_7_of m (dats m 0 c) (A_eq m c 7) (fun _ => by dsimp only [dats]) t d

/-- The scratch buffers between points, each at some contents. -/
theorem scratch_eq (c : Dev nD) :
    (Pipeline.ΦA spec0 c : sProp 𝕄) = iprop(iprop((∃ d, owns (c : Thread nD τ) (Memref.whole cc0_scratch0 : Memref sig .tc .vmem S4096x512 .f32) fullShare d) ∗ (∃ d, owns (c : Thread nD τ) (Memref.whole cc0_scratch1 : Memref sig .tc .vmem S4096x512 .f32) fullShare d) ∗ (∃ d, owns (c : Thread nD τ) (Memref.whole cc0_scratch2 : Memref sig .tc .vmem S32x512 .f32) fullShare d) ∗ (∃ d, owns (c : Thread nD τ) (Memref.whole cc0_scratch3 : Memref sig .tc .vmem S32x512 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, scratch_eq]
  dsimp only [dats]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) :
    Pipeline.BodyObligationLoose (dats (F := F) m 0 c) (defs₀ (F := F)) Variants.none () Set.univ fgt := fun t => by
  have hi : ∀ w j, cfg0.idle w j = false := fun _ _ => rfl
  have hl : ∀ w, cfg0.loose w = false := fun _ => rfl
  rw [bigSep_W0, bigSep_W0, defs₀_row]
  simp only [hi, hl, show fgt (0 : Fin 12) = false from rfl, show fgt (1 : Fin 12) = false from rfl, show fgt (2 : Fin 12) = false from rfl, show fgt (3 : Fin 12) = false from rfl, show fgt (4 : Fin 12) = false from rfl, show fgt (5 : Fin 12) = false from rfl, show fgt (6 : Fin 12) = false from rfl, show fgt (7 : Fin 12) = false from rfl, show fgt (8 : Fin 12) = true from rfl, show fgt (9 : Fin 12) = true from rfl, show fgt (10 : Fin 12) = true from rfl, show fgt (11 : Fin 12) = true from rfl]
  exact triple_restated (sound_body m c t) rfl .rfl fun _ => .rfl

set_option maxHeartbeats 1000000 in
set_option backward.isDefEq.respectTransparency.types false in
/-- The whole program: every input as it was, every counter zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)
    (Q' := _) (hQ' := fun r h => ⟨fun c =>
      have k (w : Fin cfg0.W) (hf : fgt w = false) (hi : (cfg0.win w).isOut = false) :=
        ((((dats m 0 c).toRForget_arrAt_iff hf _ _).mp ((h.1 c).1 w)).trans
          ((dats m 0 c).arrAt_in w hi _)).trans (A_eq m c w)
      ⟨k 0 rfl rfl, k 1 rfl rfl, k 2 rfl rfl, k 3 rfl rfl, k 4 rfl rfl, k 5 rfl rfl, k 6 rfl rfl, k 7 rfl rfl⟩, h.2⟩)

set_option maxHeartbeats 4000000 in
/-- The program as written is the ideal one, at the machine's numbers. -/
theorem body_lit : Cert.Kernel8.cc0_l0_ssm_fwd (F := F) = Cert.Kernel8Ideal.cc0_l0_ssm_fwd (F := F) := by
  rfl

set_option maxHeartbeats 4000000 in
theorem defs_lit : Cert.Kernel8.defs (F := F) = Cert.Kernel8Ideal.defs := by
  have h : Cert.Kernel8.defs₀ (F := F) = Cert.Kernel8Ideal.defs₀ := by
    unfold Cert.Kernel8.defs₀ Cert.Kernel8Ideal.defs₀
    rw [body_lit]
    refine congrArg Defs.onTc (funext fun l => funext fun a => ?_)
    match l, a with
    | 0, (t, s) => exact rfl
  exact congrArg (Pipeline.defs Cert.Kernel8Ideal.pcfgs) h

theorem frame_lit : Cert.quiescent_Kernel8 := by
  intro m ρ _
  rw [defs_lit]
  exact frame_kernel (F := Bits) m ρ

end Cert.SsmFwd

end
-- ==== Proof.RmsFwdClaim.lean ====
/- The norm over rows: the claims about `rms_fwd`.  At any arguments, infinite ones too. -/
module

public import proofs.«01_k».proof.Defs
public import proofs.«01_k».proof.Proof.RmsMath
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.RmsFwd

/-- The entry `j` of a row over the root of its mean square (and a small constant), times the gain's. -/
def normed (x g : Fin 4096 → EReal) (j : Fin 4096) : EReal :=
  x j * Ideal.rsqrt (Ideal.div (∑ k, x k * x k) (Ideal.ofBits .f32 0x45800000#32) + Ideal.ofBits .f32 0x358637BD#32) * g j

section Kernel

open Cert.Kernel9Ideal Cert.Kernel9Ideal.Gen

theorem idx : ∀ t : Fin cfg0.N, win0_0.index t = ![t.val, 0] ∧ win0_1.index t = ![0, 0] ∧ win0_2.index t = ![t.val, 0] :=
  (by decide +kernel : ∀ t : Fin grid0.N, _)

theorem pay1 (x : Vec Ideal S128x4096 .f32) (g : Vec Ideal S1x4096 .f32) (p : Fin 128) (j : Fin 4096) :
    k0_pay1 (F := Ideal) x g (ix2 p j) = normed (fun k => x (ix2 p k)) (fun k => g (ix2 0 k)) j := by
  pointwise [k0_pay1]
  rfl

/-- Row `p` of block `t`. -/
def rowAt (t : Fin cfg0.N) (p : Fin 128) : Fin 4096 :=
  ⟨t.val * 128 + p.val, by have := lt_of_lt_of_eq t.isLt N_0; omega⟩

variable (m : (ℓ : Loc nD τ sig) → Buf (Elt Ideal) ℓ) (c : Dev nD)

/-- The two arguments, entry by entry. -/
abbrev xs (a b : Fin 4096) : EReal := (show FVec Ideal S4096x4096 .f32 from m ((c : Thread nD τ).loc main_arg0)) (ix2 a b)
abbrev gs (b : Fin 4096) : EReal := (show FVec Ideal S4096 .f32 from m ((c : Thread nD τ).loc main_arg1)) (ix1 b)

theorem blk0 (t : Fin cfg0.N) (p : Fin 128) (k : Fin 4096) :
    (show FVec Ideal S128x4096 .f32 from iblk m c 0 t) (ix2 p k) = xs m c (rowAt t p) k := by
  blk_ext [iblk, V, rowAt, idx t]

theorem blk1 (t : Fin cfg0.N) (k : Fin 4096) :
    (show FVec Ideal S1x4096 .f32 from iblk m c 1 t) (ix2 0 k) = gs m c k := by
  blk_simp [iblk]
  entry_read
  pointwise
  have e : (win0_1.blk t).view.emb (ix2 (0 : Fin 1) k) = ix2 (0 : Fin 1) k := by blk_ext [idx t]
  exact congrArg (fun j : Fin 4096 => gs m c j) (congrFun e 1)

theorem final2 : (dats m 0 c).arrAt 2 (cfgs 0).N = fun i : S4096x4096.Idx => normed (xs m c (i 0)) (gs m c) (i 1) := by
  refine (dats m 0 c).arrAt_eq_of_covers 2 _ (by decide +kernel) fun t _ y => ?_
  have e : ((cfg0.win 2).blk t).view.emb y = ix2 (rowAt t (y 0)) (y 1) := by blk_ext [rowAt, idx t]
  rw [e]
  blk_simp
  rw [after0_2]
  frame_out
  obtain ⟨p, j, rfl⟩ : ∃ p j, y = ix2 p j := ⟨y 0, y 1, (ix2_self y).symm⟩
  rw [pay1]
  exact congrArg₂ (fun x g => normed x g j) (funext fun k => blk0 m c t p k) (funext fun k => blk1 m c t k)

end Kernel

section Reference

open Cert.Reference9Ideal Cert.Reference9Ideal.Gen Cert.Reference9Ideal.Read

theorem v13 (x : Vec Ideal S4096x4096 .f32) (g : Vec Ideal S4096 .f32) (a b : Fin 4096) :
    val_main_v13 (F := Ideal) x g (ix2 a b) = normed (fun k => x (ix2 a k)) (fun k => g (ix1 k)) b := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Reference

theorem frame_reference : Cert.quiescent_Reference9Ideal := by
  intro m ρ _
  exact (θ_run Cert.Reference9Ideal.defs _ _).mono (fun r h => ⟨fun c => (h c).2, sem_eq_zero_of_no_sems (by decide) r.2⟩)
    (run m ρ)

theorem pair : Cert.algebraic_Kernel9Ideal_Reference9Ideal := by
  intro m g m' g' _ hag
  refine ⟨fun c => (Cert.Kernel9Ideal.Gen.dats m 0 c).arrAt 2 Cert.Kernel9Ideal.cfg0.N,
    Cert.Kernel9Ideal.Value.run_blocks m g,
    (θ_run Cert.Reference9Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final2 m c).symm
  obtain ⟨p, j, rfl⟩ : ∃ p j, i = ix2 p j := ⟨i 0, i 1, (ix2_self i).symm⟩
  exact v13 _ _ p j

end Cert.RmsFwd

end
-- ==== Proof.PrepFwdClaim.lean ====
/- The discretised parameters of the recurrence: the claims about `ssm_prep`.  The factor that the input map is multiplied
   by is the one `ssm_prep_bwd` computes again, so its two parts are read off there. -/
module

public import proofs.«01_k».proof.Defs
public import proofs.«01_k».proof.Proof.PrepPre
public import proofs.«01_k».proof.Proof.PrepRef
public import proofs.«01_k».proof.Proof.PrepKernel
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_finite10
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals Cert.Branch Cert.Prep
open Cert.Kernel5Ideal.Prep (rowB oneB mapB rw' ov' tp' frK fiK cases_row cases_one cases_map)

namespace Cert.PrepFwd

/-- What the precondition `finite10` says of the arrays it reads. -/
theorem reals_of_fn (x0 x1 : FVec Ideal Cert.Pre_finite10.S64x64 .f32) (x2 : FVec Ideal Cert.Pre_finite10.S64 .f32)
    (x3 x4 : FVec Ideal Cert.Pre_finite10.S64x64x16 .f32) (h : Cert.Pre_finite10.fn (F := Ideal) x0 x1 x2 x3 x4 = fun _ => 1#1) :
    Cert.Pre_finite4.Fin' x0 ∧ Cert.Pre_finite4.Fin' x1 ∧ Cert.Pre_finite4.Fin' x2 ∧ Cert.Pre_finite4.Fin' x3
      ∧ Cert.Pre_finite4.Fin' x4 ∧ ∀ i, x0 i ≠ 0 ∨ x1 i ≠ 0 := by
  have h0 := congrFun h (Shape.Idx.first Cert.Pre_finite10.Facts.h_S_)
  obtain ⟨h, h5⟩ := IntOp.andi_eq_one.1 h0
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  have : Subsingleton Cert.Pre_finite10.S_.Idx := ⟨fun a b => funext fun i => i.elim0⟩
  refine ⟨exists_reals x0 _ (fun i => ofBits_inf) _ _ _ _ h, exists_reals x1 _ (fun i => ofBits_inf) _ _ _ _ h1,
    exists_reals x2 _ (fun i => ofBits_inf) _ _ _ _ h2, exists_reals x3 _ (fun i => ofBits_inf) _ _ _ _ h3,
    exists_reals x4 _ (fun i => ofBits_inf) _ _ _ _ h4, fun i => ?_⟩
  have hc : IntOp.ori (Ideal.cmp .une (x0 i : EReal) (Ideal.ofBits .f32 0x00000000#32)) (Ideal.cmp .une (x1 i : EReal) (Ideal.ofBits .f32 0x00000000#32)) = 1#1 :=
    Host.reduce_andi_all _ _ _ _ _ h5 i
  by_contra hn
  obtain ⟨e0, e1⟩ := not_or.1 hn
  rw [not_not.1 e0, not_not.1 e1, ofBits_zero] at hc
  simp [Ideal.cmp, IntOp.ori] at hc

section Kernel

open Cert.Kernel10Ideal Cert.Kernel10Ideal.Gen

variable (l w : Fin 64 → Fin 64 → ℝ) (t : Fin 64 → ℝ) (br bi : Fin 64 → Fin 16 → Fin 64 → ℝ)

theorem pay8 : k0_pay8 (F := Ideal) (oneB t) = oneB fun a => Real.exp (t a) := Cert.Kernel5Ideal.Prep.pay10 t

theorem pay15 (hn : ∀ a b : Fin 64, nm (l a b) (w a b) ≠ 0) : k0_pay15 (F := Ideal) (rowB l) (rowB w) (oneB t) = rowB (frK l w t) :=
  Cert.Kernel5Ideal.Prep.pay18 l w t hn

theorem pay16 (hn : ∀ a b : Fin 64, nm (l a b) (w a b) ≠ 0) : k0_pay16 (F := Ideal) (rowB l) (rowB w) (oneB t) = rowB (fiK l w t) :=
  Cert.Kernel5Ideal.Prep.pay19 l w t hn

theorem pay17 : k0_pay17 (F := Ideal) (oneB t) (rowB l) = rowB fun a b => l a b * Real.exp (t a) := by
  funext i
  obtain ⟨a, b, rfl⟩ := cases_row i
  pointwise [k0_pay17]
  rw [pay8, mul_coe]
  rfl

theorem pay1 : k0_pay1 (F := Ideal) (k0_pay8 (oneB t)) (rowB l) = rowB fun a b => l a b * Real.exp (t a) := pay17 l t

theorem pay4 (p q : Fin 64 → Fin 64 → ℝ) : k0_pay4 (F := Ideal) (rowB p) (rowB q) (mapB br) (mapB bi)
    = mapB fun a k b => p a b * br a k b - q a b * bi a k b := by
  funext i
  obtain ⟨a, k, b, rfl⟩ := cases_map i
  pointwise [k0_pay4, k0_pay2, k0_pay3]
  simp only [mul_coe, sub_coe]
  rfl

theorem pay5 (p q : Fin 64 → Fin 64 → ℝ) : k0_pay5 (F := Ideal) (rowB p) (rowB q) (mapB br) (mapB bi)
    = mapB fun a k b => p a b * bi a k b + q a b * br a k b := by
  funext i
  obtain ⟨a, k, b, rfl⟩ := cases_map i
  pointwise [k0_pay5, k0_pay2, k0_pay3]
  simp only [mul_coe, add_coe]
  rfl

variable (m : (ℓ : Loc nD τ sig) → Buf (Elt Ideal) ℓ) (c : Dev nD)
variable (L I : S64x64.Idx → ℝ) (T : S64.Idx → ℝ) (Br Bi : S64x64x16.Idx → ℝ)

theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0]
    ∧ win0_8.index t = ![0, 0, 0] :=
  (by decide +kernel : ∀ t : Fin grid0.N, _)

theorem blk0 (h : m ((c : Thread nD τ).loc main_arg0) = fun i => (L i : EReal)) (t : Fin cfg0.N) : iblk m c 0 t = rowB (rw' L) := by
  funext y
  obtain ⟨a, b, rfl⟩ := cases_row y
  have e : (win0_0.blk t).view.emb (ix3 a 0 b) = ix3 a 0 b := by blk_ext [idx t]
  blk_simp [iblk]
  rw [e]
  entry_read
  rw [h]
  pointwise
  rfl

theorem blk1 (h : m ((c : Thread nD τ).loc main_arg1) = fun i => (I i : EReal)) (t : Fin cfg0.N) : iblk m c 1 t = rowB (rw' I) := by
  funext y
  obtain ⟨a, b, rfl⟩ := cases_row y
  have e : (win0_1.blk t).view.emb (ix3 a 0 b) = ix3 a 0 b := by blk_ext [idx t]
  blk_simp [iblk]
  rw [e]
  entry_read
  rw [h]
  pointwise
  rfl

theorem blk2 (h : m ((c : Thread nD τ).loc main_arg2) = fun i => (T i : EReal)) (t : Fin cfg0.N) : iblk m c 2 t = oneB (ov' T) := by
  funext y
  obtain ⟨a, rfl⟩ := cases_one y
  have e : (win0_2.blk t).view.emb (ix3 a 0 0) = ix3 a 0 0 := by blk_ext [idx t]
  blk_simp [iblk]
  rw [e]
  entry_read
  rw [h]
  pointwise
  rfl

theorem blk3 (h : m ((c : Thread nD τ).loc main_arg3) = fun i => (Br i : EReal)) (t : Fin cfg0.N) : iblk m c 3 t = mapB (tp' Br) := by
  funext y
  obtain ⟨a, k, b, rfl⟩ := cases_map y
  have e : (win0_3.blk t).view.emb (ix3 a k b) = ix3 a k b := by blk_ext [idx t]
  blk_simp [iblk]
  rw [e]
  entry_read
  rw [h]
  pointwise
  rfl

theorem blk4 (h : m ((c : Thread nD τ).loc main_arg4) = fun i => (Bi i : EReal)) (t : Fin cfg0.N) : iblk m c 4 t = mapB (tp' Bi) := by
  funext y
  obtain ⟨a, k, b, rfl⟩ := cases_map y
  have e : (win0_4.blk t).view.emb (ix3 a k b) = ix3 a k b := by blk_ext [idx t]
  blk_simp [iblk]
  rw [e]
  entry_read
  rw [h]
  pointwise
  rfl

variable (hL : m ((c : Thread nD τ).loc main_arg0) = fun i => (L i : EReal))
  (hI : m ((c : Thread nD τ).loc main_arg1) = fun i => (I i : EReal))
  (hT : m ((c : Thread nD τ).loc main_arg2) = fun i => (T i : EReal))
  (hBr : m ((c : Thread nD τ).loc main_arg3) = fun i => (Br i : EReal))
  (hBi : m ((c : Thread nD τ).loc main_arg4) = fun i => (Bi i : EReal))
  (hn : ∀ a b : Fin 64, nm (L (ix2 a b)) (I (ix2 a b)) ≠ 0)
include hL hI hT hBr hBi hn

theorem final5 : (dats m 0 c).arrAt 5 (cfgs 0).N = rowB fun a b => L (ix2 a b) * Real.exp (T (ix1 a)) := by
  refine (dats m 0 c).arrAt_eq_of_covers 5 _ (by decide +kernel) fun t _ y => ?_
  obtain ⟨a, b, rfl⟩ := cases_row y
  have e : ((cfg0.win 5).blk t).view.emb (ix3 a 0 b) = ix3 a 0 b := by blk_ext [idx t]
  rw [e]
  blk_simp
  rw [after0_5]
  unfold_out out0_5
  frame_out
  rw [blk0 m c L hL, blk2 m c T hT]
  exact congrFun (pay17 (rw' L) (ov' T)) _

theorem final6 : (dats m 0 c).arrAt 6 (cfgs 0).N = rowB fun a b => I (ix2 a b) * Real.exp (T (ix1 a)) := by
  refine (dats m 0 c).arrAt_eq_of_covers 6 _ (by decide +kernel) fun t _ y => ?_
  obtain ⟨a, b, rfl⟩ := cases_row y
  have e : ((cfg0.win 6).blk t).view.emb (ix3 a 0 b) = ix3 a 0 b := by blk_ext [idx t]
  rw [e]
  blk_simp
  rw [after0_6]
  unfold_out out0_6
  frame_out
  rw [blk1 m c I hI, blk2 m c T hT]
  exact congrFun (pay1 (rw' I) (ov' T)) _

theorem final7 : (dats m 0 c).arrAt 7 (cfgs 0).N = mapB fun a k b =>
    frK (rw' L) (rw' I) (ov' T) a b * Br (ix3 a b k) - fiK (rw' L) (rw' I) (ov' T) a b * Bi (ix3 a b k) := by
  refine (dats m 0 c).arrAt_eq_of_covers 7 _ (by decide +kernel) fun t _ y => ?_
  obtain ⟨a, k, b, rfl⟩ := cases_map y
  have e : ((cfg0.win 7).blk t).view.emb (ix3 a k b) = ix3 a k b := by blk_ext [idx t]
  rw [e]
  blk_simp
  rw [after0_7]
  unfold_out out0_7
  frame_out
  rw [blk0 m c L hL, blk1 m c I hI, blk2 m c T hT, blk3 m c Br hBr, blk4 m c Bi hBi,
    pay15 (rw' L) (rw' I) (ov' T) hn, pay16 (rw' L) (rw' I) (ov' T) hn]
  exact congrFun (pay4 (tp' Br) (tp' Bi) (frK (rw' L) (rw' I) (ov' T)) (fiK (rw' L) (rw' I) (ov' T))) _

theorem final8 : (dats m 0 c).arrAt 8 (cfgs 0).N = mapB fun a k b =>
    frK (rw' L) (rw' I) (ov' T) a b * Bi (ix3 a b k) + fiK (rw' L) (rw' I) (ov' T) a b * Br (ix3 a b k) := by
  refine (dats m 0 c).arrAt_eq_of_covers 8 _ (by decide +kernel) fun t _ y => ?_
  obtain ⟨a, k, b, rfl⟩ := cases_map y
  have e : ((cfg0.win 8).blk t).view.emb (ix3 a k b) = ix3 a k b := by blk_ext [idx t]
  rw [e]
  blk_simp
  rw [after0_8]
  unfold_out out0_8
  frame_out
  rw [blk0 m c L hL, blk1 m c I hI, blk2 m c T hT, blk3 m c Br hBr, blk4 m c Bi hBi,
    pay15 (rw' L) (rw' I) (ov' T) hn, pay16 (rw' L) (rw' I) (ov' T) hn]
  exact congrFun (pay5 (tp' Br) (tp' Bi) (frK (rw' L) (rw' I) (ov' T)) (fiK (rw' L) (rw' I) (ov' T))) _

end Kernel

section Reference

open Cert.Reference10Ideal Cert.Reference10Ideal.Gen Cert.Reference10Ideal.Read

variable (L I : S64x64.Idx → ℝ) (T : S64.Idx → ℝ) (Br Bi : S64x64x16.Idx → ℝ)

theorem fr_l (hn : ∀ a b : Fin 64, nm (L (ix2 a b)) (I (ix2 a b)) ≠ 0) (a b : Fin 64) :
    val_main_v23 (F := Ideal) (fun i => (L i : EReal)) (fun i => (I i : EReal)) (fun i => (T i : EReal)) (ix2 a b)
      = (frK (rw' L) (rw' I) (ov' T) a b : EReal) :=
  Cert.Reference5Ideal.Prep.fr_l L I T hn a b

theorem fi_l (hn : ∀ a b : Fin 64, nm (L (ix2 a b)) (I (ix2 a b)) ≠ 0) (a b : Fin 64) :
    val_main_v29 (F := Ideal) (fun i => (L i : EReal)) (fun i => (I i : EReal)) (fun i => (T i : EReal)) (ix2 a b)
      = (fiK (rw' L) (rw' I) (ov' T) a b : EReal) :=
  Cert.Reference5Ideal.Prep.fi_l L I T hn a b

theorem v44 (a b : Fin 64) : val_main_v44 (F := Ideal) (fun i => (L i : EReal)) (fun i => (T i : EReal)) (ix3 a 0 b)
    = ((L (ix2 a b) * Real.exp (T (ix1 a)) : ℝ) : EReal) := by
  pointwise [val_main_v44, val_main_v43, val_main_v42, val_main_v1, val_main_v0]
  simp only [exp_coe, mul_coe]

theorem v47 (a b : Fin 64) : val_main_v47 (F := Ideal) (fun i => (I i : EReal)) (fun i => (T i : EReal)) (ix3 a 0 b)
    = ((I (ix2 a b) * Real.exp (T (ix1 a)) : ℝ) : EReal) := by
  pointwise [val_main_v47, val_main_v46, val_main_v45, val_main_v1, val_main_v0]
  simp only [exp_coe, mul_coe]

theorem v48 (hn : ∀ a b : Fin 64, nm (L (ix2 a b)) (I (ix2 a b)) ≠ 0) (a : Fin 64) (k : Fin 16) (b : Fin 64) :
    val_main_v48 (F := Ideal) (fun i => (L i : EReal)) (fun i => (I i : EReal)) (fun i => (T i : EReal))
        (fun i => (Br i : EReal)) (fun i => (Bi i : EReal)) (ix3 a k b)
      = ((frK (rw' L) (rw' I) (ov' T) a b * Br (ix3 a b k) - fiK (rw' L) (rw' I) (ov' T) a b * Bi (ix3 a b k) : ℝ) : EReal) := by
  pointwise [val_main_v48, val_main_v36, val_main_v35, val_main_v34, val_main_v33, val_main_v32, val_main_v31, val_main_v30]
  simp only [fr_l L I T hn, fi_l L I T hn, mul_coe, sub_coe]

theorem v49 (hn : ∀ a b : Fin 64, nm (L (ix2 a b)) (I (ix2 a b)) ≠ 0) (a : Fin 64) (k : Fin 16) (b : Fin 64) :
    val_main_v49 (F := Ideal) (fun i => (L i : EReal)) (fun i => (I i : EReal)) (fun i => (T i : EReal))
        (fun i => (Br i : EReal)) (fun i => (Bi i : EReal)) (ix3 a k b)
      = ((frK (rw' L) (rw' I) (ov' T) a b * Bi (ix3 a b k) + fiK (rw' L) (rw' I) (ov' T) a b * Br (ix3 a b k) : ℝ) : EReal) := by
  pointwise [val_main_v49, val_main_v41, val_main_v40, val_main_v39, val_main_v38, val_main_v37, val_main_v31, val_main_v30]
  simp only [fr_l L I T hn, fi_l L I T hn, mul_coe, add_coe]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = val_main_v44 (F := Ideal) (m ((c.tc : Thread nD τ).loc main_arg0)) (m ((c.tc : Thread nD τ).loc main_arg2))
      ∧ r.2.mem ((c.tc : Thread nD τ).loc main_v47) = val_main_v47 (F := Ideal) (m ((c.tc : Thread nD τ).loc main_arg1)) (m ((c.tc : Thread nD τ).loc main_arg2))
      ∧ r.2.mem ((c.tc : Thread nD τ).loc main_v48) = val_main_v48 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v49) = val_main_v49 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Reference

theorem frame_reference : Cert.quiescent_Reference10Ideal := by
  intro m ρ _
  exact (θ_run Cert.Reference10Ideal.defs _ _).mono
    (fun r h => ⟨fun c => (h c).2.2.2.2, sem_eq_zero_of_no_sems (by decide) r.2⟩) (run m ρ)

theorem pair : Cert.algebraic_Kernel10Ideal_Reference10Ideal_pre_finite10 := by
  intro m g m' g' hpre hag
  refine ⟨fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    Cert.Kernel10Ideal.Value.run_blocks m g,
    (θ_run Cert.Reference10Ideal.defs _ _).mono (fun r h c => ?_) (run m' g')⟩
  obtain ⟨⟨L, hL⟩, ⟨I, hI⟩, ⟨T, hT⟩, ⟨Br, hBr⟩, ⟨Bi, hBi⟩, hne⟩ := reals_of_fn _ _ _ _ _ (hpre c)
  obtain ⟨a0, a1, a2, a3, a4⟩ := hag c
  obtain ⟨h0, h1, h2, h3, hk⟩ := h c
  have hn : ∀ a b : Fin 64, nm (L (ix2 a b)) (I (ix2 a b)) ≠ 0 := fun a b e => by
    rw [hL, hI] at hne
    unfold nm at e
    have := hne (ix2 a b)
    simp [(mul_self_add_mul_self_eq_zero.1 e).1, (mul_self_add_mul_self_eq_zero.1 e).2] at this
  rw [a0, a2, hL, hT] at h0
  rw [a1, a2, hI, hT] at h1
  rw [a0, a1, a2, a3, a4, hL, hI, hT, hBr, hBi] at h2 h3
  refine ⟨h0.trans ?_, h1.trans ?_, h2.trans ?_, h3.trans ?_, hk⟩
  · refine Eq.trans (funext fun i => ?_) (final5 m c L I T Br Bi hL hI hT hBr hBi hn).symm
    obtain ⟨a, b, rfl⟩ := cases_row i
    exact v44 L T a b
  · refine Eq.trans (funext fun i => ?_) (final6 m c L I T Br Bi hL hI hT hBr hBi hn).symm
    obtain ⟨a, b, rfl⟩ := cases_row i
    exact v47 I T a b
  · refine Eq.trans (funext fun i => ?_) (final7 m c L I T Br Bi hL hI hT hBr hBi hn).symm
    obtain ⟨a, k, b, rfl⟩ := cases_map i
    exact v48 L I T Br Bi hn a k b
  · refine Eq.trans (funext fun i => ?_) (final8 m c L I T Br Bi hL hI hT hBr hBi hn).symm
    obtain ⟨a, k, b, rfl⟩ := cases_map i
    exact v49 L I T Br Bi hn a k b

end Cert.PrepFwd

end
-- ==== Proof.BranchFwdClaim.lean ====
/- The gated norms of the three branches: the claims about `branch_fwd`. -/
module

public import proofs.«01_k».proof.Defs
public import proofs.«01_k».proof.Proof.BranchPre
public import proofs.«01_k».proof.Proof.BranchAcc
public import proofs.«01_k».proof.Proof.BranchKernel
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite11
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals Cert.Rms Cert.Branch
open Cert.Kernel4Ideal.Branch (yR tR lR pR aR sR bR gR lanes mem_of_emb)

namespace Cert.BranchFwd

/-- The entry `j` of a normed row times its gate. -/
def gated {n : ℕ} (d : ℝ) (x g gate : Fin n → ℝ) (j : Fin n) : ℝ := x j * Branch.rr d x * g j * (gate j * sg (gate j))

/-- The three gated branches of a row side by side. -/
def outs (bg : Fin 4096 → ℝ) (yp pg : Fin 1024 → ℝ) (ya ag gl bgl : Fin 2048 → ℝ) (sgt : Fin 1024 → ℝ) (j : Fin 4096) : ℝ :=
  if h : j.val < 1024 then gated 1024 yp (fun k => bg (lp k)) pg ⟨j, h⟩
  else if h' : j.val < 3072 then gated 2048 ya (fun k => bg (la k)) ag ⟨j - 1024, by omega⟩
  else gated 1024 (raw gl bgl) (fun k => bg (ls k)) sgt ⟨j - 3072, by omega⟩

section Rows

variable (bg : Fin 4096 → ℝ) (yp pg : Fin 1024 → ℝ) (ya ag gl bgl : Fin 2048 → ℝ) (sgt : Fin 1024 → ℝ)

theorem outs_lp (k : Fin 1024) : outs bg yp pg ya ag gl bgl sgt (lp k) = gated 1024 yp (fun k => bg (lp k)) pg k := dif_pos k.isLt
theorem outs_la (k : Fin 2048) : outs bg yp pg ya ag gl bgl sgt (la k) = gated 2048 ya (fun k => bg (la k)) ag k := by
  unfold outs
  rw [dif_neg (by show ¬(1024 + k.val < 1024); omega), dif_pos (by show 1024 + k.val < 3072; omega)]
  exact congrArg _ (Fin.ext (by show 1024 + k.val - 1024 = k.val; omega))
theorem outs_ls (k : Fin 1024) : outs bg yp pg ya ag gl bgl sgt (ls k) = gated 1024 (raw gl bgl) (fun k => bg (ls k)) sgt k := by
  unfold outs
  rw [dif_neg (by show ¬(3072 + k.val < 1024); omega), dif_neg (by show ¬(3072 + k.val < 3072); omega)]
  exact congrArg _ (Fin.ext (by show 3072 + k.val - 3072 = k.val; omega))

end Rows

/-- What the precondition `finite11` says of the arrays it reads. -/
theorem reals_of_fn (x0 : FVec Ideal Cert.Pre_finite11.S4096x1024 .f32) (x1 x2 : FVec Ideal Cert.Pre_finite11.S4096x2048 .f32)
    (x3 : FVec Ideal Cert.Pre_finite11.S4096x12288 .bf16) (x4 : FVec Ideal Cert.Pre_finite11.S2048 .f32) (x5 : FVec Ideal Cert.Pre_finite11.S4096 .f32)
    (h : Cert.Pre_finite11.fn (F := Ideal) x0 x1 x2 x3 x4 x5 = fun _ => 1#1) :
    Cert.Pre_finite4.Fin' x0 ∧ Cert.Pre_finite4.Fin' x1 ∧ Cert.Pre_finite4.Fin' x2 ∧ Cert.Pre_finite4.Fin' x3
      ∧ Cert.Pre_finite4.Fin' x4 ∧ Cert.Pre_finite4.Fin' x5 := by
  have : Subsingleton Cert.Pre_finite11.S_.Idx := ⟨fun a b => funext fun i => i.elim0⟩
  have h0 := congrFun h (Shape.Idx.first Cert.Pre_finite11.Facts.h_S_)
  obtain ⟨h, h5⟩ := IntOp.andi_eq_one.1 h0
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact ⟨exists_reals x0 _ (fun i => ofBits_inf) _ _ _ _ h, exists_reals x1 _ (fun i => ofBits_inf) _ _ _ _ h1,
    exists_reals x2 _ (fun i => ofBits_inf) _ _ _ _ h2,
    exists_reals (extf .f32 x3 Cert.Pre_finite11.Facts.bitsLt_bf16_f32) _ (fun i => ofBits_inf) _ _ _ _ h3,
    exists_reals x4 _ (fun i => ofBits_inf) _ _ _ _ h4, exists_reals x5 _ (fun i => ofBits_inf) _ _ _ _ h5⟩

section Kernel

open Cert.Kernel11Ideal Cert.Kernel11Ideal.Gen

variable (x0 : S128x1024.Idx → ℝ) (x1 x2 : S128x2048.Idx → ℝ) (x3 : S128x1024.Idx → ℝ) (x4 : S128x2048.Idx → ℝ) (x5 : S128x1024.Idx → ℝ)
  (x6 : S1x2048.Idx → ℝ) (x7 : S1x4096.Idx → ℝ)

/-- What a block of the output holds, row by row. -/
abbrev outB (p : Fin 128) (j : Fin 4096) : ℝ :=
  outs (fun k => x7 (ix2 0 k)) (fun k => x0 (ix2 p k)) (fun k => x3 (ix2 p k)) (fun k => x1 (ix2 p k)) (fun k => x4 (ix2 p k))
    (fun k => x2 (ix2 p k)) (fun k => x6 (ix2 0 k)) (fun k => x5 (ix2 p k)) j

theorem pay6 : k0_pay6 (F := Ideal) (fun i => (x7 i : EReal)) (fun i => (x0 i : EReal))
    = fun i => ((x0 i * Branch.rr 1024 (fun k => x0 (ix2 (i 0) k)) * x7 (ix2 0 (lp (i 1))) : ℝ) : EReal) := by
  funext i
  obtain ⟨p, j, rfl⟩ : ∃ p j, i = ix2 p j := ⟨i 0, i 1, (ix2_self i).symm⟩
  pointwise [k0_pay6, k0_pay4]
  simp only [mul_coe, sum_coe, ofBits_1024, ofBits_eps, div_coe _ _ (show (1024 : ℝ) ≠ 0 by norm_num), add_coe]
  have e := Branch.rsqrt_coe (fun k => x0 (ix2 p k)) (show (0 : ℝ) < 1024 by norm_num)
  simp only [Branch.ms] at e
  rw [e]
  simp only [mul_coe]

theorem pay_p (p : Fin 128) (j : Fin 1024) :
    k0_pay8 (F := Ideal) (k0_pay5 fun i => (x3 i : EReal)) (k0_pay6 (fun i => (x7 i : EReal)) fun i => (x0 i : EReal)) (k0_pay7 fun i => (x3 i : EReal)) (ix2 p j)
      = (outB x0 x1 x2 x3 x4 x5 x6 x7 p (lp j) : EReal) := by
  rw [pay6]
  pointwise [k0_pay8, k0_pay7, k0_pay5]
  simp only [e_coe, sg_coe, mul_coe]
  exact congrArg (fun r : ℝ => (r : EReal)) (outs_lp (fun k => x7 (ix2 0 k)) (fun k => x0 (ix2 p k)) (fun k => x3 (ix2 p k)) (fun k => x1 (ix2 p k)) (fun k => x4 (ix2 p k))
    (fun k => x2 (ix2 p k)) (fun k => x6 (ix2 0 k)) (fun k => x5 (ix2 p k)) j).symm

theorem pay_a (p : Fin 128) (j : Fin 2048) :
    k0_pay1 (F := Ideal) (k0_pay9 (k0_pay4 fun i => (x7 i : EReal)) (fun i => (x1 i : EReal)) fun i => (x4 i : EReal)) (ix2 p j)
      = (outB x0 x1 x2 x3 x4 x5 x6 x7 p (la j) : EReal) := by
  pointwise [k0_pay1, k0_pay9, k0_pay4]
  simp only [mul_coe, sum_coe, ofBits_2048, ofBits_eps, div_coe _ _ (show (2048 : ℝ) ≠ 0 by norm_num), add_coe]
  have e := Branch.rsqrt_coe (fun k => x1 (ix2 p k)) (show (0 : ℝ) < 2048 by norm_num)
  simp only [Branch.ms] at e
  rw [e]
  simp only [e_coe, sg_coe, mul_coe]
  exact congrArg (fun r : ℝ => (r : EReal)) (outs_la (fun k => x7 (ix2 0 k)) (fun k => x0 (ix2 p k)) (fun k => x3 (ix2 p k)) (fun k => x1 (ix2 p k)) (fun k => x4 (ix2 p k))
    (fun k => x2 (ix2 p k)) (fun k => x6 (ix2 0 k)) (fun k => x5 (ix2 p k)) j).symm

theorem pay3 : k0_pay3 (F := Ideal) (fun i => (x2 i : EReal)) (fun i => (x6 i : EReal))
    = fun i => (raw (fun k => x2 (ix2 (i 0) k)) (fun k => x6 (ix2 0 k)) (i 1) : EReal) := by
  funext i
  obtain ⟨p, j, rfl⟩ : ∃ p j, i = ix2 p j := ⟨i 0, i 1, (ix2_self i).symm⟩
  pointwise [k0_pay3]
  simp only [add_coe, e_coe, sg_coe, mul_coe]
  rfl

theorem pay_s (p : Fin 128) (j : Fin 1024) :
    k0_pay2 (F := Ideal) (k0_pay3 (fun i => (x2 i : EReal)) fun i => (x6 i : EReal)) (k0_pay4 fun i => (x7 i : EReal)) (fun i => (x5 i : EReal)) (ix2 p j)
      = (outB x0 x1 x2 x3 x4 x5 x6 x7 p (ls j) : EReal) := by
  rw [pay3]
  pointwise [k0_pay2, k0_pay4]
  simp only [mul_coe, sum_coe, ofBits_1024, ofBits_eps, div_coe _ _ (show (1024 : ℝ) ≠ 0 by norm_num), add_coe]
  have e := Branch.rsqrt_coe (fun k => raw (fun k => x2 (ix2 p k)) (fun k => x6 (ix2 0 k)) k) (show (0 : ℝ) < 1024 by norm_num)
  simp only [Branch.ms] at e
  rw [e]
  simp only [e_coe, sg_coe, mul_coe]
  exact congrArg (fun r : ℝ => (r : EReal)) (outs_ls (fun k => x7 (ix2 0 k)) (fun k => x0 (ix2 p k)) (fun k => x3 (ix2 p k)) (fun k => x1 (ix2 p k)) (fun k => x4 (ix2 p k))
    (fun k => x2 (ix2 p k)) (fun k => x6 (ix2 0 k)) (fun k => x5 (ix2 p k)) j).symm

theorem emb_p (inb) (q : Fin 128) (j : Fin 1024) : (Rect.unit (s := S128x4096) ![0, 0] ![128, 1024] inb).emb (ix2 q j : S128x1024.Idx) = ix2 q (lp j) := by
  blk_ext
theorem emb_a (inb) (q : Fin 128) (j : Fin 2048) : (Rect.unit (s := S128x4096) ![0, 1024] ![128, 2048] inb).emb (ix2 q j : S128x2048.Idx) = ix2 q (la j) := by
  blk_ext
theorem emb_s (inb) (q : Fin 128) (j : Fin 1024) : (Rect.unit (s := S128x4096) ![0, 3072] ![128, 1024] inb).emb (ix2 q j : S128x1024.Idx) = ix2 q (ls j) := by
  blk_ext

/-- The three stores of a block. -/
theorem out8 (y : S128x4096.Idx) :
    View.canon (Val := Elt Ideal) (e := .bf16) [⟨Rect.unit ![0, 3072] ![128, 1024] inb_S128x4096_S128x1024_0_3072,
        k0_pay2 (F := Ideal) (k0_pay3 (fun i => (x2 i : EReal)) fun i => (x6 i : EReal)) (k0_pay4 fun i => (x7 i : EReal)) (fun i => (x5 i : EReal))⟩,
      ⟨Rect.unit ![0, 1024] ![128, 2048] inb_S128x4096_S128x2048_0_1024,
        k0_pay1 (F := Ideal) (k0_pay9 (k0_pay4 fun i => (x7 i : EReal)) (fun i => (x1 i : EReal)) fun i => (x4 i : EReal))⟩,
      ⟨Rect.unit ![0, 0] ![128, 1024] inb_S128x4096_S128x1024_0_0,
        k0_pay8 (F := Ideal) (k0_pay5 fun i => (x3 i : EReal)) (k0_pay6 (fun i => (x7 i : EReal)) fun i => (x0 i : EReal)) (k0_pay7 fun i => (x3 i : EReal))⟩] y
    = (outB x0 x1 x2 x3 x4 x5 x6 x7 (y 0) (y 1) : EReal) := by
  refine View.canon_append_of_piecesOf (Val := Elt Ideal) (e := .bf16) (fun y => (outB x0 x1 x2 x3 x4 x5 x6 x7 (y 0) (y 1) : EReal)) [] [_, _, _]
    ⟨fun x => ?_, fun x => ?_, fun x => ?_, trivial⟩ y ?_
  · obtain ⟨q, j, rfl⟩ : ∃ (q : Fin 128) (j : Fin 1024), x = ix2 q j := ⟨x 0, x 1, (ix2_self x).symm⟩
    refine (pay_s x0 x1 x2 x3 x4 x5 x6 x7 q j).trans ?_
    rw [show (Rect.unit (s := S128x4096) ![0, 3072] ![128, 1024] inb_S128x4096_S128x1024_0_3072).emb (ix2 q j : S128x1024.Idx) = ix2 q (ls j) from emb_s _ q j]
    rfl
  · obtain ⟨q, j, rfl⟩ : ∃ (q : Fin 128) (j : Fin 2048), x = ix2 q j := ⟨x 0, x 1, (ix2_self x).symm⟩
    refine (pay_a x0 x1 x2 x3 x4 x5 x6 x7 q j).trans ?_
    rw [show (Rect.unit (s := S128x4096) ![0, 1024] ![128, 2048] inb_S128x4096_S128x2048_0_1024).emb (ix2 q j : S128x2048.Idx) = ix2 q (la j) from emb_a _ q j]
    rfl
  · obtain ⟨q, j, rfl⟩ : ∃ (q : Fin 128) (j : Fin 1024), x = ix2 q j := ⟨x 0, x 1, (ix2_self x).symm⟩
    refine (pay_p x0 x1 x2 x3 x4 x5 x6 x7 q j).trans ?_
    rw [show (Rect.unit (s := S128x4096) ![0, 0] ![128, 1024] inb_S128x4096_S128x1024_0_0).emb (ix2 q j : S128x1024.Idx) = ix2 q (lp j) from emb_p _ q j]
    rfl
  · obtain ⟨q, j, rfl⟩ : ∃ (q : Fin 128) (j : Fin 4096), y = ix2 q j := ⟨y 0, y 1, (ix2_self y).symm⟩
    rcases lanes j with ⟨k, rfl⟩ | ⟨k, rfl⟩ | ⟨k, rfl⟩
    · exact ⟨_, List.mem_cons_of_mem _ (List.mem_cons_of_mem _ (List.mem_cons_self)), mem_of_emb (emb_p inb_S128x4096_S128x1024_0_0 q k)⟩
    · exact ⟨_, List.mem_cons_of_mem _ (List.mem_cons_self), mem_of_emb (emb_a inb_S128x4096_S128x2048_0_1024 q k)⟩
    · exact ⟨_, List.mem_cons_self, mem_of_emb (emb_s inb_S128x4096_S128x1024_0_3072 q k)⟩

/-- Row `p` of block `t`. -/
def rowAt (t : Fin cfg0.N) (p : Fin 128) : Fin 4096 :=
  ⟨t.val * 128 + p.val, by have := lt_of_lt_of_eq t.isLt N_0; omega⟩

theorem idx : ∀ t : Fin cfg0.N, win0_0.index t = ![t.val, 0] ∧ win0_1.index t = ![t.val, 0] ∧ win0_2.index t = ![t.val, 0]
    ∧ win0_3.index t = ![t.val, 1] ∧ win0_4.index t = ![t.val, 4] ∧ win0_5.index t = ![t.val, 11]
    ∧ win0_6.index t = ![0, 0] ∧ win0_7.index t = ![0, 0] ∧ win0_8.index t = ![t.val, 0] :=
  (by decide +kernel : ∀ t : Fin grid0.N, _)

variable (m : (ℓ : Loc nD τ sig) → Buf (Elt Ideal) ℓ) (c : Dev nD)
variable (Y : S4096x1024.Idx → ℝ) (T L : S4096x2048.Idx → ℝ) (P : S4096x12288.Idx → ℝ) (B : S2048.Idx → ℝ) (G : S4096.Idx → ℝ)

theorem blk0 (h : m ((c : Thread nD τ).loc main_arg0) = fun i => (Y i : EReal)) (t : Fin cfg0.N) :
    iblk m c 0 t = fun y : S128x1024.Idx => (yR Y (rowAt t (y 0)) (y 1) : EReal) := by
  funext y
  blk_simp [iblk]
  rw [show V m c main_arg0 = _ from (V_main_arg0 m c).trans h]
  congr 2
  blk_ext [rowAt, idx t]

theorem blk1 (h : m ((c : Thread nD τ).loc main_arg1) = fun i => (T i : EReal)) (t : Fin cfg0.N) :
    iblk m c 1 t = fun y : S128x2048.Idx => (tR T (rowAt t (y 0)) (y 1) : EReal) := by
  funext y
  blk_simp [iblk]
  rw [show V m c main_arg1 = _ from (V_main_arg1 m c).trans h]
  congr 2
  blk_ext [rowAt, idx t]

theorem blk2 (h : m ((c : Thread nD τ).loc main_arg2) = fun i => (L i : EReal)) (t : Fin cfg0.N) :
    iblk m c 2 t = fun y : S128x2048.Idx => (lR L (rowAt t (y 0)) (y 1) : EReal) := by
  funext y
  blk_simp [iblk]
  rw [show V m c main_arg2 = _ from (V_main_arg2 m c).trans h]
  congr 2
  blk_ext [rowAt, idx t]

theorem blk3 (h : m ((c : Thread nD τ).loc main_arg3) = fun i => (P i : EReal)) (t : Fin cfg0.N) :
    iblk m c 3 t = fun y : S128x1024.Idx => (pR P (rowAt t (y 0)) (y 1) : EReal) := by
  funext y
  blk_simp [iblk]
  rw [show V m c main_arg3 = _ from (V_main_arg3 m c).trans h]
  congr 2
  blk_ext [rowAt, idx t]

theorem blk4 (h : m ((c : Thread nD τ).loc main_arg3) = fun i => (P i : EReal)) (t : Fin cfg0.N) :
    iblk m c 4 t = fun y : S128x2048.Idx => (aR P (rowAt t (y 0)) (y 1) : EReal) := by
  funext y
  blk_simp [iblk]
  rw [show V m c main_arg3 = _ from (V_main_arg3 m c).trans h]
  congr 2
  blk_ext [rowAt, idx t]

theorem blk5 (h : m ((c : Thread nD τ).loc main_arg3) = fun i => (P i : EReal)) (t : Fin cfg0.N) :
    iblk m c 5 t = fun y : S128x1024.Idx => (sR P (rowAt t (y 0)) (y 1) : EReal) := by
  funext y
  blk_simp [iblk]
  rw [show V m c main_arg3 = _ from (V_main_arg3 m c).trans h]
  congr 2
  blk_ext [rowAt, idx t]

theorem blk6 (h : m ((c : Thread nD τ).loc main_arg4) = fun i => (B i : EReal)) (t : Fin cfg0.N) :
    iblk m c 6 t = fun y : S1x2048.Idx => (bR B (y 1) : EReal) := by
  funext y
  blk_simp [iblk]
  entry_read
  rw [h]
  pointwise
  have e : (win0_6.blk t).view.emb y = ix2 (0 : Fin 1) (y 1) := by blk_ext [idx t]
  exact congrArg (fun j : Fin 2048 => ((B (ix1 j) : ℝ) : EReal)) (congrFun e 1)

theorem blk7 (h : m ((c : Thread nD τ).loc main_arg5) = fun i => (G i : EReal)) (t : Fin cfg0.N) :
    iblk m c 7 t = fun y : S1x4096.Idx => (gR G (y 1) : EReal) := by
  funext y
  blk_simp [iblk]
  entry_read
  rw [h]
  pointwise
  have e : (win0_7.blk t).view.emb y = ix2 (0 : Fin 1) (y 1) := by blk_ext [idx t]
  exact congrArg (fun j : Fin 4096 => ((G (ix1 j) : ℝ) : EReal)) (congrFun e 1)

theorem final8 (hY : m ((c : Thread nD τ).loc main_arg0) = fun i => (Y i : EReal))
    (hT : m ((c : Thread nD τ).loc main_arg1) = fun i => (T i : EReal))
    (hL : m ((c : Thread nD τ).loc main_arg2) = fun i => (L i : EReal))
    (hP : m ((c : Thread nD τ).loc main_arg3) = fun i => (P i : EReal))
    (hB : m ((c : Thread nD τ).loc main_arg4) = fun i => (B i : EReal))
    (hG : m ((c : Thread nD τ).loc main_arg5) = fun i => (G i : EReal)) :
    (dats m 0 c).arrAt 8 (cfgs 0).N = fun i : S4096x4096.Idx =>
      (outs (gR G) (yR Y (i 0)) (pR P (i 0)) (tR T (i 0)) (aR P (i 0)) (lR L (i 0)) (bR B) (sR P (i 0)) (i 1) : EReal) := by
  refine (dats m 0 c).arrAt_eq_of_covers 8 _ (by decide +kernel) fun t _ y => ?_
  have e : ((cfg0.win 8).blk t).view.emb y = ix2 (rowAt t (y 0)) (y 1) := by blk_ext [rowAt, idx t]
  rw [e]
  blk_simp
  rw [after0_8]
  unfold outsAt0 out0_A_8
  frame_out
  rw [blk0 m c Y hY, blk1 m c T hT, blk2 m c L hL, blk3 m c P hP, blk4 m c P hP, blk5 m c P hP, blk6 m c B hB, blk7 m c G hG]
  exact out8 (fun y => yR Y (rowAt t (y 0)) (y 1)) (fun y => tR T (rowAt t (y 0)) (y 1)) (fun y => lR L (rowAt t (y 0)) (y 1))
    (fun y => pR P (rowAt t (y 0)) (y 1)) (fun y => aR P (rowAt t (y 0)) (y 1)) (fun y => sR P (rowAt t (y 0)) (y 1))
    (fun y => bR B (y 1)) (fun y => gR G (y 1)) y

end Kernel

section Reference

open Cert.Reference11Ideal Cert.Reference11Ideal.Gen Cert.Reference11Ideal.Read

variable (Y : S4096x1024.Idx → ℝ) (T L : S4096x2048.Idx → ℝ) (P : S4096x12288.Idx → ℝ) (B : S2048.Idx → ℝ) (G : S4096.Idx → ℝ)

theorem ms_p (a : Fin 4096) (b : Fin 1) : val_main_v25 (F := Ideal) (fun i => (Y i : EReal)) (ix2 a b) = (Branch.ms 1024 (yR Y a) : EReal) := by
  pointwise [val_main_v25, val_main_v24, val_main_v23, val_main_v22, val_main_v21, val_main_v20, val_main_v19, val_main_cst_1, val_main_cst_2, val_main_cst_3]
  simp only [mul_coe, sum_coe, ofBits_1024, ofBits_eps, div_coe _ _ (show (1024 : ℝ) ≠ 0 by norm_num), add_coe]
  rfl

theorem ms_a (a : Fin 4096) (b : Fin 1) : val_main_v40 (F := Ideal) (fun i => (T i : EReal)) (ix2 a b) = (Branch.ms 2048 (tR T a) : EReal) := by
  pointwise [val_main_v40, val_main_v39, val_main_v38, val_main_v37, val_main_v36, val_main_v35, val_main_v34, val_main_cst_4, val_main_cst_5, val_main_cst_6]
  simp only [mul_coe, sum_coe, ofBits_2048, ofBits_eps, div_coe _ _ (show (2048 : ℝ) ≠ 0 by norm_num), add_coe]
  rfl

theorem raw_l (a : Fin 4096) (b : Fin 1024) : val_main_v15 (F := Ideal) (fun i => (L i : EReal)) (fun i => (B i : EReal)) (ix2 a b)
    = (raw (lR L a) (bR B) b : EReal) := by
  pointwise [val_main_v15, val_main_v14, val_main_v13, val_main_v12, val_main_v11, val_main_v10, val_main_v9, val_main_v8, val_main_v7, val_main_v6,
    val_main_v5, val_main_v4, val_main_cst, val_main_cst_0]
  simp only [ofBits_one, add_coe, logistic_coe, mul_coe]
  rfl

theorem ms_s (a : Fin 4096) (b : Fin 1) : val_main_v55 (F := Ideal) (fun i => (L i : EReal)) (fun i => (B i : EReal)) (ix2 a b)
    = (Branch.ms 1024 (raw (lR L a) (bR B)) : EReal) := by
  pointwise [val_main_v55, val_main_v54, val_main_v53, val_main_v52, val_main_v51, val_main_v50, val_main_v49, val_main_cst_7, val_main_cst_8, val_main_cst_9]
  simp only [raw_l, mul_coe, sum_coe, ofBits_1024, ofBits_eps, div_coe _ _ (show (1024 : ℝ) ≠ 0 by norm_num), add_coe]
  rfl

theorem out_p (a : Fin 4096) (b : Fin 1024) :
    val_main_v33 (F := Ideal) (fun i => (Y i : EReal)) (fun i => (P i : EReal)) (fun i => (G i : EReal)) (ix2 a b)
      = (gated 1024 (yR Y a) (fun k => gR G (lp k)) (pR P a) b : EReal) := by
  pointwise [val_main_v33, val_main_v32, val_main_v31, val_main_v30, val_main_v29, val_main_v28, val_main_v27, val_main_v26, val_main_v16,
    val_main_call0_v5, val_main_call0_v4, val_main_call0_v3, val_main_call0_v2, val_main_call0_v1, val_main_call0_v0, val_main_call0_cst,
    val_main_call0_cst_0, val_main_v1, val_main_v0]
  simp only [ms_p, Branch.rsqrt_coe _ (show (0 : ℝ) < 1024 by norm_num), ofBits_one, logistic_coe, mul_coe]
  rfl

theorem out_a (a : Fin 4096) (b : Fin 2048) :
    val_main_v48 (F := Ideal) (fun i => (T i : EReal)) (fun i => (P i : EReal)) (fun i => (G i : EReal)) (ix2 a b)
      = (gated 2048 (tR T a) (fun k => gR G (la k)) (aR P a) b : EReal) := by
  pointwise [val_main_v48, val_main_v47, val_main_v46, val_main_v45, val_main_v44, val_main_v43, val_main_v42, val_main_v41, val_main_v17,
    val_main_call1_v5, val_main_call1_v4, val_main_call1_v3, val_main_call1_v2, val_main_call1_v1, val_main_call1_v0, val_main_call1_cst,
    val_main_call1_cst_0, val_main_v2, val_main_v0]
  simp only [ms_a, Branch.rsqrt_coe _ (show (0 : ℝ) < 2048 by norm_num), ofBits_one, logistic_coe, mul_coe]
  rfl

theorem out_s (a : Fin 4096) (b : Fin 1024) :
    val_main_v63 (F := Ideal) (fun i => (L i : EReal)) (fun i => (P i : EReal)) (fun i => (B i : EReal)) (fun i => (G i : EReal)) (ix2 a b)
      = (gated 1024 (raw (lR L a) (bR B)) (fun k => gR G (ls k)) (sR P a) b : EReal) := by
  pointwise [val_main_v63, val_main_v62, val_main_v61, val_main_v60, val_main_v59, val_main_v58, val_main_v57, val_main_v56, val_main_v18,
    val_main_call2_v5, val_main_call2_v4, val_main_call2_v3, val_main_call2_v2, val_main_call2_v1, val_main_call2_v0, val_main_call2_cst,
    val_main_call2_cst_0, val_main_v3, val_main_v0]
  simp only [raw_l, ms_s, Branch.rsqrt_coe _ (show (0 : ℝ) < 1024 by norm_num), ofBits_one, logistic_coe, mul_coe]
  rfl

theorem out_l (a b : Fin 4096) :
    val_main_v65 (F := Ideal) (fun i => (Y i : EReal)) (fun i => (T i : EReal)) (fun i => (L i : EReal)) (fun i => (P i : EReal))
        (fun i => (B i : EReal)) (fun i => (G i : EReal)) (ix2 a b)
      = (outs (gR G) (yR Y a) (pR P a) (tR T a) (aR P a) (lR L a) (bR B) (sR P a) b : EReal) := by
  pointwise [val_main_v65, val_main_v64]
  simp only [out_p, out_a, out_s]
  unfold outs
  by_cases h : b.val < 1024
  · simp only [dif_pos h]
  · by_cases h' : b.val < 3072
    · simp only [dif_neg h, dif_pos h', dif_pos (show b.val - 1024 < 2048 by omega)]
    · simp only [dif_neg h, dif_neg h', dif_neg (show ¬(b.val - 1024 < 2048) by omega)]
      rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Reference

theorem frame_reference : Cert.quiescent_Reference11Ideal := by
  intro m ρ _
  exact (θ_run Cert.Reference11Ideal.defs _ _).mono
    (fun r h => ⟨fun c => (h c).2, sem_eq_zero_of_no_sems (by decide) r.2⟩) (run m ρ)

theorem pair : Cert.algebraic_Kernel11Ideal_Reference11Ideal_pre_finite11 := by
  intro m g m' g' hpre hag
  refine ⟨fun c => (Cert.Kernel11Ideal.Gen.dats m 0 c).arrAt 8 Cert.Kernel11Ideal.cfg0.N, Cert.Kernel11Ideal.Value.run_blocks m g,
    (θ_run Cert.Reference11Ideal.defs _ _).mono (fun r h c => ?_) (run m' g')⟩
  obtain ⟨⟨Y, hY⟩, ⟨T, hT⟩, ⟨L, hL⟩, ⟨P, hP⟩, ⟨B, hB⟩, ⟨G, hG⟩⟩ := reals_of_fn _ _ _ _ _ _ (hpre c)
  obtain ⟨a0, a1, a2, a3, a4, a5⟩ := hag c
  obtain ⟨h0, hk⟩ := h c
  refine ⟨h0.trans ?_, hk⟩
  rw [a0, a1, a2, a3, a4, a5, hY, hT, hL, hP, hB, hG]
  refine Eq.trans (funext fun i => ?_) (final8 m c Y T L P B G hY hT hL hP hB hG).symm
  obtain ⟨a, b, rfl⟩ : ∃ a b, i = ix2 a b := ⟨i 0, i 1, (ix2_self i).symm⟩
  exact out_l Y T L P B G a b

end Cert.BranchFwd

end
-- ==== Proof.PoolFwdKernel.lean ====
/- The forward pooling: what its loop leaves in the output, and the output over the reals. -/
module

public import proofs.«01_k».proof.Proof.PoolOut
public import proofs.«01_k».proof.Proof.Gen.Kernel12Ideal.Frame
public import Idealize.ShloMosaic.Lib.Pipeline.ValueKit

@[expose] public section

set_option maxRecDepth 16384

noncomputable section

namespace Cert.PoolFwd

open Idealize.ShloMosaic Idealize.ShloMosaic.TcCoe Idealize.ShloMosaic.Tactic Idealize.SL.Sem
open Cert.Kernel12Ideal Cert.Kernel12Ideal.Gen Cert.Reals
open Cert.Pool (rows readAt_rows readAt_all tiled tiled_zero tiled_ext tiled_store padV read_pad poolC lt1)

variable {F : FTy → Type} [FloatOps F]

/-- The mixed rows of a trip, from the padded input `P`. -/
def mixC (g : BitVec 32) (P : Vec F S4112x256 .f32) (W : Vec F S1x256x256 .bf16) (S : Vec F S1x256 .f32) (k : Fin k0_t1_loop.trips) : FVec F S256x256 .f32 :=
  k0_pay3 (poolC g P k) (k0_pay5 W) S

section

variable (𝒱 : Variants) (c : Dev nD) (bd : Option 𝒱.V) (i : grid0.Coords)
  (arg1 : Memref sig .tc .vmem S4096x256 .bf16) (harg1 : arg1.IsWhole) (arg2 : Memref sig .tc .vmem S1x256x256 .bf16) (harg2 : arg2.IsWhole)
  (arg3 : Memref sig .tc .vmem S1x256 .f32) (harg3 : arg3.IsWhole) (arg4 : Memref sig .tc .vmem S4096x256 .f32) (harg4 : arg4.IsWhole)
  (arg5 : Memref sig .tc .vmem S4112x256 .f32) (harg5 : arg5.IsWhole) (g : BitVec 32)
  (P : Vec F S4112x256 .f32) (W : Vec F S1x256x256 .bf16) (S : Vec F S1x256 .f32)
  (X2 : BufTy.Contents (Elt F) arg2.view.ty) (X3 : BufTy.Contents (Elt F) arg3.view.ty) (X5 : BufTy.Contents (Elt F) arg5.view.ty)
  (h2 : arg2.view.read (Elt F) X2 = W) (h3 : arg3.view.read (Elt F) X3 = S) (h5 : arg5.view.read (Elt F) X5 = P)
include h2 h3 h5

/-- What a trip stores. -/
theorem trip (k : Fin k0_t1_loop.trips) :
    tripL_k0_t1 (F := F) 𝒱 c bd i arg1 harg1 arg2 harg2 arg3 harg3 arg4 harg4 arg5 harg5 g X2 X3 X5 k
      = [⟨Rect.unit (k0_off2 k) ![256, 256] (k0_off2_inb k), mixC g P W S k⟩] := by
  subst h2 h3 h5
  have e5 : arg5.view.readAt (Elt F) (Rect.unit (k0_off1 k) ![272, 256] (k0_off1_inb k)).toLoadRect X5 = _ :=
    readAt_rows arg5.view X5 (k0_off1_inb k) _ (k0_off1_eq k) (by have := lt1 k.isLt; omega)
  have e2 := readAt_all arg2.view X2 inb_S1x256x256_S1x256x256_0_0_0 (by decide)
  have e3 := readAt_all arg3.view X3 inb_S1x256_S1x256_0_0 (by decide)
  unfold mixC poolC
  rw [← e5, ← e2, ← e3]
  unfold tripL_k0_t1 trip_k0_t1
  rfl

/-- What a buffer holds after the stores of the trips before `n`. -/
theorem loop (v : View sig .tc .vmem S4096x256 .f32) (f : v.ty.Contents (Elt F)) (n : ℕ) (hn : n ≤ 16) :
    v.read (Elt F) (v.writes (Elt F) f (pb_k0_t1 (F := F) 𝒱 c bd i arg1 harg1 arg2 harg2 arg3 harg3 arg4 harg4 arg5 harg5 g X2 X3 X5 n))
      = tiled (mixC g P W S) (v.read (Elt F) f) n := by
  induction n with
  | zero => exact (tiled_zero _ _).symm
  | succ n ih =>
    have hlt : n < k0_t1_loop.trips := lt_of_lt_of_eq (show n < 16 by omega) Cert.Pool.trips1.symm
    have e := pb_k0_t1_succ (F := F) 𝒱 c bd i arg1 harg1 arg2 harg2 arg3 harg3 arg4 harg4 arg5 harg5 g X2 X3 X5 ⟨n, hlt⟩
    rw [trip 𝒱 c bd i arg1 harg1 arg2 harg2 arg3 harg3 arg4 harg4 arg5 harg5 g P W S X2 X3 X5 h2 h3 h5] at e
    rw [show n + 1 = (⟨n, hlt⟩ : Fin k0_t1_loop.trips).val + 1 from rfl, e]
    exact tiled_store v f _ (mixC g P W S) ⟨n, hlt⟩ (k0_off2_inb ⟨n, hlt⟩) (k0_off2_eq ⟨n, hlt⟩) (ih (by omega))

end

/-- What a point leaves in its output. -/
theorem out_eq (c : Dev nD) (i : grid0.Coords)
    (arg1 : Memref sig .tc .vmem S4096x256 .bf16) (harg1 : arg1.IsWhole) (arg2 : Memref sig .tc .vmem S1x256x256 .bf16) (harg2 : arg2.IsWhole)
    (arg3 : Memref sig .tc .vmem S1x256 .f32) (harg3 : arg3.IsWhole) (arg4 : Memref sig .tc .vmem S4096x256 .f32) (harg4 : arg4.IsWhole)
    (arg5 : Memref sig .tc .vmem S4112x256 .f32) (harg5 : arg5.IsWhole)
    (x0 : Vec F S4096x256 .bf16) (x1 : Vec F S1x256x256 .bf16) (x2 : Vec F S1x256 .f32) (B : Vec F S4096x256 .f32) :
    out0_A_3 c i arg1 harg1 arg2 harg2 arg3 harg3 arg4 harg4 arg5 harg5 x0 x1 x2
      = tiled (mixC (BitVec.ofNat 32 (i 0).val) (padV x0) x1 x2) B 16 := by
  have h5 : arg5.view.read (Elt F) (arg5.view.writes (Elt F) arg5.view.junk (kernelRun0_A.sl.HS0_2 c arg1 harg1 x0)) = padV x0 :=
    (congrArg (fun z : Vec F S4096x256 .bf16 => arg5.view.read (Elt F) (arg5.view.writes (Elt F) arg5.view.junk
      [⟨Rect.unit (s := S4112x256) ![16, 0] ![4096, 256] inb_S4112x256_S4096x256_16_0, k0_pay2 z⟩,
       ⟨Rect.unit (s := S4112x256) ![0, 0] ![16, 256] inb_S4112x256_S16x256_0_0, k0_pay1 (F := F)⟩]))
      ((readAt_all arg1.view _ inb_S4096x256_S4096x256_0_0 (by decide)).trans (harg1.read_unread x0))).trans
      (read_pad arg5.view arg5.view.junk x0)
  unfold out0_A_3 kernelRun0_A
  refine (congrArg (fun n => VO0_3.read (Elt F) (VO0_3.writes (Elt F) VO0_3.junk (pb_k0_t1 Variants.none c none i arg1 harg1 arg2 harg2 arg3 harg3
    arg4 harg4 arg5 harg5 _ _ _ _ n))) Cert.Pool.trips1).trans ?_
  refine (loop Variants.none c none i arg1 harg1 arg2 harg2 arg3 harg3 arg4 harg4 arg5 harg5 _ (padV x0) x1 x2 _ _ _
    (harg2.read_unread x1) (harg3.read_unread x2) h5 VO0_3 VO0_3.junk 16 (by decide)).trans ?_
  exact tiled_ext _ _ B fun y h => absurd (show (y 0).val < 4096 from (y 0).isLt) (by omega)

end Cert.PoolFwd

end
-- ==== Proof.PoolFwdClaim.lean ====
/- The forward pooling: the claims about `pool_fwd`. -/
module

public import proofs.«01_k».proof.Defs
public import proofs.«01_k».proof.Proof.BranchPre
public import proofs.«01_k».proof.Proof.PoolRef
public import proofs.«01_k».proof.Proof.PoolKernel
public import proofs.«01_k».proof.Proof.PoolFwdKernel
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite12
public import Idealize.ShloMosaic.Lib.Pipeline.ValueKit
public import Idealize.ShloMosaic.Lib.Pointwise

@[expose] public section

set_option maxRecDepth 16384

noncomputable section

namespace Cert.PoolFwd

open Idealize.ShloMosaic Idealize.ShloMosaic.TcCoe Idealize.ShloMosaic.Tactic Idealize.SL.Sem Cert.Reals Finset
open Cert.Pool (xcol at4 at4_div at4_mod at4_of b1 b2 b3 pooled pool_k tk tiled tiled_at padV gOf cOf)

/-- The mixed and scaled pooling at row `t`, of column `d` of group `g`. -/
def mix (X : Cert.Kernel6Ideal.S4096x12288.Idx → ℝ) (W : Cert.Kernel6Ideal.S4x256x256.Idx → ℝ) (S : Cert.Kernel6Ideal.S1024.Idx → ℝ)
    (g : Fin 4) (d : Fin 256) (t : Fin 4096) : ℝ :=
  (∑ c : Fin 256, pooled X g c t * W (ix3 g c d)) * S (ix1 (at4 g d))

/-- The precondition makes the three arguments real. -/
theorem reals_of_fn (x0 : FVec Ideal Cert.Pre_finite12.S4096x12288 .bf16) (x1 : FVec Ideal Cert.Pre_finite12.S4x256x256 .bf16)
    (x2 : FVec Ideal Cert.Pre_finite12.S1024 .f32) (h : Cert.Pre_finite12.fn (F := Ideal) x0 x1 x2 = fun _ => 1#1) :
    Cert.Pre_finite4.Fin' x0 ∧ Cert.Pre_finite4.Fin' x1 ∧ Cert.Pre_finite4.Fin' x2 := by
  have : Subsingleton Cert.Pre_finite12.S_.Idx := ⟨fun a b => funext fun i => i.elim0⟩
  have h0 := congrFun h (Shape.Idx.first Cert.Pre_finite12.Facts.h_S_)
  obtain ⟨h, h2⟩ := IntOp.andi_eq_one.1 h0
  obtain ⟨h, h1⟩ := IntOp.andi_eq_one.1 h
  exact ⟨exists_reals (extf .f32 x0 Cert.Pre_finite12.Facts.bitsLt_bf16_f32) _ (fun i => ofBits_inf) _ _ _ _ h,
    exists_reals (extf .f32 x1 Cert.Pre_finite12.Facts.bitsLt_bf16_f32) _ (fun i => ofBits_inf) _ _ _ _ h1,
    exists_reals x2 _ (fun i => ofBits_inf) _ _ _ _ h2⟩

section Kernel

open Cert.Kernel12Ideal Cert.Kernel12Ideal.Gen

variable (X : S4096x12288.Idx → ℝ) (W : S4x256x256.Idx → ℝ) (S : S1024.Idx → ℝ)

theorem mix_k (g : Fin 4) (k : Fin k0_t1_loop.trips) (r d : Fin 256) :
    mixC (F := Ideal) (BitVec.ofNat 32 g.val) (padV (b1 X g)) (b2 W g) (b3 S g) k (ix2 r d) = (mix X W S g d (tk k r) : EReal) := by
  have w (c : Fin 256) : k0_pay5 (F := Ideal) (b2 W g) (ix2 c d) = (W (ix3 g c d) : EReal) := Cert.Pool.w14 W g c d
  pointwise [mixC, k0_pay3]
  simp only [pool_k, w, b3, mul_coe, sum_coe]
  rfl

theorem out_l (g : Fin 4) (c : Dev nD) (i : grid0.Coords) (hi : (i 0).val = g.val)
    (arg1 : Memref sig .tc .vmem S4096x256 .bf16) (harg1 : arg1.IsWhole) (arg2 : Memref sig .tc .vmem S1x256x256 .bf16) (harg2 : arg2.IsWhole)
    (arg3 : Memref sig .tc .vmem S1x256 .f32) (harg3 : arg3.IsWhole) (arg4 : Memref sig .tc .vmem S4096x256 .f32) (harg4 : arg4.IsWhole)
    (arg5 : Memref sig .tc .vmem S4112x256 .f32) (harg5 : arg5.IsWhole) (t : Fin 4096) (d : Fin 256) :
    out0_A_3 (F := Ideal) c i arg1 harg1 arg2 harg2 arg3 harg3 arg4 harg4 arg5 harg5 (b1 X g) (b2 W g) (b3 S g) (ix2 t d)
      = (mix X W S g d t : EReal) := by
  rw [out_eq c i arg1 harg1 arg2 harg2 arg3 harg3 arg4 harg4 arg5 harg5 _ _ _ (fun _ => (0 : EReal)), hi]
  exact tiled_at _ _ (mix X W S g d) d (fun k r => mix_k X W S g k r d) t t.isLt

variable (m : (ℓ : Loc nD τ sig) → Buf (Elt Ideal) ℓ) (c : Dev nD)

/-- A point's group. -/
def gp (t : Fin cfg0.N) : Fin 4 := ⟨t.val, t.isLt.trans_eq (by decide)⟩

theorem coord : ∀ t : Fin cfg0.N, ((grid0.coords t) 0).val = (gp t).val := (by decide +kernel : ∀ t : Fin grid0.N, _)

theorem idx : ∀ t : Fin cfg0.N, win0_0.index t = ![0, t.val] ∧ win0_1.index t = ![t.val, 0, 0]
    ∧ win0_2.index t = ![0, t.val] ∧ win0_3.index t = ![0, t.val] :=
  (by decide +kernel : ∀ t : Fin grid0.N, _)

theorem blk0 (h : m ((c : Thread nD τ).loc main_arg0) = fun i => (X i : EReal)) (t : Fin cfg0.N) : iblk m c 0 t = b1 X (gp t) := by
  funext y
  blk_simp [iblk]
  rw [show V m c main_arg0 = _ from (V_main_arg0 m c).trans h]
  refine congrArg (fun j => (X j : EReal)) ?_
  blk_ext [gp, idx t]

theorem blk1 (h : m ((c : Thread nD τ).loc main_arg1) = fun i => (W i : EReal)) (t : Fin cfg0.N) : iblk m c 1 t = b2 W (gp t) := by
  funext y
  blk_simp [iblk]
  rw [show V m c main_arg1 = _ from (V_main_arg1 m c).trans h]
  refine congrArg (fun j => (W j : EReal)) ?_
  blk_ext [gp, idx t]

theorem blk2 (h : m ((c : Thread nD τ).loc main_arg2) = fun i => (S i : EReal)) (t : Fin cfg0.N) : iblk m c 2 t = b3 S (gp t) := by
  funext y
  have e : (win0_2.blk t).view.emb y = ix2 (0 : Fin 1) (at4 (gp t) (y 1)) := by blk_ext [gp, at4, idx t]
  blk_simp [iblk]
  rw [e]
  entry_read
  rw [h]
  pointwise
  rfl

variable (hX : m ((c : Thread nD τ).loc main_arg0) = fun i => (X i : EReal))
  (hW : m ((c : Thread nD τ).loc main_arg1) = fun i => (W i : EReal)) (hS : m ((c : Thread nD τ).loc main_arg2) = fun i => (S i : EReal))
include hX hW hS

theorem final3 : (dats m 0 c).arrAt 3 (cfgs 0).N = fun i : S4096x1024.Idx => (mix X W S (gOf (i 1)) (cOf (i 1)) (i 0) : EReal) := by
  refine (dats m 0 c).arrAt_eq_of_covers 3 _ (by decide +kernel) fun t _ y => ?_
  obtain ⟨a, b, rfl⟩ : ∃ a b, y = ix2 a b := ⟨y 0, y 1, (ix2_self y).symm⟩
  have e : ((cfg0.win 3).blk t).view.emb (ix2 a b) = ix2 a (at4 (gp t) b) := by blk_ext [gp, at4, idx t]
  rw [e]
  blk_simp
  rw [after0_3]
  unfold outsAt0
  rw [blk0 X m c hX, blk1 W m c hW, blk2 S m c hS]
  refine (out_l X W S (gp t) c _ (coord t) _ _ _ _ _ _ _ _ _ _ a b).trans ?_
  show _ = (mix X W S (gOf (at4 (gp t) b)) (cOf (at4 (gp t) b)) a : EReal)
  rw [show gOf (at4 (gp t) b) = gp t from at4_div _ _ _, show cOf (at4 (gp t) b) = b from at4_mod _ _ _]

end Kernel

section Reference

open Cert.Reference12Ideal Cert.Reference12Ideal.Gen Cert.Reference12Ideal.Read

variable (X : S4096x12288.Idx → ℝ) (W : S4x256x256.Idx → ℝ) (S : S1024.Idx → ℝ)

/-- The stacked pooling of this reference is that of the gradient's. -/
theorem same (x : S4096x12288.Idx → EReal) : val_main_v64 (F := Ideal) x = Cert.Reference6Ideal.Read.val_main_v69 (F := Ideal) x := rfl

theorem mix_r (t : Fin 4096) (g : Fin 4) (d : Fin 256) :
    val_main_v71 (F := Ideal) (fun i => (X i : EReal)) (fun i => (W i : EReal)) (fun i => (S i : EReal)) (ix2 t (at4 g d)) = (mix X W S g d t : EReal) := by
  have v64 (t : Fin 4096) (g : Fin 4) (c : Fin 256) : val_main_v64 (F := Ideal) (fun i => (X i : EReal)) (ix3 t g c) = (pooled X g c t : EReal) := by
    rw [same]
    exact Cert.Reference6Ideal.Pool.v69 X t g c
  pointwise [val_main_v71, val_main_v70, val_main_v69, val_main_v68, val_main_v67, val_main_v66, val_main_v65]
  simp only [at4_div, at4_mod, v64, mul_coe, sum_coe]
  refine congrArg Real.toEReal (congrArg₂ (· * ·) (sum_congr rfl fun c _ => mul_comm _ _) rfl)

/-- The run of the reference, its result as the named stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = val_main_v71 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    exact ⟨h0.trans (val_main_v71_eq ..), hk⟩) (Value.run m ρ)

end Reference

theorem frame_reference : Cert.quiescent_Reference12Ideal := by
  intro m ρ _
  exact (θ_run Cert.Reference12Ideal.defs _ _).mono
    (fun r h => ⟨fun c => (h c).2, sem_eq_zero_of_no_sems (by decide) r.2⟩) (run m ρ)

theorem pair : Cert.algebraic_Kernel12Ideal_Reference12Ideal_pre_finite12 := by
  intro m g m' g' hpre hag
  refine ⟨fun c => (Cert.Kernel12Ideal.Gen.dats m 0 c).arrAt 3 Cert.Kernel12Ideal.cfg0.N, Cert.Kernel12Ideal.Value.run_blocks m g,
    (θ_run Cert.Reference12Ideal.defs _ _).mono (fun r h c => ?_) (run m' g')⟩
  obtain ⟨⟨X, hX⟩, ⟨W, hW⟩, ⟨S, hS⟩⟩ := reals_of_fn _ _ _ (hpre c)
  obtain ⟨a0, a1, a2⟩ := hag c
  obtain ⟨h0, hk⟩ := h c
  refine ⟨h0.trans ?_, hk⟩
  rw [a0, a1, a2, hX, hW, hS]
  refine Eq.trans (funext fun i => ?_) (final3 X W S m c hX hW hS).symm
  obtain ⟨a, b, rfl⟩ : ∃ a b, i = ix2 a b := ⟨i 0, i 1, (ix2_self i).symm⟩
  rw [← at4_of b]
  refine (mix_r X W S a (gOf b) (cOf b)).trans ?_
  show _ = (mix X W S (gOf (at4 (gOf b) (cOf b))) (cOf (at4 (gOf b) (cOf b))) a : EReal)
  rw [at4_of]

end Cert.PoolFwd

end
-- ==== Proof.MmOutClaim.lean ====
/- The output product with the residual added: the claims about it.  At any arguments. -/
module

public import proofs.«01_k».proof.Defs
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmOut

/-- The result's entry. -/
def entry (y : (⟨2, ![4096, 4096]⟩ : Shape).Idx → EReal) (w : (⟨2, ![4096, 4096]⟩ : Shape).Idx → EReal) (x : (⟨2, ![4096, 4096]⟩ : Shape).Idx → EReal) (p j : Fin 4096) : EReal :=
  (∑ k : Fin 4096, y (ix2 p k) * w (ix2 k j)) + x (ix2 p j)

section Kernel

open Cert.Kernel13Ideal Cert.Kernel13Ideal.Gen

theorem idx : ∀ t : Fin cfg0.N, win0_0.index t = ![t.val / 8, 0] ∧ win0_1.index t = ![0, t.val % 8] ∧ win0_2.index t = ![t.val / 8, t.val % 8]
    ∧ win0_3.index t = ![t.val / 8, t.val % 8] :=
  (by decide +kernel : ∀ t : Fin grid0.N, _)

theorem pay1 (a : Vec Ideal S1024x4096 .bf16) (b : Vec Ideal S4096x512 .bf16) (c : Vec Ideal S1024x512 .f32) (p : Fin 1024) (j : Fin 512) :
    k0_pay1 (F := Ideal) a b c (ix2 p j) = (∑ k : Fin 4096, a (ix2 p k) * b (ix2 k j)) + c (ix2 p j) := by
  pointwise [k0_pay1]

/-- Places of a block's entries. -/
def row (t : Fin cfg0.N) (p : Fin 1024) : Fin 4096 := ⟨t.val / 8 * 1024 + p.val, by have := lt_of_lt_of_eq t.isLt N_0; omega⟩
def col (t : Fin cfg0.N) (j : Fin 512) : Fin 4096 := ⟨t.val % 8 * 512 + j.val, by omega⟩

variable (m : (ℓ : Loc nD τ sig) → Buf (Elt Ideal) ℓ) (c : Dev nD)

theorem blk0 (t : Fin cfg0.N) (p : Fin 1024) (k : Fin 4096) :
    (show FVec Ideal S1024x4096 .bf16 from iblk m c 0 t) (ix2 p k) = (show FVec Ideal S4096x4096 .bf16 from m ((c : Thread nD τ).loc main_arg0)) (ix2 (row t p) k) := by
  blk_ext [iblk, V, row, col, idx t]

theorem blk1 (t : Fin cfg0.N) (k : Fin 4096) (j : Fin 512) :
    (show FVec Ideal S4096x512 .bf16 from iblk m c 1 t) (ix2 k j) = (show FVec Ideal S4096x4096 .bf16 from m ((c : Thread nD τ).loc main_arg1)) (ix2 k (col t j)) := by
  blk_ext [iblk, V, row, col, idx t]

theorem blk2 (t : Fin cfg0.N) (p : Fin 1024) (j : Fin 512) :
    (show FVec Ideal S1024x512 .f32 from iblk m c 2 t) (ix2 p j) = (show FVec Ideal S4096x4096 .f32 from m ((c : Thread nD τ).loc main_arg2)) (ix2 (row t p) (col t j)) := by
  blk_ext [iblk, V, row, col, idx t]

theorem final : (dats m 0 c).arrAt 3 (cfgs 0).N = fun i : S4096x4096.Idx => entry (show FVec Ideal S4096x4096 .bf16 from m ((c : Thread nD τ).loc main_arg0)) (show FVec Ideal S4096x4096 .bf16 from m ((c : Thread nD τ).loc main_arg1)) (show FVec Ideal S4096x4096 .f32 from m ((c : Thread nD τ).loc main_arg2)) (i 0) (i 1) := by
  refine (dats m 0 c).arrAt_eq_of_covers 3 _ (by decide +kernel) fun t _ y => ?_
  obtain ⟨p, j, rfl⟩ : ∃ p j, y = ix2 p j := ⟨y 0, y 1, (ix2_self y).symm⟩
  have e : ((cfg0.win 3).blk t).view.emb (ix2 p j) = ix2 (row t p) (col t j) := by blk_ext [row, col, idx t]
  rw [e]
  blk_simp
  rw [after0_3]
  frame_out
  rw [pay1]
  exact congrArg₂ (· + ·) (Finset.sum_congr rfl fun k _ => congrArg₂ (· * ·) (blk0 m c t p k) (blk1 m c t k j)) (blk2 m c t p j)

end Kernel

section Reference

open Cert.Reference13Ideal Cert.Reference13Ideal.Gen Cert.Reference13Ideal.Read

theorem value (y : Vec Ideal S4096x4096 .bf16) (w : Vec Ideal S4096x4096 .bf16) (x : Vec Ideal S4096x4096 .f32) (p j : Fin 4096) :
    val_main_v3 (F := Ideal) y w x (ix2 p j) = entry y w x p j := by
  pointwise [val_main_v3, val_main_v2, val_main_v1, val_main_v0]
  exact add_comm _ _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    exact ⟨h0.trans (val_main_v3_eq ..), hk⟩) (Value.run m ρ)

end Reference

theorem frame_reference : Cert.quiescent_Reference13Ideal := by
  intro m ρ _
  exact (θ_run Cert.Reference13Ideal.defs _ _).mono (fun r h => ⟨fun c => (h c).2, sem_eq_zero_of_no_sems (by decide) r.2⟩)
    (run m ρ)

theorem pair : Cert.algebraic_Kernel13Ideal_Reference13Ideal := by
  intro m g m' g' _ hag
  refine ⟨fun c => (Cert.Kernel13Ideal.Gen.dats m 0 c).arrAt 3 Cert.Kernel13Ideal.cfg0.N,
    Cert.Kernel13Ideal.Value.run_blocks m g,
    (θ_run Cert.Reference13Ideal.defs _ _).mono (fun r h c => ?_) (run m' g')⟩
  obtain ⟨a0, a1, a2⟩ := hag c
  obtain ⟨h0, hk⟩ := h c
  refine ⟨h0.trans ?_, hk⟩
  rw [a0, a1, a2]
  refine Eq.trans (funext fun i => ?_) (final m c).symm
  obtain ⟨p, j, rfl⟩ : ∃ p j, i = ix2 p j := ⟨i 0, i 1, (ix2_self i).symm⟩
  exact value _ _ _ p j

end Cert.MmOut

end
-- ==== Proof.MmDyClaim.lean ====
/- The gradient by the output product's rows: the claims about it.  At any arguments. -/
module

public import proofs.«01_k».proof.Defs
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDy

/-- The result's entry. -/
def entry (y : (⟨2, ![4096, 4096]⟩ : Shape).Idx → EReal) (w : (⟨2, ![4096, 4096]⟩ : Shape).Idx → EReal) (p j : Fin 4096) : EReal :=
  ∑ k : Fin 4096, y (ix2 p k) * w (ix2 j k)

section Kernel

open Cert.Kernel14Ideal Cert.Kernel14Ideal.Gen

theorem idx : ∀ t : Fin cfg0.N, win0_0.index t = ![t.val / 8, 0] ∧ win0_1.index t = ![t.val % 8, 0] ∧ win0_2.index t = ![t.val / 8, t.val % 8] :=
  (by decide +kernel : ∀ t : Fin grid0.N, _)

theorem pay1 (a : Vec Ideal S1024x4096 .bf16) (b : Vec Ideal S512x4096 .bf16) (p : Fin 1024) (j : Fin 512) :
    k0_pay1 (F := Ideal) a b (ix2 p j) = ∑ k : Fin 4096, a (ix2 p k) * b (ix2 j k) := by
  pointwise [k0_pay1]

/-- Places of a block's entries. -/
def row (t : Fin cfg0.N) (p : Fin 1024) : Fin 4096 := ⟨t.val / 8 * 1024 + p.val, by have := lt_of_lt_of_eq t.isLt N_0; omega⟩
def col (t : Fin cfg0.N) (j : Fin 512) : Fin 4096 := ⟨t.val % 8 * 512 + j.val, by omega⟩

variable (m : (ℓ : Loc nD τ sig) → Buf (Elt Ideal) ℓ) (c : Dev nD)

theorem blk0 (t : Fin cfg0.N) (p : Fin 1024) (k : Fin 4096) :
    (show FVec Ideal S1024x4096 .bf16 from iblk m c 0 t) (ix2 p k) = (show FVec Ideal S4096x4096 .bf16 from m ((c : Thread nD τ).loc main_arg0)) (ix2 (row t p) k) := by
  blk_ext [iblk, V, row, col, idx t]

theorem blk1 (t : Fin cfg0.N) (j : Fin 512) (k : Fin 4096) :
    (show FVec Ideal S512x4096 .bf16 from iblk m c 1 t) (ix2 j k) = (show FVec Ideal S4096x4096 .bf16 from m ((c : Thread nD τ).loc main_arg1)) (ix2 (col t j) k) := by
  blk_ext [iblk, V, row, col, idx t]

theorem final : (dats m 0 c).arrAt 2 (cfgs 0).N = fun i : S4096x4096.Idx => entry (show FVec Ideal S4096x4096 .bf16 from m ((c : Thread nD τ).loc main_arg0)) (show FVec Ideal S4096x4096 .bf16 from m ((c : Thread nD τ).loc main_arg1)) (i 0) (i 1) := by
  refine (dats m 0 c).arrAt_eq_of_covers 2 _ (by decide +kernel) fun t _ y => ?_
  obtain ⟨p, j, rfl⟩ : ∃ p j, y = ix2 p j := ⟨y 0, y 1, (ix2_self y).symm⟩
  have e : ((cfg0.win 2).blk t).view.emb (ix2 p j) = ix2 (row t p) (col t j) := by blk_ext [row, col, idx t]
  rw [e]
  blk_simp
  rw [after0_2]
  frame_out
  rw [pay1]
  exact congrArg (fun f : Fin 4096 → EReal => ∑ k, f k) (funext fun k => congrArg₂ (fun a b : EReal => a * b) (blk0 m c t p k) (blk1 m c t j k))

end Kernel

section Reference

open Cert.Reference14Ideal Cert.Reference14Ideal.Gen Cert.Reference14Ideal.Read

theorem value (y : Vec Ideal S4096x4096 .bf16) (w : Vec Ideal S4096x4096 .bf16) (p j : Fin 4096) :
    val_main_v3 (F := Ideal) y w (ix2 p j) = entry y w p j := by
  pointwise [val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v3_eq ..), hk⟩) (Value.run m ρ)

end Reference

theorem frame_reference : Cert.quiescent_Reference14Ideal := by
  intro m ρ _
  exact (θ_run Cert.Reference14Ideal.defs _ _).mono (fun r h => ⟨fun c => (h c).2, sem_eq_zero_of_no_sems (by decide) r.2⟩)
    (run m ρ)

theorem pair : Cert.algebraic_Kernel14Ideal_Reference14Ideal := by
  intro m g m' g' _ hag
  refine ⟨fun c => (Cert.Kernel14Ideal.Gen.dats m 0 c).arrAt 2 Cert.Kernel14Ideal.cfg0.N,
    Cert.Kernel14Ideal.Value.run_blocks m g,
    (θ_run Cert.Reference14Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨p, j, rfl⟩ : ∃ p j, i = ix2 p j := ⟨i 0, i 1, (ix2_self i).symm⟩
  exact value _ _ p j

end Cert.MmDy

end
-- ==== Proof.MmDwClaim.lean ====
/- The gradient by the output product's weights: the claims about it.  At any arguments. -/
module

public import proofs.«01_k».proof.Defs
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDw

/-- The result's entry. -/
def entry (y : (⟨2, ![4096, 4096]⟩ : Shape).Idx → EReal) (w : (⟨2, ![4096, 4096]⟩ : Shape).Idx → EReal) (p j : Fin 4096) : EReal :=
  ∑ k : Fin 4096, y (ix2 k p) * w (ix2 k j)

section Kernel

open Cert.Kernel15Ideal Cert.Kernel15Ideal.Gen

theorem idx : ∀ t : Fin cfg0.N, win0_0.index t = ![0, t.val / 8] ∧ win0_1.index t = ![0, t.val % 8] ∧ win0_2.index t = ![t.val / 8, t.val % 8] :=
  (by decide +kernel : ∀ t : Fin grid0.N, _)

theorem pay1 (a : Vec Ideal S4096x1024 .bf16) (b : Vec Ideal S4096x512 .bf16) (p : Fin 1024) (j : Fin 512) :
    k0_pay1 (F := Ideal) a b (ix2 p j) = ∑ k : Fin 4096, a (ix2 k p) * b (ix2 k j) := by
  pointwise [k0_pay1]

/-- Places of a block's entries. -/
def row (t : Fin cfg0.N) (p : Fin 1024) : Fin 4096 := ⟨t.val / 8 * 1024 + p.val, by have := lt_of_lt_of_eq t.isLt N_0; omega⟩
def col (t : Fin cfg0.N) (j : Fin 512) : Fin 4096 := ⟨t.val % 8 * 512 + j.val, by omega⟩

variable (m : (ℓ : Loc nD τ sig) → Buf (Elt Ideal) ℓ) (c : Dev nD)

theorem blk0 (t : Fin cfg0.N) (k : Fin 4096) (p : Fin 1024) :
    (show FVec Ideal S4096x1024 .bf16 from iblk m c 0 t) (ix2 k p) = (show FVec Ideal S4096x4096 .bf16 from m ((c : Thread nD τ).loc main_arg0)) (ix2 k (row t p)) := by
  blk_ext [iblk, V, row, col, idx t]

theorem blk1 (t : Fin cfg0.N) (k : Fin 4096) (j : Fin 512) :
    (show FVec Ideal S4096x512 .bf16 from iblk m c 1 t) (ix2 k j) = (show FVec Ideal S4096x4096 .bf16 from m ((c : Thread nD τ).loc main_arg1)) (ix2 k (col t j)) := by
  blk_ext [iblk, V, row, col, idx t]

theorem final : (dats m 0 c).arrAt 2 (cfgs 0).N = fun i : S4096x4096.Idx => entry (show FVec Ideal S4096x4096 .bf16 from m ((c : Thread nD τ).loc main_arg0)) (show FVec Ideal S4096x4096 .bf16 from m ((c : Thread nD τ).loc main_arg1)) (i 0) (i 1) := by
  refine (dats m 0 c).arrAt_eq_of_covers 2 _ (by decide +kernel) fun t _ y => ?_
  obtain ⟨p, j, rfl⟩ : ∃ p j, y = ix2 p j := ⟨y 0, y 1, (ix2_self y).symm⟩
  have e : ((cfg0.win 2).blk t).view.emb (ix2 p j) = ix2 (row t p) (col t j) := by blk_ext [row, col, idx t]
  rw [e]
  blk_simp
  rw [after0_2]
  frame_out
  rw [pay1]
  exact congrArg (fun f : Fin 4096 → EReal => ∑ k, f k) (funext fun k => congrArg₂ (fun a b : EReal => a * b) (blk0 m c t k p) (blk1 m c t k j))

end Kernel

section Reference

open Cert.Reference15Ideal Cert.Reference15Ideal.Gen Cert.Reference15Ideal.Read

theorem value (y : Vec Ideal S4096x4096 .bf16) (w : Vec Ideal S4096x4096 .bf16) (p j : Fin 4096) :
    val_main_v3 (F := Ideal) y w (ix2 p j) = entry y w p j := by
  pointwise [val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v3_eq ..), hk⟩) (Value.run m ρ)

end Reference

theorem frame_reference : Cert.quiescent_Reference15Ideal := by
  intro m ρ _
  exact (θ_run Cert.Reference15Ideal.defs _ _).mono (fun r h => ⟨fun c => (h c).2, sem_eq_zero_of_no_sems (by decide) r.2⟩)
    (run m ρ)

theorem pair : Cert.algebraic_Kernel15Ideal_Reference15Ideal := by
  intro m g m' g' _ hag
  refine ⟨fun c => (Cert.Kernel15Ideal.Gen.dats m 0 c).arrAt 2 Cert.Kernel15Ideal.cfg0.N,
    Cert.Kernel15Ideal.Value.run_blocks m g,
    (θ_run Cert.Reference15Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨p, j, rfl⟩ : ∃ p j, i = ix2 p j := ⟨i 0, i 1, (ix2_self i).symm⟩
  exact value _ _ p j

end Cert.MmDw

end
-- ==== Proof.AdamClaim.lean ====
/- The optimiser's step for the small parameters: the claims about `adamw_small`.  At any arguments. -/
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.Adam

/-- A constant of the step. -/
abbrev lit (b : BitVec 32) : EReal := Ideal.ofBits .f32 b

/-- The moments and the step, from the gradient's entry. -/
def newM (g m : EReal) : EReal := lit 0x3F666666#32 * m + lit 0x3DCCCCCD#32 * g
def newV (g v : EReal) : EReal := lit 0x3F7FBE77#32 * v + lit 0x3A83126F#32 * (g * g)
def step (g w m v : EReal) : EReal :=
  lit 0xBA83126F#32 * (Ideal.div (newM g m * lit 0x3FC48605#32) (Ideal.sqrt (newV g v * lit 0x42C8E6D3#32) + lit 0x322BCC77#32) + lit 0x3C23D70A#32 * w)

/-- The gradient's entry: the devices' parts, and in the first 32 rows the parts that came apart. -/
def grad (G : (⟨3, ![8, 4608, 128]⟩ : Shape).Idx → EReal) (H : (⟨3, ![8, 32, 128]⟩ : Shape).Idx → EReal) (p : Fin 4608) (j : Fin 128) : EReal :=
  (∑ d : Fin 8, G (ix3 d p j)) + if h : p.val < 32 then ∑ d : Fin 8, H (ix3 d ⟨p.val, h⟩ j) else 0

section Kernel

open Cert.Kernel16Ideal Cert.Kernel16Ideal.Gen

theorem idx : ∀ t : Fin cfg0.N, win0_0.index t = ![0, t.val, 0] ∧ win0_1.index t = ![0, 0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem coord : ∀ t : Fin cfg0.N, ((grid0.coords t) 0).val = t.val := (by decide +kernel : ∀ t : Fin grid0.N, _)

theorem first (k : Fin 9) (a b : EReal) : Scalar.select (Scalar.cmpi .eq (BitVec.ofNat 32 k.val) 0#32) a b = if k.val = 0 then a else b := by
  fin_cases k <;> rfl

section

variable (i : grid0.Coords) (G : Vec Ideal S8x512x128 .f32) (H : Vec Ideal S8x32x128 .f32) (w m v : Vec Ideal S512x128 .f32)

theorem pay9 (p : Fin 512) (j : Fin 128) : k0_pay9 (F := Ideal) i G H w m v (ix2 p j)
    = (∑ d : Fin 8, G (ix3 d p j)) + if h : (i 0).val = 0 ∧ p.val < 32 then ∑ d : Fin 8, H (ix3 d ⟨p.val, h.2⟩ j) else 0 := by
  unfold k0_pay9 k0_pay7 k0_pay8
  pointwise [k0_pay5, k0_pay3, k0_pay4]
  rw [Fin.sum_univ_eight]
  by_cases hp : p.val < 32
  · rw [dif_pos hp]
    refine congrArg (fun z : EReal => _ + z) ((first (i 0) _ _).trans ?_)
    by_cases h0 : (i 0).val = 0
    · rw [if_pos h0, dif_pos ⟨h0, hp⟩]
      exact (Fin.sum_univ_eight fun d => H (ix3 d ⟨p.val, hp⟩ j)).symm
    · rw [if_neg h0, dif_neg fun h => h0 h.1]
  · rw [dif_neg hp, dif_neg fun h => hp h.2, add_zero]
    have e (d : Fin 8) : G (ix3 d ⟨32 + (p.val - 32), by omega⟩ j) = G (ix3 d p j) :=
      congrArg (fun q => G (ix3 d q j)) (Fin.ext (by show 32 + (p.val - 32) = p.val; omega))
    simp only [← e]

theorem pay10 (p : Fin 512) (j : Fin 128) : k0_pay10 (F := Ideal) i G H w m v (ix2 p j)
    = newM (k0_pay9 (F := Ideal) i G H w m v (ix2 p j)) (m (ix2 p j)) := by
  unfold k0_pay10
  pointwise [k0_pay6]
  rfl

theorem out5 (p : Fin 512) (j : Fin 128) : out0_5 (F := Ideal) i G H w m v (ix2 p j) = k0_pay9 (F := Ideal) i G H w m v (ix2 p j) := by
  frame_out

theorem out7 (p : Fin 512) (j : Fin 128) : out0_7 (F := Ideal) i G H w m v (ix2 p j)
    = newM (k0_pay9 (F := Ideal) i G H w m v (ix2 p j)) (m (ix2 p j)) := by
  rw [← pay10]
  frame_out

theorem out8 (p : Fin 512) (j : Fin 128) : out0_8 (F := Ideal) i G H w m v (ix2 p j)
    = newV (k0_pay9 (F := Ideal) i G H w m v (ix2 p j)) (v (ix2 p j)) := by
  frame_out
  pointwise [k0_pay1]
  rfl

theorem out6 (p : Fin 512) (j : Fin 128) : out0_6 (F := Ideal) i G H w m v (ix2 p j)
    = step (k0_pay9 (F := Ideal) i G H w m v (ix2 p j)) (w (ix2 p j)) (m (ix2 p j)) (v (ix2 p j)) := by
  unfold step
  rw [← pay10]
  frame_out
  pointwise [k0_pay2, k0_pay1]
  rfl

end

/-- Row `p` of block `t`. -/
def row (t : Fin cfg0.N) (p : Fin 512) : Fin 4608 := ⟨t.val * 512 + p.val, by have := lt_of_lt_of_eq t.isLt N_0; omega⟩

variable (m : (ℓ : Loc nD τ sig) → Buf (Elt Ideal) ℓ) (c : Dev nD)

/-- The arguments. -/
abbrev a0 : FVec Ideal S8x4608x128 .f32 := m ((c : Thread nD τ).loc main_arg0)
abbrev a1 : FVec Ideal S8x32x128 .f32 := m ((c : Thread nD τ).loc main_arg1)
abbrev a2 : FVec Ideal S4608x128 .f32 := m ((c : Thread nD τ).loc main_arg2)
abbrev a3 : FVec Ideal S4608x128 .f32 := m ((c : Thread nD τ).loc main_arg3)
abbrev a4 : FVec Ideal S4608x128 .f32 := m ((c : Thread nD τ).loc main_arg4)

theorem blk0 (t : Fin cfg0.N) (d : Fin 8) (p : Fin 512) (j : Fin 128) :
    (show FVec Ideal S8x512x128 .f32 from iblk m c 0 t) (ix3 d p j) = a0 m c (ix3 d (row t p) j) := by
  blk_ext [iblk, V, row, idx t]

theorem blk1 (t : Fin cfg0.N) (d : Fin 8) (p : Fin 32) (j : Fin 128) :
    (show FVec Ideal S8x32x128 .f32 from iblk m c 1 t) (ix3 d p j) = a1 m c (ix3 d p j) := by
  blk_ext [iblk, V, idx t]

theorem blk2 (t : Fin cfg0.N) (p : Fin 512) (j : Fin 128) :
    (show FVec Ideal S512x128 .f32 from iblk m c 2 t) (ix2 p j) = a2 m c (ix2 (row t p) j) := by
  blk_ext [iblk, V, row, idx t]

theorem blk3 (t : Fin cfg0.N) (p : Fin 512) (j : Fin 128) :
    (show FVec Ideal S512x128 .f32 from iblk m c 3 t) (ix2 p j) = a3 m c (ix2 (row t p) j) := by
  blk_ext [iblk, V, row, idx t]

theorem blk4 (t : Fin cfg0.N) (p : Fin 512) (j : Fin 128) :
    (show FVec Ideal S512x128 .f32 from iblk m c 4 t) (ix2 p j) = a4 m c (ix2 (row t p) j) := by
  blk_ext [iblk, V, row, idx t]

/-- A block's gradient. -/
theorem grad_k (t : Fin cfg0.N) (p : Fin 512) (j : Fin 128) :
    k0_pay9 (F := Ideal) (grid0.coords t) (iblk m c 0 t) (iblk m c 1 t) (iblk m c 2 t) (iblk m c 3 t) (iblk m c 4 t) (ix2 p j)
      = grad (a0 m c) (a1 m c) (row t p) j := by
  rw [pay9]
  unfold grad
  refine congrArg₂ (fun a b : EReal => a + b) (congrArg (fun f : Fin 8 → EReal => ∑ d, f d) (funext fun d => blk0 m c t d p j)) ?_
  have hr : (row t p).val = t.val * 512 + p.val := rfl
  have hc := coord t
  by_cases h : t.val = 0 ∧ p.val < 32
  · rw [dif_pos ⟨hc.trans h.1, h.2⟩, dif_pos (show (row t p).val < 32 by omega)]
    refine congrArg (fun f : Fin 8 → EReal => ∑ d, f d) (funext fun d => (blk1 m c t d _ j).trans ?_)
    exact congrArg (fun q => a1 m c (ix3 d q j)) (Fin.ext (by show p.val = (row t p).val; omega))
  · rw [dif_neg (by omega), dif_neg (by omega)]

theorem emb5 (t : Fin cfg0.N) (p : Fin 512) (j : Fin 128) : ((cfg0.win 5).blk t).view.emb (ix2 p j) = ix2 (row t p) j := by blk_ext [row, idx t]
theorem emb6 (t : Fin cfg0.N) (p : Fin 512) (j : Fin 128) : ((cfg0.win 6).blk t).view.emb (ix2 p j) = ix2 (row t p) j := by blk_ext [row, idx t]
theorem emb7 (t : Fin cfg0.N) (p : Fin 512) (j : Fin 128) : ((cfg0.win 7).blk t).view.emb (ix2 p j) = ix2 (row t p) j := by blk_ext [row, idx t]
theorem emb8 (t : Fin cfg0.N) (p : Fin 512) (j : Fin 128) : ((cfg0.win 8).blk t).view.emb (ix2 p j) = ix2 (row t p) j := by blk_ext [row, idx t]

theorem final5 : (dats m 0 c).arrAt 5 (cfgs 0).N = fun i : S4608x128.Idx => grad (a0 m c) (a1 m c) (i 0) (i 1) := by
  refine (dats m 0 c).arrAt_eq_of_covers 5 _ (by decide +kernel) fun t _ y => ?_
  obtain ⟨p, j, rfl⟩ : ∃ p j, y = ix2 p j := ⟨y 0, y 1, (ix2_self y).symm⟩
  rw [emb5]
  blk_simp
  rw [after0_5]
  exact (out5 _ _ _ _ _ _ p j).trans (grad_k m c t p j)

theorem final6 : (dats m 0 c).arrAt 6 (cfgs 0).N = fun i : S4608x128.Idx => step (grad (a0 m c) (a1 m c) (i 0) (i 1)) (a2 m c i) (a3 m c i) (a4 m c i) := by
  refine (dats m 0 c).arrAt_eq_of_covers 6 _ (by decide +kernel) fun t _ y => ?_
  obtain ⟨p, j, rfl⟩ : ∃ p j, y = ix2 p j := ⟨y 0, y 1, (ix2_self y).symm⟩
  rw [emb6]
  blk_simp
  rw [after0_6]
  refine (out6 _ _ _ _ _ _ p j).trans ?_
  rw [grad_k m c t p j]
  show step _ ((show FVec Ideal S512x128 .f32 from iblk m c 2 t) (ix2 p j)) ((show FVec Ideal S512x128 .f32 from iblk m c 3 t) (ix2 p j))
    ((show FVec Ideal S512x128 .f32 from iblk m c 4 t) (ix2 p j)) = _
  rw [blk2, blk3, blk4]
  rfl

theorem final7 : (dats m 0 c).arrAt 7 (cfgs 0).N = fun i : S4608x128.Idx => newM (grad (a0 m c) (a1 m c) (i 0) (i 1)) (a3 m c i) := by
  refine (dats m 0 c).arrAt_eq_of_covers 7 _ (by decide +kernel) fun t _ y => ?_
  obtain ⟨p, j, rfl⟩ : ∃ p j, y = ix2 p j := ⟨y 0, y 1, (ix2_self y).symm⟩
  rw [emb7]
  blk_simp
  rw [after0_7]
  exact (out7 _ _ _ _ _ _ p j).trans (congrArg₂ newM (grad_k m c t p j) (blk3 m c t p j))

theorem final8 : (dats m 0 c).arrAt 8 (cfgs 0).N = fun i : S4608x128.Idx => newV (grad (a0 m c) (a1 m c) (i 0) (i 1)) (a4 m c i) := by
  refine (dats m 0 c).arrAt_eq_of_covers 8 _ (by decide +kernel) fun t _ y => ?_
  obtain ⟨p, j, rfl⟩ : ∃ p j, y = ix2 p j := ⟨y 0, y 1, (ix2_self y).symm⟩
  rw [emb8]
  blk_simp
  rw [after0_8]
  exact (out8 _ _ _ _ _ _ p j).trans (congrArg₂ newV (grad_k m c t p j) (blk4 m c t p j))

end Kernel

section Reference

open Cert.Reference16Ideal Cert.Reference16Ideal.Gen Cert.Reference16Ideal.Read

variable (G : Vec Ideal S8x4608x128 .f32) (H : Vec Ideal S8x32x128 .f32) (w m v : Vec Ideal S4608x128 .f32)

theorem grad_r (p : Fin 4608) (j : Fin 128) : val_main_v3 (F := Ideal) G H (ix2 p j) = grad G H p j := by
  pointwise [val_main_v3, val_main_v2, val_main_v1, val_main_v0, val_main_cst, val_main_cst_0, val_main_c, val_main_call0_v0]
  have z : (FloatOps.sitofp (F := Ideal) FTy.f32 0#32 : EReal) = 0 := by
    show (((0#32 : BitVec 32).toInt : ℝ) : EReal) = 0
    norm_num
  rw [z]
  rfl

theorem newM_r (p : Fin 4608) (j : Fin 128) : val_main_v8 (F := Ideal) G H m (ix2 p j) = newM (grad G H p j) (m (ix2 p j)) := by
  rw [← grad_r]
  pointwise [val_main_v8, val_main_v7, val_main_v6, val_main_v5, val_main_v4, val_main_cst_1, val_main_cst_2]
  rfl

theorem newV_r (p : Fin 4608) (j : Fin 128) : val_main_v14 (F := Ideal) G H v (ix2 p j) = newV (grad G H p j) (v (ix2 p j)) := by
  rw [← grad_r]
  pointwise [val_main_v14, val_main_v13, val_main_v12, val_main_v11, val_main_v10, val_main_v9, val_main_cst_3, val_main_cst_4]
  rfl

theorem step_r (p : Fin 4608) (j : Fin 128) :
    val_main_v27 (F := Ideal) G H w m v (ix2 p j) = step (grad G H p j) (w (ix2 p j)) (m (ix2 p j)) (v (ix2 p j)) := by
  unfold step
  rw [← newM_r, ← newV_r]
  pointwise [val_main_v27, val_main_v26, val_main_v25, val_main_v24, val_main_v23, val_main_v22, val_main_v21, val_main_v20, val_main_v19,
    val_main_v18, val_main_v17, val_main_v16, val_main_v15, val_main_cst_5, val_main_cst_6, val_main_cst_7, val_main_cst_8, val_main_cst_9]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_v27) = val_main_v27 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v8) = val_main_v8 (F := Ideal) (m ((c.tc : Thread nD τ).loc main_arg0)) (m ((c.tc : Thread nD τ).loc main_arg1))
          (m ((c.tc : Thread nD τ).loc main_arg3))
      ∧ r.2.mem ((c.tc : Thread nD τ).loc main_v14) = val_main_v14 (F := Ideal) (m ((c.tc : Thread nD τ).loc main_arg0)) (m ((c.tc : Thread nD τ).loc main_arg1))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, hk⟩ := h c
    exact ⟨h0.trans (val_main_v3_eq ..), h1.trans (val_main_v27_eq ..), h2.trans (val_main_v8_eq ..), h3.trans (val_main_v14_eq ..), hk⟩) (Value.run m ρ)

end Reference

theorem frame_reference : Cert.quiescent_Reference16Ideal := by
  intro m ρ _
  exact (θ_run Cert.Reference16Ideal.defs _ _).mono (fun r h => ⟨fun c => (h c).2.2.2.2, sem_eq_zero_of_no_sems (by decide) r.2⟩)
    (run m ρ)

theorem pair : Cert.algebraic_Kernel16Ideal_Reference16Ideal := by
  intro m g m' g' _ hag
  refine ⟨fun c => (Cert.Kernel16Ideal.Gen.dats m 0 c).arrAt 5 Cert.Kernel16Ideal.cfg0.N,
    fun c => (Cert.Kernel16Ideal.Gen.dats m 0 c).arrAt 6 Cert.Kernel16Ideal.cfg0.N,
    fun c => (Cert.Kernel16Ideal.Gen.dats m 0 c).arrAt 7 Cert.Kernel16Ideal.cfg0.N,
    fun c => (Cert.Kernel16Ideal.Gen.dats m 0 c).arrAt 8 Cert.Kernel16Ideal.cfg0.N,
    Cert.Kernel16Ideal.Value.run_blocks m g,
    (θ_run Cert.Reference16Ideal.defs _ _).mono (fun r h c => ?_) (run m' g')⟩
  obtain ⟨e0, e1, e2, e3, e4⟩ := hag c
  obtain ⟨h0, h1, h2, h3, hk⟩ := h c
  rw [e0, e1] at h0
  rw [e0, e1, e2, e3, e4] at h1
  rw [e0, e1, e3] at h2
  rw [e0, e1, e4] at h3
  refine ⟨h0.trans (Eq.trans (funext fun i => ?_) (final5 m c).symm), h1.trans (Eq.trans (funext fun i => ?_) (final6 m c).symm),
    h2.trans (Eq.trans (funext fun i => ?_) (final7 m c).symm), h3.trans (Eq.trans (funext fun i => ?_) (final8 m c).symm), hk⟩ <;>
    obtain ⟨p, j, rfl⟩ : ∃ p j, i = ix2 p j := ⟨i 0, i 1, (ix2_self i).symm⟩
  · exact grad_r _ _ p j
  · exact step_r _ _ _ _ _ p j
  · exact newM_r _ _ _ p j
  · exact newV_r _ _ _ p j

end Cert.Adam

end
-- ==== Proof.MmGluClaim.lean ====
/- The product in front of the recurrence's gate: the claims about it.  At any arguments. -/
module

public import proofs.«01_k».proof.Defs
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmGlu

/-- The result's entry. -/
def entry (h : (⟨2, ![4096, 1024]⟩ : Shape).Idx → EReal) (w : (⟨3, ![8, 1024, 256]⟩ : Shape).Idx → EReal) (p : Fin 4096) (j : Fin 2048) : EReal :=
  ∑ k : Fin 1024, h (ix2 p k) * w (ix3 ⟨j.val / 256, by omega⟩ k ⟨j.val % 256, by omega⟩)

section Kernel

open Cert.Kernel17Ideal Cert.Kernel17Ideal.Gen

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem pay1 (a : Vec Ideal S1024x1024 .bf16) (b : Vec Ideal S1x1024x256 .bf16) (p : Fin 1024) (j : Fin 256) :
    k0_pay1 (F := Ideal) a b (ix2 p j) = ∑ k : Fin 1024, a (ix2 p k) * b (ix3 0 k j) := by
  pointwise [k0_pay1]

/-- Places of a block's entries. -/
def row (t : Fin cfg0.N) (p : Fin 1024) : Fin 4096 := ⟨t.val / 8 * 1024 + p.val, by have := lt_of_lt_of_eq t.isLt N_0; omega⟩
def col (t : Fin cfg0.N) (j : Fin 256) : Fin 2048 := ⟨t.val % 8 * 256 + j.val, by omega⟩

variable (m : (ℓ : Loc nD τ sig) → Buf (Elt Ideal) ℓ) (c : Dev nD)

theorem blk0 (t : Fin cfg0.N) (p k : Fin 1024) :
    (show FVec Ideal S1024x1024 .bf16 from iblk m c 0 t) (ix2 p k) = (show FVec Ideal S4096x1024 .bf16 from m ((c : Thread nD τ).loc main_arg0)) (ix2 (row t p) k) := by
  blk_ext [iblk, V, row, col, idx t]

theorem blk1 (t : Fin cfg0.N) (k : Fin 1024) (j : Fin 256) :
    (show FVec Ideal S1x1024x256 .bf16 from iblk m c 1 t) (ix3 0 k j) = (show FVec Ideal S8x1024x256 .bf16 from m ((c : Thread nD τ).loc main_arg1)) (ix3 ⟨(col t j).val / 256, by omega⟩ k ⟨(col t j).val % 256, by omega⟩) := by
  blk_ext [iblk, V, row, col, idx t]

theorem final : (dats m 0 c).arrAt 2 (cfgs 0).N = fun i : S4096x2048.Idx => entry (show FVec Ideal S4096x1024 .bf16 from m ((c : Thread nD τ).loc main_arg0)) (show FVec Ideal S8x1024x256 .bf16 from m ((c : Thread nD τ).loc main_arg1)) (i 0) (i 1) := by
  refine (dats m 0 c).arrAt_eq_of_covers 2 _ (by decide +kernel) fun t _ y => ?_
  obtain ⟨p, j, rfl⟩ : ∃ p j, y = ix2 p j := ⟨y 0, y 1, (ix2_self y).symm⟩
  have e : ((cfg0.win 2).blk t).view.emb (ix2 p j) = ix2 (row t p) (col t j) := by blk_ext [row, col, idx t]
  rw [e]
  blk_simp
  rw [after0_2]
  frame_out
  rw [pay1]
  exact congrArg (fun f : Fin 1024 → EReal => ∑ k, f k) (funext fun k => congrArg₂ (fun a b : EReal => a * b) (blk0 m c t p k) (blk1 m c t k j))

end Kernel

section Reference

open Cert.Reference17Ideal Cert.Reference17Ideal.Gen Cert.Reference17Ideal.Read

theorem value (h : Vec Ideal S4096x1024 .bf16) (w : Vec Ideal S8x1024x256 .bf16) (p : Fin 4096) (j : Fin 2048) :
    val_main_v4 (F := Ideal) h w (ix2 p j) = entry h w p j := by
  pointwise [val_main_v4, val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v4_eq ..), hk⟩) (Value.run m ρ)

end Reference

theorem frame_reference : Cert.quiescent_Reference17Ideal := by
  intro m ρ _
  exact (θ_run Cert.Reference17Ideal.defs _ _).mono (fun r h => ⟨fun c => (h c).2, sem_eq_zero_of_no_sems (by decide) r.2⟩)
    (run m ρ)

theorem pair : Cert.algebraic_Kernel17Ideal_Reference17Ideal := by
  intro m g m' g' _ hag
  refine ⟨fun c => (Cert.Kernel17Ideal.Gen.dats m 0 c).arrAt 2 Cert.Kernel17Ideal.cfg0.N,
    Cert.Kernel17Ideal.Value.run_blocks m g,
    (θ_run Cert.Reference17Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨p, j, rfl⟩ : ∃ p j, i = ix2 p j := ⟨i 0, i 1, (ix2_self i).symm⟩
  exact value _ _ p j

end Cert.MmGlu

end
-- ==== Proof.MmDwGluClaim.lean ====
/- The gradient by the weights in front of the recurrence's gate: the claims about it.  At any arguments. -/
module

public import proofs.«01_k».proof.Defs
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDwGlu

/-- The result's entry. -/
def entry (h : (⟨2, ![4096, 1024]⟩ : Shape).Idx → EReal) (d : (⟨2, ![4096, 2048]⟩ : Shape).Idx → EReal) (q : Fin 8) (p : Fin 1024) (j : Fin 256) : EReal :=
  ∑ k : Fin 4096, h (ix2 k p) * d (ix2 k ⟨q.val * 256 + j.val, by omega⟩)

section Kernel

open Cert.Kernel18Ideal Cert.Kernel18Ideal.Gen

theorem idx : ∀ t : Fin cfg0.N, win0_0.index t = ![0, 0] ∧ win0_1.index t = ![0, t.val] ∧ win0_2.index t = ![t.val, 0, 0] :=
  (by decide +kernel : ∀ t : Fin grid0.N, _)

theorem pay1 (a : Vec Ideal S4096x1024 .bf16) (b : Vec Ideal S4096x256 .bf16) (p : Fin 1024) (j : Fin 256) :
    k0_pay1 (F := Ideal) a b (ix3 0 p j) = ∑ k : Fin 4096, a (ix2 k p) * b (ix2 k j) := by
  pointwise [k0_pay1]

/-- Places of a block's entries. -/
def part (t : Fin cfg0.N) : Fin 8 := ⟨t.val, lt_of_lt_of_eq t.isLt N_0⟩

variable (m : (ℓ : Loc nD τ sig) → Buf (Elt Ideal) ℓ) (c : Dev nD)

theorem blk0 (t : Fin cfg0.N) (k : Fin 4096) (p : Fin 1024) :
    (show FVec Ideal S4096x1024 .bf16 from iblk m c 0 t) (ix2 k p) = (show FVec Ideal S4096x1024 .bf16 from m ((c : Thread nD τ).loc main_arg0)) (ix2 k p) := by
  blk_ext [iblk, V, part, idx t]

theorem blk1 (t : Fin cfg0.N) (k : Fin 4096) (j : Fin 256) :
    (show FVec Ideal S4096x256 .bf16 from iblk m c 1 t) (ix2 k j) = (show FVec Ideal S4096x2048 .bf16 from m ((c : Thread nD τ).loc main_arg1)) (ix2 k ⟨(part t).val * 256 + j.val, by omega⟩) := by
  blk_ext [iblk, V, part, idx t]

theorem final : (dats m 0 c).arrAt 2 (cfgs 0).N = fun i : S8x1024x256.Idx => entry (show FVec Ideal S4096x1024 .bf16 from m ((c : Thread nD τ).loc main_arg0)) (show FVec Ideal S4096x2048 .bf16 from m ((c : Thread nD τ).loc main_arg1)) (i 0) (i 1) (i 2) := by
  refine (dats m 0 c).arrAt_eq_of_covers 2 _ (by decide +kernel) fun t _ y => ?_
  obtain ⟨q, p, j, rfl⟩ : ∃ q p j, y = ix3 q p j := ⟨y 0, y 1, y 2, eq_ix3 y⟩
  obtain rfl : q = 0 := Subsingleton.elim (α := Fin 1) _ _
  have e : ((cfg0.win 2).blk t).view.emb (ix3 0 p j) = ix3 (part t) p j := by blk_ext [part, idx t]
  rw [e]
  blk_simp
  rw [after0_2]
  frame_out
  rw [pay1]
  exact congrArg (fun f : Fin 4096 → EReal => ∑ k, f k) (funext fun k => congrArg₂ (fun a b : EReal => a * b) (blk0 m c t k p) (blk1 m c t k j))

end Kernel

section Reference

open Cert.Reference18Ideal Cert.Reference18Ideal.Gen Cert.Reference18Ideal.Read

theorem value (h : Vec Ideal S4096x1024 .bf16) (d : Vec Ideal S4096x2048 .bf16) (q : Fin 8) (p : Fin 1024) (j : Fin 256) :
    val_main_v5 (F := Ideal) h d (ix3 q p j) = entry h d q p j := by
  pointwise [val_main_v5, val_main_v4, val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v5_eq ..), hk⟩) (Value.run m ρ)

end Reference

theorem frame_reference : Cert.quiescent_Reference18Ideal := by
  intro m ρ _
  exact (θ_run Cert.Reference18Ideal.defs _ _).mono (fun r h => ⟨fun c => (h c).2, sem_eq_zero_of_no_sems (by decide) r.2⟩)
    (run m ρ)

theorem pair : Cert.algebraic_Kernel18Ideal_Reference18Ideal := by
  intro m g m' g' _ hag
  refine ⟨fun c => (Cert.Kernel18Ideal.Gen.dats m 0 c).arrAt 2 Cert.Kernel18Ideal.cfg0.N,
    Cert.Kernel18Ideal.Value.run_blocks m g,
    (θ_run Cert.Reference18Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨q, p, j, rfl⟩ : ∃ q p j, i = ix3 q p j := ⟨i 0, i 1, i 2, eq_ix3 i⟩
  exact value _ _ q p j

end Cert.MmDwGlu

end
-- ==== Proof.MmDwInClaim.lean ====
/- The gradient by the input product's weights: the claims about it.  At any arguments. -/
module

public import proofs.«01_k».proof.Defs
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDwIn

/-- The result's entry. -/
def entry (h : (⟨2, ![4096, 4096]⟩ : Shape).Idx → EReal) (d : (⟨2, ![4096, 12288]⟩ : Shape).Idx → EReal) (q : Fin 8) (p : Fin 4096) (j : Fin 1536) : EReal :=
  ∑ k : Fin 4096, h (ix2 k p) * d (ix2 k ⟨q.val * 1536 + j.val, by omega⟩)

section Kernel

open Cert.Kernel19Ideal Cert.Kernel19Ideal.Gen

theorem idx : ∀ t : Fin cfg0.N, win0_0.index t = ![0, t.val / 16] ∧ win0_1.index t = ![0, t.val % 16] ∧ win0_2.index t = ![t.val % 16 / 2, t.val / 16, t.val % 2] :=
  (by decide +kernel : ∀ t : Fin grid0.N, _)

theorem pay1 (a : Vec Ideal S4096x1024 .bf16) (b : Vec Ideal S4096x768 .bf16) (p : Fin 1024) (j : Fin 768) :
    k0_pay1 (F := Ideal) a b (ix3 0 p j) = ∑ k : Fin 4096, a (ix2 k p) * b (ix2 k j) := by
  pointwise [k0_pay1]

/-- Places of a block's entries. -/
def part (t : Fin cfg0.N) : Fin 8 := ⟨t.val % 16 / 2, by omega⟩
def row (t : Fin cfg0.N) (p : Fin 1024) : Fin 4096 := ⟨t.val / 16 * 1024 + p.val, by have := lt_of_lt_of_eq t.isLt N_0; omega⟩
def col (t : Fin cfg0.N) (j : Fin 768) : Fin 1536 := ⟨t.val % 2 * 768 + j.val, by omega⟩

variable (m : (ℓ : Loc nD τ sig) → Buf (Elt Ideal) ℓ) (c : Dev nD)

theorem blk0 (t : Fin cfg0.N) (k : Fin 4096) (p : Fin 1024) :
    (show FVec Ideal S4096x1024 .bf16 from iblk m c 0 t) (ix2 k p) = (show FVec Ideal S4096x4096 .bf16 from m ((c : Thread nD τ).loc main_arg0)) (ix2 k (row t p)) := by
  blk_ext [iblk, V, part, row, col, idx t]

theorem blk1 (t : Fin cfg0.N) (k : Fin 4096) (j : Fin 768) :
    (show FVec Ideal S4096x768 .bf16 from iblk m c 1 t) (ix2 k j) = (show FVec Ideal S4096x12288 .bf16 from m ((c : Thread nD τ).loc main_arg1)) (ix2 k ⟨(part t).val * 1536 + (col t j).val, by omega⟩) := by
  blk_ext [iblk, V, part, row, col, idx t]

theorem final : (dats m 0 c).arrAt 2 (cfgs 0).N = fun i : S8x4096x1536.Idx => entry (show FVec Ideal S4096x4096 .bf16 from m ((c : Thread nD τ).loc main_arg0)) (show FVec Ideal S4096x12288 .bf16 from m ((c : Thread nD τ).loc main_arg1)) (i 0) (i 1) (i 2) := by
  refine (dats m 0 c).arrAt_eq_of_covers 2 _ (by decide +kernel) fun t _ y => ?_
  obtain ⟨q, p, j, rfl⟩ : ∃ q p j, y = ix3 q p j := ⟨y 0, y 1, y 2, eq_ix3 y⟩
  obtain rfl : q = 0 := Subsingleton.elim (α := Fin 1) _ _
  have e : ((cfg0.win 2).blk t).view.emb (ix3 0 p j) = ix3 (part t) (row t p) (col t j) := by blk_ext [part, row, col, idx t]
  rw [e]
  blk_simp
  rw [after0_2]
  frame_out
  rw [pay1]
  exact congrArg (fun f : Fin 4096 → EReal => ∑ k, f k) (funext fun k => congrArg₂ (fun a b : EReal => a * b) (blk0 m c t k p) (blk1 m c t k j))

end Kernel

section Reference

open Cert.Reference19Ideal Cert.Reference19Ideal.Gen Cert.Reference19Ideal.Read

theorem value (h : Vec Ideal S4096x4096 .bf16) (d : Vec Ideal S4096x12288 .bf16) (q : Fin 8) (p : Fin 4096) (j : Fin 1536) :
    val_main_v5 (F := Ideal) h d (ix3 q p j) = entry h d q p j := by
  pointwise [val_main_v5, val_main_v4, val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v5_eq ..), hk⟩) (Value.run m ρ)

end Reference

theorem frame_reference : Cert.quiescent_Reference19Ideal := by
  intro m ρ _
  exact (θ_run Cert.Reference19Ideal.defs _ _).mono (fun r h => ⟨fun c => (h c).2, sem_eq_zero_of_no_sems (by decide) r.2⟩)
    (run m ρ)

theorem pair : Cert.algebraic_Kernel19Ideal_Reference19Ideal := by
  intro m g m' g' _ hag
  refine ⟨fun c => (Cert.Kernel19Ideal.Gen.dats m 0 c).arrAt 2 Cert.Kernel19Ideal.cfg0.N,
    Cert.Kernel19Ideal.Value.run_blocks m g,
    (θ_run Cert.Reference19Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨q, p, j, rfl⟩ : ∃ q p j, i = ix3 q p j := ⟨i 0, i 1, i 2, eq_ix3 i⟩
  exact value _ _ q p j

end Cert.MmDwIn

end
-- ==== Proof.MmProjClaim.lean ====
/- The input product: the claims about it.  At any arguments. -/
module

public import proofs.«01_k».proof.Defs
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmProj

/-- The result's entry. -/
def entry (h : (⟨2, ![4096, 4096]⟩ : Shape).Idx → EReal) (u : (⟨3, ![8, 4096, 768]⟩ : Shape).Idx → EReal) (v : (⟨3, ![8, 4096, 768]⟩ : Shape).Idx → EReal) (p : Fin 4096) (j : Fin 12288) : EReal :=
  ∑ k : Fin 4096, h (ix2 p k) * (if j.val % 1536 < 768 then u else v) (ix3 ⟨j.val / 1536, by omega⟩ k ⟨j.val % 768, by omega⟩)

section Kernel

open Cert.Kernel20Ideal Cert.Kernel20Ideal.Gen

theorem idx : ∀ t : Fin cfg0.N, win0_0.index t = ![t.val / 16, 0] ∧ win0_1.index t = ![min (t.val % 16) 7, 0, 0] ∧ win0_2.index t = ![t.val % 16 - 8, 0, 0]
    ∧ win0_3.index t = ![t.val / 16, t.val % 8 * 2 + t.val % 16 / 8] :=
  (by decide +kernel : ∀ t : Fin grid0.N, _)

theorem coord : ∀ t : Fin cfg0.N, ((grid0.coords t) 1).val = t.val % 16 :=
  (by decide +kernel : ∀ t : Fin grid0.N, _)

theorem later (k : Fin 16) (a b : EReal) : Scalar.select (Scalar.cmpi .sge (BitVec.ofNat 32 k.val) 8#32) a b = if k.val < 8 then b else a := by
  fin_cases k <;> rfl

theorem pay1 (i : grid0.Coords) (a : Vec Ideal S1024x4096 .bf16) (b : Vec Ideal S1x4096x768 .bf16) (c : Vec Ideal S1x4096x768 .bf16) (p : Fin 1024) (j : Fin 768) :
    k0_pay1 (F := Ideal) i b c a (ix2 p j) = ∑ k : Fin 4096, a (ix2 p k) * (if (i 1).val < 8 then b else c) (ix3 0 k j) := by
  pointwise [k0_pay1]
  refine congrArg (fun f : Fin 4096 → EReal => ∑ k, f k) (funext fun k => congrArg (fun z : EReal => a (ix2 p k) * z) ((later (i 1) _ _).trans ?_))
  by_cases h : (i 1).val < 8
  · rw [if_pos h, if_pos h]
  · rw [if_neg h, if_neg h]

/-- Places of a block's entries. -/
def row (t : Fin cfg0.N) (p : Fin 1024) : Fin 4096 := ⟨t.val / 16 * 1024 + p.val, by have := lt_of_lt_of_eq t.isLt N_0; omega⟩
def col (t : Fin cfg0.N) (j : Fin 768) : Fin 12288 := ⟨(t.val % 8 * 2 + t.val % 16 / 8) * 768 + j.val, by omega⟩

variable (m : (ℓ : Loc nD τ sig) → Buf (Elt Ideal) ℓ) (c : Dev nD)

theorem blk0 (t : Fin cfg0.N) (p : Fin 1024) (k : Fin 4096) :
    (show FVec Ideal S1024x4096 .bf16 from iblk m c 0 t) (ix2 p k) = (show FVec Ideal S4096x4096 .bf16 from m ((c : Thread nD τ).loc main_arg0)) (ix2 (row t p) k) := by
  blk_ext [iblk, V, row, col, idx t]

theorem blk1 (t : Fin cfg0.N) (ht : t.val % 16 < 8) (k : Fin 4096) (j : Fin 768) :
    (show FVec Ideal S1x4096x768 .bf16 from iblk m c 1 t) (ix3 0 k j) = (show FVec Ideal S8x4096x768 .bf16 from m ((c : Thread nD τ).loc main_arg1)) (ix3 ⟨(col t j).val / 1536, by omega⟩ k ⟨(col t j).val % 768, by omega⟩) := by
  blk_ext [iblk, V, row, col, idx t]

theorem blk2 (t : Fin cfg0.N) (ht : ¬t.val % 16 < 8) (k : Fin 4096) (j : Fin 768) :
    (show FVec Ideal S1x4096x768 .bf16 from iblk m c 2 t) (ix3 0 k j) = (show FVec Ideal S8x4096x768 .bf16 from m ((c : Thread nD τ).loc main_arg2)) (ix3 ⟨(col t j).val / 1536, by omega⟩ k ⟨(col t j).val % 768, by omega⟩) := by
  blk_ext [iblk, V, row, col, idx t]

theorem final : (dats m 0 c).arrAt 3 (cfgs 0).N = fun i : S4096x12288.Idx => entry (show FVec Ideal S4096x4096 .bf16 from m ((c : Thread nD τ).loc main_arg0)) (show FVec Ideal S8x4096x768 .bf16 from m ((c : Thread nD τ).loc main_arg1)) (show FVec Ideal S8x4096x768 .bf16 from m ((c : Thread nD τ).loc main_arg2)) (i 0) (i 1) := by
  refine (dats m 0 c).arrAt_eq_of_covers 3 _ (by decide +kernel) fun t _ y => ?_
  obtain ⟨p, j, rfl⟩ : ∃ p j, y = ix2 p j := ⟨y 0, y 1, (ix2_self y).symm⟩
  have e : ((cfg0.win 3).blk t).view.emb (ix2 p j) = ix2 (row t p) (col t j) := by blk_ext [row, col, idx t]
  rw [e]
  blk_simp
  rw [after0_3]
  frame_out
  rw [pay1]
  refine congrArg (fun f : Fin 4096 → EReal => ∑ k, f k) (funext fun k => congrArg₂ (fun a b : EReal => a * b) (blk0 m c t p k) ?_)
  have hi := coord t
  by_cases h : t.val % 16 < 8
  · rw [if_pos (show (grid0.coords t 1).val < 8 by omega)]
    refine (blk1 m c t h k j).trans ?_
    have hc : (col t j).val % 1536 < 768 := by
      show ((t.val % 8 * 2 + t.val % 16 / 8) * 768 + j.val) % 1536 < 768
      rw [Nat.div_eq_of_lt h]
      omega
    exact (congrFun (if_pos hc) _).symm
  · rw [if_neg (show ¬(grid0.coords t 1).val < 8 by omega)]
    refine (blk2 m c t h k j).trans ?_
    have hc : ¬(col t j).val % 1536 < 768 := by
      show ¬((t.val % 8 * 2 + t.val % 16 / 8) * 768 + j.val) % 1536 < 768
      rw [show t.val % 16 / 8 = 1 by have := Nat.mod_lt t.val (show 0 < 16 by omega); omega]
      omega
    exact (congrFun (if_neg hc) _).symm

end Kernel

section Reference

open Cert.Reference20Ideal Cert.Reference20Ideal.Gen Cert.Reference20Ideal.Read

theorem value (h : Vec Ideal S4096x4096 .bf16) (u : Vec Ideal S8x4096x768 .bf16) (v : Vec Ideal S8x4096x768 .bf16) (p : Fin 4096) (j : Fin 12288) :
    val_main_v6 (F := Ideal) h u v (ix2 p j) = entry h u v p j := by
  pointwise [val_main_v6, val_main_v5, val_main_v4, val_main_v3, val_main_v2, val_main_v1, val_main_v0]
  refine congrArg (fun f : Fin 4096 → EReal => ∑ k, f k) (funext fun k => congrArg (fun z : EReal => h (ix2 p k) * z) ?_)
  by_cases hj : j.val % 1536 < 768
  · rw [dif_pos hj, if_pos hj]
    exact congrArg u (by blk_ext <;> omega)
  · rw [dif_neg hj, if_neg hj]
    exact congrArg v (by blk_ext <;> omega)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    exact ⟨h0.trans (val_main_v6_eq ..), hk⟩) (Value.run m ρ)

end Reference

theorem frame_reference : Cert.quiescent_Reference20Ideal := by
  intro m ρ _
  exact (θ_run Cert.Reference20Ideal.defs _ _).mono (fun r h => ⟨fun c => (h c).2, sem_eq_zero_of_no_sems (by decide) r.2⟩)
    (run m ρ)

theorem pair : Cert.algebraic_Kernel20Ideal_Reference20Ideal := by
  intro m g m' g' _ hag
  refine ⟨fun c => (Cert.Kernel20Ideal.Gen.dats m 0 c).arrAt 3 Cert.Kernel20Ideal.cfg0.N,
    Cert.Kernel20Ideal.Value.run_blocks m g,
    (θ_run Cert.Reference20Ideal.defs _ _).mono (fun r h c => ?_) (run m' g')⟩
  obtain ⟨a0, a1, a2⟩ := hag c
  obtain ⟨h0, hk⟩ := h c
  refine ⟨h0.trans ?_, hk⟩
  rw [a0, a1, a2]
  refine Eq.trans (funext fun i => ?_) (final m c).symm
  obtain ⟨p, j, rfl⟩ : ∃ p j, i = ix2 p j := ⟨i 0, i 1, (ix2_self i).symm⟩
  exact value _ _ _ p j

end Cert.MmProj

end
-- ==== Proof.MmDhgClaim.lean ====
/- The gradient by the rows in front of the recurrence's gate: the claims about it.  At any arguments. -/
module

public import proofs.«01_k».proof.Defs
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDhg

/-- The result's entry. -/
def entry (d : (⟨2, ![4096, 2048]⟩ : Shape).Idx → EReal) (w : (⟨3, ![8, 1024, 256]⟩ : Shape).Idx → EReal) (p : Fin 4096) (j : Fin 1024) : EReal :=
  ∑ k : Fin 2048, d (ix2 p k) * w (ix3 ⟨k.val / 256, by omega⟩ j ⟨k.val % 256, by omega⟩)

section Kernel

open Cert.Kernel21Ideal Cert.Kernel21Ideal.Gen

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- Places of a block's entries. -/
def row (t : Fin cfg0.N) (p : Fin 1024) : Fin 4096 := ⟨t.val / 4 * 1024 + p.val, by have := lt_of_lt_of_eq t.isLt N_0; omega⟩
def col (t : Fin cfg0.N) (k : Fin 512) : Fin 2048 := ⟨t.val % 4 * 512 + k.val, by omega⟩

theorem pay1 (a : Vec Ideal S1024x512 .bf16) (b : Vec Ideal S2x1024x256 .bf16) (p j : Fin 1024) :
    k0_pay1 (F := Ideal) (View.ld a (Rect.unit ![0, 0] ![1024, 256] inb_S1024x512_S1024x256_0_0)) (View.ld b (Rect.unit ![0, 0, 0] ![1, 1024, 256] inb_S2x1024x256_S1x1024x256_0_0_0)) (View.ld a (Rect.unit ![0, 256] ![1024, 256] inb_S1024x512_S1024x256_0_256)) (View.ld b (Rect.unit ![1, 0, 0] ![1, 1024, 256] inb_S2x1024x256_S1x1024x256_1_0_0)) (ix2 p j)
      = ∑ k : Fin 512, a (ix2 p k) * b (ix3 ⟨k.val / 256, by omega⟩ j ⟨k.val % 256, by omega⟩) := by
  pointwise [k0_pay1]
  refine Eq.trans ?_ (Fin.sum_univ_add (a := 256) (b := 256)
    (fun k : Fin 512 => (a (ix2 p k) * b (ix3 ⟨k.val / 256, by omega⟩ j ⟨k.val % 256, by omega⟩) : EReal))).symm
  refine congrArg₂ (fun y z : EReal => y + z) (congrArg (fun f : Fin 256 → EReal => ∑ k, f k) (funext fun k => ?_))
    (congrArg (fun f : Fin 256 → EReal => ∑ k, f k) (funext fun k => ?_))
  · have hc : (Fin.castAdd 256 k).val = k.val := rfl
    refine congrArg₂ (fun y z : EReal => y * z) (congrArg a ?_) (congrArg b ?_)
    · blk_ext <;> omega
    · blk_ext <;> omega
  · have hn : (Fin.natAdd 256 k).val = 256 + k.val := rfl
    refine congrArg₂ (fun y z : EReal => y * z) (congrArg a ?_) (congrArg b ?_)
    · blk_ext <;> omega
    · blk_ext <;> omega

variable (m : (ℓ : Loc nD τ sig) → Buf (Elt Ideal) ℓ) (c : Dev nD)

theorem blk0 (t : Fin cfg0.N) (p : Fin 1024) (k : Fin 512) :
    (show FVec Ideal S1024x512 .bf16 from iblk m c 0 t) (ix2 p k)
      = (show FVec Ideal S4096x2048 .bf16 from m ((c : Thread nD τ).loc main_arg0)) (ix2 (row t p) (col t k)) := by
  blk_ext [iblk, V, row, col, idx t]

theorem blk1 (t : Fin cfg0.N) (k : Fin 512) (j : Fin 1024) :
    (show FVec Ideal S2x1024x256 .bf16 from iblk m c 1 t) (ix3 ⟨k.val / 256, by omega⟩ j ⟨k.val % 256, by omega⟩)
      = (show FVec Ideal S8x1024x256 .bf16 from m ((c : Thread nD τ).loc main_arg1))
          (ix3 ⟨(col t k).val / 256, by omega⟩ j ⟨(col t k).val % 256, by omega⟩) := by
  blk_ext [iblk, V, row, col, idx t]

/-- What a point adds. -/
def term (t : Fin cfg0.N) (p j : Fin 1024) : EReal :=
  ∑ k : Fin 512, (show FVec Ideal S4096x2048 .bf16 from m ((c : Thread nD τ).loc main_arg0)) (ix2 (row t p) (col t k))
    * (show FVec Ideal S8x1024x256 .bf16 from m ((c : Thread nD τ).loc main_arg1))
        (ix3 ⟨(col t k).val / 256, by omega⟩ j ⟨(col t k).val % 256, by omega⟩)

theorem point (t : Fin cfg0.N) (p j : Fin 1024) :
    (∑ k : Fin 512, ((show FVec Ideal S1024x512 .bf16 from iblk m c 0 t) (ix2 p k)
      * (show FVec Ideal S2x1024x256 .bf16 from iblk m c 1 t) (ix3 ⟨k.val / 256, by omega⟩ j ⟨k.val % 256, by omega⟩) : EReal)) = term m c t p j :=
  congrArg (fun f : Fin 512 → EReal => ∑ k, f k)
    (funext fun k => congrArg₂ (fun a b : EReal => a * b) (blk0 m c t p k) (blk1 m c t k j))

theorem pA (t : Fin cfg0.N) (h : t.val % 4 = 0) (p j : Fin 1024) : outsAt0 m c t.val t.isLt (ix2 p j) = term m c t p j := by
  rw [outsAt0_A m c t h (by omega)]
  frame_out
  exact (pay1 (iblk m c 0 t) (iblk m c 1 t) p j).trans (point m c t p j)

theorem pB (t : Fin cfg0.N) (h : ¬t.val % 4 = 0) (p j : Fin 1024) :
    outsAt0 m c t.val t.isLt (ix2 p j) = outsAt0 m c (t.val - 1) (by omega) (ix2 p j) + term m c t p j := by
  rw [outsAt0_B m c t h (by omega)]
  frame_out
  pointwise [k0_pay2]
  exact congrArg (fun z : EReal => _ + z) ((pay1 (iblk m c 0 t) (iblk m c 1 t) p j).trans (point m c t p j))

theorem final : (dats m 0 c).arrAt 2 (cfgs 0).N = fun i : S4096x1024.Idx =>
    entry (show FVec Ideal S4096x2048 .bf16 from m ((c : Thread nD τ).loc main_arg0))
      (show FVec Ideal S8x1024x256 .bf16 from m ((c : Thread nD τ).loc main_arg1)) (i 0) (i 1) := by
  refine (dats m 0 c).arrAt_eq_of_covers 2 _ (by decide +kernel) fun t hf y => ?_
  obtain ⟨p, j, rfl⟩ : ∃ p j, y = ix2 p j := ⟨y 0, y 1, (ix2_self y).symm⟩
  have e : ((cfg0.win 2).blk t).view.emb (ix2 p j) = ix2 (row t p) j := by blk_ext [row, idx t]
  rw [e]
  blk_simp
  rw [after0_2, Pipeline.eq_sum_fin_of_reset_step_apply_of_flush (fun n h => outsAt0 m c n h) 4 (fun _ => 0)
    (fun t (y : S1024x1024.Idx) => term m c t (y 0) (y 1))
    (fun t h y => by
      obtain ⟨p, j, rfl⟩ : ∃ p j, y = ix2 p j := ⟨y 0, y 1, (ix2_self y).symm⟩
      exact (pA m c t h p j).trans (zero_add _).symm)
    (fun t h y => by
      obtain ⟨p, j, rfl⟩ : ∃ p j, y = ix2 p j := ⟨y 0, y 1, (ix2_self y).symm⟩
      exact pB m c t h p j)
    t ((flush0_2 t).mp hf) _, zero_add]
  refine Fin.sum_mul_add_congr fun s k hl => ?_
  have hs := Pipeline.run_point_lt_of_flush t ((flush0_2 t).mp hf) s
  have er : row ⟨4 * (t.val / 4) + s.val, hs⟩ p = row t p := Fin.ext (by simp only [row]; omega)
  have ec : col ⟨4 * (t.val / 4) + s.val, hs⟩ k = ⟨s.val * 512 + k.val, hl⟩ := Fin.ext (by simp only [col]; omega)
  exact congrArg₂ (fun a b : EReal => a * b)
    (congrArg (show FVec Ideal S4096x2048 .bf16 from m ((c : Thread nD τ).loc main_arg0)) (congrArg₂ ix2 er ec))
    (congrArg (fun q : Fin 2048 => (show FVec Ideal S8x1024x256 .bf16 from m ((c : Thread nD τ).loc main_arg1))
      (ix3 ⟨q.val / 256, by omega⟩ j ⟨q.val % 256, by omega⟩)) ec)

end Kernel

section Reference

open Cert.Reference21Ideal Cert.Reference21Ideal.Gen Cert.Reference21Ideal.Read

theorem value (d : Vec Ideal S4096x2048 .bf16) (w : Vec Ideal S8x1024x256 .bf16) (p : Fin 4096) (j : Fin 1024) :
    val_main_v5 (F := Ideal) d w (ix2 p j) = entry d w p j := by
  pointwise [val_main_v5, val_main_v4, val_main_v3, val_main_v2, val_main_v1, val_main_v0]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, hk⟩ := h c
    exact ⟨h0.trans (val_main_v5_eq ..), hk⟩) (Value.run m ρ)

end Reference

theorem frame_reference : Cert.quiescent_Reference21Ideal := by
  intro m ρ _
  exact (θ_run Cert.Reference21Ideal.defs _ _).mono (fun r h => ⟨fun c => (h c).2, sem_eq_zero_of_no_sems (by decide) r.2⟩)
    (run m ρ)

theorem pair : Cert.algebraic_Kernel21Ideal_Reference21Ideal := by
  intro m g m' g' _ hag
  refine ⟨fun c => (Cert.Kernel21Ideal.Gen.dats m 0 c).arrAt 2 Cert.Kernel21Ideal.cfg0.N,
    Cert.Kernel21Ideal.Value.run_blocks m g,
    (θ_run Cert.Reference21Ideal.defs _ _).mono (fun r h c => ?_) (run m' g')⟩
  obtain ⟨a0, a1⟩ := hag c
  obtain ⟨h0, hk⟩ := h c
  refine ⟨h0.trans ?_, hk⟩
  rw [a0, a1]
  refine Eq.trans (funext fun i => ?_) (final m c).symm
  obtain ⟨p, j, rfl⟩ : ∃ p j, i = ix2 p j := ⟨i 0, i 1, (ix2_self i).symm⟩
  exact value _ _ p j

end Cert.MmDhg

end
-- ==== Proof.MmDhClaim.lean ====
/- The gradient by the input product's rows: the claims about it.  At any arguments. -/
module

public import proofs.«01_k».proof.Defs
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.MmDh

/-- The weights' column `k`, of eight devices' parts in two halves each. -/
def wt (u v : (⟨3, ![8, 4096, 768]⟩ : Shape).Idx → EReal) (j : Fin 4096) (k : Fin 12288) : EReal :=
  if k.val % 1536 < 768 then u (ix3 ⟨k.val / 1536, by omega⟩ j ⟨k.val % 768, by omega⟩) else v (ix3 ⟨k.val / 1536, by omega⟩ j ⟨k.val % 768, by omega⟩)

/-- The result's entry. -/
def entry (d : (⟨2, ![4096, 12288]⟩ : Shape).Idx → EReal) (u v : (⟨3, ![8, 4096, 768]⟩ : Shape).Idx → EReal) (p j : Fin 4096) : EReal :=
  ∑ k : Fin 12288, d (ix2 p k) * wt u v j k

/-- A sum in four quarters. -/
theorem four (f : Fin 3072 → EReal) : ∑ k, f k = (∑ x : Fin 768, f ⟨x.val, by omega⟩) + (∑ x : Fin 768, f ⟨768 + x.val, by omega⟩)
    + (∑ x : Fin 768, f ⟨1536 + x.val, by omega⟩) + ∑ x : Fin 768, f ⟨2304 + x.val, by omega⟩ :=
  (Fin.sum_univ_add (a := 2304) (b := 768) f).trans (congrArg₂ (· + ·) ((Fin.sum_univ_add (a := 1536) (b := 768) _).trans
    (congrArg₂ (· + ·) (Fin.sum_univ_add (a := 768) (b := 768) _) rfl)) rfl)

section Kernel

open Cert.Kernel22Ideal Cert.Kernel22Ideal.Gen

theorem idx : ∀ t : Fin cfg0.N, win0_0.index t = ![t.val / 16, t.val % 4] ∧ win0_1.index t = ![t.val % 4, t.val / 4 % 4, 0]
    ∧ win0_2.index t = ![t.val % 4, t.val / 4 % 4, 0] ∧ win0_3.index t = ![t.val / 16, t.val / 4 % 4] :=
  (by decide +kernel : ∀ t : Fin grid0.N, _)

/-- Places of a block's entries. -/
def row (t : Fin cfg0.N) (p : Fin 1024) : Fin 4096 := ⟨t.val / 16 * 1024 + p.val, by have := lt_of_lt_of_eq t.isLt N_0; omega⟩
def out (t : Fin cfg0.N) (j : Fin 1024) : Fin 4096 := ⟨t.val / 4 % 4 * 1024 + j.val, by omega⟩
def col (t : Fin cfg0.N) (k : Fin 3072) : Fin 12288 := ⟨t.val % 4 * 3072 + k.val, by omega⟩

/-- A block of the weights, in the same way. -/
def wb (b c : Vec Ideal S2x1024x768 .bf16) (j : Fin 1024) (k : Fin 3072) : EReal :=
  if k.val % 1536 < 768 then b (ix3 ⟨k.val / 1536, by omega⟩ j ⟨k.val % 768, by omega⟩) else c (ix3 ⟨k.val / 1536, by omega⟩ j ⟨k.val % 768, by omega⟩)

theorem pay1 (a : Vec Ideal S1024x3072 .bf16) (b c : Vec Ideal S2x1024x768 .bf16) (p j : Fin 1024) :
    k0_pay1 (F := Ideal) (View.ld a (Rect.unit ![0, 0] ![1024, 768] inb_S1024x3072_S1024x768_0_0)) (View.ld b (Rect.unit ![0, 0, 0] ![1, 1024, 768] inb_S2x1024x768_S1x1024x768_0_0_0))
      (View.ld a (Rect.unit ![0, 768] ![1024, 768] inb_S1024x3072_S1024x768_0_768)) (View.ld c (Rect.unit ![0, 0, 0] ![1, 1024, 768] inb_S2x1024x768_S1x1024x768_0_0_0))
      (View.ld a (Rect.unit ![0, 1536] ![1024, 768] inb_S1024x3072_S1024x768_0_1536)) (View.ld b (Rect.unit ![1, 0, 0] ![1, 1024, 768] inb_S2x1024x768_S1x1024x768_1_0_0))
      (View.ld a (Rect.unit ![0, 2304] ![1024, 768] inb_S1024x3072_S1024x768_0_2304)) (View.ld c (Rect.unit ![1, 0, 0] ![1, 1024, 768] inb_S2x1024x768_S1x1024x768_1_0_0)) (ix2 p j)
      = ∑ k : Fin 3072, a (ix2 p k) * wb b c j k := by
  pointwise [k0_pay1]
  refine Eq.trans ?_ (four fun k => (a (ix2 p k) * wb b c j k : EReal)).symm
  have left (k : Fin 3072) (h : k.val % 1536 < 768) : wb b c j k = b (ix3 ⟨k.val / 1536, by omega⟩ j ⟨k.val % 768, by omega⟩) := if_pos h
  have right (k : Fin 3072) (h : ¬k.val % 1536 < 768) : wb b c j k = c (ix3 ⟨k.val / 1536, by omega⟩ j ⟨k.val % 768, by omega⟩) := if_neg h
  refine congrArg₂ (fun y z : EReal => y + z) (congrArg₂ (fun y z : EReal => y + z) (congrArg₂ (fun y z : EReal => y + z) ?_ ?_) ?_) ?_ <;>
    refine congrArg (fun f : Fin 768 → EReal => ∑ k, f k) (funext fun k => ?_) <;>
    refine congrArg₂ (fun y z : EReal => y * z) (congrArg a ?_) ?_
  · blk_ext
  · rw [left _ (by show k.val % 1536 < 768; omega)]
    exact congrArg b (by blk_ext <;> omega)
  · blk_ext
  · rw [right _ (by show ¬(768 + k.val) % 1536 < 768; omega)]
    exact congrArg c (by blk_ext <;> omega)
  · blk_ext
  · rw [left _ (by show (1536 + k.val) % 1536 < 768; omega)]
    exact congrArg b (by blk_ext <;> omega)
  · blk_ext
  · rw [right _ (by show ¬(2304 + k.val) % 1536 < 768; omega)]
    exact congrArg c (by blk_ext <;> omega)

variable (m : (ℓ : Loc nD τ sig) → Buf (Elt Ideal) ℓ) (c : Dev nD)

/-- The arguments. -/
abbrev a0 : FVec Ideal S4096x12288 .bf16 := m ((c : Thread nD τ).loc main_arg0)
abbrev a1 : FVec Ideal S8x4096x768 .bf16 := m ((c : Thread nD τ).loc main_arg1)
abbrev a2 : FVec Ideal S8x4096x768 .bf16 := m ((c : Thread nD τ).loc main_arg2)

theorem blk0 (t : Fin cfg0.N) (p : Fin 1024) (k : Fin 3072) :
    (show FVec Ideal S1024x3072 .bf16 from iblk m c 0 t) (ix2 p k) = a0 m c (ix2 (row t p) (col t k)) := by
  blk_ext [iblk, V, row, col, idx t]

theorem blk1 (t : Fin cfg0.N) (k : Fin 3072) (j : Fin 1024) :
    (show FVec Ideal S2x1024x768 .bf16 from iblk m c 1 t) (ix3 ⟨k.val / 1536, by omega⟩ j ⟨k.val % 768, by omega⟩)
      = a1 m c (ix3 ⟨(col t k).val / 1536, by omega⟩ (out t j) ⟨(col t k).val % 768, by omega⟩) := by
  blk_ext [iblk, V, out, col, idx t]

theorem blk2 (t : Fin cfg0.N) (k : Fin 3072) (j : Fin 1024) :
    (show FVec Ideal S2x1024x768 .bf16 from iblk m c 2 t) (ix3 ⟨k.val / 1536, by omega⟩ j ⟨k.val % 768, by omega⟩)
      = a2 m c (ix3 ⟨(col t k).val / 1536, by omega⟩ (out t j) ⟨(col t k).val % 768, by omega⟩) := by
  blk_ext [iblk, V, out, col, idx t]

theorem blkw (t : Fin cfg0.N) (k : Fin 3072) (j : Fin 1024) :
    wb (iblk m c 1 t) (iblk m c 2 t) j k = wt (a1 m c) (a2 m c) (out t j) (col t k) := by
  have e : (col t k).val % 1536 = k.val % 1536 := by
    show (t.val % 4 * 3072 + k.val) % 1536 = k.val % 1536
    omega
  unfold wb wt
  by_cases h : k.val % 1536 < 768
  · rw [if_pos h, if_pos (show (col t k).val % 1536 < 768 by omega)]
    exact blk1 m c t k j
  · rw [if_neg h, if_neg (show ¬(col t k).val % 1536 < 768 by omega)]
    exact blk2 m c t k j

/-- What a point adds. -/
def term (t : Fin cfg0.N) (p j : Fin 1024) : EReal :=
  ∑ k : Fin 3072, a0 m c (ix2 (row t p) (col t k)) * wt (a1 m c) (a2 m c) (out t j) (col t k)

theorem point (t : Fin cfg0.N) (p j : Fin 1024) :
    (∑ k : Fin 3072, ((show FVec Ideal S1024x3072 .bf16 from iblk m c 0 t) (ix2 p k) * wb (iblk m c 1 t) (iblk m c 2 t) j k : EReal)) = term m c t p j :=
  congrArg (fun f : Fin 3072 → EReal => ∑ k, f k)
    (funext fun k => congrArg₂ (fun a b : EReal => a * b) (blk0 m c t p k) (blkw m c t k j))

theorem pA (t : Fin cfg0.N) (h : t.val % 4 = 0) (p j : Fin 1024) : outsAt0 m c t.val t.isLt (ix2 p j) = term m c t p j := by
  rw [outsAt0_A m c t h (by omega)]
  frame_out
  exact (pay1 (iblk m c 0 t) (iblk m c 1 t) (iblk m c 2 t) p j).trans (point m c t p j)

theorem pB (t : Fin cfg0.N) (h : ¬t.val % 4 = 0) (p j : Fin 1024) :
    outsAt0 m c t.val t.isLt (ix2 p j) = outsAt0 m c (t.val - 1) (by omega) (ix2 p j) + term m c t p j := by
  rw [outsAt0_B m c t h (by omega)]
  frame_out
  pointwise [k0_pay2]
  exact congrArg (fun z : EReal => _ + z) ((pay1 (iblk m c 0 t) (iblk m c 1 t) (iblk m c 2 t) p j).trans (point m c t p j))

theorem final : (dats m 0 c).arrAt 3 (cfgs 0).N = fun i : S4096x4096.Idx => entry (a0 m c) (a1 m c) (a2 m c) (i 0) (i 1) := by
  refine (dats m 0 c).arrAt_eq_of_covers 3 _ (by decide +kernel) fun t hf y => ?_
  obtain ⟨p, j, rfl⟩ : ∃ p j, y = ix2 p j := ⟨y 0, y 1, (ix2_self y).symm⟩
  have e : ((cfg0.win 3).blk t).view.emb (ix2 p j) = ix2 (row t p) (out t j) := by blk_ext [row, out, idx t]
  rw [e]
  blk_simp
  rw [after0_3, Pipeline.eq_sum_fin_of_reset_step_apply_of_flush (fun n h => outsAt0 m c n h) 4 (fun _ => 0)
    (fun t (y : S1024x1024.Idx) => term m c t (y 0) (y 1))
    (fun t h y => by
      obtain ⟨p, j, rfl⟩ : ∃ p j, y = ix2 p j := ⟨y 0, y 1, (ix2_self y).symm⟩
      exact (pA m c t h p j).trans (zero_add _).symm)
    (fun t h y => by
      obtain ⟨p, j, rfl⟩ : ∃ p j, y = ix2 p j := ⟨y 0, y 1, (ix2_self y).symm⟩
      exact pB m c t h p j)
    t ((flush0_3 t).mp hf) _, zero_add]
  refine Fin.sum_mul_add_congr fun s k hl => ?_
  have hs := Pipeline.run_point_lt_of_flush t ((flush0_3 t).mp hf) s
  have er : row ⟨4 * (t.val / 4) + s.val, hs⟩ p = row t p := Fin.ext (by simp only [row]; omega)
  have eo : out ⟨4 * (t.val / 4) + s.val, hs⟩ j = out t j := Fin.ext (by simp only [out]; omega)
  have ec : col ⟨4 * (t.val / 4) + s.val, hs⟩ k = ⟨s.val * 3072 + k.val, hl⟩ := Fin.ext (by simp only [col]; omega)
  exact congrArg₂ (fun a b : EReal => a * b) (congrArg (a0 m c) (congrArg₂ ix2 er ec)) (congrArg₂ (wt (a1 m c) (a2 m c)) eo ec)

end Kernel

section Reference

open Cert.Reference22Ideal Cert.Reference22Ideal.Gen Cert.Reference22Ideal.Read

theorem value (d : Vec Ideal S4096x12288 .bf16) (u v : Vec Ideal S8x4096x768 .bf16) (p j : Fin 4096) :
    val_main_v6 (F := Ideal) d u v (ix2 p j) = entry d u v p j := by
  pointwise [val_main_v6, val_main_v5, val_main_v4, val_main_v3, val_main_v2, val_main_v1, val_main_v0]
  refine congrArg (fun f : Fin 12288 → EReal => ∑ k, f k) (funext fun k => congrArg (fun z : EReal => d (ix2 p k) * z) ?_)
  unfold wt
  by_cases hk : k.val % 1536 < 768
  · rw [dif_pos hk, if_pos hk]
    exact congrArg u (by blk_ext <;> omega)
  · rw [dif_neg hk, if_neg hk]
    exact congrArg v (by blk_ext <;> omega)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, hk⟩ := h c
    exact ⟨h0.trans (val_main_v6_eq ..), hk⟩) (Value.run m ρ)

end Reference

theorem frame_reference : Cert.quiescent_Reference22Ideal := by
  intro m ρ _
  exact (θ_run Cert.Reference22Ideal.defs _ _).mono (fun r h => ⟨fun c => (h c).2, sem_eq_zero_of_no_sems (by decide) r.2⟩)
    (run m ρ)

theorem pair : Cert.algebraic_Kernel22Ideal_Reference22Ideal := by
  intro m g m' g' _ hag
  refine ⟨fun c => (Cert.Kernel22Ideal.Gen.dats m 0 c).arrAt 3 Cert.Kernel22Ideal.cfg0.N,
    Cert.Kernel22Ideal.Value.run_blocks m g,
    (θ_run Cert.Reference22Ideal.defs _ _).mono (fun r h c => ?_) (run m' g')⟩
  obtain ⟨a0, a1, a2⟩ := hag c
  obtain ⟨h0, hk⟩ := h c
  refine ⟨h0.trans ?_, hk⟩
  rw [a0, a1, a2]
  refine Eq.trans (funext fun i => ?_) (final m c).symm
  obtain ⟨p, j, rfl⟩ : ∃ p j, i = ix2 p j := ⟨i 0, i 1, (ix2_self i).symm⟩
  exact value _ _ _ p j

end Cert.MmDh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Regions
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.RmsClaim
public import proofs.«01_k».proof.Proof.AttnFrames
public import proofs.«01_k».proof.Proof.AttnClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.LossClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.BranchClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.PrepClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.PoolClaim
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Loops
public import proofs.«01_k».proof.Proof.Gen.Kernel7Ideal.Frame
public import proofs.«01_k».proof.Proof.SsmRun
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Loops
public import proofs.«01_k».proof.Proof.Gen.Kernel8Ideal.Frame.Runs
public import proofs.«01_k».proof.Proof.SsmFwdRun
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.RmsFwdClaim
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.PrepFwdClaim
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.BranchFwdClaim
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite12
public import proofs.«01_k».proof.Proof.PoolFwdClaim
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.MmOutClaim
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.MmDyClaim
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.MmDwClaim
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.AdamClaim
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.MmGluClaim
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MmDwGluClaim
public import proofs.«01_k».proof.Proof.Gen.Kernel19
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.MmDwInClaim
public import proofs.«01_k».proof.Proof.Gen.Kernel20
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.MmProjClaim
public import proofs.«01_k».proof.Proof.Gen.Kernel21
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.MmDhgClaim
public import proofs.«01_k».proof.Proof.Gen.Kernel22
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.MmDhClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts,
    Cert.Kernel7.Gen.facts, Cert.Kernel7Ideal.Gen.facts,
    Cert.Kernel8.Gen.facts, Cert.Kernel8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite.Gen.facts, Cert.Pre_finite2.Gen.facts,
    Cert.Pre_finite3.Gen.facts, Cert.Pre_finite4.Gen.facts, Cert.Pre_finite5.Gen.facts, Cert.Pre_finite6.Gen.facts, Cert.Pre_finite10.Gen.facts, Cert.Pre_finite11.Gen.facts, Cert.Pre_finite12.Gen.facts, by
  exact ⟨fun m ρ _ => Cert.Kernel.Gen.frame m ρ, fun m ρ _ => Cert.KernelIdeal.Gen.frame m ρ,
    fun m ρ _ => Cert.KernelIdeal.Gen.frame m ρ, Cert.Rms.frame_reference, fun m ρ _ => Cert.Rms.frame_reference m ρ trivial,
    Cert.Attn.frame_kernel2, Cert.Attn.frame_kernel2ideal, fun m ρ _ => Cert.Attn.frame_kernel2ideal m ρ trivial,
    Cert.Attn.frame_reference, fun m ρ _ => Cert.Attn.frame_reference m ρ trivial,
    fun m ρ _ => Cert.Kernel3.Gen.frame m ρ, fun m ρ _ => Cert.Kernel3Ideal.Gen.frame m ρ,
    fun m ρ _ => Cert.Kernel3Ideal.Gen.frame m ρ, Cert.Loss.frame_reference, fun m ρ _ => Cert.Loss.frame_reference m ρ trivial,
    fun m ρ _ => Cert.Kernel4.Gen.frame m ρ, fun m ρ _ => Cert.Kernel4Ideal.Gen.frame m ρ,
    fun m ρ _ => Cert.Kernel4Ideal.Gen.frame m ρ, Cert.Branch.frame_reference, fun m ρ _ => Cert.Branch.frame_reference m ρ trivial,
    fun m ρ _ => Cert.Kernel5.Gen.frame m ρ, fun m ρ _ => Cert.Kernel5Ideal.Gen.frame m ρ,
    fun m ρ _ => Cert.Kernel5Ideal.Gen.frame m ρ, Cert.Prep.frame_reference, fun m ρ _ => Cert.Prep.frame_reference m ρ trivial,
    Cert.Pool.frame_lit, fun m ρ _ => Cert.Pool.frame_kernel m ρ,
    fun m ρ _ => Cert.Pool.frame_kernel m ρ, Cert.Pool.frame_reference, fun m ρ _ => Cert.Pool.frame_reference m ρ trivial,
    Cert.Ssm.frame_lit, fun m ρ _ => Cert.Ssm.frame_kernel m ρ,
    Cert.SsmFwd.frame_lit, fun m ρ _ => Cert.SsmFwd.frame_kernel m ρ,
    fun m ρ _ => Cert.Kernel9.Gen.frame m ρ, fun m ρ _ => Cert.Kernel9Ideal.Gen.frame m ρ, Cert.RmsFwd.frame_reference,
    fun m ρ _ => Cert.Kernel10.Gen.frame m ρ, fun m ρ _ => Cert.Kernel10Ideal.Gen.frame m ρ,
    fun m ρ _ => Cert.Kernel10Ideal.Gen.frame m ρ, Cert.PrepFwd.frame_reference, fun m ρ _ => Cert.PrepFwd.frame_reference m ρ trivial,
    fun m ρ _ => Cert.Kernel11.Gen.frame m ρ, fun m ρ _ => Cert.Kernel11Ideal.Gen.frame m ρ,
    fun m ρ _ => Cert.Kernel11Ideal.Gen.frame m ρ, Cert.BranchFwd.frame_reference, fun m ρ _ => Cert.BranchFwd.frame_reference m ρ trivial,
    fun m ρ _ => Cert.Kernel12.Gen.frame m ρ, fun m ρ _ => Cert.Kernel12Ideal.Gen.frame m ρ,
    fun m ρ _ => Cert.Kernel12Ideal.Gen.frame m ρ, Cert.PoolFwd.frame_reference, fun m ρ _ => Cert.PoolFwd.frame_reference m ρ trivial,
    fun m ρ _ => Cert.Kernel13.Gen.frame m ρ, fun m ρ _ => Cert.Kernel13Ideal.Gen.frame m ρ, Cert.MmOut.frame_reference,
    fun m ρ _ => Cert.Kernel14.Gen.frame m ρ, fun m ρ _ => Cert.Kernel14Ideal.Gen.frame m ρ, Cert.MmDy.frame_reference,
    fun m ρ _ => Cert.Kernel15.Gen.frame m ρ, fun m ρ _ => Cert.Kernel15Ideal.Gen.frame m ρ, Cert.MmDw.frame_reference,
    fun m ρ _ => Cert.Kernel16.Gen.frame m ρ, fun m ρ _ => Cert.Kernel16Ideal.Gen.frame m ρ, Cert.Adam.frame_reference,
    fun m ρ _ => Cert.Kernel17.Gen.frame m ρ, fun m ρ _ => Cert.Kernel17Ideal.Gen.frame m ρ, Cert.MmGlu.frame_reference,
    fun m ρ _ => Cert.Kernel18.Gen.frame m ρ, fun m ρ _ => Cert.Kernel18Ideal.Gen.frame m ρ, Cert.MmDwGlu.frame_reference,
    fun m ρ _ => Cert.Kernel19.Gen.frame m ρ, fun m ρ _ => Cert.Kernel19Ideal.Gen.frame m ρ, Cert.MmDwIn.frame_reference,
    fun m ρ _ => Cert.Kernel20.Gen.frame m ρ, fun m ρ _ => Cert.Kernel20Ideal.Gen.frame m ρ, Cert.MmProj.frame_reference,
    fun m ρ _ => Cert.Kernel21.Gen.frame m ρ, fun m ρ _ => Cert.Kernel21Ideal.Gen.frame m ρ, Cert.MmDhg.frame_reference,
    fun m ρ _ => Cert.Kernel22.Gen.frame m ρ, fun m ρ _ => Cert.Kernel22Ideal.Gen.frame m ρ, Cert.MmDh.frame_reference,
    trivial, Cert.Rms.pair, Cert.Attn.preserves, Cert.Attn.pair, trivial, Cert.Loss.pair, trivial, Cert.Branch.pair, trivial, Cert.Prep.pair, trivial, Cert.Pool.pair, trivial, trivial,
    trivial, Cert.RmsFwd.pair,
    trivial, Cert.PrepFwd.pair,
    trivial, Cert.BranchFwd.pair,
    trivial, Cert.PoolFwd.pair,
    trivial, Cert.MmOut.pair,
    trivial, Cert.MmDy.pair,
    trivial, Cert.MmDw.pair,
    trivial, Cert.Adam.pair,
    trivial, Cert.MmGlu.pair,
    trivial, Cert.MmDwGlu.pair,
    trivial, Cert.MmDwIn.pair,
    trivial, Cert.MmProj.pair,
    trivial, Cert.MmDhg.pair,
    trivial, Cert.MmDh.pair⟩⟩

end Cert.Proof

end
